-- ==== Defs.lean ====
def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsKernelIdeal_rms_finite [hPre_rms_finite : Cert.Pre_rms_finite.Facts] (m : (ℓ : Loc Cert.RmsKernelIdeal.nD Cert.RmsKernelIdeal.τ Cert.RmsKernelIdeal.sig) → Buf (Elt Ideal) ℓ) : Prop :=
  ∀ c : Dev Cert.RmsKernelIdeal.nD,
    (Cert.Pre_rms_finite.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3))).1 = (fun _ => 1#1)
    ∧ (Cert.Pre_rms_finite.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3))).2.1 = (fun _ => 1#1)
    ∧ (Cert.Pre_rms_finite.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3))).2.2 = (fun _ => 1#1)

def Pre_RmsReferenceIdeal (m : (ℓ : Loc Cert.RmsReferenceIdeal.nD Cert.RmsReferenceIdeal.τ Cert.RmsReferenceIdeal.sig) → Buf (Elt Ideal) ℓ) : Prop :=
  True

def Pre_RmsReferenceIdeal_rms_finite [hPre_rms_finite : Cert.Pre_rms_finite.Facts] (m : (ℓ : Loc Cert.RmsReferenceIdeal.nD Cert.RmsReferenceIdeal.τ Cert.RmsReferenceIdeal.sig) → Buf (Elt Ideal) ℓ) : Prop :=
  ∀ c : Dev Cert.RmsReferenceIdeal.nD,
    (Cert.Pre_rms_finite.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).1 = (fun _ => 1#1)
    ∧ (Cert.Pre_rms_finite.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).2.1 = (fun _ => 1#1)
    ∧ (Cert.Pre_rms_finite.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_fwd_finite [hPre_fwd_finite : Cert.Pre_fwd_finite.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).2.1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).2.2.1 = (fun _ => 1#1)
    ∧ (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).2.2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_fwd_finite [hPre_fwd_finite : Cert.Pre_fwd_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).1 = (fun _ => 1#1)
    ∧ (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).2.1 = (fun _ => 1#1)
    ∧ (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).2.2.1 = (fun _ => 1#1)
    ∧ (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).2.2.2 = (fun _ => 1#1)

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadKernelIdeal_head_finite [hPre_head_finite : Cert.Pre_head_finite.Facts] (m : (ℓ : Loc Cert.HeadKernelIdeal.nD Cert.HeadKernelIdeal.τ Cert.HeadKernelIdeal.sig) → Buf (Elt Ideal) ℓ) : Prop :=
  ∀ c : Dev Cert.HeadKernelIdeal.nD,
    (Cert.Pre_head_finite.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2))).1 = (fun _ => 1#1)
    ∧ (Cert.Pre_head_finite.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2))).2.1 = (fun _ => 1#1)
    ∧ (Cert.Pre_head_finite.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2))).2.2 = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_head_finite [hPre_head_finite : Cert.Pre_head_finite.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_head_finite.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2))).1 = (fun _ => 1#1)
    ∧ (Cert.Pre_head_finite.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2))).2.1 = (fun _ => 1#1)
    ∧ (Cert.Pre_head_finite.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2))).2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenKernelIdeal_ffn_finite [hPre_ffn_finite : Cert.Pre_ffn_finite.Facts] (m : (ℓ : Loc Cert.HiddenKernelIdeal.nD Cert.HiddenKernelIdeal.τ Cert.HiddenKernelIdeal.sig) → Buf (Elt Ideal) ℓ) : Prop :=
  ∀ c : Dev Cert.HiddenKernelIdeal.nD,
    (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).1 = (fun _ => 1#1)
    ∧ (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).2.1 = (fun _ => 1#1)
    ∧ (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).2.2.1 = (fun _ => 1#1)
    ∧ (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).2.2.2.1 = (fun _ => 1#1)
    ∧ (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).2.2.2.2.1 = (fun _ => 1#1)
    ∧ (Cert.Pre_ffn_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2)) (m ((c.tc : Thread Cert.HiddenKernelIdeal.nD Cert.HiddenKernelIdeal.τ).loc Cert.HiddenKernelIdeal.main_arg3)) (m ((c.tc : Thread Cert.HiddenKernelIdeal.nD Cert.HiddenKernelIdeal.τ).loc Cert.HiddenKernelIdeal.main_arg4)) (m ((c.tc : Thread Cert.HiddenKernelIdeal.nD Cert.HiddenKernelIdeal.τ).loc Cert.HiddenKernelIdeal.main_arg5))).2.2.2.2.2 = (fun _ => 1#1)

def Pre_HiddenReferenceIdeal (m : (ℓ : Loc Cert.HiddenReferenceIdeal.nD Cert.HiddenReferenceIdeal.τ Cert.HiddenReferenceIdeal.sig) → Buf (Elt Ideal) ℓ) : Prop :=
  True

def Pre_HiddenReferenceIdeal_ffn_finite [hPre_ffn_finite : Cert.Pre_ffn_finite.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).1 = (fun _ => 1#1)
    ∧ (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).2.1 = (fun _ => 1#1)
    ∧ (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).2.2.1 = (fun _ => 1#1)
    ∧ (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).2.2.2.1 = (fun _ => 1#1)
    ∧ (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).2.2.2.2.1 = (fun _ => 1#1)
    ∧ (Cert.Pre_ffn_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4)) (m ((c.tc : Thread Cert.HiddenReferenceIdeal.nD Cert.HiddenReferenceIdeal.τ).loc Cert.HiddenReferenceIdeal.main_arg5))).2.2.2.2.2 = (fun _ => 1#1)

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputKernelIdeal_ffn_finite [hPre_ffn_finite : Cert.Pre_ffn_finite.Facts] (m : (ℓ : Loc Cert.InputKernelIdeal.nD Cert.InputKernelIdeal.τ Cert.InputKernelIdeal.sig) → Buf (Elt Ideal) ℓ) : Prop :=
  ∀ c : Dev Cert.InputKernelIdeal.nD,
    (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).1 = (fun _ => 1#1)
    ∧ (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.1 = (fun _ => 1#1)
    ∧ (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.1 = (fun _ => 1#1)
    ∧ (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.2.1 = (fun _ => 1#1)
    ∧ (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.2.2.1 = (fun _ => 1#1)
    ∧ (Cert.Pre_ffn_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.2.2.2 = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_ffn_finite [hPre_ffn_finite : Cert.Pre_ffn_finite.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).1 = (fun _ => 1#1)
    ∧ (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.1 = (fun _ => 1#1)
    ∧ (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.1 = (fun _ => 1#1)
    ∧ (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.2.1 = (fun _ => 1#1)
    ∧ (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.2.2.1 = (fun _ => 1#1)
    ∧ (Cert.Pre_ffn_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.2.2.2 = (fun _ => 1#1)

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightKernelIdeal_ffn_finite [hPre_ffn_finite : Cert.Pre_ffn_finite.Facts] (m : (ℓ : Loc Cert.WeightKernelIdeal.nD Cert.WeightKernelIdeal.τ Cert.WeightKernelIdeal.sig) → Buf (Elt Ideal) ℓ) : Prop :=
  ∀ c : Dev Cert.WeightKernelIdeal.nD,
    (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).1 = (fun _ => 1#1)
    ∧ (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).2.1 = (fun _ => 1#1)
    ∧ (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).2.2.1 = (fun _ => 1#1)
    ∧ (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).2.2.2.1 = (fun _ => 1#1)
    ∧ (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).2.2.2.2.1 = (fun _ => 1#1)
    ∧ (Cert.Pre_ffn_finite.fn (F := Ideal) (m ((c.tc : Thread Cert.WeightKernelIdeal.nD Cert.WeightKernelIdeal.τ).loc Cert.WeightKernelIdeal.main_arg0)) (m ((c.tc : Thread Cert.WeightKernelIdeal.nD Cert.WeightKernelIdeal.τ).loc Cert.WeightKernelIdeal.main_arg1)) (m ((c.tc : Thread Cert.WeightKernelIdeal.nD Cert.WeightKernelIdeal.τ).loc Cert.WeightKernelIdeal.main_arg2)) (m ((c.tc : Thread Cert.WeightKernelIdeal.nD Cert.WeightKernelIdeal.τ).loc Cert.WeightKernelIdeal.main_arg3)) (m ((c.tc : Thread Cert.WeightKernelIdeal.nD Cert.WeightKernelIdeal.τ).loc Cert.WeightKernelIdeal.main_arg4)) (m ((c.tc : Thread Cert.WeightKernelIdeal.nD Cert.WeightKernelIdeal.τ).loc Cert.WeightKernelIdeal.main_arg5))).2.2.2.2.2 = (fun _ => 1#1)

def Pre_WeightReferenceIdeal (m : (ℓ : Loc Cert.WeightReferenceIdeal.nD Cert.WeightReferenceIdeal.τ Cert.WeightReferenceIdeal.sig) → Buf (Elt Ideal) ℓ) : Prop :=
  True

def Pre_WeightReferenceIdeal_ffn_finite [hPre_ffn_finite : Cert.Pre_ffn_finite.Facts] (m : (ℓ : Loc Cert.WeightReferenceIdeal.nD Cert.WeightReferenceIdeal.τ Cert.WeightReferenceIdeal.sig) → Buf (Elt Ideal) ℓ) : Prop :=
  ∀ c : Dev Cert.WeightReferenceIdeal.nD,
    (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).1 = (fun _ => 1#1)
    ∧ (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).2.1 = (fun _ => 1#1)
    ∧ (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).2.2.1 = (fun _ => 1#1)
    ∧ (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).2.2.2.1 = (fun _ => 1#1)
    ∧ (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).2.2.2.2.1 = (fun _ => 1#1)
    ∧ (Cert.Pre_ffn_finite.fn (F := Ideal) (m ((c.tc : Thread Cert.WeightReferenceIdeal.nD Cert.WeightReferenceIdeal.τ).loc Cert.WeightReferenceIdeal.main_arg0)) (m ((c.tc : Thread Cert.WeightReferenceIdeal.nD Cert.WeightReferenceIdeal.τ).loc Cert.WeightReferenceIdeal.main_arg1)) (m ((c.tc : Thread Cert.WeightReferenceIdeal.nD Cert.WeightReferenceIdeal.τ).loc Cert.WeightReferenceIdeal.main_arg2)) (m ((c.tc : Thread Cert.WeightReferenceIdeal.nD Cert.WeightReferenceIdeal.τ).loc Cert.WeightReferenceIdeal.main_arg3)) (m ((c.tc : Thread Cert.WeightReferenceIdeal.nD Cert.WeightReferenceIdeal.τ).loc Cert.WeightReferenceIdeal.main_arg4)) (m ((c.tc : Thread Cert.WeightReferenceIdeal.nD Cert.WeightReferenceIdeal.τ).loc Cert.WeightReferenceIdeal.main_arg5))).2.2.2.2.2 = (fun _ => 1#1)

def Pre_FfnxKernel (m : (ℓ : Loc Cert.FfnxKernel.nD Cert.FfnxKernel.τ Cert.FfnxKernel.sig) → Buf (Elt Bits) ℓ) : Prop :=
  True

def Pre_FfnxKernelIdeal (m : (ℓ : Loc Cert.FfnxKernelIdeal.nD Cert.FfnxKernelIdeal.τ Cert.FfnxKernelIdeal.sig) → Buf (Elt Ideal) ℓ) : Prop :=
  True

def Pre_FfnxKernelIdeal_ffn_finite [hPre_ffn_finite : Cert.Pre_ffn_finite.Facts] (m : (ℓ : Loc Cert.FfnxKernelIdeal.nD Cert.FfnxKernelIdeal.τ Cert.FfnxKernelIdeal.sig) → Buf (Elt Ideal) ℓ) : Prop :=
  ∀ c : Dev Cert.FfnxKernelIdeal.nD,
    (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).1 = (fun _ => 1#1)
    ∧ (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).2.1 = (fun _ => 1#1)
    ∧ (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).2.2.1 = (fun _ => 1#1)
    ∧ (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).2.2.2.1 = (fun _ => 1#1)
    ∧ (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).2.2.2.2.1 = (fun _ => 1#1)
    ∧ (Cert.Pre_ffn_finite.fn (F := Ideal) (m ((c.tc : Thread Cert.FfnxKernelIdeal.nD Cert.FfnxKernelIdeal.τ).loc Cert.FfnxKernelIdeal.main_arg0)) (m ((c.tc : Thread Cert.FfnxKernelIdeal.nD Cert.FfnxKernelIdeal.τ).loc Cert.FfnxKernelIdeal.main_arg1)) (m ((c.tc : Thread Cert.FfnxKernelIdeal.nD Cert.FfnxKernelIdeal.τ).loc Cert.FfnxKernelIdeal.main_arg2)) (m ((c.tc : Thread Cert.FfnxKernelIdeal.nD Cert.FfnxKernelIdeal.τ).loc Cert.FfnxKernelIdeal.main_arg3)) (m ((c.tc : Thread Cert.FfnxKernelIdeal.nD Cert.FfnxKernelIdeal.τ).loc Cert.FfnxKernelIdeal.main_arg4)) (m ((c.tc : Thread Cert.FfnxKernelIdeal.nD Cert.FfnxKernelIdeal.τ).loc Cert.FfnxKernelIdeal.main_arg5))).2.2.2.2.2 = (fun _ => 1#1)

def Pre_FfnxReferenceIdeal (m : (ℓ : Loc Cert.FfnxReferenceIdeal.nD Cert.FfnxReferenceIdeal.τ Cert.FfnxReferenceIdeal.sig) → Buf (Elt Ideal) ℓ) : Prop :=
  True

def Pre_FfnxReferenceIdeal_ffn_finite [hPre_ffn_finite : Cert.Pre_ffn_finite.Facts] (m : (ℓ : Loc Cert.FfnxReferenceIdeal.nD Cert.FfnxReferenceIdeal.τ Cert.FfnxReferenceIdeal.sig) → Buf (Elt Ideal) ℓ) : Prop :=
  ∀ c : Dev Cert.FfnxReferenceIdeal.nD,
    (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).1 = (fun _ => 1#1)
    ∧ (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).2.1 = (fun _ => 1#1)
    ∧ (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).2.2.1 = (fun _ => 1#1)
    ∧ (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).2.2.2.1 = (fun _ => 1#1)
    ∧ (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).2.2.2.2.1 = (fun _ => 1#1)
    ∧ (Cert.Pre_ffn_finite.fn (F := Ideal) (m ((c.tc : Thread Cert.FfnxReferenceIdeal.nD Cert.FfnxReferenceIdeal.τ).loc Cert.FfnxReferenceIdeal.main_arg0)) (m ((c.tc : Thread Cert.FfnxReferenceIdeal.nD Cert.FfnxReferenceIdeal.τ).loc Cert.FfnxReferenceIdeal.main_arg1)) (m ((c.tc : Thread Cert.FfnxReferenceIdeal.nD Cert.FfnxReferenceIdeal.τ).loc Cert.FfnxReferenceIdeal.main_arg2)) (m ((c.tc : Thread Cert.FfnxReferenceIdeal.nD Cert.FfnxReferenceIdeal.τ).loc Cert.FfnxReferenceIdeal.main_arg3)) (m ((c.tc : Thread Cert.FfnxReferenceIdeal.nD Cert.FfnxReferenceIdeal.τ).loc Cert.FfnxReferenceIdeal.main_arg4)) (m ((c.tc : Thread Cert.FfnxReferenceIdeal.nD Cert.FfnxReferenceIdeal.τ).loc Cert.FfnxReferenceIdeal.main_arg5))).2.2.2.2.2 = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.2.2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.2.2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.2.2.2 = (fun _ => 1#1)

def Pre_FeedKernel (m : (ℓ : Loc Cert.FeedKernel.nD Cert.FeedKernel.τ Cert.FeedKernel.sig) → Buf (Elt Bits) ℓ) : Prop :=
  True

def Pre_FeedKernelIdeal (m : (ℓ : Loc Cert.FeedKernelIdeal.nD Cert.FeedKernelIdeal.τ Cert.FeedKernelIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3))).2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3))).2 = (fun _ => 1#1)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsKernelIdeal_pre_rms_finite [hRmsKernelIdeal : Cert.RmsKernelIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal_rms_finite m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_RmsReferenceIdeal_pre_rms_finite [hRmsReferenceIdeal : Cert.RmsReferenceIdeal.Facts] [hPre_rms_finite : Cert.Pre_rms_finite.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal_rms_finite m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdKernelIdeal_pre_fwd_finite [hFwdKernelIdeal : Cert.FwdKernelIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_fwd_finite m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_FwdReferenceIdeal_pre_fwd_finite [hFwdReferenceIdeal : Cert.FwdReferenceIdeal.Facts] [hPre_fwd_finite : Cert.Pre_fwd_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_fwd_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadKernelIdeal_pre_head_finite [hHeadKernelIdeal : Cert.HeadKernelIdeal.Facts] [hPre_head_finite : Cert.Pre_head_finite.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal_head_finite m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_HeadReferenceIdeal_pre_head_finite [hHeadReferenceIdeal : Cert.HeadReferenceIdeal.Facts] [hPre_head_finite : Cert.Pre_head_finite.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_head_finite m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2)
      ∧ r.2.mem ((c.tc : Thread Cert.HiddenKernel.nD Cert.HiddenKernel.τ).loc Cert.HiddenKernel.main_arg3) = m ((c.tc : Thread Cert.HiddenKernel.nD Cert.HiddenKernel.τ).loc Cert.HiddenKernel.main_arg3)
      ∧ r.2.mem ((c.tc : Thread Cert.HiddenKernel.nD Cert.HiddenKernel.τ).loc Cert.HiddenKernel.main_arg4) = m ((c.tc : Thread Cert.HiddenKernel.nD Cert.HiddenKernel.τ).loc Cert.HiddenKernel.main_arg4)
      ∧ r.2.mem ((c.tc : Thread Cert.HiddenKernel.nD Cert.HiddenKernel.τ).loc Cert.HiddenKernel.main_arg5) = m ((c.tc : Thread Cert.HiddenKernel.nD Cert.HiddenKernel.τ).loc Cert.HiddenKernel.main_arg5))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
      ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4)
      ∧ r.2.mem ((c.tc : Thread Cert.HiddenKernelIdeal.nD Cert.HiddenKernelIdeal.τ).loc Cert.HiddenKernelIdeal.main_arg5) = m ((c.tc : Thread Cert.HiddenKernelIdeal.nD Cert.HiddenKernelIdeal.τ).loc Cert.HiddenKernelIdeal.main_arg5))
      ∧ r.2.sem = fun _ => 0)

def quiescent_HiddenKernelIdeal_pre_ffn_finite [hHiddenKernelIdeal : Cert.HiddenKernelIdeal.Facts] [hPre_ffn_finite : Cert.Pre_ffn_finite.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal_ffn_finite m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
      ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4)
      ∧ r.2.mem ((c.tc : Thread Cert.HiddenKernelIdeal.nD Cert.HiddenKernelIdeal.τ).loc Cert.HiddenKernelIdeal.main_arg5) = m ((c.tc : Thread Cert.HiddenKernelIdeal.nD Cert.HiddenKernelIdeal.τ).loc Cert.HiddenKernelIdeal.main_arg5))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4)
      ∧ r.2.mem ((c.tc : Thread Cert.HiddenReferenceIdeal.nD Cert.HiddenReferenceIdeal.τ).loc Cert.HiddenReferenceIdeal.main_arg5) = m ((c.tc : Thread Cert.HiddenReferenceIdeal.nD Cert.HiddenReferenceIdeal.τ).loc Cert.HiddenReferenceIdeal.main_arg5))
      ∧ r.2.sem = fun _ => 0)

def quiescent_HiddenReferenceIdeal_pre_ffn_finite [hHiddenReferenceIdeal : Cert.HiddenReferenceIdeal.Facts] [hPre_ffn_finite : Cert.Pre_ffn_finite.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal_ffn_finite m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4)
      ∧ r.2.mem ((c.tc : Thread Cert.HiddenReferenceIdeal.nD Cert.HiddenReferenceIdeal.τ).loc Cert.HiddenReferenceIdeal.main_arg5) = m ((c.tc : Thread Cert.HiddenReferenceIdeal.nD Cert.HiddenReferenceIdeal.τ).loc Cert.HiddenReferenceIdeal.main_arg5))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputKernelIdeal_pre_ffn_finite [hInputKernelIdeal : Cert.InputKernelIdeal.Facts] [hPre_ffn_finite : Cert.Pre_ffn_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal_ffn_finite m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_InputReferenceIdeal_pre_ffn_finite [hInputReferenceIdeal : Cert.InputReferenceIdeal.Facts] [hPre_ffn_finite : Cert.Pre_ffn_finite.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_ffn_finite m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1)
      ∧ r.2.mem ((c.tc : Thread Cert.WeightKernel.nD Cert.WeightKernel.τ).loc Cert.WeightKernel.main_arg2) = m ((c.tc : Thread Cert.WeightKernel.nD Cert.WeightKernel.τ).loc Cert.WeightKernel.main_arg2)
      ∧ r.2.mem ((c.tc : Thread Cert.WeightKernel.nD Cert.WeightKernel.τ).loc Cert.WeightKernel.main_arg3) = m ((c.tc : Thread Cert.WeightKernel.nD Cert.WeightKernel.τ).loc Cert.WeightKernel.main_arg3)
      ∧ r.2.mem ((c.tc : Thread Cert.WeightKernel.nD Cert.WeightKernel.τ).loc Cert.WeightKernel.main_arg4) = m ((c.tc : Thread Cert.WeightKernel.nD Cert.WeightKernel.τ).loc Cert.WeightKernel.main_arg4)
      ∧ r.2.mem ((c.tc : Thread Cert.WeightKernel.nD Cert.WeightKernel.τ).loc Cert.WeightKernel.main_arg5) = m ((c.tc : Thread Cert.WeightKernel.nD Cert.WeightKernel.τ).loc Cert.WeightKernel.main_arg5))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
      ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2)
      ∧ r.2.mem ((c.tc : Thread Cert.WeightKernelIdeal.nD Cert.WeightKernelIdeal.τ).loc Cert.WeightKernelIdeal.main_arg3) = m ((c.tc : Thread Cert.WeightKernelIdeal.nD Cert.WeightKernelIdeal.τ).loc Cert.WeightKernelIdeal.main_arg3)
      ∧ r.2.mem ((c.tc : Thread Cert.WeightKernelIdeal.nD Cert.WeightKernelIdeal.τ).loc Cert.WeightKernelIdeal.main_arg4) = m ((c.tc : Thread Cert.WeightKernelIdeal.nD Cert.WeightKernelIdeal.τ).loc Cert.WeightKernelIdeal.main_arg4)
      ∧ r.2.mem ((c.tc : Thread Cert.WeightKernelIdeal.nD Cert.WeightKernelIdeal.τ).loc Cert.WeightKernelIdeal.main_arg5) = m ((c.tc : Thread Cert.WeightKernelIdeal.nD Cert.WeightKernelIdeal.τ).loc Cert.WeightKernelIdeal.main_arg5))
      ∧ r.2.sem = fun _ => 0)

def quiescent_WeightKernelIdeal_pre_ffn_finite [hWeightKernelIdeal : Cert.WeightKernelIdeal.Facts] [hPre_ffn_finite : Cert.Pre_ffn_finite.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal_ffn_finite m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
      ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2)
      ∧ r.2.mem ((c.tc : Thread Cert.WeightKernelIdeal.nD Cert.WeightKernelIdeal.τ).loc Cert.WeightKernelIdeal.main_arg3) = m ((c.tc : Thread Cert.WeightKernelIdeal.nD Cert.WeightKernelIdeal.τ).loc Cert.WeightKernelIdeal.main_arg3)
      ∧ r.2.mem ((c.tc : Thread Cert.WeightKernelIdeal.nD Cert.WeightKernelIdeal.τ).loc Cert.WeightKernelIdeal.main_arg4) = m ((c.tc : Thread Cert.WeightKernelIdeal.nD Cert.WeightKernelIdeal.τ).loc Cert.WeightKernelIdeal.main_arg4)
      ∧ r.2.mem ((c.tc : Thread Cert.WeightKernelIdeal.nD Cert.WeightKernelIdeal.τ).loc Cert.WeightKernelIdeal.main_arg5) = m ((c.tc : Thread Cert.WeightKernelIdeal.nD Cert.WeightKernelIdeal.τ).loc Cert.WeightKernelIdeal.main_arg5))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3)
      ∧ r.2.mem ((c.tc : Thread Cert.WeightReferenceIdeal.nD Cert.WeightReferenceIdeal.τ).loc Cert.WeightReferenceIdeal.main_arg4) = m ((c.tc : Thread Cert.WeightReferenceIdeal.nD Cert.WeightReferenceIdeal.τ).loc Cert.WeightReferenceIdeal.main_arg4)
      ∧ r.2.mem ((c.tc : Thread Cert.WeightReferenceIdeal.nD Cert.WeightReferenceIdeal.τ).loc Cert.WeightReferenceIdeal.main_arg5) = m ((c.tc : Thread Cert.WeightReferenceIdeal.nD Cert.WeightReferenceIdeal.τ).loc Cert.WeightReferenceIdeal.main_arg5))
      ∧ r.2.sem = fun _ => 0)

def quiescent_WeightReferenceIdeal_pre_ffn_finite [hWeightReferenceIdeal : Cert.WeightReferenceIdeal.Facts] [hPre_ffn_finite : Cert.Pre_ffn_finite.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal_ffn_finite m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3)
      ∧ r.2.mem ((c.tc : Thread Cert.WeightReferenceIdeal.nD Cert.WeightReferenceIdeal.τ).loc Cert.WeightReferenceIdeal.main_arg4) = m ((c.tc : Thread Cert.WeightReferenceIdeal.nD Cert.WeightReferenceIdeal.τ).loc Cert.WeightReferenceIdeal.main_arg4)
      ∧ r.2.mem ((c.tc : Thread Cert.WeightReferenceIdeal.nD Cert.WeightReferenceIdeal.τ).loc Cert.WeightReferenceIdeal.main_arg5) = m ((c.tc : Thread Cert.WeightReferenceIdeal.nD Cert.WeightReferenceIdeal.τ).loc Cert.WeightReferenceIdeal.main_arg5))
      ∧ r.2.sem = fun _ => 0)

def quiescent_FfnxKernel [hFfnxKernel : Cert.FfnxKernel.Facts] : Prop :=
  ∀ (m : (ℓ : Loc Cert.FfnxKernel.nD Cert.FfnxKernel.τ Cert.FfnxKernel.sig) → Buf (Elt Bits) ℓ) (g : Dev Cert.FfnxKernel.nD → PrngReg), Pre_FfnxKernel m →
    θ_run (Cert.FfnxKernel.defs (F := Bits)) (onTc (τ := Cert.FfnxKernel.τ) (Cert.FfnxKernel.main (F := Bits))) ⟨m, fun _ => 0, g⟩ (fun r => (∀ c : Dev Cert.FfnxKernel.nD,
      r.2.mem ((c.tc : Thread Cert.FfnxKernel.nD Cert.FfnxKernel.τ).loc Cert.FfnxKernel.main_arg0) = m ((c.tc : Thread Cert.FfnxKernel.nD Cert.FfnxKernel.τ).loc Cert.FfnxKernel.main_arg0)
      ∧ r.2.mem ((c.tc : Thread Cert.FfnxKernel.nD Cert.FfnxKernel.τ).loc Cert.FfnxKernel.main_arg1) = m ((c.tc : Thread Cert.FfnxKernel.nD Cert.FfnxKernel.τ).loc Cert.FfnxKernel.main_arg1)
      ∧ r.2.mem ((c.tc : Thread Cert.FfnxKernel.nD Cert.FfnxKernel.τ).loc Cert.FfnxKernel.main_arg2) = m ((c.tc : Thread Cert.FfnxKernel.nD Cert.FfnxKernel.τ).loc Cert.FfnxKernel.main_arg2)
      ∧ r.2.mem ((c.tc : Thread Cert.FfnxKernel.nD Cert.FfnxKernel.τ).loc Cert.FfnxKernel.main_arg3) = m ((c.tc : Thread Cert.FfnxKernel.nD Cert.FfnxKernel.τ).loc Cert.FfnxKernel.main_arg3)
      ∧ r.2.mem ((c.tc : Thread Cert.FfnxKernel.nD Cert.FfnxKernel.τ).loc Cert.FfnxKernel.main_arg4) = m ((c.tc : Thread Cert.FfnxKernel.nD Cert.FfnxKernel.τ).loc Cert.FfnxKernel.main_arg4)
      ∧ r.2.mem ((c.tc : Thread Cert.FfnxKernel.nD Cert.FfnxKernel.τ).loc Cert.FfnxKernel.main_arg5) = m ((c.tc : Thread Cert.FfnxKernel.nD Cert.FfnxKernel.τ).loc Cert.FfnxKernel.main_arg5))
      ∧ r.2.sem = fun _ => 0)

def quiescent_FfnxKernelIdeal [hFfnxKernelIdeal : Cert.FfnxKernelIdeal.Facts] : Prop :=
  ∀ (m : (ℓ : Loc Cert.FfnxKernelIdeal.nD Cert.FfnxKernelIdeal.τ Cert.FfnxKernelIdeal.sig) → Buf (Elt Ideal) ℓ) (g : Dev Cert.FfnxKernelIdeal.nD → PrngReg), Pre_FfnxKernelIdeal m →
    θ_run (Cert.FfnxKernelIdeal.defs (F := Ideal)) (onTc (τ := Cert.FfnxKernelIdeal.τ) (Cert.FfnxKernelIdeal.main (F := Ideal))) ⟨m, fun _ => 0, g⟩ (fun r => (∀ c : Dev Cert.FfnxKernelIdeal.nD,
      r.2.mem ((c.tc : Thread Cert.FfnxKernelIdeal.nD Cert.FfnxKernelIdeal.τ).loc Cert.FfnxKernelIdeal.main_arg0) = m ((c.tc : Thread Cert.FfnxKernelIdeal.nD Cert.FfnxKernelIdeal.τ).loc Cert.FfnxKernelIdeal.main_arg0)
      ∧ r.2.mem ((c.tc : Thread Cert.FfnxKernelIdeal.nD Cert.FfnxKernelIdeal.τ).loc Cert.FfnxKernelIdeal.main_arg1) = m ((c.tc : Thread Cert.FfnxKernelIdeal.nD Cert.FfnxKernelIdeal.τ).loc Cert.FfnxKernelIdeal.main_arg1)
      ∧ r.2.mem ((c.tc : Thread Cert.FfnxKernelIdeal.nD Cert.FfnxKernelIdeal.τ).loc Cert.FfnxKernelIdeal.main_arg2) = m ((c.tc : Thread Cert.FfnxKernelIdeal.nD Cert.FfnxKernelIdeal.τ).loc Cert.FfnxKernelIdeal.main_arg2)
      ∧ r.2.mem ((c.tc : Thread Cert.FfnxKernelIdeal.nD Cert.FfnxKernelIdeal.τ).loc Cert.FfnxKernelIdeal.main_arg3) = m ((c.tc : Thread Cert.FfnxKernelIdeal.nD Cert.FfnxKernelIdeal.τ).loc Cert.FfnxKernelIdeal.main_arg3)
      ∧ r.2.mem ((c.tc : Thread Cert.FfnxKernelIdeal.nD Cert.FfnxKernelIdeal.τ).loc Cert.FfnxKernelIdeal.main_arg4) = m ((c.tc : Thread Cert.FfnxKernelIdeal.nD Cert.FfnxKernelIdeal.τ).loc Cert.FfnxKernelIdeal.main_arg4)
      ∧ r.2.mem ((c.tc : Thread Cert.FfnxKernelIdeal.nD Cert.FfnxKernelIdeal.τ).loc Cert.FfnxKernelIdeal.main_arg5) = m ((c.tc : Thread Cert.FfnxKernelIdeal.nD Cert.FfnxKernelIdeal.τ).loc Cert.FfnxKernelIdeal.main_arg5))
      ∧ r.2.sem = fun _ => 0)

def quiescent_FfnxKernelIdeal_pre_ffn_finite [hFfnxKernelIdeal : Cert.FfnxKernelIdeal.Facts] [hPre_ffn_finite : Cert.Pre_ffn_finite.Facts] : Prop :=
  ∀ (m : (ℓ : Loc Cert.FfnxKernelIdeal.nD Cert.FfnxKernelIdeal.τ Cert.FfnxKernelIdeal.sig) → Buf (Elt Ideal) ℓ) (g : Dev Cert.FfnxKernelIdeal.nD → PrngReg), Pre_FfnxKernelIdeal_ffn_finite m →
    θ_run (Cert.FfnxKernelIdeal.defs (F := Ideal)) (onTc (τ := Cert.FfnxKernelIdeal.τ) (Cert.FfnxKernelIdeal.main (F := Ideal))) ⟨m, fun _ => 0, g⟩ (fun r => (∀ c : Dev Cert.FfnxKernelIdeal.nD,
      r.2.mem ((c.tc : Thread Cert.FfnxKernelIdeal.nD Cert.FfnxKernelIdeal.τ).loc Cert.FfnxKernelIdeal.main_arg0) = m ((c.tc : Thread Cert.FfnxKernelIdeal.nD Cert.FfnxKernelIdeal.τ).loc Cert.FfnxKernelIdeal.main_arg0)
      ∧ r.2.mem ((c.tc : Thread Cert.FfnxKernelIdeal.nD Cert.FfnxKernelIdeal.τ).loc Cert.FfnxKernelIdeal.main_arg1) = m ((c.tc : Thread Cert.FfnxKernelIdeal.nD Cert.FfnxKernelIdeal.τ).loc Cert.FfnxKernelIdeal.main_arg1)
      ∧ r.2.mem ((c.tc : Thread Cert.FfnxKernelIdeal.nD Cert.FfnxKernelIdeal.τ).loc Cert.FfnxKernelIdeal.main_arg2) = m ((c.tc : Thread Cert.FfnxKernelIdeal.nD Cert.FfnxKernelIdeal.τ).loc Cert.FfnxKernelIdeal.main_arg2)
      ∧ r.2.mem ((c.tc : Thread Cert.FfnxKernelIdeal.nD Cert.FfnxKernelIdeal.τ).loc Cert.FfnxKernelIdeal.main_arg3) = m ((c.tc : Thread Cert.FfnxKernelIdeal.nD Cert.FfnxKernelIdeal.τ).loc Cert.FfnxKernelIdeal.main_arg3)
      ∧ r.2.mem ((c.tc : Thread Cert.FfnxKernelIdeal.nD Cert.FfnxKernelIdeal.τ).loc Cert.FfnxKernelIdeal.main_arg4) = m ((c.tc : Thread Cert.FfnxKernelIdeal.nD Cert.FfnxKernelIdeal.τ).loc Cert.FfnxKernelIdeal.main_arg4)
      ∧ r.2.mem ((c.tc : Thread Cert.FfnxKernelIdeal.nD Cert.FfnxKernelIdeal.τ).loc Cert.FfnxKernelIdeal.main_arg5) = m ((c.tc : Thread Cert.FfnxKernelIdeal.nD Cert.FfnxKernelIdeal.τ).loc Cert.FfnxKernelIdeal.main_arg5))
      ∧ r.2.sem = fun _ => 0)

def quiescent_FfnxReferenceIdeal [hFfnxReferenceIdeal : Cert.FfnxReferenceIdeal.Facts] : Prop :=
  ∀ (m : (ℓ : Loc Cert.FfnxReferenceIdeal.nD Cert.FfnxReferenceIdeal.τ Cert.FfnxReferenceIdeal.sig) → Buf (Elt Ideal) ℓ) (g : Dev Cert.FfnxReferenceIdeal.nD → PrngReg), Pre_FfnxReferenceIdeal m →
    θ_run (Cert.FfnxReferenceIdeal.defs (F := Ideal)) (onTc (τ := Cert.FfnxReferenceIdeal.τ) (Cert.FfnxReferenceIdeal.main (F := Ideal))) ⟨m, fun _ => 0, g⟩ (fun r => (∀ c : Dev Cert.FfnxReferenceIdeal.nD,
      r.2.mem ((c.tc : Thread Cert.FfnxReferenceIdeal.nD Cert.FfnxReferenceIdeal.τ).loc Cert.FfnxReferenceIdeal.main_arg0) = m ((c.tc : Thread Cert.FfnxReferenceIdeal.nD Cert.FfnxReferenceIdeal.τ).loc Cert.FfnxReferenceIdeal.main_arg0)
      ∧ r.2.mem ((c.tc : Thread Cert.FfnxReferenceIdeal.nD Cert.FfnxReferenceIdeal.τ).loc Cert.FfnxReferenceIdeal.main_arg1) = m ((c.tc : Thread Cert.FfnxReferenceIdeal.nD Cert.FfnxReferenceIdeal.τ).loc Cert.FfnxReferenceIdeal.main_arg1)
      ∧ r.2.mem ((c.tc : Thread Cert.FfnxReferenceIdeal.nD Cert.FfnxReferenceIdeal.τ).loc Cert.FfnxReferenceIdeal.main_arg2) = m ((c.tc : Thread Cert.FfnxReferenceIdeal.nD Cert.FfnxReferenceIdeal.τ).loc Cert.FfnxReferenceIdeal.main_arg2)
      ∧ r.2.mem ((c.tc : Thread Cert.FfnxReferenceIdeal.nD Cert.FfnxReferenceIdeal.τ).loc Cert.FfnxReferenceIdeal.main_arg3) = m ((c.tc : Thread Cert.FfnxReferenceIdeal.nD Cert.FfnxReferenceIdeal.τ).loc Cert.FfnxReferenceIdeal.main_arg3)
      ∧ r.2.mem ((c.tc : Thread Cert.FfnxReferenceIdeal.nD Cert.FfnxReferenceIdeal.τ).loc Cert.FfnxReferenceIdeal.main_arg4) = m ((c.tc : Thread Cert.FfnxReferenceIdeal.nD Cert.FfnxReferenceIdeal.τ).loc Cert.FfnxReferenceIdeal.main_arg4)
      ∧ r.2.mem ((c.tc : Thread Cert.FfnxReferenceIdeal.nD Cert.FfnxReferenceIdeal.τ).loc Cert.FfnxReferenceIdeal.main_arg5) = m ((c.tc : Thread Cert.FfnxReferenceIdeal.nD Cert.FfnxReferenceIdeal.τ).loc Cert.FfnxReferenceIdeal.main_arg5))
      ∧ r.2.sem = fun _ => 0)

def quiescent_FfnxReferenceIdeal_pre_ffn_finite [hFfnxReferenceIdeal : Cert.FfnxReferenceIdeal.Facts] [hPre_ffn_finite : Cert.Pre_ffn_finite.Facts] : Prop :=
  ∀ (m : (ℓ : Loc Cert.FfnxReferenceIdeal.nD Cert.FfnxReferenceIdeal.τ Cert.FfnxReferenceIdeal.sig) → Buf (Elt Ideal) ℓ) (g : Dev Cert.FfnxReferenceIdeal.nD → PrngReg), Pre_FfnxReferenceIdeal_ffn_finite m →
    θ_run (Cert.FfnxReferenceIdeal.defs (F := Ideal)) (onTc (τ := Cert.FfnxReferenceIdeal.τ) (Cert.FfnxReferenceIdeal.main (F := Ideal))) ⟨m, fun _ => 0, g⟩ (fun r => (∀ c : Dev Cert.FfnxReferenceIdeal.nD,
      r.2.mem ((c.tc : Thread Cert.FfnxReferenceIdeal.nD Cert.FfnxReferenceIdeal.τ).loc Cert.FfnxReferenceIdeal.main_arg0) = m ((c.tc : Thread Cert.FfnxReferenceIdeal.nD Cert.FfnxReferenceIdeal.τ).loc Cert.FfnxReferenceIdeal.main_arg0)
      ∧ r.2.mem ((c.tc : Thread Cert.FfnxReferenceIdeal.nD Cert.FfnxReferenceIdeal.τ).loc Cert.FfnxReferenceIdeal.main_arg1) = m ((c.tc : Thread Cert.FfnxReferenceIdeal.nD Cert.FfnxReferenceIdeal.τ).loc Cert.FfnxReferenceIdeal.main_arg1)
      ∧ r.2.mem ((c.tc : Thread Cert.FfnxReferenceIdeal.nD Cert.FfnxReferenceIdeal.τ).loc Cert.FfnxReferenceIdeal.main_arg2) = m ((c.tc : Thread Cert.FfnxReferenceIdeal.nD Cert.FfnxReferenceIdeal.τ).loc Cert.FfnxReferenceIdeal.main_arg2)
      ∧ r.2.mem ((c.tc : Thread Cert.FfnxReferenceIdeal.nD Cert.FfnxReferenceIdeal.τ).loc Cert.FfnxReferenceIdeal.main_arg3) = m ((c.tc : Thread Cert.FfnxReferenceIdeal.nD Cert.FfnxReferenceIdeal.τ).loc Cert.FfnxReferenceIdeal.main_arg3)
      ∧ r.2.mem ((c.tc : Thread Cert.FfnxReferenceIdeal.nD Cert.FfnxReferenceIdeal.τ).loc Cert.FfnxReferenceIdeal.main_arg4) = m ((c.tc : Thread Cert.FfnxReferenceIdeal.nD Cert.FfnxReferenceIdeal.τ).loc Cert.FfnxReferenceIdeal.main_arg4)
      ∧ r.2.mem ((c.tc : Thread Cert.FfnxReferenceIdeal.nD Cert.FfnxReferenceIdeal.τ).loc Cert.FfnxReferenceIdeal.main_arg5) = m ((c.tc : Thread Cert.FfnxReferenceIdeal.nD Cert.FfnxReferenceIdeal.τ).loc Cert.FfnxReferenceIdeal.main_arg5))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_FeedKernel [hFeedKernel : Cert.FeedKernel.Facts] : Prop :=
  ∀ (m : (ℓ : Loc Cert.FeedKernel.nD Cert.FeedKernel.τ Cert.FeedKernel.sig) → Buf (Elt Bits) ℓ) (g : Dev Cert.FeedKernel.nD → PrngReg), Pre_FeedKernel m →
    θ_run (Cert.FeedKernel.defs (F := Bits)) (onTc (τ := Cert.FeedKernel.τ) (Cert.FeedKernel.main (F := Bits))) ⟨m, fun _ => 0, g⟩ (fun r => (∀ c : Dev Cert.FeedKernel.nD,
      r.2.mem ((c.tc : Thread Cert.FeedKernel.nD Cert.FeedKernel.τ).loc Cert.FeedKernel.main_arg0) = m ((c.tc : Thread Cert.FeedKernel.nD Cert.FeedKernel.τ).loc Cert.FeedKernel.main_arg0)
      ∧ r.2.mem ((c.tc : Thread Cert.FeedKernel.nD Cert.FeedKernel.τ).loc Cert.FeedKernel.main_arg1) = m ((c.tc : Thread Cert.FeedKernel.nD Cert.FeedKernel.τ).loc Cert.FeedKernel.main_arg1)
      ∧ r.2.mem ((c.tc : Thread Cert.FeedKernel.nD Cert.FeedKernel.τ).loc Cert.FeedKernel.main_arg2) = m ((c.tc : Thread Cert.FeedKernel.nD Cert.FeedKernel.τ).loc Cert.FeedKernel.main_arg2)
      ∧ r.2.mem ((c.tc : Thread Cert.FeedKernel.nD Cert.FeedKernel.τ).loc Cert.FeedKernel.main_arg3) = m ((c.tc : Thread Cert.FeedKernel.nD Cert.FeedKernel.τ).loc Cert.FeedKernel.main_arg3)
      ∧ r.2.mem ((c.tc : Thread Cert.FeedKernel.nD Cert.FeedKernel.τ).loc Cert.FeedKernel.main_arg4) = m ((c.tc : Thread Cert.FeedKernel.nD Cert.FeedKernel.τ).loc Cert.FeedKernel.main_arg4))
      ∧ r.2.sem = fun _ => 0)

def quiescent_FeedKernelIdeal [hFeedKernelIdeal : Cert.FeedKernelIdeal.Facts] : Prop :=
  ∀ (m : (ℓ : Loc Cert.FeedKernelIdeal.nD Cert.FeedKernelIdeal.τ Cert.FeedKernelIdeal.sig) → Buf (Elt Ideal) ℓ) (g : Dev Cert.FeedKernelIdeal.nD → PrngReg), Pre_FeedKernelIdeal m →
    θ_run (Cert.FeedKernelIdeal.defs (F := Ideal)) (onTc (τ := Cert.FeedKernelIdeal.τ) (Cert.FeedKernelIdeal.main (F := Ideal))) ⟨m, fun _ => 0, g⟩ (fun r => (∀ c : Dev Cert.FeedKernelIdeal.nD,
      r.2.mem ((c.tc : Thread Cert.FeedKernelIdeal.nD Cert.FeedKernelIdeal.τ).loc Cert.FeedKernelIdeal.main_arg0) = m ((c.tc : Thread Cert.FeedKernelIdeal.nD Cert.FeedKernelIdeal.τ).loc Cert.FeedKernelIdeal.main_arg0)
      ∧ r.2.mem ((c.tc : Thread Cert.FeedKernelIdeal.nD Cert.FeedKernelIdeal.τ).loc Cert.FeedKernelIdeal.main_arg1) = m ((c.tc : Thread Cert.FeedKernelIdeal.nD Cert.FeedKernelIdeal.τ).loc Cert.FeedKernelIdeal.main_arg1)
      ∧ r.2.mem ((c.tc : Thread Cert.FeedKernelIdeal.nD Cert.FeedKernelIdeal.τ).loc Cert.FeedKernelIdeal.main_arg2) = m ((c.tc : Thread Cert.FeedKernelIdeal.nD Cert.FeedKernelIdeal.τ).loc Cert.FeedKernelIdeal.main_arg2)
      ∧ r.2.mem ((c.tc : Thread Cert.FeedKernelIdeal.nD Cert.FeedKernelIdeal.τ).loc Cert.FeedKernelIdeal.main_arg3) = m ((c.tc : Thread Cert.FeedKernelIdeal.nD Cert.FeedKernelIdeal.τ).loc Cert.FeedKernelIdeal.main_arg3)
      ∧ r.2.mem ((c.tc : Thread Cert.FeedKernelIdeal.nD Cert.FeedKernelIdeal.τ).loc Cert.FeedKernelIdeal.main_arg4) = m ((c.tc : Thread Cert.FeedKernelIdeal.nD Cert.FeedKernelIdeal.τ).loc Cert.FeedKernelIdeal.main_arg4))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def preserves_RmsKernel_RmsKernelIdeal : Prop :=
  True

def algebraic_RmsKernelIdeal_RmsReferenceIdeal_pre_rms_finite [hRmsKernelIdeal : Cert.RmsKernelIdeal.Facts] [hRmsReferenceIdeal : Cert.RmsReferenceIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal_rms_finite m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)) →
    ∃ (v0 : (c : Dev Cert.RmsKernelIdeal.nD) → Buf (Elt Ideal) ((c.tc : Thread Cert.RmsKernelIdeal.nD Cert.RmsKernelIdeal.τ).loc Cert.RmsKernelIdeal.main_v0_0)) (v1 : (c : Dev Cert.RmsKernelIdeal.nD) → Buf (Elt Ideal) ((c.tc : Thread Cert.RmsKernelIdeal.nD Cert.RmsKernelIdeal.τ).loc Cert.RmsKernelIdeal.main_v0_1)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0_0) = v0 c
          ∧ r.2.mem ((c.tc : Thread Cert.RmsKernelIdeal.nD Cert.RmsKernelIdeal.τ).loc Cert.RmsKernelIdeal.main_v0_1) = v1 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v34) = v0 c
          ∧ r.2.mem ((c.tc : Thread Cert.RmsReferenceIdeal.nD Cert.RmsReferenceIdeal.τ).loc Cert.RmsReferenceIdeal.main_v17) = v1 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v157_0)) (v1 : (c : Dev Cert.AttnKernelIdeal.nD) → Buf (Elt Ideal) ((c.tc : Thread Cert.AttnKernelIdeal.nD Cert.AttnKernelIdeal.τ).loc Cert.AttnKernelIdeal.main_v158)) (v2 : (c : Dev Cert.AttnKernelIdeal.nD) → Buf (Elt Ideal) ((c.tc : Thread Cert.AttnKernelIdeal.nD Cert.AttnKernelIdeal.τ).loc Cert.AttnKernelIdeal.main_v159)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v157_0) = v0 c
          ∧ r.2.mem ((c.tc : Thread Cert.AttnKernelIdeal.nD Cert.AttnKernelIdeal.τ).loc Cert.AttnKernelIdeal.main_v158) = v1 c
          ∧ r.2.mem ((c.tc : Thread Cert.AttnKernelIdeal.nD Cert.AttnKernelIdeal.τ).loc Cert.AttnKernelIdeal.main_v159) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v91) = v0 c
          ∧ r.2.mem ((c.tc : Thread Cert.AttnReferenceIdeal.nD Cert.AttnReferenceIdeal.τ).loc Cert.AttnReferenceIdeal.main_v97) = v1 c
          ∧ r.2.mem ((c.tc : Thread Cert.AttnReferenceIdeal.nD Cert.AttnReferenceIdeal.τ).loc Cert.AttnReferenceIdeal.main_v94) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_FwdKernel_FwdKernelIdeal : Prop :=
  IdealRules.named_const.Statement Cert.FwdKernelIdeal.κ "mask" .f32 0xF149F2CA#32 ⊥

def algebraic_FwdKernelIdeal_FwdReferenceIdeal_pre_fwd_finite [hFwdKernelIdeal : Cert.FwdKernelIdeal.Facts] [hFwdReferenceIdeal : Cert.FwdReferenceIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_fwd_finite m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)) →
    ∃ (v0 : (c : Dev Cert.FwdKernelIdeal.nD) → Buf (Elt Ideal) ((c.tc : Thread Cert.FwdKernelIdeal.nD Cert.FwdKernelIdeal.τ).loc Cert.FwdKernelIdeal.main_v157)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v157) = v0 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v55) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_HeadKernel_HeadKernelIdeal : Prop :=
  True

def algebraic_HeadKernelIdeal_HeadReferenceIdeal_pre_head_finite [hHeadKernelIdeal : Cert.HeadKernelIdeal.Facts] [hHeadReferenceIdeal : Cert.HeadReferenceIdeal.Facts] [hPre_head_finite : Cert.Pre_head_finite.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal_head_finite m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)) →
    ∃ (v0 : (c : Dev Cert.HeadKernelIdeal.nD) → Buf (Elt Ideal) ((c.tc : Thread Cert.HeadKernelIdeal.nD Cert.HeadKernelIdeal.τ).loc Cert.HeadKernelIdeal.main_v0_0)) (v1 : (c : Dev Cert.HeadKernelIdeal.nD) → Buf (Elt Ideal) ((c.tc : Thread Cert.HeadKernelIdeal.nD Cert.HeadKernelIdeal.τ).loc Cert.HeadKernelIdeal.main_v0_1)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v0_0) = v0 c
          ∧ r.2.mem ((c.tc : Thread Cert.HeadKernelIdeal.nD Cert.HeadKernelIdeal.τ).loc Cert.HeadKernelIdeal.main_v0_1) = v1 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v41) = v0 c
          ∧ r.2.mem ((c.tc : Thread Cert.HeadReferenceIdeal.nD Cert.HeadReferenceIdeal.τ).loc Cert.HeadReferenceIdeal.main_v25) = v1 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v3)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_HiddenKernel_HiddenKernelIdeal : Prop :=
  True

def algebraic_HiddenKernelIdeal_HiddenReferenceIdeal_pre_ffn_finite [hHiddenKernelIdeal : Cert.HiddenKernelIdeal.Facts] [hHiddenReferenceIdeal : Cert.HiddenReferenceIdeal.Facts] [hPre_ffn_finite : Cert.Pre_ffn_finite.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal_ffn_finite m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)
      ∧ m' ((c.tc : Thread Cert.HiddenReferenceIdeal.nD Cert.HiddenReferenceIdeal.τ).loc Cert.HiddenReferenceIdeal.main_arg3) = m ((c.tc : Thread Cert.HiddenKernelIdeal.nD Cert.HiddenKernelIdeal.τ).loc Cert.HiddenKernelIdeal.main_arg3)
      ∧ m' ((c.tc : Thread Cert.HiddenReferenceIdeal.nD Cert.HiddenReferenceIdeal.τ).loc Cert.HiddenReferenceIdeal.main_arg4) = m ((c.tc : Thread Cert.HiddenKernelIdeal.nD Cert.HiddenKernelIdeal.τ).loc Cert.HiddenKernelIdeal.main_arg4)
      ∧ m' ((c.tc : Thread Cert.HiddenReferenceIdeal.nD Cert.HiddenReferenceIdeal.τ).loc Cert.HiddenReferenceIdeal.main_arg5) = m ((c.tc : Thread Cert.HiddenKernelIdeal.nD Cert.HiddenKernelIdeal.τ).loc Cert.HiddenKernelIdeal.main_arg5)) →
    ∃ (v0 : (c : Dev Cert.HiddenKernelIdeal.nD) → Buf (Elt Ideal) ((c.tc : Thread Cert.HiddenKernelIdeal.nD Cert.HiddenKernelIdeal.τ).loc Cert.HiddenKernelIdeal.main_v29_0)) (v1 : (c : Dev Cert.HiddenKernelIdeal.nD) → Buf (Elt Ideal) ((c.tc : Thread Cert.HiddenKernelIdeal.nD Cert.HiddenKernelIdeal.τ).loc Cert.HiddenKernelIdeal.main_v29_1)) (v2 : (c : Dev Cert.HiddenKernelIdeal.nD) → Buf (Elt Ideal) ((c.tc : Thread Cert.HiddenKernelIdeal.nD Cert.HiddenKernelIdeal.τ).loc Cert.HiddenKernelIdeal.main_v29_2)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v29_0) = v0 c
          ∧ r.2.mem ((c.tc : Thread Cert.HiddenKernelIdeal.nD Cert.HiddenKernelIdeal.τ).loc Cert.HiddenKernelIdeal.main_v29_1) = v1 c
          ∧ r.2.mem ((c.tc : Thread Cert.HiddenKernelIdeal.nD Cert.HiddenKernelIdeal.τ).loc Cert.HiddenKernelIdeal.main_v29_2) = v2 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
          ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3)
          ∧ r.2.mem ((c.tc : Thread Cert.HiddenKernelIdeal.nD Cert.HiddenKernelIdeal.τ).loc Cert.HiddenKernelIdeal.main_arg4) = m ((c.tc : Thread Cert.HiddenKernelIdeal.nD Cert.HiddenKernelIdeal.τ).loc Cert.HiddenKernelIdeal.main_arg4)
          ∧ r.2.mem ((c.tc : Thread Cert.HiddenKernelIdeal.nD Cert.HiddenKernelIdeal.τ).loc Cert.HiddenKernelIdeal.main_arg5) = m ((c.tc : Thread Cert.HiddenKernelIdeal.nD Cert.HiddenKernelIdeal.τ).loc Cert.HiddenKernelIdeal.main_arg5))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v33) = v0 c
          ∧ r.2.mem ((c.tc : Thread Cert.HiddenReferenceIdeal.nD Cert.HiddenReferenceIdeal.τ).loc Cert.HiddenReferenceIdeal.main_v35) = v1 c
          ∧ r.2.mem ((c.tc : Thread Cert.HiddenReferenceIdeal.nD Cert.HiddenReferenceIdeal.τ).loc Cert.HiddenReferenceIdeal.main_v36) = v2 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4)
          ∧ r.2.mem ((c.tc : Thread Cert.HiddenReferenceIdeal.nD Cert.HiddenReferenceIdeal.τ).loc Cert.HiddenReferenceIdeal.main_arg5) = m' ((c.tc : Thread Cert.HiddenReferenceIdeal.nD Cert.HiddenReferenceIdeal.τ).loc Cert.HiddenReferenceIdeal.main_arg5))

def preserves_InputKernel_InputKernelIdeal : Prop :=
  True

def algebraic_InputKernelIdeal_InputReferenceIdeal_pre_ffn_finite [hInputKernelIdeal : Cert.InputKernelIdeal.Facts] [hInputReferenceIdeal : Cert.InputReferenceIdeal.Facts] [hPre_ffn_finite : Cert.Pre_ffn_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal_ffn_finite m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)) →
    ∃ (v0 : (c : Dev Cert.InputKernelIdeal.nD) → Buf (Elt Ideal) ((c.tc : Thread Cert.InputKernelIdeal.nD Cert.InputKernelIdeal.τ).loc Cert.InputKernelIdeal.main_v55_0)) (v1 : (c : Dev Cert.InputKernelIdeal.nD) → Buf (Elt Ideal) ((c.tc : Thread Cert.InputKernelIdeal.nD Cert.InputKernelIdeal.τ).loc Cert.InputKernelIdeal.main_v55_1)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v55_0) = v0 c
          ∧ r.2.mem ((c.tc : Thread Cert.InputKernelIdeal.nD Cert.InputKernelIdeal.τ).loc Cert.InputKernelIdeal.main_v55_1) = v1 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v52) = v0 c
          ∧ r.2.mem ((c.tc : Thread Cert.InputReferenceIdeal.nD Cert.InputReferenceIdeal.τ).loc Cert.InputReferenceIdeal.main_v35) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5))

def preserves_WeightKernel_WeightKernelIdeal : Prop :=
  True

def algebraic_WeightKernelIdeal_WeightReferenceIdeal_pre_ffn_finite [hWeightKernelIdeal : Cert.WeightKernelIdeal.Facts] [hWeightReferenceIdeal : Cert.WeightReferenceIdeal.Facts] [hPre_ffn_finite : Cert.Pre_ffn_finite.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal_ffn_finite m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)
      ∧ m' ((c.tc : Thread Cert.WeightReferenceIdeal.nD Cert.WeightReferenceIdeal.τ).loc Cert.WeightReferenceIdeal.main_arg2) = m ((c.tc : Thread Cert.WeightKernelIdeal.nD Cert.WeightKernelIdeal.τ).loc Cert.WeightKernelIdeal.main_arg2)
      ∧ m' ((c.tc : Thread Cert.WeightReferenceIdeal.nD Cert.WeightReferenceIdeal.τ).loc Cert.WeightReferenceIdeal.main_arg3) = m ((c.tc : Thread Cert.WeightKernelIdeal.nD Cert.WeightKernelIdeal.τ).loc Cert.WeightKernelIdeal.main_arg3)
      ∧ m' ((c.tc : Thread Cert.WeightReferenceIdeal.nD Cert.WeightReferenceIdeal.τ).loc Cert.WeightReferenceIdeal.main_arg4) = m ((c.tc : Thread Cert.WeightKernelIdeal.nD Cert.WeightKernelIdeal.τ).loc Cert.WeightKernelIdeal.main_arg4)
      ∧ m' ((c.tc : Thread Cert.WeightReferenceIdeal.nD Cert.WeightReferenceIdeal.τ).loc Cert.WeightReferenceIdeal.main_arg5) = m ((c.tc : Thread Cert.WeightKernelIdeal.nD Cert.WeightKernelIdeal.τ).loc Cert.WeightKernelIdeal.main_arg5)) →
    ∃ (v0 : (c : Dev Cert.WeightKernelIdeal.nD) → Buf (Elt Ideal) ((c.tc : Thread Cert.WeightKernelIdeal.nD Cert.WeightKernelIdeal.τ).loc Cert.WeightKernelIdeal.main_v55_0)) (v1 : (c : Dev Cert.WeightKernelIdeal.nD) → Buf (Elt Ideal) ((c.tc : Thread Cert.WeightKernelIdeal.nD Cert.WeightKernelIdeal.τ).loc Cert.WeightKernelIdeal.main_v55_1)) (v2 : (c : Dev Cert.WeightKernelIdeal.nD) → Buf (Elt Ideal) ((c.tc : Thread Cert.WeightKernelIdeal.nD Cert.WeightKernelIdeal.τ).loc Cert.WeightKernelIdeal.main_v55_2)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v55_0) = v0 c
          ∧ r.2.mem ((c.tc : Thread Cert.WeightKernelIdeal.nD Cert.WeightKernelIdeal.τ).loc Cert.WeightKernelIdeal.main_v55_1) = v1 c
          ∧ r.2.mem ((c.tc : Thread Cert.WeightKernelIdeal.nD Cert.WeightKernelIdeal.τ).loc Cert.WeightKernelIdeal.main_v55_2) = v2 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
          ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2)
          ∧ r.2.mem ((c.tc : Thread Cert.WeightKernelIdeal.nD Cert.WeightKernelIdeal.τ).loc Cert.WeightKernelIdeal.main_arg3) = m ((c.tc : Thread Cert.WeightKernelIdeal.nD Cert.WeightKernelIdeal.τ).loc Cert.WeightKernelIdeal.main_arg3)
          ∧ r.2.mem ((c.tc : Thread Cert.WeightKernelIdeal.nD Cert.WeightKernelIdeal.τ).loc Cert.WeightKernelIdeal.main_arg4) = m ((c.tc : Thread Cert.WeightKernelIdeal.nD Cert.WeightKernelIdeal.τ).loc Cert.WeightKernelIdeal.main_arg4)
          ∧ r.2.mem ((c.tc : Thread Cert.WeightKernelIdeal.nD Cert.WeightKernelIdeal.τ).loc Cert.WeightKernelIdeal.main_arg5) = m ((c.tc : Thread Cert.WeightKernelIdeal.nD Cert.WeightKernelIdeal.τ).loc Cert.WeightKernelIdeal.main_arg5))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v35) = v0 c
          ∧ r.2.mem ((c.tc : Thread Cert.WeightReferenceIdeal.nD Cert.WeightReferenceIdeal.τ).loc Cert.WeightReferenceIdeal.main_v37) = v1 c
          ∧ r.2.mem ((c.tc : Thread Cert.WeightReferenceIdeal.nD Cert.WeightReferenceIdeal.τ).loc Cert.WeightReferenceIdeal.main_v39) = v2 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2)
          ∧ r.2.mem ((c.tc : Thread Cert.WeightReferenceIdeal.nD Cert.WeightReferenceIdeal.τ).loc Cert.WeightReferenceIdeal.main_arg3) = m' ((c.tc : Thread Cert.WeightReferenceIdeal.nD Cert.WeightReferenceIdeal.τ).loc Cert.WeightReferenceIdeal.main_arg3)
          ∧ r.2.mem ((c.tc : Thread Cert.WeightReferenceIdeal.nD Cert.WeightReferenceIdeal.τ).loc Cert.WeightReferenceIdeal.main_arg4) = m' ((c.tc : Thread Cert.WeightReferenceIdeal.nD Cert.WeightReferenceIdeal.τ).loc Cert.WeightReferenceIdeal.main_arg4)
          ∧ r.2.mem ((c.tc : Thread Cert.WeightReferenceIdeal.nD Cert.WeightReferenceIdeal.τ).loc Cert.WeightReferenceIdeal.main_arg5) = m' ((c.tc : Thread Cert.WeightReferenceIdeal.nD Cert.WeightReferenceIdeal.τ).loc Cert.WeightReferenceIdeal.main_arg5))

def preserves_FfnxKernel_FfnxKernelIdeal : Prop :=
  True

def algebraic_FfnxKernelIdeal_FfnxReferenceIdeal_pre_ffn_finite [hFfnxKernelIdeal : Cert.FfnxKernelIdeal.Facts] [hFfnxReferenceIdeal : Cert.FfnxReferenceIdeal.Facts] [hPre_ffn_finite : Cert.Pre_ffn_finite.Facts] : Prop :=
  ∀ (m : (ℓ : Loc Cert.FfnxKernelIdeal.nD Cert.FfnxKernelIdeal.τ Cert.FfnxKernelIdeal.sig) → Buf (Elt Ideal) ℓ) (g : Dev Cert.FfnxKernelIdeal.nD → PrngReg)
    (m' : (ℓ : Loc Cert.FfnxReferenceIdeal.nD Cert.FfnxReferenceIdeal.τ Cert.FfnxReferenceIdeal.sig) → Buf (Elt Ideal) ℓ) (g' : Dev Cert.FfnxReferenceIdeal.nD → PrngReg), Pre_FfnxKernelIdeal_ffn_finite m →
    (∀ c : Dev Cert.FfnxKernelIdeal.nD,
      m' ((c.tc : Thread Cert.FfnxReferenceIdeal.nD Cert.FfnxReferenceIdeal.τ).loc Cert.FfnxReferenceIdeal.main_arg0) = m ((c.tc : Thread Cert.FfnxKernelIdeal.nD Cert.FfnxKernelIdeal.τ).loc Cert.FfnxKernelIdeal.main_arg0)
      ∧ m' ((c.tc : Thread Cert.FfnxReferenceIdeal.nD Cert.FfnxReferenceIdeal.τ).loc Cert.FfnxReferenceIdeal.main_arg1) = m ((c.tc : Thread Cert.FfnxKernelIdeal.nD Cert.FfnxKernelIdeal.τ).loc Cert.FfnxKernelIdeal.main_arg1)
      ∧ m' ((c.tc : Thread Cert.FfnxReferenceIdeal.nD Cert.FfnxReferenceIdeal.τ).loc Cert.FfnxReferenceIdeal.main_arg2) = m ((c.tc : Thread Cert.FfnxKernelIdeal.nD Cert.FfnxKernelIdeal.τ).loc Cert.FfnxKernelIdeal.main_arg2)
      ∧ m' ((c.tc : Thread Cert.FfnxReferenceIdeal.nD Cert.FfnxReferenceIdeal.τ).loc Cert.FfnxReferenceIdeal.main_arg3) = m ((c.tc : Thread Cert.FfnxKernelIdeal.nD Cert.FfnxKernelIdeal.τ).loc Cert.FfnxKernelIdeal.main_arg3)
      ∧ m' ((c.tc : Thread Cert.FfnxReferenceIdeal.nD Cert.FfnxReferenceIdeal.τ).loc Cert.FfnxReferenceIdeal.main_arg4) = m ((c.tc : Thread Cert.FfnxKernelIdeal.nD Cert.FfnxKernelIdeal.τ).loc Cert.FfnxKernelIdeal.main_arg4)
      ∧ m' ((c.tc : Thread Cert.FfnxReferenceIdeal.nD Cert.FfnxReferenceIdeal.τ).loc Cert.FfnxReferenceIdeal.main_arg5) = m ((c.tc : Thread Cert.FfnxKernelIdeal.nD Cert.FfnxKernelIdeal.τ).loc Cert.FfnxKernelIdeal.main_arg5)) →
    ∃ (v0 : (c : Dev Cert.FfnxKernelIdeal.nD) → Buf (Elt Ideal) ((c.tc : Thread Cert.FfnxKernelIdeal.nD Cert.FfnxKernelIdeal.τ).loc Cert.FfnxKernelIdeal.main_v29_0)) (v1 : (c : Dev Cert.FfnxKernelIdeal.nD) → Buf (Elt Ideal) ((c.tc : Thread Cert.FfnxKernelIdeal.nD Cert.FfnxKernelIdeal.τ).loc Cert.FfnxKernelIdeal.main_v29_1)) (v2 : (c : Dev Cert.FfnxKernelIdeal.nD) → Buf (Elt Ideal) ((c.tc : Thread Cert.FfnxKernelIdeal.nD Cert.FfnxKernelIdeal.τ).loc Cert.FfnxKernelIdeal.main_v29_2)) (v3 : (c : Dev Cert.FfnxKernelIdeal.nD) → Buf (Elt Ideal) ((c.tc : Thread Cert.FfnxKernelIdeal.nD Cert.FfnxKernelIdeal.τ).loc Cert.FfnxKernelIdeal.main_v29_3)) (v4 : (c : Dev Cert.FfnxKernelIdeal.nD) → Buf (Elt Ideal) ((c.tc : Thread Cert.FfnxKernelIdeal.nD Cert.FfnxKernelIdeal.τ).loc Cert.FfnxKernelIdeal.main_v29_4)),
      θ_run (Cert.FfnxKernelIdeal.defs (F := Ideal)) (onTc (τ := Cert.FfnxKernelIdeal.τ) (Cert.FfnxKernelIdeal.main (F := Ideal))) ⟨m, fun _ => 0, g⟩ (fun r => ∀ c : Dev Cert.FfnxKernelIdeal.nD,
          r.2.mem ((c.tc : Thread Cert.FfnxKernelIdeal.nD Cert.FfnxKernelIdeal.τ).loc Cert.FfnxKernelIdeal.main_v29_0) = v0 c
          ∧ r.2.mem ((c.tc : Thread Cert.FfnxKernelIdeal.nD Cert.FfnxKernelIdeal.τ).loc Cert.FfnxKernelIdeal.main_v29_1) = v1 c
          ∧ r.2.mem ((c.tc : Thread Cert.FfnxKernelIdeal.nD Cert.FfnxKernelIdeal.τ).loc Cert.FfnxKernelIdeal.main_v29_2) = v2 c
          ∧ r.2.mem ((c.tc : Thread Cert.FfnxKernelIdeal.nD Cert.FfnxKernelIdeal.τ).loc Cert.FfnxKernelIdeal.main_v29_3) = v3 c
          ∧ r.2.mem ((c.tc : Thread Cert.FfnxKernelIdeal.nD Cert.FfnxKernelIdeal.τ).loc Cert.FfnxKernelIdeal.main_v29_4) = v4 c
          ∧ r.2.mem ((c.tc : Thread Cert.FfnxKernelIdeal.nD Cert.FfnxKernelIdeal.τ).loc Cert.FfnxKernelIdeal.main_arg0) = m ((c.tc : Thread Cert.FfnxKernelIdeal.nD Cert.FfnxKernelIdeal.τ).loc Cert.FfnxKernelIdeal.main_arg0)
          ∧ r.2.mem ((c.tc : Thread Cert.FfnxKernelIdeal.nD Cert.FfnxKernelIdeal.τ).loc Cert.FfnxKernelIdeal.main_arg1) = m ((c.tc : Thread Cert.FfnxKernelIdeal.nD Cert.FfnxKernelIdeal.τ).loc Cert.FfnxKernelIdeal.main_arg1)
          ∧ r.2.mem ((c.tc : Thread Cert.FfnxKernelIdeal.nD Cert.FfnxKernelIdeal.τ).loc Cert.FfnxKernelIdeal.main_arg2) = m ((c.tc : Thread Cert.FfnxKernelIdeal.nD Cert.FfnxKernelIdeal.τ).loc Cert.FfnxKernelIdeal.main_arg2)
          ∧ r.2.mem ((c.tc : Thread Cert.FfnxKernelIdeal.nD Cert.FfnxKernelIdeal.τ).loc Cert.FfnxKernelIdeal.main_arg3) = m ((c.tc : Thread Cert.FfnxKernelIdeal.nD Cert.FfnxKernelIdeal.τ).loc Cert.FfnxKernelIdeal.main_arg3)
          ∧ r.2.mem ((c.tc : Thread Cert.FfnxKernelIdeal.nD Cert.FfnxKernelIdeal.τ).loc Cert.FfnxKernelIdeal.main_arg4) = m ((c.tc : Thread Cert.FfnxKernelIdeal.nD Cert.FfnxKernelIdeal.τ).loc Cert.FfnxKernelIdeal.main_arg4)
          ∧ r.2.mem ((c.tc : Thread Cert.FfnxKernelIdeal.nD Cert.FfnxKernelIdeal.τ).loc Cert.FfnxKernelIdeal.main_arg5) = m ((c.tc : Thread Cert.FfnxKernelIdeal.nD Cert.FfnxKernelIdeal.τ).loc Cert.FfnxKernelIdeal.main_arg5))
      ∧ θ_run (Cert.FfnxReferenceIdeal.defs (F := Ideal)) (onTc (τ := Cert.FfnxReferenceIdeal.τ) (Cert.FfnxReferenceIdeal.main (F := Ideal))) ⟨m', fun _ => 0, g'⟩ (fun r => ∀ c : Dev Cert.FfnxReferenceIdeal.nD,
          r.2.mem ((c.tc : Thread Cert.FfnxReferenceIdeal.nD Cert.FfnxReferenceIdeal.τ).loc Cert.FfnxReferenceIdeal.main_v52) = v0 c
          ∧ r.2.mem ((c.tc : Thread Cert.FfnxReferenceIdeal.nD Cert.FfnxReferenceIdeal.τ).loc Cert.FfnxReferenceIdeal.main_v86) = v1 c
          ∧ r.2.mem ((c.tc : Thread Cert.FfnxReferenceIdeal.nD Cert.FfnxReferenceIdeal.τ).loc Cert.FfnxReferenceIdeal.main_v88) = v2 c
          ∧ r.2.mem ((c.tc : Thread Cert.FfnxReferenceIdeal.nD Cert.FfnxReferenceIdeal.τ).loc Cert.FfnxReferenceIdeal.main_v89) = v3 c
          ∧ r.2.mem ((c.tc : Thread Cert.FfnxReferenceIdeal.nD Cert.FfnxReferenceIdeal.τ).loc Cert.FfnxReferenceIdeal.main_v35) = v4 c
          ∧ r.2.mem ((c.tc : Thread Cert.FfnxReferenceIdeal.nD Cert.FfnxReferenceIdeal.τ).loc Cert.FfnxReferenceIdeal.main_arg0) = m' ((c.tc : Thread Cert.FfnxReferenceIdeal.nD Cert.FfnxReferenceIdeal.τ).loc Cert.FfnxReferenceIdeal.main_arg0)
          ∧ r.2.mem ((c.tc : Thread Cert.FfnxReferenceIdeal.nD Cert.FfnxReferenceIdeal.τ).loc Cert.FfnxReferenceIdeal.main_arg1) = m' ((c.tc : Thread Cert.FfnxReferenceIdeal.nD Cert.FfnxReferenceIdeal.τ).loc Cert.FfnxReferenceIdeal.main_arg1)
          ∧ r.2.mem ((c.tc : Thread Cert.FfnxReferenceIdeal.nD Cert.FfnxReferenceIdeal.τ).loc Cert.FfnxReferenceIdeal.main_arg2) = m' ((c.tc : Thread Cert.FfnxReferenceIdeal.nD Cert.FfnxReferenceIdeal.τ).loc Cert.FfnxReferenceIdeal.main_arg2)
          ∧ r.2.mem ((c.tc : Thread Cert.FfnxReferenceIdeal.nD Cert.FfnxReferenceIdeal.τ).loc Cert.FfnxReferenceIdeal.main_arg3) = m' ((c.tc : Thread Cert.FfnxReferenceIdeal.nD Cert.FfnxReferenceIdeal.τ).loc Cert.FfnxReferenceIdeal.main_arg3)
          ∧ r.2.mem ((c.tc : Thread Cert.FfnxReferenceIdeal.nD Cert.FfnxReferenceIdeal.τ).loc Cert.FfnxReferenceIdeal.main_arg4) = m' ((c.tc : Thread Cert.FfnxReferenceIdeal.nD Cert.FfnxReferenceIdeal.τ).loc Cert.FfnxReferenceIdeal.main_arg4)
          ∧ r.2.mem ((c.tc : Thread Cert.FfnxReferenceIdeal.nD Cert.FfnxReferenceIdeal.τ).loc Cert.FfnxReferenceIdeal.main_arg5) = m' ((c.tc : Thread Cert.FfnxReferenceIdeal.nD Cert.FfnxReferenceIdeal.τ).loc Cert.FfnxReferenceIdeal.main_arg5))

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)) →
    ∃ (v0 : (c : Dev Cert.PoolKernelIdeal.nD) → Buf (Elt Ideal) ((c.tc : Thread Cert.PoolKernelIdeal.nD Cert.PoolKernelIdeal.τ).loc Cert.PoolKernelIdeal.main_v1_0)) (v1 : (c : Dev Cert.PoolKernelIdeal.nD) → Buf (Elt Ideal) ((c.tc : Thread Cert.PoolKernelIdeal.nD Cert.PoolKernelIdeal.τ).loc Cert.PoolKernelIdeal.main_v1_1)) (v2 : (c : Dev Cert.PoolKernelIdeal.nD) → Buf (Elt Ideal) ((c.tc : Thread Cert.PoolKernelIdeal.nD Cert.PoolKernelIdeal.τ).loc Cert.PoolKernelIdeal.main_v1_2)) (v3 : (c : Dev Cert.PoolKernelIdeal.nD) → Buf (Elt Ideal) ((c.tc : Thread Cert.PoolKernelIdeal.nD Cert.PoolKernelIdeal.τ).loc Cert.PoolKernelIdeal.main_v1_3)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1_0) = v0 c
          ∧ r.2.mem ((c.tc : Thread Cert.PoolKernelIdeal.nD Cert.PoolKernelIdeal.τ).loc Cert.PoolKernelIdeal.main_v1_1) = v1 c
          ∧ r.2.mem ((c.tc : Thread Cert.PoolKernelIdeal.nD Cert.PoolKernelIdeal.τ).loc Cert.PoolKernelIdeal.main_v1_2) = v2 c
          ∧ r.2.mem ((c.tc : Thread Cert.PoolKernelIdeal.nD Cert.PoolKernelIdeal.τ).loc Cert.PoolKernelIdeal.main_v1_3) = v3 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v172) = v0 c
          ∧ r.2.mem ((c.tc : Thread Cert.PoolReferenceIdeal.nD Cert.PoolReferenceIdeal.τ).loc Cert.PoolReferenceIdeal.main_v101) = v1 c
          ∧ r.2.mem ((c.tc : Thread Cert.PoolReferenceIdeal.nD Cert.PoolReferenceIdeal.τ).loc Cert.PoolReferenceIdeal.main_v93) = v2 c
          ∧ r.2.mem ((c.tc : Thread Cert.PoolReferenceIdeal.nD Cert.PoolReferenceIdeal.τ).loc Cert.PoolReferenceIdeal.main_v155) = v3 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def preserves_FeedKernel_FeedKernelIdeal : Prop :=
  True

def algebraic_FeedKernelIdeal_FeedReferenceIdeal [hFeedKernelIdeal : Cert.FeedKernelIdeal.Facts] [hFeedReferenceIdeal : Cert.FeedReferenceIdeal.Facts] : Prop :=
  ∀ (m : (ℓ : Loc Cert.FeedKernelIdeal.nD Cert.FeedKernelIdeal.τ Cert.FeedKernelIdeal.sig) → Buf (Elt Ideal) ℓ) (g : Dev Cert.FeedKernelIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedKernelIdeal m →
    (∀ c : Dev Cert.FeedKernelIdeal.nD,
      m' ((c.tc : Thread Cert.FeedReferenceIdeal.nD Cert.FeedReferenceIdeal.τ).loc Cert.FeedReferenceIdeal.main_arg0) = m ((c.tc : Thread Cert.FeedKernelIdeal.nD Cert.FeedKernelIdeal.τ).loc Cert.FeedKernelIdeal.main_arg0)
      ∧ m' ((c.tc : Thread Cert.FeedReferenceIdeal.nD Cert.FeedReferenceIdeal.τ).loc Cert.FeedReferenceIdeal.main_arg1) = m ((c.tc : Thread Cert.FeedKernelIdeal.nD Cert.FeedKernelIdeal.τ).loc Cert.FeedKernelIdeal.main_arg1)
      ∧ m' ((c.tc : Thread Cert.FeedReferenceIdeal.nD Cert.FeedReferenceIdeal.τ).loc Cert.FeedReferenceIdeal.main_arg2) = m ((c.tc : Thread Cert.FeedKernelIdeal.nD Cert.FeedKernelIdeal.τ).loc Cert.FeedKernelIdeal.main_arg2)
      ∧ m' ((c.tc : Thread Cert.FeedReferenceIdeal.nD Cert.FeedReferenceIdeal.τ).loc Cert.FeedReferenceIdeal.main_arg3) = m ((c.tc : Thread Cert.FeedKernelIdeal.nD Cert.FeedKernelIdeal.τ).loc Cert.FeedKernelIdeal.main_arg3)
      ∧ m' ((c.tc : Thread Cert.FeedReferenceIdeal.nD Cert.FeedReferenceIdeal.τ).loc Cert.FeedReferenceIdeal.main_arg4) = m ((c.tc : Thread Cert.FeedKernelIdeal.nD Cert.FeedKernelIdeal.τ).loc Cert.FeedKernelIdeal.main_arg4)) →
    ∃ (v0 : (c : Dev Cert.FeedKernelIdeal.nD) → Buf (Elt Ideal) ((c.tc : Thread Cert.FeedKernelIdeal.nD Cert.FeedKernelIdeal.τ).loc Cert.FeedKernelIdeal.main_v8_0)) (v1 : (c : Dev Cert.FeedKernelIdeal.nD) → Buf (Elt Ideal) ((c.tc : Thread Cert.FeedKernelIdeal.nD Cert.FeedKernelIdeal.τ).loc Cert.FeedKernelIdeal.main_v8_1)) (v2 : (c : Dev Cert.FeedKernelIdeal.nD) → Buf (Elt Ideal) ((c.tc : Thread Cert.FeedKernelIdeal.nD Cert.FeedKernelIdeal.τ).loc Cert.FeedKernelIdeal.main_v8_2)) (v3 : (c : Dev Cert.FeedKernelIdeal.nD) → Buf (Elt Ideal) ((c.tc : Thread Cert.FeedKernelIdeal.nD Cert.FeedKernelIdeal.τ).loc Cert.FeedKernelIdeal.main_v8_3)),
      θ_run (Cert.FeedKernelIdeal.defs (F := Ideal)) (onTc (τ := Cert.FeedKernelIdeal.τ) (Cert.FeedKernelIdeal.main (F := Ideal))) ⟨m, fun _ => 0, g⟩ (fun r => ∀ c : Dev Cert.FeedKernelIdeal.nD,
          r.2.mem ((c.tc : Thread Cert.FeedKernelIdeal.nD Cert.FeedKernelIdeal.τ).loc Cert.FeedKernelIdeal.main_v8_0) = v0 c
          ∧ r.2.mem ((c.tc : Thread Cert.FeedKernelIdeal.nD Cert.FeedKernelIdeal.τ).loc Cert.FeedKernelIdeal.main_v8_1) = v1 c
          ∧ r.2.mem ((c.tc : Thread Cert.FeedKernelIdeal.nD Cert.FeedKernelIdeal.τ).loc Cert.FeedKernelIdeal.main_v8_2) = v2 c
          ∧ r.2.mem ((c.tc : Thread Cert.FeedKernelIdeal.nD Cert.FeedKernelIdeal.τ).loc Cert.FeedKernelIdeal.main_v8_3) = v3 c
          ∧ r.2.mem ((c.tc : Thread Cert.FeedKernelIdeal.nD Cert.FeedKernelIdeal.τ).loc Cert.FeedKernelIdeal.main_arg0) = m ((c.tc : Thread Cert.FeedKernelIdeal.nD Cert.FeedKernelIdeal.τ).loc Cert.FeedKernelIdeal.main_arg0)
          ∧ r.2.mem ((c.tc : Thread Cert.FeedKernelIdeal.nD Cert.FeedKernelIdeal.τ).loc Cert.FeedKernelIdeal.main_arg1) = m ((c.tc : Thread Cert.FeedKernelIdeal.nD Cert.FeedKernelIdeal.τ).loc Cert.FeedKernelIdeal.main_arg1)
          ∧ r.2.mem ((c.tc : Thread Cert.FeedKernelIdeal.nD Cert.FeedKernelIdeal.τ).loc Cert.FeedKernelIdeal.main_arg2) = m ((c.tc : Thread Cert.FeedKernelIdeal.nD Cert.FeedKernelIdeal.τ).loc Cert.FeedKernelIdeal.main_arg2)
          ∧ r.2.mem ((c.tc : Thread Cert.FeedKernelIdeal.nD Cert.FeedKernelIdeal.τ).loc Cert.FeedKernelIdeal.main_arg3) = m ((c.tc : Thread Cert.FeedKernelIdeal.nD Cert.FeedKernelIdeal.τ).loc Cert.FeedKernelIdeal.main_arg3)
          ∧ r.2.mem ((c.tc : Thread Cert.FeedKernelIdeal.nD Cert.FeedKernelIdeal.τ).loc Cert.FeedKernelIdeal.main_arg4) = m ((c.tc : Thread Cert.FeedKernelIdeal.nD Cert.FeedKernelIdeal.τ).loc Cert.FeedKernelIdeal.main_arg4))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v19) = v0 c
          ∧ r.2.mem ((c.tc : Thread Cert.FeedReferenceIdeal.nD Cert.FeedReferenceIdeal.τ).loc Cert.FeedReferenceIdeal.main_v20) = v1 c
          ∧ r.2.mem ((c.tc : Thread Cert.FeedReferenceIdeal.nD Cert.FeedReferenceIdeal.τ).loc Cert.FeedReferenceIdeal.main_v23) = v2 c
          ∧ r.2.mem ((c.tc : Thread Cert.FeedReferenceIdeal.nD Cert.FeedReferenceIdeal.τ).loc Cert.FeedReferenceIdeal.main_v26) = v3 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v1_0)) (v1 : (c : Dev Cert.ProjKernelIdeal.nD) → Buf (Elt Ideal) ((c.tc : Thread Cert.ProjKernelIdeal.nD Cert.ProjKernelIdeal.τ).loc Cert.ProjKernelIdeal.main_v1_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1_0) = v0 c
          ∧ r.2.mem ((c.tc : Thread Cert.ProjKernelIdeal.nD Cert.ProjKernelIdeal.τ).loc Cert.ProjKernelIdeal.main_v1_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)) →
    ∃ (v0 : (c : Dev Cert.MixKernelIdeal.nD) → Buf (Elt Ideal) ((c.tc : Thread Cert.MixKernelIdeal.nD Cert.MixKernelIdeal.τ).loc Cert.MixKernelIdeal.main_v1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v1) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v82) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def Claim : Prop :=
  ∃ (hRmsKernel : Cert.RmsKernel.Facts) (hRmsKernelIdeal : Cert.RmsKernelIdeal.Facts) (hRmsReferenceIdeal : Cert.RmsReferenceIdeal.Facts) (hAttnKernel : Cert.AttnKernel.Facts) (hAttnKernelIdeal : Cert.AttnKernelIdeal.Facts) (hAttnReferenceIdeal : Cert.AttnReferenceIdeal.Facts) (hFwdKernel : Cert.FwdKernel.Facts) (hFwdKernelIdeal : Cert.FwdKernelIdeal.Facts) (hFwdReferenceIdeal : Cert.FwdReferenceIdeal.Facts) (hHeadKernel : Cert.HeadKernel.Facts) (hHeadKernelIdeal : Cert.HeadKernelIdeal.Facts) (hHeadReferenceIdeal : Cert.HeadReferenceIdeal.Facts) (hLossKernel : Cert.LossKernel.Facts) (hLossKernelIdeal : Cert.LossKernelIdeal.Facts) (hLossReferenceIdeal : Cert.LossReferenceIdeal.Facts) (hHiddenKernel : Cert.HiddenKernel.Facts) (hHiddenKernelIdeal : Cert.HiddenKernelIdeal.Facts) (hHiddenReferenceIdeal : Cert.HiddenReferenceIdeal.Facts) (hInputKernel : Cert.InputKernel.Facts) (hInputKernelIdeal : Cert.InputKernelIdeal.Facts) (hInputReferenceIdeal : Cert.InputReferenceIdeal.Facts) (hWeightKernel : Cert.WeightKernel.Facts) (hWeightKernelIdeal : Cert.WeightKernelIdeal.Facts) (hWeightReferenceIdeal : Cert.WeightReferenceIdeal.Facts) (hFfnxKernel : Cert.FfnxKernel.Facts) (hFfnxKernelIdeal : Cert.FfnxKernelIdeal.Facts) (hFfnxReferenceIdeal : Cert.FfnxReferenceIdeal.Facts) (hPoolKernel : Cert.PoolKernel.Facts) (hPoolKernelIdeal : Cert.PoolKernelIdeal.Facts) (hPoolReferenceIdeal : Cert.PoolReferenceIdeal.Facts) (hFeedKernel : Cert.FeedKernel.Facts) (hFeedKernelIdeal : Cert.FeedKernelIdeal.Facts) (hFeedReferenceIdeal : Cert.FeedReferenceIdeal.Facts) (hNormKernel : Cert.NormKernel.Facts) (hNormKernelIdeal : Cert.NormKernelIdeal.Facts) (hNormReferenceIdeal : Cert.NormReferenceIdeal.Facts) (hProjKernel : Cert.ProjKernel.Facts) (hProjKernelIdeal : Cert.ProjKernelIdeal.Facts) (hProjReferenceIdeal : Cert.ProjReferenceIdeal.Facts) (hMixKernel : Cert.MixKernel.Facts) (hMixKernelIdeal : Cert.MixKernelIdeal.Facts) (hMixReferenceIdeal : Cert.MixReferenceIdeal.Facts) (hPre_rms_finite : Cert.Pre_rms_finite.Facts) (hPre_attn_finite : Cert.Pre_attn_finite.Facts) (hPre_fwd_finite : Cert.Pre_fwd_finite.Facts) (hPre_head_finite : Cert.Pre_head_finite.Facts) (hPre_ffn_finite : Cert.Pre_ffn_finite.Facts) (hPre_pool_finite : Cert.Pre_pool_finite.Facts) (hPre_mix_finite : Cert.Pre_mix_finite.Facts),
    quiescent_RmsKernel (hRmsKernel := hRmsKernel)
    ∧ quiescent_RmsKernelIdeal (hRmsKernelIdeal := hRmsKernelIdeal)
    ∧ quiescent_RmsKernelIdeal_pre_rms_finite (hRmsKernelIdeal := hRmsKernelIdeal) (hPre_rms_finite := hPre_rms_finite)
    ∧ quiescent_RmsReferenceIdeal (hRmsReferenceIdeal := hRmsReferenceIdeal)
    ∧ quiescent_RmsReferenceIdeal_pre_rms_finite (hRmsReferenceIdeal := hRmsReferenceIdeal) (hPre_rms_finite := hPre_rms_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_FwdKernel (hFwdKernel := hFwdKernel)
    ∧ quiescent_FwdKernelIdeal (hFwdKernelIdeal := hFwdKernelIdeal)
    ∧ quiescent_FwdKernelIdeal_pre_fwd_finite (hFwdKernelIdeal := hFwdKernelIdeal) (hPre_fwd_finite := hPre_fwd_finite)
    ∧ quiescent_FwdReferenceIdeal (hFwdReferenceIdeal := hFwdReferenceIdeal)
    ∧ quiescent_FwdReferenceIdeal_pre_fwd_finite (hFwdReferenceIdeal := hFwdReferenceIdeal) (hPre_fwd_finite := hPre_fwd_finite)
    ∧ quiescent_HeadKernel (hHeadKernel := hHeadKernel)
    ∧ quiescent_HeadKernelIdeal (hHeadKernelIdeal := hHeadKernelIdeal)
    ∧ quiescent_HeadKernelIdeal_pre_head_finite (hHeadKernelIdeal := hHeadKernelIdeal) (hPre_head_finite := hPre_head_finite)
    ∧ quiescent_HeadReferenceIdeal (hHeadReferenceIdeal := hHeadReferenceIdeal)
    ∧ quiescent_HeadReferenceIdeal_pre_head_finite (hHeadReferenceIdeal := hHeadReferenceIdeal) (hPre_head_finite := hPre_head_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_HiddenKernel (hHiddenKernel := hHiddenKernel)
    ∧ quiescent_HiddenKernelIdeal (hHiddenKernelIdeal := hHiddenKernelIdeal)
    ∧ quiescent_HiddenKernelIdeal_pre_ffn_finite (hHiddenKernelIdeal := hHiddenKernelIdeal) (hPre_ffn_finite := hPre_ffn_finite)
    ∧ quiescent_HiddenReferenceIdeal (hHiddenReferenceIdeal := hHiddenReferenceIdeal)
    ∧ quiescent_HiddenReferenceIdeal_pre_ffn_finite (hHiddenReferenceIdeal := hHiddenReferenceIdeal) (hPre_ffn_finite := hPre_ffn_finite)
    ∧ quiescent_InputKernel (hInputKernel := hInputKernel)
    ∧ quiescent_InputKernelIdeal (hInputKernelIdeal := hInputKernelIdeal)
    ∧ quiescent_InputKernelIdeal_pre_ffn_finite (hInputKernelIdeal := hInputKernelIdeal) (hPre_ffn_finite := hPre_ffn_finite)
    ∧ quiescent_InputReferenceIdeal (hInputReferenceIdeal := hInputReferenceIdeal)
    ∧ quiescent_InputReferenceIdeal_pre_ffn_finite (hInputReferenceIdeal := hInputReferenceIdeal) (hPre_ffn_finite := hPre_ffn_finite)
    ∧ quiescent_WeightKernel (hWeightKernel := hWeightKernel)
    ∧ quiescent_WeightKernelIdeal (hWeightKernelIdeal := hWeightKernelIdeal)
    ∧ quiescent_WeightKernelIdeal_pre_ffn_finite (hWeightKernelIdeal := hWeightKernelIdeal) (hPre_ffn_finite := hPre_ffn_finite)
    ∧ quiescent_WeightReferenceIdeal (hWeightReferenceIdeal := hWeightReferenceIdeal)
    ∧ quiescent_WeightReferenceIdeal_pre_ffn_finite (hWeightReferenceIdeal := hWeightReferenceIdeal) (hPre_ffn_finite := hPre_ffn_finite)
    ∧ quiescent_FfnxKernel (hFfnxKernel := hFfnxKernel)
    ∧ quiescent_FfnxKernelIdeal (hFfnxKernelIdeal := hFfnxKernelIdeal)
    ∧ quiescent_FfnxKernelIdeal_pre_ffn_finite (hFfnxKernelIdeal := hFfnxKernelIdeal) (hPre_ffn_finite := hPre_ffn_finite)
    ∧ quiescent_FfnxReferenceIdeal (hFfnxReferenceIdeal := hFfnxReferenceIdeal)
    ∧ quiescent_FfnxReferenceIdeal_pre_ffn_finite (hFfnxReferenceIdeal := hFfnxReferenceIdeal) (hPre_ffn_finite := hPre_ffn_finite)
    ∧ quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_FeedKernel (hFeedKernel := hFeedKernel)
    ∧ quiescent_FeedKernelIdeal (hFeedKernelIdeal := hFeedKernelIdeal)
    ∧ quiescent_FeedReferenceIdeal (hFeedReferenceIdeal := hFeedReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ preserves_RmsKernel_RmsKernelIdeal
    ∧ algebraic_RmsKernelIdeal_RmsReferenceIdeal_pre_rms_finite (hRmsKernelIdeal := hRmsKernelIdeal) (hRmsReferenceIdeal := hRmsReferenceIdeal) (hPre_rms_finite := hPre_rms_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_FwdKernel_FwdKernelIdeal
    ∧ algebraic_FwdKernelIdeal_FwdReferenceIdeal_pre_fwd_finite (hFwdKernelIdeal := hFwdKernelIdeal) (hFwdReferenceIdeal := hFwdReferenceIdeal) (hPre_fwd_finite := hPre_fwd_finite)
    ∧ preserves_HeadKernel_HeadKernelIdeal
    ∧ algebraic_HeadKernelIdeal_HeadReferenceIdeal_pre_head_finite (hHeadKernelIdeal := hHeadKernelIdeal) (hHeadReferenceIdeal := hHeadReferenceIdeal) (hPre_head_finite := hPre_head_finite)
    ∧ preserves_LossKernel_LossKernelIdeal
    ∧ algebraic_LossKernelIdeal_LossReferenceIdeal (hLossKernelIdeal := hLossKernelIdeal) (hLossReferenceIdeal := hLossReferenceIdeal)
    ∧ preserves_HiddenKernel_HiddenKernelIdeal
    ∧ algebraic_HiddenKernelIdeal_HiddenReferenceIdeal_pre_ffn_finite (hHiddenKernelIdeal := hHiddenKernelIdeal) (hHiddenReferenceIdeal := hHiddenReferenceIdeal) (hPre_ffn_finite := hPre_ffn_finite)
    ∧ preserves_InputKernel_InputKernelIdeal
    ∧ algebraic_InputKernelIdeal_InputReferenceIdeal_pre_ffn_finite (hInputKernelIdeal := hInputKernelIdeal) (hInputReferenceIdeal := hInputReferenceIdeal) (hPre_ffn_finite := hPre_ffn_finite)
    ∧ preserves_WeightKernel_WeightKernelIdeal
    ∧ algebraic_WeightKernelIdeal_WeightReferenceIdeal_pre_ffn_finite (hWeightKernelIdeal := hWeightKernelIdeal) (hWeightReferenceIdeal := hWeightReferenceIdeal) (hPre_ffn_finite := hPre_ffn_finite)
    ∧ preserves_FfnxKernel_FfnxKernelIdeal
    ∧ algebraic_FfnxKernelIdeal_FfnxReferenceIdeal_pre_ffn_finite (hFfnxKernelIdeal := hFfnxKernelIdeal) (hFfnxReferenceIdeal := hFfnxReferenceIdeal) (hPre_ffn_finite := hPre_ffn_finite)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_FeedKernel_FeedKernelIdeal
    ∧ algebraic_FeedKernelIdeal_FeedReferenceIdeal (hFeedKernelIdeal := hFeedKernelIdeal) (hFeedReferenceIdeal := hFeedReferenceIdeal)
    ∧ preserves_NormKernel_NormKernelIdeal
    ∧ algebraic_NormKernelIdeal_NormReferenceIdeal (hNormKernelIdeal := hNormKernelIdeal) (hNormReferenceIdeal := hNormReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
-- ==== Pre_attn_finite.lean ====
abbrev S8192x2048 : Shape := ⟨2, ![8192, 2048]⟩
abbrev S16x192 : Shape := ⟨2, ![16, 192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S16x192 : S_.BroadcastsInDim S16x192 (![] : Fin 0 → Fin S16x192.rank)

variable [Facts]

def fn {F : FTy → Type} [FloatOps F] (main_arg0 : FVec F S8192x2048 .bf16) (main_arg1 : FVec F S8192x2048 .bf16) (main_arg2 : FVec F S8192x2048 .bf16) (main_arg3 : FVec F S16x192 .f32) (main_arg4 : FVec F S8192x2048 .bf16) : IVec S8192x2048 1 × IVec S8192x2048 1 × IVec S8192x2048 1 × IVec S16x192 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S16x192 .f32 := Host.absf main_arg3
  let main_cst_2 : FVec F S_ .f32 := constant S_ .f32 0x7F800000#32
  let main_v13 : FVec F S16x192 .f32 := broadcastInDim S16x192 ![] bcast_S_S16x192 main_cst_2
  let main_v14 : IVec S16x192 1 := cmpf .olt main_v12 main_v13
  let main_v15 : FVec F S8192x2048 .f32 := (extf .f32 · bitsLt_bf16_f32) main_arg4
  let main_v16 : FVec F S8192x2048 .f32 := Host.absf main_v15
  let main_cst_3 : FVec F S_ .f32 := constant S_ .f32 0x7F800000#32
  let main_v17 : FVec F S8192x2048 .f32 := broadcastInDim S8192x2048 ![] bcast_S_S8192x2048 main_cst_3
  let main_v18 : IVec S8192x2048 1 := cmpf .olt main_v16 main_v17
  (main_v3, main_v7, main_v11, main_v14, main_v18)
-- ==== Pre_ffn_finite.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S2048x5504 : S_.BroadcastsInDim S2048x5504 (![] : Fin 0 → Fin S2048x5504.rank)
  bcast_S_S5504x2048 : S_.BroadcastsInDim S5504x2048 (![] : Fin 0 → Fin S5504x2048.rank)

variable [Facts]

def fn {F : FTy → Type} [FloatOps F] (main_arg0 : FVec F S8192x2048 .f32) (main_arg1 : FVec F S8192x2048 .f32) (main_arg2 : FVec F S1x2048 .f32) (main_arg3 : FVec F S2048x5504 .f32) (main_arg4 : FVec F S2048x5504 .f32) (main_arg5 : FVec F S5504x2048 .f32) : IVec S8192x2048 1 × IVec S8192x2048 1 × IVec S1x2048 1 × IVec S2048x5504 1 × IVec S2048x5504 1 × IVec S5504x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x5504 .f32 := Host.absf main_arg3
  let main_cst_2 : FVec F S_ .f32 := constant S_ .f32 0x7F800000#32
  let main_v10 : FVec F S2048x5504 .f32 := broadcastInDim S2048x5504 ![] bcast_S_S2048x5504 main_cst_2
  let main_v11 : IVec S2048x5504 1 := cmpf .olt main_v9 main_v10
  let main_v12 : FVec F S2048x5504 .f32 := Host.absf main_arg4
  let main_cst_3 : FVec F S_ .f32 := constant S_ .f32 0x7F800000#32
  let main_v13 : FVec F S2048x5504 .f32 := broadcastInDim S2048x5504 ![] bcast_S_S2048x5504 main_cst_3
  let main_v14 : IVec S2048x5504 1 := cmpf .olt main_v12 main_v13
  let main_v15 : FVec F S5504x2048 .f32 := Host.absf main_arg5
  let main_cst_4 : FVec F S_ .f32 := constant S_ .f32 0x7F800000#32
  let main_v16 : FVec F S5504x2048 .f32 := broadcastInDim S5504x2048 ![] bcast_S_S5504x2048 main_cst_4
  let main_v17 : IVec S5504x2048 1 := cmpf .olt main_v15 main_v16
  (main_v2, main_v5, main_v8, main_v11, main_v14, main_v17)
-- ==== Pre_fwd_finite.lean ====
abbrev S8192x2048 : Shape := ⟨2, ![8192, 2048]⟩
abbrev S16x192 : Shape := ⟨2, ![16, 192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S16x192 : S_.BroadcastsInDim S16x192 (![] : Fin 0 → Fin S16x192.rank)

variable [Facts]

def fn {F : FTy → Type} [FloatOps F] (main_arg0 : FVec F S8192x2048 .bf16) (main_arg1 : FVec F S8192x2048 .bf16) (main_arg2 : FVec F S8192x2048 .bf16) (main_arg3 : FVec F S16x192 .f32) : IVec S8192x2048 1 × IVec S8192x2048 1 × IVec S8192x2048 1 × IVec S16x192 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S16x192 .f32 := Host.absf main_arg3
  let main_cst_2 : FVec F S_ .f32 := constant S_ .f32 0x7F800000#32
  let main_v13 : FVec F S16x192 .f32 := broadcastInDim S16x192 ![] bcast_S_S16x192 main_cst_2
  let main_v14 : IVec S16x192 1 := cmpf .olt main_v12 main_v13
  (main_v3, main_v7, main_v11, main_v14)
-- ==== Pre_head_finite.lean ====
abbrev S8192x2048 : Shape := ⟨2, ![8192, 2048]⟩
abbrev S1x128 : Shape := ⟨2, ![1, 128]⟩
abbrev S_ : Shape := ⟨0, ![]⟩

class Facts : Prop where
  bcast_S_S8192x2048 : S_.BroadcastsInDim S8192x2048 (![] : Fin 0 → Fin S8192x2048.rank)
  bcast_S_S1x128 : S_.BroadcastsInDim S1x128 (![] : Fin 0 → Fin S1x128.rank)

variable [Facts]

def fn {F : FTy → Type} [FloatOps F] (main_arg0 : FVec F S8192x2048 .f32) (main_arg1 : FVec F S8192x2048 .f32) (main_arg2 : FVec F S1x128 .f32) : IVec S8192x2048 1 × IVec S8192x2048 1 × IVec S1x128 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  (main_v2, main_v5, main_v8)
-- ==== Pre_mix_finite.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S1x2048 .f32) (main_arg2 : FVec F S4x512x512 .f32) (main_arg3 : FVec F S1x2048 .f32) : IVec S8192x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  (main_v2, main_v5)
-- ==== Pre_pool_finite.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S4x512x512 : S_.BroadcastsInDim S4x512x512 (![] : Fin 0 → Fin S4x512x512.rank)

variable [Facts]

def fn {F : FTy → Type} [FloatOps F] (main_arg0 : FVec F S8192x2048 .f32) (main_arg1 : FVec F S8192x2048 .f32) (main_arg2 : FVec F S1x2048 .f32) (main_arg3 : FVec F S4x512x512 .f32) (main_arg4 : FVec F S1x2048 .f32) : IVec S8192x2048 1 × IVec S8192x2048 1 × IVec S1x2048 1 × IVec S4x512x512 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4x512x512 .f32 := Host.absf main_arg3
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_rms_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S1x2048 .f32) (main_arg2 : FVec F S8192x2048 .f32) (main_arg3 : FVec F S8192x2048 .f32) : IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== RmsKernel.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AttnKernel.lean ====
abbrev S8192x2048 : Shape := ⟨2, ![8192, 2048]⟩
abbrev S16x192 : Shape := ⟨2, ![16, 192]⟩
abbrev S_ : Shape := ⟨0, ![]⟩
abbrev S8704x2048 : Shape := ⟨2, ![8704, 2048]⟩
abbrev S16x1 : Shape := ⟨2, ![16, 1]⟩
abbrev S16x448 : Shape := ⟨2, ![16, 448]⟩
abbrev S16x191 : Shape := ⟨2, ![16, 191]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x256x768 : Shape := ⟨3, ![16, 256, 768]⟩
abbrev S1 : Shape := ⟨1, ![1]⟩
abbrev S2 : Shape := ⟨1, ![2]⟩
abbrev S2048x128 : Shape := ⟨2, ![2048, 128]⟩
abbrev S8704x128 : Shape := ⟨2, ![8704, 128]⟩
abbrev S1x256x768 : Shape := ⟨3, ![1, 256, 768]⟩
abbrev S256x768 : Shape := ⟨2, ![256, 768]⟩
abbrev S256x128 : Shape := ⟨2, ![256, 128]⟩
abbrev S768x128 : Shape := ⟨2, ![768, 128]⟩
abbrev S1x768 : Shape := ⟨2, ![1, 768]⟩
abbrev S256 : Shape := ⟨1, ![256]⟩
abbrev S256x1 : Shape := ⟨2, ![256, 1]⟩

abbrev nBuf : Space → Nat
  | .hbm => 181
  | .vmem => 18
  | .smem => 0
  | _ => 0

abbrev hbmTy0_0 (i : Nat) : BufTy := match i % 128 with
  | 0 => ⟨S8192x2048, .bf16⟩
  | 1 => ⟨S8192x2048, .bf16⟩
  | 2 => ⟨S8192x2048, .bf16⟩
  | 3 => ⟨S16x192, .f32⟩
  | 4 => ⟨S8192x2048, .bf16⟩
  | 5 => ⟨S_, .i32⟩
  | 6 => ⟨S_, .bf16⟩
  | 7 => ⟨S8704x2048, .bf16⟩
  | 8 => ⟨S_, .i32⟩
  | 9 => ⟨S_, .bf16⟩
  | 10 => ⟨S8704x2048, .bf16⟩
  | 11 => ⟨S16x1, .f32⟩
  | 12 => ⟨S16x448, .f32⟩
  | 13 => ⟨S16x191, .f32⟩
  | 14 => ⟨S16x191, .f32⟩
  | 15 => ⟨S16x639, .f32⟩
  | 16 => ⟨S16x576, .f32⟩
  | 17 => ⟨S16x576, .f32⟩
  | 18 => ⟨S16x576, .f32⟩
  | 19 => ⟨S16x576, .f32⟩
  | 20 => ⟨S16x576, .f32⟩
  | 21 => ⟨S16x576, .f32⟩
  | 22 => ⟨S16x576, .f32⟩
  | 23 => ⟨S16x576, .f32⟩
  | 24 => ⟨S16x576, .f32⟩
  | 25 => ⟨S16x576, .f32⟩
  | 26 => ⟨S16x576, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x1x576, .f32⟩
  | 81 => ⟨S16x1x576, .f32⟩
  | 82 => ⟨S16x1x576, .f32⟩
  | 83 => ⟨S16x1x576, .f32⟩
  | 84 => ⟨S16x1x576, .f32⟩
  | 85 => ⟨S16x1x576, .f32⟩
  | 86 => ⟨S16x1x576, .f32⟩
  | 87 => ⟨S16x1x576, .f32⟩
  | 88 => ⟨S16x1x576, .f32⟩
  | 89 => ⟨S16x1x576, .f32⟩
  | 90 => ⟨S16x1x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S8192x2048, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x16x576, .f32⟩
  | 17 => ⟨S16x16x576, .f32⟩
  | 18 => ⟨S16x16x576, .f32⟩
  | 19 => ⟨S16x16x576, .f32⟩
  | 20 => ⟨S16x64x576, .f32⟩
  | 21 => ⟨S_, .f32⟩
  | 22 => ⟨S16x256x768, .f32⟩
  | 23 => ⟨S_, .i32⟩
  | 24 => ⟨S1, .i32⟩
  | 25 => ⟨S_, .i32⟩
  | 26 => ⟨S1, .i32⟩
  | 27 => ⟨S2, .i32⟩
  | 28 => ⟨S16x256x768, .f32⟩
  | 29 => ⟨S_, .i32⟩
  | 30 => ⟨S1, .i32⟩
  | 31 => ⟨S_, .i32⟩
  | 32 => ⟨S1, .i32⟩
  | 33 => ⟨S2, .i32⟩
  | 34 => ⟨S16x256x768, .f32⟩
  | 35 => ⟨S_, .i32⟩
  | 36 => ⟨S1, .i32⟩
  | 37 => ⟨S_, .i32⟩
  | 38 => ⟨S1, .i32⟩
  | 39 => ⟨S2, .i32⟩
  | 40 => ⟨S16x256x768, .f32⟩
  | 41 => ⟨S_, .i32⟩
  | 42 => ⟨S1, .i32⟩
  | 43 => ⟨S_, .i32⟩
  | 44 => ⟨S1, .i32⟩
  | 45 => ⟨S2, .i32⟩
  | 46 => ⟨S16x256x768, .f32⟩
  | 47 => ⟨S8192x2048, .f32⟩
  | 48 => ⟨S8704x2048, .f32⟩
  | 49 => ⟨S8704x2048, .f32⟩
  | 50 => ⟨S16x256x768, .f32⟩
  | 51 => ⟨S8192x2048, .f32⟩
  | 52 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x256x768, .f32⟩
  | .local _ .vmem, ⟨7, _⟩ => ⟨S1x256x768, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S1x256x768, .f32⟩
  | .local _ .vmem, ⟨17, _⟩ => ⟨S1x256x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_cst : Ref sig .tc := ⟨.hbm, 149, rfl⟩
abbrev main_v140 : Ref sig .tc := ⟨.hbm, 150, rfl⟩
abbrev main_c_1 : Ref sig .tc := ⟨.hbm, 151, rfl⟩
abbrev main_v141 : Ref sig .tc := ⟨.hbm, 152, rfl⟩
abbrev main_c_2 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_c_3 : Ref sig .tc := ⟨.hbm, 157, rfl⟩
abbrev main_v145 : Ref sig .tc := ⟨.hbm, 158, rfl⟩
abbrev main_c_4 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_c_5 : Ref sig .tc := ⟨.hbm, 163, rfl⟩
abbrev main_v149 : Ref sig .tc := ⟨.hbm, 164, rfl⟩
abbrev main_c_6 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_c_7 : Ref sig .tc := ⟨.hbm, 169, rfl⟩
abbrev main_v153 : Ref sig .tc := ⟨.hbm, 170, rfl⟩
abbrev main_c_8 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157_0 : Ref sig .tc := ⟨.hbm, 175, rfl⟩
abbrev main_v157_1 : Ref sig .tc := ⟨.hbm, 176, rfl⟩
abbrev main_v157_2 : Ref sig .tc := ⟨.hbm, 177, rfl⟩
abbrev main_v157_3 : Ref sig .tc := ⟨.hbm, 178, rfl⟩
abbrev main_v158 : Ref sig .tc := ⟨.hbm, 179, rfl⟩
abbrev main_v159 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c256_i32 : BitVec 32 := 256#32
  let v6 : BitVec 32 := Scalar.muli arg11 c256_i32
  v6
def k0_mult2 (i : grid0.Coords) (k0_t1 : Fin k0_t1_loop.trips) : BitVec 32 :=
  let arg1 : BitVec 32 := BitVec.ofNat 32 (i 1).val
  let c8_i32_4 : BitVec 32 := 8#32
  let v8 : BitVec 32 := Scalar.muli arg1 c8_i32_4
  let c0_i32_2 : BitVec 32 := 0#32
  let c1_i32 : BitVec 32 := 1#32
  let arg11 : BitVec 32 := Scf.iv c0_i32_2 c1_i32 k0_t1
  let v9 : BitVec 32 := Scalar.addi v8 arg11
  let c256_i32_5 : BitVec 32 := 256#32
  let v10 : BitVec 32 := Scalar.muli v9 c256_i32_5
  v10
def k0_off1 (k0_t1 : Fin k0_t1_loop.trips) : Fin 2 → Nat :=
  let c0_i32_2 : BitVec 32 := 0#32
  let c1_i32 : BitVec 32 := 1#32
  let arg11 : BitVec 32 := Scf.iv c0_i32_2 c1_i32 k0_t1
  let c256_i32 : BitVec 32 := 256#32
  let v6 : BitVec 32 := Scalar.muli arg11 c256_i32
  let v7 : BitVec 32 := v6
  let v12 : Index := Scalar.indexCast v7
  let c0_6 : Index := 0#32
  ![v12.toNat, 0]
def k0_off2 (i : grid0.Coords) (k0_t1 : Fin k0_t1_loop.trips) : Fin 2 → Nat :=
  let arg1 : BitVec 32 := BitVec.ofNat 32 (i 1).val
  let c8_i32_4 : BitVec 32 := 8#32
  let v8 : BitVec 32 := Scalar.muli arg1 c8_i32_4
  let c0_i32_2 : BitVec 32 := 0#32
  let c1_i32 : BitVec 32 := 1#32
  let arg11 : BitVec 32 := Scf.iv c0_i32_2 c1_i32 k0_t1
  let v9 : BitVec 32 := Scalar.addi v8 arg11
  let c256_i32_5 : BitVec 32 := 256#32
  let v10 : BitVec 32 := Scalar.muli v9 c256_i32_5
  let v11 : BitVec 32 := v10
  let v16 : Index := Scalar.indexCast v11
  let c0_8 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnKernelIdeal.lean ====
variable {F : FTy → Type} [FloatOps F] [Named F]
def κ : String → Option EReal := fun
  | "mask" => some ⊥
  | _ => none
-- ==== AttnReferenceIdeal.lean ====
abbrev S8192x2048 : Shape := ⟨2, ![8192, 2048]⟩
abbrev S16x192 : Shape := ⟨2, ![16, 192]⟩
abbrev S_ : Shape := ⟨0, ![]⟩
abbrev S512x16x128 : Shape := ⟨3, ![512, 16, 128]⟩
abbrev S8192x16x128 : Shape := ⟨3, ![8192, 16, 128]⟩
abbrev S8704x16x128 : Shape := ⟨3, ![8704, 16, 128]⟩
abbrev S128x64x16x128 : Shape := ⟨4, ![128, 64, 16, 128]⟩
abbrev S64x576 : Shape := ⟨2, ![64, 576]⟩
abbrev S64x576x1 : Shape := ⟨3, ![64, 576, 1]⟩
abbrev S16x64x576 : Shape := ⟨3, ![16, 64, 576]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩
abbrev S128x16x128x576 : Shape := ⟨4, ![128, 16, 128, 576]⟩
abbrev S128x16x576x128 : Shape := ⟨4, ![128, 16, 576, 128]⟩
abbrev S128x16x64x128 : Shape := ⟨4, ![128, 16, 64, 128]⟩

abbrev nBuf : Space → Nat
  | .hbm => 124
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S16x192, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S512x16x128, .f32⟩
  | .hbm, ⟨10, _⟩ => ⟨S8192x16x128, .f32⟩
  | .hbm, ⟨11, _⟩ => ⟨S8704x16x128, .f32⟩
  | .hbm, ⟨12, _⟩ => ⟨S_, .f32⟩
  | .hbm, ⟨13, _⟩ => ⟨S512x16x128, .f32⟩
  | .hbm, ⟨14, _⟩ => ⟨S8192x16x128, .f32⟩
  | .hbm, ⟨15, _⟩ => ⟨S8704x16x128, .f32⟩
  | .hbm, ⟨16, _⟩ => ⟨S_, .f32⟩
  | .hbm, ⟨17, _⟩ => ⟨S512x16x128, .f32⟩
  | .hbm, ⟨18, _⟩ => ⟨S128x64x16x128, .f32⟩
  | .hbm, ⟨19, _⟩ => ⟨S64x576, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S64x576x1, .i32⟩
  | .hbm, ⟨35, _⟩ => ⟨S16x64x576, .f32⟩
  | .hbm, ⟨36, _⟩ => ⟨S128x576, .i32⟩
  | .hbm, ⟨37, _⟩ => ⟨S_, .i32⟩
  | .hbm, ⟨38, _⟩ => ⟨S128x576, .i32⟩
  | .hbm, ⟨39, _⟩ => ⟨S128x576, .i32⟩
  | .hbm, ⟨40, _⟩ => ⟨S128x576, .i32⟩
  | .hbm, ⟨41, _⟩ => ⟨S128x576, .i32⟩
  | .hbm, ⟨42, _⟩ => ⟨S128x576x1, .i32⟩
  | .hbm, ⟨43, _⟩ => ⟨S128x576x16x128, .f32⟩
  | .hbm, ⟨44, _⟩ => ⟨S128x576x1, .i32⟩
  | .hbm, ⟨45, _⟩ => ⟨S128x576x16x128, .f32⟩
  | .hbm, ⟨46, _⟩ => ⟨S128x16x64x576, .f32⟩
  | .hbm, ⟨47, _⟩ => ⟨S_, .f32⟩
  | .hbm, ⟨48, _⟩ => ⟨S128x16x64x576, .f32⟩
  | .hbm, ⟨49, _⟩ => ⟨S128x16x64x576, .f32⟩
  | .hbm, ⟨50, _⟩ => ⟨S1x16x64x576, .f32⟩
  | .hbm, ⟨51, _⟩ => ⟨S128x16x64x576, .f32⟩
  | .hbm, ⟨52, _⟩ => ⟨S128x16x64x576, .f32⟩
  | .hbm, ⟨53, _⟩ => ⟨S_, .i32⟩
  | .hbm, ⟨54, _⟩ => ⟨S128x576, .i32⟩
  | .hbm, ⟨55, _⟩ => ⟨S128x576, .i1⟩
  | .hbm, ⟨56, _⟩ => ⟨S128x16x64x576, .i1⟩
  | .hbm, ⟨57, _⟩ => ⟨S_, .f32⟩
  | .hbm, ⟨58, _⟩ => ⟨S16x64x576, .f32⟩
  | .hbm, ⟨59, _⟩ => ⟨S128x16x64x576, .f32⟩
  | .hbm, ⟨60, _⟩ => ⟨S128x16x64x576, .f32⟩
  | .hbm, ⟨61, _⟩ => ⟨S_, .f32⟩
  | .hbm, ⟨62, _⟩ => ⟨S128x16x64x576, .f32⟩
  | .hbm, ⟨63, _⟩ => ⟨S_, .f32⟩
  | .hbm, ⟨64, _⟩ => ⟨S128x16x64, .f32⟩
  | .hbm, ⟨65, _⟩ => ⟨S128x16x64x1, .f32⟩
  | .hbm, ⟨66, _⟩ => ⟨S128x16x64x576, .f32⟩
  | .hbm, ⟨67, _⟩ => ⟨S128x16x64x576, .f32⟩
  | .hbm, ⟨68, _⟩ => ⟨S128x16x64x576, .f32⟩
  | .hbm, ⟨69, _⟩ => ⟨S_, .f32⟩
  | .hbm, ⟨70, _⟩ => ⟨S128x16x64, .f32⟩
  | .hbm, ⟨71, _⟩ => ⟨S128x16x64x1, .f32⟩
  | .hbm, ⟨72, _⟩ => ⟨S128x16x64x576, .f32⟩
  | .hbm, ⟨73, _⟩ => ⟨S128x16x64x576, .f32⟩
  | .hbm, ⟨74, _⟩ => ⟨S128x16x64x1, .f32⟩
  | .hbm, ⟨75, _⟩ => ⟨S_, .f32⟩
  | .hbm, ⟨76, _⟩ => ⟨S128x16x64x1, .f32⟩
  | .hbm, ⟨77, _⟩ => ⟨S128x16x64x1, .f32⟩
  | .hbm, ⟨78, _⟩ => ⟨S128x16x128x64, .f32⟩
  | .hbm, ⟨79, _⟩ => ⟨S128x64x16x128, .f32⟩
  | .hbm, ⟨80, _⟩ => ⟨S8192x2048, .f32⟩
  | .hbm, ⟨81, _⟩ => ⟨S8192x2048, .f32⟩
  | .hbm, ⟨82, _⟩ => ⟨S128x64x16x128, .f32⟩
  | .hbm, ⟨83, _⟩ => ⟨S128x16x128x64, .f32⟩
  | .hbm, ⟨84, _⟩ => ⟨S128x16x64x576, .f32⟩
  | .hbm, ⟨85, _⟩ => ⟨S128x16x128x576, .f32⟩
  | .hbm, ⟨86, _⟩ => ⟨S128x576x16x128, .f32⟩
  | .hbm, ⟨87, _⟩ => ⟨S128x16x64x576, .f32⟩
  | .hbm, ⟨88, _⟩ => ⟨S128x16x64x576, .f32⟩
  | .hbm, ⟨89, _⟩ => ⟨S128x16x64x576, .f32⟩
  | .hbm, ⟨90, _⟩ => ⟨S_, .f32⟩
  | .hbm, ⟨91, _⟩ => ⟨S128x16x64, .f32⟩
  | .hbm, ⟨92, _⟩ => ⟨S128x16x64x1, .f32⟩
  | .hbm, ⟨93, _⟩ => ⟨S128x16x64x1, .f32⟩
  | .hbm, ⟨94, _⟩ => ⟨S128x16x64x576, .f32⟩
  | .hbm, ⟨95, _⟩ => ⟨S128x16x64x576, .f32⟩
  | .hbm, ⟨96, _⟩ => ⟨S_, .f32⟩
  | .hbm, ⟨97, _⟩ => ⟨S128x16x64, .f32⟩
  | .hbm, ⟨98, _⟩ => ⟨S128x16x64x576, .f32⟩
  | .hbm, ⟨99, _⟩ => ⟨S128x16x64x576, .f32⟩
  | .hbm, ⟨100, _⟩ => ⟨S128x16x64x576, .f32⟩
  | .hbm, ⟨101, _⟩ => ⟨S_, .f32⟩
  | .hbm, ⟨102, _⟩ => ⟨S128x16x64x576, .f32⟩
  | .hbm, ⟨103, _⟩ => ⟨S128x16x64x576, .f32⟩
  | .hbm, ⟨104, _⟩ => ⟨S_, .f32⟩
  | .hbm, ⟨105, _⟩ => ⟨S128x16x64x576, .f32⟩
  | .hbm, ⟨106, _⟩ => ⟨S128x16x64x576, .f32⟩
  | .hbm, ⟨107, _⟩ => ⟨S128x16x576x128, .f32⟩
  | .hbm, ⟨108, _⟩ => ⟨S128x576x16x128, .f32⟩
  | .hbm, ⟨109, _⟩ => ⟨S128x16x64x128, .f32⟩
  | .hbm, ⟨110, _⟩ => ⟨S128x64x16x128, .f32⟩
  | .hbm, ⟨111, _⟩ => ⟨S_, .f32⟩
  | .hbm, ⟨112, _⟩ => ⟨S8704x16x128, .f32⟩
  | .hbm, ⟨113, _⟩ => ⟨S8704x16x128, .f32⟩
  | .hbm, ⟨114, _⟩ => ⟨S_, .f32⟩
  | .hbm, ⟨115, _⟩ => ⟨S8704x16x128, .f32⟩
  | .hbm, ⟨116, _⟩ => ⟨S8704x16x128, .f32⟩
  | .hbm, ⟨117, _⟩ => ⟨S8192x2048, .f32⟩
  | .hbm, ⟨118, _⟩ => ⟨S512x16x128, .f32⟩
  | .hbm, ⟨119, _⟩ => ⟨S8192x16x128, .f32⟩
  | .hbm, ⟨120, _⟩ => ⟨S8192x2048, .f32⟩
  | .hbm, ⟨121, _⟩ => ⟨S512x16x128, .f32⟩
  | .hbm, ⟨122, _⟩ => ⟨S8192x16x128, .f32⟩
  | .hbm, ⟨123, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== FwdKernel.lean ====
abbrev S8192x2048 : Shape := ⟨2, ![8192, 2048]⟩
abbrev S16x192 : Shape := ⟨2, ![16, 192]⟩
abbrev S_ : Shape := ⟨0, ![]⟩
abbrev S8704x2048 : Shape := ⟨2, ![8704, 2048]⟩
abbrev S16x1 : Shape := ⟨2, ![16, 1]⟩
abbrev S16x448 : Shape := ⟨2, ![16, 448]⟩
abbrev S16x191 : Shape := ⟨2, ![16, 191]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x256x768 : Shape := ⟨3, ![16, 256, 768]⟩
abbrev S1 : Shape := ⟨1, ![1]⟩
abbrev S2 : Shape := ⟨1, ![2]⟩
abbrev S2048x128 : Shape := ⟨2, ![2048, 128]⟩
abbrev S8704x128 : Shape := ⟨2, ![8704, 128]⟩
abbrev S1x256x768 : Shape := ⟨3, ![1, 256, 768]⟩
abbrev S256x128 : Shape := ⟨2, ![256, 128]⟩
abbrev S768x128 : Shape := ⟨2, ![768, 128]⟩
abbrev S256x768 : Shape := ⟨2, ![256, 768]⟩
abbrev S1x768 : Shape := ⟨2, ![1, 768]⟩
abbrev S256 : Shape := ⟨1, ![256]⟩
abbrev S256x1 : Shape := ⟨2, ![256, 1]⟩

abbrev nBuf : Space → Nat
  | .hbm => 175
  | .vmem => 10
  | .smem => 0
  | _ => 0

abbrev hbmTy0_0 (i : Nat) : BufTy := match i % 128 with
  | 0 => ⟨S8192x2048, .bf16⟩
  | 1 => ⟨S8192x2048, .bf16⟩
  | 2 => ⟨S8192x2048, .bf16⟩
  | 3 => ⟨S16x192, .f32⟩
  | 4 => ⟨S_, .i32⟩
  | 5 => ⟨S_, .bf16⟩
  | 6 => ⟨S8704x2048, .bf16⟩
  | 7 => ⟨S_, .i32⟩
  | 8 => ⟨S_, .bf16⟩
  | 9 => ⟨S8704x2048, .bf16⟩
  | 10 => ⟨S16x1, .f32⟩
  | 11 => ⟨S16x448, .f32⟩
  | 12 => ⟨S16x191, .f32⟩
  | 13 => ⟨S16x191, .f32⟩
  | 14 => ⟨S16x639, .f32⟩
  | 15 => ⟨S16x576, .f32⟩
  | 16 => ⟨S16x576, .f32⟩
  | 17 => ⟨S16x576, .f32⟩
  | 18 => ⟨S16x576, .f32⟩
  | 19 => ⟨S16x576, .f32⟩
  | 20 => ⟨S16x576, .f32⟩
  | 21 => ⟨S16x576, .f32⟩
  | 22 => ⟨S16x576, .f32⟩
  | 23 => ⟨S16x576, .f32⟩
  | 24 => ⟨S16x576, .f32⟩
  | 25 => ⟨S16x576, .f32⟩
  | 26 => ⟨S16x576, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x1x576, .f32⟩
  | 80 => ⟨S16x1x576, .f32⟩
  | 81 => ⟨S16x1x576, .f32⟩
  | 82 => ⟨S16x1x576, .f32⟩
  | 83 => ⟨S16x1x576, .f32⟩
  | 84 => ⟨S16x1x576, .f32⟩
  | 85 => ⟨S16x1x576, .f32⟩
  | 86 => ⟨S16x1x576, .f32⟩
  | 87 => ⟨S16x1x576, .f32⟩
  | 88 => ⟨S16x1x576, .f32⟩
  | 89 => ⟨S16x1x576, .f32⟩
  | 90 => ⟨S16x1x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S8192x2048, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x16x576, .f32⟩
  | 16 => ⟨S16x16x576, .f32⟩
  | 17 => ⟨S16x16x576, .f32⟩
  | 18 => ⟨S16x16x576, .f32⟩
  | 19 => ⟨S16x64x576, .f32⟩
  | 20 => ⟨S_, .f32⟩
  | 21 => ⟨S16x256x768, .f32⟩
  | 22 => ⟨S_, .i32⟩
  | 23 => ⟨S1, .i32⟩
  | 24 => ⟨S_, .i32⟩
  | 25 => ⟨S1, .i32⟩
  | 26 => ⟨S2, .i32⟩
  | 27 => ⟨S16x256x768, .f32⟩
  | 28 => ⟨S_, .i32⟩
  | 29 => ⟨S1, .i32⟩
  | 30 => ⟨S_, .i32⟩
  | 31 => ⟨S1, .i32⟩
  | 32 => ⟨S2, .i32⟩
  | 33 => ⟨S16x256x768, .f32⟩
  | 34 => ⟨S_, .i32⟩
  | 35 => ⟨S1, .i32⟩
  | 36 => ⟨S_, .i32⟩
  | 37 => ⟨S1, .i32⟩
  | 38 => ⟨S2, .i32⟩
  | 39 => ⟨S16x256x768, .f32⟩
  | 40 => ⟨S_, .i32⟩
  | 41 => ⟨S1, .i32⟩
  | 42 => ⟨S_, .i32⟩
  | 43 => ⟨S1, .i32⟩
  | 44 => ⟨S2, .i32⟩
  | 45 => ⟨S16x256x768, .f32⟩
  | 46 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x256x768, .f32⟩
  | .local _ .vmem, ⟨7, _⟩ => ⟨S1x256x768, .f32⟩
  | .local _ .vmem, ⟨8, _⟩ => ⟨S2048x128, .bf16⟩
  | .local _ .vmem, ⟨9, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_cst : Ref sig .tc := ⟨.hbm, 148, rfl⟩
abbrev main_v140 : Ref sig .tc := ⟨.hbm, 149, rfl⟩
abbrev main_c_1 : Ref sig .tc := ⟨.hbm, 150, rfl⟩
abbrev main_v141 : Ref sig .tc := ⟨.hbm, 151, rfl⟩
abbrev main_c_2 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_c_3 : Ref sig .tc := ⟨.hbm, 156, rfl⟩
abbrev main_v145 : Ref sig .tc := ⟨.hbm, 157, rfl⟩
abbrev main_c_4 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_c_5 : Ref sig .tc := ⟨.hbm, 162, rfl⟩
abbrev main_v149 : Ref sig .tc := ⟨.hbm, 163, rfl⟩
abbrev main_c_6 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_c_7 : Ref sig .tc := ⟨.hbm, 168, rfl⟩
abbrev main_v153 : Ref sig .tc := ⟨.hbm, 169, rfl⟩
abbrev main_c_8 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c256_i32 : BitVec 32 := 256#32
  let v2 : BitVec 32 := Scalar.muli v1 c256_i32
  v2
def k0_off1 (i : grid0.Coords) (c0_i32 : BitVec 32) : Fin 2 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let c256_i32 : BitVec 32 := 256#32
  let v2 : BitVec 32 := Scalar.muli v1 c256_i32
  let v3 : BitVec 32 := v2
  let v5 : Index := Scalar.indexCast v3
  let c0_1 : Index := 0#32
  ![v5.toNat, 0]
def k0_mult2 (i : grid0.Coords) : BitVec 32 :=
  let arg1 : BitVec 32 := BitVec.ofNat 32 (i 1).val
  let c8_i32_13 : BitVec 32 := 8#32
  let v39 : BitVec 32 := Scalar.muli arg1 c8_i32_13
  let c1_i32 : BitVec 32 := 1#32
  let v40 : BitVec 32 := Scalar.addi v39 c1_i32
  let c256_i32_14 : BitVec 32 := 256#32
  let v41 : BitVec 32 := Scalar.muli v40 c256_i32_14
  v41
def k0_mult3 (i : grid0.Coords) : BitVec 32 :=
  let arg1 : BitVec 32 := BitVec.ofNat 32 (i 1).val
  let c8_i32_30 : BitVec 32 := 8#32
  let v78 : BitVec 32 := Scalar.muli arg1 c8_i32_30
  let c2_i32 : BitVec 32 := 2#32
  let v79 : BitVec 32 := Scalar.addi v78 c2_i32
  let c256_i32_31 : BitVec 32 := 256#32
  let v80 : BitVec 32 := Scalar.muli v79 c256_i32_31
  v80
def k0_mult4 (i : grid0.Coords) : BitVec 32 :=
  let arg1 : BitVec 32 := BitVec.ofNat 32 (i 1).val
  let c8_i32_47 : BitVec 32 := 8#32
  let v117 : BitVec 32 := Scalar.muli arg1 c8_i32_47
  let c3_i32 : BitVec 32 := 3#32
  let v118 : BitVec 32 := Scalar.addi v117 c3_i32
  let c256_i32_48 : BitVec 32 := 256#32
  let v119 : BitVec 32 := Scalar.muli v118 c256_i32_48
  v119
def k0_mult5 (i : grid0.Coords) : BitVec 32 :=
  let arg1 : BitVec 32 := BitVec.ofNat 32 (i 1).val
  let c8_i32_64 : BitVec 32 := 8#32
  let v156 : BitVec 32 := Scalar.muli arg1 c8_i32_64
  let c4_i32 : BitVec 32 := 4#32
  let v157 : BitVec 32 := Scalar.addi v156 c4_i32
  let c256_i32_65 : BitVec 32 := 256#32
  let v158 : BitVec 32 := Scalar.muli v157 c256_i32_65
  v158
def k0_mult6 (i : grid0.Coords) : BitVec 32 :=
  let arg1 : BitVec 32 := BitVec.ofNat 32 (i 1).val
  let c8_i32_81 : BitVec 32 := 8#32
  let v195 : BitVec 32 := Scalar.muli arg1 c8_i32_81
  let c5_i32 : BitVec 32 := 5#32
  let v196 : BitVec 32 := Scalar.addi v195 c5_i32
  let c256_i32_82 : BitVec 32 := 256#32
  let v197 : BitVec 32 := Scalar.muli v196 c256_i32_82
  v197
def k0_mult7 (i : grid0.Coords) : BitVec 32 :=
  let arg1 : BitVec 32 := BitVec.ofNat 32 (i 1).val
  let c8_i32_98 : BitVec 32 := 8#32
  let v234 : BitVec 32 := Scalar.muli arg1 c8_i32_98
  let c6_i32 : BitVec 32 := 6#32
  let v235 : BitVec 32 := Scalar.addi v234 c6_i32
  let c256_i32_99 : BitVec 32 := 256#32
  let v236 : BitVec 32 := Scalar.muli v235 c256_i32_99
  v236
def k0_mult8 (i : grid0.Coords) : BitVec 32 :=
  let arg1 : BitVec 32 := BitVec.ofNat 32 (i 1).val
  let c8_i32_115 : BitVec 32 := 8#32
  let v273 : BitVec 32 := Scalar.muli arg1 c8_i32_115
  let c7_i32 : BitVec 32 := 7#32
  let v274 : BitVec 32 := Scalar.addi v273 c7_i32
  let c256_i32_116 : BitVec 32 := 256#32
  let v275 : BitVec 32 := Scalar.muli v274 c256_i32_116
  v275
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdKernelIdeal.lean ====
variable {F : FTy → Type} [FloatOps F] [Named F]
def κ : String → Option EReal := fun
  | "mask" => some ⊥
  | _ => none
-- ==== FwdReferenceIdeal.lean ====
abbrev S8192x2048 : Shape := ⟨2, ![8192, 2048]⟩
abbrev S16x192 : Shape := ⟨2, ![16, 192]⟩
abbrev S_ : Shape := ⟨0, ![]⟩
abbrev S512x16x128 : Shape := ⟨3, ![512, 16, 128]⟩
abbrev S8192x16x128 : Shape := ⟨3, ![8192, 16, 128]⟩
abbrev S8704x16x128 : Shape := ⟨3, ![8704, 16, 128]⟩
abbrev S128x64x16x128 : Shape := ⟨4, ![128, 64, 16, 128]⟩
abbrev S64x576 : Shape := ⟨2, ![64, 576]⟩
abbrev S64x576x1 : Shape := ⟨3, ![64, 576, 1]⟩
abbrev S16x64x576 : Shape := ⟨3, ![16, 64, 576]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S16x192, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S512x16x128, .f32⟩
  | .hbm, ⟨9, _⟩ => ⟨S8192x16x128, .f32⟩
  | .hbm, ⟨10, _⟩ => ⟨S8704x16x128, .f32⟩
  | .hbm, ⟨11, _⟩ => ⟨S8192x16x128, .f32⟩
  | .hbm, ⟨12, _⟩ => ⟨S8704x16x128, .f32⟩
  | .hbm, ⟨13, _⟩ => ⟨S128x64x16x128, .f32⟩
  | .hbm, ⟨14, _⟩ => ⟨S64x576, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S16x64x576, .f32⟩
  | .hbm, ⟨31, _⟩ => ⟨S128x576, .i32⟩
  | .hbm, ⟨32, _⟩ => ⟨S_, .i32⟩
  | .hbm, ⟨33, _⟩ => ⟨S128x576, .i32⟩
  | .hbm, ⟨34, _⟩ => ⟨S128x576, .i32⟩
  | .hbm, ⟨35, _⟩ => ⟨S128x576, .i32⟩
  | .hbm, ⟨36, _⟩ => ⟨S128x576, .i32⟩
  | .hbm, ⟨37, _⟩ => ⟨S128x576x1, .i32⟩
  | .hbm, ⟨38, _⟩ => ⟨S128x576x16x128, .f32⟩
  | .hbm, ⟨39, _⟩ => ⟨S128x576x1, .i32⟩
  | .hbm, ⟨40, _⟩ => ⟨S128x576x16x128, .f32⟩
  | .hbm, ⟨41, _⟩ => ⟨S128x16x64x576, .f32⟩
  | .hbm, ⟨42, _⟩ => ⟨S_, .f32⟩
  | .hbm, ⟨43, _⟩ => ⟨S128x16x64x576, .f32⟩
  | .hbm, ⟨44, _⟩ => ⟨S128x16x64x576, .f32⟩
  | .hbm, ⟨45, _⟩ => ⟨S1x16x64x576, .f32⟩
  | .hbm, ⟨46, _⟩ => ⟨S128x16x64x576, .f32⟩
  | .hbm, ⟨47, _⟩ => ⟨S128x16x64x576, .f32⟩
  | .hbm, ⟨48, _⟩ => ⟨S_, .i32⟩
  | .hbm, ⟨49, _⟩ => ⟨S128x576, .i32⟩
  | .hbm, ⟨50, _⟩ => ⟨S128x576, .i1⟩
  | .hbm, ⟨51, _⟩ => ⟨S128x16x64x576, .i1⟩
  | .hbm, ⟨52, _⟩ => ⟨S_, .f32⟩
  | .hbm, ⟨53, _⟩ => ⟨S16x64x576, .f32⟩
  | .hbm, ⟨54, _⟩ => ⟨S128x16x64x576, .f32⟩
  | .hbm, ⟨55, _⟩ => ⟨S128x16x64x576, .f32⟩
  | .hbm, ⟨56, _⟩ => ⟨S_, .f32⟩
  | .hbm, ⟨57, _⟩ => ⟨S128x16x64, .f32⟩
  | .hbm, ⟨58, _⟩ => ⟨S128x16x64x1, .f32⟩
  | .hbm, ⟨59, _⟩ => ⟨S128x16x64x576, .f32⟩
  | .hbm, ⟨60, _⟩ => ⟨S128x16x64x576, .f32⟩
  | .hbm, ⟨61, _⟩ => ⟨S128x16x64x576, .f32⟩
  | .hbm, ⟨62, _⟩ => ⟨S_, .f32⟩
  | .hbm, ⟨63, _⟩ => ⟨S128x16x64, .f32⟩
  | .hbm, ⟨64, _⟩ => ⟨S128x16x64x1, .f32⟩
  | .hbm, ⟨65, _⟩ => ⟨S128x16x64x576, .f32⟩
  | .hbm, ⟨66, _⟩ => ⟨S128x16x64x576, .f32⟩
  | .hbm, ⟨67, _⟩ => ⟨S128x16x128x64, .f32⟩
  | .hbm, ⟨68, _⟩ => ⟨S128x64x16x128, .f32⟩
  | .hbm, ⟨69, _⟩ => ⟨S8192x2048, .f32⟩
  | .hbm, ⟨70, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== HeadKernel.lean ====
abbrev S8192x2048 : Shape := ⟨2, ![8192, 2048]⟩
abbrev S1x128 : Shape := ⟨2, ![1, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x128, .f32⟩
  | .hbm, ⟨3, _⟩ => ⟨S8192x2048, .bf16⟩
  | .hbm, ⟨4, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== HeadReferenceIdeal.lean ====
abbrev S8192x2048 : Shape := ⟨2, ![8192, 2048]⟩
abbrev S1x128 : Shape := ⟨2, ![1, 128]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S128 : Shape := ⟨1, ![128]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x128, .f32⟩
  | .hbm, ⟨3, _⟩ => ⟨S8192x16x128, .f32⟩
  | .hbm, ⟨4, _⟩ => ⟨S8192x16x128, .f32⟩
  | .hbm, ⟨5, _⟩ => ⟨S_, .f32⟩
  | .hbm, ⟨6, _⟩ => ⟨S8192x16, .f32⟩
  | .hbm, ⟨7, _⟩ => ⟨S8192x16x1, .f32⟩
  | .hbm, ⟨8, _⟩ => ⟨S_, .f32⟩
  | .hbm, ⟨9, _⟩ => ⟨S8192x16x1, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x128, .f32⟩
  | .hbm, ⟨20, _⟩ => ⟨S8192x16x128, .f32⟩
  | .hbm, ⟨21, _⟩ => ⟨S1x1x128, .f32⟩
  | .hbm, ⟨22, _⟩ => ⟨S8192x16x128, .f32⟩
  | .hbm, ⟨23, _⟩ => ⟨S8192x16x128, .f32⟩
  | .hbm, ⟨24, _⟩ => ⟨S8192x2048, .f32⟩
  | .hbm, ⟨25, _⟩ => ⟨S8192x16x128, .f32⟩
  | .hbm, ⟨26, _⟩ => ⟨S8192x16x128, .f32⟩
  | .hbm, ⟨27, _⟩ => ⟨S_, .f32⟩
  | .hbm, ⟨28, _⟩ => ⟨S128, .f32⟩
  | .hbm, ⟨29, _⟩ => ⟨S1x1x128, .f32⟩
  | .hbm, ⟨30, _⟩ => ⟨S8192x16x128, .f32⟩
  | .hbm, ⟨31, _⟩ => ⟨S8192x16x128, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S8192x16x128, .f32⟩
  | .hbm, ⟨36, _⟩ => ⟨S_, .f32⟩
  | .hbm, ⟨37, _⟩ => ⟨S8192x16, .f32⟩
  | .hbm, ⟨38, _⟩ => ⟨S8192x16x1, .f32⟩
  | .hbm, ⟨39, _⟩ => ⟨S8192x16x128, .f32⟩
  | .hbm, ⟨40, _⟩ => ⟨S8192x16x128, .f32⟩
  | .hbm, ⟨41, _⟩ => ⟨S8192x16x1, .f32⟩
  | .hbm, ⟨42, _⟩ => ⟨S_, .f32⟩
  | .hbm, ⟨43, _⟩ => ⟨S8192x16x1, .f32⟩
  | .hbm, ⟨44, _⟩ => ⟨S8192x16x1, .f32⟩
  | .hbm, ⟨45, _⟩ => ⟨S_, .f32⟩
  | .hbm, ⟨46, _⟩ => ⟨S8192x16, .f32⟩
  | .hbm, ⟨47, _⟩ => ⟨S8192x16x128, .f32⟩
  | .hbm, ⟨48, _⟩ => ⟨S8192x16x128, .f32⟩
  | .hbm, ⟨49, _⟩ => ⟨S8192x16x128, .f32⟩
  | .hbm, ⟨50, _⟩ => ⟨S8192x16x128, .f32⟩
  | .hbm, ⟨51, _⟩ => ⟨S8192x16x128, .f32⟩
  | .hbm, ⟨52, _⟩ => ⟨S8192x2048, .f32⟩
  | .hbm, ⟨53, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== LossKernel.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x2048 : Shape := ⟨2, ![8192, 2048]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== HiddenKernel.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S8192x5632 : Shape := ⟨2, ![8192, 5632]⟩
abbrev S512x2048 : Shape := ⟨2, ![512, 2048]⟩
abbrev S512x512 : Shape := ⟨2, ![512, 512]⟩
abbrev S256x2048 : Shape := ⟨2, ![256, 2048]⟩
abbrev S512x256 : Shape := ⟨2, ![512, 256]⟩

abbrev nBuf : Space → Nat
  | .hbm => 47
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .f32⟩
  | .hbm, ⟨7, _⟩ => ⟨S5504x2048, .f32⟩
  | .hbm, ⟨8, _⟩ => ⟨S5504x2048, .bf16⟩
  | .hbm, ⟨9, _⟩ => ⟨S_, .i32⟩
  | .hbm, ⟨10, _⟩ => ⟨S_, .bf16⟩
  | .hbm, ⟨11, _⟩ => ⟨S5632x2048, .bf16⟩
  | .hbm, ⟨12, _⟩ => ⟨S5504x2048, .bf16⟩
  | .hbm, ⟨13, _⟩ => ⟨S_, .i32⟩
  | .hbm, ⟨14, _⟩ => ⟨S_, .bf16⟩
  | .hbm, ⟨15, _⟩ => ⟨S5632x2048, .bf16⟩
  | .hbm, ⟨16, _⟩ => ⟨S5504x2048, .bf16⟩
  | .hbm, ⟨17, _⟩ => ⟨S_, .i32⟩
  | .hbm, ⟨18, _⟩ => ⟨S_, .bf16⟩
  | .hbm, ⟨19, _⟩ => ⟨S5632x2048, .bf16⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S5632x2048, .f32⟩
  | .hbm, ⟨38, _⟩ => ⟨S8192x5632, .f32⟩
  | .hbm, ⟨39, _⟩ => ⟨S8192x5632, .bf16⟩
  | .hbm, ⟨40, _⟩ => ⟨S8192x2048, .f32⟩
  | .hbm, ⟨41, _⟩ => ⟨S5632x2048, .f32⟩
  | .hbm, ⟨42, _⟩ => ⟨S8192x5632, .f32⟩
  | .hbm, ⟨43, _⟩ => ⟨S8192x5632, .bf16⟩
  | .hbm, ⟨44, _⟩ => ⟨S8192x5632, .bf16⟩
  | .hbm, ⟨45, _⟩ => ⟨S8192x5632, .bf16⟩
  | .hbm, ⟨46, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HiddenReferenceIdeal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S8192x5632 : Shape := ⟨2, ![8192, 5632]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x5504, .f32⟩
  | .hbm, ⟨22, _⟩ => ⟨S8192x5504, .f32⟩
  | .hbm, ⟨23, _⟩ => ⟨S8192x5504, .f32⟩
  | .hbm, ⟨24, _⟩ => ⟨S8192x5504, .f32⟩
  | .hbm, ⟨25, _⟩ => ⟨S_, .f32⟩
  | .hbm, ⟨26, _⟩ => ⟨S8192x5504, .f32⟩
  | .hbm, ⟨27, _⟩ => ⟨S8192x5504, .f32⟩
  | .hbm, ⟨28, _⟩ => ⟨S_, .f32⟩
  | .hbm, ⟨29, _⟩ => ⟨S8192x5504, .f32⟩
  | .hbm, ⟨30, _⟩ => ⟨S8192x5504, .f32⟩
  | .hbm, ⟨31, _⟩ => ⟨S_, .f32⟩
  | .hbm, ⟨32, _⟩ => ⟨S8192x5504, .f32⟩
  | .hbm, ⟨33, _⟩ => ⟨S8192x5504, .f32⟩
  | .hbm, ⟨34, _⟩ => ⟨S8192x5504, .f32⟩
  | .hbm, ⟨35, _⟩ => ⟨S8192x5504, .f32⟩
  | .hbm, ⟨36, _⟩ => ⟨S8192x5504, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x5504, .f32⟩
  | .hbm, ⟨46, _⟩ => ⟨S8192x5504, .f32⟩
  | .hbm, ⟨47, _⟩ => ⟨S8192x5504, .f32⟩
  | .hbm, ⟨48, _⟩ => ⟨S8192x5504, .f32⟩
  | .hbm, ⟨49, _⟩ => ⟨S8192x5504, .f32⟩
  | .hbm, ⟨50, _⟩ => ⟨S8192x5504, .f32⟩
  | .hbm, ⟨51, _⟩ => ⟨S8192x5504, .f32⟩
  | .hbm, ⟨52, _⟩ => ⟨S_, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .i32⟩
  | .hbm, ⟨62, _⟩ => ⟨S_, .f32⟩
  | .hbm, ⟨63, _⟩ => ⟨S8192x5632, .f32⟩
  | .hbm, ⟨64, _⟩ => ⟨S8192x5632, .bf16⟩
  | .hbm, ⟨65, _⟩ => ⟨S_, .i32⟩
  | .hbm, ⟨66, _⟩ => ⟨S_, .f32⟩
  | .hbm, ⟨67, _⟩ => ⟨S8192x5632, .f32⟩
  | .hbm, ⟨68, _⟩ => ⟨S8192x5632, .bf16⟩
  | .hbm, ⟨69, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_c : Ref sig .tc := ⟨.hbm, 61, rfl⟩
abbrev main_call2_v0 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_call3_v0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== InputKernel.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S8192x5632 : Shape := ⟨2, ![8192, 5632]⟩
abbrev S512x2048 : Shape := ⟨2, ![512, 2048]⟩
abbrev S512x512 : Shape := ⟨2, ![512, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 77
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .f32⟩
  | .hbm, ⟨7, _⟩ => ⟨S5504x2048, .f32⟩
  | .hbm, ⟨8, _⟩ => ⟨S5504x2048, .bf16⟩
  | .hbm, ⟨9, _⟩ => ⟨S_, .i32⟩
  | .hbm, ⟨10, _⟩ => ⟨S_, .bf16⟩
  | .hbm, ⟨11, _⟩ => ⟨S5632x2048, .bf16⟩
  | .hbm, ⟨12, _⟩ => ⟨S5504x2048, .bf16⟩
  | .hbm, ⟨13, _⟩ => ⟨S_, .i32⟩
  | .hbm, ⟨14, _⟩ => ⟨S_, .bf16⟩
  | .hbm, ⟨15, _⟩ => ⟨S5632x2048, .bf16⟩
  | .hbm, ⟨16, _⟩ => ⟨S5504x2048, .bf16⟩
  | .hbm, ⟨17, _⟩ => ⟨S_, .i32⟩
  | .hbm, ⟨18, _⟩ => ⟨S_, .bf16⟩
  | .hbm, ⟨19, _⟩ => ⟨S5632x2048, .bf16⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S5632x2048, .f32⟩
  | .hbm, ⟨38, _⟩ => ⟨S8192x5632, .f32⟩
  | .hbm, ⟨39, _⟩ => ⟨S8192x5632, .bf16⟩
  | .hbm, ⟨40, _⟩ => ⟨S8192x2048, .f32⟩
  | .hbm, ⟨41, _⟩ => ⟨S5632x2048, .f32⟩
  | .hbm, ⟨42, _⟩ => ⟨S8192x5632, .f32⟩
  | .hbm, ⟨43, _⟩ => ⟨S8192x5632, .bf16⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .bf16⟩
  | .hbm, ⟨48, _⟩ => ⟨S8192x2048, .f32⟩
  | .hbm, ⟨49, _⟩ => ⟨S5632x2048, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S_, .f32⟩
  | .hbm, ⟨55, _⟩ => ⟨S8192x5632, .f32⟩
  | .hbm, ⟨56, _⟩ => ⟨S8192x5632, .f32⟩
  | .hbm, ⟨57, _⟩ => ⟨S_, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S_, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S_, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S8192x5632, .f32⟩
  | .hbm, ⟨72, _⟩ => ⟨S8192x5632, .bf16⟩
  | .hbm, ⟨73, _⟩ => ⟨S8192x5632, .f32⟩
  | .hbm, ⟨74, _⟩ => ⟨S8192x5632, .bf16⟩
  | .hbm, ⟨75, _⟩ => ⟨S8192x2048, .f32⟩
  | .hbm, ⟨76, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InputReferenceIdeal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x5504, .f32⟩
  | .hbm, ⟨26, _⟩ => ⟨S8192x5504, .f32⟩
  | .hbm, ⟨27, _⟩ => ⟨S8192x5504, .f32⟩
  | .hbm, ⟨28, _⟩ => ⟨S_, .f32⟩
  | .hbm, ⟨29, _⟩ => ⟨S8192x5504, .f32⟩
  | .hbm, ⟨30, _⟩ => ⟨S8192x5504, .f32⟩
  | .hbm, ⟨31, _⟩ => ⟨S_, .f32⟩
  | .hbm, ⟨32, _⟩ => ⟨S8192x5504, .f32⟩
  | .hbm, ⟨33, _⟩ => ⟨S8192x5504, .f32⟩
  | .hbm, ⟨34, _⟩ => ⟨S_, .f32⟩
  | .hbm, ⟨35, _⟩ => ⟨S8192x5504, .f32⟩
  | .hbm, ⟨36, _⟩ => ⟨S8192x5504, .f32⟩
  | .hbm, ⟨37, _⟩ => ⟨S8192x5504, .f32⟩
  | .hbm, ⟨38, _⟩ => ⟨S8192x5504, .f32⟩
  | .hbm, ⟨39, _⟩ => ⟨S8192x5504, .f32⟩
  | .hbm, ⟨40, _⟩ => ⟨S8192x5504, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x5504, .f32⟩
  | .hbm, ⟨51, _⟩ => ⟨S8192x5504, .f32⟩
  | .hbm, ⟨52, _⟩ => ⟨S8192x5504, .f32⟩
  | .hbm, ⟨53, _⟩ => ⟨S8192x2048, .f32⟩
  | .hbm, ⟨54, _⟩ => ⟨S8192x5504, .f32⟩
  | .hbm, ⟨55, _⟩ => ⟨S8192x5504, .f32⟩
  | .hbm, ⟨56, _⟩ => ⟨S8192x5504, .f32⟩
  | .hbm, ⟨57, _⟩ => ⟨S8192x5504, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== WeightKernel.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S8192x5632 : Shape := ⟨2, ![8192, 5632]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 78
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .f32⟩
  | .hbm, ⟨7, _⟩ => ⟨S5504x2048, .f32⟩
  | .hbm, ⟨8, _⟩ => ⟨S5504x2048, .bf16⟩
  | .hbm, ⟨9, _⟩ => ⟨S_, .i32⟩
  | .hbm, ⟨10, _⟩ => ⟨S_, .bf16⟩
  | .hbm, ⟨11, _⟩ => ⟨S5632x2048, .bf16⟩
  | .hbm, ⟨12, _⟩ => ⟨S5504x2048, .bf16⟩
  | .hbm, ⟨13, _⟩ => ⟨S_, .i32⟩
  | .hbm, ⟨14, _⟩ => ⟨S_, .bf16⟩
  | .hbm, ⟨15, _⟩ => ⟨S5632x2048, .bf16⟩
  | .hbm, ⟨16, _⟩ => ⟨S5504x2048, .bf16⟩
  | .hbm, ⟨17, _⟩ => ⟨S_, .i32⟩
  | .hbm, ⟨18, _⟩ => ⟨S_, .bf16⟩
  | .hbm, ⟨19, _⟩ => ⟨S5632x2048, .bf16⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S5632x2048, .f32⟩
  | .hbm, ⟨38, _⟩ => ⟨S8192x5632, .f32⟩
  | .hbm, ⟨39, _⟩ => ⟨S8192x5632, .bf16⟩
  | .hbm, ⟨40, _⟩ => ⟨S8192x2048, .f32⟩
  | .hbm, ⟨41, _⟩ => ⟨S5632x2048, .f32⟩
  | .hbm, ⟨42, _⟩ => ⟨S8192x5632, .f32⟩
  | .hbm, ⟨43, _⟩ => ⟨S8192x5632, .bf16⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .bf16⟩
  | .hbm, ⟨48, _⟩ => ⟨S8192x2048, .f32⟩
  | .hbm, ⟨49, _⟩ => ⟨S5632x2048, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S_, .f32⟩
  | .hbm, ⟨55, _⟩ => ⟨S8192x5632, .f32⟩
  | .hbm, ⟨56, _⟩ => ⟨S8192x5632, .f32⟩
  | .hbm, ⟨57, _⟩ => ⟨S_, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S_, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S_, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S8192x5632, .f32⟩
  | .hbm, ⟨72, _⟩ => ⟨S8192x5632, .bf16⟩
  | .hbm, ⟨73, _⟩ => ⟨S8192x5632, .f32⟩
  | .hbm, ⟨74, _⟩ => ⟨S8192x5632, .bf16⟩
  | .hbm, ⟨75, _⟩ => ⟨S5632x2048, .bf16⟩
  | .hbm, ⟨76, _⟩ => ⟨S5632x2048, .bf16⟩
  | .hbm, ⟨77, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_26 : BitVec 32 := 0#32
  let v41 : BitVec 1 := Scalar.cmpi .ne v40 c0_i32_26
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== WeightReferenceIdeal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S5632x2048 : Shape := ⟨2, ![5632, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x5504, .f32⟩
  | .hbm, ⟨22, _⟩ => ⟨S8192x5504, .f32⟩
  | .hbm, ⟨23, _⟩ => ⟨S8192x5504, .f32⟩
  | .hbm, ⟨24, _⟩ => ⟨S_, .f32⟩
  | .hbm, ⟨25, _⟩ => ⟨S8192x5504, .f32⟩
  | .hbm, ⟨26, _⟩ => ⟨S8192x5504, .f32⟩
  | .hbm, ⟨27, _⟩ => ⟨S_, .f32⟩
  | .hbm, ⟨28, _⟩ => ⟨S8192x5504, .f32⟩
  | .hbm, ⟨29, _⟩ => ⟨S8192x5504, .f32⟩
  | .hbm, ⟨30, _⟩ => ⟨S_, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x5504, .f32⟩
  | .hbm, ⟨35, _⟩ => ⟨S8192x5504, .f32⟩
  | .hbm, ⟨36, _⟩ => ⟨S8192x5504, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S2048x5504, .f32⟩
  | .hbm, ⟨46, _⟩ => ⟨S5504x2048, .f32⟩
  | .hbm, ⟨47, _⟩ => ⟨S8192x5504, .f32⟩
  | .hbm, ⟨48, _⟩ => ⟨S8192x5504, .f32⟩
  | .hbm, ⟨49, _⟩ => ⟨S8192x5504, .f32⟩
  | .hbm, ⟨50, _⟩ => ⟨S5504x2048, .f32⟩
  | .hbm, ⟨51, _⟩ => ⟨S2048x5504, .f32⟩
  | .hbm, ⟨52, _⟩ => ⟨S8192x5504, .f32⟩
  | .hbm, ⟨53, _⟩ => ⟨S8192x5504, .f32⟩
  | .hbm, ⟨54, _⟩ => ⟨S8192x5504, .f32⟩
  | .hbm, ⟨55, _⟩ => ⟨S8192x5504, .f32⟩
  | .hbm, ⟨56, _⟩ => ⟨S5504x2048, .f32⟩
  | .hbm, ⟨57, _⟩ => ⟨S2048x5504, .f32⟩
  | .hbm, ⟨58, _⟩ => ⟨S5504x2048, .f32⟩
  | .hbm, ⟨59, _⟩ => ⟨S5504x2048, .f32⟩
  | .hbm, ⟨60, _⟩ => ⟨S_, .i32⟩
  | .hbm, ⟨61, _⟩ => ⟨S_, .f32⟩
  | .hbm, ⟨62, _⟩ => ⟨S5632x2048, .f32⟩
  | .hbm, ⟨63, _⟩ => ⟨S5632x2048, .bf16⟩
  | .hbm, ⟨64, _⟩ => ⟨S_, .i32⟩
  | .hbm, ⟨65, _⟩ => ⟨S_, .f32⟩
  | .hbm, ⟨66, _⟩ => ⟨S5632x2048, .f32⟩
  | .hbm, ⟨67, _⟩ => ⟨S5632x2048, .bf16⟩
  | .hbm, ⟨68, _⟩ => ⟨S_, .i32⟩
  | .hbm, ⟨69, _⟩ => ⟨S_, .f32⟩
  | .hbm, ⟨70, _⟩ => ⟨S5632x2048, .f32⟩
  | .hbm, ⟨71, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v13_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v13_1 : Ref sig .tc := ⟨.hbm, 33, rfl⟩
abbrev main_v13_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c : Ref sig .tc := ⟨.hbm, 60, rfl⟩
abbrev main_call2_v0 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_call3_v0 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_call4_v0 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== FfnxKernel.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S8192x5632 : Shape := ⟨2, ![8192, 5632]⟩
abbrev S512x2048 : Shape := ⟨2, ![512, 2048]⟩
abbrev S512x512 : Shape := ⟨2, ![512, 512]⟩
abbrev S256x2048 : Shape := ⟨2, ![256, 2048]⟩
abbrev S512x256 : Shape := ⟨2, ![512, 256]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 49
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .f32⟩
  | .hbm, ⟨7, _⟩ => ⟨S5504x2048, .f32⟩
  | .hbm, ⟨8, _⟩ => ⟨S5504x2048, .bf16⟩
  | .hbm, ⟨9, _⟩ => ⟨S_, .i32⟩
  | .hbm, ⟨10, _⟩ => ⟨S_, .bf16⟩
  | .hbm, ⟨11, _⟩ => ⟨S5632x2048, .bf16⟩
  | .hbm, ⟨12, _⟩ => ⟨S5504x2048, .bf16⟩
  | .hbm, ⟨13, _⟩ => ⟨S_, .i32⟩
  | .hbm, ⟨14, _⟩ => ⟨S_, .bf16⟩
  | .hbm, ⟨15, _⟩ => ⟨S5632x2048, .bf16⟩
  | .hbm, ⟨16, _⟩ => ⟨S5504x2048, .bf16⟩
  | .hbm, ⟨17, _⟩ => ⟨S_, .i32⟩
  | .hbm, ⟨18, _⟩ => ⟨S_, .bf16⟩
  | .hbm, ⟨19, _⟩ => ⟨S5632x2048, .bf16⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S5632x2048, .f32⟩
  | .hbm, ⟨38, _⟩ => ⟨S8192x5632, .f32⟩
  | .hbm, ⟨39, _⟩ => ⟨S8192x5632, .bf16⟩
  | .hbm, ⟨40, _⟩ => ⟨S8192x2048, .f32⟩
  | .hbm, ⟨41, _⟩ => ⟨S5632x2048, .f32⟩
  | .hbm, ⟨42, _⟩ => ⟨S8192x5632, .f32⟩
  | .hbm, ⟨43, _⟩ => ⟨S8192x5632, .bf16⟩
  | .hbm, ⟨44, _⟩ => ⟨S8192x2048, .f32⟩
  | .hbm, ⟨45, _⟩ => ⟨S8192x5632, .bf16⟩
  | .hbm, ⟨46, _⟩ => ⟨S8192x5632, .bf16⟩
  | .hbm, ⟨47, _⟩ => ⟨S8192x2048, .bf16⟩
  | .hbm, ⟨48, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v29_3 : Ref sig .tc := ⟨.hbm, 47, rfl⟩
abbrev main_v29_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c10_i32 : BitVec 32 := 10#32
  let v74 : BitVec 1 := Scalar.cmpi .eq arg1 c10_i32
  let v75 : BitVec 32 := Scalar.extui v74
  let c0_i32_45 : BitVec 32 := 0#32
  let v76 : BitVec 1 := Scalar.cmpi .ne v75 c0_i32_45
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnxReferenceIdeal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S2048 : Shape := ⟨1, ![2048]⟩
abbrev S8192x5632 : Shape := ⟨2, ![8192, 5632]⟩

abbrev nBuf : Space → Nat
  | .hbm => 148
  | .vmem => 0
  | .smem => 0
  | _ => 0

abbrev hbmTy0_0 (i : Nat) : BufTy := match i % 128 with
  | 0 => ⟨S8192x2048, .f32⟩
  | 1 => ⟨S8192x2048, .f32⟩
  | 2 => ⟨S1x2048, .f32⟩
  | 3 => ⟨S2048x5504, .f32⟩
  | 4 => ⟨S2048x5504, .f32⟩
  | 5 => ⟨S5504x2048, .f32⟩
  | 6 => ⟨S8192x2048, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x2048, .f32⟩
  | 22 => ⟨S8192x2048, .f32⟩
  | 23 => ⟨S8192x2048, .f32⟩
  | 24 => ⟨S8192x2048, .f32⟩
  | 25 => ⟨S8192x5504, .f32⟩
  | 26 => ⟨S8192x5504, .f32⟩
  | 27 => ⟨S8192x5504, .f32⟩
  | 28 => ⟨S_, .f32⟩
  | 29 => ⟨S8192x5504, .f32⟩
  | 30 => ⟨S8192x5504, .f32⟩
  | 31 => ⟨S_, .f32⟩
  | 32 => ⟨S8192x5504, .f32⟩
  | 33 => ⟨S8192x5504, .f32⟩
  | 34 => ⟨S_, .f32⟩
  | 35 => ⟨S8192x5504, .f32⟩
  | 36 => ⟨S8192x5504, .f32⟩
  | 37 => ⟨S8192x5504, .f32⟩
  | 38 => ⟨S8192x5504, .f32⟩
  | 39 => ⟨S8192x5504, .f32⟩
  | 40 => ⟨S8192x5504, .f32⟩
  | 41 => ⟨S8192x2048, .f32⟩
  | 42 => ⟨S_, .f32⟩
  | 43 => ⟨S8192x2048, .f32⟩
  | 44 => ⟨S8192x2048, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S8192x5504, .f32⟩
  | 51 => ⟨S8192x5504, .f32⟩
  | 52 => ⟨S8192x5504, .f32⟩
  | 53 => ⟨S8192x2048, .f32⟩
  | 54 => ⟨S8192x5504, .f32⟩
  | 55 => ⟨S8192x5504, .f32⟩
  | 56 => ⟨S8192x5504, .f32⟩
  | 57 => ⟨S8192x5504, .f32⟩
  | 58 => ⟨S8192x2048, .f32⟩
  | 59 => ⟨S8192x2048, .f32⟩
  | 60 => ⟨S8192x2048, .f32⟩
  | 61 => ⟨S_, .f32⟩
  | 62 => ⟨S2048, .f32⟩
  | 63 => ⟨S1x2048, .f32⟩
  | 64 => ⟨S8192x2048, .f32⟩
  | 65 => ⟨S8192x2048, .f32⟩
  | 66 => ⟨S8192x2048, .f32⟩
  | 67 => ⟨S_, .f32⟩
  | 68 => ⟨S8192, .f32⟩
  | 69 => ⟨S8192x1, .f32⟩
  | 70 => ⟨S8192x2048, .f32⟩
  | 71 => ⟨S8192x2048, .f32⟩
  | 72 => ⟨S8192x2048, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x2048, .f32⟩
  | 96 => ⟨S8192x2048, .f32⟩
  | 97 => ⟨S8192x2048, .f32⟩
  | 98 => ⟨S8192x2048, .f32⟩
  | 99 => ⟨S8192x5504, .f32⟩
  | 100 => ⟨S8192x5504, .f32⟩
  | 101 => ⟨S8192x5504, .f32⟩
  | 102 => ⟨S8192x5504, .f32⟩
  | 103 => ⟨S_, .f32⟩
  | 104 => ⟨S8192x5504, .f32⟩
  | 105 => ⟨S8192x5504, .f32⟩
  | 106 => ⟨S_, .f32⟩
  | 107 => ⟨S8192x5504, .f32⟩
  | 108 => ⟨S8192x5504, .f32⟩
  | 109 => ⟨S_, .f32⟩
  | 110 => ⟨S8192x5504, .f32⟩
  | 111 => ⟨S8192x5504, .f32⟩
  | 112 => ⟨S8192x5504, .f32⟩
  | 113 => ⟨S8192x5504, .f32⟩
  | 114 => ⟨S8192x5504, .f32⟩
  | 115 => ⟨S8192x2048, .f32⟩
  | 116 => ⟨S_, .f32⟩
  | 117 => ⟨S8192x2048, .f32⟩
  | 118 => ⟨S8192x2048, .f32⟩
  | 119 => ⟨S8192x2048, .f32⟩
  | 120 => ⟨S_, .f32⟩
  | 121 => ⟨S8192x2048, .f32⟩
  | 122 => ⟨S8192x2048, .f32⟩
  | 123 => ⟨S8192x5504, .f32⟩
  | 124 => ⟨S8192x5504, .f32⟩
  | 125 => ⟨S8192x5504, .f32⟩
  | 126 => ⟨S8192x5504, .f32⟩
  | 127 => ⟨S8192x5504, .f32⟩
  | _ => ⟨S8192x2048, .f32⟩

abbrev hbmTy0_1 (i : Nat) : BufTy := match i % 128 with
  | 0 => ⟨S8192x5504, .f32⟩
  | 1 => ⟨S8192x5504, .f32⟩
  | 2 => ⟨S_, .f32⟩
  | 3 => ⟨S8192x2048, .f32⟩
  | 4 => ⟨S_, .f32⟩
  | 5 => ⟨S8192x2048, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S_, .i32⟩
  | 12 => ⟨S_, .f32⟩
  | 13 => ⟨S8192x5632, .f32⟩
  | 14 => ⟨S8192x5632, .bf16⟩
  | 15 => ⟨S_, .i32⟩
  | 16 => ⟨S_, .f32⟩
  | 17 => ⟨S8192x5632, .f32⟩
  | 18 => ⟨S8192x5632, .bf16⟩
  | 19 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_v67_2 : Ref sig .tc := ⟨.hbm, 108, rfl⟩
abbrev main_call2_cst_1 : Ref sig .tc := ⟨.hbm, 109, rfl⟩
abbrev main_call2_v6 : Ref sig .tc := ⟨.hbm, 110, rfl⟩
abbrev main_call2_v7 : Ref sig .tc := ⟨.hbm, 111, rfl⟩
abbrev main_v67_1 : Ref sig .tc := ⟨.hbm, 112, rfl⟩
abbrev main_v67_0 : Ref sig .tc := ⟨.hbm, 113, rfl⟩
abbrev main_v68 : Ref sig .tc := ⟨.hbm, 114, rfl⟩
abbrev main_v69 : Ref sig .tc := ⟨.hbm, 115, rfl⟩
abbrev main_cst_12 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v78 : Ref sig .tc := ⟨.hbm, 129, rfl⟩
abbrev main_cst_14 : Ref sig .tc := ⟨.hbm, 130, rfl⟩
abbrev main_v79 : Ref sig .tc := ⟨.hbm, 131, rfl⟩
abbrev main_cst_15 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_16 : Ref sig .tc := ⟨.hbm, 136, rfl⟩
abbrev main_v83 : Ref sig .tc := ⟨.hbm, 137, rfl⟩
abbrev main_v84 : Ref sig .tc := ⟨.hbm, 138, rfl⟩
abbrev main_c : Ref sig .tc := ⟨.hbm, 139, rfl⟩
abbrev main_call4_v0 : Ref sig .tc := ⟨.hbm, 140, rfl⟩
abbrev main_v85 : Ref sig .tc := ⟨.hbm, 141, rfl⟩
abbrev main_v86 : Ref sig .tc := ⟨.hbm, 142, rfl⟩
abbrev main_c_17 : Ref sig .tc := ⟨.hbm, 143, rfl⟩
abbrev main_call5_v0 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩

abbrev nD : Nat := 1
abbrev τ : Topo := Topo.v7x

variable {F : FTy → Type} [FloatOps F]
-- ==== PoolKernel.lean ====
abbrev S8192x2048 : Shape := ⟨2, ![8192, 2048]⟩
abbrev S1x2048 : Shape := ⟨2, ![1, 2048]⟩
abbrev S4x512x512 : Shape := ⟨3, ![4, 512, 512]⟩
abbrev S512x2048 : Shape := ⟨2, ![512, 2048]⟩
abbrev S16x2048 : Shape := ⟨2, ![16, 2048]⟩
abbrev S528x2048 : Shape := ⟨2, ![528, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x512 : Shape := ⟨2, ![512, 512]⟩
abbrev S1x512 : Shape := ⟨2, ![1, 512]⟩
abbrev S1x512x512 : Shape := ⟨3, ![1, 512, 512]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S4x512x512, .f32⟩
  | .hbm, ⟨4, _⟩ => ⟨S1x2048, .f32⟩
  | .hbm, ⟨5, _⟩ => ⟨S4x512x512, .bf16⟩
  | .hbm, ⟨6, _⟩ => ⟨S8192x2048, .f32⟩
  | .hbm, ⟨7, _⟩ => ⟨S4x512x512, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S4x512x512, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S4x512x512, .f32⟩
  | .local _ .vmem, ⟨12, _⟩ => ⟨S1x2048, .f32⟩
  | .local _ .vmem, ⟨13, _⟩ => ⟨S1x2048, .f32⟩
  | .local _ .vmem, ⟨14, _⟩ => ⟨S528x2048, .f32⟩
  | .local _ .vmem, ⟨15, _⟩ => ⟨S528x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolReferenceIdeal.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S8192x4x512 : Shape := ⟨3, ![8192, 4, 512]⟩
abbrev S8192x1x512 : Shape := ⟨3, ![8192, 1, 512]⟩
abbrev S8192x512 : Shape := ⟨2, ![8192, 512]⟩
abbrev S2x512 : Shape := ⟨2, ![2, 512]⟩
abbrev S8190x512 : Shape := ⟨2, ![8190, 512]⟩
abbrev S4x512 : Shape := ⟨2, ![4, 512]⟩
abbrev S8188x512 : Shape := ⟨2, ![8188, 512]⟩
abbrev S8x512 : Shape := ⟨2, ![8, 512]⟩
abbrev S8184x512 : Shape := ⟨2, ![8184, 512]⟩
abbrev S16x512 : Shape := ⟨2, ![16, 512]⟩
abbrev S8176x512 : Shape := ⟨2, ![8176, 512]⟩
abbrev S4x512x8192 : Shape := ⟨3, ![4, 512, 8192]⟩
abbrev S2048 : Shape := ⟨1, ![2048]⟩
abbrev S4x8192x512 : Shape := ⟨3, ![4, 8192, 512]⟩

abbrev nBuf : Space → Nat
  | .hbm => 215
  | .vmem => 0
  | .smem => 0
  | _ => 0

abbrev hbmTy0_0 (i : Nat) : BufTy := match i % 128 with
  | 0 => ⟨S8192x2048, .f32⟩
  | 1 => ⟨S8192x2048, .f32⟩
  | 2 => ⟨S1x2048, .f32⟩
  | 3 => ⟨S4x512x512, .f32⟩
  | 4 => ⟨S1x2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x2048, .f32⟩
  | 21 => ⟨S8192x2048, .f32⟩
  | 22 => ⟨S8192x2048, .f32⟩
  | 23 => ⟨S8192x2048, .f32⟩
  | 24 => ⟨S8192x4x512, .f32⟩
  | 25 => ⟨S_, .f32⟩
  | 26 => ⟨S_, .f32⟩
  | 27 => ⟨S8192x4x512, .f32⟩
  | 28 => ⟨S8192, .i32⟩
  | 29 => ⟨S8192x1x512, .f32⟩
  | 30 => ⟨S8192x512, .f32⟩
  | 31 => ⟨S_, .f32⟩
  | 32 => ⟨S2x512, .f32⟩
  | 33 => ⟨S8190x512, .f32⟩
  | 34 => ⟨S8192x512, .f32⟩
  | 35 => ⟨S_, .f32⟩
  | 36 => ⟨S2x512, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S8192x1, .f32⟩
  | 45 => ⟨S8192x512, .f32⟩
  | 46 => ⟨S8192x512, .f32⟩
  | 47 => ⟨S8192x512, .f32⟩
  | 48 => ⟨S8192x1x512, .f32⟩
  | 49 => ⟨S8192x512, .f32⟩
  | 50 => ⟨S_, .f32⟩
  | 51 => ⟨S4x512, .f32⟩
  | 52 => ⟨S8188x512, .f32⟩
  | 53 => ⟨S8192x512, .f32⟩
  | 54 => ⟨S_, .f32⟩
  | 55 => ⟨S4x512, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x512, .f32⟩
  | 65 => ⟨S8192x512, .f32⟩
  | 66 => ⟨S8192x512, .f32⟩
  | 67 => ⟨S8192x1x512, .f32⟩
  | 68 => ⟨S8192x512, .f32⟩
  | 69 => ⟨S_, .f32⟩
  | 70 => ⟨S8x512, .f32⟩
  | 71 => ⟨S8184x512, .f32⟩
  | 72 => ⟨S8192x512, .f32⟩
  | 73 => ⟨S_, .f32⟩
  | 74 => ⟨S8x512, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S8192x1, .f32⟩
  | 83 => ⟨S8192x512, .f32⟩
  | 84 => ⟨S8192x512, .f32⟩
  | 85 => ⟨S8192x512, .f32⟩
  | 86 => ⟨S8192x1x512, .f32⟩
  | 87 => ⟨S8192x512, .f32⟩
  | 88 => ⟨S_, .f32⟩
  | 89 => ⟨S16x512, .f32⟩
  | 90 => ⟨S8176x512, .f32⟩
  | 91 => ⟨S8192x512, .f32⟩
  | 92 => ⟨S_, .f32⟩
  | 93 => ⟨S16x512, .f32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S8192, .f32⟩
  | 101 => ⟨S8192x1, .f32⟩
  | 102 => ⟨S8192x512, .f32⟩
  | 103 => ⟨S8192x512, .f32⟩
  | 104 => ⟨S8192x512, .f32⟩
  | 105 => ⟨S8192x1x512, .f32⟩
  | 106 => ⟨S8192x1x512, .f32⟩
  | 107 => ⟨S8192x1x512, .f32⟩
  | 108 => ⟨S8192x1x512, .f32⟩
  | 109 => ⟨S8192x4x512, .f32⟩
  | 110 => ⟨S8192x4x512, .f32⟩
  | 111 => ⟨S4x512x8192, .f32⟩
  | 112 => ⟨S8192x4x512, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S_, .f32⟩
  | 120 => ⟨S2048, .f32⟩
  | 121 => ⟨S1x2048, .f32⟩
  | 122 => ⟨S8192x2048, .f32⟩
  | 123 => ⟨S8192x2048, .f32⟩
  | 124 => ⟨S8192x4x512, .f32⟩
  | 125 => ⟨S4x512x8192, .f32⟩
  | 126 => ⟨S4x8192x512, .f32⟩
  | 127 => ⟨S8192x4x512, .f32⟩
  | _ => ⟨S8192x2048, .f32⟩

abbrev hbmTy0_1 (i : Nat) : BufTy := match i % 128 with
  | 0 => ⟨S4x512x512, .f32⟩
  | 1 => ⟨S4x512x512, .f32⟩
  | 2 => ⟨S8192x4x512, .f32⟩
  | 3 => ⟨S8192x1x512, .f32⟩
  | 4 => ⟨S8192x512, .f32⟩
  | 5 => ⟨S8192x1x512, .f32⟩
  | 6 => ⟨S8192x512, .f32⟩
  | 7 => ⟨S8192x1x512, .f32⟩
  | 8 => ⟨S8192x512, .f32⟩
  | 9 => ⟨S8192x1x512, .f32⟩
  | 10 => ⟨S8192x512, .f32⟩
  | 11 => ⟨S8192x512, .f32⟩
  | 12 => ⟨S8192x512, .f32⟩
  | 13 => ⟨S8192x512, .f32⟩
  | 14 => ⟨S16x512, .f32⟩
  | 15 => ⟨S8176x512, .f32⟩
  | 16 => ⟨S_, .f32⟩
  | 17 => ⟨S8192x512, .f32⟩
  | 18 => ⟨S8192x512, .f32⟩
  | 19 => ⟨S8192x1x512, .f32⟩
  | 20 => ⟨S_, .f32⟩
  | 21 => ⟨S8192x4x512, .f32⟩
  | 22 => ⟨S8192x512, .f32⟩
  | 23 => ⟨S8192x512, .f32⟩
  | 24 => ⟨S8192x512, .f32⟩
  | 25 => ⟨S8x512, .f32⟩
  | 26 => ⟨S8184x512, .f32⟩
  | 27 => ⟨S_, .f32⟩
  | 28 => ⟨S8192x512, .f32⟩
  | 29 => ⟨S8192x512, .f32⟩
  | 30 => ⟨S8192x1x512, .f32⟩
  | 31 => ⟨S_, .f32⟩
  | 32 => ⟨S8192x4x512, .f32⟩
  | 33 => ⟨S8192x4x512, .f32⟩
  | 34 => ⟨S8192x512, .f32⟩
  | 35 => ⟨S8192x512, .f32⟩
  | 36 => ⟨S8192x512, .f32⟩
  | 37 => ⟨S4x512, .f32⟩
  | 38 => ⟨S8188x512, .f32⟩
  | 39 => ⟨S_, .f32⟩
  | 40 => ⟨S8192x512, .f32⟩
  | 41 => ⟨S8192x512, .f32⟩
  | 42 => ⟨S8192x1x512, .f32⟩
  | 43 => ⟨S_, .f32⟩
  | 44 => ⟨S8192x4x512, .f32⟩
  | 45 => ⟨S8192x4x512, .f32⟩
  | 46 => ⟨S8192x512, .f32⟩
  | 47 => ⟨S8192x512, .f32⟩
  | 48 => ⟨S8192x512, .f32⟩
  | 49 => ⟨S2x512, .f32⟩
  | 50 => ⟨S8190x512, .f32⟩
  | 51 => ⟨S_, .f32⟩
  | 52 => ⟨S8192x512, .f32⟩
  | 53 => ⟨S8192x512, .f32⟩
  | 54 => ⟨S8192x1x512, .f32⟩
  | 55 => ⟨S_, .f32⟩
  | 56 => ⟨S8192x4x512, .f32⟩
  | 57 => ⟨S8192x4x512, .f32⟩
  | 58 => ⟨S_, .f32⟩
  | 59 => ⟨S_, .f32⟩
  | 60 => ⟨S8192x4x512, .f32⟩
  | 61 => ⟨S8192x4x512, .f32⟩
  | 62 => ⟨S8192x2048, .f32⟩
  | 63 => ⟨S8192x2048, .f32⟩
  | 64 => ⟨S_, .f32⟩
  | 65 => ⟨S2048, .f32⟩
  | 66 => ⟨S1x2048, .f32⟩
  | 67 => ⟨S8192x2048, .f32⟩
  | 68 => ⟨S8192x2048, .f32⟩
  | 69 => ⟨S8192x2048, .f32⟩
  | 70 => ⟨S_, .f32⟩
  | 71 => ⟨S8192, .f32⟩
  | 72 => ⟨S8192x1, .f32⟩
  | 73 => ⟨S8192x2048, .f32⟩
  | 74 => ⟨S8192x2048, .f32⟩
  | 75 => ⟨S8192x2048, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_call0_cst : Ref sig .tc := ⟨.hbm, 25, rfl⟩
abbrev main_call0_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_c_16 : Ref sig .tc := ⟨.hbm, 94, rfl⟩
abbrev main_v69 : Ref sig .tc := ⟨.hbm, 95, rfl⟩
abbrev main_v70 : Ref sig .tc := ⟨.hbm, 96, rfl⟩
abbrev main_c_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_19 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_20 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_22 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_23 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_24 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_25 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_26 : Ref sig .tc := ⟨.hbm, 183, rfl⟩
abbrev main_v148 : Ref sig .tc := ⟨.hbm, 184, rfl⟩
abbrev main_v149 : Ref sig .tc := ⟨.hbm, 185, rfl⟩
abbrev main_call1_call0_cst : Ref sig .tc := ⟨.hbm, 186, rfl⟩
abbrev main_call1_call0_v0 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_27 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_28 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_29 : Ref sig .tc := ⟨.hbm, 205, rfl⟩
abbrev main_v165 : Ref sig .tc := ⟨.hbm, 206, rfl⟩
abbrev main_v166 : Ref sig .tc := ⟨.hbm, 207, rfl⟩
abbrev main_cst_30 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩

abbrev nD : Nat := 1
abbrev τ : Topo := Topo.v7x

variable {F : FTy → Type} [FloatOps F]
-- ==== FeedKernel.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S1024x256 : Shape := ⟨2, ![1024, 256]⟩

abbrev nBuf : Space → Nat
  | .hbm => 23
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S5504x2048, .f32⟩
  | .hbm, ⟨6, _⟩ => ⟨S5504x2048, .f32⟩
  | .hbm, ⟨7, _⟩ => ⟨S5504x2048, .bf16⟩
  | .hbm, ⟨8, _⟩ => ⟨S_, .i32⟩
  | .hbm, ⟨9, _⟩ => ⟨S_, .bf16⟩
  | .hbm, ⟨10, _⟩ => ⟨S5632x2048, .bf16⟩
  | .hbm, ⟨11, _⟩ => ⟨S5504x2048, .bf16⟩
  | .hbm, ⟨12, _⟩ => ⟨S_, .i32⟩
  | .hbm, ⟨13, _⟩ => ⟨S_, .bf16⟩
  | .hbm, ⟨14, _⟩ => ⟨S5632x2048, .bf16⟩
  | .hbm, ⟨15, _⟩ => ⟨S5504x2048, .bf16⟩
  | .hbm, ⟨16, _⟩ => ⟨S_, .i32⟩
  | .hbm, ⟨17, _⟩ => ⟨S_, .bf16⟩
  | .hbm, ⟨18, _⟩ => ⟨S5632x2048, .bf16⟩
  | .hbm, ⟨19, _⟩ => ⟨S8192x2048, .f32⟩
  | .hbm, ⟨20, _⟩ => ⟨S8192x2048, .bf16⟩
  | .hbm, ⟨21, _⟩ => ⟨S8192x5632, .bf16⟩
  | .hbm, ⟨22, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .vmem, ⟨12, _⟩ => ⟨S1024x2048, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FeedReferenceIdeal.lean ====
abbrev S8192x2048 : Shape := ⟨2, ![8192, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S8192x5632 : Shape := ⟨2, ![8192, 5632]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5504, .f32⟩
  | .hbm, ⟨21, _⟩ => ⟨S8192x5504, .f32⟩
  | .hbm, ⟨22, _⟩ => ⟨S8192x5504, .f32⟩
  | .hbm, ⟨23, _⟩ => ⟨S_, .f32⟩
  | .hbm, ⟨24, _⟩ => ⟨S8192x5504, .f32⟩
  | .hbm, ⟨25, _⟩ => ⟨S8192x5504, .f32⟩
  | .hbm, ⟨26, _⟩ => ⟨S_, .f32⟩
  | .hbm, ⟨27, _⟩ => ⟨S8192x5504, .f32⟩
  | .hbm, ⟨28, _⟩ => ⟨S8192x5504, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S8192x5504, .f32⟩
  | .hbm, ⟨39, _⟩ => ⟨S_, .i32⟩
  | .hbm, ⟨40, _⟩ => ⟨S_, .f32⟩
  | .hbm, ⟨41, _⟩ => ⟨S8192x5632, .f32⟩
  | .hbm, ⟨42, _⟩ => ⟨S8192x5632, .bf16⟩
  | .hbm, ⟨43, _⟩ => ⟨S8192x5504, .f32⟩
  | .hbm, ⟨44, _⟩ => ⟨S_, .i32⟩
  | .hbm, ⟨45, _⟩ => ⟨S_, .f32⟩
  | .hbm, ⟨46, _⟩ => ⟨S8192x5632, .f32⟩
  | .hbm, ⟨47, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call1_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== NormKernel.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjKernel.lean ====
abbrev S8192x2048 : Shape := ⟨2, ![8192, 2048]⟩
abbrev S2048x2048 : Shape := ⟨2, ![2048, 2048]⟩
abbrev S1x128 : Shape := ⟨2, ![1, 128]⟩
abbrev S512x2048 : Shape := ⟨2, ![512, 2048]⟩
abbrev S2048x512 : Shape := ⟨2, ![2048, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S1x128, .f32⟩
  | .hbm, ⟨3, _⟩ => ⟨S2048x2048, .bf16⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x128, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S8192x2048 : Shape := ⟨2, ![8192, 2048]⟩
abbrev S2048x2048 : Shape := ⟨2, ![2048, 2048]⟩
abbrev S1x128 : Shape := ⟨2, ![1, 128]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S1x128, .f32⟩
  | .hbm, ⟨3, _⟩ => ⟨S8192x2048, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S_, .f32⟩
  | .hbm, ⟨8, _⟩ => ⟨S8192x16, .f32⟩
  | .hbm, ⟨9, _⟩ => ⟨S8192x16x1, .f32⟩
  | .hbm, ⟨10, _⟩ => ⟨S_, .f32⟩
  | .hbm, ⟨11, _⟩ => ⟨S8192x16x1, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S8192x16x1, .f32⟩
  | .hbm, ⟨17, _⟩ => ⟨S8192x16x128, .f32⟩
  | .hbm, ⟨18, _⟩ => ⟨S8192x16x128, .f32⟩
  | .hbm, ⟨19, _⟩ => ⟨S1x1x128, .f32⟩
  | .hbm, ⟨20, _⟩ => ⟨S8192x16x128, .f32⟩
  | .hbm, ⟨21, _⟩ => ⟨S8192x16x128, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MixKernel.lean ====
abbrev S8192x2048 : Shape := ⟨2, ![8192, 2048]⟩
abbrev S1x2048 : Shape := ⟨2, ![1, 2048]⟩
abbrev S4x512x512 : Shape := ⟨3, ![4, 512, 512]⟩
abbrev S512x2048 : Shape := ⟨2, ![512, 2048]⟩
abbrev S528x2048 : Shape := ⟨2, ![528, 2048]⟩
abbrev S512 : Shape := ⟨1, ![512]⟩
abbrev S512x1 : Shape := ⟨2, ![512, 1]⟩
abbrev S16x2048 : Shape := ⟨2, ![16, 2048]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x512x512, .f32⟩
  | .hbm, ⟨3, _⟩ => ⟨S1x2048, .f32⟩
  | .hbm, ⟨4, _⟩ => ⟨S4x512x512, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S528x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S8192x4x512 : Shape := ⟨3, ![8192, 4, 512]⟩
abbrev S8192x1x512 : Shape := ⟨3, ![8192, 1, 512]⟩
abbrev S8192x512 : Shape := ⟨2, ![8192, 512]⟩
abbrev S2x512 : Shape := ⟨2, ![2, 512]⟩
abbrev S8190x512 : Shape := ⟨2, ![8190, 512]⟩
abbrev S4x512 : Shape := ⟨2, ![4, 512]⟩
abbrev S8188x512 : Shape := ⟨2, ![8188, 512]⟩
abbrev S8x512 : Shape := ⟨2, ![8, 512]⟩
abbrev S8184x512 : Shape := ⟨2, ![8184, 512]⟩
abbrev S16x512 : Shape := ⟨2, ![16, 512]⟩
abbrev S8176x512 : Shape := ⟨2, ![8176, 512]⟩
abbrev S4x512x8192 : Shape := ⟨3, ![4, 512, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x512x512, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x4x512, .f32⟩
  | .hbm, ⟨20, _⟩ => ⟨S_, .f32⟩
  | .hbm, ⟨21, _⟩ => ⟨S_, .f32⟩
  | .hbm, ⟨22, _⟩ => ⟨S8192x4x512, .f32⟩
  | .hbm, ⟨23, _⟩ => ⟨S8192, .i32⟩
  | .hbm, ⟨24, _⟩ => ⟨S8192x1x512, .f32⟩
  | .hbm, ⟨25, _⟩ => ⟨S8192x512, .f32⟩
  | .hbm, ⟨26, _⟩ => ⟨S_, .f32⟩
  | .hbm, ⟨27, _⟩ => ⟨S2x512, .f32⟩
  | .hbm, ⟨28, _⟩ => ⟨S8190x512, .f32⟩
  | .hbm, ⟨29, _⟩ => ⟨S8192x512, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x1x512, .f32⟩
  | .hbm, ⟨42, _⟩ => ⟨S8192x512, .f32⟩
  | .hbm, ⟨43, _⟩ => ⟨S_, .f32⟩
  | .hbm, ⟨44, _⟩ => ⟨S4x512, .f32⟩
  | .hbm, ⟨45, _⟩ => ⟨S8188x512, .f32⟩
  | .hbm, ⟨46, _⟩ => ⟨S8192x512, .f32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .f32⟩
  | .hbm, ⟨54, _⟩ => ⟨S8192x1, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x1x512, .f32⟩
  | .hbm, ⟨59, _⟩ => ⟨S8192x512, .f32⟩
  | .hbm, ⟨60, _⟩ => ⟨S_, .f32⟩
  | .hbm, ⟨61, _⟩ => ⟨S8x512, .f32⟩
  | .hbm, ⟨62, _⟩ => ⟨S8184x512, .f32⟩
  | .hbm, ⟨63, _⟩ => ⟨S8192x512, .f32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .f32⟩
  | .hbm, ⟨71, _⟩ => ⟨S8192x1, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x1x512, .f32⟩
  | .hbm, ⟨76, _⟩ => ⟨S8192x512, .f32⟩
  | .hbm, ⟨77, _⟩ => ⟨S_, .f32⟩
  | .hbm, ⟨78, _⟩ => ⟨S16x512, .f32⟩
  | .hbm, ⟨79, _⟩ => ⟨S8176x512, .f32⟩
  | .hbm, ⟨80, _⟩ => ⟨S8192x512, .f32⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .f32⟩
  | .hbm, ⟨88, _⟩ => ⟨S8192x1, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x1x512, .f32⟩
  | .hbm, ⟨93, _⟩ => ⟨S8192x1x512, .f32⟩
  | .hbm, ⟨94, _⟩ => ⟨S8192x1x512, .f32⟩
  | .hbm, ⟨95, _⟩ => ⟨S8192x1x512, .f32⟩
  | .hbm, ⟨96, _⟩ => ⟨S8192x4x512, .f32⟩
  | .hbm, ⟨97, _⟩ => ⟨S8192x4x512, .f32⟩
  | .hbm, ⟨98, _⟩ => ⟨S4x512x8192, .f32⟩
  | .hbm, ⟨99, _⟩ => ⟨S8192x4x512, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Proof.Arith.lean ====
/- Arithmetic shared by the value proofs: extended reals that are finite, written as real numbers, so that an
   equation between two arrays becomes an equation of real arithmetic. -/
module

public import Idealize.ShloMosaic.PureOps
public import Idealize.ShloMosaic.Lib.Pointwise
public import Mathlib.Tactic.Ring
public import Mathlib.Tactic.FieldSimp
public import Mathlib.Tactic.Positivity

@[expose] public section

noncomputable section

namespace Cert.Arith

open Idealize.ShloMosaic

/-- An array of extended reals each of which is a real number. -/
def Fin' {ι : Type} (x : ι → EReal) : Prop := ∀ i, ∃ r : ℝ, x i = (r : EReal)

theorem Fin'.exists {ι : Type} {x : ι → EReal} (h : Fin' x) : ∃ X : ι → ℝ, x = fun i => ((X i : ℝ) : EReal) :=
  ⟨fun i => (h i).choose, funext fun i => (h i).choose_spec⟩

/-- What `|x| < ∞` says of an extended real. -/
theorem real_of_abs_lt_top {x : EReal} (h : max x (-x) < ⊤) : ∃ r : ℝ, x = (r : EReal) := by
  induction x using EReal.rec with
  | bot => simp at h
  | coe r => exact ⟨r, rfl⟩
  | top => simp at h

/-- The pattern of `+∞`. -/
theorem bits_top : Ideal.ofBits .f32 0x7F800000#32 = ⊤ := by simp [Ideal.ofBits, Ideal.ieee]

/-- The test a precondition makes of one element, read back. -/
theorem real_of_test {x : EReal} (h : Ideal.cmp .olt (max x (-x)) (Ideal.ofBits .f32 0x7F800000#32) = 1#1) :
    ∃ r : ℝ, x = (r : EReal) := by
  rw [bits_top] at h
  refine real_of_abs_lt_top ?_
  by_contra hn
  simp [Ideal.cmp, hn] at h

/-- The pattern of 2048, the width a mean over a row divides by. -/
theorem bits_2048 : Ideal.ofBits .f32 0x45000000#32 = ((2048 : ℝ) : EReal) := by
  simp [Ideal.ofBits, Ideal.ieee, -EReal.coe_mul]; norm_num

/-- The pattern of `-1/2`. -/
theorem bits_neg_half : Ideal.ofBits .f32 0xBF000000#32 = ((-(1 / 2) : ℝ) : EReal) := by
  simp [Ideal.ofBits, Ideal.ieee, -EReal.coe_mul]; norm_num

/-- The pattern of `1/2`. -/
theorem bits_half : Ideal.ofBits .f32 0x3F000000#32 = ((1 / 2 : ℝ) : EReal) := by
  simp [Ideal.ofBits, Ideal.ieee, -EReal.coe_mul]; norm_num

/-- The real number the norms' `1e-6` is rounded to. -/
def eps : ℝ := 8796093 * (2 : ℝ) ^ (-43 : ℤ)

theorem eps_pos : 0 < eps := by unfold eps; positivity

theorem bits_eps : Ideal.ofBits .f32 0x358637BD#32 = ((eps : ℝ) : EReal) := by
  simp [Ideal.ofBits, Ideal.ieee, eps, -EReal.coe_mul]

/-- A quotient of reals by a nonzero real. -/
theorem div_coe (a : ℝ) {b : ℝ} (hb : b ≠ 0) : Ideal.div (a : EReal) (b : EReal) = ((a / b : ℝ) : EReal) := by
  have h : (b : EReal) ≠ 0 := by simpa using hb
  rw [Ideal.div, if_neg h, ← EReal.coe_inv, ← EReal.coe_mul, div_eq_mul_inv]

/-- The reciprocal square root of a positive real. -/
theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

/-- A finite sum of reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## A row's norm over the reals -/

/-- The mean square of a row of width `n`, with the `1e-6` added. -/
def var (n : ℝ) {κ : Type} [Fintype κ] (x : κ → ℝ) : ℝ := (∑ k, x k * x k) / n + eps

theorem var_pos {n : ℝ} (hn : 0 < n) {κ : Type} [Fintype κ] (x : κ → ℝ) : 0 < var n x :=
  add_pos_of_nonneg_of_pos (div_nonneg (Finset.sum_nonneg fun k _ => mul_self_nonneg _) hn.le) eps_pos

/-- The reciprocal root mean square of a row. -/
def rinv (n : ℝ) {κ : Type} [Fintype κ] (x : κ → ℝ) : ℝ := (Real.sqrt (var n x))⁻¹

/-- The row's reciprocal root mean square as the programs compute it. -/
theorem rsqrt_row {n : ℝ} (hn : 0 < n) {κ : Type} [Fintype κ] (x : κ → ℝ) :
    Ideal.rsqrt (Ideal.div (∑ k, (x k : EReal) * (x k : EReal)) (n : EReal) + ((eps : ℝ) : EReal)) = ((rinv n x : ℝ) : EReal) := by
  have h : (∑ k, (x k : EReal) * (x k : EReal)) = ((∑ k, x k * x k : ℝ) : EReal) := by
    rw [← coe_sum]; simp only [EReal.coe_mul]
  rw [h, div_coe _ hn.ne', ← EReal.coe_add]
  exact rsqrt_coe (var_pos hn x)

/-- The mean square the programs compute. -/
theorem var_row {n : ℝ} (hn : 0 < n) {κ : Type} [Fintype κ] (x : κ → ℝ) :
    Ideal.div (∑ k, (x k : EReal) * (x k : EReal)) (n : EReal) + ((eps : ℝ) : EReal) = ((var n x : ℝ) : EReal) := by
  have h : (∑ k, (x k : EReal) * (x k : EReal)) = ((∑ k, x k * x k : ℝ) : EReal) := by
    rw [← coe_sum]; simp only [EReal.coe_mul]
  rw [h, div_coe _ hn.ne', ← EReal.coe_add]; rfl

theorem rsqrt_var {n : ℝ} (hn : 0 < n) {κ : Type} [Fintype κ] (x : κ → ℝ) :
    Ideal.rsqrt ((var n x : ℝ) : EReal) = ((rinv n x : ℝ) : EReal) := rsqrt_coe (var_pos hn x)

theorem rinv_cube {n : ℝ} (hn : 0 < n) {κ : Type} [Fintype κ] (x : κ → ℝ) : rinv n x / var n x = rinv n x ^ 3 := by
  have h := var_pos hn x
  have hs : Real.sqrt (var n x) ≠ 0 := (Real.sqrt_pos.mpr h).ne'
  have h2 : Real.sqrt (var n x) ^ 2 = var n x := Real.sq_sqrt h.le
  unfold rinv
  field_simp
  exact h2

/-- The gradient through a row's norm: the chain rule through the reciprocal square root, and its closed form. -/
theorem norm_grad {n : ℝ} (hn : 0 < n) {κ : Type} [Fintype κ] (x e : κ → ℝ) (i : κ) :
    e i * rinv n x + x i * ((∑ k, x k * e k) * (-(1 / 2) * (rinv n x / var n x)) / n)
      + (∑ k, x k * e k) * (-(1 / 2) * (rinv n x / var n x)) / n * x i
    = rinv n x * (e i - x i * rinv n x * ((∑ k, e k * (x k * rinv n x)) / n)) := by
  have h : (∑ k, e k * (x k * rinv n x)) = rinv n x * ∑ k, x k * e k := by
    rw [Finset.mul_sum]; exact Finset.sum_congr rfl fun k _ => by ring
  rw [h, rinv_cube hn]
  ring

end Cert.Arith

end
-- ==== Proof.Rms.Kernel.lean ====
/- What the two arrays of the norm's backward launch hold after its run. -/
module

public import proofs.«01_k».proof.Proof.Gen.RmsKernelIdeal.Value
public import proofs.«01_k».proof.Proof.Arith
public import Idealize.ShloMosaic.Lib.Pipeline.ValueKit

@[expose] public section

set_option maxRecDepth 16384

noncomputable section

namespace Cert.Rms

open Cert.RmsKernelIdeal Cert.RmsKernelIdeal.Gen Idealize.ShloMosaic Idealize.ShloMosaic.TcCoe Idealize.SL.Sem
open Idealize.ShloMosaic.Pipeline (Dat)

variable (m : (ℓ : Loc nD τ sig) → Buf (Elt Ideal) ℓ)

/-- The reciprocal root mean square of row `r`. -/
def inv (x : Vec Ideal S8192x2048 .f32) (r : Fin 8192) : EReal :=
  Ideal.rsqrt (Ideal.div (∑ k : Fin 2048, x (ix2 r k) * x (ix2 r k)) (Ideal.ofBits .f32 0x45000000#32)
    + Ideal.ofBits .f32 0x358637BD#32)

/-- The gradient in `x`, added to the gradient that arrived. -/
def dx (x : Vec Ideal S8192x2048 .f32) (g : Vec Ideal S1x2048 .f32) (dh di : Vec Ideal S8192x2048 .f32) :
    Vec Ideal S8192x2048 .f32 := fun i =>
  di i + inv x (i 0) * (dh i * g (ix2 0 (i 1)) - x i * inv x (i 0) *
    Ideal.div (∑ k : Fin 2048, dh (ix2 (i 0) k) * g (ix2 0 k) * (x (ix2 (i 0) k) * inv x (i 0)))
      (Ideal.ofBits .f32 0x45000000#32))

/-- The gradient in the gain: a sum over all rows. -/
def dg (x : Vec Ideal S8192x2048 .f32) (dh : Vec Ideal S8192x2048 .f32) : Vec Ideal S1x2048 .f32 := fun j =>
  ∑ r : Fin 8192, dh (ix2 r (j 1)) * (x (ix2 r (j 1)) * inv x r)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- A block's row payload is `dx` at the array's row. -/
theorem pay_dx (c : Dev nD) (t : Fin cfg0.N) (y : S512x2048.Idx) :
    k0_pay4 (F := Ideal) (iblk m c 0 t) (iblk m c 1 t) (iblk m c 2 t) (iblk m c 3 t) y = dx (m ((c : Thread nD τ).loc main_arg0))
      (m ((c : Thread nD τ).loc main_arg1)) (m ((c : Thread nD τ).loc main_arg2)) (m ((c : Thread nD τ).loc main_arg3))
      (((View.whole main_v0_0).slice (win0_4.rect t)).emb y) := by
  unfold_payloads
  pointwise [dx, inv]
  blk_point [iblk, V, idx t]

theorem dx_eq (c : Dev nD) : (dats m 0 c).arrAt 4 cfg0.N = dx (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 16 = 0
  · rw [outsAt0_A m c t h]; frame_out; exact pay_dx m c t y
  · rw [outsAt0_B m c t h]; frame_out; exact pay_dx m c t y

/-- Row `r`'s share of the gain's gradient. -/
def share (x dh : Vec Ideal S8192x2048 .f32) (j : S1x2048.Idx) (r : Fin 8192) : EReal :=
  dh (ix2 r (j 1)) * (x (ix2 r (j 1)) * inv x r)

/-- A block adds its 512 rows' shares. -/
theorem pay_dg (c : Dev nD) (t : Fin cfg0.N) (v : Vec Ideal S1x2048 .f32) (j : S1x2048.Idx) :
    k0_pay5 (F := Ideal) (iblk m c 0 t) (iblk m c 2 t) v j = v j + ∑ k : Fin 512, share (m ((c : Thread nD τ).loc main_arg0))
      (m ((c : Thread nD τ).loc main_arg2)) j ⟨t.val * 512 + k.val, by have : t.val < 16 := t.isLt; omega⟩ := by
  unfold_payloads
  pointwise [inv, share]
  congr 1
  refine Finset.sum_congr rfl fun k _ => ?_
  blk_point [iblk, V, idx t]

theorem dg_eq (c : Dev nD) : (dats m 0 c).arrAt 5 cfg0.N = dg (m ((c : Thread nD τ).loc main_arg0))
    (m ((c : Thread nD τ).loc main_arg2)) := by
  refine (dats m 0 c).arrAt_eq_of_after_last 5 t0_15 (by decide +kernel) _ fun j => ?_
  blk_simp
  rw [after0_5]
  rw [Pipeline.eq_sum_fin_of_reset_step_apply_last (fun n h => (outsAt0 m c n h).2) 16 (fun _ => (0 : EReal)) _
     (fun t h j => by rw [outsAt0_A m c t h]; frame_out; rw [pay_dg]; congr 1; unfold_payloads; pointwise)
     (fun t h j => by rw [outsAt0_B m c t h]; frame_out; rw [pay_dg]) (by decide) t0_15 rfl j, zero_add]
  exact Fin.sum_mul_add_fin 16 512 (share (m ((c : Thread nD τ).loc main_arg0)) (m ((c : Thread nD τ).loc main_arg2)) j)

end Cert.Rms

end
-- ==== Proof.Rms.Reference.lean ====
/- The reference's two results, read at an index, are the kernel's where the arguments are finite. -/
module

public import proofs.«01_k».proof.Proof.Gen.RmsReferenceIdeal.Read
public import proofs.«01_k».proof.Proof.Rms.Kernel

@[expose] public section

set_option maxRecDepth 16384

noncomputable section

namespace Cert.Rms

open Cert.RmsReferenceIdeal Cert.RmsReferenceIdeal.Read Idealize.ShloMosaic Cert.Arith

theorem two : (0 : ℝ) < 2048 := by norm_num

/-- The gradient in `x` by the chain rule through the reciprocal square root. -/
theorem val_dx (x : Vec Ideal S8192x2048 .f32) (g : Vec Ideal S1x2048 .f32) (dh di : Vec Ideal S8192x2048 .f32)
    (hx : Fin' x) (hg : Fin' g) (hd : Fin' dh) : val_main_v34 (F := Ideal) x g dh di = dx x g dh di := by
  obtain ⟨X, rfl⟩ := hx.exists
  obtain ⟨G, rfl⟩ := hg.exists
  obtain ⟨D, rfl⟩ := hd.exists
  funext i
  idx_vars i
  rw [← val_main_v34_eq]
  pointwise [dx, inv]
  simp only [bits_2048, bits_eps, bits_neg_half, var_row two, rsqrt_var two]
  simp only [← EReal.coe_mul, coe_sum, div_coe _ two.ne', div_coe _ (var_pos two _).ne', ← EReal.coe_sub, add_assoc, ← EReal.coe_add,
    Finset.univ_unique, Finset.sum_singleton]
  refine congrArg (fun r : ℝ => di (ix2 i0 i1) + (r : EReal)) ?_
  have h := norm_grad two (fun k => X (ix2 i0 k)) (fun k => D (ix2 i0 k) * G (ix2 0 k)) i1
  rw [← h, add_assoc]

/-- The gradient in the gain needs no finite arguments. -/
theorem val_dg (x dh : Vec Ideal S8192x2048 .f32) : val_main_v17 (F := Ideal) x dh = dg x dh := by
  funext j
  idx_vars j
  rw [← val_main_v17_eq]
  pointwise [dg, inv]
  refine Finset.sum_congr rfl fun r _ => ?_
  exact mul_comm _ _

end Cert.Rms

end
-- ==== Proof.Rms.Claim.lean ====
/- The value claim of the norm's gradient: the precondition read as finiteness, and the two runs set side by side. -/
module

public import proofs.«01_k».proof.Defs
public import proofs.«01_k».proof.Proof.Gen.RmsKernelIdeal.Value
public import proofs.«01_k».proof.Proof.Gen.RmsReferenceIdeal.Run
public import proofs.«01_k».proof.Proof.Gen.Pre_rms_finite
public import proofs.«01_k».proof.Proof.Rms.Reference

@[expose] public section

noncomputable section

namespace Cert.Rms

open Idealize.ShloMosaic Idealize.SL.Sem Cert.Arith

/-- The precondition says that `x`, the gain and the cotangent are finite. -/
theorem finite_of_pre (m) (h : Cert.Pre_RmsKernelIdeal_rms_finite m) (c : Dev Cert.RmsKernelIdeal.nD) :
    Fin' (m ((c.tc : Thread _ Cert.RmsKernelIdeal.τ).loc Cert.RmsKernelIdeal.main_arg0))
    ∧ Fin' (m ((c.tc : Thread _ Cert.RmsKernelIdeal.τ).loc Cert.RmsKernelIdeal.main_arg1))
    ∧ Fin' (m ((c.tc : Thread _ Cert.RmsKernelIdeal.τ).loc Cert.RmsKernelIdeal.main_arg2)) :=
  ⟨fun i => real_of_test (congrFun (h c).1 i), fun i => real_of_test (congrFun (h c).2.1 i),
    fun i => real_of_test (congrFun (h c).2.2 i)⟩

/-- The reference ends with its arguments as they were; it declares no semaphore. -/
theorem frame_reference : Cert.quiescent_RmsReferenceIdeal := fun m ρ _ =>
  (θ_run Cert.RmsReferenceIdeal.defs _ _).mono
    (fun r h => ⟨fun c => (h c).2.2, sem_eq_zero_of_no_sems (by decide) r.2⟩)
    (Cert.RmsReferenceIdeal.Value.run m ρ)

/-- The kernel's two gradients are the reference's, where `x`, the gain and the cotangent are finite. -/
theorem algebraic : Cert.algebraic_RmsKernelIdeal_RmsReferenceIdeal_pre_rms_finite := by
  intro m g m' g' hpre hargs
  refine ⟨_, _, Cert.RmsKernelIdeal.Value.run_blocks m g, ?_⟩
  refine (θ_run Cert.RmsReferenceIdeal.defs _ _).mono (fun _ h c => ?_) (Cert.RmsReferenceIdeal.Value.run m' g')
  obtain ⟨h0, h1, h2⟩ := h c
  obtain ⟨a0, a1, a2, a3⟩ := hargs c
  obtain ⟨f0, f1, f2⟩ := finite_of_pre m hpre c
  refine ⟨h0.trans ?_, h1.trans ?_, h2⟩
  · rw [Cert.RmsReferenceIdeal.Read.val_main_v34_eq, a0, a1, a2, a3, val_dx _ _ _ _ f0 f1 f2]
    exact (dx_eq m c).symm
  · rw [Cert.RmsReferenceIdeal.Read.val_main_v17_eq, a0, a2, val_dg]
    exact (dg_eq m c).symm

end Cert.Rms

end
-- ==== Proof.Attn.Trip.lean ====
/- One grid point of the attention's gradient: the loop over its eight blocks of 256 queries, read as a recursion over
   what its four results hold. A block reads 256 rows of the queries and of the cotangent, a window of 768 rows of the
   padded keys and values, and adds into the rows of that window. -/
module

public import proofs.«01_k».proof.Proof.Gen.AttnKernelIdeal.Loops
public import Idealize.ShloMosaic.Lib.VecWindow

@[expose] public section

noncomputable section

namespace Cert.AttnKernelIdeal.Trip

open Idealize.ShloMosaic Idealize.ShloMosaic.TcCoe Idealize.ShloMosaic.Tactic
open Idealize.SL Idealize.SL.RA Idealize.SL.BI Idealize.SL.Sem
open Cert.AttnKernelIdeal.Gen

variable {F : FTy → Type} [FloatOps F] [Named F]

/-- The loop's trips. -/
abbrev K : Type := Fin k0_t1_loop.trips

theorem trips_eq : k0_t1_loop.trips = 8 := by decide +kernel

/-- Where a block's queries start. -/
theorem off1_eq : ∀ k : K, k0_off1 k = ![256 * k.val, 0] := by decide +kernel

/-- Where a block's keys start. -/
theorem off2_eq (t : Fin grid0.N) (k : K) : k0_off2 (grid0.coords t) k = ![256 * (8 * (t.val % 4) + k.val), 0] :=
  (by decide +kernel : ∀ (t : Fin grid0.N) (k : K), k0_off2 (grid0.coords t) k = ![256 * (8 * (t.val % 4) + k.val), 0]) t k

variable (t : Fin grid0.N) (k : K)
variable (x0 : Vec F S2048x128 .bf16) (x1 x2 : Vec F S8704x128 .bf16) (x3 : Vec F S1x256x768 .f32) (x4 : Vec F S2048x128 .bf16)

/-- A block's rows of the queries, or of the cotangent. -/
def rows : Vec F S256x128 .bf16 := VecWindow.window (s := S2048x128) x0 (k0_off1 k) S256x128.size (k0_off1_inb k)

/-- A block's window of the padded keys, or of the padded values. -/
def wind : Vec F S768x128 .bf16 := VecWindow.window (s := S8704x128) x1 (k0_off2 (grid0.coords t) k) S768x128.size (k0_off2_inb (grid0.coords t) k)

/-- A block's attention weights. -/
def probs : FVec F S256x768 .f32 :=
  k0_pay12 (BitVec.ofNat 32 (grid0.coords t 1).val) 0#32 1#32 k (rows k x0) (wind t k x1) x3

/-- The cotangent of the weights. -/
def dprobs : FVec F S256x768 .f32 := k0_pay13 (rows k x4) (wind t k x2)

/-- What the four results hold. -/
abbrev St (F : FTy → Type) [FloatOps F] : Type := Vec F S2048x128 .f32 × Vec F S8704x128 .f32 × Vec F S8704x128 .f32 × Vec F S1x256x768 .f32

/-- One block of queries. -/
def step (s : St F) : St F :=
  (VecWindow.put (s := S2048x128) s.1 (k0_off1 k) S256x128.size
      (k0_pay8 (k0_pay11 (wind t k x1)) (probs t k x0 x1 x3) (dprobs t k x2 x4) (mulf (probs t k x0 x1 x3) (dprobs t k x2 x4))),
    VecWindow.put (s := S8704x128) s.2.1 (k0_off2 (grid0.coords t) k) S768x128.size
      (k0_pay9 (rows k x0) (probs t k x0 x1 x3) (dprobs t k x2 x4) (mulf (probs t k x0 x1 x3) (dprobs t k x2 x4))
        (VecWindow.window (s := S8704x128) s.2.1 (k0_off2 (grid0.coords t) k) S768x128.size (k0_off2_inb (grid0.coords t) k))),
    VecWindow.put (s := S8704x128) s.2.2.1 (k0_off2 (grid0.coords t) k) S768x128.size
      (k0_pay10 (rows k x4) (probs t k x0 x1 x3)
        (VecWindow.window (s := S8704x128) s.2.2.1 (k0_off2 (grid0.coords t) k) S768x128.size (k0_off2_inb (grid0.coords t) k))),
    k0_pay6 (probs t k x0 x1 x3) (dprobs t k x2 x4) (mulf (probs t k x0 x1 x3) (dprobs t k x2 x4)) s.2.2.2)

/-- The results after the first `n` blocks. -/
def states (s : St F) : ℕ → St F
  | 0 => s
  | n + 1 => if h : n < k0_t1_loop.trips then step t ⟨n, h⟩ x0 x1 x2 x3 x4 (states s n) else states s n

theorem states_succ (s : St F) (k : K) :
    states t x0 x1 x2 x3 x4 s (k.val + 1) = step t k x0 x1 x2 x3 x4 (states t x0 x1 x2 x3 x4 s k.val) := dif_pos k.isLt

section Run

variable (c : Dev nD) (arg2 : Memref sig .tc .vmem S2048x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S1x256x768 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8704x128 .f32) (harg8 : arg8.IsWhole) (arg9 : Memref sig .tc .vmem S8704x128 .f32) (harg9 : arg9.IsWhole) (arg10 : Memref sig .tc .vmem S1x256x768 .f32) (harg10 : arg10.IsWhole)

theorem r_eq (m : Memref sig .tc .vmem S2048x128 .bf16) (hm : m.IsWhole) (x : Vec F S2048x128 .bf16) (k : K) :
    (trip_k0_t1.sl.r m (hm.unread x) k : Vec F S256x128 .bf16) = rows k x := by
  unfold trip_k0_t1.sl.r rows; funext y; simp only [View.readAt_apply, hm.read_unread]; rfl

theorem r1_eq (m : Memref sig .tc .vmem S2048x128 .bf16) (hm : m.IsWhole) (x : Vec F S2048x128 .bf16) (k : K) :
    (trip_k0_t1.sl.r_1 m (hm.unread x) k : Vec F S256x128 .bf16) = rows k x := by
  unfold trip_k0_t1.sl.r_1 rows; funext y; simp only [View.readAt_apply, hm.read_unread]; rfl

theorem window_read (m : Memref sig .tc .vmem S8704x128 .bf16) (hm : m.IsWhole) (x : Vec F S8704x128 .bf16) (k : K) :
    (m.view.readAt (Elt F) (Rect.unit (s := S8704x128) (k0_off2 (grid0.coords t) k) S768x128.size (k0_off2_inb (grid0.coords t) k)).toLoadRect (hm.unread x)
      : Vec F S768x128 .bf16) = wind t k x := by
  unfold wind; funext y; simp only [View.readAt_apply, hm.read_unread]; rfl

theorem r2_eq (m : Memref sig .tc .vmem S8704x128 .bf16) (hm : m.IsWhole) (x : Vec F S8704x128 .bf16) (k : K) :
    trip_k0_t1.sl.r_2 (grid0.coords t) m (hm.unread x) k = k0_pay11 (wind t k x) := by
  unfold trip_k0_t1.sl.r_2; rw [← window_read t m hm]

theorem r3_eq (m : Memref sig .tc .vmem S2048x128 .bf16) (hm : m.IsWhole) (m' : Memref sig .tc .vmem S8704x128 .bf16) (hm' : m'.IsWhole)
    (m3 : Memref sig .tc .vmem S1x256x768 .f32) (hm3 : m3.IsWhole) (k : K) :
    trip_k0_t1.sl.r_3 (grid0.coords t) m m' m3 (BitVec.ofNat 32 (grid0.coords t 1).val) (hm.unread x0) (hm'.unread x1) (hm3.unread x3) k = probs t k x0 x1 x3 := by
  unfold trip_k0_t1.sl.r_3 probs
  congr 1
  · exact r_eq m hm x0 k
  · exact window_read t m' hm' x1 k
  · exact (View.readAt_full m3.view _ _).trans (hm3.read_unread _)

theorem r4_eq (m : Memref sig .tc .vmem S8704x128 .bf16) (hm : m.IsWhole) (m' : Memref sig .tc .vmem S2048x128 .bf16) (hm' : m'.IsWhole) (k : K) :
    trip_k0_t1.sl.r_4 (grid0.coords t) m m' (hm.unread x2) (hm'.unread x4) k = dprobs t k x2 x4 := by
  unfold trip_k0_t1.sl.r_4 dprobs
  congr 1
  · exact r1_eq m' hm' x4 k
  · exact window_read t m hm x2 k

theorem r5_eq (m2 : Memref sig .tc .vmem S2048x128 .bf16) (hm2 : m2.IsWhole) (m3 : Memref sig .tc .vmem S8704x128 .bf16) (hm3 : m3.IsWhole)
    (m4 : Memref sig .tc .vmem S8704x128 .bf16) (hm4 : m4.IsWhole) (m5 : Memref sig .tc .vmem S1x256x768 .f32) (hm5 : m5.IsWhole)
    (m6 : Memref sig .tc .vmem S2048x128 .bf16) (hm6 : m6.IsWhole) (k : K) :
    trip_k0_t1.sl.r_5 (grid0.coords t) m2 m3 m4 m5 m6 (BitVec.ofNat 32 (grid0.coords t 1).val) (hm2.unread x0) (hm3.unread x1) (hm4.unread x2) (hm5.unread x3) (hm6.unread x4) k
      = mulf (probs t k x0 x1 x3) (dprobs t k x2 x4) := by
  rw [← r3_eq t x0 x1 x3 m2 hm2 m3 hm3 m5 hm5 k, ← r4_eq t x2 x4 m4 hm4 m6 hm6 k]
  rfl

/-- The pieces the first `n` trips store, over given contents. -/
abbrev pieces (G7 : BufTy.Contents (Elt F) arg7.view.ty) (G8 : BufTy.Contents (Elt F) arg8.view.ty) (G9 : BufTy.Contents (Elt F) arg9.view.ty) (G10 : BufTy.Contents (Elt F) arg10.view.ty) (n : ℕ) :=
  pb_k0_t1 (F := F) Variants.none c none (grid0.coords t) arg2 harg2 arg3 harg3 arg4 harg4 arg5 harg5 arg6 harg6 arg7 harg7 arg8 harg8 arg9 harg9 arg10 harg10 (BitVec.ofNat 32 (grid0.coords t 1).val) (harg2.unread x0) (harg3.unread x1) (harg4.unread x2) (harg5.unread x3) (harg6.unread x4) G7 G8 G9 G10 n

/-- What the results hold after the first `n` trips. -/
theorem reads_pieces (G7 : BufTy.Contents (Elt F) arg7.view.ty) (G8 : BufTy.Contents (Elt F) arg8.view.ty) (G9 : BufTy.Contents (Elt F) arg9.view.ty) (G10 : BufTy.Contents (Elt F) arg10.view.ty) (n : ℕ) (hn : n ≤ k0_t1_loop.trips) :
    ((arg7.view.read (Elt F) (arg7.view.writes (Elt F) G7 (pieces t x0 x1 x2 x3 x4 c arg2 harg2 arg3 harg3 arg4 harg4 arg5 harg5 arg6 harg6 arg7 harg7 arg8 harg8 arg9 harg9 arg10 harg10 G7 G8 G9 G10 n).1),
      arg8.view.read (Elt F) (arg8.view.writes (Elt F) G8 (pieces t x0 x1 x2 x3 x4 c arg2 harg2 arg3 harg3 arg4 harg4 arg5 harg5 arg6 harg6 arg7 harg7 arg8 harg8 arg9 harg9 arg10 harg10 G7 G8 G9 G10 n).2.1),
      arg9.view.read (Elt F) (arg9.view.writes (Elt F) G9 (pieces t x0 x1 x2 x3 x4 c arg2 harg2 arg3 harg3 arg4 harg4 arg5 harg5 arg6 harg6 arg7 harg7 arg8 harg8 arg9 harg9 arg10 harg10 G7 G8 G9 G10 n).2.2.1),
      arg10.view.read (Elt F) (arg10.view.writes (Elt F) G10 (pieces t x0 x1 x2 x3 x4 c arg2 harg2 arg3 harg3 arg4 harg4 arg5 harg5 arg6 harg6 arg7 harg7 arg8 harg8 arg9 harg9 arg10 harg10 G7 G8 G9 G10 n).2.2.2)) : St F)
      = states t x0 x1 x2 x3 x4 (arg7.view.read (Elt F) G7, arg8.view.read (Elt F) G8, arg9.view.read (Elt F) G9, arg10.view.read (Elt F) G10) n := by
  induction n with
  | zero => rfl
  | succ n ih =>
    have ih := ih (Nat.le_of_succ_le hn)
    rw [show n + 1 = (⟨n, hn⟩ : K).val + 1 from rfl, states_succ, ← ih]
    unfold pieces
    rw [pb_k0_t1_succ]
    unfold tripL_k0_t1 trip_k0_t1
    dsimp only
    have hcons : ∀ {α : Type} (a : α) (l : List α), [a] ++ l = a :: l := fun _ _ => rfl
    simp only [r_eq, r1_eq, r2_eq, r3_eq, r4_eq, r5_eq, hcons]
    refine Prod.ext ?_ (Prod.ext ?_ (Prod.ext ?_ ?_))
    · exact View.read_writes_cons_put arg7.view G7 _ _ _ rfl
    · exact View.read_writes_cons_put arg8.view G8 _ _ _ rfl
    · exact View.read_writes_cons_put arg9.view G9 _ _ _ rfl
    · refine (View.read_writes_full arg10.view G10 inb_S1x256x768_S1x256x768_0_0_0 _ _).trans ?_
      exact congrArg _ (View.readAt_full arg10.view _ _)

end Run

end Cert.AttnKernelIdeal.Trip

end
-- ==== Proof.Attn.Softmax.lean ====
/- A masked row of scores over the reals: its maximum, its exponentials, its weights, and the gradient through them. A
   masked score is `-∞`; it takes part in nothing. -/
module

public import proofs.«01_k».proof.Proof.Arith
public import Mathlib.Analysis.SpecialFunctions.Exp

@[expose] public section

noncomputable section

namespace Cert.Arith

open Idealize.ShloMosaic

variable {ι : Type} [Fintype ι]

/-- A row's scores, `-∞` where masked. -/
def masked (ok : ι → Prop) [DecidablePred ok] (s : ι → ℝ) (w : ι) : EReal := if ok w then ((s w : ℝ) : EReal) else ⊥

/-- An unnormalised weight: nothing where masked. -/
def wexp (ok : ι → Prop) [DecidablePred ok] (s : ι → ℝ) (w : ι) : ℝ := if ok w then Real.exp (s w) else 0

variable (ok : ι → Prop) [DecidablePred ok] (s : ι → ℝ)

/-- A row's normaliser. -/
def wsum : ℝ := ∑ w, wexp ok s w

theorem wexp_nonneg (w : ι) : 0 ≤ wexp ok s w := by unfold wexp; split <;> positivity

theorem wsum_pos (h : ∃ w, ok w) : 0 < wsum ok s := by
  obtain ⟨w, hw⟩ := h
  refine Finset.sum_pos' (fun w _ => wexp_nonneg ok s w) ⟨w, Finset.mem_univ w, ?_⟩
  rw [wexp, if_pos hw]; exact Real.exp_pos _

theorem fold_max_masked (S : Finset ι) :
    (S.fold max (⊥ : EReal) (masked ok s) = ⊥ ∧ ∀ w ∈ S, ¬ok w) ∨ ∃ μ : ℝ, S.fold max (⊥ : EReal) (masked ok s) = (μ : EReal) := by
  classical
  induction S using Finset.induction_on with
  | empty => left; exact ⟨rfl, by simp⟩
  | insert a S ha ih =>
    rw [Finset.fold_insert ha]
    by_cases hok : ok a
    · right
      rw [show masked ok s a = ((s a : ℝ) : EReal) from if_pos hok]
      rcases ih with ⟨h, -⟩ | ⟨μ, h⟩
      · exact ⟨s a, by rw [h]; exact max_eq_left bot_le⟩
      · exact ⟨max (s a) μ, by rw [h]; exact (EReal.coe_strictMono.monotone.map_max).symm⟩
    · rw [show masked ok s a = ⊥ from if_neg hok, max_eq_right bot_le]
      rcases ih with ⟨h, h'⟩ | ⟨μ, h⟩
      · left; exact ⟨h, fun w hw => by rcases Finset.mem_insert.mp hw with rfl | hw; exacts [hok, h' w hw]⟩
      · right; exact ⟨μ, h⟩

/-- The maximum of a row that is not masked throughout is a real number. -/
theorem exists_max (h : ∃ w, ok w) : ∃ μ : ℝ, Finset.univ.fold max (⊥ : EReal) (masked ok s) = (μ : EReal) := by
  rcases fold_max_masked ok s Finset.univ with ⟨-, h'⟩ | h'
  · obtain ⟨w, hw⟩ := h; exact absurd hw (h' w (Finset.mem_univ w))
  · exact h'

/-- A score less a shift, exponentiated. -/
theorem exp_masked (μ : ℝ) (w : ι) : Ideal.exp (masked ok s w - (μ : EReal)) = ((wexp ok s w * Real.exp (-μ) : ℝ) : EReal) := by
  unfold masked wexp
  split
  · rw [← EReal.coe_sub, Ideal.exp_coe, sub_eq_add_neg, Real.exp_add]
  · rw [EReal.bot_sub, zero_mul]; rfl

/-- A weight as the programs compute it, whatever the shift. -/
theorem softmax_masked (h : ∃ w, ok w) (μ : ℝ) (w : ι) :
    Ideal.div (Ideal.exp (masked ok s w - (μ : EReal))) (∑ w, Ideal.exp (masked ok s w - (μ : EReal)))
      = ((wexp ok s w / wsum ok s : ℝ) : EReal) := by
  simp only [exp_masked]
  have hs := (wsum_pos ok s h).ne'
  rw [coe_sum, ← Finset.sum_mul, show (∑ w, wexp ok s w) = wsum ok s from rfl]
  rw [div_coe _ (mul_ne_zero hs (Real.exp_pos _).ne')]
  exact congrArg _ (mul_div_mul_right _ _ (Real.exp_pos _).ne')

end Cert.Arith

end
-- ==== Proof.Attn.Real.lean ====
/- The chunked attention and its gradient over the real numbers. Position `n` of the queries attends to position `κ` of
   the padded keys (512 rows of zeros in front): those of its own chunk of 64 and of the eight chunks before, the padding
   left out. Arrays are functions of natural numbers here, so that blocks, windows and chunks are sums over ranges. -/
module

public import proofs.«01_k».proof.Proof.Attn.Softmax
public import Mathlib.Algebra.BigOperators.Fin
public import Mathlib.Algebra.BigOperators.Intervals

@[expose] public section

noncomputable section

namespace Cert.Attn

open Idealize.ShloMosaic Cert.Arith

/-- The real number that `128^(-1/2)` is rounded to. -/
def scale : ℝ := 11863283 * (2 : ℝ) ^ (-27 : ℤ)

theorem bits_scale : Ideal.ofBits .f32 0x3DB504F3#32 = ((scale : ℝ) : EReal) := by
  simp [Ideal.ofBits, Ideal.ieee, scale, -EReal.coe_mul]

theorem bits_bot : Ideal.ofBits .f32 0xFF800000#32 = ⊥ := by simp [Ideal.ofBits, Ideal.ieee]

/-- The forward inputs and the cotangent, as functions of row and column. -/
structure Data where
  Q : ℕ → ℕ → ℝ
  K : ℕ → ℕ → ℝ
  V : ℕ → ℕ → ℝ
  T : ℕ → ℕ → ℝ
  O : ℕ → ℕ → ℝ

/-- An array with 512 rows of zeros in front. -/
def pad (X : ℕ → ℕ → ℝ) (κ c : ℕ) : ℝ := if 512 ≤ κ then X (κ - 512) c else 0

/-- The entry of the relative table that position `n` reads for key `κ`, `κ` in the band. -/
def rel (n κ : ℕ) : ℕ := if κ < 64 * (n / 64) + n % 64 + 385 then 191 else 575 + 64 * (n / 64) + n % 64 - κ

/-- The key is in the band of `n`'s chunk. -/
def band (n κ : ℕ) : Prop := 64 * (n / 64) ≤ κ ∧ κ < 64 * (n / 64) + 576

instance (n κ : ℕ) : Decidable (band n κ) := by unfold band; infer_instance

/-- The key takes part: in the band and not padding. -/
def ok (n κ : ℕ) : Prop := 512 ≤ κ ∧ band n κ

instance (n κ : ℕ) : Decidable (ok n κ) := by unfold ok; infer_instance

variable (D : Data)

/-- The product of a query and a key, scaled, with the relative term. -/
def score (h n κ : ℕ) : ℝ := (∑ d : Fin 128, D.Q n (128 * h + d.val) * pad D.K κ (128 * h + d.val)) * scale + D.T h (rel n κ)

/-- The unnormalised weight. -/
def E (h n κ : ℕ) : ℝ := if ok n κ then Real.exp (score D h n κ) else 0

/-- The normaliser. -/
def Z (h n : ℕ) : ℝ := ∑ κ ∈ Finset.range 8704, E D h n κ

/-- The weight. -/
def P (h n κ : ℕ) : ℝ := E D h n κ / Z D h n

/-- The weight's cotangent. -/
def dP (h n κ : ℕ) : ℝ := ∑ d : Fin 128, D.O n (128 * h + d.val) * pad D.V κ (128 * h + d.val)

/-- The score's cotangent. -/
def dS (h n κ : ℕ) : ℝ := P D h n κ * (dP D h n κ - ∑ κ' ∈ Finset.range 8704, P D h n κ' * dP D h n κ')

/-- The gradient in the queries. -/
def dq (h n d : ℕ) : ℝ := (∑ κ ∈ Finset.range 8704, dS D h n κ * pad D.K κ (128 * h + d)) * scale

/-- The gradient in the padded keys. -/
def dk (h κ d : ℕ) : ℝ := ∑ n ∈ Finset.range 8192, dS D h n κ * D.Q n (128 * h + d) * scale

/-- The gradient in the padded values. -/
def dv (h κ d : ℕ) : ℝ := ∑ n ∈ Finset.range 8192, P D h n κ * D.O n (128 * h + d)

theorem E_zero {h n κ : ℕ} (hk : ¬ok n κ) : E D h n κ = 0 := if_neg hk
theorem P_zero {h n κ : ℕ} (hk : ¬ok n κ) : P D h n κ = 0 := by rw [P, E_zero D hk, zero_div]
theorem dS_zero {h n κ : ℕ} (hk : ¬ok n κ) : dS D h n κ = 0 := by rw [dS, P_zero D hk, zero_mul]

/-- A sum over a window is the sum over all places where the summand vanishes outside the window. -/
theorem sum_window (W B N : ℕ) (hN : B + W ≤ N) (f : ℕ → ℝ) (hf : ∀ κ < N, ¬(B ≤ κ ∧ κ < B + W) → f κ = 0) :
    (∑ w : Fin W, f (B + w.val)) = ∑ κ ∈ Finset.range N, f κ := by
  have e : ∑ κ ∈ Finset.Ico B (B + W), f κ = ∑ w ∈ Finset.range W, f (B + w) := by
    rw [Finset.sum_Ico_eq_sum_range, Nat.add_sub_cancel_left]
  rw [Fin.sum_univ_eq_sum_range (fun w => f (B + w)) W, ← e]
  refine Finset.sum_subset (fun κ h => ?_) fun κ h h' => ?_
  · rw [Finset.mem_Ico] at h; rw [Finset.mem_range]; omega
  · rw [Finset.mem_range] at h; rw [Finset.mem_Ico] at h'; exact hf κ h h'

/-- A window of `W` keys from `B` holds the band of `n`. -/
structure Holds (n B W : ℕ) : Prop where
  lo : B ≤ 64 * (n / 64)
  hi : 64 * (n / 64) + 576 ≤ B + W
  top : B + W ≤ 8704

variable {D}

theorem Holds.out {n B W : ℕ} (H : Holds n B W) {κ : ℕ} (h : ¬(B ≤ κ ∧ κ < B + W)) : ¬ok n κ := by
  rintro ⟨-, h1, h2⟩
  have := H.lo; have := H.hi
  omega

theorem Holds.some {n B W : ℕ} (H : Holds n B W) (hn : n < 8192) : ∃ w : Fin W, ok n (B + w.val) := by
  have h1 := H.lo; have h2 := H.hi
  refine ⟨⟨64 * (n / 64) + 575 - B, by omega⟩, ?_, ?_, ?_⟩ <;> show _ <;> simp only [] <;> omega

theorem Holds.wexp (D : Data) {n B W : ℕ} (h : ℕ) (w : Fin W) :
    wexp (fun w : Fin W => ok n (B + w.val)) (fun w => score D h n (B + w.val)) w = E D h n (B + w.val) := rfl

theorem Holds.wsum (D : Data) {n B W : ℕ} (H : Holds n B W) (h : ℕ) :
    wsum (fun w : Fin W => ok n (B + w.val)) (fun w => score D h n (B + w.val)) = Z D h n :=
  sum_window W B 8704 H.top (E D h n) fun κ _ hk => E_zero D (H.out hk)

/-- The normaliser is positive. -/
theorem Z_pos (D : Data) (h : ℕ) {n : ℕ} (hn : n < 8192) : 0 < Z D h n := by
  have H : Holds n 0 8704 := ⟨by omega, by omega, by omega⟩
  rw [← H.wsum D h]
  exact wsum_pos _ _ (H.some hn)

/-- A row of weights as the programs compute it, over a window that holds the band. -/
theorem weights (D : Data) {n B W : ℕ} (H : Holds n B W) (hn : n < 8192) (h : ℕ) (x : Fin W → EReal)
    (hx : ∀ w, x w = masked (fun w : Fin W => ok n (B + w.val)) (fun w => score D h n (B + w.val)) w) (w : Fin W) :
    Ideal.div (Ideal.exp (x w - Finset.univ.fold max ⊥ x)) (∑ w, Ideal.exp (x w - Finset.univ.fold max ⊥ x))
      = ((P D h n (B + w.val) : ℝ) : EReal) := by
  obtain rfl : x = masked (fun w : Fin W => ok n (B + w.val)) (fun w => score D h n (B + w.val)) := funext hx
  obtain ⟨μ, hμ⟩ := exists_max (fun w : Fin W => ok n (B + w.val)) (fun w => score D h n (B + w.val)) (H.some hn)
  rw [hμ, softmax_masked _ _ (H.some hn), H.wsum D h]
  rfl

/-- A row's sum of weights times their cotangents, over a window that holds the band. -/
theorem Holds.sum_P (D : Data) {n B W : ℕ} (H : Holds n B W) (h : ℕ) (f : ℕ → ℝ) :
    (∑ w : Fin W, P D h n (B + w.val) * f (B + w.val)) = ∑ κ ∈ Finset.range 8704, P D h n κ * f κ :=
  sum_window W B 8704 H.top (fun κ => P D h n κ * f κ) fun κ _ hk => by rw [P_zero D (H.out hk), zero_mul]

/-- The same of the scores' cotangents. -/
theorem Holds.sum_dS (D : Data) {n B W : ℕ} (H : Holds n B W) (h : ℕ) (f : ℕ → ℝ) :
    (∑ w : Fin W, dS D h n (B + w.val) * f (B + w.val)) = ∑ κ ∈ Finset.range 8704, dS D h n κ * f κ :=
  sum_window W B 8704 H.top (fun κ => dS D h n κ * f κ) fun κ _ hk => by rw [dS_zero D (H.out hk), zero_mul]

end Cert.Attn

end
-- ==== Proof.Attn.Payload.lean ====
/- What one block of 256 queries computes, over the reals: the weights, their cotangents, and the four sums. -/
module

public import proofs.«01_k».proof.Proof.Attn.Trip
public import proofs.«01_k».proof.Proof.Attn.Real
public import Idealize.ShloMosaic.Lib.Pipeline.ValueKit
public import Idealize.ShloMosaic.Lib.WordCmp

@[expose] public section

noncomputable section

namespace Cert.AttnKernelIdeal.Trip

open Idealize.ShloMosaic Idealize.ShloMosaic.TcCoe
open Cert.AttnKernelIdeal.Gen Cert.Attn Cert.Arith

/-- The number of a block among all 32. -/
def blk (t : Fin grid0.N) (k : K) : ℕ := 8 * (t.val % 4) + k.val

theorem blk_lt (t : Fin grid0.N) (k : K) : blk t k < 32 := by
  have := k.isLt.trans_eq trips_eq
  unfold blk; omega

/-- The head of a grid point. -/
def head (t : Fin grid0.N) : ℕ := t.val / 4

/-- What a grid point's five blocks hold: a head's columns of the arrays, and that head's band of relative terms. -/
structure Blocks (D : Data) (t : Fin grid0.N) (x0 : Vec Ideal S2048x128 .bf16) (x1 x2 : Vec Ideal S8704x128 .bf16)
    (x3 : Vec Ideal S1x256x768 .f32) (x4 : Vec Ideal S2048x128 .bf16) : Prop where
  q : ∀ (r : Fin 2048) (d : Fin 128), x0 (ix2 r d) = ((D.Q (2048 * (t.val % 4) + r.val) (128 * head t + d.val) : ℝ) : EReal)
  k : ∀ (κ : Fin 8704) (d : Fin 128), x1 (ix2 κ d) = ((pad D.K κ.val (128 * head t + d.val) : ℝ) : EReal)
  v : ∀ (κ : Fin 8704) (d : Fin 128), x2 (ix2 κ d) = ((pad D.V κ.val (128 * head t + d.val) : ℝ) : EReal)
  b : ∀ (r : Fin 256) (w : Fin 768), x3 (ix3 0 r w) = if band r.val w.val then ((D.T (head t) (rel r.val w.val) : ℝ) : EReal) else ⊥
  o : ∀ (r : Fin 2048) (d : Fin 128), x4 (ix2 r d) = ((D.O (2048 * (t.val % 4) + r.val) (128 * head t + d.val) : ℝ) : EReal)

theorem holds (t : Fin grid0.N) (k : K) (r : Fin 256) : Holds (256 * blk t k + r.val) (256 * blk t k) 768 := by
  have := blk_lt t k
  have := r.isLt
  refine ⟨?_, ?_, ?_⟩ <;> omega

theorem band_shift (b : ℕ) {r : ℕ} (w : ℕ) : band (256 * b + r) (256 * b + w) ↔ band r w := by
  unfold band
  omega

theorem rel_shift (b : ℕ) (r w : ℕ) : rel (256 * b + r) (256 * b + w) = rel r w := by
  unfold rel
  split <;> split <;> omega

theorem rows_apply (k : K) (x : Vec Ideal S2048x128 .bf16) (r : Fin 256) (d : Fin 128) :
    rows k x (ix2 r d) = x (ix2 ⟨256 * k.val + r.val, by have := k.isLt.trans_eq trips_eq; omega⟩ d) := by
  unfold rows VecWindow.window
  congr 1
  funext a
  fin_cases a <;> apply Fin.ext <;> simp [off1_eq, ix2]

theorem wind_apply (t : Fin grid0.N) (k : K) (x : Vec Ideal S8704x128 .bf16) (w : Fin 768) (d : Fin 128) :
    wind t k x (ix2 w d) = x (ix2 ⟨256 * blk t k + w.val, by have := blk_lt t k; omega⟩ d) := by
  unfold wind VecWindow.window
  congr 1
  funext a
  fin_cases a <;> apply Fin.ext <;> simp [off2_eq, ix2, blk]

theorem mask_word (t : Fin grid0.N) (k : K) :
    IntOp.muli (IntOp.addi (IntOp.muli (BitVec.ofNat 32 (grid0.coords t 1).val) 8#32) (Scf.iv 0#32 1#32 k.val)) 256#32
      = BitVec.ofNat 32 (256 * blk t k) :=
  (by decide +kernel : ∀ (t : Fin grid0.N) (k : K), IntOp.muli (IntOp.addi (IntOp.muli (BitVec.ofNat 32 (grid0.coords t 1).val) 8#32)
    (Scf.iv 0#32 1#32 k.val)) 256#32 = BitVec.ofNat 32 (256 * (8 * (t.val % 4) + k.val))) t k

variable {D : Data} {t : Fin grid0.N} {x0 : Vec Ideal S2048x128 .bf16} {x1 x2 : Vec Ideal S8704x128 .bf16}
  {x3 : Vec Ideal S1x256x768 .f32} {x4 : Vec Ideal S2048x128 .bf16}

theorem Blocks.rows_q (H : Blocks D t x0 x1 x2 x3 x4) (k : K) (r : Fin 256) (d : Fin 128) :
    rows k x0 (ix2 r d) = ((D.Q (256 * blk t k + r.val) (128 * head t + d.val) : ℝ) : EReal) := by
  rw [rows_apply, H.q, show 2048 * (t.val % 4) + (256 * k.val + r.val) = 256 * blk t k + r.val by unfold blk; omega]

theorem Blocks.rows_o (H : Blocks D t x0 x1 x2 x3 x4) (k : K) (r : Fin 256) (d : Fin 128) :
    rows k x4 (ix2 r d) = ((D.O (256 * blk t k + r.val) (128 * head t + d.val) : ℝ) : EReal) := by
  rw [rows_apply, H.o, show 2048 * (t.val % 4) + (256 * k.val + r.val) = 256 * blk t k + r.val by unfold blk; omega]

theorem Blocks.wind_k (H : Blocks D t x0 x1 x2 x3 x4) (k : K) (w : Fin 768) (d : Fin 128) :
    wind t k x1 (ix2 w d) = ((pad D.K (256 * blk t k + w.val) (128 * head t + d.val) : ℝ) : EReal) := by rw [wind_apply, H.k]

theorem Blocks.wind_v (H : Blocks D t x0 x1 x2 x3 x4) (k : K) (w : Fin 768) (d : Fin 128) :
    wind t k x2 (ix2 w d) = ((pad D.V (256 * blk t k + w.val) (128 * head t + d.val) : ℝ) : EReal) := by rw [wind_apply, H.v]

/-- A block's row of scores, masked. -/
theorem pay12_eq (a : BitVec 32) (k : K) (q : Vec Ideal S256x128 .bf16) (kk : Vec Ideal S768x128 .bf16) (b : Vec Ideal S1x256x768 .f32)
    (r : Fin 256) (w : Fin 768) (x : Fin 768 → EReal)
    (hx : ∀ w : Fin 768, x w = Scalar.select (IntOp.cmpi .sge (IntOp.addi (IntOp.muli (IntOp.addi (IntOp.muli a 8#32) (Scf.iv 0#32 1#32 k.val)) 256#32)
      (BitVec.ofNat 32 w.val)) 512#32) ((∑ d, q (ix2 r d) * kk (ix2 w d)) * Ideal.ofBits .f32 0x3DB504F3#32 + b (ix3 0 r w)) (⊥ : EReal)) :
    k0_pay12 (F := Ideal) a 0#32 1#32 k q kk b (ix2 r w)
      = Ideal.div (Ideal.exp (x w - Finset.univ.fold max ⊥ x)) (∑ w, Ideal.exp (x w - Finset.univ.fold max ⊥ x)) := by
  unfold_payloads
  pointwise
  rw [bits_bot]
  simp only [hx]
  rfl

theorem Blocks.probs (H : Blocks D t x0 x1 x2 x3 x4) (k : K) (r : Fin 256) (w : Fin 768) :
    probs t k x0 x1 x3 (ix2 r w) = ((P D (head t) (256 * blk t k + r.val) (256 * blk t k + w.val) : ℝ) : EReal) := by
  have hb := blk_lt t k
  have hr := r.isLt
  unfold Trip.probs
  rw [pay12_eq _ k _ _ _ r w _ fun _ => rfl]
  refine weights D (holds t k r) (by omega) (head t) _ (fun w => ?_) w
  have hw := w.isLt
  rw [mask_word, show IntOp.addi (BitVec.ofNat 32 (256 * blk t k)) (BitVec.ofNat 32 w.val) = BitVec.ofNat 32 (256 * blk t k + w.val) from
    (BitVec.ofNat_add ..).symm, bits_scale, H.b]
  simp only [H.rows_q, H.wind_k]
  unfold masked
  by_cases h : 512 ≤ 256 * blk t k + w.val
  · rw [(WordCmp.cmpi_sge_ofNat_eq_one_iff (by omega) (by omega)).mpr h]
    by_cases h' : band r.val w.val
    · rw [if_pos h', if_pos (show ok _ _ from ⟨h, (band_shift _ _).mpr h'⟩)]
      simp only [Scalar.select, ← EReal.coe_mul, coe_sum, ← EReal.coe_add, score, rel_shift]
      rfl
    · rw [if_neg h', if_neg (show ¬ok _ _ from fun h'' => h' ((band_shift _ _).mp h''.2)), EReal.add_bot]
      rfl
  · rw [(WordCmp.cmpi_sge_ofNat_eq_zero_iff (by omega) (by omega)).mpr h, if_neg (show ¬ok _ _ from fun h' => h h'.1)]
    rfl

theorem Blocks.dprobs (H : Blocks D t x0 x1 x2 x3 x4) (k : K) (r : Fin 256) (w : Fin 768) :
    dprobs t k x2 x4 (ix2 r w) = ((dP D (head t) (256 * blk t k + r.val) (256 * blk t k + w.val) : ℝ) : EReal) := by
  unfold Trip.dprobs
  unfold_payloads
  pointwise
  simp only [H.rows_o, H.wind_v, ← EReal.coe_mul, coe_sum, dP]

theorem Blocks.mul (H : Blocks D t x0 x1 x2 x3 x4) (k : K) (r : Fin 256) (w : Fin 768) :
    mulf (Trip.probs t k x0 x1 x3) (Trip.dprobs t k x2 x4) (ix2 r w)
      = ((P D (head t) (256 * blk t k + r.val) (256 * blk t k + w.val) * dP D (head t) (256 * blk t k + r.val) (256 * blk t k + w.val) : ℝ) : EReal) := by
  pointwise
  rw [H.probs, H.dprobs, EReal.coe_mul]

theorem Blocks.scores (H : Blocks D t x0 x1 x2 x3 x4) (k : K) (r : Fin 256) (w : Fin 768) :
    Trip.probs t k x0 x1 x3 (ix2 r w) * (Trip.dprobs t k x2 x4 (ix2 r w) - ∑ w', mulf (Trip.probs t k x0 x1 x3) (Trip.dprobs t k x2 x4) (ix2 r w'))
      = ((dS D (head t) (256 * blk t k + r.val) (256 * blk t k + w.val) : ℝ) : EReal) := by
  simp only [H.probs, H.dprobs, H.mul, coe_sum, ← EReal.coe_sub, ← EReal.coe_mul]
  rw [(holds t k r).sum_P D (head t) (fun κ => dP D (head t) (256 * blk t k + r.val) κ)]
  rfl

/-- The gradient in a block's queries. -/
theorem Blocks.pay8 (H : Blocks D t x0 x1 x2 x3 x4) (k : K) (r : Fin 256) (d : Fin 128) :
    k0_pay8 (F := Ideal) (k0_pay11 (wind t k x1)) (Trip.probs t k x0 x1 x3) (Trip.dprobs t k x2 x4) (mulf (Trip.probs t k x0 x1 x3) (Trip.dprobs t k x2 x4))
      (ix2 r d) = ((dq D (head t) (256 * blk t k + r.val) d.val : ℝ) : EReal) := by
  have := H.scores k r
  generalize hp : Trip.probs t k x0 x1 x3 = p at *
  generalize hdp : Trip.dprobs t k x2 x4 = dp at *
  generalize hpp : mulf p dp = pp at *
  unfold_payloads
  pointwise
  rw [bits_scale]
  simp only [this, H.wind_k, ← EReal.coe_mul, coe_sum]
  rw [(holds t k r).sum_dS D (head t) (fun κ => pad D.K κ (128 * head t + d.val))]
  rfl

/-- What a block adds to the gradient in the keys. -/
theorem Blocks.pay9 (H : Blocks D t x0 x1 x2 x3 x4) (k : K) (v : Vec Ideal S768x128 .f32) (w : Fin 768) (d : Fin 128) :
    k0_pay9 (F := Ideal) (rows k x0) (Trip.probs t k x0 x1 x3) (Trip.dprobs t k x2 x4) (mulf (Trip.probs t k x0 x1 x3) (Trip.dprobs t k x2 x4)) v (ix2 w d)
      = v (ix2 w d) + (((∑ r : Fin 256, dS D (head t) (256 * blk t k + r.val) (256 * blk t k + w.val) * D.Q (256 * blk t k + r.val) (128 * head t + d.val) * scale : ℝ)) : EReal) := by
  have := fun r => H.scores k r w
  generalize hp : Trip.probs t k x0 x1 x3 = p at *
  generalize hdp : Trip.dprobs t k x2 x4 = dp at *
  generalize hpp : mulf p dp = pp at *
  unfold_payloads
  pointwise
  rw [bits_scale]
  simp only [this, H.rows_q, ← EReal.coe_mul, coe_sum, Finset.sum_mul]

/-- What a block adds to the gradient in the values. -/
theorem Blocks.pay10 (H : Blocks D t x0 x1 x2 x3 x4) (k : K) (v : Vec Ideal S768x128 .f32) (w : Fin 768) (d : Fin 128) :
    k0_pay10 (F := Ideal) (rows k x4) (Trip.probs t k x0 x1 x3) v (ix2 w d)
      = v (ix2 w d) + (((∑ r : Fin 256, P D (head t) (256 * blk t k + r.val) (256 * blk t k + w.val) * D.O (256 * blk t k + r.val) (128 * head t + d.val) : ℝ)) : EReal) := by
  have := fun r => H.probs k r w
  generalize hp : Trip.probs t k x0 x1 x3 = p at *
  unfold_payloads
  pointwise
  simp only [this, H.rows_o, ← EReal.coe_mul, coe_sum]

/-- What a block adds to the gradient in the relative terms. -/
theorem Blocks.pay6 (H : Blocks D t x0 x1 x2 x3 x4) (k : K) (v : Vec Ideal S1x256x768 .f32) (r : Fin 256) (w : Fin 768) :
    k0_pay6 (F := Ideal) (Trip.probs t k x0 x1 x3) (Trip.dprobs t k x2 x4) (mulf (Trip.probs t k x0 x1 x3) (Trip.dprobs t k x2 x4)) v (ix3 0 r w)
      = v (ix3 0 r w) + ((dS D (head t) (256 * blk t k + r.val) (256 * blk t k + w.val) : ℝ) : EReal) := by
  have := H.scores k r w
  generalize hp : Trip.probs t k x0 x1 x3 = p at *
  generalize hdp : Trip.dprobs t k x2 x4 = dp at *
  generalize hpp : mulf p dp = pp at *
  unfold_payloads
  pointwise
  rw [this]

end Cert.AttnKernelIdeal.Trip

end
-- ==== Proof.Attn.Point.lean ====
/- What the attention's gradient leaves after each grid point: the recursion over a point's eight blocks of queries,
   started at zero for the queries' gradient, and for the three others at zero at a head's first point and at what the
   point before left elsewhere. -/
module

public import proofs.«01_k».proof.Proof.Attn.Trip
public import proofs.«01_k».proof.Proof.Gen.AttnKernelIdeal.Frame

@[expose] public section

noncomputable section

namespace Cert.AttnKernelIdeal.Trip

open Idealize.ShloMosaic Idealize.ShloMosaic.TcCoe Idealize.ShloMosaic.Tactic
open Idealize.SL Idealize.SL.RA Idealize.SL.BI Idealize.SL.Sem
open Cert.AttnKernelIdeal.Gen

variable {F : FTy → Type} [FloatOps F] [Named F]
variable (m : (ℓ : Loc nD τ sig) → Buf (Elt F) ℓ) (c : Dev nD)

/-- A point's blocks of queries, over given contents. -/
abbrev point (t : Fin cfg0.N) (s : St F) : St F :=
  states t (iblk m c 0 t) (iblk m c 1 t) (iblk m c 2 t) (iblk m c 3 t) (iblk m c 4 t) s k0_t1_loop.trips

section Body

variable (t : Fin cfg0.N) (arg2 : Memref sig .tc .vmem S2048x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S1x256x768 .f32) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S8704x128 .f32) (harg8 : arg8.IsWhole) (arg9 : Memref sig .tc .vmem S8704x128 .f32) (harg9 : arg9.IsWhole) (arg10 : Memref sig .tc .vmem S1x256x768 .f32) (harg10 : arg10.IsWhole) (x0 : Vec F S2048x128 .bf16) (x1 : Vec F S8704x128 .bf16) (x2 : Vec F S8704x128 .bf16) (x3 : Vec F S1x256x768 .f32) (x4 : Vec F S2048x128 .bf16)

/-- The stores of a head's first point. -/
theorem outs_first (hc0 : cond0_0 (grid0.coords t)) :
    ((out0_A_5 c (grid0.coords t) arg2 harg2 arg3 harg3 arg4 harg4 arg5 harg5 arg6 harg6 arg7 harg7 arg8 harg8 arg9 harg9 arg10 harg10 hc0 x0 x1 x2 x3 x4, out0_A_6 c (grid0.coords t) arg2 harg2 arg3 harg3 arg4 harg4 arg5 harg5 arg6 harg6 arg7 harg7 arg8 harg8 arg9 harg9 arg10 harg10 hc0 x0 x1 x2 x3 x4, out0_A_7 c (grid0.coords t) arg2 harg2 arg3 harg3 arg4 harg4 arg5 harg5 arg6 harg6 arg7 harg7 arg8 harg8 arg9 harg9 arg10 harg10 hc0 x0 x1 x2 x3 x4, out0_A_8 c (grid0.coords t) arg2 harg2 arg3 harg3 arg4 harg4 arg5 harg5 arg6 harg6 arg7 harg7 arg8 harg8 arg9 harg9 arg10 harg10 hc0 x0 x1 x2 x3 x4) : St F)
      = states t x0 x1 x2 x3 x4 (k0_pay4, k0_pay1, k0_pay2, k0_pay3) k0_t1_loop.trips := by
  have e := reads_pieces t x0 x1 x2 x3 x4 c arg2 harg2 arg3 harg3 arg4 harg4 arg5 harg5 arg6 harg6 arg7 harg7 arg8 harg8 arg9 harg9 arg10 harg10
    (arg7.view.writes (Elt F) arg7.view.junk kernelRun0_A.sl.H5_1) (arg8.view.writes (Elt F) arg8.view.junk kernelRun0_A.sl.H6_1)
    (arg9.view.writes (Elt F) arg9.view.junk kernelRun0_A.sl.H7_1) (arg10.view.writes (Elt F) arg10.view.junk kernelRun0_A.sl.H8_1) k0_t1_loop.trips le_rfl
  unfold out0_A_5 out0_A_6 out0_A_7 out0_A_8
  rw [View.read_writes_of_cover VO0_5 VO0_5.junk arg7.view arg7.view.junk _ (cover0_A_5 c (grid0.coords t) arg2 harg2 arg3 harg3 arg4 harg4 arg5 harg5 arg6 harg6 arg7 harg7 arg8 harg8 arg9 harg9 arg10 harg10 hc0 x0 x1 x2 x3 x4),
    View.read_writes_of_cover VO0_6 VO0_6.junk arg8.view arg8.view.junk _ (cover0_A_6 c (grid0.coords t) arg2 harg2 arg3 harg3 arg4 harg4 arg5 harg5 arg6 harg6 arg7 harg7 arg8 harg8 arg9 harg9 arg10 harg10 hc0 x0 x1 x2 x3 x4),
    View.read_writes_of_cover VO0_7 VO0_7.junk arg9.view arg9.view.junk _ (cover0_A_7 c (grid0.coords t) arg2 harg2 arg3 harg3 arg4 harg4 arg5 harg5 arg6 harg6 arg7 harg7 arg8 harg8 arg9 harg9 arg10 harg10 hc0 x0 x1 x2 x3 x4),
    View.read_writes_of_cover VO0_8 VO0_8.junk arg10.view arg10.view.junk _ (cover0_A_8 c (grid0.coords t) arg2 harg2 arg3 harg3 arg4 harg4 arg5 harg5 arg6 harg6 arg7 harg7 arg8 harg8 arg9 harg9 arg10 harg10 hc0 x0 x1 x2 x3 x4)]
  unfold kernelRun0_A
  dsimp only
  rw [View.writes_append, View.writes_append, View.writes_append, View.writes_append]
  refine e.trans (congrArg (fun s => states t x0 x1 x2 x3 x4 s k0_t1_loop.trips) ?_)
  refine Prod.ext ?_ (Prod.ext ?_ (Prod.ext ?_ ?_))
  · exact View.read_writes_full arg7.view _ inb_S2048x128_S2048x128_0_0 _ _
  · exact View.read_writes_full arg8.view _ inb_S8704x128_S8704x128_0_0 _ _
  · exact View.read_writes_full arg9.view _ inb_S8704x128_S8704x128_0_0 _ _
  · exact View.read_writes_full arg10.view _ inb_S1x256x768_S1x256x768_0_0_0 _ _

/-- The stores of a later point. -/
theorem outs_next (hc0 : ¬cond0_0 (grid0.coords t)) (xo6 xo7 : Vec F S8704x128 .f32) (xo8 : Vec F S1x256x768 .f32) :
    ((out0_B_5 c (grid0.coords t) arg2 harg2 arg3 harg3 arg4 harg4 arg5 harg5 arg6 harg6 arg7 harg7 arg8 harg8 arg9 harg9 arg10 harg10 hc0 x0 x1 x2 x3 x4 xo6 xo7 xo8, out0_B_6 c (grid0.coords t) arg2 harg2 arg3 harg3 arg4 harg4 arg5 harg5 arg6 harg6 arg7 harg7 arg8 harg8 arg9 harg9 arg10 harg10 hc0 x0 x1 x2 x3 x4 xo6 xo7 xo8, out0_B_7 c (grid0.coords t) arg2 harg2 arg3 harg3 arg4 harg4 arg5 harg5 arg6 harg6 arg7 harg7 arg8 harg8 arg9 harg9 arg10 harg10 hc0 x0 x1 x2 x3 x4 xo6 xo7 xo8, out0_B_8 c (grid0.coords t) arg2 harg2 arg3 harg3 arg4 harg4 arg5 harg5 arg6 harg6 arg7 harg7 arg8 harg8 arg9 harg9 arg10 harg10 hc0 x0 x1 x2 x3 x4 xo6 xo7 xo8) : St F)
      = states t x0 x1 x2 x3 x4 (k0_pay4, xo6, xo7, xo8) k0_t1_loop.trips := by
  have e := reads_pieces t x0 x1 x2 x3 x4 c arg2 harg2 arg3 harg3 arg4 harg4 arg5 harg5 arg6 harg6 arg7 harg7 arg8 harg8 arg9 harg9 arg10 harg10
    (arg7.view.writes (Elt F) arg7.view.junk kernelRun0_B.sl.H5_1) (harg8.unread xo6) (harg9.unread xo7) (harg10.unread xo8) k0_t1_loop.trips le_rfl
  unfold out0_B_5 out0_B_6 out0_B_7 out0_B_8
  rw [View.read_writes_of_cover VO0_5 VO0_5.junk arg7.view arg7.view.junk _ (cover0_B_5 c (grid0.coords t) arg2 harg2 arg3 harg3 arg4 harg4 arg5 harg5 arg6 harg6 arg7 harg7 arg8 harg8 arg9 harg9 arg10 harg10 hc0 x0 x1 x2 x3 x4 xo6 xo7 xo8)]
  unfold kernelRun0_B
  dsimp only
  rw [View.writes_append]
  refine e.trans (congrArg (fun s => states t x0 x1 x2 x3 x4 s k0_t1_loop.trips) ?_)
  refine Prod.ext ?_ (Prod.ext ?_ (Prod.ext ?_ ?_))
  · exact View.read_writes_full arg7.view _ inb_S2048x128_S2048x128_0_0 _ _
  · exact harg8.read_unread _
  · exact harg9.read_unread _
  · exact harg10.read_unread _

end Body

/-- What the results hold after a head's first point. -/
theorem outsAt_first (t : Fin cfg0.N) (h : t.val % 4 = 0) :
    outsAt0 m c t.val t.isLt = point m c t (k0_pay4, k0_pay1, k0_pay2, k0_pay3) :=
  (outsAt0_A m c t h).trans (outs_first _ _ _ _ _ _ _ _ _ _ _ _ _ _ _ _ _ _ _ _ _ _ _ _ _ _)

/-- What they hold after a later point. -/
theorem outsAt_next (t : Fin cfg0.N) (h : ¬t.val % 4 = 0) :
    outsAt0 m c t.val t.isLt = point m c t (k0_pay4, (outsAt0 m c (t.val - 1) (Nat.lt_of_le_of_lt (Nat.sub_le _ _) t.isLt)).2) :=
  (outsAt0_B m c t h).trans (outs_next _ _ _ _ _ _ _ _ _ _ _ _ _ _ _ _ _ _ _ _ _ _ _ _ _ _ _ _ _)

end Cert.AttnKernelIdeal.Trip

end
-- ==== Proof.Attn.States.lean ====
/- The recursion over a head's 32 blocks of queries, solved: after each grid point the queries' gradient of its rows, and of
   the three other gradients the sum over the head's rows so far. -/
module

public import proofs.«01_k».proof.Proof.Attn.Payload
public import proofs.«01_k».proof.Proof.Attn.Point

@[expose] public section

noncomputable section

namespace Cert.AttnKernelIdeal.Trip

open Idealize.ShloMosaic Idealize.ShloMosaic.TcCoe
open Idealize.SL.Sem
open Cert.AttnKernelIdeal.Gen Cert.Attn Cert.Arith

/-- One query's share of a key's gradient. -/
def shareK (D : Data) (h κ d n : ℕ) : ℝ := dS D h n κ * D.Q n (128 * h + d) * scale

/-- One query's share of a value's gradient. -/
def shareV (D : Data) (h κ d n : ℕ) : ℝ := P D h n κ * D.O n (128 * h + d)

/-- One block's share of a relative term's gradient. -/
def shareB (D : Data) (h r w b : ℕ) : ℝ := dS D h (256 * b + r) (256 * b + w)

variable {D : Data} {t : Fin grid0.N} {x0 : Vec Ideal S2048x128 .bf16} {x1 x2 : Vec Ideal S8704x128 .bf16}
  {x3 : Vec Ideal S1x256x768 .f32} {x4 : Vec Ideal S2048x128 .bf16}

/-- A window of rows put into an array, at one place. -/
theorem put_rows {N W : ℕ} (x : (⟨2, ![N, 128]⟩ : Shape).Idx → EReal) (o : ℕ)
    (w : ((a : Fin 2) → Fin ((⟨2, ![W, 128]⟩ : Shape).size a)) → EReal) (off : Fin 2 → ℕ) (hoff : off = ![o, 0]) (y : Fin N) (d : Fin 128) :
    VecWindow.put (s := ⟨2, ![N, 128]⟩) x off (⟨2, ![W, 128]⟩ : Shape).size w (ix2 y d)
      = if h : o ≤ y.val ∧ y.val < o + W then w (ix2 (⟨y.val - o, by omega⟩ : Fin W) d) else x (ix2 y d) := by
  subst hoff
  have hd := d.isLt
  unfold VecWindow.put
  by_cases h : o ≤ y.val ∧ y.val < o + W
  · rw [dif_pos h, dif_pos (by intro a; fin_cases a; exacts [h, ⟨Nat.zero_le _, by show d.val < 0 + 128; omega⟩])]
    congr 1
    funext a
    fin_cases a <;> apply Fin.ext <;> simp [Rect.unitLocal, ix2]
  · rw [dif_neg h, dif_neg fun h' => h (h' 0)]

theorem window_rows {W : ℕ} (x : Vec Ideal S8704x128 .f32) (k : K) (w : Fin 768) (d : Fin 128) :
    VecWindow.window (s := S8704x128) x (k0_off2 (grid0.coords t) k) S768x128.size (k0_off2_inb (grid0.coords t) k) (ix2 w d)
      = x (ix2 ⟨256 * blk t k + w.val, by have := blk_lt t k; omega⟩ d) := by
  unfold VecWindow.window
  congr 1
  funext a
  fin_cases a <;> apply Fin.ext <;> simp [off2_eq, ix2, blk]

section Step

variable (H : Blocks D t x0 x1 x2 x3 x4) (k : K) (s : St Ideal)
include H

theorem Blocks.step_q (y : Fin 2048) (d : Fin 128) :
    (step t k x0 x1 x2 x3 x4 s).1 (ix2 y d)
      = if 256 * k.val ≤ y.val ∧ y.val < 256 * k.val + 256 then ((dq D (head t) (2048 * (t.val % 4) + y.val) d.val : ℝ) : EReal) else s.1 (ix2 y d) := by
  unfold step
  dsimp only
  refine (put_rows (N := 2048) (W := 256) s.1 (256 * k.val) _ _ (off1_eq k) y d).trans ?_
  by_cases h : 256 * k.val ≤ y.val ∧ y.val < 256 * k.val + 256
  · rw [dif_pos h, if_pos h]
    refine (H.pay8 k ⟨y.val - 256 * k.val, by omega⟩ d).trans ?_
    rw [show 256 * blk t k + (y.val - 256 * k.val) = 2048 * (t.val % 4) + y.val by unfold blk; omega]
  · rw [dif_neg h, if_neg h]

theorem Blocks.step_k (κ : Fin 8704) (d : Fin 128) :
    (step t k x0 x1 x2 x3 x4 s).2.1 (ix2 κ d)
      = s.2.1 (ix2 κ d) + ((∑ x ∈ Finset.range 256, shareK D (head t) κ.val d.val (256 * blk t k + x) : ℝ) : EReal) := by
  unfold step
  dsimp only
  refine (put_rows (N := 8704) (W := 768) s.2.1 (256 * blk t k) _ _ (off2_eq t k) κ d).trans ?_
  by_cases h : 256 * blk t k ≤ κ.val ∧ κ.val < 256 * blk t k + 768
  · rw [dif_pos h]
    refine (H.pay9 k _ ⟨κ.val - 256 * blk t k, by omega⟩ d).trans ?_
    rw [window_rows (W := 768)]
    have e : 256 * blk t k + (κ.val - 256 * blk t k) = κ.val := by omega
    simp only [e]
    rw [Fin.sum_univ_eq_sum_range (fun x => dS D (head t) (256 * blk t k + x) κ.val * D.Q (256 * blk t k + x) (128 * head t + d.val) * scale)]
    rfl
  · rw [dif_neg h, Finset.sum_eq_zero, EReal.coe_zero, add_zero]
    intro x hx
    rw [Finset.mem_range] at hx
    rw [shareK, dS_zero D ((holds t k ⟨x, hx⟩).out h), zero_mul, zero_mul]

theorem Blocks.step_v (κ : Fin 8704) (d : Fin 128) :
    (step t k x0 x1 x2 x3 x4 s).2.2.1 (ix2 κ d)
      = s.2.2.1 (ix2 κ d) + ((∑ x ∈ Finset.range 256, shareV D (head t) κ.val d.val (256 * blk t k + x) : ℝ) : EReal) := by
  unfold step
  dsimp only
  refine (put_rows (N := 8704) (W := 768) s.2.2.1 (256 * blk t k) _ _ (off2_eq t k) κ d).trans ?_
  by_cases h : 256 * blk t k ≤ κ.val ∧ κ.val < 256 * blk t k + 768
  · rw [dif_pos h]
    refine (H.pay10 k _ ⟨κ.val - 256 * blk t k, by omega⟩ d).trans ?_
    rw [window_rows (W := 768)]
    have e : 256 * blk t k + (κ.val - 256 * blk t k) = κ.val := by omega
    simp only [e]
    rw [Fin.sum_univ_eq_sum_range (fun x => P D (head t) (256 * blk t k + x) κ.val * D.O (256 * blk t k + x) (128 * head t + d.val))]
    rfl
  · rw [dif_neg h, Finset.sum_eq_zero, EReal.coe_zero, add_zero]
    intro x hx
    rw [Finset.mem_range] at hx
    rw [shareV, P_zero D ((holds t k ⟨x, hx⟩).out h), zero_mul]

theorem Blocks.step_b (r : Fin 256) (w : Fin 768) :
    (step t k x0 x1 x2 x3 x4 s).2.2.2 (ix3 0 r w)
      = s.2.2.2 (ix3 0 r w) + ((shareB D (head t) r.val w.val (blk t k) : ℝ) : EReal) :=
  H.pay6 k _ r w

end Step

section States

variable (H : Blocks D t x0 x1 x2 x3 x4) (s : St Ideal)
include H

/-- The results after `n` blocks of a point. -/
theorem Blocks.states (n : ℕ) (hn : n ≤ 8) :
    (∀ (y : Fin 2048) (d : Fin 128), (states t x0 x1 x2 x3 x4 s n).1 (ix2 y d)
      = if y.val < 256 * n then ((dq D (head t) (2048 * (t.val % 4) + y.val) d.val : ℝ) : EReal) else s.1 (ix2 y d))
    ∧ (∀ (κ : Fin 8704) (d : Fin 128), (Trip.states t x0 x1 x2 x3 x4 s n).2.1 (ix2 κ d)
      = s.2.1 (ix2 κ d) + ((∑ x ∈ Finset.range (256 * n), shareK D (head t) κ.val d.val (2048 * (t.val % 4) + x) : ℝ) : EReal))
    ∧ (∀ (κ : Fin 8704) (d : Fin 128), (Trip.states t x0 x1 x2 x3 x4 s n).2.2.1 (ix2 κ d)
      = s.2.2.1 (ix2 κ d) + ((∑ x ∈ Finset.range (256 * n), shareV D (head t) κ.val d.val (2048 * (t.val % 4) + x) : ℝ) : EReal))
    ∧ (∀ (r : Fin 256) (w : Fin 768), (Trip.states t x0 x1 x2 x3 x4 s n).2.2.2 (ix3 0 r w)
      = s.2.2.2 (ix3 0 r w) + ((∑ b ∈ Finset.range n, shareB D (head t) r.val w.val (8 * (t.val % 4) + b) : ℝ) : EReal)) := by
  induction n with
  | zero => simp [Trip.states]
  | succ n ih =>
    obtain ⟨i1, i2, i3, i4⟩ := ih (Nat.le_of_succ_le hn)
    have e := states_succ t x0 x1 x2 x3 x4 s (⟨n, lt_of_lt_of_eq hn trips_eq.symm⟩ : K)
    dsimp only at e
    have hs : ∀ f : ℕ → ℝ, (∑ x ∈ Finset.range (256 * n), f (2048 * (t.val % 4) + x))
        + (∑ x ∈ Finset.range 256, f (256 * (8 * (t.val % 4) + n) + x)) = ∑ x ∈ Finset.range (256 * (n + 1)), f (2048 * (t.val % 4) + x) := fun f => by
      rw [Nat.mul_succ, Finset.sum_range_add]
      congr 1
      refine Finset.sum_congr rfl fun x _ => ?_
      congr 1
      omega
    rw [e]
    refine ⟨fun y d => ?_, fun κ d => ?_, fun κ d => ?_, fun r w => ?_⟩
    · rw [H.step_q, i1]
      dsimp only
      by_cases h1 : 256 * n ≤ y.val ∧ y.val < 256 * n + 256
      · rw [if_pos h1, if_pos (by omega)]
      · rw [if_neg h1]
        by_cases h2 : y.val < 256 * n
        · rw [if_pos h2, if_pos (by omega)]
        · rw [if_neg h2, if_neg (by omega)]
    · rw [H.step_k, i2, add_assoc, ← EReal.coe_add]
      exact congrArg (fun z : ℝ => _ + (z : EReal)) (hs _)
    · rw [H.step_v, i3, add_assoc, ← EReal.coe_add]
      exact congrArg (fun z : ℝ => _ + (z : EReal)) (hs _)
    · rw [H.step_b, i4, add_assoc, ← EReal.coe_add, Finset.sum_range_succ]
      rfl

end States

/-- What the four results hold after a grid point. -/
structure Done (D : Data) (t : Fin grid0.N) (s : St Ideal) : Prop where
  q : ∀ (y : Fin 2048) (d : Fin 128), s.1 (ix2 y d) = ((dq D (head t) (2048 * (t.val % 4) + y.val) d.val : ℝ) : EReal)
  k : ∀ (κ : Fin 8704) (d : Fin 128), s.2.1 (ix2 κ d)
    = ((∑ n ∈ Finset.range (2048 * (t.val % 4 + 1)), shareK D (head t) κ.val d.val n : ℝ) : EReal)
  v : ∀ (κ : Fin 8704) (d : Fin 128), s.2.2.1 (ix2 κ d)
    = ((∑ n ∈ Finset.range (2048 * (t.val % 4 + 1)), shareV D (head t) κ.val d.val n : ℝ) : EReal)
  b : ∀ (r : Fin 256) (w : Fin 768), s.2.2.2 (ix3 0 r w)
    = ((∑ b ∈ Finset.range (8 * (t.val % 4 + 1)), shareB D (head t) r.val w.val b : ℝ) : EReal)

variable (m : (ℓ : Loc nD τ sig) → Buf (Elt Ideal) ℓ) (c : Dev nD)

theorem zero_k (κ : Fin 8704) (d : Fin 128) : k0_pay1 (F := Ideal) (ix2 κ d) = 0 := by unfold_payloads; pointwise
theorem zero_v (κ : Fin 8704) (d : Fin 128) : k0_pay2 (F := Ideal) (ix2 κ d) = 0 := by unfold_payloads; pointwise
theorem zero_b (r : Fin 256) (w : Fin 768) : k0_pay3 (F := Ideal) (ix3 0 r w) = 0 := by unfold_payloads; pointwise

/-- The results after every grid point. -/
theorem done (HB : ∀ t : Fin cfg0.N, Blocks D t (iblk m c 0 t) (iblk m c 1 t) (iblk m c 2 t) (iblk m c 3 t) (iblk m c 4 t)) :
    ∀ (n : ℕ) (hn : n < cfg0.N), Done D ⟨n, hn⟩ (outsAt0 m c n hn) := by
  intro n
  induction n with
  | zero =>
    intro hn
    obtain ⟨h1, h2, h3, h4⟩ := (HB ⟨0, hn⟩).states (k0_pay4 (F := Ideal), k0_pay1 (F := Ideal), k0_pay2 (F := Ideal), k0_pay3 (F := Ideal)) 8 le_rfl
    rw [show outsAt0 m c 0 hn = _ from outsAt_first m c ⟨0, hn⟩ rfl, point, trips_eq]
    refine ⟨fun y d => ?_, fun κ d => ?_, fun κ d => ?_, fun r w => ?_⟩
    · rw [h1, if_pos (by have := y.isLt; omega)]
    · rw [h2]; dsimp only; rw [zero_k, zero_add]; simp
    · rw [h3]; dsimp only; rw [zero_v, zero_add]; simp
    · rw [h4]; dsimp only; rw [zero_b, zero_add]; simp
  | succ n ih =>
    intro hn
    by_cases h : (n + 1) % 4 = 0
    · obtain ⟨h1, h2, h3, h4⟩ := (HB ⟨n + 1, hn⟩).states (k0_pay4 (F := Ideal), k0_pay1 (F := Ideal), k0_pay2 (F := Ideal), k0_pay3 (F := Ideal)) 8 le_rfl
      rw [show outsAt0 m c (n + 1) hn = _ from outsAt_first m c ⟨n + 1, hn⟩ h, point, trips_eq]
      refine ⟨fun y d => ?_, fun κ d => ?_, fun κ d => ?_, fun r w => ?_⟩
      · rw [h1, if_pos (by have := y.isLt; omega)]
      · rw [h2]; dsimp only; rw [zero_k, zero_add]; simp [h]
      · rw [h3]; dsimp only; rw [zero_v, zero_add]; simp [h]
      · rw [h4]; dsimp only; rw [zero_b, zero_add]; simp [h]
    · have I := ih (by omega)
      obtain ⟨h1, h2, h3, h4⟩ := (HB ⟨n + 1, hn⟩).states (k0_pay4 (F := Ideal), (outsAt0 m c n (by omega)).2) 8 le_rfl
      rw [show outsAt0 m c (n + 1) hn = point m c ⟨n + 1, hn⟩ (k0_pay4 (F := Ideal), (outsAt0 m c n (by omega)).2) from
        outsAt_next m c ⟨n + 1, hn⟩ h, point, trips_eq]
      have e1 : n % 4 + 1 = (n + 1) % 4 := by omega
      have e2 : head ⟨n, by exact (by omega : n < cfg0.N)⟩ = head ⟨n + 1, hn⟩ := by unfold head; dsimp only; omega
      have hs : ∀ f : ℕ → ℝ, ((∑ x ∈ Finset.range (2048 * ((n + 1) % 4)), f x : ℝ) : EReal) + ((∑ x ∈ Finset.range 2048, f (2048 * ((n + 1) % 4) + x) : ℝ) : EReal)
          = ((∑ x ∈ Finset.range (2048 * ((n + 1) % 4 + 1)), f x : ℝ) : EReal) := fun f => by
        rw [← EReal.coe_add, Nat.mul_succ, Finset.sum_range_add]
      have hb : ∀ f : ℕ → ℝ, ((∑ x ∈ Finset.range (8 * ((n + 1) % 4)), f x : ℝ) : EReal) + ((∑ x ∈ Finset.range 8, f (8 * ((n + 1) % 4) + x) : ℝ) : EReal)
          = ((∑ x ∈ Finset.range (8 * ((n + 1) % 4 + 1)), f x : ℝ) : EReal) := fun f => by
        rw [← EReal.coe_add, Nat.mul_succ, Finset.sum_range_add]
      refine ⟨fun y d => ?_, fun κ d => ?_, fun κ d => ?_, fun r w => ?_⟩
      · rw [h1, if_pos (by have := y.isLt; omega)]
      · rw [h2]; dsimp only; rw [I.k, e2]; dsimp only; rw [e1]; exact hs _
      · rw [h3]; dsimp only; rw [I.v, e2]; dsimp only; rw [e1]; exact hs _
      · rw [h4]; dsimp only; rw [I.b, e2]; dsimp only; rw [e1]; exact hb _

end Cert.AttnKernelIdeal.Trip

end
-- ==== Proof.Attn.Arrays.lean ====
/- The arrays the attention's backward launch leaves: the gradients in the queries, the padded keys and the padded values. -/
module

public import proofs.«01_k».proof.Proof.Attn.States
public import proofs.«01_k».proof.Proof.Gen.AttnKernelIdeal.Points

@[expose] public section

set_option maxRecDepth 16384

noncomputable section

namespace Cert.AttnKernelIdeal.Trip

open Idealize.ShloMosaic Idealize.ShloMosaic.TcCoe
open Idealize.SL.Sem
open Cert.AttnKernelIdeal.Gen Cert.Attn Cert.Arith

variable {D : Data} (m : (ℓ : Loc nD τ sig) → Buf (Elt Ideal) ℓ) (c : Dev nD)

theorem idx_out : ∀ t : Fin cfg0.N, win0_5.index t = ![t.val % 4, t.val / 4] ∧ win0_6.index t = ![0, t.val / 4] ∧ win0_7.index t = ![0, t.val / 4] :=
  (by decide +kernel : ∀ t : Fin grid0.N, _)

/-- An array of a head's columns side by side. -/
def cols {N : ℕ} (f : ℕ → ℕ → ℕ → ℝ) : Vec Ideal ⟨2, ![N, 2048]⟩ .f32 := fun i => ((f ((i 1).val / 128) (i 0).val ((i 1).val % 128) : ℝ) : EReal)

variable (HB : ∀ t : Fin cfg0.N, Blocks D t (iblk m c 0 t) (iblk m c 1 t) (iblk m c 2 t) (iblk m c 3 t) (iblk m c 4 t))
include HB

theorem dq_eq : (dats m 0 c).arrAt 5 cfg0.N = cols (N := 8192) (dq D) := by
  refine (dats m 0 c).arrAt_eq_of_covers 5 _ (by decide +kernel) fun t hf y => ?_
  blk_simp
  rw [after0_5]
  idx_vars y
  rw [(done m c HB t.val t.isLt).q]
  have h0 : ((((View.whole main_v157_0).slice (win0_5.rect t)).emb (ix2 y0 y1)) 0).val = 2048 * (t.val % 4) + y0.val := by
    show win0_5.index t 0 * 2048 + 1 * y0.val = _
    rw [(idx_out t).1]; show t.val % 4 * 2048 + 1 * y0.val = _; omega
  have h1 : ((((View.whole main_v157_0).slice (win0_5.rect t)).emb (ix2 y0 y1)) 1).val = 128 * (t.val / 4) + y1.val := by
    show win0_5.index t 1 * 128 + 1 * y1.val = _
    rw [(idx_out t).1]; show t.val / 4 * 128 + 1 * y1.val = _; omega
  have := y1.isLt
  unfold cols head
  rw [h0, h1, Nat.mul_add_div (by decide), Nat.mul_add_mod, Nat.div_eq_of_lt this, Nat.mod_eq_of_lt this, Nat.add_zero]

theorem dk_eq : (dats m 0 c).arrAt 6 cfg0.N = cols (N := 8704) (dk D) := by
  refine (dats m 0 c).arrAt_eq_of_covers 6 _ (by decide +kernel) fun t hf y => ?_
  blk_simp
  rw [after0_6]
  idx_vars y
  rw [(done m c HB t.val t.isLt).k]
  have h0 : ((((View.whole main_v157_1).slice (win0_6.rect t)).emb (ix2 y0 y1)) 0).val = y0.val := by
    show win0_6.index t 0 * 8704 + 1 * y0.val = _
    rw [(idx_out t).2.1]; show 0 * 8704 + 1 * y0.val = _; omega
  have h1 : ((((View.whole main_v157_1).slice (win0_6.rect t)).emb (ix2 y0 y1)) 1).val = 128 * (t.val / 4) + y1.val := by
    show win0_6.index t 1 * 128 + 1 * y1.val = _
    rw [(idx_out t).2.1]; show t.val / 4 * 128 + 1 * y1.val = _; omega
  have := y1.isLt
  unfold cols head
  rw [h0, h1, Nat.mul_add_div (by decide), Nat.mul_add_mod, Nat.div_eq_of_lt this, Nat.mod_eq_of_lt this, Nat.add_zero, (flush0_6 t).mp hf]
  rfl

theorem dv_eq : (dats m 0 c).arrAt 7 cfg0.N = cols (N := 8704) (dv D) := by
  refine (dats m 0 c).arrAt_eq_of_covers 7 _ (by decide +kernel) fun t hf y => ?_
  blk_simp
  rw [after0_7]
  idx_vars y
  rw [(done m c HB t.val t.isLt).v]
  have h0 : ((((View.whole main_v157_2).slice (win0_7.rect t)).emb (ix2 y0 y1)) 0).val = y0.val := by
    show win0_7.index t 0 * 8704 + 1 * y0.val = _
    rw [(idx_out t).2.2]; show 0 * 8704 + 1 * y0.val = _; omega
  have h1 : ((((View.whole main_v157_2).slice (win0_7.rect t)).emb (ix2 y0 y1)) 1).val = 128 * (t.val / 4) + y1.val := by
    show win0_7.index t 1 * 128 + 1 * y1.val = _
    rw [(idx_out t).2.2]; show t.val / 4 * 128 + 1 * y1.val = _; omega
  have := y1.isLt
  unfold cols head
  rw [h0, h1, Nat.mul_add_div (by decide), Nat.mul_add_mod, Nat.div_eq_of_lt this, Nat.mod_eq_of_lt this, Nat.add_zero, (flush0_7 t).mp hf]
  rfl

end Cert.AttnKernelIdeal.Trip

end
-- ==== Proof.Attn.Bias.lean ====
/- The band of relative terms the host writes: the 64 shifted rows, and where the four copies of them are put. -/
module

public import proofs.«01_k».proof.Proof.Attn.States
public import Idealize.ShloMosaic.Lib.Claim
public import Idealize.ShloMosaic.Lib.StableHlo.RunRead
public import Idealize.ShloMosaic.Lib.Routing.OpsPair
public import Idealize.ShloMosaic.Lib.Routing.OpsSet

@[expose] public section

set_option maxRecDepth 16384

noncomputable section

namespace Cert.AttnKernelIdeal.Trip

open Idealize.ShloMosaic Idealize.ShloMosaic.TcCoe Idealize.ShloMosaic.Tactic
open Idealize.ShloMosaic.Routing Cert.AttnKernelIdeal.Gen Cert.Attn Cert.Arith

local notation "dims" => scatter_S16x256x768_S2_S16x64x576_012_n_12_0

theorem dims_window (k : S16x64x576.Idx) (a : Fin 3) : ScatterDims.window dims k a = (k a).val := by
  fin_cases a <;> rfl

theorem dims_start_0 {w : ℕ} (k : S16x64x576.Idx) (idx : IVec S2 w) : ScatterDims.start dims k idx 0 = 0 := rfl

theorem dims_start_1 {w : ℕ} (k : S16x64x576.Idx) (idx : IVec S2 w) : ScatterDims.start dims k idx 1 = (idx (ix1 0)).toInt := by
  show (idx _).toInt = _
  congr 2
  funext a
  fin_cases a
  rfl

theorem dims_start_2 {w : ℕ} (k : S16x64x576.Idx) (idx : IVec S2 w) : ScatterDims.start dims k idx 2 = (idx (ix1 1)).toInt := by
  show (idx _).toInt = _
  congr 2
  funext a
  fin_cases a
  rfl

/-- A copy put at row and column `B`: its own entries inside, what was there outside. -/
theorem placed (x : FVec Ideal S16x256x768 .f32) (idx : IVec S2 32) (u : FVec Ideal S16x64x576 .f32) (B : ℕ)
    (h0 : (idx (ix1 0)).toInt = (B : ℤ)) (h1 : (idx (ix1 1)).toInt = (B : ℤ)) (h : Fin 16) (r : Fin 256) (w : Fin 768) :
    Host.scatter dims (fun _ b => b) x idx u (ix3 h r w)
      = if g : B ≤ r.val ∧ r.val < B + 64 ∧ B ≤ w.val ∧ w.val < B + 576
        then u (ix3 h ⟨r.val - B, by omega⟩ ⟨w.val - B, by omega⟩) else x (ix3 h r w) := by
  have key : ∀ k : S16x64x576.Idx, ScatterDims.resultIdx? dims k idx = some (ix3 h r w) ↔
      (k 0).val = h.val ∧ B + (k 1).val = r.val ∧ B + (k 2).val = w.val := by
    intro k
    rw [resultIdx?_eq_some]
    constructor
    · intro q
      have q0 := q 0; have q1 := q 1; have q2 := q 2
      rw [dims_window] at q0 q1 q2
      rw [dims_start_0] at q0; rw [dims_start_1, h0] at q1; rw [dims_start_2, h1] at q2
      change (0 : ℤ) + _ = (h.val : ℤ) at q0
      change _ = (r.val : ℤ) at q1
      change _ = (w.val : ℤ) at q2
      omega
    · rintro ⟨q0, q1, q2⟩ a
      rw [dims_window]
      fin_cases a
      · show ScatterDims.start dims k idx 0 + _ = (h.val : ℤ)
        rw [dims_start_0]; simp only [Fin.zero_eta]; omega
      · show ScatterDims.start dims k idx 1 + _ = (r.val : ℤ)
        rw [dims_start_1, h0]; simp only [Fin.mk_one]; omega
      · show ScatterDims.start dims k idx 2 + _ = (w.val : ℤ)
        rw [dims_start_2, h1]; show (B : ℤ) + ((k 2).val : ℤ) = _; omega
  split
  · next g =>
    refine scatter_set_hit _ _ _ _ _ _ (fun k hk => ?_) (ix3 h ⟨r.val - B, by omega⟩ ⟨w.val - B, by omega⟩) ((key _).2 ⟨rfl, ?_, ?_⟩)
    · obtain ⟨q0, q1, q2⟩ := (key k).1 hk
      congr 1
      funext a
      fin_cases a <;> apply Fin.ext
      · exact q0
      · show (k 1).val = r.val - B; omega
      · show (k 2).val = w.val - B; omega
    · show B + (r.val - B) = r.val; omega
    · show B + (w.val - B) = w.val; omega
  · next g =>
    refine scatter_set_miss _ _ _ _ _ fun k hk => g ?_
    obtain ⟨q0, q1, q2⟩ := (key k).1 hk
    have := (k 1).isLt; have := (k 2).isLt
    change (k 1).val < 64 at *
    change (k 2).val < 576 at *
    omega

variable (W : Valuation τ sig (Elt Ideal))

/-- What the four copies leave: inside the band an entry of a copy, outside the fill. -/
theorem copies (h : Fin 16) (r : Fin 256) (w : Fin 768) :
    (StableHlo.after (hostOps0_6.drop 134) W (Proc.devRef .tc main_v156) : Vec Ideal S16x256x768 .f32) (ix3 h r w)
      = if g : band r.val w.val then (W (Proc.devRef .tc main_v139) : Vec Ideal S16x64x576 .f32)
          (ix3 h ⟨r.val % 64, by omega⟩ ⟨w.val - 64 * (r.val / 64), by unfold band at g; omega⟩) else (⊥ : EReal) := by
  after_reads_simp
  rw [placed _ _ _ 192, placed _ _ _ 128, placed _ _ _ 64, placed _ _ _ 0]
  · have := r.isLt
    have hb : band r.val w.val ↔ 64 * (r.val / 64) ≤ w.val ∧ w.val < 64 * (r.val / 64) + 576 := Iff.rfl
    split
    · rw [dif_pos (hb.2 (by omega))]; congr 2 <;> apply Fin.ext <;> simp only [] <;> omega
    split
    · rw [dif_pos (hb.2 (by omega))]; congr 2 <;> apply Fin.ext <;> simp only [] <;> omega
    split
    · rw [dif_pos (hb.2 (by omega))]; congr 2 <;> apply Fin.ext <;> simp only [] <;> omega
    split
    · rw [dif_pos (hb.2 (by omega))]; congr 2 <;> apply Fin.ext <;> simp only [] <;> omega
    rw [dif_neg fun g => by have := hb.1 g; omega]
    pointwise
    exact bits_bot
  all_goals
    pointwise
    after_reads_simp
    pointwise
    rfl

set_option maxHeartbeats 0 in
/-- Row `r` of the 64: the constant row and the reversed table, `63 - r` places on. -/
theorem shifted (h : Fin 16) (r : Fin 64) (w : Fin 576) :
    (StableHlo.after (hostOps0_6.take 134) W (Proc.devRef .tc main_v139) : Vec Ideal S16x64x576 .f32) (ix3 h r w)
      = if g : 63 - r.val + w.val < 448 then (W (Proc.devRef .tc main_v3) : Vec Ideal S16x448 .f32) (ix2 h ⟨63 - r.val + w.val, g⟩)
        else (W (Proc.devRef .tc main_v5) : Vec Ideal S16x191 .f32) (ix2 h ⟨63 - r.val + w.val - 448, by omega⟩) := by
  obtain ⟨r, hr⟩ := r
  interval_cases r
  all_goals
    after_reads_simp
    pointwise
    after_reads_simp [Matrix.cons_val_zero, Matrix.cons_val_one, Matrix.cons_val]
    pointwise
    after_reads_simp

end Cert.AttnKernelIdeal.Trip

end
-- ==== Proof.Attn.Data.lean ====
/- The argument arrays as real numbers: where every entry is finite, an entry is the real number at its row and column. -/
module

public import proofs.«01_k».proof.Proof.Arith
public import proofs.«01_k».proof.Proof.Attn.Real

@[expose] public section

noncomputable section

namespace Cert.Attn

open Idealize.ShloMosaic Cert.Arith

/-- An array as a function of row and column, zero outside. -/
def entry {N M : ℕ} (x : (⟨2, ![N, M]⟩ : Shape).Idx → EReal) (n c : ℕ) : ℝ :=
  if h : n < N ∧ c < M then (x (ix2 ⟨n, h.1⟩ ⟨c, h.2⟩)).toReal else 0

/-- The data the five argument arrays hold. -/
def data (q k v : Vec Ideal ⟨2, ![8192, 2048]⟩ .bf16) (t : Vec Ideal ⟨2, ![16, 192]⟩ .f32) (o : Vec Ideal ⟨2, ![8192, 2048]⟩ .bf16) : Data where
  Q := entry q
  K := entry k
  V := entry v
  T := entry t
  O := entry o

theorem entry_eq {N M : ℕ} {x : (⟨2, ![N, M]⟩ : Shape).Idx → EReal} (h : Fin' x) (n : Fin N) (c : Fin M) :
    x (ix2 n c) = ((entry x n.val c.val : ℝ) : EReal) := by
  obtain ⟨r, hr⟩ := h (ix2 n c)
  unfold entry
  rw [dif_pos ⟨n.isLt, c.isLt⟩, hr, EReal.toReal_coe]

theorem entry_at {N M : ℕ} {x : (⟨2, ![N, M]⟩ : Shape).Idx → EReal} (h : Fin' x) (i : (⟨2, ![N, M]⟩ : Shape).Idx) {n c : ℕ}
    (hn : (i 0).val = n) (hc : (i 1).val = c) : x i = ((entry x n c : ℝ) : EReal) := by
  subst hn hc
  have e : i = ix2 (i 0) (i 1) := by funext a; fin_cases a <;> rfl
  exact (congrArg x e).trans (entry_eq h (i 0) (i 1))

end Cert.Attn

end
-- ==== Proof.Attn.Prefix.lean ====
/- What the blocks of a grid point hold, read from the argument arrays through the host lines before the call. -/
module

public import proofs.«01_k».proof.Proof.Attn.Bias
public import proofs.«01_k».proof.Proof.Attn.Data

@[expose] public section

set_option maxRecDepth 16384

noncomputable section

namespace Cert.AttnKernelIdeal.Trip

open Idealize.ShloMosaic Idealize.ShloMosaic.TcCoe Idealize.ShloMosaic.Tactic
open Idealize.SL.Sem
open Cert.AttnKernelIdeal.Gen Cert.Attn Cert.Arith

variable (m : (ℓ : Loc nD τ sig) → Buf (Elt Ideal) ℓ) (c : Dev nD)

/-- The data the argument arrays hold. -/
def D0 : Data := data (m ((c : Thread nD τ).loc main_arg0)) (m ((c : Thread nD τ).loc main_arg1))
  (m ((c : Thread nD τ).loc main_arg2)) (m ((c : Thread nD τ).loc main_arg3)) (m ((c : Thread nD τ).loc main_arg4))

/-- Every entry of the five argument arrays is a real number. -/
structure Finite : Prop where
  q : Fin' (m ((c : Thread nD τ).loc main_arg0))
  k : Fin' (m ((c : Thread nD τ).loc main_arg1))
  v : Fin' (m ((c : Thread nD τ).loc main_arg2))
  t : Fin' (m ((c : Thread nD τ).loc main_arg3))
  o : Fin' (m ((c : Thread nD τ).loc main_arg4))

/-- The host lines before the call, but for the last stretch. -/
local notation "early" => (List.flatten [hostOps0, hostOps0_1, hostOps0_2, hostOps0_3, hostOps0_4, hostOps0_5] : List (HloOp τ sig (Elt Ideal)))

section
variable {m c} (hf : Finite m c)
include hf

theorem entry_k (κ : Fin 8704) (j : Fin 2048) :
    (V m c main_v0 : Vec Ideal S8704x2048 .bf16) (ix2 κ j) = ((pad (D0 m c).K κ.val j.val : ℝ) : EReal) := by
  unfold V
  after_reads_simp
  simp only [StableHlo.TRef.toBuf, StableHlo.TRef.ofBuf, cast_eq]
  pointwise
  unfold Cert.Attn.pad
  split
  · rw [if_pos (by omega)]
    exact entry_at hf.k _ rfl rfl
  · rw [if_neg (by omega)]
    pointwise
    simp [FloatOps.sitofp]

theorem entry_v (κ : Fin 8704) (j : Fin 2048) :
    (V m c main_v1 : Vec Ideal S8704x2048 .bf16) (ix2 κ j) = ((pad (D0 m c).V κ.val j.val : ℝ) : EReal) := by
  unfold V
  after_reads_simp
  simp only [StableHlo.TRef.toBuf, StableHlo.TRef.ofBuf, cast_eq]
  pointwise
  unfold Cert.Attn.pad
  split
  · rw [if_pos (by omega)]
    exact entry_at hf.v _ rfl rfl
  · rw [if_neg (by omega)]
    pointwise
    simp [FloatOps.sitofp]

theorem entry_b (h : Fin 16) (r : Fin 256) (w : Fin 768) : (V m c main_v156 : Vec Ideal S16x256x768 .f32) (ix3 h r w)
    = if band r.val w.val then (((D0 m c).T h.val (rel r.val w.val) : ℝ) : EReal) else (⊥ : EReal) := by
  have e : V m c main_v156 = StableHlo.after (hostOps0_6.drop 134) (StableHlo.after (hostOps0_6.take 134) (StableHlo.after early fun b => m (c, b)))
      (Proc.devRef .tc main_v156) := by
    rw [← StableHlo.after_append, ← StableHlo.after_append]
    rfl
  rw [e, copies]
  split
  · next g =>
    rw [shifted]
    unfold band at g
    have := r.isLt
    unfold rel
    split
    · next l =>
      change 63 - r.val % 64 + (w.val - 64 * (r.val / 64)) < 448 at l
      rw [if_pos (by omega)]
      after_reads_simp
      pointwise
      exact entry_at hf.t _ rfl rfl
    · next l =>
      change ¬63 - r.val % 64 + (w.val - 64 * (r.val / 64)) < 448 at l
      rw [if_neg (by omega)]
      after_reads_simp
      simp only [StableHlo.TRef.toBuf, StableHlo.TRef.ofBuf, cast_eq]
      pointwise
      refine entry_at hf.t _ rfl ?_
      simp only [List.mem_singleton, ↓reduceIte]
      show 191 - (63 - r.val % 64 + (w.val - 64 * (r.val / 64)) - 448 + 1) = _
      omega
  · rfl

end

theorem idx_in : ∀ t : Fin cfg0.N, win0_0.index t = ![t.val % 4, t.val / 4] ∧ win0_1.index t = ![0, t.val / 4] ∧ win0_2.index t = ![0, t.val / 4]
    ∧ win0_3.index t = ![t.val / 4, 0, 0] ∧ win0_4.index t = ![t.val % 4, t.val / 4] :=
  (by decide +kernel : ∀ t : Fin grid0.N, _)

theorem quarter (t : Fin cfg0.N) : t.val / 4 < 16 := by have := t.isLt; change t.val < 64 at this; omega

section
variable (A : (b : Ref sig .tc) → Buf (Elt Ideal) ((c : Thread nD τ).loc b)) (t : Fin cfg0.N)

theorem read_q (r : Fin 2048) (d : Fin 128) : ((cfg0.win 0).blk t).view.read (Elt Ideal) (A (Pipeline.arrRef spec0 0)) (ix2 r d)
    = (A main_arg0 : Vec Ideal S8192x2048 .bf16) (ix2 ⟨2048 * (t.val % 4) + r.val, by omega⟩ ⟨128 * (t.val / 4) + d.val, by have := quarter t; omega⟩) := by
  blk_simp
  congr 1
  funext a
  fin_cases a <;> apply Fin.ext
  · show win0_0.index t 0 * 2048 + 1 * r.val = _
    rw [(idx_in t).1]; show t.val % 4 * 2048 + 1 * r.val = 2048 * (t.val % 4) + r.val; omega
  · show win0_0.index t 1 * 128 + 1 * d.val = _
    rw [(idx_in t).1]; show t.val / 4 * 128 + 1 * d.val = 128 * (t.val / 4) + d.val; omega

theorem read_o (r : Fin 2048) (d : Fin 128) : ((cfg0.win 4).blk t).view.read (Elt Ideal) (A (Pipeline.arrRef spec0 4)) (ix2 r d)
    = (A main_arg4 : Vec Ideal S8192x2048 .bf16) (ix2 ⟨2048 * (t.val % 4) + r.val, by omega⟩ ⟨128 * (t.val / 4) + d.val, by have := quarter t; omega⟩) := by
  blk_simp
  congr 1
  funext a
  fin_cases a <;> apply Fin.ext
  · show win0_4.index t 0 * 2048 + 1 * r.val = _
    rw [(idx_in t).2.2.2.2]; show t.val % 4 * 2048 + 1 * r.val = 2048 * (t.val % 4) + r.val; omega
  · show win0_4.index t 1 * 128 + 1 * d.val = _
    rw [(idx_in t).2.2.2.2]; show t.val / 4 * 128 + 1 * d.val = 128 * (t.val / 4) + d.val; omega

theorem read_k (κ : Fin 8704) (d : Fin 128) : ((cfg0.win 1).blk t).view.read (Elt Ideal) (A (Pipeline.arrRef spec0 1)) (ix2 κ d)
    = (A main_v0 : Vec Ideal S8704x2048 .bf16) (ix2 κ ⟨128 * (t.val / 4) + d.val, by have := quarter t; omega⟩) := by
  blk_simp
  congr 1
  funext a
  fin_cases a <;> apply Fin.ext
  · show win0_1.index t 0 * 8704 + 1 * κ.val = κ.val
    rw [(idx_in t).2.1]; show 0 * 8704 + 1 * κ.val = _; omega
  · show win0_1.index t 1 * 128 + 1 * d.val = _
    rw [(idx_in t).2.1]; show t.val / 4 * 128 + 1 * d.val = 128 * (t.val / 4) + d.val; omega

theorem read_v (κ : Fin 8704) (d : Fin 128) : ((cfg0.win 2).blk t).view.read (Elt Ideal) (A (Pipeline.arrRef spec0 2)) (ix2 κ d)
    = (A main_v1 : Vec Ideal S8704x2048 .bf16) (ix2 κ ⟨128 * (t.val / 4) + d.val, by have := quarter t; omega⟩) := by
  blk_simp
  congr 1
  funext a
  fin_cases a <;> apply Fin.ext
  · show win0_2.index t 0 * 8704 + 1 * κ.val = κ.val
    rw [(idx_in t).2.2.1]; show 0 * 8704 + 1 * κ.val = _; omega
  · show win0_2.index t 1 * 128 + 1 * d.val = _
    rw [(idx_in t).2.2.1]; show t.val / 4 * 128 + 1 * d.val = 128 * (t.val / 4) + d.val; omega

theorem read_b (r : Fin 256) (w : Fin 768) : ((cfg0.win 3).blk t).view.read (Elt Ideal) (A (Pipeline.arrRef spec0 3)) (ix3 0 r w)
    = (A main_v156 : Vec Ideal S16x256x768 .f32) (ix3 ⟨t.val / 4, quarter t⟩ r w) := by
  blk_simp
  congr 1
  funext a
  fin_cases a <;> apply Fin.ext
  · show win0_3.index t 0 * 1 + 1 * 0 = t.val / 4
    rw [(idx_in t).2.2.2.1]; show t.val / 4 * 1 + 1 * 0 = _; omega
  · show win0_3.index t 1 * 256 + 1 * r.val = r.val
    rw [(idx_in t).2.2.2.1]; show 0 * 256 + 1 * r.val = _; omega
  · show win0_3.index t 2 * 768 + 1 * w.val = w.val
    rw [(idx_in t).2.2.2.1]; show 0 * 768 + 1 * w.val = _; omega

end

/-- What every grid point's blocks hold. -/
theorem blocks (hf : Finite m c) (t : Fin cfg0.N) :
    Blocks (D0 m c) t (iblk m c 0 t) (iblk m c 1 t) (iblk m c 2 t) (iblk m c 3 t) (iblk m c 4 t) := by
  refine ⟨fun r d => ?_, fun κ d => ?_, fun κ d => ?_, fun r w => ?_, fun r d => ?_⟩
  · refine (read_q c (V m c) t r d).trans ?_
    rw [V_main_arg0]
    exact entry_at hf.q _ rfl rfl
  · exact (read_k c (V m c) t κ d).trans (entry_k hf κ _)
  · exact (read_v c (V m c) t κ d).trans (entry_v hf κ _)
  · exact (read_b c (V m c) t r w).trans (entry_b hf _ r w)
  · refine (read_o c (V m c) t r d).trans ?_
    rw [V_main_arg4]
    exact entry_at hf.o _ rfl rfl

end Cert.AttnKernelIdeal.Trip

end
-- ==== Proof.Attn.Run.lean ====
/- What the kernel's run leaves in its three results: the lines after the call drop the padded rows. -/
module

public import proofs.«01_k».proof.Proof.Attn.Arrays
public import proofs.«01_k».proof.Proof.Attn.Prefix
public import Idealize.ShloMosaic.Lib.Claim
public import Idealize.ShloMosaic.Lib.StableHlo.RunRead

@[expose] public section

set_option maxRecDepth 16384

noncomputable section

namespace Cert.AttnKernelIdeal.Trip

open Idealize.ShloMosaic Idealize.ShloMosaic.TcCoe Idealize.ShloMosaic.Tactic
open Idealize.SL.Sem
open Cert.AttnKernelIdeal.Gen Cert.Attn Cert.Arith

/-- The rows after the padding. -/
abbrev rest (i : S8192x2048.Idx) : S8704x2048.Idx :=
  ix2 (⟨512 + (i 0).val, by have h0 : (i 0).val < 8192 := (i 0).isLt; omega⟩ : Fin 8704) (⟨(i 1).val, (i 1).isLt⟩ : Fin 2048)

/-- The host lines after the call, at each result. -/
theorem sliced_k (W : Valuation τ sig (Elt Ideal)) (i : S8192x2048.Idx) :
    StableHlo.after (hostOps1 (F := Ideal)) W (Proc.devRef .tc main_v158) i = W (Proc.devRef .tc main_v157_1) (rest i) := by
  idx_vars i
  unfold hostOps1
  after_results_simp
  pointwise
  rfl

theorem sliced_v (W : Valuation τ sig (Elt Ideal)) (i : S8192x2048.Idx) :
    StableHlo.after (hostOps1 (F := Ideal)) W (Proc.devRef .tc main_v159) i = W (Proc.devRef .tc main_v157_2) (rest i) := by
  idx_vars i
  unfold hostOps1
  after_results_simp
  pointwise
  rfl

variable (m : (ℓ : Loc nD τ sig) → Buf (Elt Ideal) ℓ)

/-- The gradients the kernel leaves. -/
def outq (c : Dev nD) : Vec Ideal S8192x2048 .f32 := cols (N := 8192) (dq (D0 m c))
def outk (c : Dev nD) : Vec Ideal S8192x2048 .f32 := fun i => cols (N := 8704) (dk (D0 m c)) (rest i)
def outv (c : Dev nD) : Vec Ideal S8192x2048 .f32 := fun i => cols (N := 8704) (dv (D0 m c)) (rest i)

theorem arr_inj : Function.Injective (Pipeline.arrRef cfg0.spec) := by decide

theorem tail_k (c : Dev nD) (hf : Finite m c) : Pipeline.afterTail₀ cfgs (dats m) 0 (V0 m) [hostOps1] c main_v158 = outk m c := by
  unfold Pipeline.afterTail₀
  rw [List.flatten_singleton]
  funext i
  rw [sliced_k]
  exact congrFun ((Pipeline.withArrays_arr cfg0.spec arr_inj c _ _ 6).trans (dk_eq m c (blocks m c hf))) (rest i)

theorem tail_v (c : Dev nD) (hf : Finite m c) : Pipeline.afterTail₀ cfgs (dats m) 0 (V0 m) [hostOps1] c main_v159 = outv m c := by
  unfold Pipeline.afterTail₀
  rw [List.flatten_singleton]
  funext i
  rw [sliced_v]
  exact congrFun ((Pipeline.withArrays_arr cfg0.spec arr_inj c _ _ 7).trans (dv_eq m c (blocks m c hf))) (rest i)

/-- The run: the three gradients, and the arguments unchanged. -/
theorem run (hf : ∀ c, Finite m c) (ρ : Dev nD → PrngReg) :
    θ_run defs (onTc (τ := τ) (main (F := Ideal))) ⟨m, fun _ => 0, ρ⟩ (fun r => ∀ c : Dev nD,
      r.2.mem ((c.tc : Thread nD τ).loc main_v157_0) = outq m c
      ∧ r.2.mem ((c.tc : Thread nD τ).loc main_v158) = outk m c
      ∧ r.2.mem ((c.tc : Thread nD τ).loc main_v159) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, h.2 c⟩) (θ_run_and (run_main m ρ) (unchanged m ρ))
  · exact ((h.1 c).1 5).trans (dq_eq m c (blocks m c (hf c)))
  · exact ((h.1 c).2 main_v158 (by decide)).trans (tail_k m c (hf c))
  · exact ((h.1 c).2 main_v159 (by decide)).trans (tail_v m c (hf c))

end Cert.AttnKernelIdeal.Trip

end
-- ==== Proof.Attn.Gathers.lean ====
/- What the reference reads and adds by index: the relative terms, a chunk's keys and values, and the sums over the chunks
   that hold a key. -/
module

public import proofs.«01_k».proof.Proof.Gen.AttnReferenceIdeal.Read
public import proofs.«01_k».proof.Proof.Attn.Data
public import Idealize.ShloMosaic.Lib.Routing.OpsPair

@[expose] public section

set_option maxRecDepth 16384

noncomputable section

namespace Cert.AttnReferenceIdeal.Sums

open Idealize.ShloMosaic Idealize.ShloMosaic.Routing Cert.AttnReferenceIdeal Cert.AttnReferenceIdeal.Read Cert.Attn Cert.Arith

/-- A small word, read signed. -/
theorem word_int {n : ℕ} (h : n < 65536) : (BitVec.ofNat 32 n).toInt = (n : ℤ) := by
  rw [BitVec.toInt_eq_toNat_of_lt (by rw [BitVec.toNat_ofNat]; omega), BitVec.toNat_ofNat]
  omega

theorem word_toInt {n : ℕ} (h : n < 65536) : (BitVec.ofNat 32 n).toInt.toNat = n := by
  rw [word_int h]; rfl

/-- A chunk's key positions, as words. -/
theorem position (c : Fin 128) (w : Fin 576) : val_main_v28 (F := Ideal) (ix2 c w) = BitVec.ofNat 32 (64 * c.val + w.val) := by
  simp only [val_main_v28_apply, val_main_v26_apply, val_main_v25_apply, val_main_c_5_apply, val_main_v24_apply, val_main_v27_apply]
  show 64#32 * BitVec.ofNat 32 c.val + BitVec.ofNat 32 w.val = _
  rw [BitVec.ofNat_add, BitVec.ofNat_mul]

theorem relative (r : Fin 64) (w : Fin 576) : val_main_v21 (F := Ideal) (ix2 r w) = BitVec.ofNat 32 (rel r.val w.val) := by
  simp only [val_main_v21_apply, val_main_v20_apply, val_main_v19_apply, val_main_v18_apply, val_main_v17_apply, val_main_v16_apply,
    val_main_v15_apply, val_main_v14_apply, val_main_v13_apply, val_main_v12_apply, val_main_v11_apply, val_main_c_apply, val_main_c_2_apply,
    val_main_c_3_apply, val_main_c_4_apply]
  revert r w
  decide +kernel

local notation "kdims" => gather_S8704x16x128_S128x576x1_S128x576x16x128_23_0_n_n_0_2_116128

/-- Rows gathered by position. -/
theorem gathered (x : FVec Ideal S8704x16x128 .f32) (idx : IVec S128x576x1 32) (κ : Fin 8704) (c : Fin 128) (w : Fin 576) (h : Fin 16) (d : Fin 128)
    (hi : idx (ix3 c w 0) = BitVec.ofNat 32 κ.val) : Host.gather kdims x idx (ix4 c w h d) = x (ix3 κ h d) := by
  unfold Host.gather
  congr 1
  have e : GatherDims.start kdims (ix4 c w h d) idx 0 = min (idx (ix3 c w 0)).toInt.toNat 8703 := by
    show min (idx _).toInt.toNat (8704 - 1) = _
    congr 4
    funext a
    fin_cases a <;> rfl
  rw [hi, word_toInt (by omega), Nat.min_eq_left (by omega)] at e
  funext a
  fin_cases a <;> apply Fin.ext
  · show GatherDims.start kdims (ix4 c w h d) idx 0 + 0 + 0 = _
    rw [e]; rfl
  · show 0 + 0 + h.val = h.val; omega
  · show 0 + 0 + d.val = d.val; omega

local notation "tdims" => gather_S16x192_S64x576x1_S16x64x576_0_1_n_n_1_2_161

theorem gathered_table (x : FVec Ideal S16x192 .f32) (idx : IVec S64x576x1 32) (ρ : Fin 192) (h : Fin 16) (r : Fin 64) (w : Fin 576)
    (hi : idx (ix3 r w 0) = BitVec.ofNat 32 ρ.val) : Host.gather tdims x idx (ix3 h r w) = x (ix2 h ρ) := by
  unfold Host.gather
  congr 1
  have e : GatherDims.start tdims (ix3 h r w) idx 1 = min (idx (ix3 r w 0)).toInt.toNat 191 := by
    show min (idx _).toInt.toNat (192 - 1) = _
    congr 4
    funext a
    fin_cases a <;> rfl
  rw [hi, word_toInt (by omega), Nat.min_eq_left (by omega)] at e
  funext a
  fin_cases a <;> apply Fin.ext
  · show 0 + 0 + h.val = h.val; omega
  · show GatherDims.start tdims (ix3 h r w) idx 1 + 0 + 0 = _
    rw [e]; rfl

local notation "sdims" => scatter_S8704x16x128_S128x576x1_S128x576x16x128_23_0_0_2

/-- Rows added by position: a row's sum runs over the chunks that hold it. -/
theorem added (x : FVec Ideal S8704x16x128 .f32) (idx : IVec S128x576x1 32) (u : FVec Ideal S128x576x16x128 .f32)
    (hi : ∀ c w, idx (ix3 c w 0) = BitVec.ofNat 32 (64 * c.val + w.val)) (κ : Fin 8704) (h : Fin 16) (d : Fin 128) :
    Host.scatterAdd sdims x idx u (ix3 κ h d)
      = x (ix3 κ h d) + ∑ c : Fin 128, if g : 64 * c.val ≤ κ.val ∧ κ.val < 64 * c.val + 576 then u (ix4 c ⟨κ.val - 64 * c.val, by omega⟩ h d) else (0 : EReal) := by
  have s0 : ∀ (j : S128x576x16x128.Idx), ScatterDims.start sdims j idx 0 = (64 * (j 0).val + (j 1).val : ℕ) := by
    intro j
    have e : ScatterDims.start sdims j idx 0 = (idx (ix3 (j 0) (j 1) 0)).toInt := by
      show (idx _).toInt = _
      congr 2
      funext a
      fin_cases a <;> rfl
    have h0 : (j 0).val < 128 := (j 0).isLt
    have h1 : (j 1).val < 576 := (j 1).isLt
    refine e.trans ((congrArg BitVec.toInt (hi (j 0) (j 1))).trans (word_int ?_))
    omega
  have key : ∀ j : S128x576x16x128.Idx, ScatterDims.resultIdx? sdims j idx = some (ix3 κ h d) ↔
      64 * (j 0).val + (j 1).val = κ.val ∧ (j 2).val = h.val ∧ (j 3).val = d.val := by
    intro j
    rw [resultIdx?_eq_some]
    have w0 : ScatterDims.window sdims j 0 = 0 := rfl
    have w1 : ScatterDims.window sdims j 1 = (j 2).val := rfl
    have w2 : ScatterDims.window sdims j 2 = (j 3).val := rfl
    have s1 : ScatterDims.start sdims j idx 1 = 0 := rfl
    have s2 : ScatterDims.start sdims j idx 2 = 0 := rfl
    constructor
    · intro q
      have q0 := q 0; have q1 := q 1; have q2 := q 2
      rw [s0, w0] at q0; rw [s1, w1] at q1; rw [s2, w2] at q2
      change _ = (κ.val : ℤ) at q0
      change _ = (h.val : ℤ) at q1
      change _ = (d.val : ℤ) at q2
      omega
    · rintro ⟨q0, q1, q2⟩ a
      fin_cases a
      · show ScatterDims.start sdims j idx 0 + ((ScatterDims.window sdims j 0 : ℕ) : ℤ) = (κ.val : ℤ)
        rw [s0, w0]; omega
      · show ScatterDims.start sdims j idx 1 + ((ScatterDims.window sdims j 1 : ℕ) : ℤ) = (h.val : ℤ)
        rw [s1, w1]; omega
      · show ScatterDims.start sdims j idx 2 + ((ScatterDims.window sdims j 2 : ℕ) : ℤ) = (d.val : ℤ)
        rw [s2, w2]; omega
  show x _ + ∑ j with ScatterDims.resultIdx? sdims j idx = some (ix3 κ h d), u j = _
  congr 1
  have hs : ∀ c : Fin 128, (if g : 64 * c.val ≤ κ.val ∧ κ.val < 64 * c.val + 576 then u (ix4 c ⟨κ.val - 64 * c.val, by omega⟩ h d) else (0 : EReal))
      = if 64 * c.val ≤ κ.val ∧ κ.val < 64 * c.val + 576 then u (ix4 c ⟨(κ.val - 64 * c.val) % 576, Nat.mod_lt _ (by decide)⟩ h d) else 0 := by
    intro c
    split
    · next g => congr 2; exact Fin.ext (Nat.mod_eq_of_lt (by omega)).symm
    · rfl
  rw [Finset.sum_congr rfl fun c _ => hs c, ← Finset.sum_filter]
  symm
  refine Finset.sum_nbij (fun c => ix4 c ⟨(κ.val - 64 * c.val) % 576, Nat.mod_lt _ (by decide)⟩ h d) ?_ ?_ ?_ ?_
  · intro c hc
    obtain ⟨-, g⟩ := Finset.mem_filter.1 hc
    refine Finset.mem_filter.2 ⟨Finset.mem_univ _, (key _).2 ⟨?_, rfl, rfl⟩⟩
    show 64 * c.val + (κ.val - 64 * c.val) % 576 = κ.val
    omega
  · intro c _ c' _ e
    exact congrFun e 0
  · intro j hj
    obtain ⟨q0, q1, q2⟩ := (key j).1 (Finset.mem_filter.1 hj).2
    have h1 : (j 1).val < 576 := (j 1).isLt
    refine ⟨j 0, ?_, ?_⟩
    · exact Finset.mem_coe.2 (Finset.mem_filter.2 ⟨Finset.mem_univ _, by constructor <;> omega⟩)
    · funext a
      fin_cases a <;> apply Fin.ext
      · rfl
      · show (κ.val - 64 * (j 0).val) % 576 = (j 1).val; omega
      · exact q1.symm
      · exact q2.symm
  · intro c _; rfl

end Cert.AttnReferenceIdeal.Sums

end
-- ==== Proof.Attn.Chunks.lean ====
/- The reference's chunks over the reals: scores, weights, and the cotangents of both. -/
module

public import proofs.«01_k».proof.Proof.Attn.Gathers
public import proofs.«01_k».proof.Proof.Attn.Softmax
public import Idealize.ShloMosaic.Lib.WordCmp

@[expose] public section

set_option maxRecDepth 16384

noncomputable section

namespace Cert.AttnReferenceIdeal.Sums

open Idealize.ShloMosaic Cert.AttnReferenceIdeal Cert.AttnReferenceIdeal.Read Cert.Attn Cert.Arith

variable {x0 x1 x2 : Vec Ideal S8192x2048 .bf16} {x3 : Vec Ideal S16x192 .f32} {x4 : Vec Ideal S8192x2048 .bf16}

local notation "D" => data x0 x1 x2 x3 x4

theorem bits_zero : Ideal.ofBits .f32 0x00000000#32 = 0 := by simp [Ideal.ofBits, Ideal.ieee]

theorem bits_one : Ideal.ofBits .f32 0x3F800000#32 = ((1 : ℝ) : EReal) := by
  simp [Ideal.ofBits, Ideal.ieee, -EReal.coe_mul]; norm_num

theorem holds (c : Fin 128) (r : Fin 64) : Holds (64 * c.val + r.val) (64 * c.val) 576 := by
  refine ⟨?_, ?_, ?_⟩ <;> omega

theorem query (f0 : Fin' x0) (c : Fin 128) (r : Fin 64) (h : Fin 16) (d : Fin 128) :
    val_main_v10 (F := Ideal) x0 (ix4 c r h d) = ((entry x0 (64 * c.val + r.val) (128 * h.val + d.val) : ℝ) : EReal) := by
  rw [val_main_v10_apply, val_main_v0_apply]
  refine entry_at f0 _ ?_ ?_
  · show (((c.val * 64 + r.val) * 16 + h.val) * 128 + d.val) / 2048 = _; omega
  · show (((c.val * 64 + r.val) * 16 + h.val) * 128 + d.val) % 2048 = _; omega

theorem padded_k (f1 : Fin' x1) (κ : Fin 8704) (h : Fin 16) (d : Fin 128) :
    val_main_v5 (F := Ideal) x1 (ix3 κ h d) = ((pad (entry x1) κ.val (128 * h.val + d.val) : ℝ) : EReal) := by
  unfold val_main_v5
  pointwise
  unfold Cert.Attn.pad
  split
  · refine Eq.trans ?_ (congrArg _ (if_neg (show ¬512 ≤ κ.val by omega)).symm)
    rw [val_main_v3_apply]
    exact bits_zero.trans EReal.coe_zero.symm
  · refine Eq.trans ?_ (congrArg _ (if_pos (show 512 ≤ κ.val by omega)).symm)
    rw [val_main_v4_apply, val_main_v1_apply]
    refine entry_at f1 _ ?_ ?_
    · show (((κ.val - 512) * 16 + h.val) * 128 + d.val) / 2048 = _; omega
    · show (((κ.val - 512) * 16 + h.val) * 128 + d.val) % 2048 = _; omega

theorem padded_v (f2 : Fin' x2) (κ : Fin 8704) (h : Fin 16) (d : Fin 128) :
    val_main_v8 (F := Ideal) x2 (ix3 κ h d) = ((pad (entry x2) κ.val (128 * h.val + d.val) : ℝ) : EReal) := by
  unfold val_main_v8
  pointwise
  unfold Cert.Attn.pad
  split
  · refine Eq.trans ?_ (congrArg _ (if_neg (show ¬512 ≤ κ.val by omega)).symm)
    rw [val_main_v3_apply]
    exact bits_zero.trans EReal.coe_zero.symm
  · refine Eq.trans ?_ (congrArg _ (if_pos (show 512 ≤ κ.val by omega)).symm)
    rw [val_main_v7_apply, val_main_v2_apply]
    refine entry_at f2 _ ?_ ?_
    · show (((κ.val - 512) * 16 + h.val) * 128 + d.val) / 2048 = _; omega
    · show (((κ.val - 512) * 16 + h.val) * 128 + d.val) % 2048 = _; omega

theorem key (f1 : Fin' x1) (c : Fin 128) (w : Fin 576) (h : Fin 16) (d : Fin 128) :
    val_main_v30 (F := Ideal) x1 (ix4 c w h d) = ((pad (entry x1) (64 * c.val + w.val) (128 * h.val + d.val) : ℝ) : EReal) := by
  unfold val_main_v30
  rw [gathered _ _ ⟨64 * c.val + w.val, by omega⟩ c w h d (by rw [val_main_v29_apply]; exact position c w)]
  exact padded_k f1 _ h d

theorem value (f2 : Fin' x2) (c : Fin 128) (w : Fin 576) (h : Fin 16) (d : Fin 128) :
    val_main_v32 (F := Ideal) x2 (ix4 c w h d) = ((pad (entry x2) (64 * c.val + w.val) (128 * h.val + d.val) : ℝ) : EReal) := by
  unfold val_main_v32
  rw [gathered _ _ ⟨64 * c.val + w.val, by omega⟩ c w h d (by rw [val_main_v31_apply]; exact position c w)]
  exact padded_v f2 _ h d

theorem rel_lt (r : Fin 64) (w : Fin 576) : rel r.val w.val < 192 := by unfold rel; split <;> omega

theorem rel_chunk (c : Fin 128) (r : Fin 64) (w : Fin 576) : rel (64 * c.val + r.val) (64 * c.val + w.val) = rel r.val w.val := by
  unfold rel
  split <;> split <;> omega

theorem term (f3 : Fin' x3) (h : Fin 16) (r : Fin 64) (w : Fin 576) :
    val_main_v23 (F := Ideal) x3 (ix3 h r w) = ((entry x3 h.val (rel r.val w.val) : ℝ) : EReal) := by
  unfold val_main_v23
  rw [gathered_table _ _ ⟨rel r.val w.val, rel_lt r w⟩ h r w (by rw [val_main_v22_apply]; exact relative r w)]
  exact entry_at f3 _ rfl rfl

/-- A score: masked where the key lies before the sequence. -/
theorem scored (f0 : Fin' x0) (f1 : Fin' x1) (f3 : Fin' x3) (c : Fin 128) (h : Fin 16) (r : Fin 64) (w : Fin 576) :
    val_main_v44 (F := Ideal) x0 x1 x3 (ix4 c h r w)
      = masked (fun w : Fin 576 => ok (64 * c.val + r.val) (64 * c.val + w.val))
          (fun w => score D h.val (64 * c.val + r.val) (64 * c.val + w.val)) w := by
  have e : ∀ k : Fin 128, val_main_v10 (F := Ideal) x0 (lidx_main_v33 (ix4 c h r w) k) * val_main_v30 (F := Ideal) x1 (ridx_main_v33 (ix4 c h r w) k)
      = ((entry x0 (64 * c.val + r.val) (128 * h.val + k.val) * pad (entry x1) (64 * c.val + w.val) (128 * h.val + k.val) : ℝ) : EReal) := by
    intro k
    rw [show lidx_main_v33 (ix4 c h r w) k = ix4 c r h k from by funext a; fin_cases a <;> rfl,
      show ridx_main_v33 (ix4 c h r w) k = ix4 c w h k from by funext a; fin_cases a <;> rfl, query f0, key f1, EReal.coe_mul]
  have hc := c.isLt; have hr := r.isLt; have hw := w.isLt
  rw [val_main_v44_apply, val_main_v38_apply, val_main_v35_apply, val_main_v33_apply, Finset.sum_congr rfl fun k _ => e k, coe_sum,
    val_main_v34_apply, val_main_v37_apply, val_main_v36_apply,
    show idx_main_v36 (idx_main_v37 (ix4 c h r w)) = ix3 h r w from by funext a; fin_cases a <;> rfl, term f3,
    val_main_v43_apply, val_main_v42_apply, val_main_v41_apply, val_main_v40_apply,
    show idx_main_v41 (ix4 c h r w) = ix2 c w from by funext a; fin_cases a <;> rfl, position, val_main_v39_apply]
  show Scalar.select (IntOp.cmpi .sge _ (BitVec.ofNat 32 512)) ((_ * Ideal.ofBits .f32 0x3DB504F3#32) + _) (Ideal.ofBits .f32 0xFF800000#32) = _
  rw [bits_scale, bits_bot, ← EReal.coe_mul, ← EReal.coe_add]
  unfold masked
  by_cases g : 512 ≤ 64 * c.val + w.val
  · rw [(WordCmp.cmpi_sge_ofNat_eq_one_iff (by omega) (by omega)).mpr g, if_pos (show ok _ _ from ⟨g, by unfold band; omega⟩)]
    simp only [score, rel_chunk]
    rfl
  · rw [(WordCmp.cmpi_sge_ofNat_eq_zero_iff (by omega) (by omega)).mpr g, if_neg (show ¬ok _ _ from fun g' => g g'.1)]
    rfl

/-- The weights of a row sum to one. -/
theorem sum_one (A : Data) (h : ℕ) {n : ℕ} (hn : n < 8192) : (∑ κ ∈ Finset.range 8704, P A h n κ) = 1 := by
  unfold P
  rw [← Finset.sum_div]
  exact div_self (Z_pos A h hn).ne'

/-- A row's exponentials and their sum: the weights times one positive number. -/
theorem exps (f0 : Fin' x0) (f1 : Fin' x1) (f3 : Fin' x3) (c : Fin 128) (h : Fin 16) (r : Fin 64) :
    ∃ z : ℝ, 0 < z ∧ val_main_v51 (F := Ideal) x0 x1 x3 (ix3 c h r) = (z : EReal) ∧
      ∀ w : Fin 576, val_main_v50 (F := Ideal) x0 x1 x3 (ix4 c h r w)
        = ((P D h.val (64 * c.val + r.val) (64 * c.val + w.val) * z : ℝ) : EReal) := by
  have hc := c.isLt; have hr := r.isLt
  have hn : 64 * c.val + r.val < 8192 := by omega
  obtain ⟨μ, hμ⟩ := exists_max (fun w : Fin 576 => ok (64 * c.val + r.val) (64 * c.val + w.val))
    (fun w => score D h.val (64 * c.val + r.val) (64 * c.val + w.val)) ((holds c r).some hn)
  have hm : val_main_v46 (F := Ideal) x0 x1 x3 (ix3 c h r) = (μ : EReal) := by
    rw [← hμ]
    unfold val_main_v46
    pointwise
    refine (congrArg (fun b => Finset.fold max b _ Finset.univ) bits_bot).trans ?_
    exact congrArg (fun g => Finset.fold max ⊥ g Finset.univ) (funext fun w => scored f0 f1 f3 c h r w)
  have hZ := Z_pos D h.val hn
  have h50 : ∀ w : Fin 576, val_main_v50 (F := Ideal) x0 x1 x3 (ix4 c h r w)
      = ((P D h.val (64 * c.val + r.val) (64 * c.val + w.val) * (Z D h.val (64 * c.val + r.val) * Real.exp (-μ)) : ℝ) : EReal) := by
    intro w
    rw [val_main_v50_apply, val_main_v49_apply, val_main_v48_apply, val_main_v47_apply, scored f0 f1 f3,
      show idx_main_v47 (idx_main_v48 (ix4 c h r w)) = ix3 c h r from by funext a; fin_cases a <;> rfl, hm]
    refine (exp_masked _ _ μ w).trans (congrArg _ ?_)
    rw [Holds.wexp D h.val w, P, ← mul_assoc, div_mul_cancel₀ _ hZ.ne']
  refine ⟨Z D h.val (64 * c.val + r.val) * Real.exp (-μ), mul_pos hZ (Real.exp_pos _), ?_, h50⟩
  have e := (holds c r).sum_P D h.val fun _ => Z D h.val (64 * c.val + r.val) * Real.exp (-μ)
  rw [val_main_v51_apply, Finset.sum_congr rfl fun w _ => (congrArg _ (show idx_main_v51 (ix3 c h r) w = ix4 c h r w from by funext a; fin_cases a <;> rfl)).trans (h50 w),
    coe_sum, e, ← Finset.sum_mul, sum_one D h.val hn, one_mul, val_main_cst_11_apply]
  exact (congrArg (· + _) bits_zero).trans (zero_add _)

theorem cot (f4 : Fin' x4) (c : Fin 128) (h : Fin 16) (d : Fin 128) (r : Fin 64) :
    val_main_v63 (F := Ideal) x4 (ix4 c h d r) = ((entry x4 (64 * c.val + r.val) (128 * h.val + d.val) : ℝ) : EReal) := by
  rw [val_main_v63_apply, val_main_v62_apply, val_main_v61_apply]
  refine entry_at f4 _ ?_ ?_
  · show (((c.val * 64 + r.val) * 16 + h.val) * 128 + d.val) / 2048 = _; omega
  · show (((c.val * 64 + r.val) * 16 + h.val) * 128 + d.val) % 2048 = _; omega

/-- The weights' cotangents. -/
theorem weights_cot (f2 : Fin' x2) (f4 : Fin' x4) (c : Fin 128) (h : Fin 16) (r : Fin 64) (w : Fin 576) :
    val_main_v64 (F := Ideal) x2 x4 (ix4 c h r w) = ((dP (data x0 x1 x2 x3 x4) h.val (64 * c.val + r.val) (64 * c.val + w.val) : ℝ) : EReal) := by
  have e : ∀ k : Fin 128, val_main_v63 (F := Ideal) x4 (lidx_main_v64 (ix4 c h r w) k) * val_main_v32 (F := Ideal) x2 (ridx_main_v64 (ix4 c h r w) k)
      = ((entry x4 (64 * c.val + r.val) (128 * h.val + k.val) * pad (entry x2) (64 * c.val + w.val) (128 * h.val + k.val) : ℝ) : EReal) := by
    intro k
    rw [show lidx_main_v64 (ix4 c h r w) k = ix4 c h k r from by funext a; fin_cases a <;> rfl,
      show ridx_main_v64 (ix4 c h r w) k = ix4 c w h k from by funext a; fin_cases a <;> rfl, cot f4, value f2, EReal.coe_mul]
  rw [val_main_v64_apply, Finset.sum_congr rfl fun k _ => e k, coe_sum]
  rfl

/-- The weights. -/
theorem weight (f0 : Fin' x0) (f1 : Fin' x1) (f3 : Fin' x3) (c : Fin 128) (h : Fin 16) (r : Fin 64) (w : Fin 576) :
    val_main_v54 (F := Ideal) x0 x1 x3 (ix4 c h r w) = ((P D h.val (64 * c.val + r.val) (64 * c.val + w.val) : ℝ) : EReal) := by
  obtain ⟨z, hz, h51, h50⟩ := exps (x2 := x2) (x4 := x4) f0 f1 f3 c h r
  rw [val_main_v54_apply, h50, val_main_v53_apply, val_main_v52_apply,
    show idx_main_v52 (idx_main_v53 (ix4 c h r w)) = ix3 c h r from by funext a; fin_cases a <;> rfl, h51]
  refine (div_coe _ hz.ne').trans (congrArg _ ?_)
  exact mul_div_cancel_right₀ _ hz.ne'

/-- The scores' cotangents. -/
theorem scores_cot (f0 : Fin' x0) (f1 : Fin' x1) (f2 : Fin' x2) (f3 : Fin' x3) (f4 : Fin' x4) (c : Fin 128) (h : Fin 16) (r : Fin 64) (w : Fin 576) :
    val_main_v80 (F := Ideal) x0 x1 x2 x3 x4 (ix4 c h r w) = ((dS D h.val (64 * c.val + r.val) (64 * c.val + w.val) : ℝ) : EReal) := by
  obtain ⟨z, hz, h51, h50⟩ := exps (x2 := x2) (x4 := x4) f0 f1 f3 c h r
  have hc := c.isLt; have hr := r.isLt; have hw := w.isLt
  have e52 : val_main_v52 (F := Ideal) x0 x1 x3 (ix4 c h r 0) = (z : EReal) := by
    rw [val_main_v52_apply, show idx_main_v52 (ix4 c h r 0) = ix3 c h r from by funext a; fin_cases a <;> rfl, h51]
  have e57 : val_main_v57 (F := Ideal) x0 x1 x3 (ix4 c h r 0) = ((1 / (z * z) : ℝ) : EReal) := by
    rw [val_main_v57_apply, val_main_v56_apply, val_main_cst_12_apply, val_main_v55_apply, e52]
    refine (congrArg₂ Ideal.div bits_one (EReal.coe_mul z z).symm).trans (div_coe _ (mul_ne_zero hz.ne' hz.ne'))
  have e69 : ∀ w' : Fin 576, val_main_v69 (F := Ideal) x0 x1 x2 x3 x4 (ix4 c h r w')
      = ((P D h.val (64 * c.val + r.val) (64 * c.val + w'.val) * (dP D h.val (64 * c.val + r.val) (64 * c.val + w'.val) / z) : ℝ) : EReal) := by
    intro w'
    rw [val_main_v69_apply, val_main_v68_apply, weights_cot (x0 := x0) (x1 := x1) (x3 := x3) f2 f4, h50, val_main_v67_apply,
      show idx_main_v67 (ix4 c h r w') = ix4 c h r 0 from by funext a; fin_cases a <;> rfl, e57]
    show (_ * _) * _ = _
    rw [← EReal.coe_mul, ← EReal.coe_mul]
    congr 1
    field_simp
  have e70 : val_main_v70 (F := Ideal) x0 x1 x2 x3 x4 (ix3 c h r)
      = (((∑ κ ∈ Finset.range 8704, P D h.val (64 * c.val + r.val) κ * dP D h.val (64 * c.val + r.val) κ) / z : ℝ) : EReal) := by
    have e := (holds c r).sum_P D h.val fun κ => dP D h.val (64 * c.val + r.val) κ / z
    rw [val_main_v70_apply, Finset.sum_congr rfl fun w _ => (congrArg _ (show idx_main_v70 (ix3 c h r) w = ix4 c h r w from by funext a; fin_cases a <;> rfl)).trans (e69 w),
      coe_sum, e, val_main_cst_13_apply, Finset.sum_div]
    refine ((congrArg (· + _) bits_zero).trans (zero_add _)).trans (congrArg _ (Finset.sum_congr rfl fun κ _ => (mul_div_assoc _ _ _).symm))
  have e75 : val_main_v75 (F := Ideal) x0 x1 x2 x3 x4 (ix3 c h r)
      = ((-((∑ κ ∈ Finset.range 8704, P D h.val (64 * c.val + r.val) κ * dP D h.val (64 * c.val + r.val) κ) / z) : ℝ) : EReal) := by
    rw [val_main_v75_apply, val_main_cst_14_apply, Fin.sum_univ_one, val_main_v72_apply, val_main_v71_apply,
      show idx_main_v71 (idx_main_v75 (ix3 c h r) 0) = ix3 c h r from by
        have := c.isLt; have := h.isLt; have := r.isLt
        funext a; fin_cases a <;> refine Fin.ext ?_
        · show (((c.val * 16 + h.val) * 64 + r.val) * 1 + 0) / 1024 = c.val; omega
        · show (((c.val * 16 + h.val) * 64 + r.val) * 1 + 0) / 64 % 16 = h.val; omega
        · show (((c.val * 16 + h.val) * 64 + r.val) * 1 + 0) % 64 = r.val; omega, e70]
    exact ((congrArg (· + _) bits_zero).trans (zero_add _)).trans (EReal.coe_neg _).symm
  rw [val_main_v80_apply, val_main_v78_apply, val_main_v77_apply, val_main_v74_apply, weights_cot (x0 := x0) (x1 := x1) (x3 := x3) f2 f4, val_main_v73_apply, h50,
    val_main_v76_apply, show idx_main_v73 (ix4 c h r w) = ix4 c h r 0 from by funext a; fin_cases a <;> rfl, e52,
    show idx_main_v76 (ix4 c h r w) = ix3 c h r from by funext a; fin_cases a <;> rfl, e75,
    val_main_v79_apply, val_main_cst_15_apply, val_main_v41_apply, val_main_v40_apply,
    show idx_main_v41 (ix4 c h r w) = ix2 c w from by funext a; fin_cases a <;> rfl, position, val_main_v39_apply]
  show Scalar.select (IntOp.cmpi .sge _ (BitVec.ofNat 32 512)) ((Ideal.div _ _ + _) * _) (Ideal.ofBits .f32 0x00000000#32) = _
  rw [bits_zero, div_coe _ hz.ne', ← EReal.coe_add, ← EReal.coe_mul]
  by_cases g : 512 ≤ 64 * c.val + w.val
  · rw [(WordCmp.cmpi_sge_ofNat_eq_one_iff (by omega) (by omega)).mpr g]
    refine congrArg ((↑) : ℝ → EReal) ?_
    unfold dS
    field_simp
    ring
  · rw [(WordCmp.cmpi_sge_ofNat_eq_zero_iff (by omega) (by omega)).mpr g, dS_zero D (fun g' => g g'.1)]
    rfl

end Cert.AttnReferenceIdeal.Sums

end
-- ==== Proof.Attn.Grads.lean ====
/- The reference's three gradients over the reals. -/
module

public import proofs.«01_k».proof.Proof.Attn.Chunks
public import proofs.«01_k».proof.Proof.Attn.Arrays

@[expose] public section

set_option maxRecDepth 16384

noncomputable section

namespace Cert.AttnReferenceIdeal.Sums

open Idealize.ShloMosaic Cert.AttnReferenceIdeal Cert.AttnReferenceIdeal.Read Cert.Attn Cert.Arith

variable {x0 x1 x2 : (⟨S8192x2048, .bf16⟩ : BufTy).Contents (Elt Ideal)} {x3 : (⟨S16x192, .f32⟩ : BufTy).Contents (Elt Ideal)} {x4 : (⟨S8192x2048, .bf16⟩ : BufTy).Contents (Elt Ideal)}

local notation "D" => data x0 x1 x2 x3 x4

/-- Shares collected chunk by chunk are the shares of every row, those outside the band being nothing. -/
theorem collect (f : ℕ → ℕ → ℝ) (hf : ∀ n κ, ¬ok n κ → f n κ = 0) (κ : ℕ) :
    (∑ c : Fin 128, if 64 * c.val ≤ κ ∧ κ < 64 * c.val + 576 then ∑ r : Fin 64, f (64 * c.val + r.val) κ else 0)
      = ∑ n ∈ Finset.range 8192, f n κ := by
  have e : ∀ c : Fin 128, (if 64 * c.val ≤ κ ∧ κ < 64 * c.val + 576 then ∑ r : Fin 64, f (64 * c.val + r.val) κ else 0)
      = ∑ r : Fin 64, f (64 * c.val + r.val) κ := by
    intro c
    by_cases g : 64 * c.val ≤ κ ∧ κ < 64 * c.val + 576
    · exact if_pos g
    · rw [if_neg g]
      refine (Finset.sum_eq_zero fun r _ => hf _ _ fun g' => g ?_).symm
      have h1 := g'.2.1; have h2 := g'.2.2; have := r.isLt
      omega
  rw [Finset.sum_congr rfl fun c _ => e c, Finset.sum_range]
  exact Fin.sum_mul_add_fin 128 64 fun n : Fin 8192 => f n.val κ

/-- The same with each chunk's share an extended real. -/
theorem collected (f : ℕ → ℕ → ℝ) (hf : ∀ n κ, ¬ok n κ → f n κ = 0) (κ : ℕ) (u : (c : Fin 128) → (64 * c.val ≤ κ ∧ κ < 64 * c.val + 576) → EReal)
    (hu : ∀ c g, u c g = ((∑ r : Fin 64, f (64 * c.val + r.val) κ : ℝ) : EReal)) :
    (∑ c : Fin 128, if g : 64 * c.val ≤ κ ∧ κ < 64 * c.val + 576 then u c g else (0 : EReal))
      = ((∑ n ∈ Finset.range 8192, f n κ : ℝ) : EReal) := by
  rw [← collect f hf κ, ← coe_sum]
  refine Finset.sum_congr rfl fun c _ => ?_
  by_cases g : 64 * c.val ≤ κ ∧ κ < 64 * c.val + 576
  · rw [dif_pos g, if_pos g, hu]
  · rw [dif_neg g, if_neg g]; exact EReal.coe_zero.symm

/-- The scaled scores' cotangents. -/
theorem scaled (f0 : Fin' x0) (f1 : Fin' x1) (f2 : Fin' x2) (f3 : Fin' x3) (f4 : Fin' x4) (c : Fin 128) (h : Fin 16) (r : Fin 64) (w : Fin 576) :
    val_main_v82 (F := Ideal) x0 x1 x2 x3 x4 (ix4 c h r w) = ((dS D h.val (64 * c.val + r.val) (64 * c.val + w.val) * scale : ℝ) : EReal) := by
  rw [val_main_v82_apply, scores_cot f0 f1 f2 f3 f4, val_main_v81_apply, val_main_cst_16_apply]
  exact (congrArg (_ * ·) bits_scale).trans (EReal.coe_mul _ _).symm

/-- The queries' gradient by chunk. -/
theorem chunk_q (f0 : Fin' x0) (f1 : Fin' x1) (f2 : Fin' x2) (f3 : Fin' x3) (f4 : Fin' x4) (c : Fin 128) (h : Fin 16) (r : Fin 64) (d : Fin 128) :
    val_main_v85 (F := Ideal) x0 x1 x2 x3 x4 (ix4 c h r d) = ((dq D h.val (64 * c.val + r.val) d.val : ℝ) : EReal) := by
  have e : ∀ k : Fin 576, val_main_v82 (F := Ideal) x0 x1 x2 x3 x4 (lidx_main_v85 (ix4 c h r d) k) * val_main_v30 (F := Ideal) x1 (ridx_main_v85 (ix4 c h r d) k)
      = ((dS D h.val (64 * c.val + r.val) (64 * c.val + k.val) * (scale * pad (entry x1) (64 * c.val + k.val) (128 * h.val + d.val)) : ℝ) : EReal) := by
    intro k
    rw [show lidx_main_v85 (ix4 c h r d) k = ix4 c h r k from by funext a; fin_cases a <;> rfl,
      show ridx_main_v85 (ix4 c h r d) k = ix4 c k h d from by funext a; fin_cases a <;> rfl, scaled f0 f1 f2 f3 f4, key f1, ← EReal.coe_mul, mul_assoc]
  have s := (holds c r).sum_dS D h.val fun κ => scale * pad (entry x1) κ (128 * h.val + d.val)
  rw [val_main_v85_apply, Finset.sum_congr rfl fun k _ => e k, coe_sum, s]
  refine congrArg _ ?_
  rw [dq, Finset.sum_mul]
  refine Finset.sum_congr rfl fun κ _ => ?_
  show _ * (scale * Attn.pad (entry x1) κ _) = _ * Attn.pad (entry x1) κ _ * scale
  ring

/-- The keys' shares by chunk. -/
theorem chunk_k (f0 : Fin' x0) (f1 : Fin' x1) (f2 : Fin' x2) (f3 : Fin' x3) (f4 : Fin' x4) (c : Fin 128) (w : Fin 576) (h : Fin 16) (d : Fin 128) :
    val_main_v84 (F := Ideal) x0 x1 x2 x3 x4 (ix4 c w h d)
      = ((∑ r : Fin 64, dS D h.val (64 * c.val + r.val) (64 * c.val + w.val) * entry x0 (64 * c.val + r.val) (128 * h.val + d.val) * scale : ℝ) : EReal) := by
  have e : ∀ r : Fin 64, val_main_v82 (F := Ideal) x0 x1 x2 x3 x4 (lidx_main_v83 (ix4 c h w d) r) * val_main_v10 (F := Ideal) x0 (ridx_main_v83 (ix4 c h w d) r)
      = ((dS D h.val (64 * c.val + r.val) (64 * c.val + w.val) * entry x0 (64 * c.val + r.val) (128 * h.val + d.val) * scale : ℝ) : EReal) := by
    intro r
    rw [show lidx_main_v83 (ix4 c h w d) r = ix4 c h r w from by funext a; fin_cases a <;> rfl,
      show ridx_main_v83 (ix4 c h w d) r = ix4 c r h d from by funext a; fin_cases a <;> rfl, scaled f0 f1 f2 f3 f4, query f0, ← EReal.coe_mul, mul_right_comm]
  rw [val_main_v84_apply, show idx_main_v84 (ix4 c w h d) = ix4 c h w d from by funext a; fin_cases a <;> rfl,
    val_main_v83_apply, Finset.sum_congr rfl fun r _ => e r, coe_sum]

/-- The values' shares by chunk. -/
theorem chunk_v (f0 : Fin' x0) (f1 : Fin' x1) (f3 : Fin' x3) (f4 : Fin' x4) (c : Fin 128) (w : Fin 576) (h : Fin 16) (d : Fin 128) :
    val_main_v66 (F := Ideal) x0 x1 x3 x4 (ix4 c w h d)
      = ((∑ r : Fin 64, P D h.val (64 * c.val + r.val) (64 * c.val + w.val) * entry x4 (64 * c.val + r.val) (128 * h.val + d.val) : ℝ) : EReal) := by
  have e : ∀ r : Fin 64, val_main_v63 (F := Ideal) x4 (lidx_main_v65 (ix4 c h d w) r) * val_main_v54 (F := Ideal) x0 x1 x3 (ridx_main_v65 (ix4 c h d w) r)
      = ((P D h.val (64 * c.val + r.val) (64 * c.val + w.val) * entry x4 (64 * c.val + r.val) (128 * h.val + d.val) : ℝ) : EReal) := by
    intro r
    rw [show lidx_main_v65 (ix4 c h d w) r = ix4 c h d r from by funext a; fin_cases a <;> rfl,
      show ridx_main_v65 (ix4 c h d w) r = ix4 c h r w from by funext a; fin_cases a <;> rfl, cot f4,
      weight (x2 := x2) (x4 := x4) f0 f1 f3, ← EReal.coe_mul, mul_comm]
  rw [val_main_v66_apply, show idx_main_v66 (ix4 c w h d) = ix4 c h d w from by funext a; fin_cases a <;> rfl,
    val_main_v65_apply, Finset.sum_congr rfl fun r _ => e r, coe_sum]

/-- The padded keys' gradient. -/
theorem sum_k (f0 : Fin' x0) (f1 : Fin' x1) (f2 : Fin' x2) (f3 : Fin' x3) (f4 : Fin' x4) (κ : Fin 8704) (h : Fin 16) (d : Fin 128) :
    val_main_v90 (F := Ideal) x0 x1 x2 x3 x4 (ix3 κ h d) = ((dk D h.val κ.val d.val : ℝ) : EReal) := by
  unfold val_main_v90
  rw [added _ _ _ (fun c w => ?_), val_main_v89_apply, val_main_cst_18_apply,
    collected (fun n κ => dS D h.val n κ * entry x0 n (128 * h.val + d.val) * scale) (fun n κ g => by rw [dS_zero D g, zero_mul, zero_mul]) κ.val _ (fun c g => ?_)]
  · exact (congrArg (· + _) bits_zero).trans (zero_add _)
  · rw [chunk_k f0 f1 f2 f3 f4]
    refine congrArg _ (Finset.sum_congr rfl fun r _ => ?_)
    rw [show 64 * c.val + (κ.val - 64 * c.val) = κ.val from Nat.add_sub_cancel' g.1]
  · rw [val_main_v29_apply]
    exact position c w

/-- The padded values' gradient. -/
theorem sum_v (f0 : Fin' x0) (f1 : Fin' x1) (f3 : Fin' x3) (f4 : Fin' x4) (κ : Fin 8704) (h : Fin 16) (d : Fin 128) :
    val_main_v88 (F := Ideal) x0 x1 x3 x4 (ix3 κ h d) = ((dv D h.val κ.val d.val : ℝ) : EReal) := by
  unfold val_main_v88
  rw [added _ _ _ (fun c w => ?_), val_main_v87_apply, val_main_cst_17_apply,
    collected (fun n κ => P D h.val n κ * entry x4 n (128 * h.val + d.val)) (fun n κ g => by rw [P_zero D g, zero_mul]) κ.val _ (fun c g => ?_)]
  · exact (congrArg (· + _) bits_zero).trans (zero_add _)
  · rw [chunk_v (x2 := x2) f0 f1 f3 f4]
    refine congrArg _ (Finset.sum_congr rfl fun r _ => ?_)
    rw [show 64 * c.val + (κ.val - 64 * c.val) = κ.val from Nat.add_sub_cancel' g.1]
  · rw [val_main_v31_apply]
    exact position c w

/-- The three results. -/
theorem result_q (f0 : Fin' x0) (f1 : Fin' x1) (f2 : Fin' x2) (f3 : Fin' x3) (f4 : Fin' x4) (i : S8192x2048.Idx) :
    val_main_v91 (F := Ideal) x0 x1 x2 x3 x4 i = ((dq D ((i 1).val / 128) (i 0).val ((i 1).val % 128) : ℝ) : EReal) := by
  have h0 : (i 0).val < 8192 := (i 0).isLt
  have h1 : (i 1).val < 2048 := (i 1).isLt
  rw [val_main_v91_apply, val_main_v86_apply,
    show idx_main_v86 (idx_main_v91 i) = ix4 (⟨(i 0).val / 64, by omega⟩ : Fin 128) (⟨(i 1).val / 128, by omega⟩ : Fin 16) (⟨(i 0).val % 64, by omega⟩ : Fin 64) (⟨(i 1).val % 128, by omega⟩ : Fin 128) from by
      funext a; fin_cases a <;> refine Fin.ext ?_
      · show ((i 0).val * 2048 + (i 1).val) / 131072 = (i 0).val / 64; omega
      · show ((i 0).val * 2048 + (i 1).val) / 128 % 16 = (i 1).val / 128; omega
      · show ((i 0).val * 2048 + (i 1).val) / 2048 % 64 = (i 0).val % 64; omega
      · show ((i 0).val * 2048 + (i 1).val) % 128 = (i 1).val % 128; omega,
    chunk_q f0 f1 f2 f3 f4]
  show ((dq D _ (64 * ((i 0).val / 64) + (i 0).val % 64) _ : ℝ) : EReal) = _
  rw [Nat.div_add_mod]

theorem result_k (f0 : Fin' x0) (f1 : Fin' x1) (f2 : Fin' x2) (f3 : Fin' x3) (f4 : Fin' x4) (i : S8192x2048.Idx) :
    val_main_v97 (F := Ideal) x0 x1 x2 x3 x4 i = ((dk D ((i 1).val / 128) (512 + (i 0).val) ((i 1).val % 128) : ℝ) : EReal) := by
  have h0 : (i 0).val < 8192 := (i 0).isLt
  have h1 : (i 1).val < 2048 := (i 1).isLt
  rw [val_main_v97_apply, val_main_v96_apply,
    show idx_main_v96 (idx_main_v97 i) = ix3 (⟨512 + (i 0).val, by omega⟩ : Fin 8704) (⟨(i 1).val / 128, by omega⟩ : Fin 16) (⟨(i 1).val % 128, by omega⟩ : Fin 128) from by
      funext a; fin_cases a <;> refine Fin.ext ?_
      · show 512 + ((i 0).val * 2048 + (i 1).val) / 2048 = 512 + (i 0).val; omega
      · show ((i 0).val * 2048 + (i 1).val) / 128 % 16 = (i 1).val / 128; omega
      · show ((i 0).val * 2048 + (i 1).val) % 128 = (i 1).val % 128; omega,
    sum_k f0 f1 f2 f3 f4]

theorem result_v (f0 : Fin' x0) (f1 : Fin' x1) (f3 : Fin' x3) (f4 : Fin' x4) (i : S8192x2048.Idx) :
    val_main_v94 (F := Ideal) x0 x1 x3 x4 i = ((dv D ((i 1).val / 128) (512 + (i 0).val) ((i 1).val % 128) : ℝ) : EReal) := by
  have h0 : (i 0).val < 8192 := (i 0).isLt
  have h1 : (i 1).val < 2048 := (i 1).isLt
  rw [val_main_v94_apply, val_main_v93_apply,
    show idx_main_v93 (idx_main_v94 i) = ix3 (⟨512 + (i 0).val, by omega⟩ : Fin 8704) (⟨(i 1).val / 128, by omega⟩ : Fin 16) (⟨(i 1).val % 128, by omega⟩ : Fin 128) from by
      funext a; fin_cases a <;> refine Fin.ext ?_
      · show 512 + ((i 0).val * 2048 + (i 1).val) / 2048 = 512 + (i 0).val; omega
      · show ((i 0).val * 2048 + (i 1).val) / 128 % 16 = (i 1).val / 128; omega
      · show ((i 0).val * 2048 + (i 1).val) % 128 = (i 1).val % 128; omega,
    sum_v (x2 := x2) f0 f1 f3 f4]

end Cert.AttnReferenceIdeal.Sums

end
-- ==== Proof.Attn.Claim.lean ====
/- The value claim of the attention's gradients: the precondition read as finiteness, and the two runs set side by side. -/
module

public import proofs.«01_k».proof.Defs
public import proofs.«01_k».proof.Proof.Gen.AttnReferenceIdeal.Run
public import proofs.«01_k».proof.Proof.Gen.Pre_attn_finite
public import proofs.«01_k».proof.Proof.Attn.Run
public import proofs.«01_k».proof.Proof.Attn.Grads

@[expose] public section

noncomputable section

namespace Cert.Attn

open Idealize.ShloMosaic Idealize.SL.Sem Cert.Arith
open Cert.AttnKernelIdeal.Trip (Finite outq outk outv)

/-- The precondition says that the five arrays are finite. -/
theorem finite_of_pre (m) (h : Cert.Pre_AttnKernelIdeal_attn_finite m) (c : Dev Cert.AttnKernelIdeal.nD) : Finite m c :=
  ⟨fun i => real_of_test (congrFun (h c).1 i), fun i => real_of_test (congrFun (h c).2.1 i),
    fun i => real_of_test (congrFun (h c).2.2.1 i), fun i => real_of_test (congrFun (h c).2.2.2.1 i),
    fun i => real_of_test (congrFun (h c).2.2.2.2 i)⟩

/-- The reference ends with its arguments as they were; it declares no semaphore. -/
theorem frame_reference : Cert.quiescent_AttnReferenceIdeal := fun m ρ _ =>
  (θ_run Cert.AttnReferenceIdeal.defs _ _).mono
    (fun r h => ⟨fun c => (h c).2.2.2, sem_eq_zero_of_no_sems (by decide) r.2⟩)
    (Cert.AttnReferenceIdeal.Value.run m ρ)

/-- The kernel's three gradients are the reference's, where the arguments are finite. -/
theorem algebraic : Cert.algebraic_AttnKernelIdeal_AttnReferenceIdeal_pre_attn_finite := by
  intro m g m' g' hpre hargs
  refine ⟨outq m, outk m, outv m, Cert.AttnKernelIdeal.Trip.run m (finite_of_pre m hpre) g, ?_⟩
  refine (θ_run Cert.AttnReferenceIdeal.defs _ _).mono (fun _ h c => ?_) (Cert.AttnReferenceIdeal.Value.run m' g')
  obtain ⟨h0, h1, h2, h3⟩ := h c
  obtain ⟨a0, a1, a2, a3, a4⟩ := hargs c
  have f := finite_of_pre m hpre c
  refine ⟨h0.trans ?_, h1.trans ?_, h2.trans ?_, h3⟩
  · rw [Cert.AttnReferenceIdeal.Read.val_main_v91_eq, a0, a1, a2, a3, a4]
    funext i
    exact Cert.AttnReferenceIdeal.Sums.result_q f.q f.k f.v f.t f.o i
  · rw [Cert.AttnReferenceIdeal.Read.val_main_v97_eq, a0, a1, a2, a3, a4]
    funext i
    exact Cert.AttnReferenceIdeal.Sums.result_k f.q f.k f.v f.t f.o i
  · rw [Cert.AttnReferenceIdeal.Read.val_main_v94_eq, a0, a1, a3, a4]
    funext i
    exact Cert.AttnReferenceIdeal.Sums.result_v (x2 := m (((c.tc : Thread _ Cert.AttnKernelIdeal.τ)).loc Cert.AttnKernelIdeal.main_arg2)) f.q f.k f.t f.o i

end Cert.Attn

end
-- ==== Proof.Fwd.Bias.lean ====
/- The forward call's band of relative terms: the host lines are the backward call's, over this program's buffers. -/
module

public import proofs.«01_k».proof.Proof.Gen.FwdKernelIdeal.Value
public import proofs.«01_k».proof.Proof.Attn.Bias

@[expose] public section

set_option maxRecDepth 16384

noncomputable section

namespace Cert.Fwd

open Idealize.ShloMosaic Idealize.ShloMosaic.TcCoe Idealize.ShloMosaic.Tactic
open Cert.FwdKernelIdeal Cert.FwdKernelIdeal.Gen Cert.Attn Cert.Arith

/-- A copy put at row and column `B`: its own entries inside, what was there outside. -/
theorem placed (x : FVec Ideal S16x256x768 .f32) (idx : IVec S2 32) (u : FVec Ideal S16x64x576 .f32) (B : ℕ)
    (h0 : (idx (ix1 0)).toInt = (B : ℤ)) (h1 : (idx (ix1 1)).toInt = (B : ℤ)) (h : Fin 16) (r : Fin 256) (w : Fin 768) :
    Host.scatter scatter_S16x256x768_S2_S16x64x576_012_n_12_0 (fun _ b => b) x idx u (ix3 h r w)
      = if g : B ≤ r.val ∧ r.val < B + 64 ∧ B ≤ w.val ∧ w.val < B + 576
        then u (ix3 h ⟨r.val - B, by omega⟩ ⟨w.val - B, by omega⟩) else x (ix3 h r w) :=
  Cert.AttnKernelIdeal.Trip.placed x idx u B h0 h1 h r w

variable (W : Valuation τ sig (Elt Ideal))

/-- The four copies: an entry of a copy inside the band, the fill outside. -/
theorem copies (h : Fin 16) (r : Fin 256) (w : Fin 768) :
    (StableHlo.after (hostOps0_6.drop 134) W (Proc.devRef .tc main_v156) : Vec Ideal S16x256x768 .f32) (ix3 h r w)
      = if g : band r.val w.val then (W (Proc.devRef .tc main_v139) : Vec Ideal S16x64x576 .f32)
          (ix3 h ⟨r.val % 64, by omega⟩ ⟨w.val - 64 * (r.val / 64), by unfold band at g; omega⟩) else (⊥ : EReal) := by
  have hr := r.isLt
  have hb : band r.val w.val ↔ 64 * (r.val / 64) ≤ w.val ∧ w.val < 64 * (r.val / 64) + 576 := Iff.rfl
  after_reads_simp
  rw [placed _ _ _ 192, placed _ _ _ 128, placed _ _ _ 64, placed _ _ _ 0]
  · iterate 4
      split
      · rw [dif_pos (hb.2 (by omega))]
        congr 2 <;> apply Fin.ext <;> simp only [] <;> omega
    rw [dif_neg fun g => by have := hb.1 g; omega]
    pointwise
    exact bits_bot
  all_goals
    pointwise
    after_reads_simp
    pointwise
    rfl

set_option maxHeartbeats 0 in
/-- Row `r` of the 64: the constant row and the reversed table, `63 - r` places on. -/
theorem shifted (h : Fin 16) (r : Fin 64) (w : Fin 576) :
    (StableHlo.after (hostOps0_6.take 134) W (Proc.devRef .tc main_v139) : Vec Ideal S16x64x576 .f32) (ix3 h r w)
      = if g : 63 - r.val + w.val < 448 then (W (Proc.devRef .tc main_v3) : Vec Ideal S16x448 .f32) (ix2 h ⟨63 - r.val + w.val, g⟩)
        else (W (Proc.devRef .tc main_v5) : Vec Ideal S16x191 .f32) (ix2 h ⟨63 - r.val + w.val - 448, by omega⟩) := by
  obtain ⟨r, hr⟩ := r
  interval_cases r
  all_goals
    after_reads_simp
    pointwise
    after_reads_simp [Matrix.cons_val_zero, Matrix.cons_val_one, Matrix.cons_val]
    pointwise
    after_reads_simp

end Cert.Fwd

end
-- ==== Proof.Fwd.Kernel.lean ====
/- What the forward call's array holds after its run: the weights of a row times the values. -/
module

public import proofs.«01_k».proof.Proof.Gen.FwdKernelIdeal.Value
public import proofs.«01_k».proof.Proof.Attn.Payload
public import Idealize.ShloMosaic.Lib.WordCmp
public import Idealize.ShloMosaic.Lib.Pipeline.ValueKit

@[expose] public section

set_option maxRecDepth 16384

noncomputable section

namespace Cert.Fwd

open Idealize.ShloMosaic Idealize.ShloMosaic.TcCoe Idealize.SL.Sem
open Cert.AttnKernelIdeal.Trip (band_shift rel_shift)
open Cert.FwdKernelIdeal Cert.FwdKernelIdeal.Gen Cert.Attn Cert.Arith

/-- Column `d` of head `h` of row `n` of the result. -/
def out (D : Data) (h n d : ℕ) : ℝ := ∑ κ ∈ Finset.range 8704, P D h n κ * pad D.V κ (128 * h + d)

/-- What a grid point's four blocks hold: a head's columns of the arrays, and that head's band of relative terms. -/
structure Blocks (D : Data) (t : ℕ) (x0 : Vec Ideal S2048x128 .bf16) (x1 x2 : Vec Ideal S8704x128 .bf16)
    (x3 : Vec Ideal S1x256x768 .f32) : Prop where
  q : ∀ (r : Fin 2048) (d : Fin 128), x0 (ix2 r d) = ((D.Q (2048 * (t % 4) + r.val) (128 * (t / 4) + d.val) : ℝ) : EReal)
  k : ∀ (κ : Fin 8704) (d : Fin 128), x1 (ix2 κ d) = ((pad D.K κ.val (128 * (t / 4) + d.val) : ℝ) : EReal)
  v : ∀ (κ : Fin 8704) (d : Fin 128), x2 (ix2 κ d) = ((pad D.V κ.val (128 * (t / 4) + d.val) : ℝ) : EReal)
  b : ∀ (r : Fin 256) (w : Fin 768), x3 (ix3 0 r w) = if band r.val w.val then ((D.T (t / 4) (rel r.val w.val) : ℝ) : EReal) else ⊥

/-- A tile whose first key stands at word `a`: a row of weights times the window's values. -/
theorem weighted (a : BitVec 32) (q : Vec Ideal S256x128 .bf16) (kk v : Vec Ideal S768x128 .bf16) (b : Vec Ideal S1x256x768 .f32)
    (r : Fin 256) (d : Fin 128) (x : Fin 768 → EReal)
    (hx : ∀ w : Fin 768, x w = Scalar.select (IntOp.cmpi .sge (IntOp.addi (IntOp.muli a 256#32) (BitVec.ofNat 32 w.val)) 512#32)
      ((∑ d, q (ix2 r d) * kk (ix2 w d)) * Ideal.ofBits .f32 0x3DB504F3#32 + b (ix3 0 r w)) (⊥ : EReal)) :
    k0_pay7 (F := Ideal) a q kk b v (ix2 r d)
      = ∑ w, Ideal.div (Ideal.exp (x w - Finset.univ.fold max ⊥ x)) (∑ w, Ideal.exp (x w - Finset.univ.fold max ⊥ x)) * v (ix2 w d) := by
  unfold_payloads
  pointwise
  rw [bits_bot]
  simp only [hx]
  rfl

theorem holds (b : ℕ) (hb : b < 32) (r : Fin 256) : Holds (256 * b + r.val) (256 * b) 768 := by
  have := r.isLt
  refine ⟨?_, ?_, ?_⟩ <;> omega

/-- Over the reals: block `b` of the rows, head `h`. -/
theorem weighted_real (D : Data) (b h : ℕ) (hb : b < 32) (a : BitVec 32) (ha : IntOp.muli a 256#32 = BitVec.ofNat 32 (256 * b))
    (q : Vec Ideal S256x128 .bf16) (kk v : Vec Ideal S768x128 .bf16) (x3 : Vec Ideal S1x256x768 .f32)
    (hq : ∀ r d, q (ix2 r d) = ((D.Q (256 * b + r.val) (128 * h + d.val) : ℝ) : EReal))
    (hk : ∀ w d, kk (ix2 w d) = ((pad D.K (256 * b + w.val) (128 * h + d.val) : ℝ) : EReal))
    (hv : ∀ w d, v (ix2 w d) = ((pad D.V (256 * b + w.val) (128 * h + d.val) : ℝ) : EReal))
    (hx : ∀ (r : Fin 256) (w : Fin 768), x3 (ix3 0 r w) = if band r.val w.val then ((D.T h (rel r.val w.val) : ℝ) : EReal) else ⊥)
    (r : Fin 256) (d : Fin 128) :
    k0_pay7 (F := Ideal) a q kk x3 v (ix2 r d) = ((out D h (256 * b + r.val) d.val : ℝ) : EReal) := by
  have hr := r.isLt
  have e := weights D (holds b hb r) (by omega) h (fun w => Scalar.select (IntOp.cmpi .sge (IntOp.addi (IntOp.muli a 256#32) (BitVec.ofNat 32 w.val)) 512#32)
      ((∑ d, q (ix2 r d) * kk (ix2 w d)) * Ideal.ofBits .f32 0x3DB504F3#32 + x3 (ix3 0 r w)) (⊥ : EReal)) (fun w => ?_)
  · rw [weighted a q kk v x3 r d _ fun _ => rfl, Finset.sum_congr rfl fun w _ => congrArg₂ (· * ·) (e w) (hv w d)]
    simp only [← EReal.coe_mul]
    rw [coe_sum, (holds b hb r).sum_P D h fun κ => pad D.V κ (128 * h + d.val)]
    rfl
  · have hw := w.isLt
    simp only [hq, hk, hx, ← EReal.coe_mul]
    rw [coe_sum, bits_scale, ← EReal.coe_mul, ha]
    rw [show IntOp.addi (BitVec.ofNat 32 (256 * b)) (BitVec.ofNat 32 w.val) = BitVec.ofNat 32 (256 * b + w.val) from (BitVec.ofNat_add ..).symm]
    unfold masked
    by_cases g : 512 ≤ 256 * b + w.val
    · rw [(WordCmp.cmpi_sge_ofNat_eq_one_iff (by omega) (by omega)).mpr g]
      by_cases g' : band r.val w.val
      · rw [if_pos g', if_pos (show ok _ _ from ⟨g, (band_shift _ _).mpr g'⟩), ← EReal.coe_add]
        simp only [score, rel_shift]
        rfl
      · rw [if_neg g', if_neg (show ¬ok _ _ from fun g'' => g' ((band_shift _ _).mp g''.2)), EReal.add_bot]
        rfl
    · rw [(WordCmp.cmpi_sge_ofNat_eq_zero_iff (by omega) (by omega)).mpr g, if_neg (show ¬ok _ _ from fun g' => g g'.1)]
      rfl

theorem off_eq (t : Fin cfg0.N) (k : Fin 8) : k0_off1 (grid0.coords t) (BitVec.ofNat 32 k.val) = ![256 * (8 * (t.val % 4) + k.val), 0] :=
  (by decide +kernel : ∀ (t : Fin grid0.N) (k : Fin 8), k0_off1 (grid0.coords t) (BitVec.ofNat 32 k.val) = ![256 * (8 * (t.val % 4) + k.val), 0]) t k

theorem word_eq (t : Fin cfg0.N) (k : Fin 8) :
    IntOp.muli (Scalar.addi (Scalar.muli (BitVec.ofNat 32 (grid0.coords t 1).val) 8#32) (BitVec.ofNat 32 k.val)) 256#32
      = BitVec.ofNat 32 (256 * (8 * (t.val % 4) + k.val)) :=
  (by decide +kernel : ∀ (t : Fin grid0.N) (k : Fin 8),
    IntOp.muli (Scalar.addi (Scalar.muli (BitVec.ofNat 32 (grid0.coords t 1).val) 8#32) (BitVec.ofNat 32 k.val)) 256#32
      = BitVec.ofNat 32 (256 * (8 * (t.val % 4) + k.val))) t k

/-- The window of keys or values of tile `k`. -/
theorem window (b : Vec Ideal S8704x128 .bf16) (t : Fin cfg0.N) (k : Fin 8) (inb) (w : Fin 768) (d : Fin 128) :
    View.ld b (Rect.unit (s := S8704x128) (k0_off1 (grid0.coords t) (BitVec.ofNat 32 k.val)) ![768, 128] inb) (ix2 w d)
      = b (ix2 ⟨256 * (8 * (t.val % 4) + k.val) + w.val, by have := k.isLt; omega⟩ d) := by
  refine congrArg b (funext fun a => Fin.ext ?_)
  rw [Rect.idx_unit_val]
  refine (congrArg (· + _) (congrFun (off_eq t k) a)).trans ?_
  fin_cases a
  · rfl
  · exact Nat.zero_add _

/-- The rows of tile `k`. -/
theorem rows (b : Vec Ideal S2048x128 .bf16) (n : ℕ) (k : Fin 8) (hn : n = 256 * k.val) (inb) (r : Fin 256) (d : Fin 128) :
    View.ld b (Rect.unit (s := S2048x128) ![n, 0] ![256, 128] inb) (ix2 r d) = b (ix2 ⟨256 * k.val + r.val, by have := k.isLt; omega⟩ d) := by
  subst hn
  refine congrArg b (funext fun a => Fin.ext ?_)
  rw [Rect.idx_unit_val]
  fin_cases a
  · rfl
  · exact Nat.zero_add _

/-- One of the eight stores of a block. -/
theorem piece (D : Data) (t : Fin cfg0.N) {x0 : Vec Ideal S2048x128 .bf16} {x1 x2 : Vec Ideal S8704x128 .bf16}
    {x3 : Vec Ideal S1x256x768 .f32} (H : Blocks D t.val x0 x1 x2 x3) (y : S2048x128.Idx) (x : S256x128.Idx) (n : ℕ) (k : Fin 8)
    (hn : n = 256 * k.val) (inb) (inb') (inb'') (h0 : (y 0).val = n + (x 0).val) (h1 : (y 1).val = (x 1).val) :
    k0_pay7 (F := Ideal) (Scalar.addi (Scalar.muli (BitVec.ofNat 32 (grid0.coords t 1).val) 8#32) (BitVec.ofNat 32 k.val))
      (View.ld x0 (Rect.unit (s := S2048x128) ![n, 0] ![256, 128] inb))
      (View.ld x1 (Rect.unit (s := S8704x128) (k0_off1 (grid0.coords t) (BitVec.ofNat 32 k.val)) ![768, 128] inb')) x3
      (View.ld x2 (Rect.unit (s := S8704x128) (k0_off1 (grid0.coords t) (BitVec.ofNat 32 k.val)) ![768, 128] inb'')) x
      = ((out D (t.val / 4) (2048 * (t.val % 4) + (y 0).val) (y 1).val : ℝ) : EReal) := by
  have hk := k.isLt
  rw [h0, h1]
  idx_vars x
  refine (weighted_real D (8 * (t.val % 4) + k.val) (t.val / 4) (by omega) _ (word_eq t k) _ _ _ _ (fun r d => ?_) (fun w d => ?_)
    (fun w d => ?_) H.b x0 x1).trans ?_
  · rw [rows _ _ _ hn, H.q]
    rw [show 2048 * (t.val % 4) + (256 * k.val + r.val) = 256 * (8 * (t.val % 4) + k.val) + r.val by omega]
  · rw [window, H.k]
  · rw [window, H.v]
  · rw [show 256 * (8 * (t.val % 4) + k.val) + x0.val = 2048 * (t.val % 4) + (n + x0.val) by omega]

theorem tile (D : Data) (c : Dev nD) (t : Fin cfg0.N) (x0 : Vec Ideal S2048x128 .bf16) (x1 x2 : Vec Ideal S8704x128 .bf16)
    (x3 : Vec Ideal S1x256x768 .f32) (H : Blocks D t.val x0 x1 x2 x3) (y : S2048x128.Idx) :
    out0_A_4 (F := Ideal) c (grid0.coords t) (ms0_0 t) (hs0_0 t) (ms0_1 t) (hs0_1 t) (ms0_2 t) (hs0_2 t) (ms0_3 t) (hs0_3 t)
      (ms0_4 t) (hs0_4 t) x0 x1 x2 x3 y = ((out D (t.val / 4) (2048 * (t.val % 4) + (y 0).val) (y 1).val : ℝ) : EReal) := by
  frame_out
  canon_tiles x hh
  · exact piece D t H y x _ 7 rfl _ _ _ hh0 hh1
  · exact piece D t H y x _ 6 rfl _ _ _ hh0 hh1
  · exact piece D t H y x _ 5 rfl _ _ _ hh0 hh1
  · exact piece D t H y x _ 4 rfl _ _ _ hh0 hh1
  · exact piece D t H y x _ 3 rfl _ _ _ hh0 hh1
  · exact piece D t H y x _ 2 rfl _ _ _ hh0 hh1
  · exact piece D t H y x _ 1 rfl _ _ _ hh0 hh1
  · exact piece D t H y x _ 0 rfl _ _ _ (by omega) hh1

end Cert.Fwd

end
-- ==== Proof.Fwd.Prefix.lean ====
/- What the blocks of the forward call's grid points hold, read from the argument arrays through the host lines before it. -/
module

public import proofs.«01_k».proof.Proof.Fwd.Bias
public import proofs.«01_k».proof.Proof.Fwd.Kernel
public import proofs.«01_k».proof.Proof.Attn.Data

@[expose] public section

set_option maxRecDepth 16384

noncomputable section

namespace Cert.Fwd

open Idealize.ShloMosaic Idealize.ShloMosaic.TcCoe Idealize.ShloMosaic.Tactic Idealize.SL.Sem
open Cert.FwdKernelIdeal Cert.FwdKernelIdeal.Gen Cert.Attn Cert.Arith

variable (m : (ℓ : Loc nD τ sig) → Buf (Elt Ideal) ℓ) (c : Dev nD)

/-- The data the argument arrays hold; there is no cotangent, and the queries stand in its place. -/
def D0 : Data := data (m ((c : Thread nD τ).loc main_arg0)) (m ((c : Thread nD τ).loc main_arg1))
  (m ((c : Thread nD τ).loc main_arg2)) (m ((c : Thread nD τ).loc main_arg3)) (m ((c : Thread nD τ).loc main_arg0))

/-- Every entry of the four argument arrays is a real number. -/
structure Finite : Prop where
  q : Fin' (m ((c : Thread nD τ).loc main_arg0))
  k : Fin' (m ((c : Thread nD τ).loc main_arg1))
  v : Fin' (m ((c : Thread nD τ).loc main_arg2))
  t : Fin' (m ((c : Thread nD τ).loc main_arg3))

/-- The host lines before the call, but for the last stretch. -/
local notation "early" => (List.flatten [hostOps0, hostOps0_1, hostOps0_2, hostOps0_3, hostOps0_4, hostOps0_5] : List (HloOp τ sig (Elt Ideal)))

section
variable {m c} (hf : Finite m c)
include hf

theorem entry_k (κ : Fin 8704) (j : Fin 2048) :
    (V m c main_v0 : Vec Ideal S8704x2048 .bf16) (ix2 κ j) = ((Cert.Attn.pad (D0 m c).K κ.val j.val : ℝ) : EReal) := by
  unfold V
  after_reads_simp
  simp only [StableHlo.TRef.toBuf, StableHlo.TRef.ofBuf, cast_eq]
  pointwise
  unfold Cert.Attn.pad
  split
  · rw [if_pos (by omega)]
    exact entry_at hf.k _ rfl rfl
  · rw [if_neg (by omega)]
    pointwise
    simp [FloatOps.sitofp]

theorem entry_v (κ : Fin 8704) (j : Fin 2048) :
    (V m c main_v1 : Vec Ideal S8704x2048 .bf16) (ix2 κ j) = ((Cert.Attn.pad (D0 m c).V κ.val j.val : ℝ) : EReal) := by
  unfold V
  after_reads_simp
  simp only [StableHlo.TRef.toBuf, StableHlo.TRef.ofBuf, cast_eq]
  pointwise
  unfold Cert.Attn.pad
  split
  · rw [if_pos (by omega)]
    exact entry_at hf.v _ rfl rfl
  · rw [if_neg (by omega)]
    pointwise
    simp [FloatOps.sitofp]

theorem entry_b (h : Fin 16) (r : Fin 256) (w : Fin 768) : (V m c main_v156 : Vec Ideal S16x256x768 .f32) (ix3 h r w)
    = if band r.val w.val then (((D0 m c).T h.val (rel r.val w.val) : ℝ) : EReal) else (⊥ : EReal) := by
  have e : V m c main_v156 = StableHlo.after (hostOps0_6.drop 134) (StableHlo.after (hostOps0_6.take 134) (StableHlo.after early fun b => m (c, b)))
      (Proc.devRef .tc main_v156) := by
    rw [← StableHlo.after_append, ← StableHlo.after_append]
    rfl
  rw [e, copies]
  split
  · next g =>
    rw [shifted]
    unfold band at g
    have := r.isLt
    unfold rel
    split
    · next l =>
      change 63 - r.val % 64 + (w.val - 64 * (r.val / 64)) < 448 at l
      rw [if_pos (by omega)]
      after_reads_simp
      pointwise
      exact entry_at hf.t _ rfl rfl
    · next l =>
      change ¬63 - r.val % 64 + (w.val - 64 * (r.val / 64)) < 448 at l
      rw [if_neg (by omega)]
      after_reads_simp
      simp only [StableHlo.TRef.toBuf, StableHlo.TRef.ofBuf, cast_eq]
      pointwise
      refine entry_at hf.t _ rfl ?_
      simp only [List.mem_singleton, ↓reduceIte]
      show 191 - (63 - r.val % 64 + (w.val - 64 * (r.val / 64)) - 448 + 1) = _
      omega
  · rfl

end

theorem idx : ∀ t : Fin cfg0.N, win0_0.index t = ![t.val % 4, t.val / 4] ∧ win0_1.index t = ![0, t.val / 4] ∧ win0_2.index t = ![0, t.val / 4]
    ∧ win0_3.index t = ![t.val / 4, 0, 0] ∧ win0_4.index t = ![t.val % 4, t.val / 4] :=
  (by decide +kernel : ∀ t : Fin grid0.N, _)

theorem point_lt (t : Fin cfg0.N) : t.val < 64 := t.isLt

section
variable (A : (b : Ref sig .tc) → Buf (Elt Ideal) ((c : Thread nD τ).loc b)) (t : Fin cfg0.N)

theorem read_q (r : Fin 2048) (d : Fin 128) : ((cfg0.win 0).blk t).view.read (Elt Ideal) (A (Pipeline.arrRef spec0 0)) (ix2 r d)
    = (A main_arg0 : Vec Ideal S8192x2048 .bf16) (ix2 ⟨t.val % 4 * 2048 + r.val, by omega⟩ ⟨t.val / 4 * 128 + d.val, by have := point_lt t; omega⟩) := by
  blk_point [idx t]

theorem read_k (κ : Fin 8704) (d : Fin 128) : ((cfg0.win 1).blk t).view.read (Elt Ideal) (A (Pipeline.arrRef spec0 1)) (ix2 κ d)
    = (A main_v0 : Vec Ideal S8704x2048 .bf16) (ix2 κ ⟨t.val / 4 * 128 + d.val, by have := point_lt t; omega⟩) := by
  blk_point [idx t]

theorem read_v (κ : Fin 8704) (d : Fin 128) : ((cfg0.win 2).blk t).view.read (Elt Ideal) (A (Pipeline.arrRef spec0 2)) (ix2 κ d)
    = (A main_v1 : Vec Ideal S8704x2048 .bf16) (ix2 κ ⟨t.val / 4 * 128 + d.val, by have := point_lt t; omega⟩) := by
  blk_point [idx t]

theorem read_b (r : Fin 256) (w : Fin 768) : ((cfg0.win 3).blk t).view.read (Elt Ideal) (A (Pipeline.arrRef spec0 3)) (ix3 0 r w)
    = (A main_v156 : Vec Ideal S16x256x768 .f32) (ix3 ⟨t.val / 4, by have := point_lt t; omega⟩ r w) := by
  blk_point [idx t]

end

/-- What every grid point's blocks hold. -/
theorem blocks (hf : Finite m c) (t : Fin cfg0.N) : Blocks (D0 m c) t.val (iblk m c 0 t) (iblk m c 1 t) (iblk m c 2 t) (iblk m c 3 t) := by
  refine ⟨fun r d => ?_, fun κ d => ?_, fun κ d => ?_, fun r w => ?_⟩
  · refine (read_q c (V m c) t r d).trans ?_
    rw [V_main_arg0]
    exact entry_at hf.q _ (by show t.val % 4 * 2048 + _ = _; omega) (by show t.val / 4 * 128 + _ = _; omega)
  · refine (read_k c (V m c) t κ d).trans ((entry_k hf κ _).trans ?_)
    rw [mul_comm 128]
  · refine (read_v c (V m c) t κ d).trans ((entry_v hf κ _).trans ?_)
    rw [mul_comm 128]
  · exact (read_b c (V m c) t r w).trans (entry_b hf _ r w)

end Cert.Fwd

end
-- ==== Proof.Fwd.Reference.lean ====
/- What the forward reference's result holds. Its lines are those of the backward reference's forward part. -/
module

public import proofs.«01_k».proof.Proof.Gen.FwdReferenceIdeal.Read
public import proofs.«01_k».proof.Proof.Attn.Chunks
public import proofs.«01_k».proof.Proof.Fwd.Kernel

@[expose] public section

set_option maxRecDepth 16384

noncomputable section

namespace Cert.Fwd

open Idealize.ShloMosaic Cert.FwdReferenceIdeal Cert.FwdReferenceIdeal.Read Cert.Attn Cert.Arith

variable {x0 x1 x2 : Vec Ideal S8192x2048 .bf16} {x3 : Vec Ideal S16x192 .f32}

/-- The gathered values. -/
theorem values : val_main_v30 (F := Ideal) x2 = Cert.AttnReferenceIdeal.Read.val_main_v32 (F := Ideal) x2 := rfl

/-- The weights. -/
theorem softmax : val_main_v51 (F := Ideal) x0 x1 x3 = Cert.AttnReferenceIdeal.Read.val_main_v54 (F := Ideal) x0 x1 x3 := rfl

theorem chunk (f0 : Fin' x0) (f1 : Fin' x1) (f2 : Fin' x2) (f3 : Fin' x3) (c : Fin 128) (r : Fin 64) (h : Fin 16) (d : Fin 128) :
    val_main_v53 (F := Ideal) x0 x1 x2 x3 (ix4 c r h d) = ((out (data x0 x1 x2 x3 x0) h.val (64 * c.val + r.val) d.val : ℝ) : EReal) := by
  have e : ∀ k : Fin 576, val_main_v30 (F := Ideal) x2 (lidx_main_v52 (ix4 c h d r) k) * val_main_v51 (F := Ideal) x0 x1 x3 (ridx_main_v52 (ix4 c h d r) k)
      = ((P (data x0 x1 x2 x3 x0) h.val (64 * c.val + r.val) (64 * c.val + k.val) * pad (entry x2) (64 * c.val + k.val) (128 * h.val + d.val) : ℝ) : EReal) := by
    intro k
    rw [show lidx_main_v52 (ix4 c h d r) k = ix4 c k h d from by funext a; fin_cases a <;> rfl,
      show ridx_main_v52 (ix4 c h d r) k = ix4 c h r k from by funext a; fin_cases a <;> rfl, values, softmax,
      Cert.AttnReferenceIdeal.Sums.value f2, Cert.AttnReferenceIdeal.Sums.weight (x2 := x2) (x4 := x0) f0 f1 f3, mul_comm, EReal.coe_mul]
  rw [val_main_v53_apply, show idx_main_v53 (ix4 c r h d) = ix4 c h d r from by funext a; fin_cases a <;> rfl, val_main_v52_apply,
    Finset.sum_congr rfl fun k _ => e k, coe_sum,
    (Cert.AttnReferenceIdeal.Sums.holds c r).sum_P _ h.val fun κ => pad (entry x2) κ (128 * h.val + d.val)]
  rfl

/-- The result: at row `n`, column `j`, column `j % 128` of head `j / 128`. -/
theorem result (f0 : Fin' x0) (f1 : Fin' x1) (f2 : Fin' x2) (f3 : Fin' x3) (i : S8192x2048.Idx) :
    val_main_v55 (F := Ideal) x0 x1 x2 x3 i
      = ((out (data x0 x1 x2 x3 x0) ((i 1).val / 128) (i 0).val ((i 1).val % 128) : ℝ) : EReal) := by
  have h0 : (i 0).val < 8192 := (i 0).isLt
  have h1 : (i 1).val < 2048 := (i 1).isLt
  rw [val_main_v55_apply]
  show val_main_v54 (F := Ideal) x0 x1 x2 x3 i = _
  rw [val_main_v54_apply, show idx_main_v54 i = ix4 (⟨(i 0).val / 64, by omega⟩ : Fin 128) (⟨(i 0).val % 64, by omega⟩ : Fin 64)
      (⟨(i 1).val / 128, by omega⟩ : Fin 16) (⟨(i 1).val % 128, by omega⟩ : Fin 128) from by
    funext a; fin_cases a <;> refine Fin.ext ?_
    · show ((i 0).val * 2048 + (i 1).val) / 131072 = (i 0).val / 64; omega
    · show ((i 0).val * 2048 + (i 1).val) / 2048 % 64 = (i 0).val % 64; omega
    · show ((i 0).val * 2048 + (i 1).val) / 128 % 16 = (i 1).val / 128; omega
    · show ((i 0).val * 2048 + (i 1).val) % 128 = (i 1).val % 128; omega, chunk f0 f1 f2 f3]
  rw [show 64 * ((i 0).val / 64) + (i 0).val % 64 = (i 0).val by omega]

end Cert.Fwd

end
-- ==== Proof.Fwd.Claim.lean ====
/- The forward attention call's claim: its frame and its result. -/
module

public import proofs.«01_k».proof.Defs
public import proofs.«01_k».proof.Proof.Gen.FwdReferenceIdeal.Run
public import proofs.«01_k».proof.Proof.Gen.Pre_fwd_finite
public import proofs.«01_k».proof.Proof.Fwd.Prefix
public import proofs.«01_k».proof.Proof.Fwd.Reference

@[expose] public section

set_option maxRecDepth 16384

noncomputable section

namespace Cert.Fwd

open Idealize.ShloMosaic Idealize.ShloMosaic.TcCoe Idealize.SL.Sem Cert.Arith
open Cert.FwdKernelIdeal Cert.FwdKernelIdeal.Gen

variable (m : (ℓ : Loc nD τ sig) → Buf (Elt Ideal) ℓ) (c : Dev nD)

/-- The result: at row `n`, column `j`, column `j % 128` of head `j / 128`. -/
def rows_of (i : S8192x2048.Idx) : EReal := ((out (D0 m c) ((i 1).val / 128) (i 0).val ((i 1).val % 128) : ℝ) : EReal)

/-- The array after the run. -/
theorem array (hf : Finite m c) : (dats m 0 c).arrAt 4 cfg0.N = (rows_of m c : Vec Ideal S8192x2048 .bf16) := by
  refine (dats m 0 c).arrAt_eq_of_covers 4 _ (by decide +kernel) fun t hf' y => ?_
  blk_simp
  rw [after0_4]
  refine (tile (D0 m c) c t _ _ _ _ (blocks m c hf t) y).trans ?_
  have h0 : ((((View.whole main_v157).slice (win0_4.rect t)).emb y) 0).val = 2048 * (t.val % 4) + (y 0).val := by
    show win0_4.index t 0 * 2048 + 1 * (y 0).val = _
    rw [(idx t).2.2.2.2]; show t.val % 4 * 2048 + 1 * (y 0).val = _; omega
  have h1 : ((((View.whole main_v157).slice (win0_4.rect t)).emb y) 1).val = 128 * (t.val / 4) + (y 1).val := by
    show win0_4.index t 1 * 128 + 1 * (y 1).val = _
    rw [(idx t).2.2.2.2]; show t.val / 4 * 128 + 1 * (y 1).val = _; omega
  have : (y 1).val < 128 := (y 1).isLt
  unfold rows_of
  rw [h0, h1, Nat.mul_add_div (by decide), Nat.mul_add_mod, Nat.div_eq_of_lt this, Nat.mod_eq_of_lt this, Nat.add_zero]

/-- The precondition says that the four arrays are finite. -/
theorem finite_of_pre (m) (h : Cert.Pre_FwdKernelIdeal_fwd_finite m) (c : Dev nD) : Finite m c :=
  ⟨fun i => real_of_test (congrFun (h c).1 i), fun i => real_of_test (congrFun (h c).2.1 i),
    fun i => real_of_test (congrFun (h c).2.2.1 i), fun i => real_of_test (congrFun (h c).2.2.2 i)⟩

/-- The reference ends with its arguments as they were; it declares no semaphore. -/
theorem frame_reference : Cert.quiescent_FwdReferenceIdeal := fun m ρ _ =>
  (θ_run Cert.FwdReferenceIdeal.defs _ _).mono
    (fun r h => ⟨fun c => (h c).2, sem_eq_zero_of_no_sems (by decide) r.2⟩)
    (Cert.FwdReferenceIdeal.Value.run m ρ)

/-- The kernel's result is the reference's, where the arguments are finite. -/
theorem algebraic : Cert.algebraic_FwdKernelIdeal_FwdReferenceIdeal_pre_fwd_finite := by
  intro m g m' g' hpre hargs
  refine ⟨_, Cert.FwdKernelIdeal.Value.run_blocks m g, ?_⟩
  refine (θ_run Cert.FwdReferenceIdeal.defs _ _).mono (fun _ h c => ?_) (Cert.FwdReferenceIdeal.Value.run m' g')
  obtain ⟨h0, h1⟩ := h c
  obtain ⟨a0, a1, a2, a3⟩ := hargs c
  have f := finite_of_pre m hpre c
  refine ⟨h0.trans ?_, h1⟩
  rw [Cert.FwdReferenceIdeal.Read.val_main_v55_eq, a0, a1, a2, a3, array m c f]
  funext i
  exact result f.q f.k f.v f.t i

end Cert.Fwd

end
-- ==== Proof.Ffn.Frames.lean ====
/- The references of the feed-forward and pooling gradients end with their arguments as they were; they declare no semaphore. -/
module

public import proofs.«01_k».proof.Defs
public import Idealize.ShloMosaic.Lib.Claim
public import proofs.«01_k».proof.Proof.Gen.HiddenReferenceIdeal.Run
public import proofs.«01_k».proof.Proof.Gen.InputReferenceIdeal.Run
public import proofs.«01_k».proof.Proof.Gen.WeightReferenceIdeal.Run
public import proofs.«01_k».proof.Proof.Gen.FfnxReferenceIdeal.Run
public import proofs.«01_k».proof.Proof.Gen.PoolReferenceIdeal.Run

@[expose] public section

noncomputable section

namespace Cert.Ffn

open Idealize.ShloMosaic Idealize.SL.Sem

theorem frame_hidden : Cert.quiescent_HiddenReferenceIdeal := fun m ρ _ =>
  (θ_run Cert.HiddenReferenceIdeal.defs _ _).mono
    (fun r h => ⟨fun c => (h c).2.2.2, sem_eq_zero_of_no_sems (by decide) r.2⟩)
    (Cert.HiddenReferenceIdeal.Value.run m ρ)

theorem frame_input : Cert.quiescent_InputReferenceIdeal := fun m ρ _ =>
  (θ_run Cert.InputReferenceIdeal.defs _ _).mono
    (fun r h => ⟨fun c => (h c).2.2, sem_eq_zero_of_no_sems (by decide) r.2⟩)
    (Cert.InputReferenceIdeal.Value.run m ρ)

theorem frame_weight : Cert.quiescent_WeightReferenceIdeal := fun m ρ _ =>
  (θ_run Cert.WeightReferenceIdeal.defs _ _).mono
    (fun r h => ⟨fun c => (h c).2.2.2, sem_eq_zero_of_no_sems (by decide) r.2⟩)
    (Cert.WeightReferenceIdeal.Value.run m ρ)

theorem frame_ffnx : Cert.quiescent_FfnxReferenceIdeal := fun m ρ _ =>
  (θ_run Cert.FfnxReferenceIdeal.defs _ _).mono
    (fun r h => ⟨fun c => (h c).2.2.2.2.2, sem_eq_zero_of_no_sems (by decide) r.2⟩)
    (Cert.FfnxReferenceIdeal.Value.run m ρ)

theorem frame_pool : Cert.quiescent_PoolReferenceIdeal := fun m ρ _ =>
  (θ_run Cert.PoolReferenceIdeal.defs _ _).mono
    (fun r h => ⟨fun c => (h c).2.2.2.2, sem_eq_zero_of_no_sems (by decide) r.2⟩)
    (Cert.PoolReferenceIdeal.Value.run m ρ)

end Cert.Ffn

end
-- ==== Proof.Ffn.Data.lean ====
/- The mathematics of a gated feed-forward block and its gradients, over extended reals, as the programs of its four
   backward launches share it: the normalised input, the two projections, the gate's gradient. -/
module

public import proofs.«01_k».proof.Proof.Arith

@[expose] public section

noncomputable section

namespace Cert.Ffn

open Idealize.ShloMosaic Cert.Arith

/-- The tokens' rows. -/
abbrev SX : Shape := ⟨2, ![8192, 2048]⟩

/-- The norm's gain. -/
abbrev SG : Shape := ⟨2, ![1, 2048]⟩

/-- The two projections' weights as they arrive. -/
abbrev SA : Shape := ⟨2, ![2048, 5504]⟩

/-- The last projection's weights as they arrive. -/
abbrev SC : Shape := ⟨2, ![5504, 2048]⟩

/-- A weight with its hidden columns as rows, padded to a multiple of the tile. -/
abbrev SW : Shape := ⟨2, ![5632, 2048]⟩

/-- The hidden columns of all tokens, padded. -/
abbrev SF : Shape := ⟨2, ![8192, 5632]⟩

/-- The reciprocal root mean square of row `r`. -/
def inv (x : SX.Idx → EReal) (r : Fin 8192) : EReal :=
  Ideal.rsqrt (Ideal.div (∑ k : Fin 2048, x (ix2 r k) * x (ix2 r k)) (Ideal.ofBits .f32 0x45000000#32)
    + Ideal.ofBits .f32 0x358637BD#32)

/-- The normalised input. -/
def hid (x : SX.Idx → EReal) (g : SG.Idx → EReal) : SX.Idx → EReal := fun i => x i * inv x (i 0) * g (ix2 0 (i 1))

/-- The last projection's weights, padded with rows of zeros. -/
def padC (a : SC.Idx → EReal) : SW.Idx → EReal := fun i => if h : (i 0).val < 5504 then a (ix2 ⟨(i 0).val, h⟩ (i 1)) else 0

/-- A first projection's weights, transposed and padded with rows of zeros. -/
def padT (a : SA.Idx → EReal) : SW.Idx → EReal := fun i => if h : (i 0).val < 5504 then a (ix2 (i 1) ⟨(i 0).val, h⟩) else 0

/-- Rows times the rows of a padded weight. -/
def proj (h : SX.Idx → EReal) (w : SW.Idx → EReal) : SF.Idx → EReal := fun i =>
  ∑ k : Fin 2048, h (ix2 (i 0) k) * w (ix2 (i 1) k)

/-- Half of the cotangent: what arrives at the block's output. -/
def dy (o : SX.Idx → EReal) : SX.Idx → EReal := fun i => Ideal.ofBits .f32 0x3F000000#32 * o i

/-- The gradient in a gate `g`: `d` is the gradient in the product, `u` the other factor. -/
def dGate (d g u : EReal) : EReal :=
  d * u * (Ideal.logistic g * (Ideal.ofBits .f32 0x3F800000#32 + g * (Ideal.ofBits .f32 0x3F800000#32 - Ideal.logistic g)))

/-- The gradient in the other factor. -/
def dUp (d g : EReal) : EReal := d * (g * Ideal.logistic g)

/-- The gated product. -/
def act (g u : EReal) : EReal := g * Ideal.logistic g * u

/-- The gate's gradient at every hidden column. -/
def dgate (o : SX.Idx → EReal) (w : SW.Idx → EReal) (g u : SF.Idx → EReal) : SF.Idx → EReal := fun i =>
  dGate (proj (dy o) w i) (g i) (u i)

/-- The other factor's gradient at every hidden column. -/
def dup (o : SX.Idx → EReal) (w : SW.Idx → EReal) (g : SF.Idx → EReal) : SF.Idx → EReal := fun i =>
  dUp (proj (dy o) w i) (g i)

/-! ## The plain forms, over the hidden columns that are no padding -/

/-- The hidden columns of all tokens. -/
abbrev SH : Shape := ⟨2, ![8192, 5504]⟩

/-- A first projection of the normalised input. -/
def pre (x : SX.Idx → EReal) (g : SG.Idx → EReal) (a : SA.Idx → EReal) : SH.Idx → EReal := fun i =>
  ∑ k : Fin 2048, hid x g (ix2 (i 0) k) * a (ix2 k (i 1))

/-- The gradient in the gated product. -/
def dact (o : SX.Idx → EReal) (w : SC.Idx → EReal) : SH.Idx → EReal := fun i =>
  ∑ k : Fin 2048, dy o (ix2 (i 0) k) * w (ix2 (i 1) k)

/-- The pattern of one. -/
theorem bits_one : Ideal.ofBits .f32 0x3F800000#32 = ((1 : ℝ) : EReal) := by
  simp [Ideal.ofBits, Ideal.ieee, -EReal.coe_mul]; norm_num

theorem proj_padT (h : SX.Idx → EReal) (a : SA.Idx → EReal) (n : Fin 8192) (f : Fin 5632) :
    proj h (padT a) (ix2 n f) = if hf : f.val < 5504 then ∑ k : Fin 2048, h (ix2 n k) * a (ix2 k ⟨f.val, hf⟩) else 0 := by
  by_cases hf : f.val < 5504
  · rw [dif_pos hf]
    exact Finset.sum_congr rfl fun k _ => congrArg _ (dif_pos hf)
  · rw [dif_neg hf]
    refine Finset.sum_eq_zero fun k _ => ?_
    exact (congrArg (h (ix2 n k) * ·) (dif_neg hf)).trans (mul_zero _)

theorem proj_padC (h : SX.Idx → EReal) (a : SC.Idx → EReal) (n : Fin 8192) (f : Fin 5632) :
    proj h (padC a) (ix2 n f) = if hf : f.val < 5504 then ∑ k : Fin 2048, h (ix2 n k) * a (ix2 ⟨f.val, hf⟩ k) else 0 := by
  by_cases hf : f.val < 5504
  · rw [dif_pos hf]
    exact Finset.sum_congr rfl fun k _ => congrArg _ (dif_pos hf)
  · rw [dif_neg hf]
    refine Finset.sum_eq_zero fun k _ => ?_
    exact (congrArg (h (ix2 n k) * ·) (dif_neg hf)).trans (mul_zero _)

/-- The logistic function as the plain program writes it. -/
theorem logistic_div (g : EReal) : Ideal.div 1 (1 + Ideal.exp (-g)) = Ideal.logistic g := rfl

/-- What a padding with the integer zero holds. -/
theorem zero_bf16 : FloatOps.sitofp (F := Ideal) .bf16 0#32 = (0 : EReal) := by simp [FloatOps.sitofp]

/-- The gate's gradient by the rule for a product and the logistic function's derivative, at real numbers. -/
theorem dGate_rule {d g u : EReal} (hd : ∃ r : ℝ, d = (r : EReal)) (hg : ∃ r : ℝ, g = (r : EReal)) (hu : ∃ r : ℝ, u = (r : EReal)) :
    d * u * Ideal.logistic g + g * (d * u) * (Ideal.logistic g * (1 - Ideal.logistic g)) = dGate d g u := by
  obtain ⟨d, rfl⟩ := hd
  obtain ⟨g, rfl⟩ := hg
  obtain ⟨u, rfl⟩ := hu
  unfold dGate
  rw [bits_one, Ideal.logistic_coe, ← EReal.coe_one]
  simp only [← EReal.coe_mul, ← EReal.coe_add, ← EReal.coe_sub]
  exact congrArg _ (by ring)

/-! ## Finite arguments keep everything finite -/

theorem fin_mul {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨a * b, (EReal.coe_mul a b).symm⟩

theorem fin_sum {κ : Type} [Fintype κ] {f : κ → EReal} (hf : Fin' f) : ∃ r : ℝ, ∑ k, f k = (r : EReal) := by
  obtain ⟨F, rfl⟩ := hf.exists
  exact ⟨_, coe_sum _ F⟩

theorem two : (0 : ℝ) < 2048 := by norm_num

theorem inv_coe (X : SX.Idx → ℝ) (r : Fin 8192) : inv (fun i => ((X i : ℝ) : EReal)) r = ((rinv 2048 fun k => X (ix2 r k) : ℝ) : EReal) := by
  unfold inv
  rw [bits_2048, bits_eps]
  exact rsqrt_row two fun k => X (ix2 r k)

theorem fin_hid {x : SX.Idx → EReal} {g : SG.Idx → EReal} (hx : Fin' x) (hg : Fin' g) : Fin' (hid x g) := fun i => by
  refine fin_mul (fin_mul (hx i) ?_) (hg _)
  obtain ⟨X, rfl⟩ := hx.exists
  exact ⟨_, inv_coe X _⟩

theorem fin_pre {x : SX.Idx → EReal} {g : SG.Idx → EReal} {a : SA.Idx → EReal} (hx : Fin' x) (hg : Fin' g) (ha : Fin' a) : Fin' (pre x g a) :=
  fun _ => fin_sum fun _ => fin_mul (fin_hid hx hg _) (ha _)

theorem fin_dy {o : SX.Idx → EReal} (ho : Fin' o) : Fin' (dy o) := fun i => fin_mul ⟨_, bits_half⟩ (ho i)

theorem fin_dact {o : SX.Idx → EReal} {w : SC.Idx → EReal} (ho : Fin' o) (hw : Fin' w) : Fin' (dact o w) :=
  fun _ => fin_sum fun _ => fin_mul (fin_dy ho _) (hw _)

theorem fin_dGate {d g u : EReal} (hd : ∃ r : ℝ, d = (r : EReal)) (hg : ∃ r : ℝ, g = (r : EReal)) (hu : ∃ r : ℝ, u = (r : EReal)) :
    ∃ r : ℝ, dGate d g u = (r : EReal) := by
  obtain ⟨d, rfl⟩ := hd
  obtain ⟨g, rfl⟩ := hg
  obtain ⟨u, rfl⟩ := hu
  unfold dGate
  rw [bits_one, Ideal.logistic_coe]
  exact ⟨_, by simp only [← EReal.coe_mul, ← EReal.coe_add, ← EReal.coe_sub]; rfl⟩

theorem fin_dUp {d g : EReal} (hd : ∃ r : ℝ, d = (r : EReal)) (hg : ∃ r : ℝ, g = (r : EReal)) : ∃ r : ℝ, dUp d g = (r : EReal) := by
  refine fin_mul hd (fin_mul hg ?_)
  obtain ⟨g, rfl⟩ := hg
  exact ⟨_, Ideal.logistic_coe g⟩

/-! ## The padded gradients, column by column -/

section
variable (o x : SX.Idx → EReal) (g : SG.Idx → EReal) (a b : SA.Idx → EReal) (w : SC.Idx → EReal) (n : Fin 8192)

/-- The gate's gradient over all columns, from the arguments. -/
def dgateAll : SF.Idx → EReal := dgate o (padC w) (proj (hid x g) (padT a)) (proj (hid x g) (padT b))

/-- The other factor's gradient over all columns, from the arguments. -/
def dupAll : SF.Idx → EReal := dup o (padC w) (proj (hid x g) (padT a))

theorem dgateAll_in (f : Fin 5632) (h : f.val < 5504) : dgateAll o x g a b w (ix2 n f)
    = dGate (dact o w (ix2 n ⟨f.val, h⟩)) (pre x g a (ix2 n ⟨f.val, h⟩)) (pre x g b (ix2 n ⟨f.val, h⟩)) := by
  unfold dgateAll dgate
  rw [proj_padC, proj_padT, proj_padT, dif_pos h, dif_pos h, dif_pos h]; rfl

theorem dgateAll_out (f : Fin 5632) (h : ¬f.val < 5504) : dgateAll o x g a b w (ix2 n f) = 0 := by
  unfold dgateAll dgate dGate
  rw [proj_padC, dif_neg h, zero_mul, zero_mul]

theorem dupAll_in (f : Fin 5632) (h : f.val < 5504) : dupAll o x g a w (ix2 n f)
    = dUp (dact o w (ix2 n ⟨f.val, h⟩)) (pre x g a (ix2 n ⟨f.val, h⟩)) := by
  unfold dupAll dup
  rw [proj_padC, proj_padT, dif_pos h, dif_pos h]; rfl

theorem dupAll_out (f : Fin 5632) (h : ¬f.val < 5504) : dupAll o x g a w (ix2 n f) = 0 := by
  unfold dupAll dup dUp
  rw [proj_padC, dif_neg h, zero_mul]

end

end Cert.Ffn

end
-- ==== Proof.Ffn.Hidden.lean ====
/- What the three arrays of the hidden columns' backward launch hold after its run. -/
module

public import proofs.«01_k».proof.Proof.Gen.HiddenKernelIdeal.Value
public import proofs.«01_k».proof.Proof.Ffn.Data
public import Idealize.ShloMosaic.Lib.Pipeline.ValueKit

@[expose] public section

set_option maxRecDepth 16384

noncomputable section

namespace Cert.Ffn.Hidden

open Cert.HiddenKernelIdeal Cert.HiddenKernelIdeal.Gen Idealize.ShloMosaic Idealize.ShloMosaic.TcCoe Idealize.SL.Sem
open Idealize.ShloMosaic.Pipeline (Dat)

variable (m : (ℓ : Loc nD τ sig) → Buf (Elt Ideal) ℓ)

/-- The product's gradient at one column of a block. -/
def dact (d x3 : S512x2048.Idx → EReal) (y : S512x512.Idx) : EReal := ∑ k : Fin 2048, d (ix2 (y 0) k) * x3 (ix2 (y 1) k)

theorem chain_gate (d : Vec Ideal S512x2048 .bf16) (w : Vec Ideal S256x2048 .bf16) (g u : Vec Ideal S512x256 .bf16) (x : S512x256.Idx) :
    k0_pay11 (F := Ideal) d w g u x = dGate (∑ k : Fin 2048, d (ix2 (x 0) k) * w (ix2 (x 1) k)) (g x) (u x) := by
  idx_vars x
  unfold_payloads
  pointwise [dGate]

theorem chain_up (d : Vec Ideal S512x2048 .bf16) (w : Vec Ideal S256x2048 .bf16) (g : Vec Ideal S512x256 .bf16) (x : S512x256.Idx) :
    k0_pay12 (F := Ideal) d w g x = dUp (∑ k : Fin 2048, d (ix2 (x 0) k) * w (ix2 (x 1) k)) (g x) := by
  idx_vars x
  unfold_payloads
  pointwise [dUp]

theorem half (o : Vec Ideal S512x2048 .f32) (x : S512x2048.Idx) :
    k0_pay6 (F := Ideal) o x = Ideal.ofBits .f32 0x3F000000#32 * o x := by
  unfold_payloads
  pointwise

/-- Rows `n` to `n + 255` of the weight's block. -/
theorem ld_row (b : Vec Ideal S512x2048 .bf16) (n : ℕ) (inb) (r : Fin 256) (k : Fin 2048) (hn : n + 256 ≤ 512) :
    View.ld b (Rect.unit (s := S512x2048) ![n, 0] ![256, 2048] inb) (ix2 r k) = b (ix2 ⟨n + r.val, by omega⟩ k) := by
  refine congrArg b (funext fun a => Fin.ext ?_)
  rw [Rect.idx_unit_val]
  fin_cases a
  · rfl
  · exact Nat.zero_add _

/-- Columns `n` to `n + 255` of a block of hidden columns. -/
theorem ld_col (b : Vec Ideal S512x512 .bf16) (n : ℕ) (inb) (y : S512x512.Idx) (x : S512x256.Idx) (h0 : (y 0).val = (x 0).val)
    (h1 : (y 1).val = n + (x 1).val) : View.ld b (Rect.unit (s := S512x512) ![0, n] ![512, 256] inb) x = b y := by
  refine congrArg b (funext fun a => Fin.ext ?_)
  rw [Rect.idx_unit_val]
  fin_cases a
  · exact (Nat.zero_add _).trans h0.symm
  · exact h1.symm

/-- The product's gradient at a column of one half of a block. -/
theorem dact_half (d x3 : Vec Ideal S512x2048 .bf16) (n : ℕ) (inb) (y : S512x512.Idx) (x : S512x256.Idx) (hn : n + 256 ≤ 512)
    (h0 : (y 0).val = (x 0).val) (h1 : (y 1).val = n + (x 1).val) :
    (∑ k : Fin 2048, d (ix2 (x 0) k) * View.ld x3 (Rect.unit (s := S512x2048) ![n, 0] ![256, 2048] inb) (ix2 (x 1) k)) = dact d x3 y := by
  refine Finset.sum_congr rfl fun k _ => congrArg₂ (· * ·) (congrArg d (congrArg₂ ix2 (Fin.ext h0.symm) rfl)) ?_
  exact (ld_row x3 n inb (x 1) k hn).trans (congrArg x3 (congrArg₂ ix2 (Fin.ext h1.symm) rfl))

/-- One of the two stores of a block of the gate's gradient. -/
theorem piece_gate (d x3 : Vec Ideal S512x2048 .bf16) (x1 x2 : Vec Ideal S512x512 .bf16) (y : S512x512.Idx) (x : S512x256.Idx) (n : ℕ)
    (inb inb') (hn : n + 256 ≤ 512) (h0 : (y 0).val = (x 0).val) (h1 : (y 1).val = n + (x 1).val) :
    k0_pay11 (F := Ideal) d (View.ld x3 (Rect.unit (s := S512x2048) ![n, 0] ![256, 2048] inb))
      (View.ld x1 (Rect.unit (s := S512x512) ![0, n] ![512, 256] inb')) (View.ld x2 (Rect.unit (s := S512x512) ![0, n] ![512, 256] inb')) x
      = dGate (dact d x3 y) (x1 y) (x2 y) := by
  rw [chain_gate, dact_half d x3 n inb y x hn h0 h1, ld_col x1 n inb' y x h0 h1, ld_col x2 n inb' y x h0 h1]

/-- One of the two stores of a block of the other factor's gradient. -/
theorem piece_up (d x3 : Vec Ideal S512x2048 .bf16) (x1 : Vec Ideal S512x512 .bf16) (y : S512x512.Idx) (x : S512x256.Idx) (n : ℕ)
    (inb inb') (hn : n + 256 ≤ 512) (h0 : (y 0).val = (x 0).val) (h1 : (y 1).val = n + (x 1).val) :
    k0_pay12 (F := Ideal) d (View.ld x3 (Rect.unit (s := S512x2048) ![n, 0] ![256, 2048] inb))
      (View.ld x1 (Rect.unit (s := S512x512) ![0, n] ![512, 256] inb')) x = dUp (dact d x3 y) (x1 y) := by
  rw [chain_up, dact_half d x3 n inb y x hn h0 h1, ld_col x1 n inb' y x h0 h1]

section

variable (x0 : Vec Ideal S512x2048 .f32) (x1 x2 : Vec Ideal S512x512 .bf16) (x3 v : Vec Ideal S512x2048 .bf16) (c : Dev nD) (t : Fin cfg0.N)

theorem gate_A (h : t.val % 11 = 0) (y : S512x512.Idx) :
    out0_A_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h) x0 x1 x2 x3 y
      = dGate (dact (k0_pay6 (F := Ideal) x0) x3 y) (x1 y) (x2 y) := by
  frame_out
  canon_tiles x hh
  all_goals open_payloads
  all_goals exact piece_gate _ x3 x1 x2 y x _ _ _ (by norm_num) hh0 (by omega)

theorem up_A (h : t.val % 11 = 0) (y : S512x512.Idx) :
    out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h) x0 x1 x2 x3 y
      = dUp (dact (k0_pay6 (F := Ideal) x0) x3 y) (x1 y) := by
  frame_out
  canon_tiles x hh
  all_goals open_payloads
  all_goals exact piece_up _ x3 x1 y x _ _ _ (by norm_num) hh0 (by omega)

theorem dy_A (h : t.val % 11 = 0) :
    out0_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h) x0 x1 x2 x3 = k0_pay6 (F := Ideal) x0 := by
  funext y
  frame_out
  unfold k0_pay7
  pointwise

theorem gate_B (h : ¬t.val % 11 = 0) (y : S512x512.Idx) :
    out0_B_4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h' => h ((hcond0_0 t).mp h')) x0 x1 x2 x3 v y
      = dGate (dact v x3 y) (x1 y) (x2 y) := by
  frame_out
  canon_tiles x hh
  all_goals open_payloads
  all_goals exact piece_gate _ x3 x1 x2 y x _ _ _ (by norm_num) hh0 (by omega)

theorem up_B (h : ¬t.val % 11 = 0) (y : S512x512.Idx) :
    out0_B_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h' => h ((hcond0_0 t).mp h')) x0 x1 x2 x3 v y
      = dUp (dact v x3 y) (x1 y) := by
  frame_out
  canon_tiles x hh
  all_goals open_payloads
  all_goals exact piece_up _ x3 x1 y x _ _ _ (by norm_num) hh0 (by omega)

theorem dy_B (h : ¬t.val % 11 = 0) :
    out0_B_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h' => h ((hcond0_0 t).mp h')) x0 x1 x2 x3 v = v := by
  funext y
  frame_out
  unfold k0_pay7
  pointwise

end

/-! ## The three arrays -/

theorem idx : ∀ t : Fin cfg0.N, win0_0.index t = ![t.val / 11, 0] ∧ win0_1.index t = ![t.val / 11, t.val % 11]
    ∧ win0_2.index t = ![t.val / 11, t.val % 11] ∧ win0_3.index t = ![t.val % 11, 0] ∧ win0_4.index t = ![t.val / 11, t.val % 11]
    ∧ win0_5.index t = ![t.val / 11, t.val % 11] ∧ win0_6.index t = ![t.val / 11, 0] :=
  (by decide +kernel : ∀ t : Fin grid0.N, _)

/-- Row `r` of a point's block of tokens. -/
def row (t : Fin cfg0.N) (r : Fin 512) : Fin 8192 := ⟨t.val / 11 * 512 + r.val, by have : t.val < 176 := t.isLt; omega⟩

/-- Column `r` of a point's block of hidden columns. -/
def col (t : Fin cfg0.N) (r : Fin 512) : Fin 5632 := ⟨t.val % 11 * 512 + r.val, by omega⟩

section
variable (c : Dev nD) (A : (b : Ref sig .tc) → Buf (Elt Ideal) ((c : Thread nD τ).loc b)) (t : Fin cfg0.N)

theorem read_0 (r : Fin 512) (k : Fin 2048) : ((cfg0.win 0).blk t).view.read (Elt Ideal) (A (Pipeline.arrRef spec0 0)) (ix2 r k)
    = (A main_arg0 : Vec Ideal S8192x2048 .f32) (ix2 (row t r) k) := by
  blk_point [idx t, row]

theorem read_1 (r j : Fin 512) : ((cfg0.win 1).blk t).view.read (Elt Ideal) (A (Pipeline.arrRef spec0 1)) (ix2 r j)
    = (A main_v24 : Vec Ideal S8192x5632 .bf16) (ix2 (row t r) (col t j)) := by
  blk_point [idx t, row, col]

theorem read_2 (r j : Fin 512) : ((cfg0.win 2).blk t).view.read (Elt Ideal) (A (Pipeline.arrRef spec0 2)) (ix2 r j)
    = (A main_v28 : Vec Ideal S8192x5632 .bf16) (ix2 (row t r) (col t j)) := by
  blk_point [idx t, row, col]

theorem read_3 (r : Fin 512) (k : Fin 2048) : ((cfg0.win 3).blk t).view.read (Elt Ideal) (A (Pipeline.arrRef spec0 3)) (ix2 r k)
    = (A main_v7 : Vec Ideal S5632x2048 .bf16) (ix2 (col t r) k) := by
  blk_point [idx t, col]

end

section
variable (c : Dev nD)

/-- The cotangent as the launch finds it. -/
def O : SX.Idx → EReal := (V m c main_arg0 : Vec Ideal S8192x2048 .f32)

/-- The saved gate. -/
def Gt : SF.Idx → EReal := (V m c main_v24 : Vec Ideal S8192x5632 .bf16)

/-- The saved other factor. -/
def Up : SF.Idx → EReal := (V m c main_v28 : Vec Ideal S8192x5632 .bf16)

/-- The last projection's padded weights. -/
def Wd : SW.Idx → EReal := (V m c main_v7 : Vec Ideal S5632x2048 .bf16)

theorem pay_dy (t : Fin cfg0.N) (r : Fin 512) (k : Fin 2048) :
    k0_pay6 (F := Ideal) (iblk m c 0 t) (ix2 r k) = dy (O m c) (ix2 (row t r) k) := by
  rw [half]
  exact congrArg _ (read_0 c (V m c) t r k)

theorem left_A (t : Fin cfg0.N) (h : t.val % 11 = 0) : (outsAt0 m c t.val t.isLt).2.2 = k0_pay6 (F := Ideal) (iblk m c 0 t) := by
  rw [outsAt0_A m c t h]
  dsimp only
  exact dy_A (iblk m c 0 t) (iblk m c 1 t) (iblk m c 2 t) (iblk m c 3 t) c t h

theorem left_B (t : Fin cfg0.N) (h : ¬t.val % 11 = 0) :
    (outsAt0 m c t.val t.isLt).2.2 = (outsAt0 m c (t.val - 1) (Nat.lt_of_le_of_lt (Nat.sub_le _ _) t.isLt)).2.2 := by
  rw [outsAt0_B m c t h]
  dsimp only
  exact dy_B (iblk m c 0 t) (iblk m c 1 t) (iblk m c 2 t) (iblk m c 3 t) _ c t h

/-- Every point leaves half of its rows' cotangent. -/
theorem carried (n : ℕ) (hn : n < cfg0.N) (r : Fin 512) (k : Fin 2048) :
    (outsAt0 m c n hn).2.2 (ix2 r k) = dy (O m c) (ix2 (row ⟨n, hn⟩ r) k) := by
  induction n with
  | zero =>
    have e := left_A m c ⟨0, hn⟩ (Nat.zero_mod _)
    dsimp only at e
    rw [e]
    exact pay_dy m c ⟨0, hn⟩ r k
  | succ n ih =>
    by_cases h : (n + 1) % 11 = 0
    · have e := left_A m c ⟨n + 1, hn⟩ h
      dsimp only at e
      rw [e]
      exact pay_dy m c ⟨n + 1, hn⟩ r k
    · have e := left_B m c ⟨n + 1, hn⟩ h
      simp only [Nat.add_sub_cancel] at e
      rw [e, ih]
      refine congrArg _ (congrArg₂ ix2 (Fin.ext ?_) rfl)
      show n / 11 * 512 + r.val = (n + 1) / 11 * 512 + r.val
      omega

/-- What the point before a point inside a row of tiles leaves is what the point itself would. -/
theorem before (t : Fin cfg0.N) (h : ¬t.val % 11 = 0) (r : Fin 512) (k : Fin 2048) :
    (outsAt0 m c (t.val - 1) (Nat.lt_of_le_of_lt (Nat.sub_le _ _) t.isLt)).2.2 (ix2 r k) = dy (O m c) (ix2 (row t r) k) := by
  rw [← left_B m c t h]
  exact carried m c t.val t.isLt r k

/-- The product's gradient at a point's block, where the block of rows holds half of the cotangent. -/
theorem dact_eq (t : Fin cfg0.N) (d : Vec Ideal S512x2048 .bf16) (hd : ∀ r k, d (ix2 r k) = dy (O m c) (ix2 (row t r) k)) (y : S512x512.Idx) :
    dact d (iblk m c 3 t) y = proj (dy (O m c)) (Wd m c) (ix2 (row t (y 0)) (col t (y 1))) :=
  Finset.sum_congr rfl fun k _ => congrArg₂ (· * ·) (hd (y 0) k) (read_3 c (V m c) t (y 1) k)

theorem read_gate (t : Fin cfg0.N) (y : S512x512.Idx) : iblk m c 1 t y = Gt m c (ix2 (row t (y 0)) (col t (y 1))) := by
  idx_vars y; exact read_1 c (V m c) t _ _

theorem read_up (t : Fin cfg0.N) (y : S512x512.Idx) : iblk m c 2 t y = Up m c (ix2 (row t (y 0)) (col t (y 1))) := by
  idx_vars y; exact read_2 c (V m c) t _ _

theorem gate_at (t : Fin cfg0.N) (y : S512x512.Idx) :
    (outsAt0 m c t.val t.isLt).1 y = dgate (O m c) (Wd m c) (Gt m c) (Up m c) (ix2 (row t (y 0)) (col t (y 1))) := by
  by_cases h : t.val % 11 = 0
  · rw [outsAt0_A m c t h]
    dsimp only
    refine (gate_A (iblk m c 0 t) (iblk m c 1 t) (iblk m c 2 t) (iblk m c 3 t) c t h y).trans ?_
    rw [dact_eq m c t _ (pay_dy m c t), read_gate, read_up]; rfl
  · rw [outsAt0_B m c t h]
    dsimp only
    refine (gate_B (iblk m c 0 t) (iblk m c 1 t) (iblk m c 2 t) (iblk m c 3 t) _ c t h y).trans ?_
    rw [dact_eq m c t _ (before m c t h), read_gate, read_up]; rfl

theorem up_at (t : Fin cfg0.N) (y : S512x512.Idx) :
    (outsAt0 m c t.val t.isLt).2.1 y = dup (O m c) (Wd m c) (Gt m c) (ix2 (row t (y 0)) (col t (y 1))) := by
  by_cases h : t.val % 11 = 0
  · rw [outsAt0_A m c t h]
    dsimp only
    refine (up_A (iblk m c 0 t) (iblk m c 1 t) (iblk m c 2 t) (iblk m c 3 t) c t h y).trans ?_
    rw [dact_eq m c t _ (pay_dy m c t), read_gate]; rfl
  · rw [outsAt0_B m c t h]
    dsimp only
    refine (up_B (iblk m c 0 t) (iblk m c 1 t) (iblk m c 2 t) (iblk m c 3 t) _ c t h y).trans ?_
    rw [dact_eq m c t _ (before m c t h), read_gate]; rfl

/-- Where a point's block of hidden columns lies in the array. -/
theorem place (t : Fin cfg0.N) (y : S512x512.Idx) (z : SF.Idx) (h0 : (z 0).val = win0_4.index t 0 * 512 + 1 * (y 0).val)
    (h1 : (z 1).val = win0_4.index t 1 * 512 + 1 * (y 1).val) : z = ix2 (row t (y 0)) (col t (y 1)) := by
  rw [(idx t).2.2.2.2.1] at h0 h1
  refine funext fun a => Fin.ext ?_
  fin_cases a
  · exact h0.trans (congrArg _ (Nat.one_mul _))
  · exact h1.trans (congrArg _ (Nat.one_mul _))

theorem gate_array : (dats m 0 c).arrAt 4 cfg0.N = (dgate (O m c) (Wd m c) (Gt m c) (Up m c) : Vec Ideal S8192x5632 .bf16) := by
  refine (dats m 0 c).arrAt_eq_of_covers 4 _ (by decide +kernel) fun t hf y => ?_
  blk_simp
  rw [after0_4]
  exact (gate_at m c t y).trans (congrArg _ (place t y _ rfl rfl).symm)

theorem up_array : (dats m 0 c).arrAt 5 cfg0.N = (dup (O m c) (Wd m c) (Gt m c) : Vec Ideal S8192x5632 .bf16) := by
  refine (dats m 0 c).arrAt_eq_of_covers 5 _ (by decide +kernel) fun t hf y => ?_
  blk_simp
  rw [after0_5]
  exact (up_at m c t y).trans (congrArg _ (place t y _ rfl rfl).symm)

theorem dy_array : (dats m 0 c).arrAt 6 cfg0.N = (dy (O m c) : Vec Ideal S8192x2048 .bf16) := by
  refine (dats m 0 c).arrAt_eq_of_covers 6 _ (by decide +kernel) fun t hf y => ?_
  blk_simp
  rw [after0_6]
  refine ((congrArg (outsAt0 m c t.val t.isLt).2.2 (ix2_eta y)).symm.trans (carried m c t.val t.isLt (y 0) (y 1))).trans (congrArg _ ?_)
  refine funext fun a => Fin.ext ?_
  fin_cases a
  · show t.val / 11 * 512 + (y 0).val = win0_6.index t 0 * 512 + 1 * (y 0).val
    rw [(idx t).2.2.2.2.2.2, Nat.one_mul]; rfl
  · show (y 1).val = win0_6.index t 1 * 2048 + 1 * (y 1).val
    rw [(idx t).2.2.2.2.2.2, Nat.one_mul]; exact (Nat.zero_add _).symm

end

end Cert.Ffn.Hidden

end
-- ==== Proof.Ffn.HiddenPrefix.lean ====
/- What the hidden columns' backward launch finds in its arguments: the host lines before it, read. -/
module

public import proofs.«01_k».proof.Proof.Ffn.Hidden
public import Idealize.ShloMosaic.Lib.StableHlo.RunRead

@[expose] public section

set_option maxRecDepth 16384

noncomputable section

namespace Cert.Ffn.Hidden

open Cert.HiddenKernelIdeal Cert.HiddenKernelIdeal.Gen Idealize.ShloMosaic Idealize.ShloMosaic.TcCoe Idealize.ShloMosaic.Tactic Idealize.SL.Sem

variable (m : (ℓ : Loc nD τ sig) → Buf (Elt Ideal) ℓ) (c : Dev nD)

theorem O_eq : O m c = m ((c : Thread nD τ).loc main_arg0) := V_main_arg0 m c

theorem Wd_eq : Wd m c = padC (m ((c : Thread nD τ).loc main_arg5)) := by
  funext i
  idx_vars i
  unfold Wd V
  after_reads_simp
  simp only [StableHlo.TRef.toBuf, StableHlo.TRef.ofBuf, cast_eq]
  pointwise [padC]
  simp only [zero_bf16]

theorem Gt_eq : Gt m c = proj (hid (m ((c : Thread nD τ).loc main_arg1)) (m ((c : Thread nD τ).loc main_arg2)))
    (padT (m ((c : Thread nD τ).loc main_arg3))) := by
  funext i
  idx_vars i
  unfold Gt V
  after_reads_simp
  simp only [StableHlo.TRef.toBuf, StableHlo.TRef.ofBuf, cast_eq]
  pointwise [proj, hid, inv, padT]
  simp only [zero_bf16]

theorem Up_eq : Up m c = proj (hid (m ((c : Thread nD τ).loc main_arg1)) (m ((c : Thread nD τ).loc main_arg2)))
    (padT (m ((c : Thread nD τ).loc main_arg4))) := by
  funext i
  idx_vars i
  unfold Up V
  after_reads_simp
  simp only [StableHlo.TRef.toBuf, StableHlo.TRef.ofBuf, cast_eq]
  pointwise [proj, hid, inv, padT]
  simp only [zero_bf16]

end Cert.Ffn.Hidden

end
-- ==== Proof.Ffn.HiddenReference.lean ====
/- What the reference of the hidden columns' backward launch computes. -/
module

public import proofs.«01_k».proof.Proof.Gen.HiddenReferenceIdeal.Read
public import proofs.«01_k».proof.Proof.Ffn.Data

@[expose] public section

set_option maxRecDepth 16384

noncomputable section

namespace Cert.Ffn.Hidden

open Cert.HiddenReferenceIdeal Cert.HiddenReferenceIdeal.Read Idealize.ShloMosaic Cert.Arith

theorem ref_dy (o : SX.Idx → EReal) : val_main_v36 (F := Ideal) o = dy o := by
  funext i
  idx_vars i
  unfold val_main_v36 val_main_v31 val_main_v30 val_main_cst_6
  pointwise [dy]

theorem ref_hid (x : Vec Ideal S8192x2048 .f32) (g : Vec Ideal S1x2048 .f32) : val_main_v11 (F := Ideal) x g = hid x g := by
  funext i
  idx_vars i
  unfold val_main_v11 val_main_v10 val_main_v9 val_main_v8 val_main_v7 val_main_v6 val_main_v5 val_main_v4 val_main_v3 val_main_v2 val_main_v1
    val_main_v0 val_main_cst val_main_cst_0 val_main_cst_1
  pointwise [hid, inv]

theorem ref_gate (x : Vec Ideal S8192x2048 .f32) (g : Vec Ideal S1x2048 .f32) (a : Vec Ideal S2048x5504 .f32) :
    val_main_v12 (F := Ideal) x g a = pre x g a := by
  funext i
  idx_vars i
  unfold val_main_v12
  rw [ref_hid]
  pointwise [pre]

theorem ref_up (x : Vec Ideal S8192x2048 .f32) (g : Vec Ideal S1x2048 .f32) (a : Vec Ideal S2048x5504 .f32) :
    val_main_v13 (F := Ideal) x g a = pre x g a := ref_gate x g a

theorem ref_dact (o : Vec Ideal S8192x2048 .f32) (w : Vec Ideal S5504x2048 .f32) : val_main_v22 (F := Ideal) o w = dact o w := by
  funext i
  idx_vars i
  unfold val_main_v22 val_main_v21 val_main_v20 val_main_cst_3
  pointwise [dact, dy]

theorem ref_sig (x : Vec Ideal S8192x2048 .f32) (g : Vec Ideal S1x2048 .f32) (a : Vec Ideal S2048x5504 .f32) (i) :
    val_main_v14_2 (F := Ideal) x g a i = Ideal.logistic (pre x g a i) := by
  idx_vars i
  unfold val_main_v14_2 val_main_call0_v4 val_main_call0_v3 val_main_call0_v2 val_main_call0_v1 val_main_call0_v0 val_main_call0_cst
    val_main_call0_cst_0
  rw [ref_gate]
  pointwise
  exact logistic_div _

/-- The other factor's gradient, a column that is no padding. -/
theorem ref_dup_in (o x : Vec Ideal S8192x2048 .f32) (g : Vec Ideal S1x2048 .f32) (a : Vec Ideal S2048x5504 .f32) (w : Vec Ideal S5504x2048 .f32) (i) :
    val_main_v23 (F := Ideal) o x g a w i = dUp (dact o w i) (pre x g a i) := by
  unfold val_main_v23 val_main_v14_0
  pointwise
  rw [ref_sig, ref_gate, ref_dact, dUp, mul_comm]

/-- The gate's gradient, a column that is no padding. -/
theorem ref_dgate_in {o x : Vec Ideal S8192x2048 .f32} {g : Vec Ideal S1x2048 .f32} {a b : Vec Ideal S2048x5504 .f32} {w : Vec Ideal S5504x2048 .f32}
    (ho : Fin' o) (hx : Fin' x) (hg : Fin' g) (ha : Fin' a) (hb : Fin' b) (hw : Fin' w) (i) :
    val_main_v25 (F := Ideal) o x g a b w i = dGate (dact o w i) (pre x g a i) (pre x g b i) := by
  idx_vars i
  unfold val_main_v25 val_main_call1_v2 val_main_call1_v1 val_main_call1_v0 val_main_v24 val_main_v14_1 val_main_call0_v7 val_main_call0_v6 val_main_call0_cst_1
  pointwise
  rw [ref_sig, ref_gate, ref_up, ref_dact]
  exact dGate_rule (fin_dact ho hw _) (fin_pre hx hg ha _) (fin_pre hx hg hb _)

theorem ref_dup (o x : Vec Ideal S8192x2048 .f32) (g : Vec Ideal S1x2048 .f32) (a : Vec Ideal S2048x5504 .f32) (w : Vec Ideal S5504x2048 .f32) :
    val_main_v35 (F := Ideal) o x g a w = dupAll o x g a w := by
  funext i
  idx_vars i
  unfold val_main_v35 val_main_v34 val_main_call3_v0 val_main_c_7
  pointwise
  split
  · next h => rw [ref_dup_in]; exact (dupAll_in o x g a w i0 i1 h).symm
  · next h => rw [dupAll_out o x g a w i0 i1 h]; pointwise; simp [FloatOps.sitofp]

theorem ref_dgate {o x : Vec Ideal S8192x2048 .f32} {g : Vec Ideal S1x2048 .f32} {a b : Vec Ideal S2048x5504 .f32} {w : Vec Ideal S5504x2048 .f32}
    (ho : Fin' o) (hx : Fin' x) (hg : Fin' g) (ha : Fin' a) (hb : Fin' b) (hw : Fin' w) :
    val_main_v33 (F := Ideal) o x g a b w = dgateAll o x g a b w := by
  funext i
  idx_vars i
  unfold val_main_v33 val_main_v32 val_main_call2_v0 val_main_c
  pointwise
  split
  · next h => rw [ref_dgate_in ho hx hg ha hb hw]; exact (dgateAll_in o x g a b w i0 i1 h).symm
  · next h => rw [dgateAll_out o x g a b w i0 i1 h]; pointwise; simp [FloatOps.sitofp]

end Cert.Ffn.Hidden

end
-- ==== Proof.Ffn.HiddenClaim.lean ====
/- The value claim of the hidden columns' backward launch. -/
module

public import proofs.«01_k».proof.Defs
public import proofs.«01_k».proof.Proof.Gen.HiddenKernelIdeal.Value
public import proofs.«01_k».proof.Proof.Gen.HiddenReferenceIdeal.Run
public import proofs.«01_k».proof.Proof.Gen.Pre_ffn_finite
public import proofs.«01_k».proof.Proof.Ffn.HiddenPrefix
public import proofs.«01_k».proof.Proof.Ffn.HiddenReference

@[expose] public section

set_option maxRecDepth 16384

noncomputable section

namespace Cert.Ffn.Hidden

open Idealize.ShloMosaic Idealize.ShloMosaic.TcCoe Idealize.SL.Sem Cert.Arith Cert.HiddenKernelIdeal Cert.HiddenKernelIdeal.Gen

/-- The precondition says that the six arrays are finite. -/
theorem finite_of_pre (m) (h : Cert.Pre_HiddenKernelIdeal_ffn_finite m) (c : Dev nD) :
    Fin' (m ((c : Thread nD τ).loc main_arg0)) ∧ Fin' (m ((c : Thread nD τ).loc main_arg1))
    ∧ Fin' (m ((c : Thread nD τ).loc main_arg2)) ∧ Fin' (m ((c : Thread nD τ).loc main_arg3))
    ∧ Fin' (m ((c : Thread nD τ).loc main_arg4)) ∧ Fin' (m ((c : Thread nD τ).loc main_arg5)) :=
  ⟨fun i => real_of_test (congrFun (h c).1 i), fun i => real_of_test (congrFun (h c).2.1 i),
    fun i => real_of_test (congrFun (h c).2.2.1 i), fun i => real_of_test (congrFun (h c).2.2.2.1 i),
    fun i => real_of_test (congrFun (h c).2.2.2.2.1 i), fun i => real_of_test (congrFun (h c).2.2.2.2.2 i)⟩

/-- The kernel's three gradients are the reference's, where the arguments are finite. -/
theorem algebraic : Cert.algebraic_HiddenKernelIdeal_HiddenReferenceIdeal_pre_ffn_finite := by
  intro m g m' g' hpre hargs
  refine ⟨_, _, _, Cert.HiddenKernelIdeal.Value.run_blocks m g, ?_⟩
  refine (θ_run Cert.HiddenReferenceIdeal.defs _ _).mono (fun _ h c => ?_) (Cert.HiddenReferenceIdeal.Value.run m' g')
  obtain ⟨h0, h1, h2, h3⟩ := h c
  obtain ⟨a0, a1, a2, a3, a4, a5⟩ := hargs c
  obtain ⟨f0, f1, f2, f3, f4, f5⟩ := finite_of_pre m hpre c
  refine ⟨h0.trans ?_, h1.trans ?_, h2.trans ?_, h3⟩
  · rw [Cert.HiddenReferenceIdeal.Read.val_main_v33_eq, a0, a1, a2, a3, a4, a5, ref_dgate f0 f1 f2 f3 f4 f5,
      gate_array m c, O_eq, Wd_eq, Gt_eq, Up_eq]
    rfl
  · rw [Cert.HiddenReferenceIdeal.Read.val_main_v35_eq, a0, a1, a2, a3, a5, ref_dup, up_array m c, O_eq, Wd_eq, Gt_eq]
    rfl
  · rw [Cert.HiddenReferenceIdeal.Read.val_main_v36_eq, a0, ref_dy, dy_array m c, O_eq]

end Cert.Ffn.Hidden

end
-- ==== Proof.Ffn.Back.lean ====
/- How a feed-forward block's gradient gets back to its input: through the two projections, tile after tile of hidden
   columns, and through the norm, row by row. -/
module

public import proofs.«01_k».proof.Proof.Ffn.Data
public import Idealize.ShloMosaic.Lib.Pipeline.ValueKit

@[expose] public section

noncomputable section

namespace Cert.Ffn

open Idealize.ShloMosaic Cert.Arith

/-! ## One row of the norm -/

/-- The reciprocal root mean square of a row. -/
def rowInv (x : Fin 2048 → EReal) : EReal :=
  Ideal.rsqrt (Ideal.div (∑ k : Fin 2048, x k * x k) (Ideal.ofBits .f32 0x45000000#32) + Ideal.ofBits .f32 0x358637BD#32)

/-- A row's gradient in its input: `d` is the gradient in its normalised form. -/
def rowDx (x g d : Fin 2048 → EReal) (j : Fin 2048) : EReal :=
  rowInv x * (d j * g j - x j * rowInv x
    * Ideal.div (∑ k : Fin 2048, d k * g k * (x k * rowInv x)) (Ideal.ofBits .f32 0x45000000#32))

/-- A row's share of the gain's gradient. -/
def rowDg (x d : Fin 2048 → EReal) (j : Fin 2048) : EReal := d j * (x j * rowInv x)

/-! ## The whole arrays -/

/-- The gradient in the normalised input. -/
def back (p q : SF.Idx → EReal) (a b : SW.Idx → EReal) : SX.Idx → EReal := fun i =>
  ∑ f : Fin 5632, (p (ix2 (i 0) f) * a (ix2 f (i 1)) + q (ix2 (i 0) f) * b (ix2 f (i 1)))

/-- The gradient in the input, where `o` arrives beside the block. -/
def dxAll (o x : SX.Idx → EReal) (g : SG.Idx → EReal) (d : SX.Idx → EReal) : SX.Idx → EReal := fun i =>
  o i + rowDx (fun k => x (ix2 (i 0) k)) (fun k => g (ix2 0 k)) (fun k => d (ix2 (i 0) k)) (i 1)

/-- The gradient in the gain. -/
def dgAll (x d : SX.Idx → EReal) : SG.Idx → EReal := fun i =>
  ∑ r : Fin 8192, rowDg (fun k => x (ix2 r k)) (fun k => d (ix2 r k)) (i 1)

/-! ## Blocks -/

/-- A tile's block of rows. -/
abbrev SB : Shape := ⟨2, ![512, 2048]⟩

/-- A block of rows of hidden columns. -/
abbrev SH' : Shape := ⟨2, ![512, 512]⟩

/-- What a tile of hidden columns adds. -/
def tile (p q : SH'.Idx → EReal) (a b : SB.Idx → EReal) (y : SB.Idx) : EReal :=
  (∑ f : Fin 512, p (ix2 (y 0) f) * a (ix2 f (y 1))) + ∑ f : Fin 512, q (ix2 (y 0) f) * b (ix2 f (y 1))

/-- A block's gradient in the input. -/
def dxBlock (o x : SB.Idx → EReal) (g : SG.Idx → EReal) (d : SB.Idx → EReal) (y : SB.Idx) : EReal :=
  o y + rowDx (fun k => x (ix2 (y 0) k)) (fun k => g (ix2 0 k)) (fun k => d (ix2 (y 0) k)) (y 1)

/-- A block's share of the gain's gradient. -/
def dgBlock (x d : SB.Idx → EReal) (j : SG.Idx) : EReal :=
  ∑ r : Fin 512, rowDg (fun k => x (ix2 r k)) (fun k => d (ix2 r k)) (j 1)

/-- Row `n + r` of a block, read through a chunk of 128 rows. -/
theorem ld_chunk (b : Vec Ideal SB .f32) (n : ℕ) (inb) (r : Fin 128) (k : Fin 2048) (hn : n + 128 ≤ 512) :
    View.ld b (Rect.unit (s := SB) ![n, 0] ![128, 2048] inb) (ix2 r k) = b (ix2 ⟨n + r.val, by omega⟩ k) := by
  refine congrArg b (funext fun a => Fin.ext ?_)
  rw [Rect.idx_unit_val]
  fin_cases a
  · rfl
  · exact Nat.zero_add _

/-- A chunk of 128 rows. -/
abbrev chunk (b : SB.Idx → EReal) (n : ℕ) (hn : n + 128 ≤ 512) (r : Fin 128) : Fin 2048 → EReal := fun k => b (ix2 ⟨n + r.val, by omega⟩ k)

/-- Four chunks make a block. -/
theorem four (x d : SB.Idx → EReal) (q : EReal) (j : SG.Idx) :
    q + (∑ r, rowDg (chunk x 0 (by omega) r) (chunk d 0 (by omega) r) (j 1)) + (∑ r, rowDg (chunk x 128 (by omega) r) (chunk d 128 (by omega) r) (j 1))
      + (∑ r, rowDg (chunk x 256 (by omega) r) (chunk d 256 (by omega) r) (j 1)) + (∑ r, rowDg (chunk x 384 (by omega) r) (chunk d 384 (by omega) r) (j 1))
      = q + dgBlock x d j := by
  have h := Fin.sum_mul_add_fin 4 128 (fun r : Fin 512 => rowDg (fun k => x (ix2 r k)) (fun k => d (ix2 r k)) (j 1))
  rw [Fin.sum_univ_four] at h
  unfold dgBlock
  rw [← h, ← add_assoc, ← add_assoc, ← add_assoc]
  rfl

/-! ## The sum over the tiles of hidden columns -/

/-- What tile `s` adds, from the whole arrays. -/
def share (p q : SF.Idx → EReal) (a b : SW.Idx → EReal) (n : Fin 8192) (k : Fin 2048) (s : Fin 11) : EReal :=
  (∑ f : Fin 512, p (ix2 n ⟨s.val * 512 + f.val, by omega⟩) * a (ix2 ⟨s.val * 512 + f.val, by omega⟩ k))
    + ∑ f : Fin 512, q (ix2 n ⟨s.val * 512 + f.val, by omega⟩) * b (ix2 ⟨s.val * 512 + f.val, by omega⟩ k)

theorem sum_share (p q : SF.Idx → EReal) (a b : SW.Idx → EReal) (n : Fin 8192) (k : Fin 2048) :
    ∑ s : Fin 11, share p q a b n k s = back p q a b (ix2 n k) := by
  unfold share back
  refine Eq.trans ?_ (Fin.sum_mul_add_fin 11 512 (fun f : Fin 5632 => p (ix2 n f) * a (ix2 f k) + q (ix2 n f) * b (ix2 f k)))
  refine Finset.sum_congr rfl fun s _ => ?_
  exact Finset.sum_add_distrib.symm

/-! ## The gain's sum over the tiles of rows -/

/-- What a point adds to the gain's gradient: a block of rows where the row's last tile is reached, else nothing. -/
def gainShare (x d : SX.Idx → EReal) (j : SG.Idx) (n : ℕ) (hn : n < 176) : EReal :=
  if n % 11 = 10 then ∑ r : Fin 512, rowDg (fun k => x (ix2 ⟨n / 11 * 512 + r.val, by omega⟩ k)) (fun k => d (ix2 ⟨n / 11 * 512 + r.val, by omega⟩ k)) (j 1)
  else 0

theorem sum_gain (x d : SX.Idx → EReal) (j : SG.Idx) : ∑ n : Fin 176, gainShare x d j n.val n.isLt = dgAll x d j := by
  rw [← Fin.sum_mul_add_fin 16 11 (fun n : Fin 176 => gainShare x d j n.val n.isLt)]
  unfold dgAll
  refine Eq.trans ?_ (Fin.sum_mul_add_fin 16 512 (fun r : Fin 8192 => rowDg (fun k => x (ix2 r k)) (fun k => d (ix2 r k)) (j 1)))
  refine Finset.sum_congr rfl fun s _ => ?_
  rw [Finset.sum_eq_single (10 : Fin 11)]
  · have hm : (s.val * 11 + (10 : Fin 11).val) % 11 = 10 := by show (s.val * 11 + 10) % 11 = 10; omega
    have hd : (s.val * 11 + (10 : Fin 11).val) / 11 = s.val := by show (s.val * 11 + 10) / 11 = s.val; omega
    unfold gainShare
    rw [if_pos hm]
    simp only [hd]
  · intro b _ hb
    unfold gainShare
    have : b.val ≠ 10 := fun h => hb (Fin.ext h)
    exact if_neg (by show ¬(s.val * 11 + b.val) % 11 = 10; omega)
  · intro h; exact absurd (Finset.mem_univ _) h

end Cert.Ffn

end
-- ==== Proof.Ffn.Input.lean ====
/- What the two arrays of the input's backward launch hold after its run. -/
module

public import proofs.«01_k».proof.Proof.Gen.InputKernelIdeal.Value
public import proofs.«01_k».proof.Proof.Ffn.Back
public import Idealize.ShloMosaic.Lib.Pipeline.ReadBack

@[expose] public section

set_option maxRecDepth 16384

noncomputable section

namespace Cert.Ffn.Input

open Cert.InputKernelIdeal Cert.InputKernelIdeal.Gen Idealize.ShloMosaic Idealize.ShloMosaic.TcCoe Idealize.SL.Sem
open Idealize.ShloMosaic.Pipeline (Dat)

variable (m : (ℓ : Loc nD τ sig) → Buf (Elt Ideal) ℓ)

/-! ## One point -/

theorem pay_tile (v : Vec Ideal S512x2048 .f32) (p q : Vec Ideal S512x512 .bf16) (a b : Vec Ideal S512x2048 .bf16) (y : S512x2048.Idx) :
    k0_pay3 (F := Ideal) v p a q b y = v y + tile p q a b y := by
  idx_vars y
  unfold_payloads
  pointwise [tile]

theorem pay_dx (x : Vec Ideal S128x2048 .f32) (g : Vec Ideal S1x2048 .f32) (d o : Vec Ideal S128x2048 .f32) (y : S128x2048.Idx) :
    k0_pay12 (F := Ideal) x g d o y
      = o y + rowDx (fun k => x (ix2 (y 0) k)) (fun k => g (ix2 0 k)) (fun k => d (ix2 (y 0) k)) (y 1) := by
  idx_vars y
  unfold_payloads
  pointwise [rowDx, rowInv]

theorem pay_dg (x d : Vec Ideal S128x2048 .f32) (q : Vec Ideal S1x2048 .f32) (j : S1x2048.Idx) :
    k0_pay13 (F := Ideal) x d q j = q j + ∑ r : Fin 128, rowDg (fun k => x (ix2 r k)) (fun k => d (ix2 r k)) (j 1) := by
  idx_vars j
  unfold_payloads
  pointwise [rowDg, rowInv]

theorem chunk_dx (o x : Vec Ideal S512x2048 .f32) (g : Vec Ideal S1x2048 .f32) (d : Vec Ideal S512x2048 .f32) (n : ℕ) (inb) (hn : n + 128 ≤ 512)
    (z : (Rect.unit (s := S512x2048) ![n, 0] ![128, 2048] inb).shape.Idx) :
    k0_pay12 (F := Ideal) (View.ld x (Rect.unit (s := S512x2048) ![n, 0] ![128, 2048] inb)) g
      (View.ld d (Rect.unit (s := S512x2048) ![n, 0] ![128, 2048] inb)) (View.ld o (Rect.unit (s := S512x2048) ![n, 0] ![128, 2048] inb)) z
      = dxBlock o x g d ((Rect.unit (s := S512x2048) ![n, 0] ![128, 2048] inb).emb z) := by
  have hz : (Rect.unit (s := S512x2048) ![n, 0] ![128, 2048] inb).emb z = ix2 ⟨n + (z 0).val, by have : (z 0).val < 128 := (z 0).isLt; omega⟩ (z 1) := by
    refine funext fun a => Fin.ext ?_
    refine (Rect.idx_unit_val ..).trans ?_
    fin_cases a
    · rfl
    · exact Nat.zero_add _
  refine (pay_dx _ _ _ _ z).trans ?_
  rw [hz]
  unfold dxBlock
  refine congrArg₂ (· + ·) (congrArg o hz) ?_
  exact congrArg₂ (fun u v => rowDx u (fun k => g (ix2 0 k)) v (z 1)) (funext fun k => ld_chunk x n inb (z 0) k hn)
    (funext fun k => ld_chunk d n inb (z 0) k hn)

theorem chunk_dg (x d : Vec Ideal S512x2048 .f32) (q : Vec Ideal S1x2048 .f32) (n : ℕ) (inb) (hn : n + 128 ≤ 512) (j : S1x2048.Idx) :
    k0_pay13 (F := Ideal) (View.ld x (Rect.unit (s := S512x2048) ![n, 0] ![128, 2048] inb))
      (View.ld d (Rect.unit (s := S512x2048) ![n, 0] ![128, 2048] inb)) q j = q j + ∑ r, rowDg (chunk x n hn r) (chunk d n hn r) (j 1) := by
  rw [pay_dg]
  refine congrArg (q j + ·) (Finset.sum_congr rfl fun r _ => ?_)
  exact congrArg₂ (fun u v => rowDg u v (j 1)) (funext fun k => ld_chunk x n inb r k hn) (funext fun k => ld_chunk d n inb r k hn)

section

variable (x0 x1 : Vec Ideal S512x2048 .f32) (x2 : Vec Ideal S1x2048 .f32) (x3 x4 : Vec Ideal S512x512 .bf16) (x5 x6 : Vec Ideal S512x2048 .bf16)
  (p : Vec Ideal S512x2048 .f32) (q : Vec Ideal S1x2048 .f32) (c : Dev nD) (t : Fin cfg0.N)

theorem dx_A (h0 : t.val % 11 = 0) (h1 : t.val % 176 = 0) (h2 : ¬t.val % 11 = 10) (y : S512x2048.Idx) :
    out0_A_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) ((hcond0_0 t).mpr h0)
      ((hcond0_1 t).mpr h1) (fun h => h2 ((hcond0_2 t).mp h)) x0 x1 x2 x3 x4 x5 x6 y = 0 + tile x3 x4 x5 x6 y := by
  frame_out
  rw [pay_tile]
  unfold k0_pay1
  pointwise

theorem dg_A (h0 : t.val % 11 = 0) (h1 : t.val % 176 = 0) (h2 : ¬t.val % 11 = 10) (y : S1x2048.Idx) :
    out0_A_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) ((hcond0_0 t).mpr h0)
      ((hcond0_1 t).mpr h1) (fun h => h2 ((hcond0_2 t).mp h)) x0 x1 x2 x3 x4 x5 x6 y = 0 := by
  frame_out
  unfold k0_pay2
  pointwise

theorem dx_D (h0 : t.val % 11 = 0) (h1 : ¬t.val % 176 = 0) (h2 : ¬t.val % 11 = 10) (y : S512x2048.Idx) :
    out0_D_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) ((hcond0_0 t).mpr h0)
      (fun h => h1 ((hcond0_1 t).mp h)) (fun h => h2 ((hcond0_2 t).mp h)) x0 x1 x2 x3 x4 x5 x6 y = 0 + tile x3 x4 x5 x6 y := by
  frame_out
  rw [pay_tile]
  unfold k0_pay1
  pointwise

theorem dg_D (h0 : t.val % 11 = 0) (h1 : ¬t.val % 176 = 0) (h2 : ¬t.val % 11 = 10) :
    out0_D_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) ((hcond0_0 t).mpr h0)
      (fun h => h1 ((hcond0_1 t).mp h)) (fun h => h2 ((hcond0_2 t).mp h)) x0 x1 x2 x3 x4 x5 x6 q = q := by
  rfl

theorem dx_B (h0 : ¬t.val % 11 = 0) (h1 : ¬t.val % 176 = 0) (h2 : ¬t.val % 11 = 10) (y : S512x2048.Idx) :
    out0_B_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (fun h => h0 ((hcond0_0 t).mp h))
      (fun h => h1 ((hcond0_1 t).mp h)) (fun h => h2 ((hcond0_2 t).mp h)) x0 x1 x2 x3 x4 x5 x6 p y = p y + tile x3 x4 x5 x6 y := by
  frame_out
  rw [pay_tile]

theorem dg_B (h0 : ¬t.val % 11 = 0) (h1 : ¬t.val % 176 = 0) (h2 : ¬t.val % 11 = 10) :
    out0_B_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (fun h => h0 ((hcond0_0 t).mp h))
      (fun h => h1 ((hcond0_1 t).mp h)) (fun h => h2 ((hcond0_2 t).mp h)) x0 x1 x2 x3 x4 x5 x6 p q = q := by
  rfl

/-- The last tile's block of rows: the sum over the tiles goes through the norm, chunk by chunk. -/
theorem dx_C (h0 : ¬t.val % 11 = 0) (h1 : ¬t.val % 176 = 0) (h2 : t.val % 11 = 10) (y : S512x2048.Idx) :
    out0_C_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (fun h => h0 ((hcond0_0 t).mp h))
      (fun h => h1 ((hcond0_1 t).mp h)) ((hcond0_2 t).mpr h2) x0 x1 x2 x3 x4 x5 x6 p q y
      = dxBlock x0 x1 x2 (fun i => p i + tile x3 x4 x5 x6 i) y := by
  have e : k0_pay3 (F := Ideal) p x3 x5 x4 x6 = fun i => p i + tile x3 x4 x5 x6 i := funext (pay_tile p x3 x4 x5 x6)
  rw [← e]
  frame_open
  simp (disch := decide) only [↓View.readCov_skip, ↓View.readCov_cons_toLoadRect, ↓View.readCov_fill]
  frame_out
  refine View.canon_append_of_piecesOf (Val := Elt Ideal) (e := .f32) (dxBlock x0 x1 x2 (k0_pay3 (F := Ideal) p x3 x5 x4 x6)) [_] [_, _, _, _] ⟨?_, ?_, ?_, ?_, trivial⟩ y ?_
  · exact fun z => chunk_dx x0 x1 x2 _ 384 _ (by norm_num) z
  · exact fun z => chunk_dx x0 x1 x2 _ 256 _ (by norm_num) z
  · exact fun z => chunk_dx x0 x1 x2 _ 128 _ (by norm_num) z
  · exact fun z => chunk_dx x0 x1 x2 _ 0 _ (by norm_num) z
  · exact View.cover_of_tiledL _ ![128, 2048] rfl y

theorem dg_C (h0 : ¬t.val % 11 = 0) (h1 : ¬t.val % 176 = 0) (h2 : t.val % 11 = 10) (y : S1x2048.Idx) :
    out0_C_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (fun h => h0 ((hcond0_0 t).mp h))
      (fun h => h1 ((hcond0_1 t).mp h)) ((hcond0_2 t).mpr h2) x0 x1 x2 x3 x4 x5 x6 p q y
      = q y + dgBlock x1 (fun i => p i + tile x3 x4 x5 x6 i) y := by
  have e : k0_pay3 (F := Ideal) p x3 x5 x4 x6 = fun i => p i + tile x3 x4 x5 x6 i := funext (pay_tile p x3 x4 x5 x6)
  rw [← e]
  frame_open
  simp (disch := decide) only [↓View.readCov_skip, ↓View.readCov_cons_toLoadRect, ↓View.readCov_fill]
  frame_out
  refine (chunk_dg x1 _ _ 384 _ (by norm_num) y).trans ?_
  refine (congrArg (· + _) ((chunk_dg x1 _ _ 256 _ (by norm_num) y).trans ?_)).trans (four x1 _ _ y)
  refine congrArg (· + _) ((chunk_dg x1 _ _ 128 _ (by norm_num) y).trans ?_)
  exact congrArg (· + _) (chunk_dg x1 _ _ 0 _ (by norm_num) y)

end

/-! ## What the blocks are -/

theorem idx : ∀ t : Fin cfg0.N, win0_0.index t = ![t.val / 11, 0] ∧ win0_1.index t = ![t.val / 11, 0]
    ∧ win0_2.index t = ![0, 0] ∧ win0_3.index t = ![t.val / 11, t.val % 11] ∧ win0_4.index t = ![t.val / 11, t.val % 11]
    ∧ win0_5.index t = ![t.val % 11, 0] ∧ win0_6.index t = ![t.val % 11, 0] ∧ win0_7.index t = ![t.val / 11, 0]
    ∧ win0_8.index t = ![0, 0] :=
  (by decide +kernel : ∀ t : Fin grid0.N, _)

/-- Row `r` of a point's block of tokens. -/
def row (t : Fin cfg0.N) (r : Fin 512) : Fin 8192 := ⟨t.val / 11 * 512 + r.val, by have : t.val < 176 := t.isLt; omega⟩

/-- Column `r` of a point's block of hidden columns. -/
def col (t : Fin cfg0.N) (r : Fin 512) : Fin 5632 := ⟨t.val % 11 * 512 + r.val, by omega⟩

section
variable (c : Dev nD) (A : (b : Ref sig .tc) → Buf (Elt Ideal) ((c : Thread nD τ).loc b)) (t : Fin cfg0.N)

theorem read_0 (r : Fin 512) (k : Fin 2048) : ((cfg0.win 0).blk t).view.read (Elt Ideal) (A (Pipeline.arrRef spec0 0)) (ix2 r k)
    = (A main_arg0 : Vec Ideal S8192x2048 .f32) (ix2 (row t r) k) := by
  blk_point [idx t, row]

theorem read_1 (r : Fin 512) (k : Fin 2048) : ((cfg0.win 1).blk t).view.read (Elt Ideal) (A (Pipeline.arrRef spec0 1)) (ix2 r k)
    = (A main_arg1 : Vec Ideal S8192x2048 .f32) (ix2 (row t r) k) := by
  blk_point [idx t, row]

theorem read_2 (r : Fin 1) (k : Fin 2048) : ((cfg0.win 2).blk t).view.read (Elt Ideal) (A (Pipeline.arrRef spec0 2)) (ix2 r k)
    = (A main_arg2 : Vec Ideal S1x2048 .f32) (ix2 r k) := by
  blk_point [idx t]

theorem read_3 (r j : Fin 512) : ((cfg0.win 3).blk t).view.read (Elt Ideal) (A (Pipeline.arrRef spec0 3)) (ix2 r j)
    = (A main_v52 : Vec Ideal S8192x5632 .bf16) (ix2 (row t r) (col t j)) := by
  blk_point [idx t, row, col]

theorem read_4 (r j : Fin 512) : ((cfg0.win 4).blk t).view.read (Elt Ideal) (A (Pipeline.arrRef spec0 4)) (ix2 r j)
    = (A main_v54 : Vec Ideal S8192x5632 .bf16) (ix2 (row t r) (col t j)) := by
  blk_point [idx t, row, col]

theorem read_5 (r : Fin 512) (k : Fin 2048) : ((cfg0.win 5).blk t).view.read (Elt Ideal) (A (Pipeline.arrRef spec0 5)) (ix2 r k)
    = (A main_v3 : Vec Ideal S5632x2048 .bf16) (ix2 (col t r) k) := by
  blk_point [idx t, col]

theorem read_6 (r : Fin 512) (k : Fin 2048) : ((cfg0.win 6).blk t).view.read (Elt Ideal) (A (Pipeline.arrRef spec0 6)) (ix2 r k)
    = (A main_v5 : Vec Ideal S5632x2048 .bf16) (ix2 (col t r) k) := by
  blk_point [idx t, col]

end

section
variable (c : Dev nD)

/-- The cotangent as the launch finds it. -/
def O : SX.Idx → EReal := (V m c main_arg0 : Vec Ideal S8192x2048 .f32)

/-- The block's input. -/
def X : SX.Idx → EReal := (V m c main_arg1 : Vec Ideal S8192x2048 .f32)

/-- The norm's gain. -/
def G : SG.Idx → EReal := (V m c main_arg2 : Vec Ideal S1x2048 .f32)

/-- The gate's gradient. -/
def DG : SF.Idx → EReal := (V m c main_v52 : Vec Ideal S8192x5632 .bf16)

/-- The other factor's gradient. -/
def DU : SF.Idx → EReal := (V m c main_v54 : Vec Ideal S8192x5632 .bf16)

/-- The gate's padded weights. -/
def Wg : SW.Idx → EReal := (V m c main_v3 : Vec Ideal S5632x2048 .bf16)

/-- The other factor's padded weights. -/
def Wu : SW.Idx → EReal := (V m c main_v5 : Vec Ideal S5632x2048 .bf16)

/-- The gradient in the normalised input. -/
def DH : SX.Idx → EReal := back (DG m c) (DU m c) (Wg m c) (Wu m c)

/-! ## The sum over a row's tiles -/

/-- What a point's tile adds. -/
def term (t : Fin cfg0.N) (y : S512x2048.Idx) : EReal :=
  tile (iblk m c 3 t) (iblk m c 4 t) (iblk m c 5 t) (iblk m c 6 t) y

/-- The sum over the tiles of a row up to a point: at a row's last point the block no longer holds it. -/
def acc (n : ℕ) (hn : n < cfg0.N) (y : S512x2048.Idx) : EReal :=
  if n % 11 = 10 then (outsAt0 m c (n - 1) (Nat.lt_of_le_of_lt (Nat.sub_le _ _) hn)).1 y + term m c ⟨n, hn⟩ y else (outsAt0 m c n hn).1 y

theorem acc_first (t : Fin cfg0.N) (h0 : t.val % 11 = 0) (y : S512x2048.Idx) : acc m c t.val t.isLt y = 0 + term m c t y := by
  have h2 : ¬t.val % 11 = 10 := by omega
  unfold acc
  rw [if_neg h2]
  by_cases h1 : t.val % 176 = 0
  · rw [outsAt0_A m c t h0 h1 h2]
    dsimp only
    exact dx_A _ _ _ _ _ _ _ c t h0 h1 h2 y
  · rw [outsAt0_D m c t h0 h1 h2]
    dsimp only
    exact dx_D _ _ _ _ _ _ _ c t h0 h1 h2 y

theorem acc_next (t : Fin cfg0.N) (h0 : ¬t.val % 11 = 0) (y : S512x2048.Idx) (hp : t.val - 1 < cfg0.N) :
    acc m c t.val t.isLt y = acc m c (t.val - 1) hp y + term m c t y := by
  have h1 : ¬t.val % 176 = 0 := by omega
  have hq : ¬(t.val - 1) % 11 = 10 := by omega
  have e : acc m c (t.val - 1) hp y = (outsAt0 m c (t.val - 1) hp).1 y := if_neg hq
  rw [e]
  by_cases h2 : t.val % 11 = 10
  · exact if_pos h2
  · refine (if_neg h2).trans ?_
    rw [outsAt0_B m c t h0 h1 h2]
    dsimp only
    exact dx_B _ _ _ _ _ _ _ _ c t h0 h1 h2 y

theorem term_eq (t : Fin cfg0.N) (y : S512x2048.Idx) :
    term m c t y = share (DG m c) (DU m c) (Wg m c) (Wu m c) (row t (y 0)) (y 1) ⟨t.val % 11, Nat.mod_lt _ (by norm_num)⟩ :=
  congrArg₂ (· + ·)
    (Finset.sum_congr rfl fun f _ => congrArg₂ (· * ·) (read_3 c (V m c) t (y 0) f) (read_5 c (V m c) t f (y 1)))
    (Finset.sum_congr rfl fun f _ => congrArg₂ (· * ·) (read_4 c (V m c) t (y 0) f) (read_6 c (V m c) t f (y 1)))

/-- At a row's last point the sum is complete. -/
theorem acc_last (t : Fin cfg0.N) (h2 : t.val % 11 = 10) (y : S512x2048.Idx) : acc m c t.val t.isLt y = DH m c (ix2 (row t (y 0)) (y 1)) := by
  refine (Pipeline.eq_sum_fin_of_reset_step_apply_of_flush (fun n h => acc m c n h) 11 (fun _ => (0 : EReal)) (term m c)
    (fun t h y => acc_first m c t h y) (fun t h y => acc_next m c t h y _) t h2 y).trans ?_
  unfold DH
  rw [zero_add]
  refine Eq.trans ?_ (sum_share _ _ _ _ (row t (y 0)) (y 1))
  refine Finset.sum_congr rfl fun s _ => ?_
  rw [term_eq]
  refine congrArg₂ (fun n s => share (DG m c) (DU m c) (Wg m c) (Wu m c) n (y 1) s) (Fin.ext ?_) (Fin.ext ?_)
  · show (11 * (t.val / 11) + s.val) / 11 * 512 + (y 0).val = t.val / 11 * 512 + (y 0).val; omega
  · show (11 * (t.val / 11) + s.val) % 11 = s.val; omega

/-- The block of sums that a row's last point takes through the norm. -/
theorem sums (t : Fin cfg0.N) (h2 : t.val % 11 = 10) (hp : t.val - 1 < cfg0.N) :
    (fun i => (outsAt0 m c (t.val - 1) hp).1 i + tile (iblk m c 3 t) (iblk m c 4 t) (iblk m c 5 t) (iblk m c 6 t) i : SB.Idx → EReal)
      = fun i => DH m c (ix2 (row t (i 0)) (i 1)) :=
  funext fun i => (if_pos h2).symm.trans (acc_last m c t h2 i)

/-! ## The two arrays -/

theorem dx_at (t : Fin cfg0.N) (h2 : t.val % 11 = 10) (y : S512x2048.Idx) :
    (outsAt0 m c t.val t.isLt).1 y = dxAll (O m c) (X m c) (G m c) (DH m c) (ix2 (row t (y 0)) (y 1)) := by
  have h0 : ¬t.val % 11 = 0 := by omega
  have h1 : ¬t.val % 176 = 0 := by omega
  rw [outsAt0_C m c t h0 h1 h2]
  dsimp only
  refine (dx_C _ _ _ _ _ _ _ _ _ c t h0 h1 h2 y).trans ?_
  rw [sums m c t h2]
  unfold dxBlock dxAll
  refine congrArg₂ (· + ·) ?_ ?_
  · exact (congrArg _ (ix2_eta y)).symm.trans (read_0 c (V m c) t (y 0) (y 1))
  · have e1 : (fun k => (iblk m c 1 t : Vec Ideal S512x2048 .f32) (ix2 (y 0) k)) = fun k => X m c (ix2 (row t (y 0)) k) :=
      funext fun k => read_1 c (V m c) t (y 0) k
    have e2 : (fun k => (iblk m c 2 t : Vec Ideal S1x2048 .f32) (ix2 0 k)) = fun k => G m c (ix2 0 k) :=
      funext fun k => read_2 c (V m c) t 0 k
    exact congrArg₂ (fun u v => rowDx u v (fun k => DH m c (ix2 (row t (y 0)) k)) (y 1)) e1 e2

theorem dx_array : (dats m 0 c).arrAt 7 cfg0.N = (dxAll (O m c) (X m c) (G m c) (DH m c) : Vec Ideal S8192x2048 .f32) := by
  refine (dats m 0 c).arrAt_eq_of_covers 7 _ (by decide +kernel) fun t hf y => ?_
  have h2 : t.val % 11 = 10 := (flush0_7 t).mp hf
  blk_simp
  rw [after0_7, dx_at m c t h2 y]
  refine congrArg _ (funext fun a => Fin.ext ?_)
  fin_cases a
  · show t.val / 11 * 512 + (y 0).val = win0_7.index t 0 * 512 + 1 * (y 0).val
    rw [(idx t).2.2.2.2.2.2.2.1]; show _ = t.val / 11 * 512 + 1 * (y 0).val; omega
  · show (y 1).val = win0_7.index t 1 * 2048 + 1 * (y 1).val
    rw [(idx t).2.2.2.2.2.2.2.1]; show _ = 0 * 2048 + 1 * (y 1).val; omega

theorem gain_first (t : Fin cfg0.N) (h1 : t.val % 176 = 0) (j : S1x2048.Idx) :
    (outsAt0 m c t.val t.isLt).2 j = 0 + gainShare (X m c) (DH m c) j t.val t.isLt := by
  have h0 : t.val % 11 = 0 := by omega
  have h2 : ¬t.val % 11 = 10 := by omega
  rw [outsAt0_A m c t h0 h1 h2]
  dsimp only
  refine (dg_A _ _ _ _ _ _ _ c t h0 h1 h2 j).trans ?_
  unfold gainShare
  rw [if_neg h2, zero_add]

theorem gain_next (t : Fin cfg0.N) (h1 : ¬t.val % 176 = 0) (j : S1x2048.Idx) (hp : t.val - 1 < cfg0.N) :
    (outsAt0 m c t.val t.isLt).2 j = (outsAt0 m c (t.val - 1) hp).2 j + gainShare (X m c) (DH m c) j t.val t.isLt := by
  unfold gainShare
  by_cases h2 : t.val % 11 = 10
  · have h0 : ¬t.val % 11 = 0 := by omega
    rw [if_pos h2, outsAt0_C m c t h0 h1 h2]
    dsimp only
    refine (dg_C _ _ _ _ _ _ _ _ _ c t h0 h1 h2 j).trans ?_
    rw [sums m c t h2]
    refine congrArg _ (Finset.sum_congr rfl fun r _ => ?_)
    have e1 : (fun k => (iblk m c 1 t : Vec Ideal S512x2048 .f32) (ix2 r k)) = fun k => X m c (ix2 (row t r) k) :=
      funext fun k => read_1 c (V m c) t r k
    exact congrArg (fun u => rowDg u (fun k => DH m c (ix2 (row t r) k)) (j 1)) e1
  · rw [if_neg h2, add_zero]
    by_cases h0 : t.val % 11 = 0
    · rw [outsAt0_D m c t h0 h1 h2]
      dsimp only
      exact congrFun (dg_D _ _ _ _ _ _ _ _ c t h0 h1 h2) j
    · rw [outsAt0_B m c t h0 h1 h2]
      dsimp only
      exact congrFun (dg_B _ _ _ _ _ _ _ _ _ c t h0 h1 h2) j

/-- The last point of all. -/
def last : Fin cfg0.N := ⟨175, by decide⟩

theorem dg_array : (dats m 0 c).arrAt 8 cfg0.N = (dgAll (X m c) (DH m c) : Vec Ideal S1x2048 .f32) := by
  refine (dats m 0 c).arrAt_eq_of_after_last 8 last (by decide +kernel) _ fun j => ?_
  blk_simp
  rw [after0_8]
  refine (Pipeline.eq_sum_fin_of_reset_step_apply_last (fun n h => (outsAt0 m c n h).2) 176 (fun _ => (0 : EReal))
    (fun t j => gainShare (X m c) (DH m c) j t.val t.isLt)
    (fun t h j => gain_first m c t h j) (fun t h j => gain_next m c t h j _) (by decide) last rfl j).trans ?_
  rw [zero_add]
  exact sum_gain (X m c) (DH m c) j

end

end Cert.Ffn.Input

end
-- ==== Proof.Ffn.InputPrefix.lean ====
/- What the input's backward launch finds in its arguments: the host lines before it, read. -/
module

public import proofs.«01_k».proof.Proof.Ffn.Input
public import Idealize.ShloMosaic.Lib.StableHlo.RunRead

@[expose] public section

set_option maxRecDepth 16384

noncomputable section

namespace Cert.Ffn.Input

open Cert.InputKernelIdeal Cert.InputKernelIdeal.Gen Idealize.ShloMosaic Idealize.ShloMosaic.TcCoe Idealize.ShloMosaic.Tactic Idealize.SL.Sem

variable (m : (ℓ : Loc nD τ sig) → Buf (Elt Ideal) ℓ) (c : Dev nD)

theorem O_eq : O m c = m ((c : Thread nD τ).loc main_arg0) := by
  funext i
  idx_vars i
  unfold O V
  after_reads_simp

theorem X_eq : X m c = m ((c : Thread nD τ).loc main_arg1) := by
  funext i
  idx_vars i
  unfold X V
  after_reads_simp

theorem G_eq : G m c = m ((c : Thread nD τ).loc main_arg2) := by
  funext i
  idx_vars i
  unfold G V
  after_reads_simp

theorem Wg_eq : Wg m c = padT (m ((c : Thread nD τ).loc main_arg3)) := by
  funext i
  idx_vars i
  unfold Wg V
  after_reads_simp
  simp only [StableHlo.TRef.toBuf, StableHlo.TRef.ofBuf, cast_eq]
  pointwise [padT]
  simp only [zero_bf16]

theorem Wu_eq : Wu m c = padT (m ((c : Thread nD τ).loc main_arg4)) := by
  funext i
  idx_vars i
  unfold Wu V
  after_reads_simp
  simp only [StableHlo.TRef.toBuf, StableHlo.TRef.ofBuf, cast_eq]
  pointwise [padT]
  simp only [zero_bf16]

theorem DU_eq : DU m c = dupAll (m ((c : Thread nD τ).loc main_arg0)) (m ((c : Thread nD τ).loc main_arg1))
    (m ((c : Thread nD τ).loc main_arg2)) (m ((c : Thread nD τ).loc main_arg3)) (m ((c : Thread nD τ).loc main_arg5)) := by
  funext i
  idx_vars i
  unfold DU V
  after_reads_simp
  simp only [StableHlo.TRef.toBuf, StableHlo.TRef.ofBuf, cast_eq]
  pointwise [dupAll, dup, dUp, dy, proj, hid, inv, padT, padC]
  simp only [zero_bf16, logistic_div]

theorem DG_eq : DG m c = dgateAll (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  funext i
  idx_vars i
  unfold DG V
  after_reads_simp
  simp only [StableHlo.TRef.toBuf, StableHlo.TRef.ofBuf, cast_eq]
  pointwise [dgateAll, dgate, dGate, dy, proj, hid, inv, padT, padC]
  simp only [zero_bf16, logistic_div]

end Cert.Ffn.Input

end
-- ==== Proof.Ffn.InputReference.lean ====
/- What the reference of the input's backward launch computes. -/
module

public import proofs.«01_k».proof.Proof.Gen.InputReferenceIdeal.Read
public import proofs.«01_k».proof.Proof.Rms.Reference
public import proofs.«01_k».proof.Proof.Ffn.HiddenReference
public import proofs.«01_k».proof.Proof.Ffn.Back

@[expose] public section

set_option maxRecDepth 16384

noncomputable section

namespace Cert.Ffn

open Idealize.ShloMosaic Cert.Arith

/-! ## The plain form of the gradient in the normalised input -/

section
variable (o x : SX.Idx → EReal) (g : SG.Idx → EReal) (a b : SA.Idx → EReal) (w : SC.Idx → EReal)

/-- The gradient in the normalised input, over the hidden columns that are no padding. -/
def plain : SX.Idx → EReal := fun i =>
  (∑ f : Fin 5504, dUp (dact o w (ix2 (i 0) f)) (pre x g a (ix2 (i 0) f)) * b (ix2 (i 1) f))
    + ∑ f : Fin 5504, dGate (dact o w (ix2 (i 0) f)) (pre x g a (ix2 (i 0) f)) (pre x g b (ix2 (i 0) f)) * a (ix2 (i 1) f)

/-- A sum over the padded hidden columns whose padding adds nothing. -/
theorem sum_pad (F : Fin 5632 → EReal) (h : ∀ f : Fin 5632, ¬f.val < 5504 → F f = 0) :
    ∑ f : Fin 5632, F f = ∑ f : Fin 5504, F ⟨f.val, by omega⟩ := by
  refine (Fin.sum_univ_add (a := 5504) (b := 128) F).trans ?_
  rw [Finset.sum_eq_zero (f := fun i : Fin 128 => F (Fin.natAdd 5504 i)) fun i _ => h _ (by show ¬5504 + i.val < 5504; omega), add_zero]
  rfl

/-- The padded form is the plain one. -/
theorem back_plain : back (dgateAll o x g a b w) (dupAll o x g a w) (padT a) (padT b) = plain o x g a b w := by
  funext i
  idx_vars i
  unfold back plain
  refine (sum_pad _ fun f hf => ?_).trans ?_
  · show dgateAll o x g a b w (ix2 i0 f) * _ + dupAll o x g a w (ix2 i0 f) * _ = 0
    rw [dgateAll_out o x g a b w i0 f hf, dupAll_out o x g a w i0 f hf, zero_mul, zero_mul, add_zero]
  · refine Eq.trans ?_ (Finset.sum_add_distrib.trans (add_comm _ _))
    refine Finset.sum_congr rfl fun f _ => ?_
    refine congrArg₂ (· + ·) (congrArg₂ (· * ·) (dgateAll_in o x g a b w i0 ⟨f.val, by omega⟩ f.isLt) (dif_pos f.isLt))
      (congrArg₂ (· * ·) (dupAll_in o x g a w i0 ⟨f.val, by omega⟩ f.isLt) (dif_pos f.isLt))

theorem fin_add {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨a + b, (EReal.coe_add a b).symm⟩

variable {o x g a b w}

theorem fin_plain (ho : Fin' o) (hx : Fin' x) (hg : Fin' g) (ha : Fin' a) (hb : Fin' b) (hw : Fin' w) : Fin' (plain o x g a b w) := fun _ =>
  fin_add (fin_sum fun _ => fin_mul (fin_dUp (fin_dact ho hw _) (fin_pre hx hg ha _)) (hb _))
    (fin_sum fun _ => fin_mul (fin_dGate (fin_dact ho hw _) (fin_pre hx hg ha _) (fin_pre hx hg hb _)) (ha _))

end

end Cert.Ffn

namespace Cert.Ffn.Input

open Cert.InputReferenceIdeal Cert.InputReferenceIdeal.Read Idealize.ShloMosaic Cert.Arith

theorem ref_dact (o : Vec Ideal S8192x2048 .f32) (w : Vec Ideal S5504x2048 .f32) :
    val_main_v26 (F := Ideal) o w = HiddenReferenceIdeal.Read.val_main_v22 (F := Ideal) o w := by
  rw [Hidden.ref_dact]
  funext i
  idx_vars i
  unfold val_main_v26 val_main_v25 val_main_v24 val_main_v23 val_main_cst_4
  pointwise [dact, dy]

section
variable {o x : Vec Ideal S8192x2048 .f32} {g : Vec Ideal S1x2048 .f32} {a b : Vec Ideal S2048x5504 .f32} {w : Vec Ideal S5504x2048 .f32}
  (ho : Fin' o) (hx : Fin' x) (hg : Fin' g) (ha : Fin' a) (hb : Fin' b) (hw : Fin' w)
include ho hx hg ha hb hw

theorem ref_dup (i) : val_main_v27 (F := Ideal) o x g a w i = dUp (dact o w i) (pre x g a i) := by
  refine Eq.trans ?_ (Hidden.ref_dup_in o x g a w i)
  unfold val_main_v27 HiddenReferenceIdeal.Read.val_main_v23
  rw [ref_dact]
  rfl

theorem ref_dgate (i) : val_main_v30 (F := Ideal) o x g a b w i = dGate (dact o w i) (pre x g a i) (pre x g b i) := by
  refine Eq.trans ?_ (Hidden.ref_dgate_in ho hx hg ha hb hw i)
  unfold val_main_v30 val_main_call1_v2 val_main_call1_v1 val_main_call1_v0 val_main_v28 HiddenReferenceIdeal.Read.val_main_v25
  rw [ref_dact]
  rfl

/-- The gradient in the normalised input. -/
theorem ref_dh : val_main_v32 (F := Ideal) o x g a b w = plain o x g a b w := by
  funext i
  idx_vars i
  unfold val_main_v32 val_main_v31 val_main_v29
  pointwise [plain]
  exact congrArg₂ (· + ·) (Finset.sum_congr rfl fun f _ => congrArg (· * _) (ref_dup ho hx hg ha hb hw (ix2 i0 f)))
    (Finset.sum_congr rfl fun f _ => congrArg (· * _) (ref_dgate ho hx hg ha hb hw (ix2 i0 f)))

theorem ref_dx : val_main_v52 (F := Ideal) o x g a b w
    = dxAll o x g (back (dgateAll o x g a b w) (dupAll o x g a w) (padT a) (padT b)) := by
  have e : val_main_v52 (F := Ideal) o x g a b w = RmsReferenceIdeal.Read.val_main_v34 (F := Ideal) x g (val_main_v32 (F := Ideal) o x g a b w) o := by
    unfold val_main_v52 val_main_v51 val_main_v50 val_main_v49 val_main_v48 val_main_v47 val_main_v46 val_main_v44 val_main_v43 val_main_v42
      val_main_v40 val_main_v39 val_main_v38 val_main_v37 RmsReferenceIdeal.Read.val_main_v34 RmsReferenceIdeal.Read.val_main_v33
      RmsReferenceIdeal.Read.val_main_v32 RmsReferenceIdeal.Read.val_main_v31 RmsReferenceIdeal.Read.val_main_v30
      RmsReferenceIdeal.Read.val_main_v29 RmsReferenceIdeal.Read.val_main_v28 RmsReferenceIdeal.Read.val_main_v26
      RmsReferenceIdeal.Read.val_main_v25 RmsReferenceIdeal.Read.val_main_v24 RmsReferenceIdeal.Read.val_main_v22
      RmsReferenceIdeal.Read.val_main_v21 RmsReferenceIdeal.Read.val_main_v20 RmsReferenceIdeal.Read.val_main_v19
    rfl
  rw [e, ref_dh ho hx hg ha hb hw, Rms.val_dx x g _ o hx hg (fin_plain ho hx hg ha hb hw), back_plain]
  funext i
  idx_vars i
  rfl

theorem ref_dgain : val_main_v35 (F := Ideal) o x g a b w
    = dgAll x (back (dgateAll o x g a b w) (dupAll o x g a w) (padT a) (padT b)) := by
  have e : val_main_v35 (F := Ideal) o x g a b w = RmsReferenceIdeal.Read.val_main_v17 (F := Ideal) x (val_main_v32 (F := Ideal) o x g a b w) := by
    unfold val_main_v35 val_main_v34 val_main_v33 RmsReferenceIdeal.Read.val_main_v17 RmsReferenceIdeal.Read.val_main_v16
      RmsReferenceIdeal.Read.val_main_v15
    rfl
  rw [e, ref_dh ho hx hg ha hb hw, Rms.val_dg, back_plain]
  rfl

end

end Cert.Ffn.Input

end
-- ==== Proof.Ffn.InputClaim.lean ====
/- The value claim of the input's backward launch. -/
module

public import proofs.«01_k».proof.Defs
public import proofs.«01_k».proof.Proof.Gen.InputKernelIdeal.Value
public import proofs.«01_k».proof.Proof.Gen.InputReferenceIdeal.Run
public import proofs.«01_k».proof.Proof.Gen.Pre_ffn_finite
public import proofs.«01_k».proof.Proof.Ffn.InputPrefix
public import proofs.«01_k».proof.Proof.Ffn.InputReference

@[expose] public section

set_option maxRecDepth 16384

noncomputable section

namespace Cert.Ffn.Input

open Idealize.ShloMosaic Idealize.ShloMosaic.TcCoe Idealize.SL.Sem Cert.Arith Cert.InputKernelIdeal Cert.InputKernelIdeal.Gen

/-- The precondition says that the six arrays are finite. -/
theorem finite_of_pre (m) (h : Cert.Pre_InputKernelIdeal_ffn_finite m) (c : Dev nD) :
    Fin' (m ((c : Thread nD τ).loc main_arg0)) ∧ Fin' (m ((c : Thread nD τ).loc main_arg1))
    ∧ Fin' (m ((c : Thread nD τ).loc main_arg2)) ∧ Fin' (m ((c : Thread nD τ).loc main_arg3))
    ∧ Fin' (m ((c : Thread nD τ).loc main_arg4)) ∧ Fin' (m ((c : Thread nD τ).loc main_arg5)) :=
  ⟨fun i => real_of_test (congrFun (h c).1 i), fun i => real_of_test (congrFun (h c).2.1 i),
    fun i => real_of_test (congrFun (h c).2.2.1 i), fun i => real_of_test (congrFun (h c).2.2.2.1 i),
    fun i => real_of_test (congrFun (h c).2.2.2.2.1 i), fun i => real_of_test (congrFun (h c).2.2.2.2.2 i)⟩

/-- The kernel's two gradients are the reference's, where the arguments are finite. -/
theorem algebraic : Cert.algebraic_InputKernelIdeal_InputReferenceIdeal_pre_ffn_finite := by
  intro m g m' g' hpre hargs
  refine ⟨_, _, Cert.InputKernelIdeal.Value.run_blocks m g, ?_⟩
  refine (θ_run Cert.InputReferenceIdeal.defs _ _).mono (fun _ h c => ?_) (Cert.InputReferenceIdeal.Value.run m' g')
  obtain ⟨h0, h1, h2⟩ := h c
  obtain ⟨a0, a1, a2, a3, a4, a5⟩ := hargs c
  obtain ⟨f0, f1, f2, f3, f4, f5⟩ := finite_of_pre m hpre c
  have hd : DH m c = back (dgateAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
      (dupAll (m ((c : Thread nD τ).loc main_arg0)) (m ((c : Thread nD τ).loc main_arg1)) (m ((c : Thread nD τ).loc main_arg2))
        (m ((c : Thread nD τ).loc main_arg3)) (m ((c : Thread nD τ).loc main_arg5)))
      (padT (m ((c : Thread nD τ).loc main_arg3))) (padT (m ((c : Thread nD τ).loc main_arg4))) := by
    unfold DH; rw [DG_eq, DU_eq, Wg_eq, Wu_eq]
  refine ⟨h0.trans ?_, h1.trans ?_, h2⟩
  · rw [Cert.InputReferenceIdeal.Read.val_main_v52_eq, a0, a1, a2, a3, a4, a5, ref_dx f0 f1 f2 f3 f4 f5, dx_array m c, hd, O_eq, X_eq, G_eq]
  · rw [Cert.InputReferenceIdeal.Read.val_main_v35_eq, a0, a1, a2, a3, a4, a5, ref_dgain f0 f1 f2 f3 f4 f5, dg_array m c, hd, X_eq]

end Cert.Ffn.Input

end
-- ==== Proof.Ffn.FfnxGates.lean ====
/- What the five arrays of the feed-forward block's backward launch hold after its run. -/
module

public import proofs.«01_k».proof.Proof.Gen.FfnxKernelIdeal.Value
public import proofs.«01_k».proof.Proof.Ffn.Back
public import Idealize.ShloMosaic.Lib.Pipeline.ReadBack

@[expose] public section

set_option maxRecDepth 16384

noncomputable section

namespace Cert.Ffn.Ffnx

open Cert.FfnxKernelIdeal Cert.FfnxKernelIdeal.Gen Idealize.ShloMosaic Idealize.ShloMosaic.TcCoe Idealize.SL.Sem
open Idealize.ShloMosaic.Pipeline (Dat)

/-! ## The two hidden gradients of one point -/

/-- The product's gradient at one column of a block. -/
def dactB (d w : SB.Idx → EReal) (y : SH'.Idx) : EReal := ∑ k : Fin 2048, d (ix2 (y 0) k) * w (ix2 (y 1) k)

/-- A block of the gate's gradient. -/
def gateB (d w : SB.Idx → EReal) (g u : SH'.Idx → EReal) (y : SH'.Idx) : EReal := dGate (dactB d w y) (g y) (u y)

/-- A block of the other factor's gradient. -/
def upB (d w : SB.Idx → EReal) (g : SH'.Idx → EReal) (y : SH'.Idx) : EReal := dUp (dactB d w y) (g y)

theorem chain_gate (d : Vec Ideal S512x2048 .bf16) (w : Vec Ideal S256x2048 .bf16) (g u : Vec Ideal S512x256 .bf16) (x : S512x256.Idx) :
    k0_pay29 (F := Ideal) d w g u x = dGate (∑ k : Fin 2048, d (ix2 (x 0) k) * w (ix2 (x 1) k)) (g x) (u x) := by
  idx_vars x
  unfold_payloads
  pointwise [dGate]

theorem chain_up (d : Vec Ideal S512x2048 .bf16) (w : Vec Ideal S256x2048 .bf16) (g : Vec Ideal S512x256 .bf16) (x : S512x256.Idx) :
    k0_pay30 (F := Ideal) d w g x = dUp (∑ k : Fin 2048, d (ix2 (x 0) k) * w (ix2 (x 1) k)) (g x) := by
  idx_vars x
  unfold_payloads
  pointwise [dUp]

theorem half (o : Vec Ideal S512x2048 .f32) (x : S512x2048.Idx) :
    k0_pay22 (F := Ideal) o x = Ideal.ofBits .f32 0x3F000000#32 * o x := by
  unfold_payloads
  pointwise

/-- Rows `n` to `n + 255` of the weight's block. -/
theorem ld_row (b : Vec Ideal S512x2048 .bf16) (n : ℕ) (inb) (r : Fin 256) (k : Fin 2048) (hn : n + 256 ≤ 512) :
    View.ld b (Rect.unit (s := S512x2048) ![n, 0] ![256, 2048] inb) (ix2 r k) = b (ix2 ⟨n + r.val, by omega⟩ k) := by
  refine congrArg b (funext fun a => Fin.ext ?_)
  rw [Rect.idx_unit_val]
  fin_cases a
  · rfl
  · exact Nat.zero_add _

/-- Columns `n` to `n + 255` of a block of hidden columns. -/
theorem ld_col (b : Vec Ideal S512x512 .bf16) (n : ℕ) (inb) (y : S512x512.Idx) (x : S512x256.Idx) (h0 : (y 0).val = (x 0).val)
    (h1 : (y 1).val = n + (x 1).val) : View.ld b (Rect.unit (s := S512x512) ![0, n] ![512, 256] inb) x = b y := by
  refine congrArg b (funext fun a => Fin.ext ?_)
  rw [Rect.idx_unit_val]
  fin_cases a
  · exact (Nat.zero_add _).trans h0.symm
  · exact h1.symm

/-- The product's gradient at a column of one half of a block. -/
theorem dact_half (d w : Vec Ideal S512x2048 .bf16) (n : ℕ) (inb) (y : S512x512.Idx) (x : S512x256.Idx) (hn : n + 256 ≤ 512)
    (h0 : (y 0).val = (x 0).val) (h1 : (y 1).val = n + (x 1).val) :
    (∑ k : Fin 2048, d (ix2 (x 0) k) * View.ld w (Rect.unit (s := S512x2048) ![n, 0] ![256, 2048] inb) (ix2 (x 1) k)) = dactB d w y := by
  refine Finset.sum_congr rfl fun k _ => congrArg₂ (· * ·) (congrArg d (congrArg₂ ix2 (Fin.ext h0.symm) rfl)) ?_
  exact (ld_row w n inb (x 1) k hn).trans (congrArg w (congrArg₂ ix2 (Fin.ext h1.symm) rfl))

/-- One of the two stores of a block of the gate's gradient. -/
theorem piece_gate (d w : Vec Ideal S512x2048 .bf16) (g u : Vec Ideal S512x512 .bf16) (y : S512x512.Idx) (x : S512x256.Idx) (n : ℕ)
    (inb inb') (hn : n + 256 ≤ 512) (h0 : (y 0).val = (x 0).val) (h1 : (y 1).val = n + (x 1).val) :
    k0_pay29 (F := Ideal) d (View.ld w (Rect.unit (s := S512x2048) ![n, 0] ![256, 2048] inb))
      (View.ld g (Rect.unit (s := S512x512) ![0, n] ![512, 256] inb')) (View.ld u (Rect.unit (s := S512x512) ![0, n] ![512, 256] inb')) x
      = gateB d w g u y := by
  rw [chain_gate, dact_half d w n inb y x hn h0 h1, ld_col g n inb' y x h0 h1, ld_col u n inb' y x h0 h1]
  rfl

/-- One of the two stores of a block of the other factor's gradient. -/
theorem piece_up (d w : Vec Ideal S512x2048 .bf16) (g : Vec Ideal S512x512 .bf16) (y : S512x512.Idx) (x : S512x256.Idx) (n : ℕ)
    (inb inb') (hn : n + 256 ≤ 512) (h0 : (y 0).val = (x 0).val) (h1 : (y 1).val = n + (x 1).val) :
    k0_pay30 (F := Ideal) d (View.ld w (Rect.unit (s := S512x2048) ![n, 0] ![256, 2048] inb))
      (View.ld g (Rect.unit (s := S512x512) ![0, n] ![512, 256] inb')) x = upB d w g y := by
  rw [chain_up, dact_half d w n inb y x hn h0 h1, ld_col g n inb' y x h0 h1]
  rfl

section

variable (x0 x1 : Vec Ideal S512x2048 .f32) (x2 : Vec Ideal S1x2048 .f32) (x3 x4 : Vec Ideal S512x512 .bf16) (x5 x6 x7 : Vec Ideal S512x2048 .bf16)
  (p : Vec Ideal S512x2048 .f32) (v : Vec Ideal S512x2048 .bf16) (q : Vec Ideal S1x2048 .f32) (c : Dev nD) (t : Fin cfg0.N)

theorem gate_A (h0 : t.val % 11 = 0) (h1 : t.val % 176 = 0) (h2 : ¬t.val % 11 = 10) (y : S512x512.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) ((hcond0_1 t).mpr h1) (fun h => h2 ((hcond0_2 t).mp h)) x0 x1 x2 x3 x4 x5 x6 x7 y
      = gateB (k0_pay22 (F := Ideal) x0) x7 x3 x4 y := by
  frame_out
  canon_tiles x hh
  all_goals open_payloads
  all_goals exact piece_gate _ x7 x3 x4 y x _ _ _ (by norm_num) hh0 (by omega)

theorem up_A (h0 : t.val % 11 = 0) (h1 : t.val % 176 = 0) (h2 : ¬t.val % 11 = 10) (y : S512x512.Idx) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) ((hcond0_1 t).mpr h1) (fun h => h2 ((hcond0_2 t).mp h)) x0 x1 x2 x3 x4 x5 x6 x7 y
      = upB (k0_pay22 (F := Ideal) x0) x7 x3 y := by
  frame_out
  canon_tiles x hh
  all_goals open_payloads
  all_goals exact piece_up _ x7 x3 y x _ _ _ (by norm_num) hh0 (by omega)

theorem dy_A (h0 : t.val % 11 = 0) (h1 : t.val % 176 = 0) (h2 : ¬t.val % 11 = 10) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) ((hcond0_1 t).mpr h1) (fun h => h2 ((hcond0_2 t).mp h)) x0 x1 x2 x3 x4 x5 x6 x7
      = (k0_pay22 (F := Ideal) x0) := by
  funext y
  frame_out
  unfold k0_pay25
  pointwise

theorem gate_D (h0 : t.val % 11 = 0) (h1 : ¬t.val % 176 = 0) (h2 : ¬t.val % 11 = 10) (y : S512x512.Idx) :
    out0_D_9 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) (fun h => h1 ((hcond0_1 t).mp h)) (fun h => h2 ((hcond0_2 t).mp h)) x0 x1 x2 x3 x4 x5 x6 x7 y
      = gateB (k0_pay22 (F := Ideal) x0) x7 x3 x4 y := by
  frame_out
  canon_tiles x hh
  all_goals open_payloads
  all_goals exact piece_gate _ x7 x3 x4 y x _ _ _ (by norm_num) hh0 (by omega)

theorem up_D (h0 : t.val % 11 = 0) (h1 : ¬t.val % 176 = 0) (h2 : ¬t.val % 11 = 10) (y : S512x512.Idx) :
    out0_D_10 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) (fun h => h1 ((hcond0_1 t).mp h)) (fun h => h2 ((hcond0_2 t).mp h)) x0 x1 x2 x3 x4 x5 x6 x7 y
      = upB (k0_pay22 (F := Ideal) x0) x7 x3 y := by
  frame_out
  canon_tiles x hh
  all_goals open_payloads
  all_goals exact piece_up _ x7 x3 y x _ _ _ (by norm_num) hh0 (by omega)

theorem dy_D (h0 : t.val % 11 = 0) (h1 : ¬t.val % 176 = 0) (h2 : ¬t.val % 11 = 10) :
    out0_D_11 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) (fun h => h1 ((hcond0_1 t).mp h)) (fun h => h2 ((hcond0_2 t).mp h)) x0 x1 x2 x3 x4 x5 x6 x7
      = (k0_pay22 (F := Ideal) x0) := by
  funext y
  frame_out
  unfold k0_pay25
  pointwise

theorem gate_B (h0 : ¬t.val % 11 = 0) (h1 : ¬t.val % 176 = 0) (h2 : ¬t.val % 11 = 10) (y : S512x512.Idx) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) (fun h => h2 ((hcond0_2 t).mp h)) x0 x1 x2 x3 x4 x5 x6 x7 p v y
      = gateB v x7 x3 x4 y := by
  frame_out
  canon_tiles x hh
  all_goals open_payloads
  all_goals exact piece_gate _ x7 x3 x4 y x _ _ _ (by norm_num) hh0 (by omega)

theorem up_B (h0 : ¬t.val % 11 = 0) (h1 : ¬t.val % 176 = 0) (h2 : ¬t.val % 11 = 10) (y : S512x512.Idx) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) (fun h => h2 ((hcond0_2 t).mp h)) x0 x1 x2 x3 x4 x5 x6 x7 p v y
      = upB v x7 x3 y := by
  frame_out
  canon_tiles x hh
  all_goals open_payloads
  all_goals exact piece_up _ x7 x3 y x _ _ _ (by norm_num) hh0 (by omega)

theorem dy_B (h0 : ¬t.val % 11 = 0) (h1 : ¬t.val % 176 = 0) (h2 : ¬t.val % 11 = 10) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) (fun h => h2 ((hcond0_2 t).mp h)) x0 x1 x2 x3 x4 x5 x6 x7 p v
      = v := by
  funext y
  frame_out
  unfold k0_pay25
  pointwise

theorem gate_C (h0 : ¬t.val % 11 = 0) (h1 : ¬t.val % 176 = 0) (h2 : t.val % 11 = 10) (y : S512x512.Idx) :
    out0_C_9 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) ((hcond0_2 t).mpr h2) x0 x1 x2 x3 x4 x5 x6 x7 p v q y
      = gateB v x7 x3 x4 y := by
  frame_out
  canon_tiles x hh
  all_goals open_payloads
  all_goals exact piece_gate _ x7 x3 x4 y x _ _ _ (by norm_num) hh0 (by omega)

theorem up_C (h0 : ¬t.val % 11 = 0) (h1 : ¬t.val % 176 = 0) (h2 : t.val % 11 = 10) (y : S512x512.Idx) :
    out0_C_10 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) ((hcond0_2 t).mpr h2) x0 x1 x2 x3 x4 x5 x6 x7 p v q y
      = upB v x7 x3 y := by
  frame_out
  canon_tiles x hh
  all_goals open_payloads
  all_goals exact piece_up _ x7 x3 y x _ _ _ (by norm_num) hh0 (by omega)

theorem dy_C (h0 : ¬t.val % 11 = 0) (h1 : ¬t.val % 176 = 0) (h2 : t.val % 11 = 10) :
    out0_C_11 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) ((hcond0_2 t).mpr h2) x0 x1 x2 x3 x4 x5 x6 x7 p v q
      = v := by
  funext y
  frame_out
  unfold k0_pay25
  pointwise

end

end Cert.Ffn.Ffnx

end
-- ==== Proof.Ffn.FfnxPoint.lean ====
/- What one point of the feed-forward block's backward launch does to the sum over the tiles and to the gain's gradient. -/
module

public import proofs.«01_k».proof.Proof.Ffn.FfnxGates

@[expose] public section

set_option maxRecDepth 16384

noncomputable section

namespace Cert.Ffn.Ffnx

open Cert.FfnxKernelIdeal Cert.FfnxKernelIdeal.Gen Idealize.ShloMosaic Idealize.ShloMosaic.TcCoe Idealize.SL.Sem

/-! ## The two blocks read back whole -/

theorem emb_col (n : ℕ) (inb) (x : S512x256.Idx) : (((Rect.unit (s := S512x512) ![0, n] ![512, 256] inb).emb x) 0).val = (x 0).val
    ∧ (((Rect.unit (s := S512x512) ![0, n] ![512, 256] inb).emb x) 1).val = n + (x 1).val := by
  constructor
  · exact (Rect.idx_unit_val ..).trans (Nat.zero_add _)
  · exact Rect.idx_unit_val ..

theorem whole_idx (inb) (j : S512x512.Idx) : (Rect.unit (s := S512x512) ![0, 0] ![512, 512] inb).toLoadRect.idx j = j := by
  refine funext fun a => Fin.ext ?_
  refine (Rect.idx_unit_val ..).trans ?_
  fin_cases a <;> exact Nat.zero_add _

section

variable (d w : Vec Ideal S512x2048 .bf16) (g u : Vec Ideal S512x512 .bf16) (t : Fin cfg0.N)

theorem gate_read : (ms0_9 t).view.readCov (Val := Elt Ideal)
      [⟨Rect.unit (s := S512x512) ![0, 256] ![512, 256] inb_S512x512_S512x256_0_256,
          k0_pay34 (F := Ideal) (k0_pay25 (F := Ideal) d) (View.ld w (Rect.unit (s := S512x2048) ![256, 0] ![256, 2048] inb_S512x2048_S256x2048_256_0))
            (View.ld g (Rect.unit (s := S512x512) ![0, 256] ![512, 256] inb_S512x512_S512x256_0_256))
            (View.ld u (Rect.unit (s := S512x512) ![0, 256] ![512, 256] inb_S512x512_S512x256_0_256))⟩,
        ⟨Rect.unit (s := S512x512) ![0, 0] ![512, 256] inb_S512x512_S512x256_0_0,
          k0_pay29 (F := Ideal) d (View.ld w (Rect.unit (s := S512x2048) ![0, 0] ![256, 2048] inb_S512x2048_S256x2048_0_0))
            (View.ld g (Rect.unit (s := S512x512) ![0, 0] ![512, 256] inb_S512x512_S512x256_0_0))
            (View.ld u (Rect.unit (s := S512x512) ![0, 0] ![512, 256] inb_S512x512_S512x256_0_0))⟩]
      (Rect.unit (s := S512x512) ![0, 0] ![512, 512] inb_S512x512_S512x512_0_0).toLoadRect = gateB d w g u := by
  rw [View.readCov_eq_canon']
  funext j
  rw [whole_idx]
  refine View.canon_append_of_piecesOf (Val := Elt Ideal) (e := .bf16) (gateB d w g u) [] [_, _] ⟨?_, ?_, trivial⟩ j ?_
  · exact fun x => piece_gate d w g u _ x 256 _ _ (by norm_num) (emb_col 256 inb_S512x512_S512x256_0_256 x).1 (emb_col 256 inb_S512x512_S512x256_0_256 x).2
  · exact fun x => piece_gate d w g u _ x 0 _ _ (by norm_num) (emb_col 0 inb_S512x512_S512x256_0_0 x).1 (emb_col 0 inb_S512x512_S512x256_0_0 x).2
  · exact View.cover_of_tiledL _ ![512, 256] rfl j

theorem up_read : (ms0_10 t).view.readCov (Val := Elt Ideal)
      [⟨Rect.unit (s := S512x512) ![0, 256] ![512, 256] inb_S512x512_S512x256_0_256,
          k0_pay35 (F := Ideal) (k0_pay25 (F := Ideal) d) (View.ld w (Rect.unit (s := S512x2048) ![256, 0] ![256, 2048] inb_S512x2048_S256x2048_256_0))
            (View.ld g (Rect.unit (s := S512x512) ![0, 256] ![512, 256] inb_S512x512_S512x256_0_256))⟩,
        ⟨Rect.unit (s := S512x512) ![0, 0] ![512, 256] inb_S512x512_S512x256_0_0,
          k0_pay30 (F := Ideal) d (View.ld w (Rect.unit (s := S512x2048) ![0, 0] ![256, 2048] inb_S512x2048_S256x2048_0_0))
            (View.ld g (Rect.unit (s := S512x512) ![0, 0] ![512, 256] inb_S512x512_S512x256_0_0))⟩]
      (Rect.unit (s := S512x512) ![0, 0] ![512, 512] inb_S512x512_S512x512_0_0).toLoadRect = upB d w g := by
  rw [View.readCov_eq_canon']
  funext j
  rw [whole_idx]
  refine View.canon_append_of_piecesOf (Val := Elt Ideal) (e := .bf16) (upB d w g) [] [_, _] ⟨?_, ?_, trivial⟩ j ?_
  · exact fun x => piece_up d w g _ x 256 _ _ (by norm_num) (emb_col 256 inb_S512x512_S512x256_0_256 x).1 (emb_col 256 inb_S512x512_S512x256_0_256 x).2
  · exact fun x => piece_up d w g _ x 0 _ _ (by norm_num) (emb_col 0 inb_S512x512_S512x256_0_0 x).1 (emb_col 0 inb_S512x512_S512x256_0_0 x).2
  · exact View.cover_of_tiledL _ ![512, 256] rfl j

end

/-! ## The sum over the tiles and the norm -/

theorem pay_tile (p : Vec Ideal S512x2048 .f32) (g u : Vec Ideal S512x512 .bf16) (a b : Vec Ideal S512x2048 .bf16) (y : S512x2048.Idx) :
    k0_pay1 (F := Ideal) (k0_pay36 (F := Ideal) p) (k0_pay37 (F := Ideal) g a) u b y = p y + tile g u a b y := by
  idx_vars y
  unfold_payloads
  pointwise [tile]

theorem pay_dx (x : Vec Ideal S128x2048 .f32) (g : Vec Ideal S1x2048 .f32) (d o : Vec Ideal S128x2048 .f32) (y : S128x2048.Idx) :
    k0_pay10 (F := Ideal) x g d o y
      = o y + rowDx (fun k => x (ix2 (y 0) k)) (fun k => g (ix2 0 k)) (fun k => d (ix2 (y 0) k)) (y 1) := by
  idx_vars y
  unfold_payloads
  pointwise [rowDx, rowInv]

theorem pay_dg (x d : Vec Ideal S128x2048 .f32) (q : Vec Ideal S1x2048 .f32) (j : S1x2048.Idx) :
    k0_pay11 (F := Ideal) x d q j = q j + ∑ r : Fin 128, rowDg (fun k => x (ix2 r k)) (fun k => d (ix2 r k)) (j 1) := by
  idx_vars j
  unfold_payloads
  pointwise [rowDg, rowInv]

theorem chunk_dx (o x : Vec Ideal S512x2048 .f32) (g : Vec Ideal S1x2048 .f32) (d : Vec Ideal S512x2048 .f32) (n : ℕ) (inb) (hn : n + 128 ≤ 512)
    (z : (Rect.unit (s := S512x2048) ![n, 0] ![128, 2048] inb).shape.Idx) :
    k0_pay10 (F := Ideal) (View.ld x (Rect.unit (s := S512x2048) ![n, 0] ![128, 2048] inb)) g
      (View.ld d (Rect.unit (s := S512x2048) ![n, 0] ![128, 2048] inb)) (View.ld o (Rect.unit (s := S512x2048) ![n, 0] ![128, 2048] inb)) z
      = dxBlock o x g d ((Rect.unit (s := S512x2048) ![n, 0] ![128, 2048] inb).emb z) := by
  have hz : (Rect.unit (s := S512x2048) ![n, 0] ![128, 2048] inb).emb z = ix2 ⟨n + (z 0).val, by have : (z 0).val < 128 := (z 0).isLt; omega⟩ (z 1) := by
    refine funext fun a => Fin.ext ?_
    refine (Rect.idx_unit_val ..).trans ?_
    fin_cases a
    · rfl
    · exact Nat.zero_add _
  refine (pay_dx _ _ _ _ z).trans ?_
  rw [hz]
  unfold dxBlock
  refine congrArg₂ (· + ·) (congrArg o hz) ?_
  exact congrArg₂ (fun u v => rowDx u (fun k => g (ix2 0 k)) v (z 1)) (funext fun k => ld_chunk x n inb (z 0) k hn)
    (funext fun k => ld_chunk d n inb (z 0) k hn)

theorem chunk_dg (x d : Vec Ideal S512x2048 .f32) (q : Vec Ideal S1x2048 .f32) (n : ℕ) (inb) (hn : n + 128 ≤ 512) (j : S1x2048.Idx) :
    k0_pay11 (F := Ideal) (View.ld x (Rect.unit (s := S512x2048) ![n, 0] ![128, 2048] inb))
      (View.ld d (Rect.unit (s := S512x2048) ![n, 0] ![128, 2048] inb)) q j = q j + ∑ r, rowDg (chunk x n hn r) (chunk d n hn r) (j 1) := by
  rw [pay_dg]
  refine congrArg (q j + ·) (Finset.sum_congr rfl fun r _ => ?_)
  exact congrArg₂ (fun u v => rowDg u v (j 1)) (funext fun k => ld_chunk x n inb r k hn) (funext fun k => ld_chunk d n inb r k hn)

section

variable (x0 x1 : Vec Ideal S512x2048 .f32) (x2 : Vec Ideal S1x2048 .f32) (x3 x4 : Vec Ideal S512x512 .bf16) (x5 x6 x7 : Vec Ideal S512x2048 .bf16)
  (p : Vec Ideal S512x2048 .f32) (v : Vec Ideal S512x2048 .bf16) (q : Vec Ideal S1x2048 .f32) (c : Dev nD) (t : Fin cfg0.N)

theorem dx_A (h0 : t.val % 11 = 0) (h1 : t.val % 176 = 0) (h2 : ¬t.val % 11 = 10) (y : S512x2048.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) ((hcond0_1 t).mpr h1) (fun h => h2 ((hcond0_2 t).mp h)) x0 x1 x2 x3 x4 x5 x6 x7 y
      = 0 + tile (gateB (k0_pay22 (F := Ideal) x0) x7 x3 x4) (upB (k0_pay22 (F := Ideal) x0) x7 x3) x5 x6 y := by
  frame_out
  rw [gate_read, up_read, pay_tile]
  unfold k0_pay23
  pointwise

theorem dx_D (h0 : t.val % 11 = 0) (h1 : ¬t.val % 176 = 0) (h2 : ¬t.val % 11 = 10) (y : S512x2048.Idx) :
    out0_D_8 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) (fun h => h1 ((hcond0_1 t).mp h)) (fun h => h2 ((hcond0_2 t).mp h)) x0 x1 x2 x3 x4 x5 x6 x7 y
      = 0 + tile (gateB (k0_pay22 (F := Ideal) x0) x7 x3 x4) (upB (k0_pay22 (F := Ideal) x0) x7 x3) x5 x6 y := by
  frame_out
  rw [gate_read, up_read, pay_tile]
  unfold k0_pay23
  pointwise

theorem dx_B (h0 : ¬t.val % 11 = 0) (h1 : ¬t.val % 176 = 0) (h2 : ¬t.val % 11 = 10) (y : S512x2048.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) (fun h => h2 ((hcond0_2 t).mp h)) x0 x1 x2 x3 x4 x5 x6 x7 p v y
      = p y + tile (gateB v x7 x3 x4) (upB v x7 x3) x5 x6 y := by
  frame_out
  rw [gate_read, up_read, pay_tile]

theorem dx_C (h0 : ¬t.val % 11 = 0) (h1 : ¬t.val % 176 = 0) (h2 : t.val % 11 = 10) (y : S512x2048.Idx) :
    out0_C_8 (F := Ideal) c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) ((hcond0_2 t).mpr h2) x0 x1 x2 x3 x4 x5 x6 x7 p v q y
      = dxBlock x0 x1 x2 (fun i => p i + tile (gateB v x7 x3 x4) (upB v x7 x3) x5 x6 i) y := by
  have e : k0_pay1 (F := Ideal) (k0_pay36 (F := Ideal) p) (k0_pay37 (F := Ideal) (gateB v x7 x3 x4) x5) (upB v x7 x3) x6
      = fun i => p i + tile (gateB v x7 x3 x4) (upB v x7 x3) x5 x6 i := funext (pay_tile p (gateB v x7 x3 x4) (upB v x7 x3) x5 x6)
  rw [← e]
  frame_open
  simp (disch := decide) only [↓View.readCov_skip, ↓View.readCov_cons_toLoadRect, ↓View.readCov_fill]
  frame_out
  rw [gate_read, up_read]
  refine View.canon_append_of_piecesOf (Val := Elt Ideal) (e := .f32) (dxBlock x0 x1 x2 _) [_] [_, _, _, _] ⟨?_, ?_, ?_, ?_, trivial⟩ y ?_
  · exact fun z => chunk_dx x0 x1 x2 _ 384 _ (by norm_num) z
  · exact fun z => chunk_dx x0 x1 x2 _ 256 _ (by norm_num) z
  · exact fun z => chunk_dx x0 x1 x2 _ 128 _ (by norm_num) z
  · exact fun z => chunk_dx x0 x1 x2 _ 0 _ (by norm_num) z
  · exact View.cover_of_tiledL _ ![128, 2048] rfl y

theorem dg_C (h0 : ¬t.val % 11 = 0) (h1 : ¬t.val % 176 = 0) (h2 : t.val % 11 = 10) (y : S1x2048.Idx) :
    out0_C_12 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) ((hcond0_2 t).mpr h2) x0 x1 x2 x3 x4 x5 x6 x7 p v q y
      = q y + dgBlock x1 (fun i => p i + tile (gateB v x7 x3 x4) (upB v x7 x3) x5 x6 i) y := by
  have e : k0_pay1 (F := Ideal) (k0_pay36 (F := Ideal) p) (k0_pay37 (F := Ideal) (gateB v x7 x3 x4) x5) (upB v x7 x3) x6
      = fun i => p i + tile (gateB v x7 x3 x4) (upB v x7 x3) x5 x6 i := funext (pay_tile p (gateB v x7 x3 x4) (upB v x7 x3) x5 x6)
  rw [← e]
  frame_open
  simp (disch := decide) only [↓View.readCov_skip, ↓View.readCov_cons_toLoadRect, ↓View.readCov_fill]
  frame_out
  rw [gate_read, up_read]
  refine (chunk_dg x1 _ _ 384 _ (by norm_num) y).trans ?_
  refine (congrArg (· + _) ((chunk_dg x1 _ _ 256 _ (by norm_num) y).trans ?_)).trans (four x1 _ _ y)
  refine congrArg (· + _) ((chunk_dg x1 _ _ 128 _ (by norm_num) y).trans ?_)
  exact congrArg (· + _) (chunk_dg x1 _ _ 0 _ (by norm_num) y)

theorem dg_A (h0 : t.val % 11 = 0) (h1 : t.val % 176 = 0) (h2 : ¬t.val % 11 = 10) (y : S1x2048.Idx) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) ((hcond0_1 t).mpr h1) (fun h => h2 ((hcond0_2 t).mp h)) x0 x1 x2 x3 x4 x5 x6 x7 y
      = 0 := by
  frame_out
  unfold k0_pay24
  pointwise

theorem dg_D (h0 : t.val % 11 = 0) (h1 : ¬t.val % 176 = 0) (h2 : ¬t.val % 11 = 10) :
    out0_D_12 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) ((hcond0_0 t).mpr h0) (fun h => h1 ((hcond0_1 t).mp h)) (fun h => h2 ((hcond0_2 t).mp h)) x0 x1 x2 x3 x4 x5 x6 x7 q
      = q := by
  rfl

theorem dg_B (h0 : ¬t.val % 11 = 0) (h1 : ¬t.val % 176 = 0) (h2 : ¬t.val % 11 = 10) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5
      t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t)
      (hs0_12 t) (fun h => h0 ((hcond0_0 t).mp h)) (fun h => h1 ((hcond0_1 t).mp h)) (fun h => h2 ((hcond0_2 t).mp h)) x0 x1 x2 x3 x4 x5 x6 x7 p v q
      = q := by
  rfl

end

end Cert.Ffn.Ffnx

end
-- ==== Proof.Ffn.Ffnx.lean ====
/- What the five arrays of the feed-forward block's backward launch hold after its run. -/
module

public import proofs.«01_k».proof.Proof.Gen.FfnxKernelIdeal.Value
public import proofs.«01_k».proof.Proof.Ffn.FfnxPoint
public import Idealize.ShloMosaic.Lib.Pipeline.ReadBack

@[expose] public section

set_option maxRecDepth 16384

noncomputable section

namespace Cert.Ffn.Ffnx

open Cert.FfnxKernelIdeal Cert.FfnxKernelIdeal.Gen Idealize.ShloMosaic Idealize.ShloMosaic.TcCoe Idealize.SL.Sem
open Idealize.ShloMosaic.Pipeline (Dat)

variable (m : (ℓ : Loc nD τ sig) → Buf (Elt Ideal) ℓ)

/-! ## What the blocks are -/

theorem idx : ∀ t : Fin cfg0.N, (win0_0.index t = ![t.val / 11, 0] ∧ win0_1.index t = ![t.val / 11, 0]
    ∧ win0_2.index t = ![0, 0] ∧ win0_3.index t = ![t.val / 11, t.val % 11] ∧ win0_4.index t = ![t.val / 11, t.val % 11]
    ∧ win0_5.index t = ![t.val % 11, 0] ∧ win0_6.index t = ![t.val % 11, 0] ∧ win0_7.index t = ![t.val % 11, 0])
    ∧ win0_8.index t = ![t.val / 11, 0] ∧ win0_9.index t = ![t.val / 11, t.val % 11] ∧ win0_10.index t = ![t.val / 11, t.val % 11]
    ∧ win0_11.index t = ![t.val / 11, 0] ∧ win0_12.index t = ![0, 0] :=
  (by decide +kernel : ∀ t : Fin grid0.N, _)

/-- Row `r` of a point's block of tokens. -/
def row (t : Fin cfg0.N) (r : Fin 512) : Fin 8192 := ⟨t.val / 11 * 512 + r.val, by have : t.val < 176 := t.isLt; omega⟩

/-- Column `r` of a point's block of hidden columns. -/
def col (t : Fin cfg0.N) (r : Fin 512) : Fin 5632 := ⟨t.val % 11 * 512 + r.val, by omega⟩

section
variable (c : Dev nD) (A : (b : Ref sig .tc) → Buf (Elt Ideal) ((c : Thread nD τ).loc b)) (t : Fin cfg0.N)

theorem read_0 (r : Fin 512) (k : Fin 2048) : ((cfg0.win 0).blk t).view.read (Elt Ideal) (A (Pipeline.arrRef spec0 0)) (ix2 r k)
    = (A main_arg0 : Vec Ideal S8192x2048 .f32) (ix2 (row t r) k) := by
  blk_point [idx t, row]

theorem read_1 (r : Fin 512) (k : Fin 2048) : ((cfg0.win 1).blk t).view.read (Elt Ideal) (A (Pipeline.arrRef spec0 1)) (ix2 r k)
    = (A main_arg1 : Vec Ideal S8192x2048 .f32) (ix2 (row t r) k) := by
  blk_point [idx t, row]

theorem read_2 (r : Fin 1) (k : Fin 2048) : ((cfg0.win 2).blk t).view.read (Elt Ideal) (A (Pipeline.arrRef spec0 2)) (ix2 r k)
    = (A main_arg2 : Vec Ideal S1x2048 .f32) (ix2 r k) := by
  blk_point [idx t]

theorem read_3 (r j : Fin 512) : ((cfg0.win 3).blk t).view.read (Elt Ideal) (A (Pipeline.arrRef spec0 3)) (ix2 r j)
    = (A main_v24 : Vec Ideal S8192x5632 .bf16) (ix2 (row t r) (col t j)) := by
  blk_point [idx t, row, col]

theorem read_4 (r j : Fin 512) : ((cfg0.win 4).blk t).view.read (Elt Ideal) (A (Pipeline.arrRef spec0 4)) (ix2 r j)
    = (A main_v28 : Vec Ideal S8192x5632 .bf16) (ix2 (row t r) (col t j)) := by
  blk_point [idx t, row, col]

theorem read_5 (r : Fin 512) (k : Fin 2048) : ((cfg0.win 5).blk t).view.read (Elt Ideal) (A (Pipeline.arrRef spec0 5)) (ix2 r k)
    = (A main_v3 : Vec Ideal S5632x2048 .bf16) (ix2 (col t r) k) := by
  blk_point [idx t, col]

theorem read_6 (r : Fin 512) (k : Fin 2048) : ((cfg0.win 6).blk t).view.read (Elt Ideal) (A (Pipeline.arrRef spec0 6)) (ix2 r k)
    = (A main_v5 : Vec Ideal S5632x2048 .bf16) (ix2 (col t r) k) := by
  blk_point [idx t, col]

theorem read_7 (r : Fin 512) (k : Fin 2048) : ((cfg0.win 7).blk t).view.read (Elt Ideal) (A (Pipeline.arrRef spec0 7)) (ix2 r k)
    = (A main_v7 : Vec Ideal S5632x2048 .bf16) (ix2 (col t r) k) := by
  blk_point [idx t, col]

end

section
variable (c : Dev nD)

/-- The cotangent as the launch finds it. -/
def O : SX.Idx → EReal := (V m c main_arg0 : Vec Ideal S8192x2048 .f32)

/-- The block's input. -/
def X : SX.Idx → EReal := (V m c main_arg1 : Vec Ideal S8192x2048 .f32)

/-- The norm's gain. -/
def G : SG.Idx → EReal := (V m c main_arg2 : Vec Ideal S1x2048 .f32)

/-- The saved gate. -/
def Gt : SF.Idx → EReal := (V m c main_v24 : Vec Ideal S8192x5632 .bf16)

/-- The saved other factor. -/
def Up : SF.Idx → EReal := (V m c main_v28 : Vec Ideal S8192x5632 .bf16)

/-- The gate's padded weights. -/
def Wg : SW.Idx → EReal := (V m c main_v3 : Vec Ideal S5632x2048 .bf16)

/-- The other factor's padded weights. -/
def Wu : SW.Idx → EReal := (V m c main_v5 : Vec Ideal S5632x2048 .bf16)

/-- The last projection's padded weights. -/
def Wd : SW.Idx → EReal := (V m c main_v7 : Vec Ideal S5632x2048 .bf16)

/-- The gate's gradient. -/
def DG : SF.Idx → EReal := dgate (O m c) (Wd m c) (Gt m c) (Up m c)

/-- The other factor's gradient. -/
def DU : SF.Idx → EReal := dup (O m c) (Wd m c) (Gt m c)

/-- The gradient in the normalised input. -/
def DH : SX.Idx → EReal := back (DG m c) (DU m c) (Wg m c) (Wu m c)

/-! ## The half cotangent that the points of a row of tiles hand on -/

theorem pay_dy (t : Fin cfg0.N) (r : Fin 512) (k : Fin 2048) :
    k0_pay22 (F := Ideal) (iblk m c 0 t) (ix2 r k) = dy (O m c) (ix2 (row t r) k) := by
  rw [half]
  exact congrArg _ (read_0 c (V m c) t r k)

theorem left_first (t : Fin cfg0.N) (h0 : t.val % 11 = 0) :
    (outsAt0 m c t.val t.isLt).2.2.2.1 = k0_pay22 (F := Ideal) (iblk m c 0 t) := by
  have h2 : ¬t.val % 11 = 10 := by omega
  by_cases h1 : t.val % 176 = 0
  · rw [outsAt0_A m c t h0 h1 h2]
    dsimp only
    exact dy_A _ _ _ _ _ _ _ _ c t h0 h1 h2
  · rw [outsAt0_D m c t h0 h1 h2]
    dsimp only
    exact dy_D _ _ _ _ _ _ _ _ c t h0 h1 h2

theorem left_next (t : Fin cfg0.N) (h0 : ¬t.val % 11 = 0) :
    (outsAt0 m c t.val t.isLt).2.2.2.1 = (outsAt0 m c (t.val - 1) (Nat.lt_of_le_of_lt (Nat.sub_le _ _) t.isLt)).2.2.2.1 := by
  have h1 : ¬t.val % 176 = 0 := by omega
  by_cases h2 : t.val % 11 = 10
  · rw [outsAt0_C m c t h0 h1 h2]
    dsimp only
    exact dy_C _ _ _ _ _ _ _ _ _ _ _ c t h0 h1 h2
  · rw [outsAt0_B m c t h0 h1 h2]
    dsimp only
    exact dy_B _ _ _ _ _ _ _ _ _ _ c t h0 h1 h2

/-- Every point leaves half of its rows' cotangent. -/
theorem carried (n : ℕ) (hn : n < cfg0.N) (r : Fin 512) (k : Fin 2048) :
    (outsAt0 m c n hn).2.2.2.1 (ix2 r k) = dy (O m c) (ix2 (row ⟨n, hn⟩ r) k) := by
  induction n with
  | zero =>
    have e := left_first m c ⟨0, hn⟩ (Nat.zero_mod _)
    dsimp only at e
    rw [e]
    exact pay_dy m c ⟨0, hn⟩ r k
  | succ n ih =>
    by_cases h : (n + 1) % 11 = 0
    · have e := left_first m c ⟨n + 1, hn⟩ h
      dsimp only at e
      rw [e]
      exact pay_dy m c ⟨n + 1, hn⟩ r k
    · have e := left_next m c ⟨n + 1, hn⟩ h
      simp only [Nat.add_sub_cancel] at e
      rw [e, ih]
      refine congrArg _ (congrArg₂ ix2 (Fin.ext ?_) rfl)
      show n / 11 * 512 + r.val = (n + 1) / 11 * 512 + r.val
      omega

/-- What the point before a point inside a row of tiles leaves is what the point itself would. -/
theorem before (t : Fin cfg0.N) (h : ¬t.val % 11 = 0) (hp : t.val - 1 < cfg0.N) (r : Fin 512) (k : Fin 2048) :
    (outsAt0 m c (t.val - 1) hp).2.2.2.1 (ix2 r k) = dy (O m c) (ix2 (row t r) k) := by
  rw [← left_next m c t h]
  exact carried m c t.val t.isLt r k

/-! ## The two hidden gradients -/

/-- A point's block of the gate's gradient. -/
def gblk (t : Fin cfg0.N) (y : S512x512.Idx) : EReal := DG m c (ix2 (row t (y 0)) (col t (y 1)))

/-- A point's block of the other factor's gradient. -/
def ublk (t : Fin cfg0.N) (y : S512x512.Idx) : EReal := DU m c (ix2 (row t (y 0)) (col t (y 1)))

/-- The product's gradient at a point's block, where the block of rows holds half of the cotangent. -/
theorem dact_eq (t : Fin cfg0.N) (d : Vec Ideal S512x2048 .bf16) (hd : ∀ r k, d (ix2 r k) = dy (O m c) (ix2 (row t r) k)) (y : S512x512.Idx) :
    dactB d (iblk m c 7 t) y = proj (dy (O m c)) (Wd m c) (ix2 (row t (y 0)) (col t (y 1))) :=
  Finset.sum_congr rfl fun k _ => congrArg₂ (· * ·) (hd (y 0) k) (read_7 c (V m c) t (y 1) k)

theorem read_gate (t : Fin cfg0.N) (y : S512x512.Idx) : iblk m c 3 t y = Gt m c (ix2 (row t (y 0)) (col t (y 1))) := by
  idx_vars y; exact read_3 c (V m c) t _ _

theorem read_up (t : Fin cfg0.N) (y : S512x512.Idx) : iblk m c 4 t y = Up m c (ix2 (row t (y 0)) (col t (y 1))) := by
  idx_vars y; exact read_4 c (V m c) t _ _

theorem gate_eq (t : Fin cfg0.N) (d : Vec Ideal S512x2048 .bf16) (hd : ∀ r k, d (ix2 r k) = dy (O m c) (ix2 (row t r) k)) :
    gateB d (iblk m c 7 t) (iblk m c 3 t) (iblk m c 4 t) = gblk m c t := by
  funext y
  unfold gateB
  rw [dact_eq m c t d hd, read_gate, read_up]
  rfl

theorem up_eq (t : Fin cfg0.N) (d : Vec Ideal S512x2048 .bf16) (hd : ∀ r k, d (ix2 r k) = dy (O m c) (ix2 (row t r) k)) :
    upB d (iblk m c 7 t) (iblk m c 3 t) = ublk m c t := by
  funext y
  unfold upB
  rw [dact_eq m c t d hd, read_gate]
  rfl

theorem gate_at (t : Fin cfg0.N) (y : S512x512.Idx) : (outsAt0 m c t.val t.isLt).2.1 y = gblk m c t y := by
  by_cases h0 : t.val % 11 = 0
  · have h2 : ¬t.val % 11 = 10 := by omega
    rw [← gate_eq m c t _ (pay_dy m c t)]
    by_cases h1 : t.val % 176 = 0
    · rw [outsAt0_A m c t h0 h1 h2]
      dsimp only
      exact gate_A _ _ _ _ _ _ _ _ c t h0 h1 h2 y
    · rw [outsAt0_D m c t h0 h1 h2]
      dsimp only
      exact gate_D _ _ _ _ _ _ _ _ c t h0 h1 h2 y
  · have h1 : ¬t.val % 176 = 0 := by omega
    rw [← gate_eq m c t _ (before m c t h0 (Nat.lt_of_le_of_lt (Nat.sub_le _ _) t.isLt))]
    by_cases h2 : t.val % 11 = 10
    · rw [outsAt0_C m c t h0 h1 h2]
      dsimp only
      exact gate_C _ _ _ _ _ _ _ _ _ _ _ c t h0 h1 h2 y
    · rw [outsAt0_B m c t h0 h1 h2]
      dsimp only
      exact gate_B _ _ _ _ _ _ _ _ _ _ c t h0 h1 h2 y

theorem up_at (t : Fin cfg0.N) (y : S512x512.Idx) : (outsAt0 m c t.val t.isLt).2.2.1 y = ublk m c t y := by
  by_cases h0 : t.val % 11 = 0
  · have h2 : ¬t.val % 11 = 10 := by omega
    rw [← up_eq m c t _ (pay_dy m c t)]
    by_cases h1 : t.val % 176 = 0
    · rw [outsAt0_A m c t h0 h1 h2]
      dsimp only
      exact up_A _ _ _ _ _ _ _ _ c t h0 h1 h2 y
    · rw [outsAt0_D m c t h0 h1 h2]
      dsimp only
      exact up_D _ _ _ _ _ _ _ _ c t h0 h1 h2 y
  · have h1 : ¬t.val % 176 = 0 := by omega
    rw [← up_eq m c t _ (before m c t h0 (Nat.lt_of_le_of_lt (Nat.sub_le _ _) t.isLt))]
    by_cases h2 : t.val % 11 = 10
    · rw [outsAt0_C m c t h0 h1 h2]
      dsimp only
      exact up_C _ _ _ _ _ _ _ _ _ _ _ c t h0 h1 h2 y
    · rw [outsAt0_B m c t h0 h1 h2]
      dsimp only
      exact up_B _ _ _ _ _ _ _ _ _ _ c t h0 h1 h2 y

/-! ## The sum over a row's tiles -/

/-- What a point's tile adds. -/
def term (t : Fin cfg0.N) (y : S512x2048.Idx) : EReal := tile (gblk m c t) (ublk m c t) (iblk m c 5 t) (iblk m c 6 t) y

/-- The sum over the tiles of a row up to a point: at a row's last point the block no longer holds it. -/
def acc (n : ℕ) (hn : n < cfg0.N) (y : S512x2048.Idx) : EReal :=
  if n % 11 = 10 then (outsAt0 m c (n - 1) (Nat.lt_of_le_of_lt (Nat.sub_le _ _) hn)).1 y + term m c ⟨n, hn⟩ y else (outsAt0 m c n hn).1 y

theorem acc_first (t : Fin cfg0.N) (h0 : t.val % 11 = 0) (y : S512x2048.Idx) : acc m c t.val t.isLt y = 0 + term m c t y := by
  have h2 : ¬t.val % 11 = 10 := by omega
  unfold acc term
  rw [if_neg h2, ← gate_eq m c t _ (pay_dy m c t), ← up_eq m c t _ (pay_dy m c t)]
  by_cases h1 : t.val % 176 = 0
  · rw [outsAt0_A m c t h0 h1 h2]
    dsimp only
    exact dx_A _ _ _ _ _ _ _ _ c t h0 h1 h2 y
  · rw [outsAt0_D m c t h0 h1 h2]
    dsimp only
    exact dx_D _ _ _ _ _ _ _ _ c t h0 h1 h2 y

theorem acc_next (t : Fin cfg0.N) (h0 : ¬t.val % 11 = 0) (y : S512x2048.Idx) (hp : t.val - 1 < cfg0.N) :
    acc m c t.val t.isLt y = acc m c (t.val - 1) hp y + term m c t y := by
  have h1 : ¬t.val % 176 = 0 := by omega
  have hq : ¬(t.val - 1) % 11 = 10 := by omega
  have e : acc m c (t.val - 1) hp y = (outsAt0 m c (t.val - 1) hp).1 y := if_neg hq
  rw [e]
  by_cases h2 : t.val % 11 = 10
  · exact if_pos h2
  · refine (if_neg h2).trans ?_
    unfold term
    rw [← gate_eq m c t _ (before m c t h0 hp), ← up_eq m c t _ (before m c t h0 hp), outsAt0_B m c t h0 h1 h2]
    dsimp only
    exact dx_B _ _ _ _ _ _ _ _ _ _ c t h0 h1 h2 y

theorem term_eq (t : Fin cfg0.N) (y : S512x2048.Idx) :
    term m c t y = share (DG m c) (DU m c) (Wg m c) (Wu m c) (row t (y 0)) (y 1) ⟨t.val % 11, Nat.mod_lt _ (by norm_num)⟩ :=
  congrArg₂ (· + ·)
    (Finset.sum_congr rfl fun f _ => congrArg (gblk m c t (ix2 (y 0) f) * ·) (read_5 c (V m c) t f (y 1)))
    (Finset.sum_congr rfl fun f _ => congrArg (ublk m c t (ix2 (y 0) f) * ·) (read_6 c (V m c) t f (y 1)))

/-- At a row's last point the sum is complete. -/
theorem acc_last (t : Fin cfg0.N) (h2 : t.val % 11 = 10) (y : S512x2048.Idx) : acc m c t.val t.isLt y = DH m c (ix2 (row t (y 0)) (y 1)) := by
  refine (Pipeline.eq_sum_fin_of_reset_step_apply_of_flush (fun n h => acc m c n h) 11 (fun _ => (0 : EReal)) (term m c)
    (fun t h y => acc_first m c t h y) (fun t h y => acc_next m c t h y _) t h2 y).trans ?_
  unfold DH
  rw [zero_add]
  refine Eq.trans ?_ (sum_share _ _ _ _ (row t (y 0)) (y 1))
  refine Finset.sum_congr rfl fun s _ => ?_
  rw [term_eq]
  refine congrArg₂ (fun n s => share (DG m c) (DU m c) (Wg m c) (Wu m c) n (y 1) s) (Fin.ext ?_) (Fin.ext ?_)
  · show (11 * (t.val / 11) + s.val) / 11 * 512 + (y 0).val = t.val / 11 * 512 + (y 0).val; omega
  · show (11 * (t.val / 11) + s.val) % 11 = s.val; omega

/-- The block of sums that a row's last point takes through the norm. -/
theorem sums (t : Fin cfg0.N) (h0 : ¬t.val % 11 = 0) (h2 : t.val % 11 = 10) (hp : t.val - 1 < cfg0.N) :
    (fun i => (outsAt0 m c (t.val - 1) hp).1 i + tile (gateB (outsAt0 m c (t.val - 1) hp).2.2.2.1 (iblk m c 7 t) (iblk m c 3 t) (iblk m c 4 t))
        (upB (outsAt0 m c (t.val - 1) hp).2.2.2.1 (iblk m c 7 t) (iblk m c 3 t)) (iblk m c 5 t) (iblk m c 6 t) i : SB.Idx → EReal)
      = fun i => DH m c (ix2 (row t (i 0)) (i 1)) := by
  rw [gate_eq m c t _ (before m c t h0 hp), up_eq m c t _ (before m c t h0 hp)]
  exact funext fun i => (if_pos h2).symm.trans (acc_last m c t h2 i)

/-! ## The five arrays -/

/-- Where a point's block of hidden columns lies in the array. -/
theorem place (t : Fin cfg0.N) (y : S512x512.Idx) (z : SF.Idx) (n : Fin 2 → ℕ) (hn : n = ![t.val / 11, t.val % 11])
    (h0 : (z 0).val = n 0 * 512 + 1 * (y 0).val) (h1 : (z 1).val = n 1 * 512 + 1 * (y 1).val) : z = ix2 (row t (y 0)) (col t (y 1)) := by
  subst hn
  refine funext fun a => Fin.ext ?_
  fin_cases a
  · exact h0.trans (congrArg _ (Nat.one_mul _))
  · exact h1.trans (congrArg _ (Nat.one_mul _))

theorem gate_array : (dats m 0 c).arrAt 9 cfg0.N = (DG m c : Vec Ideal S8192x5632 .bf16) := by
  refine (dats m 0 c).arrAt_eq_of_covers 9 _ (by decide +kernel) fun t hf y => ?_
  blk_simp
  rw [after0_9]
  exact (gate_at m c t y).trans (congrArg (DG m c) (place t y _ (win0_9.index t) (idx t).2.2.1 rfl rfl).symm)

theorem up_array : (dats m 0 c).arrAt 10 cfg0.N = (DU m c : Vec Ideal S8192x5632 .bf16) := by
  refine (dats m 0 c).arrAt_eq_of_covers 10 _ (by decide +kernel) fun t hf y => ?_
  blk_simp
  rw [after0_10]
  exact (up_at m c t y).trans (congrArg (DU m c) (place t y _ (win0_10.index t) (idx t).2.2.2.1 rfl rfl).symm)

theorem dy_array : (dats m 0 c).arrAt 11 cfg0.N = (dy (O m c) : Vec Ideal S8192x2048 .bf16) := by
  refine (dats m 0 c).arrAt_eq_of_covers 11 _ (by decide +kernel) fun t hf y => ?_
  blk_simp
  rw [after0_11]
  refine ((congrArg (outsAt0 m c t.val t.isLt).2.2.2.1 (ix2_eta y)).symm.trans (carried m c t.val t.isLt (y 0) (y 1))).trans (congrArg _ ?_)
  refine funext fun a => Fin.ext ?_
  fin_cases a
  · show t.val / 11 * 512 + (y 0).val = win0_11.index t 0 * 512 + 1 * (y 0).val
    rw [(idx t).2.2.2.2.1, Nat.one_mul]; rfl
  · show (y 1).val = win0_11.index t 1 * 2048 + 1 * (y 1).val
    rw [(idx t).2.2.2.2.1, Nat.one_mul]; exact (Nat.zero_add _).symm

theorem dx_at (t : Fin cfg0.N) (h2 : t.val % 11 = 10) (y : S512x2048.Idx) :
    (outsAt0 m c t.val t.isLt).1 y = dxAll (O m c) (X m c) (G m c) (DH m c) (ix2 (row t (y 0)) (y 1)) := by
  have h0 : ¬t.val % 11 = 0 := by omega
  have h1 : ¬t.val % 176 = 0 := by omega
  rw [outsAt0_C m c t h0 h1 h2]
  dsimp only
  refine (dx_C _ _ _ _ _ _ _ _ _ _ _ c t h0 h1 h2 y).trans ?_
  rw [sums m c t h0 h2]
  unfold dxBlock dxAll
  refine congrArg₂ (· + ·) ?_ ?_
  · exact (congrArg _ (ix2_eta y)).symm.trans (read_0 c (V m c) t (y 0) (y 1))
  · have e1 : (fun k => (iblk m c 1 t : Vec Ideal S512x2048 .f32) (ix2 (y 0) k)) = fun k => X m c (ix2 (row t (y 0)) k) :=
      funext fun k => read_1 c (V m c) t (y 0) k
    have e2 : (fun k => (iblk m c 2 t : Vec Ideal S1x2048 .f32) (ix2 0 k)) = fun k => G m c (ix2 0 k) :=
      funext fun k => read_2 c (V m c) t 0 k
    exact congrArg₂ (fun u v => rowDx u v (fun k => DH m c (ix2 (row t (y 0)) k)) (y 1)) e1 e2

theorem dx_array : (dats m 0 c).arrAt 8 cfg0.N = (dxAll (O m c) (X m c) (G m c) (DH m c) : Vec Ideal S8192x2048 .f32) := by
  refine (dats m 0 c).arrAt_eq_of_covers 8 _ (by decide +kernel) fun t hf y => ?_
  have h2 : t.val % 11 = 10 := (flush0_8 t).mp hf
  blk_simp
  rw [after0_8, dx_at m c t h2 y]
  refine congrArg _ (funext fun a => Fin.ext ?_)
  fin_cases a
  · show t.val / 11 * 512 + (y 0).val = win0_8.index t 0 * 512 + 1 * (y 0).val
    rw [(idx t).2.1]; show _ = t.val / 11 * 512 + 1 * (y 0).val; omega
  · show (y 1).val = win0_8.index t 1 * 2048 + 1 * (y 1).val
    rw [(idx t).2.1]; show _ = 0 * 2048 + 1 * (y 1).val; omega

theorem gain_first (t : Fin cfg0.N) (h1 : t.val % 176 = 0) (j : S1x2048.Idx) :
    (outsAt0 m c t.val t.isLt).2.2.2.2 j = 0 + gainShare (X m c) (DH m c) j t.val t.isLt := by
  have h0 : t.val % 11 = 0 := by omega
  have h2 : ¬t.val % 11 = 10 := by omega
  rw [outsAt0_A m c t h0 h1 h2]
  dsimp only
  refine (dg_A _ _ _ _ _ _ _ _ c t h0 h1 h2 j).trans ?_
  unfold gainShare
  rw [if_neg h2, zero_add]

theorem gain_next (t : Fin cfg0.N) (h1 : ¬t.val % 176 = 0) (j : S1x2048.Idx) (hp : t.val - 1 < cfg0.N) :
    (outsAt0 m c t.val t.isLt).2.2.2.2 j = (outsAt0 m c (t.val - 1) hp).2.2.2.2 j + gainShare (X m c) (DH m c) j t.val t.isLt := by
  unfold gainShare
  by_cases h2 : t.val % 11 = 10
  · have h0 : ¬t.val % 11 = 0 := by omega
    rw [if_pos h2, outsAt0_C m c t h0 h1 h2]
    dsimp only
    refine (dg_C _ _ _ _ _ _ _ _ _ _ _ c t h0 h1 h2 j).trans ?_
    rw [sums m c t h0 h2]
    refine congrArg _ (Finset.sum_congr rfl fun r _ => ?_)
    have e1 : (fun k => (iblk m c 1 t : Vec Ideal S512x2048 .f32) (ix2 r k)) = fun k => X m c (ix2 (row t r) k) :=
      funext fun k => read_1 c (V m c) t r k
    exact congrArg (fun u => rowDg u (fun k => DH m c (ix2 (row t r) k)) (j 1)) e1
  · rw [if_neg h2, add_zero]
    by_cases h0 : t.val % 11 = 0
    · rw [outsAt0_D m c t h0 h1 h2]
      dsimp only
      exact congrFun (dg_D _ _ _ _ _ _ _ _ _ c t h0 h1 h2) j
    · rw [outsAt0_B m c t h0 h1 h2]
      dsimp only
      exact congrFun (dg_B _ _ _ _ _ _ _ _ _ _ _ c t h0 h1 h2) j

/-- The last point of all. -/
def last : Fin cfg0.N := ⟨175, by decide⟩

theorem dg_array : (dats m 0 c).arrAt 12 cfg0.N = (dgAll (X m c) (DH m c) : Vec Ideal S1x2048 .f32) := by
  refine (dats m 0 c).arrAt_eq_of_after_last 12 last (by decide +kernel) _ fun j => ?_
  blk_simp
  rw [after0_12]
  refine (Pipeline.eq_sum_fin_of_reset_step_apply_last (fun n h => (outsAt0 m c n h).2.2.2.2) 176 (fun _ => (0 : EReal))
    (fun t j => gainShare (X m c) (DH m c) j t.val t.isLt)
    (fun t h j => gain_first m c t h j) (fun t h j => gain_next m c t h j _) (by decide) last rfl j).trans ?_
  rw [zero_add]
  exact sum_gain (X m c) (DH m c) j

end

end Cert.Ffn.Ffnx

end
-- ==== Proof.Ffn.FfnxPrefix.lean ====
/- What the feed-forward block's backward launch finds in its arguments: the host lines before it, read. -/
module

public import proofs.«01_k».proof.Proof.Ffn.Ffnx
public import Idealize.ShloMosaic.Lib.StableHlo.RunRead

@[expose] public section

set_option maxRecDepth 16384

noncomputable section

namespace Cert.Ffn.Ffnx

open Cert.FfnxKernelIdeal Cert.FfnxKernelIdeal.Gen Idealize.ShloMosaic Idealize.ShloMosaic.TcCoe Idealize.ShloMosaic.Tactic Idealize.SL.Sem

variable (m : (ℓ : Loc nD τ sig) → Buf (Elt Ideal) ℓ) (c : Dev nD)

theorem O_eq : O m c = m ((c : Thread nD τ).loc main_arg0) := by
  funext i
  idx_vars i
  unfold O V
  after_reads_simp

theorem X_eq : X m c = m ((c : Thread nD τ).loc main_arg1) := by
  funext i
  idx_vars i
  unfold X V
  after_reads_simp

theorem G_eq : G m c = m ((c : Thread nD τ).loc main_arg2) := by
  funext i
  idx_vars i
  unfold G V
  after_reads_simp

theorem Wg_eq : Wg m c = padT (m ((c : Thread nD τ).loc main_arg3)) := by
  funext i
  idx_vars i
  unfold Wg V
  after_reads_simp
  simp only [StableHlo.TRef.toBuf, StableHlo.TRef.ofBuf, cast_eq]
  pointwise [padT]
  simp only [zero_bf16]

theorem Wu_eq : Wu m c = padT (m ((c : Thread nD τ).loc main_arg4)) := by
  funext i
  idx_vars i
  unfold Wu V
  after_reads_simp
  simp only [StableHlo.TRef.toBuf, StableHlo.TRef.ofBuf, cast_eq]
  pointwise [padT]
  simp only [zero_bf16]

theorem Wd_eq : Wd m c = padC (m ((c : Thread nD τ).loc main_arg5)) := by
  funext i
  idx_vars i
  unfold Wd V
  after_reads_simp
  simp only [StableHlo.TRef.toBuf, StableHlo.TRef.ofBuf, cast_eq]
  pointwise [padC]
  simp only [zero_bf16]

theorem Gt_eq : Gt m c = proj (hid (m ((c : Thread nD τ).loc main_arg1)) (m ((c : Thread nD τ).loc main_arg2)))
    (padT (m ((c : Thread nD τ).loc main_arg3))) := by
  funext i
  idx_vars i
  unfold Gt V
  after_reads_simp
  simp only [StableHlo.TRef.toBuf, StableHlo.TRef.ofBuf, cast_eq]
  pointwise [proj, hid, inv, padT]
  simp only [zero_bf16]

theorem Up_eq : Up m c = proj (hid (m ((c : Thread nD τ).loc main_arg1)) (m ((c : Thread nD τ).loc main_arg2)))
    (padT (m ((c : Thread nD τ).loc main_arg4))) := by
  funext i
  idx_vars i
  unfold Up V
  after_reads_simp
  simp only [StableHlo.TRef.toBuf, StableHlo.TRef.ofBuf, cast_eq]
  pointwise [proj, hid, inv, padT]
  simp only [zero_bf16]

end Cert.Ffn.Ffnx

end
-- ==== Proof.Ffn.FfnxReference.lean ====
/- What the reference of the feed-forward block's backward launch computes: the lines of the input's reference and those of
   the hidden columns' reference, one after the other. -/
module

public import proofs.«01_k».proof.Proof.Gen.FfnxReferenceIdeal.Read
public import proofs.«01_k».proof.Proof.Ffn.InputReference

@[expose] public section

set_option maxRecDepth 16384

noncomputable section

namespace Cert.Ffn.Ffnx

open Idealize.ShloMosaic Cert.Arith

section
variable {F : FTy → Type} [FloatOps F] (o x : Vec F SX .f32) (g : Vec F SG .f32) (a b : Vec F SA .f32) (w : Vec F SC .f32)

theorem same_dx : FfnxReferenceIdeal.Read.val_main_v52 (F := F) o x g a b w = InputReferenceIdeal.Read.val_main_v52 (F := F) o x g a b w := rfl

theorem same_dgain : FfnxReferenceIdeal.Read.val_main_v35 (F := F) o x g a b w = InputReferenceIdeal.Read.val_main_v35 (F := F) o x g a b w := rfl

theorem same_dgate : FfnxReferenceIdeal.Read.val_main_v86 (F := F) o x g a b w = HiddenReferenceIdeal.Read.val_main_v33 (F := F) o x g a b w := rfl

theorem same_dup : FfnxReferenceIdeal.Read.val_main_v88 (F := F) o x g a w = HiddenReferenceIdeal.Read.val_main_v35 (F := F) o x g a w := rfl

theorem same_dy : FfnxReferenceIdeal.Read.val_main_v89 (F := F) o = HiddenReferenceIdeal.Read.val_main_v36 (F := F) o := rfl

end

end Cert.Ffn.Ffnx

end
-- ==== Proof.Ffn.FfnxClaim.lean ====
/- The value claim of the feed-forward block's backward launch. -/
module

public import proofs.«01_k».proof.Defs
public import proofs.«01_k».proof.Proof.Gen.FfnxKernelIdeal.Value
public import proofs.«01_k».proof.Proof.Gen.FfnxReferenceIdeal.Run
public import proofs.«01_k».proof.Proof.Gen.Pre_ffn_finite
public import proofs.«01_k».proof.Proof.Ffn.FfnxPrefix
public import proofs.«01_k».proof.Proof.Ffn.FfnxReference

@[expose] public section

set_option maxRecDepth 16384

noncomputable section

namespace Cert.Ffn.Ffnx

open Idealize.ShloMosaic Idealize.ShloMosaic.TcCoe Idealize.SL.Sem Cert.Arith Cert.FfnxKernelIdeal Cert.FfnxKernelIdeal.Gen

/-- The precondition says that the six arrays are finite. -/
theorem finite_of_pre (m) (h : Cert.Pre_FfnxKernelIdeal_ffn_finite m) (c : Dev nD) :
    Fin' (m ((c : Thread nD τ).loc main_arg0)) ∧ Fin' (m ((c : Thread nD τ).loc main_arg1))
    ∧ Fin' (m ((c : Thread nD τ).loc main_arg2)) ∧ Fin' (m ((c : Thread nD τ).loc main_arg3))
    ∧ Fin' (m ((c : Thread nD τ).loc main_arg4)) ∧ Fin' (m ((c : Thread nD τ).loc main_arg5)) :=
  ⟨fun i => real_of_test (congrFun (h c).1 i), fun i => real_of_test (congrFun (h c).2.1 i),
    fun i => real_of_test (congrFun (h c).2.2.1 i), fun i => real_of_test (congrFun (h c).2.2.2.1 i),
    fun i => real_of_test (congrFun (h c).2.2.2.2.1 i), fun i => real_of_test (congrFun (h c).2.2.2.2.2 i)⟩

section
variable (m : (ℓ : Loc nD τ sig) → Buf (Elt Ideal) ℓ) (c : Dev nD)

theorem DG_eq : DG m c = dgateAll (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  unfold DG; rw [O_eq, Wd_eq, Gt_eq, Up_eq]; rfl

theorem DU_eq : DU m c = dupAll (m ((c : Thread nD τ).loc main_arg0)) (m ((c : Thread nD τ).loc main_arg1))
    (m ((c : Thread nD τ).loc main_arg2)) (m ((c : Thread nD τ).loc main_arg3)) (m ((c : Thread nD τ).loc main_arg5)) := by
  unfold DU; rw [O_eq, Wd_eq, Gt_eq]; rfl

theorem DH_eq : DH m c = back (dgateAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (dupAll (m ((c : Thread nD τ).loc main_arg0)) (m ((c : Thread nD τ).loc main_arg1)) (m ((c : Thread nD τ).loc main_arg2))
      (m ((c : Thread nD τ).loc main_arg3)) (m ((c : Thread nD τ).loc main_arg5)))
    (padT (m ((c : Thread nD τ).loc main_arg3))) (padT (m ((c : Thread nD τ).loc main_arg4))) := by
  unfold DH; rw [DG_eq, DU_eq, Wg_eq, Wu_eq]

end

/-- The kernel's five gradients are the reference's, where the arguments are finite. -/
theorem algebraic : Cert.algebraic_FfnxKernelIdeal_FfnxReferenceIdeal_pre_ffn_finite := by
  intro m g m' g' hpre hargs
  refine ⟨_, _, _, _, _, Cert.FfnxKernelIdeal.Value.run_blocks m g, ?_⟩
  refine (θ_run Cert.FfnxReferenceIdeal.defs _ _).mono (fun _ h c => ?_) (Cert.FfnxReferenceIdeal.Value.run m' g')
  obtain ⟨h0, h1, h2, h3, h4, h5⟩ := h c
  obtain ⟨a0, a1, a2, a3, a4, a5⟩ := hargs c
  obtain ⟨f0, f1, f2, f3, f4, f5⟩ := finite_of_pre m hpre c
  refine ⟨h0.trans ?_, h1.trans ?_, h2.trans ?_, h3.trans ?_, h4.trans ?_, h5⟩
  · rw [Cert.FfnxReferenceIdeal.Read.val_main_v52_eq, a0, a1, a2, a3, a4, a5, same_dx, Input.ref_dx f0 f1 f2 f3 f4 f5, dx_array m c, DH_eq, O_eq, X_eq, G_eq]
  · rw [Cert.FfnxReferenceIdeal.Read.val_main_v86_eq, a0, a1, a2, a3, a4, a5, same_dgate, Hidden.ref_dgate f0 f1 f2 f3 f4 f5, gate_array m c, DG_eq]
  · rw [Cert.FfnxReferenceIdeal.Read.val_main_v88_eq, a0, a1, a2, a3, a5, same_dup, Hidden.ref_dup, up_array m c, DU_eq]
  · rw [Cert.FfnxReferenceIdeal.Read.val_main_v89_eq, a0, same_dy, Hidden.ref_dy, dy_array m c, O_eq]
  · rw [Cert.FfnxReferenceIdeal.Read.val_main_v35_eq, a0, a1, a2, a3, a4, a5, same_dgain, Input.ref_dgain f0 f1 f2 f3 f4 f5, dg_array m c, DH_eq, X_eq]

end Cert.Ffn.Ffnx

end
-- ==== Proof.Ffn.Weight.lean ====
/- What the three arrays of the weights' backward launch hold after its run. -/
module

public import proofs.«01_k».proof.Proof.Gen.WeightKernelIdeal.Value
public import proofs.«01_k».proof.Proof.Ffn.Data
public import Idealize.ShloMosaic.Lib.Pipeline.ValueKit
public import Idealize.ShloMosaic.Lib.Pipeline.ReadBack

@[expose] public section

set_option maxRecDepth 16384

noncomputable section

namespace Cert.Ffn

open Idealize.ShloMosaic

/-- Columns of hidden values times columns of tokens' values, added up over the tokens. -/
def outer (g : SF.Idx → EReal) (h : SX.Idx → EReal) : SW.Idx → EReal := fun i =>
  ∑ n : Fin 8192, g (ix2 n (i 0)) * h (ix2 n (i 1))

/-- The gated product at every hidden column. -/
def acts (g u : SF.Idx → EReal) : SF.Idx → EReal := fun i => act (g i) (u i)

end Cert.Ffn

namespace Cert.Ffn.Weight

open Cert.WeightKernelIdeal Cert.WeightKernelIdeal.Gen Idealize.ShloMosaic Idealize.ShloMosaic.TcCoe Idealize.SL.Sem
open Idealize.ShloMosaic.Pipeline (Dat)

variable (m : (ℓ : Loc nD τ sig) → Buf (Elt Ideal) ℓ)

/-! ## One point -/

/-- What one point adds. -/
def part (g : S1024x512.Idx → EReal) (h : S1024x2048.Idx → EReal) (y : S512x2048.Idx) : EReal :=
  ∑ n : Fin 1024, g (ix2 n (y 0)) * h (ix2 n (y 1))

theorem pay_g (h : Vec Ideal S1024x2048 .bf16) (s : Vec Ideal S512x2048 .f32) (g : Vec Ideal S1024x512 .bf16) (y : S512x2048.Idx) :
    k0_pay9 (F := Ideal) h s g y = s y + part g h y := by
  idx_vars y
  unfold_payloads
  pointwise [part]

theorem pay_u (h : Vec Ideal S1024x2048 .bf16) (s : Vec Ideal S512x2048 .f32) (g : Vec Ideal S1024x512 .bf16) (y : S512x2048.Idx) :
    k0_pay10 (F := Ideal) h s g y = s y + part g h y := by
  idx_vars y
  unfold_payloads
  pointwise [part]

theorem pay_d (g u : Vec Ideal S1024x512 .bf16) (s : Vec Ideal S512x2048 .f32) (h : Vec Ideal S1024x2048 .bf16) (y : S512x2048.Idx) :
    k0_pay1 (F := Ideal) (k0_pay11 (F := Ideal) g u) s h y = s y + part (fun i => act (g i) (u i)) h y := by
  idx_vars y
  unfold_payloads
  pointwise [part, act]

theorem cast_g (v : Vec Ideal S512x2048 .f32) (y) : k0_pay2 (F := Ideal) v y = v y := by
  unfold k0_pay2; pointwise

theorem cast_u (v : Vec Ideal S512x2048 .f32) (y) : k0_pay3 (F := Ideal) v y = v y := by
  unfold k0_pay3; pointwise

theorem cast_d (v : Vec Ideal S512x2048 .f32) (y) : k0_pay4 (F := Ideal) v y = v y := by
  unfold k0_pay4; pointwise

section

variable (x0 x1 : Vec Ideal S1024x2048 .bf16) (x2 x3 x4 x5 : Vec Ideal S1024x512 .bf16) (s0 s1 s2 : Vec Ideal S512x2048 .f32)
  (c : Dev nD) (t : Fin cfg0.N) (y : S512x2048.Idx)

theorem g_A (h0 : t.val % 8 = 0) (h1 : ¬t.val % 8 = 7) :
    sout0_A_0 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) ((hcond0_0 t).mpr h0) (fun h => h1 ((hcond0_1 t).mp h)) x0 x1 x2 x3 x4 x5 y = 0 + part x4 x0 y := by
  frame_out
  rw [pay_g]
  unfold k0_pay5
  pointwise

theorem u_A (h0 : t.val % 8 = 0) (h1 : ¬t.val % 8 = 7) :
    sout0_A_1 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) ((hcond0_0 t).mpr h0) (fun h => h1 ((hcond0_1 t).mp h)) x0 x1 x2 x3 x4 x5 y = 0 + part x5 x0 y := by
  frame_out
  rw [pay_u]
  unfold k0_pay6
  pointwise

theorem d_A (h0 : t.val % 8 = 0) (h1 : ¬t.val % 8 = 7) :
    sout0_A_2 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) ((hcond0_0 t).mpr h0) (fun h => h1 ((hcond0_1 t).mp h)) x0 x1 x2 x3 x4 x5 y
      = 0 + part (fun i => act (x2 i) (x3 i)) x1 y := by
  frame_out
  rw [pay_d]
  unfold k0_pay7
  pointwise

theorem g_B (h0 : ¬t.val % 8 = 0) (h1 : ¬t.val % 8 = 7) :
    sout0_B_0 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) (fun h => h1 ((hcond0_1 t).mp h)) x0 x1 x2 x3 x4 x5 s0 s1 s2 y
      = s0 y + part x4 x0 y := by
  frame_out
  rw [pay_g]
  simp only [read_unread_whole]

theorem u_B (h0 : ¬t.val % 8 = 0) (h1 : ¬t.val % 8 = 7) :
    sout0_B_1 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) (fun h => h1 ((hcond0_1 t).mp h)) x0 x1 x2 x3 x4 x5 s0 s1 s2 y
      = s1 y + part x5 x0 y := by
  frame_out
  rw [pay_u]
  simp only [read_unread_whole]

theorem d_B (h0 : ¬t.val % 8 = 0) (h1 : ¬t.val % 8 = 7) :
    sout0_B_2 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) (fun h => h1 ((hcond0_1 t).mp h)) x0 x1 x2 x3 x4 x5 s0 s1 s2 y
      = s2 y + part (fun i => act (x2 i) (x3 i)) x1 y := by
  frame_out
  rw [pay_d]
  simp only [read_unread_whole]

end

section

variable (x0 x1 : Vec Ideal S1024x2048 .bf16) (x2 x3 x4 x5 : Vec Ideal S1024x512 .bf16) (s0 s1 s2 : Vec Ideal S512x2048 .f32)
  (c : Dev nD) (t : Fin cfg0.N) (y : S512x2048.Idx) (h0 : ¬t.val % 8 = 0) (h1 : t.val % 8 = 7)

theorem g_C : sout0_C_0 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s0 y + part x4 x0 y := by
  frame_out
  rw [pay_g]
  simp only [read_unread_whole]

theorem u_C : sout0_C_1 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s1 y + part x5 x0 y := by
  frame_out
  rw [pay_u]
  simp only [read_unread_whole]

theorem d_C : sout0_C_2 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s2 y + part (fun i => act (x2 i) (x3 i)) x1 y := by
  frame_out
  rw [pay_d]
  simp only [read_unread_whole]

theorem w_g : out0_C_6 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s0 y + part x4 x0 y := by
  frame_out
  rw [cast_g, pay_g]
  simp only [read_unread_whole]

theorem w_u : out0_C_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s1 y + part x5 x0 y := by
  frame_out
  rw [cast_u, pay_u]
  simp only [read_unread_whole]

theorem w_d : out0_C_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) scM0_0 (Memref.isWhole_whole _) scM0_1 (Memref.isWhole_whole _)
      scM0_2 (Memref.isWhole_whole _) (fun h => h0 ((hcond0_0 t).mp h)) ((hcond0_1 t).mpr h1) x0 x1 x2 x3 x4 x5 s0 s1 s2 y
      = s2 y + part (fun i => act (x2 i) (x3 i)) x1 y := by
  frame_out
  rw [cast_d, pay_d]
  simp only [read_unread_whole]

end

/-! ## What the blocks are -/

theorem idx : ∀ t : Fin cfg0.N, win0_0.index t = ![t.val % 8, 0] ∧ win0_1.index t = ![t.val % 8, 0]
    ∧ win0_2.index t = ![t.val % 8, t.val / 8] ∧ win0_3.index t = ![t.val % 8, t.val / 8] ∧ win0_4.index t = ![t.val % 8, t.val / 8]
    ∧ win0_5.index t = ![t.val % 8, t.val / 8] ∧ win0_6.index t = ![t.val / 8, 0] ∧ win0_7.index t = ![t.val / 8, 0]
    ∧ win0_8.index t = ![t.val / 8, 0] :=
  (by decide +kernel : ∀ t : Fin grid0.N, _)

/-- Row `r` of a point's block of tokens. -/
def row (t : Fin cfg0.N) (r : Fin 1024) : Fin 8192 := ⟨t.val % 8 * 1024 + r.val, by omega⟩

/-- Column `r` of a point's block of hidden columns. -/
def col (t : Fin cfg0.N) (r : Fin 512) : Fin 5632 := ⟨t.val / 8 * 512 + r.val, by have : t.val < 88 := t.isLt; omega⟩

section
variable (c : Dev nD) (A : (b : Ref sig .tc) → Buf (Elt Ideal) ((c : Thread nD τ).loc b)) (t : Fin cfg0.N)

theorem read_0 (r : Fin 1024) (k : Fin 2048) : ((cfg0.win 0).blk t).view.read (Elt Ideal) (A (Pipeline.arrRef spec0 0)) (ix2 r k)
    = (A main_v20 : Vec Ideal S8192x2048 .bf16) (ix2 (row t r) k) := by
  blk_point [idx t, row]

theorem read_1 (r : Fin 1024) (k : Fin 2048) : ((cfg0.win 1).blk t).view.read (Elt Ideal) (A (Pipeline.arrRef spec0 1)) (ix2 r k)
    = (A main_v31 : Vec Ideal S8192x2048 .bf16) (ix2 (row t r) k) := by
  blk_point [idx t, row]

theorem read_2 (r : Fin 1024) (j : Fin 512) : ((cfg0.win 2).blk t).view.read (Elt Ideal) (A (Pipeline.arrRef spec0 2)) (ix2 r j)
    = (A main_v24 : Vec Ideal S8192x5632 .bf16) (ix2 (row t r) (col t j)) := by
  blk_point [idx t, row, col]

theorem read_3 (r : Fin 1024) (j : Fin 512) : ((cfg0.win 3).blk t).view.read (Elt Ideal) (A (Pipeline.arrRef spec0 3)) (ix2 r j)
    = (A main_v28 : Vec Ideal S8192x5632 .bf16) (ix2 (row t r) (col t j)) := by
  blk_point [idx t, row, col]

theorem read_4 (r : Fin 1024) (j : Fin 512) : ((cfg0.win 4).blk t).view.read (Elt Ideal) (A (Pipeline.arrRef spec0 4)) (ix2 r j)
    = (A main_v52 : Vec Ideal S8192x5632 .bf16) (ix2 (row t r) (col t j)) := by
  blk_point [idx t, row, col]

theorem read_5 (r : Fin 1024) (j : Fin 512) : ((cfg0.win 5).blk t).view.read (Elt Ideal) (A (Pipeline.arrRef spec0 5)) (ix2 r j)
    = (A main_v54 : Vec Ideal S8192x5632 .bf16) (ix2 (row t r) (col t j)) := by
  blk_point [idx t, row, col]

end

section
variable (c : Dev nD)

/-- The normalised input as the launch finds it. -/
def H : SX.Idx → EReal := (V m c main_v20 : Vec Ideal S8192x2048 .bf16)

/-- The half of the cotangent. -/
def D : SX.Idx → EReal := (V m c main_v31 : Vec Ideal S8192x2048 .bf16)

/-- The saved gate. -/
def Gt : SF.Idx → EReal := (V m c main_v24 : Vec Ideal S8192x5632 .bf16)

/-- The saved other factor. -/
def Up : SF.Idx → EReal := (V m c main_v28 : Vec Ideal S8192x5632 .bf16)

/-- The gate's gradient. -/
def DG : SF.Idx → EReal := (V m c main_v52 : Vec Ideal S8192x5632 .bf16)

/-- The other factor's gradient. -/
def DU : SF.Idx → EReal := (V m c main_v54 : Vec Ideal S8192x5632 .bf16)

/-! ## The sums over a column's points -/

/-- What a point adds, from the whole arrays. -/
def share (g : SF.Idx → EReal) (h : SX.Idx → EReal) (t : Fin cfg0.N) (y : S512x2048.Idx) : EReal :=
  ∑ n : Fin 1024, g (ix2 (row t n) (col t (y 0))) * h (ix2 (row t n) (y 1))

theorem part_g (t : Fin cfg0.N) (y) : part (iblk m c 4 t) (iblk m c 0 t) y = share (DG m c) (H m c) t y :=
  Finset.sum_congr rfl fun n _ => congrArg₂ (· * ·) (read_4 c (V m c) t n (y 0)) (read_0 c (V m c) t n (y 1))

theorem part_u (t : Fin cfg0.N) (y) : part (iblk m c 5 t) (iblk m c 0 t) y = share (DU m c) (H m c) t y :=
  Finset.sum_congr rfl fun n _ => congrArg₂ (· * ·) (read_5 c (V m c) t n (y 0)) (read_0 c (V m c) t n (y 1))

theorem part_d (t : Fin cfg0.N) (y) : part (fun i => act ((iblk m c 2 t : Vec Ideal S1024x512 .bf16) i) ((iblk m c 3 t : Vec Ideal S1024x512 .bf16) i)) (iblk m c 1 t) y
    = share (acts (Gt m c) (Up m c)) (D m c) t y :=
  Finset.sum_congr rfl fun n _ => congrArg₂ (· * ·)
    (congrArg₂ act (read_2 c (V m c) t n (y 0)) (read_3 c (V m c) t n (y 0))) (read_1 c (V m c) t n (y 1))

/-- The accumulators after a point that begins a column. -/
theorem left_A (t : Fin cfg0.N) (h0 : t.val % 8 = 0) (y : S512x2048.Idx) :
    (outsAt0 m c t.val t.isLt).2.2.2.1 y = 0 + share (DG m c) (H m c) t y
    ∧ (outsAt0 m c t.val t.isLt).2.2.2.2.1 y = 0 + share (DU m c) (H m c) t y
    ∧ (outsAt0 m c t.val t.isLt).2.2.2.2.2 y = 0 + share (acts (Gt m c) (Up m c)) (D m c) t y := by
  have h1 : ¬t.val % 8 = 7 := by omega
  rw [outsAt0_A m c t h0 h1]
  dsimp only
  rw [← part_g, ← part_u, ← part_d]
  exact ⟨g_A _ _ _ _ _ _ c t y h0 h1, u_A _ _ _ _ _ _ c t y h0 h1, d_A _ _ _ _ _ _ c t y h0 h1⟩

/-- The accumulators after another point. -/
theorem left_B (t : Fin cfg0.N) (h0 : ¬t.val % 8 = 0) (y : S512x2048.Idx) (hp : t.val - 1 < cfg0.N) :
    (outsAt0 m c t.val t.isLt).2.2.2.1 y = (outsAt0 m c (t.val - 1) hp).2.2.2.1 y + share (DG m c) (H m c) t y
    ∧ (outsAt0 m c t.val t.isLt).2.2.2.2.1 y = (outsAt0 m c (t.val - 1) hp).2.2.2.2.1 y + share (DU m c) (H m c) t y
    ∧ (outsAt0 m c t.val t.isLt).2.2.2.2.2 y = (outsAt0 m c (t.val - 1) hp).2.2.2.2.2 y + share (acts (Gt m c) (Up m c)) (D m c) t y := by
  rw [← part_g, ← part_u, ← part_d]
  by_cases h1 : t.val % 8 = 7
  · rw [outsAt0_C m c t h0 h1]
    dsimp only
    exact ⟨g_C _ _ _ _ _ _ _ _ _ c t y h0 h1, u_C _ _ _ _ _ _ _ _ _ c t y h0 h1, d_C _ _ _ _ _ _ _ _ _ c t y h0 h1⟩
  · rw [outsAt0_B m c t h0 h1]
    dsimp only
    exact ⟨g_B _ _ _ _ _ _ _ _ _ c t y h0 h1, u_B _ _ _ _ _ _ _ _ _ c t y h0 h1, d_B _ _ _ _ _ _ _ _ _ c t y h0 h1⟩

/-- The blocks written at a column's last point are the accumulators. -/
theorem written (t : Fin cfg0.N) (h1 : t.val % 8 = 7) (y : S512x2048.Idx) :
    (outsAt0 m c t.val t.isLt).1 y = (outsAt0 m c t.val t.isLt).2.2.2.1 y
    ∧ (outsAt0 m c t.val t.isLt).2.1 y = (outsAt0 m c t.val t.isLt).2.2.2.2.1 y
    ∧ (outsAt0 m c t.val t.isLt).2.2.1 y = (outsAt0 m c t.val t.isLt).2.2.2.2.2 y := by
  have h0 : ¬t.val % 8 = 0 := by omega
  rw [outsAt0_C m c t h0 h1]
  dsimp only
  exact ⟨(w_g _ _ _ _ _ _ _ _ _ c t y h0 h1).trans (g_C _ _ _ _ _ _ _ _ _ c t y h0 h1).symm,
    (w_u _ _ _ _ _ _ _ _ _ c t y h0 h1).trans (u_C _ _ _ _ _ _ _ _ _ c t y h0 h1).symm,
    (w_d _ _ _ _ _ _ _ _ _ c t y h0 h1).trans (d_C _ _ _ _ _ _ _ _ _ c t y h0 h1).symm⟩

/-- A column's shares are the sum over all tokens. -/
theorem sum_share (g : SF.Idx → EReal) (h : SX.Idx → EReal) (t : Fin cfg0.N) (y : S512x2048.Idx)
    (hl : ∀ s : Fin 8, 8 * (t.val / 8) + s.val < cfg0.N) :
    (0 : EReal) + ∑ s : Fin 8, share g h ⟨8 * (t.val / 8) + s.val, hl s⟩ y = outer g h (ix2 (col t (y 0)) (y 1)) := by
  rw [zero_add]
  refine Eq.trans ?_ (Fin.sum_mul_add_fin 8 1024 (fun n : Fin 8192 => g (ix2 n (col t (y 0))) * h (ix2 n (y 1))))
  refine Finset.sum_congr rfl fun s _ => Finset.sum_congr rfl fun n _ => ?_
  have e0 : row ⟨8 * (t.val / 8) + s.val, hl s⟩ n = ⟨s.val * 1024 + n.val, by omega⟩ :=
    Fin.ext (by show (8 * (t.val / 8) + s.val) % 8 * 1024 + n.val = s.val * 1024 + n.val; omega)
  have e1 : col ⟨8 * (t.val / 8) + s.val, hl s⟩ (y 0) = col t (y 0) :=
    Fin.ext (by show (8 * (t.val / 8) + s.val) / 8 * 512 + (y 0).val = t.val / 8 * 512 + (y 0).val; omega)
  rw [e0, e1]

theorem acc_g (t : Fin cfg0.N) (h1 : t.val % 8 = 7) (y : S512x2048.Idx) :
    (outsAt0 m c t.val t.isLt).2.2.2.1 y = outer (DG m c) (H m c) (ix2 (col t (y 0)) (y 1)) :=
  (Pipeline.eq_sum_fin_of_reset_step_apply_of_flush (fun n h => (outsAt0 m c n h).2.2.2.1) 8 (fun _ => (0 : EReal)) (share (DG m c) (H m c))
    (fun t h y => (left_A m c t h y).1) (fun t h y => (left_B m c t h y _).1) t h1 y).trans (sum_share _ _ t y _)

theorem acc_u (t : Fin cfg0.N) (h1 : t.val % 8 = 7) (y : S512x2048.Idx) :
    (outsAt0 m c t.val t.isLt).2.2.2.2.1 y = outer (DU m c) (H m c) (ix2 (col t (y 0)) (y 1)) :=
  (Pipeline.eq_sum_fin_of_reset_step_apply_of_flush (fun n h => (outsAt0 m c n h).2.2.2.2.1) 8 (fun _ => (0 : EReal)) (share (DU m c) (H m c))
    (fun t h y => (left_A m c t h y).2.1) (fun t h y => (left_B m c t h y _).2.1) t h1 y).trans (sum_share _ _ t y _)

theorem acc_d (t : Fin cfg0.N) (h1 : t.val % 8 = 7) (y : S512x2048.Idx) :
    (outsAt0 m c t.val t.isLt).2.2.2.2.2 y = outer (acts (Gt m c) (Up m c)) (D m c) (ix2 (col t (y 0)) (y 1)) :=
  (Pipeline.eq_sum_fin_of_reset_step_apply_of_flush (fun n h => (outsAt0 m c n h).2.2.2.2.2) 8 (fun _ => (0 : EReal))
    (share (acts (Gt m c) (Up m c)) (D m c))
    (fun t h y => (left_A m c t h y).2.2) (fun t h y => (left_B m c t h y _).2.2) t h1 y).trans (sum_share _ _ t y _)

/-! ## The three arrays -/

theorem array_g : (dats m 0 c).arrAt 6 cfg0.N = (outer (DG m c) (H m c) : Vec Ideal S5632x2048 .bf16) := by
  refine (dats m 0 c).arrAt_eq_of_covers 6 _ (by decide +kernel) fun t hf y => ?_
  have h1 : t.val % 8 = 7 := (flush0_6 t).mp hf
  blk_simp
  rw [after0_6, (written m c t h1 y).1, acc_g m c t h1 y]
  refine congrArg _ (funext fun a => Fin.ext ?_)
  fin_cases a
  · show t.val / 8 * 512 + (y 0).val = win0_6.index t 0 * 512 + 1 * (y 0).val
    rw [(idx t).2.2.2.2.2.2.1]; show _ = t.val / 8 * 512 + 1 * (y 0).val; omega
  · show (y 1).val = win0_6.index t 1 * 2048 + 1 * (y 1).val
    rw [(idx t).2.2.2.2.2.2.1]; show _ = 0 * 2048 + 1 * (y 1).val; omega

theorem array_u : (dats m 0 c).arrAt 7 cfg0.N = (outer (DU m c) (H m c) : Vec Ideal S5632x2048 .bf16) := by
  refine (dats m 0 c).arrAt_eq_of_covers 7 _ (by decide +kernel) fun t hf y => ?_
  have h1 : t.val % 8 = 7 := (flush0_7 t).mp hf
  blk_simp
  rw [after0_7, (written m c t h1 y).2.1, acc_u m c t h1 y]
  refine congrArg _ (funext fun a => Fin.ext ?_)
  fin_cases a
  · show t.val / 8 * 512 + (y 0).val = win0_7.index t 0 * 512 + 1 * (y 0).val
    rw [(idx t).2.2.2.2.2.2.2.1]; show _ = t.val / 8 * 512 + 1 * (y 0).val; omega
  · show (y 1).val = win0_7.index t 1 * 2048 + 1 * (y 1).val
    rw [(idx t).2.2.2.2.2.2.2.1]; show _ = 0 * 2048 + 1 * (y 1).val; omega

theorem array_d : (dats m 0 c).arrAt 8 cfg0.N = (outer (acts (Gt m c) (Up m c)) (D m c) : Vec Ideal S5632x2048 .bf16) := by
  refine (dats m 0 c).arrAt_eq_of_covers 8 _ (by decide +kernel) fun t hf y => ?_
  have h1 : t.val % 8 = 7 := (flush0_8 t).mp hf
  blk_simp
  rw [after0_8, (written m c t h1 y).2.2, acc_d m c t h1 y]
  refine congrArg _ (funext fun a => Fin.ext ?_)
  fin_cases a
  · show t.val / 8 * 512 + (y 0).val = win0_8.index t 0 * 512 + 1 * (y 0).val
    rw [(idx t).2.2.2.2.2.2.2.2]; show _ = t.val / 8 * 512 + 1 * (y 0).val; omega
  · show (y 1).val = win0_8.index t 1 * 2048 + 1 * (y 1).val
    rw [(idx t).2.2.2.2.2.2.2.2]; show _ = 0 * 2048 + 1 * (y 1).val; omega

end

end Cert.Ffn.Weight

end
-- ==== Proof.Ffn.WeightPrefix.lean ====
/- What the weights' backward launch finds in its arguments: the host lines before it, read. -/
module

public import proofs.«01_k».proof.Proof.Ffn.Weight
public import Idealize.ShloMosaic.Lib.StableHlo.RunRead

@[expose] public section

set_option maxRecDepth 16384

noncomputable section

namespace Cert.Ffn.Weight

open Cert.WeightKernelIdeal Cert.WeightKernelIdeal.Gen Idealize.ShloMosaic Idealize.ShloMosaic.TcCoe Idealize.ShloMosaic.Tactic Idealize.SL.Sem

variable (m : (ℓ : Loc nD τ sig) → Buf (Elt Ideal) ℓ) (c : Dev nD)

theorem H_eq : H m c = hid (m ((c : Thread nD τ).loc main_arg1)) (m ((c : Thread nD τ).loc main_arg2)) := by
  funext i
  idx_vars i
  unfold H V
  after_reads_simp
  pointwise [hid, inv]

theorem D_eq : D m c = dy (m ((c : Thread nD τ).loc main_arg0)) := by
  funext i
  idx_vars i
  unfold D V
  after_reads_simp
  pointwise [dy]

theorem Gt_eq : Gt m c = proj (hid (m ((c : Thread nD τ).loc main_arg1)) (m ((c : Thread nD τ).loc main_arg2)))
    (padT (m ((c : Thread nD τ).loc main_arg3))) := by
  funext i
  idx_vars i
  unfold Gt V
  after_reads_simp
  simp only [StableHlo.TRef.toBuf, StableHlo.TRef.ofBuf, cast_eq]
  pointwise [proj, hid, inv, padT]
  simp only [zero_bf16]

theorem Up_eq : Up m c = proj (hid (m ((c : Thread nD τ).loc main_arg1)) (m ((c : Thread nD τ).loc main_arg2)))
    (padT (m ((c : Thread nD τ).loc main_arg4))) := by
  funext i
  idx_vars i
  unfold Up V
  after_reads_simp
  simp only [StableHlo.TRef.toBuf, StableHlo.TRef.ofBuf, cast_eq]
  pointwise [proj, hid, inv, padT]
  simp only [zero_bf16]

theorem DU_eq : DU m c = dupAll (m ((c : Thread nD τ).loc main_arg0)) (m ((c : Thread nD τ).loc main_arg1))
    (m ((c : Thread nD τ).loc main_arg2)) (m ((c : Thread nD τ).loc main_arg3)) (m ((c : Thread nD τ).loc main_arg5)) := by
  funext i
  idx_vars i
  unfold DU V
  after_reads_simp
  simp only [StableHlo.TRef.toBuf, StableHlo.TRef.ofBuf, cast_eq]
  pointwise [dupAll, dup, dUp, dy, proj, hid, inv, padT, padC]
  simp only [zero_bf16, logistic_div]

theorem DG_eq : DG m c = dgateAll (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  funext i
  idx_vars i
  unfold DG V
  after_reads_simp
  simp only [StableHlo.TRef.toBuf, StableHlo.TRef.ofBuf, cast_eq]
  pointwise [dgateAll, dgate, dGate, dy, proj, hid, inv, padT, padC]
  simp only [zero_bf16, logistic_div]

end Cert.Ffn.Weight

end
-- ==== Proof.Ffn.WeightReference.lean ====
/- What the reference of the weights' backward launch computes. -/
module

public import proofs.«01_k».proof.Proof.Gen.WeightReferenceIdeal.Read
public import proofs.«01_k».proof.Proof.Ffn.HiddenReference
public import proofs.«01_k».proof.Proof.Ffn.Weight

@[expose] public section

set_option maxRecDepth 16384

noncomputable section

namespace Cert.Ffn.Weight

open Cert.WeightReferenceIdeal Cert.WeightReferenceIdeal.Read Idealize.ShloMosaic Cert.Arith

theorem ref_hid (x : Vec Ideal S8192x2048 .f32) (g : Vec Ideal S1x2048 .f32) : val_main_v11 (F := Ideal) x g = hid x g := Hidden.ref_hid x g

/-- The gate's gradient, a column that is no padding. -/
theorem ref_dgate {o x : Vec Ideal S8192x2048 .f32} {g : Vec Ideal S1x2048 .f32} {a b : Vec Ideal S2048x5504 .f32} {w : Vec Ideal S5504x2048 .f32}
    (ho : Fin' o) (hx : Fin' x) (hg : Fin' g) (ha : Fin' a) (hb : Fin' b) (hw : Fin' w) (i) :
    val_main_v29 (F := Ideal) o x g a b w i = dGate (dact o w i) (pre x g a i) (pre x g b i) := by
  refine Eq.trans ?_ (Hidden.ref_dgate_in ho hx hg ha hb hw i)
  unfold val_main_v29 HiddenReferenceIdeal.Read.val_main_v25
  rfl

/-- The other factor's gradient, a column that is no padding. -/
theorem ref_dup (o x : Vec Ideal S8192x2048 .f32) (g : Vec Ideal S1x2048 .f32) (a : Vec Ideal S2048x5504 .f32) (w : Vec Ideal S5504x2048 .f32) (i) :
    val_main_v25 (F := Ideal) o x g a w i = dUp (dact o w i) (pre x g a i) := Hidden.ref_dup_in o x g a w i

/-- The gated product. -/
theorem ref_act (x : Vec Ideal S8192x2048 .f32) (g : Vec Ideal S1x2048 .f32) (a b : Vec Ideal S2048x5504 .f32) (i) :
    val_main_v15 (F := Ideal) x g a b i = act (pre x g a i) (pre x g b i) := by
  have hs : val_main_v13_2 (F := Ideal) x g a i = Ideal.logistic (pre x g a i) := Hidden.ref_sig x g a i
  have hg : val_main_v12 (F := Ideal) x g a = pre x g a := Hidden.ref_gate x g a
  have hu : val_main_v14 (F := Ideal) x g b = pre x g b := Hidden.ref_up x g b
  unfold val_main_v15 val_main_v13_0
  pointwise
  rw [hg, hu, hs, act]

theorem ref_dwg {o x : Vec Ideal S8192x2048 .f32} {g : Vec Ideal S1x2048 .f32} {a b : Vec Ideal S2048x5504 .f32} {w : Vec Ideal S5504x2048 .f32}
    (ho : Fin' o) (hx : Fin' x) (hg : Fin' g) (ha : Fin' a) (hb : Fin' b) (hw : Fin' w) :
    val_main_v35 (F := Ideal) o x g a b w = outer (dgateAll o x g a b w) (hid x g) := by
  funext i
  idx_vars i
  unfold val_main_v35 val_main_v34 val_main_call2_v0 val_main_c val_main_v32 val_main_v31 val_main_v30
  pointwise
  split
  · next h =>
    rw [ref_hid]
    refine Finset.sum_congr rfl fun n _ => congrArg (· * _) ?_
    rw [ref_dgate ho hx hg ha hb hw]
    exact (dgateAll_in o x g a b w n i0 h).symm
  · next h =>
    refine Eq.trans ?_ (Finset.sum_eq_zero fun n _ => ?_).symm
    · pointwise; simp [FloatOps.sitofp]
    · exact (congrArg (· * _) (dgateAll_out o x g a b w n i0 h)).trans (zero_mul _)

theorem ref_dwu (o x : Vec Ideal S8192x2048 .f32) (g : Vec Ideal S1x2048 .f32) (a : Vec Ideal S2048x5504 .f32) (w : Vec Ideal S5504x2048 .f32) :
    val_main_v37 (F := Ideal) o x g a w = outer (dupAll o x g a w) (hid x g) := by
  funext i
  idx_vars i
  unfold val_main_v37 val_main_v36 val_main_call3_v0 val_main_c_4 val_main_v33 val_main_v28 val_main_v27
  pointwise
  split
  · next h =>
    rw [ref_hid]
    refine Finset.sum_congr rfl fun n _ => congrArg (· * _) ?_
    rw [ref_dup]
    exact (dupAll_in o x g a w n i0 h).symm
  · next h =>
    refine Eq.trans ?_ (Finset.sum_eq_zero fun n _ => ?_).symm
    · pointwise; simp [FloatOps.sitofp]
    · exact (congrArg (· * _) (dupAll_out o x g a w n i0 h)).trans (zero_mul _)

theorem ref_dwd (o x : Vec Ideal S8192x2048 .f32) (g : Vec Ideal S1x2048 .f32) (a b : Vec Ideal S2048x5504 .f32) :
    val_main_v39 (F := Ideal) o x g a b
      = outer (acts (proj (hid x g) (padT a)) (proj (hid x g) (padT b))) (dy o) := by
  funext i
  idx_vars i
  unfold val_main_v39 val_main_v38 val_main_call4_v0 val_main_c_5 val_main_v23 val_main_v22 val_main_v21 val_main_v20 val_main_cst_3
  pointwise
  split
  · next h =>
    refine Finset.sum_congr rfl fun n _ => ?_
    rw [ref_act, mul_comm]
    show _ = act (proj (hid x g) (padT a) (ix2 n i0)) (proj (hid x g) (padT b) (ix2 n i0)) * dy o (ix2 n i1)
    rw [proj_padT, proj_padT, dif_pos h, dif_pos h]
    rfl
  · next h =>
    refine Eq.trans ?_ (Finset.sum_eq_zero fun n _ => ?_).symm
    · pointwise; simp [FloatOps.sitofp]
    · unfold acts
      show act (proj (hid x g) (padT a) (ix2 n i0)) _ * _ = 0
      rw [proj_padT, dif_neg h, act, zero_mul, zero_mul, zero_mul]

end Cert.Ffn.Weight

end
-- ==== Proof.Ffn.WeightClaim.lean ====
/- The value claim of the weights' backward launch. -/
module

public import proofs.«01_k».proof.Defs
public import proofs.«01_k».proof.Proof.Gen.WeightKernelIdeal.Value
public import proofs.«01_k».proof.Proof.Gen.WeightReferenceIdeal.Run
public import proofs.«01_k».proof.Proof.Gen.Pre_ffn_finite
public import proofs.«01_k».proof.Proof.Ffn.WeightPrefix
public import proofs.«01_k».proof.Proof.Ffn.WeightReference

@[expose] public section

set_option maxRecDepth 16384

noncomputable section

namespace Cert.Ffn.Weight

open Idealize.ShloMosaic Idealize.ShloMosaic.TcCoe Idealize.SL.Sem Cert.Arith Cert.WeightKernelIdeal Cert.WeightKernelIdeal.Gen

/-- The precondition says that the six arrays are finite. -/
theorem finite_of_pre (m) (h : Cert.Pre_WeightKernelIdeal_ffn_finite m) (c : Dev nD) :
    Fin' (m ((c : Thread nD τ).loc main_arg0)) ∧ Fin' (m ((c : Thread nD τ).loc main_arg1))
    ∧ Fin' (m ((c : Thread nD τ).loc main_arg2)) ∧ Fin' (m ((c : Thread nD τ).loc main_arg3))
    ∧ Fin' (m ((c : Thread nD τ).loc main_arg4)) ∧ Fin' (m ((c : Thread nD τ).loc main_arg5)) :=
  ⟨fun i => real_of_test (congrFun (h c).1 i), fun i => real_of_test (congrFun (h c).2.1 i),
    fun i => real_of_test (congrFun (h c).2.2.1 i), fun i => real_of_test (congrFun (h c).2.2.2.1 i),
    fun i => real_of_test (congrFun (h c).2.2.2.2.1 i), fun i => real_of_test (congrFun (h c).2.2.2.2.2 i)⟩

/-- The kernel's three gradients are the reference's, where the arguments are finite. -/
theorem algebraic : Cert.algebraic_WeightKernelIdeal_WeightReferenceIdeal_pre_ffn_finite := by
  intro m g m' g' hpre hargs
  refine ⟨_, _, _, Cert.WeightKernelIdeal.Value.run_blocks m g, ?_⟩
  refine (θ_run Cert.WeightReferenceIdeal.defs _ _).mono (fun _ h c => ?_) (Cert.WeightReferenceIdeal.Value.run m' g')
  obtain ⟨h0, h1, h2, h3⟩ := h c
  obtain ⟨a0, a1, a2, a3, a4, a5⟩ := hargs c
  obtain ⟨f0, f1, f2, f3, f4, f5⟩ := finite_of_pre m hpre c
  refine ⟨h0.trans ?_, h1.trans ?_, h2.trans ?_, h3⟩
  · rw [Cert.WeightReferenceIdeal.Read.val_main_v35_eq, a0, a1, a2, a3, a4, a5, ref_dwg f0 f1 f2 f3 f4 f5,
      array_g m c, DG_eq, H_eq]
  · rw [Cert.WeightReferenceIdeal.Read.val_main_v37_eq, a0, a1, a2, a3, a5, ref_dwu, array_u m c, DU_eq, H_eq]
  · rw [Cert.WeightReferenceIdeal.Read.val_main_v39_eq, a0, a1, a2, a3, a4, ref_dwd, array_d m c, D_eq, Gt_eq, Up_eq]

end Cert.Ffn.Weight

end
-- ==== Proof.Ffn.FeedPoint.lean ====
/- What one point of the feed-forward block's forward launch leaves in its four blocks. -/
module

public import proofs.«01_k».proof.Proof.Gen.FeedKernelIdeal.Value
public import proofs.«01_k».proof.Proof.Ffn.Back
public import Idealize.ShloMosaic.Lib.Pipeline.ReadBack

@[expose] public section

set_option maxRecDepth 16384

noncomputable section

namespace Cert.Ffn.Feed

open Cert.FeedKernelIdeal Cert.FeedKernelIdeal.Gen Idealize.ShloMosaic Idealize.ShloMosaic.TcCoe Idealize.SL.Sem
open Idealize.ShloMosaic.Pipeline (Dat)

/-! ## The pieces of one point -/

/-- A block of the normalised input. -/
def hidB (x : S1024x2048.Idx → EReal) (g : S1x2048.Idx → EReal) (y : S1024x2048.Idx) : EReal :=
  x y * rowInv (fun k => x (ix2 (y 0) k)) * g (ix2 0 (y 1))

/-- A block of a projection. -/
def gateB (h : S1024x2048.Idx → EReal) (w : S512x2048.Idx → EReal) (y : S1024x512.Idx) : EReal :=
  ∑ k : Fin 2048, h (ix2 (y 0) k) * w (ix2 (y 1) k)

/-- A block of the gated product. -/
def actB (h : S1024x2048.Idx → EReal) (a b : S512x2048.Idx → EReal) (y : S1024x512.Idx) : EReal := act (gateB h a y) (gateB h b y)

/-- What a tile of hidden columns adds to the output. -/
def tile1 (h : S1024x2048.Idx → EReal) (a b w : S512x2048.Idx → EReal) (y : S1024x2048.Idx) : EReal :=
  ∑ f : Fin 512, actB h a b (ix2 (y 0) f) * w (ix2 f (y 1))

theorem pay_hid (x : Vec Ideal S128x2048 .f32) (g : Vec Ideal S1x2048 .f32) (y : S128x2048.Idx) :
    k0_pay6 (F := Ideal) x g y = x y * rowInv (fun k => x (ix2 (y 0) k)) * g (ix2 0 (y 1)) := by
  idx_vars y
  unfold_payloads
  pointwise [rowInv]

theorem pay_gate (h : Vec Ideal S1024x2048 .bf16) (a : Vec Ideal S256x2048 .bf16) (y : S1024x256.Idx) :
    k0_pay20 (F := Ideal) h a y = ∑ k : Fin 2048, h (ix2 (y 0) k) * a (ix2 (y 1) k) := by
  idx_vars y
  unfold_payloads
  pointwise

theorem pay_act (h : Vec Ideal S1024x2048 .bf16) (a b : Vec Ideal S256x2048 .bf16) (y : S1024x256.Idx) :
    k0_pay22 (F := Ideal) h a b y
      = act (∑ k : Fin 2048, h (ix2 (y 0) k) * a (ix2 (y 1) k)) (∑ k : Fin 2048, h (ix2 (y 0) k) * b (ix2 (y 1) k)) := by
  idx_vars y
  unfold_payloads
  pointwise [act]

theorem pay_add (p : Vec Ideal S1024x2048 .f32) (q : Vec Ideal S1024x512 .bf16) (w : Vec Ideal S512x2048 .bf16) (y : S1024x2048.Idx) :
    k0_pay4 (F := Ideal) p q w y = p y + ∑ f : Fin 512, q (ix2 (y 0) f) * w (ix2 f (y 1)) := by
  idx_vars y
  unfold_payloads
  pointwise

theorem pay_end (x p : Vec Ideal S1024x2048 .f32) (y : S1024x2048.Idx) :
    k0_pay5 (F := Ideal) x p y = x y + Ideal.ofBits .f32 0x3F000000#32 * p y := by
  idx_vars y
  unfold_payloads
  pointwise

theorem emb_row (n : ℕ) (inb) (hn : n + 128 ≤ 1024) (z : S128x2048.Idx) : (Rect.unit (s := S1024x2048) ![n, 0] ![128, 2048] inb).emb z
    = ix2 ⟨n + (z 0).val, by have : (z 0).val < 128 := (z 0).isLt; omega⟩ (z 1) := by
  refine funext fun a => Fin.ext ?_
  refine (Rect.idx_unit_val ..).trans ?_
  fin_cases a
  · rfl
  · exact Nat.zero_add _

/-- One of the eight stores of a block of the normalised input. -/
theorem piece_hid (x : Vec Ideal S1024x2048 .f32) (g : Vec Ideal S1x2048 .f32) (n : ℕ) (inb) (hn : n + 128 ≤ 1024) (z : S128x2048.Idx) :
    k0_pay6 (F := Ideal) (View.ld x (Rect.unit (s := S1024x2048) ![n, 0] ![128, 2048] inb)) g z
      = hidB x g ((Rect.unit (s := S1024x2048) ![n, 0] ![128, 2048] inb).emb z) := by
  refine (pay_hid _ _ z).trans ?_
  have e (k : Fin 2048) : View.ld x (Rect.unit (s := S1024x2048) ![n, 0] ![128, 2048] inb) (ix2 (z 0) k)
      = x (ix2 ⟨n + (z 0).val, by have : (z 0).val < 128 := (z 0).isLt; omega⟩ k) :=
    congrArg x (emb_row n inb hn (ix2 (z 0) k))
  rw [emb_row n inb hn z]
  unfold hidB
  exact congrArg₂ (fun (u : EReal) (r : Fin 2048 → EReal) => u * rowInv r * g (ix2 0 (z 1))) (congrArg x (emb_row n inb hn z)) (funext e)

/-- Rows `n` to `n + 255` of a weight's block. -/
theorem ld_row (b : Vec Ideal S512x2048 .bf16) (n : ℕ) (inb) (r : Fin 256) (k : Fin 2048) (hn : n + 256 ≤ 512) :
    View.ld b (Rect.unit (s := S512x2048) ![n, 0] ![256, 2048] inb) (ix2 r k) = b (ix2 ⟨n + r.val, by omega⟩ k) := by
  refine congrArg b (funext fun a => Fin.ext ?_)
  rw [Rect.idx_unit_val]
  fin_cases a
  · rfl
  · exact Nat.zero_add _

/-- A projection at a column of one half of a block. -/
theorem half (h : Vec Ideal S1024x2048 .bf16) (w : Vec Ideal S512x2048 .bf16) (n : ℕ) (inb) (y : S1024x512.Idx) (x : S1024x256.Idx) (hn : n + 256 ≤ 512)
    (h0 : (y 0).val = (x 0).val) (h1 : (y 1).val = n + (x 1).val) :
    (∑ k : Fin 2048, h (ix2 (x 0) k) * View.ld w (Rect.unit (s := S512x2048) ![n, 0] ![256, 2048] inb) (ix2 (x 1) k)) = gateB h w y := by
  refine Finset.sum_congr rfl fun k _ => congrArg₂ (· * ·) (congrArg h (congrArg₂ ix2 (Fin.ext h0.symm) rfl)) ?_
  exact (ld_row w n inb (x 1) k hn).trans (congrArg w (congrArg₂ ix2 (Fin.ext h1.symm) rfl))

/-- One of the two stores of a block of a projection. -/
theorem piece_gate (h : Vec Ideal S1024x2048 .bf16) (w : Vec Ideal S512x2048 .bf16) (n : ℕ) (inb) (hn : n + 256 ≤ 512) (y : S1024x512.Idx) (x : S1024x256.Idx)
    (h0 : (y 0).val = (x 0).val) (h1 : (y 1).val = n + (x 1).val) :
    k0_pay20 (F := Ideal) h (View.ld w (Rect.unit (s := S512x2048) ![n, 0] ![256, 2048] inb)) x = gateB h w y :=
  (pay_gate _ _ x).trans (half h w n inb y x hn h0 h1)

/-- One of the two stores of a block of the gated product. -/
theorem piece_act (h : Vec Ideal S1024x2048 .bf16) (a b : Vec Ideal S512x2048 .bf16) (n : ℕ) (inb) (hn : n + 256 ≤ 512) (y : S1024x512.Idx) (x : S1024x256.Idx)
    (h0 : (y 0).val = (x 0).val) (h1 : (y 1).val = n + (x 1).val) :
    k0_pay22 (F := Ideal) h (View.ld a (Rect.unit (s := S512x2048) ![n, 0] ![256, 2048] inb))
      (View.ld b (Rect.unit (s := S512x2048) ![n, 0] ![256, 2048] inb)) x = actB h a b y :=
  (pay_act _ _ _ x).trans (congrArg₂ act (half h a n inb y x hn h0 h1) (half h b n inb y x hn h0 h1))

/-! ## The blocks read back whole -/

theorem emb_col (n : ℕ) (inb) (x : S1024x256.Idx) : (((Rect.unit (s := S1024x512) ![0, n] ![1024, 256] inb).emb x) 0).val = (x 0).val
    ∧ (((Rect.unit (s := S1024x512) ![0, n] ![1024, 256] inb).emb x) 1).val = n + (x 1).val := by
  constructor
  · exact (Rect.idx_unit_val ..).trans (Nat.zero_add _)
  · exact Rect.idx_unit_val ..

theorem whole_act (inb) (j : S1024x512.Idx) : (Rect.unit (s := S1024x512) ![0, 0] ![1024, 512] inb).toLoadRect.idx j = j := by
  refine funext fun a => Fin.ext ?_
  refine (Rect.idx_unit_val ..).trans ?_
  fin_cases a <;> exact Nat.zero_add _

theorem whole_hid (inb) (j : S1024x2048.Idx) : (Rect.unit (s := S1024x2048) ![0, 0] ![1024, 2048] inb).toLoadRect.idx j = j := by
  refine funext fun a => Fin.ext ?_
  refine (Rect.idx_unit_val ..).trans ?_
  fin_cases a <;> exact Nat.zero_add _

section

variable (x : Vec Ideal S1024x2048 .f32) (g : Vec Ideal S1x2048 .f32) (h : Vec Ideal S1024x2048 .bf16) (a b : Vec Ideal S512x2048 .bf16) (t : Fin cfg0.N)

theorem act_read : (View.whole cc0_scratch0).readCov (Val := Elt Ideal)
      [⟨Rect.unit (s := S1024x512) ![0, 256] ![1024, 256] inb_S1024x512_S1024x256_0_256,
          k0_pay3 (F := Ideal) (k0_pay23 (F := Ideal) h (View.ld a (Rect.unit (s := S512x2048) ![256, 0] ![256, 2048] inb_S512x2048_S256x2048_256_0)))
            (k0_pay24 (F := Ideal) h (View.ld b (Rect.unit (s := S512x2048) ![256, 0] ![256, 2048] inb_S512x2048_S256x2048_256_0)))⟩,
        ⟨Rect.unit (s := S1024x512) ![0, 0] ![1024, 256] inb_S1024x512_S1024x256_0_0,
          k0_pay22 (F := Ideal) h (View.ld a (Rect.unit (s := S512x2048) ![0, 0] ![256, 2048] inb_S512x2048_S256x2048_0_0))
            (View.ld b (Rect.unit (s := S512x2048) ![0, 0] ![256, 2048] inb_S512x2048_S256x2048_0_0))⟩]
      (Rect.unit (s := S1024x512) ![0, 0] ![1024, 512] inb_S1024x512_S1024x512_0_0).toLoadRect = actB h a b := by
  rw [View.readCov_eq_canon']
  funext j
  rw [whole_act]
  refine View.canon_append_of_piecesOf (Val := Elt Ideal) (e := .bf16) (actB h a b) [] [_, _] ⟨?_, ?_, trivial⟩ j ?_
  · exact fun x => piece_act h a b 256 _ (by norm_num) _ x (emb_col 256 inb_S1024x512_S1024x256_0_256 x).1 (emb_col 256 inb_S1024x512_S1024x256_0_256 x).2
  · exact fun x => piece_act h a b 0 _ (by norm_num) _ x (emb_col 0 inb_S1024x512_S1024x256_0_0 x).1 (emb_col 0 inb_S1024x512_S1024x256_0_0 x).2
  · exact View.cover_of_tiledL _ ![1024, 256] rfl j

theorem hid_read : (ms0_6 t).view.readCov (Val := Elt Ideal)
      [
        ⟨Rect.unit (s := S1024x2048) ![896, 0] ![128, 2048] inb_S1024x2048_S128x2048_896_0,
          k0_pay15 (F := Ideal) (View.ld x (Rect.unit (s := S1024x2048) ![896, 0] ![128, 2048] inb_S1024x2048_S128x2048_896_0)) g⟩,
        ⟨Rect.unit (s := S1024x2048) ![768, 0] ![128, 2048] inb_S1024x2048_S128x2048_768_0,
          k0_pay14 (F := Ideal) (View.ld x (Rect.unit (s := S1024x2048) ![768, 0] ![128, 2048] inb_S1024x2048_S128x2048_768_0)) g⟩,
        ⟨Rect.unit (s := S1024x2048) ![640, 0] ![128, 2048] inb_S1024x2048_S128x2048_640_0,
          k0_pay13 (F := Ideal) (View.ld x (Rect.unit (s := S1024x2048) ![640, 0] ![128, 2048] inb_S1024x2048_S128x2048_640_0)) g⟩,
        ⟨Rect.unit (s := S1024x2048) ![512, 0] ![128, 2048] inb_S1024x2048_S128x2048_512_0,
          k0_pay12 (F := Ideal) (View.ld x (Rect.unit (s := S1024x2048) ![512, 0] ![128, 2048] inb_S1024x2048_S128x2048_512_0)) g
            (k0_pay11 (F := Ideal) (View.ld x (Rect.unit (s := S1024x2048) ![512, 0] ![128, 2048] inb_S1024x2048_S128x2048_512_0)))⟩,
        ⟨Rect.unit (s := S1024x2048) ![384, 0] ![128, 2048] inb_S1024x2048_S128x2048_384_0,
          k0_pay10 (F := Ideal) (View.ld x (Rect.unit (s := S1024x2048) ![384, 0] ![128, 2048] inb_S1024x2048_S128x2048_384_0)) g⟩,
        ⟨Rect.unit (s := S1024x2048) ![256, 0] ![128, 2048] inb_S1024x2048_S128x2048_256_0,
          k0_pay9 (F := Ideal) (View.ld x (Rect.unit (s := S1024x2048) ![256, 0] ![128, 2048] inb_S1024x2048_S128x2048_256_0)) g
            (k0_pay8 (F := Ideal) (View.ld x (Rect.unit (s := S1024x2048) ![256, 0] ![128, 2048] inb_S1024x2048_S128x2048_256_0)))⟩,
        ⟨Rect.unit (s := S1024x2048) ![128, 0] ![128, 2048] inb_S1024x2048_S128x2048_128_0,
          k0_pay7 (F := Ideal) (View.ld x (Rect.unit (s := S1024x2048) ![128, 0] ![128, 2048] inb_S1024x2048_S128x2048_128_0)) g⟩,
        ⟨Rect.unit (s := S1024x2048) ![0, 0] ![128, 2048] inb_S1024x2048_S128x2048_0_0,
          k0_pay6 (F := Ideal) (View.ld x (Rect.unit (s := S1024x2048) ![0, 0] ![128, 2048] inb_S1024x2048_S128x2048_0_0)) g⟩]
      (Rect.unit (s := S1024x2048) ![0, 0] ![1024, 2048] inb_S1024x2048_S1024x2048_0_0).toLoadRect = hidB x g := by
  rw [View.readCov_eq_canon']
  funext j
  rw [whole_hid]
  refine View.canon_append_of_piecesOf (Val := Elt Ideal) (e := .bf16) (hidB x g) [] [_, _, _, _, _, _, _, _] ⟨?_, ?_, ?_, ?_, ?_, ?_, ?_, ?_, trivial⟩ j ?_
  · exact fun z => piece_hid x g 896 inb_S1024x2048_S128x2048_896_0 (by norm_num) z
  · exact fun z => piece_hid x g 768 inb_S1024x2048_S128x2048_768_0 (by norm_num) z
  · exact fun z => piece_hid x g 640 inb_S1024x2048_S128x2048_640_0 (by norm_num) z
  · exact fun z => piece_hid x g 512 inb_S1024x2048_S128x2048_512_0 (by norm_num) z
  · exact fun z => piece_hid x g 384 inb_S1024x2048_S128x2048_384_0 (by norm_num) z
  · exact fun z => piece_hid x g 256 inb_S1024x2048_S128x2048_256_0 (by norm_num) z
  · exact fun z => piece_hid x g 128 inb_S1024x2048_S128x2048_128_0 (by norm_num) z
  · exact fun z => piece_hid x g 0 inb_S1024x2048_S128x2048_0_0 (by norm_num) z
  · exact View.cover_of_tiledL _ ![128, 2048] rfl j

end

section

variable (x0 : Vec Ideal S1024x2048 .f32) (x1 : Vec Ideal S1x2048 .f32) (x2 x3 x4 : Vec Ideal S512x2048 .bf16)
  (p : Vec Ideal S1024x2048 .f32) (v : Vec Ideal S1024x2048 .bf16) (c : Dev nD) (t : Fin cfg0.N)

theorem gate_A (h0 : t.val % 11 = 0) (h1 : ¬t.val % 11 = 10) (y : S1024x512.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 y
      = gateB (hidB x0 x1) x2 y := by
  frame_out
  rw [hid_read]
  canon_tiles x hh
  · exact piece_gate (hidB x0 x1) x2 256 _ (by norm_num) y x hh0 (by omega)
  · exact piece_gate (hidB x0 x1) x2 0 _ (by norm_num) y x hh0 (by omega)

theorem up_A (h0 : t.val % 11 = 0) (h1 : ¬t.val % 11 = 10) (y : S1024x512.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 y
      = gateB (hidB x0 x1) x3 y := by
  frame_out
  rw [hid_read]
  canon_tiles x hh
  · exact piece_gate (hidB x0 x1) x3 256 _ (by norm_num) y x hh0 (by omega)
  · exact piece_gate (hidB x0 x1) x3 0 _ (by norm_num) y x hh0 (by omega)

theorem hn_A (h0 : t.val % 11 = 0) (h1 : ¬t.val % 11 = 10) (y : S1024x2048.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 y
      = (hidB x0 x1) y := by
  frame_out
  rw [hid_read]
  unfold k0_pay17
  pointwise

theorem xo_A (h0 : t.val % 11 = 0) (h1 : ¬t.val % 11 = 10) (y : S1024x2048.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 y
      = 0 + tile1 (hidB x0 x1) x2 x3 x4 y := by
  frame_out
  rw [hid_read, act_read, pay_add]
  unfold k0_pay16
  pointwise [tile1]

theorem gate_B (h0 : ¬t.val % 11 = 0) (h1 : ¬t.val % 11 = 10) (y : S1024x512.Idx) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 p v y
      = gateB v x2 y := by
  frame_out
  canon_tiles x hh
  · exact piece_gate v x2 256 _ (by norm_num) y x hh0 (by omega)
  · exact piece_gate v x2 0 _ (by norm_num) y x hh0 (by omega)

theorem up_B (h0 : ¬t.val % 11 = 0) (h1 : ¬t.val % 11 = 10) (y : S1024x512.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 p v y
      = gateB v x3 y := by
  frame_out
  canon_tiles x hh
  · exact piece_gate v x3 256 _ (by norm_num) y x hh0 (by omega)
  · exact piece_gate v x3 0 _ (by norm_num) y x hh0 (by omega)

theorem hn_B (h0 : ¬t.val % 11 = 0) (h1 : ¬t.val % 11 = 10) (y : S1024x2048.Idx) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 p v y
      = v y := by
  frame_out
  unfold k0_pay17
  pointwise

theorem xo_B (h0 : ¬t.val % 11 = 0) (h1 : ¬t.val % 11 = 10) (y : S1024x2048.Idx) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 p v y
      = p y + tile1 v x2 x3 x4 y := by
  frame_out
  rw [act_read, pay_add]
  rfl

theorem gate_C (h0 : ¬t.val % 11 = 0) (h1 : t.val % 11 = 10) (y : S1024x512.Idx) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 p v y
      = gateB v x2 y := by
  frame_out
  canon_tiles x hh
  · exact piece_gate v x2 256 _ (by norm_num) y x hh0 (by omega)
  · exact piece_gate v x2 0 _ (by norm_num) y x hh0 (by omega)

theorem up_C (h0 : ¬t.val % 11 = 0) (h1 : t.val % 11 = 10) (y : S1024x512.Idx) :
    out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 p v y
      = gateB v x3 y := by
  frame_out
  canon_tiles x hh
  · exact piece_gate v x3 256 _ (by norm_num) y x hh0 (by omega)
  · exact piece_gate v x3 0 _ (by norm_num) y x hh0 (by omega)

theorem hn_C (h0 : ¬t.val % 11 = 0) (h1 : t.val % 11 = 10) (y : S1024x2048.Idx) :
    out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 p v y
      = v y := by
  frame_out
  unfold k0_pay17
  pointwise

theorem xo_C (h0 : ¬t.val % 11 = 0) (h1 : t.val % 11 = 10) (y : S1024x2048.Idx) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 p v y
      = x0 y + Ideal.ofBits .f32 0x3F000000#32 * (p y + tile1 v x2 x3 x4 y) := by
  frame_open
  simp (disch := decide) only [↓View.readCov_skip, ↓View.readCov_cons_toLoadRect, ↓View.readCov_fill]
  frame_out
  rw [act_read, pay_end, pay_add]
  rfl

end

end Cert.Ffn.Feed

end
-- ==== Proof.Ffn.Feed.lean ====
/- What the four arrays of the feed-forward block's forward launch hold after its run. -/
module

public import proofs.«01_k».proof.Proof.Gen.FeedKernelIdeal.Value
public import proofs.«01_k».proof.Proof.Ffn.FeedPoint
public import Idealize.ShloMosaic.Lib.Pipeline.ReadBack

@[expose] public section

set_option maxRecDepth 16384

noncomputable section

namespace Cert.Ffn.Feed

open Cert.FeedKernelIdeal Cert.FeedKernelIdeal.Gen Idealize.ShloMosaic Idealize.ShloMosaic.TcCoe Idealize.SL.Sem
open Idealize.ShloMosaic.Pipeline (Dat)

variable (m : (ℓ : Loc nD τ sig) → Buf (Elt Ideal) ℓ)

/-! ## What the blocks are -/

theorem idx : ∀ t : Fin cfg0.N, (win0_0.index t = ![t.val / 11, 0] ∧ win0_1.index t = ![0, 0]
    ∧ win0_2.index t = ![t.val % 11, 0] ∧ win0_3.index t = ![t.val % 11, 0] ∧ win0_4.index t = ![t.val % 11, 0])
    ∧ win0_5.index t = ![t.val / 11, 0] ∧ win0_6.index t = ![t.val / 11, 0] ∧ win0_7.index t = ![t.val / 11, t.val % 11]
    ∧ win0_8.index t = ![t.val / 11, t.val % 11] :=
  (by decide +kernel : ∀ t : Fin grid0.N, _)

/-- Row `r` of a point's block of tokens. -/
def row (t : Fin cfg0.N) (r : Fin 1024) : Fin 8192 := ⟨t.val / 11 * 1024 + r.val, by have : t.val < 88 := t.isLt; omega⟩

/-- Column `r` of a point's block of hidden columns. -/
def col (t : Fin cfg0.N) (r : Fin 512) : Fin 5632 := ⟨t.val % 11 * 512 + r.val, by omega⟩

section
variable (c : Dev nD) (A : (b : Ref sig .tc) → Buf (Elt Ideal) ((c : Thread nD τ).loc b)) (t : Fin cfg0.N)

theorem read_0 (r : Fin 1024) (k : Fin 2048) : ((cfg0.win 0).blk t).view.read (Elt Ideal) (A (Pipeline.arrRef spec0 0)) (ix2 r k)
    = (A main_arg0 : Vec Ideal S8192x2048 .f32) (ix2 (row t r) k) := by
  blk_point [idx t, row]

theorem read_1 (r : Fin 1) (k : Fin 2048) : ((cfg0.win 1).blk t).view.read (Elt Ideal) (A (Pipeline.arrRef spec0 1)) (ix2 r k)
    = (A main_arg1 : Vec Ideal S1x2048 .f32) (ix2 r k) := by
  blk_point [idx t]

theorem read_2 (r : Fin 512) (k : Fin 2048) : ((cfg0.win 2).blk t).view.read (Elt Ideal) (A (Pipeline.arrRef spec0 2)) (ix2 r k)
    = (A main_v3 : Vec Ideal S5632x2048 .bf16) (ix2 (col t r) k) := by
  blk_point [idx t, col]

theorem read_3 (r : Fin 512) (k : Fin 2048) : ((cfg0.win 3).blk t).view.read (Elt Ideal) (A (Pipeline.arrRef spec0 3)) (ix2 r k)
    = (A main_v5 : Vec Ideal S5632x2048 .bf16) (ix2 (col t r) k) := by
  blk_point [idx t, col]

theorem read_4 (r : Fin 512) (k : Fin 2048) : ((cfg0.win 4).blk t).view.read (Elt Ideal) (A (Pipeline.arrRef spec0 4)) (ix2 r k)
    = (A main_v7 : Vec Ideal S5632x2048 .bf16) (ix2 (col t r) k) := by
  blk_point [idx t, col]

end

section
variable (c : Dev nD)

/-- The block's input as the launch finds it. -/
def X : SX.Idx → EReal := (V m c main_arg0 : Vec Ideal S8192x2048 .f32)

/-- The norm's gain. -/
def G : SG.Idx → EReal := (V m c main_arg1 : Vec Ideal S1x2048 .f32)

/-- The gate's padded weights. -/
def Wg : SW.Idx → EReal := (V m c main_v3 : Vec Ideal S5632x2048 .bf16)

/-- The other factor's padded weights. -/
def Wu : SW.Idx → EReal := (V m c main_v5 : Vec Ideal S5632x2048 .bf16)

/-- The last projection's padded weights. -/
def Wd : SW.Idx → EReal := (V m c main_v7 : Vec Ideal S5632x2048 .bf16)

/-- The normalised input. -/
def H : SX.Idx → EReal := hid (X m c) (G m c)

/-! ## The normalised input that the points of a row of tiles hand on -/

/-- A point's block of the normalised input. -/
def hblk (t : Fin cfg0.N) (y : S1024x2048.Idx) : EReal := H m c (ix2 (row t (y 0)) (y 1))

theorem hid_eq (t : Fin cfg0.N) : hidB (iblk m c 0 t) (iblk m c 1 t) = hblk m c t := by
  funext y
  have e (k : Fin 2048) : (iblk m c 0 t : Vec Ideal S1024x2048 .f32) (ix2 (y 0) k) = X m c (ix2 (row t (y 0)) k) := read_0 c (V m c) t (y 0) k
  have eg : (iblk m c 1 t : Vec Ideal S1x2048 .f32) (ix2 0 (y 1)) = G m c (ix2 0 (y 1)) := read_1 c (V m c) t 0 (y 1)
  have ey : (iblk m c 0 t : Vec Ideal S1024x2048 .f32) y = X m c (ix2 (row t (y 0)) (y 1)) :=
    (congrArg (iblk m c 0 t : Vec Ideal S1024x2048 .f32) (ix2_eta y)).symm.trans (e (y 1))
  unfold hidB
  rw [ey, eg, funext e]
  rfl

theorem hn_first (t : Fin cfg0.N) (h0 : t.val % 11 = 0) : (outsAt0 m c t.val t.isLt).2.1 = hblk m c t := by
  have h1 : ¬t.val % 11 = 10 := by omega
  funext y
  rw [← hid_eq, outsAt0_A m c t h0 h1]
  dsimp only
  exact hn_A _ _ _ _ _ c t h0 h1 y

theorem hn_next (t : Fin cfg0.N) (h0 : ¬t.val % 11 = 0) :
    (outsAt0 m c t.val t.isLt).2.1 = (outsAt0 m c (t.val - 1) (Nat.lt_of_le_of_lt (Nat.sub_le _ _) t.isLt)).2.1 := by
  funext y
  by_cases h1 : t.val % 11 = 10
  · rw [outsAt0_C m c t h0 h1]
    dsimp only
    exact hn_C _ _ _ _ _ _ _ c t h0 h1 y
  · rw [outsAt0_B m c t h0 h1]
    dsimp only
    exact hn_B _ _ _ _ _ _ _ c t h0 h1 y

/-- Every point leaves its rows' normalised input. -/
theorem carried (n : ℕ) (hn : n < cfg0.N) : (outsAt0 m c n hn).2.1 = hblk m c ⟨n, hn⟩ := by
  induction n with
  | zero => exact hn_first m c ⟨0, hn⟩ (Nat.zero_mod _)
  | succ n ih =>
    by_cases h : (n + 1) % 11 = 0
    · exact hn_first m c ⟨n + 1, hn⟩ h
    · refine (hn_next m c ⟨n + 1, hn⟩ h).trans ((ih _).trans (funext fun y => ?_))
      refine congrArg (H m c) (congrArg₂ ix2 (Fin.ext ?_) rfl)
      show n / 11 * 1024 + (y 0).val = (n + 1) / 11 * 1024 + (y 0).val
      omega

/-- What the point before a point inside a row of tiles leaves is what the point itself does. -/
theorem before (t : Fin cfg0.N) (h : ¬t.val % 11 = 0) (hp : t.val - 1 < cfg0.N) : (outsAt0 m c (t.val - 1) hp).2.1 = hblk m c t :=
  (hn_next m c t h).symm.trans (carried m c t.val t.isLt)

/-! ## The two projections -/

/-- A point's block of the gate. -/
theorem gate_eq (t : Fin cfg0.N) (y : S1024x512.Idx) :
    gateB (hblk m c t) (iblk m c 2 t) y = proj (H m c) (Wg m c) (ix2 (row t (y 0)) (col t (y 1))) :=
  Finset.sum_congr rfl fun k _ => congrArg (H m c (ix2 (row t (y 0)) k) * ·) (read_2 c (V m c) t (y 1) k)

/-- A point's block of the other factor. -/
theorem up_eq (t : Fin cfg0.N) (y : S1024x512.Idx) :
    gateB (hblk m c t) (iblk m c 3 t) y = proj (H m c) (Wu m c) (ix2 (row t (y 0)) (col t (y 1))) :=
  Finset.sum_congr rfl fun k _ => congrArg (H m c (ix2 (row t (y 0)) k) * ·) (read_3 c (V m c) t (y 1) k)

theorem gate_at (t : Fin cfg0.N) (y : S1024x512.Idx) :
    (outsAt0 m c t.val t.isLt).2.2.1 y = proj (H m c) (Wg m c) (ix2 (row t (y 0)) (col t (y 1))) := by
  rw [← gate_eq]
  by_cases h0 : t.val % 11 = 0
  · have h1 : ¬t.val % 11 = 10 := by omega
    rw [← hid_eq, outsAt0_A m c t h0 h1]
    dsimp only
    exact gate_A _ _ _ _ _ c t h0 h1 y
  · rw [← before m c t h0 (Nat.lt_of_le_of_lt (Nat.sub_le _ _) t.isLt)]
    by_cases h1 : t.val % 11 = 10
    · rw [outsAt0_C m c t h0 h1]
      dsimp only
      exact gate_C _ _ _ _ _ _ _ c t h0 h1 y
    · rw [outsAt0_B m c t h0 h1]
      dsimp only
      exact gate_B _ _ _ _ _ _ _ c t h0 h1 y

theorem up_at (t : Fin cfg0.N) (y : S1024x512.Idx) :
    (outsAt0 m c t.val t.isLt).2.2.2 y = proj (H m c) (Wu m c) (ix2 (row t (y 0)) (col t (y 1))) := by
  rw [← up_eq]
  by_cases h0 : t.val % 11 = 0
  · have h1 : ¬t.val % 11 = 10 := by omega
    rw [← hid_eq, outsAt0_A m c t h0 h1]
    dsimp only
    exact up_A _ _ _ _ _ c t h0 h1 y
  · rw [← before m c t h0 (Nat.lt_of_le_of_lt (Nat.sub_le _ _) t.isLt)]
    by_cases h1 : t.val % 11 = 10
    · rw [outsAt0_C m c t h0 h1]
      dsimp only
      exact up_C _ _ _ _ _ _ _ c t h0 h1 y
    · rw [outsAt0_B m c t h0 h1]
      dsimp only
      exact up_B _ _ _ _ _ _ _ c t h0 h1 y

/-! ## The sum over a row's tiles -/

/-- What a point's tile adds. -/
def term (t : Fin cfg0.N) (y : S1024x2048.Idx) : EReal := tile1 (hblk m c t) (iblk m c 2 t) (iblk m c 3 t) (iblk m c 4 t) y

/-- The sum over the tiles of a row up to a point: at a row's last point the block no longer holds it. -/
def acc (n : ℕ) (hn : n < cfg0.N) (y : S1024x2048.Idx) : EReal :=
  if n % 11 = 10 then (outsAt0 m c (n - 1) (Nat.lt_of_le_of_lt (Nat.sub_le _ _) hn)).1 y + term m c ⟨n, hn⟩ y else (outsAt0 m c n hn).1 y

theorem acc_first (t : Fin cfg0.N) (h0 : t.val % 11 = 0) (y : S1024x2048.Idx) : acc m c t.val t.isLt y = 0 + term m c t y := by
  have h1 : ¬t.val % 11 = 10 := by omega
  unfold acc term
  rw [if_neg h1, ← hid_eq, outsAt0_A m c t h0 h1]
  dsimp only
  exact xo_A _ _ _ _ _ c t h0 h1 y

theorem acc_next (t : Fin cfg0.N) (h0 : ¬t.val % 11 = 0) (y : S1024x2048.Idx) (hp : t.val - 1 < cfg0.N) :
    acc m c t.val t.isLt y = acc m c (t.val - 1) hp y + term m c t y := by
  have hq : ¬(t.val - 1) % 11 = 10 := by omega
  have e : acc m c (t.val - 1) hp y = (outsAt0 m c (t.val - 1) hp).1 y := if_neg hq
  rw [e]
  by_cases h1 : t.val % 11 = 10
  · exact if_pos h1
  · refine (if_neg h1).trans ?_
    unfold term
    rw [← before m c t h0 hp, outsAt0_B m c t h0 h1]
    dsimp only
    exact xo_B _ _ _ _ _ _ _ c t h0 h1 y

/-- A hidden column's share of the output, from the whole arrays. -/
def part (h : SX.Idx → EReal) (a b w : SW.Idx → EReal) (n : Fin 8192) (k : Fin 2048) (f : Fin 5632) : EReal :=
  act (proj h a (ix2 n f)) (proj h b (ix2 n f)) * w (ix2 f k)

theorem term_eq (t : Fin cfg0.N) (y : S1024x2048.Idx) :
    term m c t y = ∑ f : Fin 512, part (H m c) (Wg m c) (Wu m c) (Wd m c) (row t (y 0)) (y 1) (col t f) := by
  unfold term tile1
  refine Finset.sum_congr rfl fun f _ => ?_
  unfold actB part
  rw [gate_eq, up_eq]
  exact congrArg (act _ _ * ·) (read_4 c (V m c) t f (y 1))

/-- At a row's last point the sum is complete. -/
theorem acc_last (t : Fin cfg0.N) (h1 : t.val % 11 = 10) (y : S1024x2048.Idx) : acc m c t.val t.isLt y
    = ∑ f : Fin 5632, part (H m c) (Wg m c) (Wu m c) (Wd m c) (row t (y 0)) (y 1) f := by
  refine (Pipeline.eq_sum_fin_of_reset_step_apply_of_flush (fun n h => acc m c n h) 11 (fun _ => (0 : EReal)) (term m c)
    (fun t h y => acc_first m c t h y) (fun t h y => acc_next m c t h y _) t h1 y).trans ?_
  rw [zero_add]
  refine Eq.trans ?_ (Fin.sum_mul_add_fin 11 512 (part (H m c) (Wg m c) (Wu m c) (Wd m c) (row t (y 0)) (y 1)))
  refine Finset.sum_congr rfl fun s _ => ?_
  rw [term_eq]
  refine Finset.sum_congr rfl fun f _ => congrArg₂ (fun n f => part (H m c) (Wg m c) (Wu m c) (Wd m c) n (y 1) f) (Fin.ext ?_) (Fin.ext ?_)
  · show (11 * (t.val / 11) + s.val) / 11 * 1024 + (y 0).val = t.val / 11 * 1024 + (y 0).val; omega
  · show (11 * (t.val / 11) + s.val) % 11 * 512 + f.val = s.val * 512 + f.val; omega

/-- The block's output from its input and the padded weights. -/
def out (x : SX.Idx → EReal) (g : SG.Idx → EReal) (a b w : SW.Idx → EReal) : SX.Idx → EReal := fun i =>
  x i + Ideal.ofBits .f32 0x3F000000#32 * ∑ f : Fin 5632, part (hid x g) a b w (i 0) (i 1) f

theorem xo_at (t : Fin cfg0.N) (h1 : t.val % 11 = 10) (y : S1024x2048.Idx) : (outsAt0 m c t.val t.isLt).1 y
    = out (X m c) (G m c) (Wg m c) (Wu m c) (Wd m c) (ix2 (row t (y 0)) (y 1)) := by
  have h0 : ¬t.val % 11 = 0 := by omega
  have e := acc_last m c t h1 y
  unfold acc term at e
  rw [if_pos h1] at e
  rw [outsAt0_C m c t h0 h1]
  dsimp only
  refine (xo_C _ _ _ _ _ _ _ c t h0 h1 y).trans ?_
  rw [before m c t h0]
  exact congrArg₂ (fun u v => u + Ideal.ofBits .f32 0x3F000000#32 * v)
    ((congrArg (iblk m c 0 t : Vec Ideal S1024x2048 .f32) (ix2_eta y)).symm.trans (read_0 c (V m c) t (y 0) (y 1))) e

/-! ## The four arrays -/

/-- Where a point's block of hidden columns lies in the array. -/
theorem place (t : Fin cfg0.N) (y : S1024x512.Idx) (z : SF.Idx) (n : Fin 2 → ℕ) (hn : n = ![t.val / 11, t.val % 11])
    (h0 : (z 0).val = n 0 * 1024 + 1 * (y 0).val) (h1 : (z 1).val = n 1 * 512 + 1 * (y 1).val) : z = ix2 (row t (y 0)) (col t (y 1)) := by
  subst hn
  refine funext fun a => Fin.ext ?_
  fin_cases a
  · exact h0.trans (congrArg _ (Nat.one_mul _))
  · exact h1.trans (congrArg _ (Nat.one_mul _))

/-- Where a point's block of rows lies in the array. -/
theorem place_row (t : Fin cfg0.N) (y : S1024x2048.Idx) (z : SX.Idx) (n : Fin 2 → ℕ) (hn : n = ![t.val / 11, 0])
    (h0 : (z 0).val = n 0 * 1024 + 1 * (y 0).val) (h1 : (z 1).val = n 1 * 2048 + 1 * (y 1).val) : z = ix2 (row t (y 0)) (y 1) := by
  subst hn
  refine funext fun a => Fin.ext ?_
  fin_cases a
  · exact h0.trans (congrArg _ (Nat.one_mul _))
  · refine h1.trans ?_
    show 0 * 2048 + 1 * (y 1).val = (y 1).val
    omega

theorem xo_array : (dats m 0 c).arrAt 5 cfg0.N = (out (X m c) (G m c) (Wg m c) (Wu m c) (Wd m c) : Vec Ideal S8192x2048 .f32) := by
  refine (dats m 0 c).arrAt_eq_of_covers 5 _ (by decide +kernel) fun t hf y => ?_
  blk_simp
  rw [after0_5]
  exact (xo_at m c t ((flush0_5 t).mp hf) y).trans
    (congrArg (out (X m c) (G m c) (Wg m c) (Wu m c) (Wd m c)) (place_row t y _ (win0_5.index t) (idx t).2.1 rfl rfl).symm)

theorem hn_array : (dats m 0 c).arrAt 6 cfg0.N = (H m c : Vec Ideal S8192x2048 .bf16) := by
  refine (dats m 0 c).arrAt_eq_of_covers 6 _ (by decide +kernel) fun t hf y => ?_
  blk_simp
  rw [after0_6, carried m c t.val t.isLt]
  exact congrArg (H m c) (place_row t y _ (win0_6.index t) (idx t).2.2.1 rfl rfl).symm

theorem gate_array : (dats m 0 c).arrAt 7 cfg0.N = (proj (H m c) (Wg m c) : Vec Ideal S8192x5632 .bf16) := by
  refine (dats m 0 c).arrAt_eq_of_covers 7 _ (by decide +kernel) fun t hf y => ?_
  blk_simp
  rw [after0_7]
  exact (gate_at m c t y).trans (congrArg (proj (H m c) (Wg m c)) (place t y _ (win0_7.index t) (idx t).2.2.2.1 rfl rfl).symm)

theorem up_array : (dats m 0 c).arrAt 8 cfg0.N = (proj (H m c) (Wu m c) : Vec Ideal S8192x5632 .bf16) := by
  refine (dats m 0 c).arrAt_eq_of_covers 8 _ (by decide +kernel) fun t hf y => ?_
  blk_simp
  rw [after0_8]
  exact (up_at m c t y).trans (congrArg (proj (H m c) (Wu m c)) (place t y _ (win0_8.index t) (idx t).2.2.2.2 rfl rfl).symm)

end

end Cert.Ffn.Feed

end
-- ==== Proof.Ffn.FeedPrefix.lean ====
/- What the feed-forward block's forward launch finds in its arguments: the host lines before it, read. -/
module

public import proofs.«01_k».proof.Proof.Ffn.Feed
public import Idealize.ShloMosaic.Lib.StableHlo.RunRead

@[expose] public section

set_option maxRecDepth 16384

noncomputable section

namespace Cert.Ffn.Feed

open Cert.FeedKernelIdeal Cert.FeedKernelIdeal.Gen Idealize.ShloMosaic Idealize.ShloMosaic.TcCoe Idealize.ShloMosaic.Tactic Idealize.SL.Sem

variable (m : (ℓ : Loc nD τ sig) → Buf (Elt Ideal) ℓ) (c : Dev nD)

theorem X_eq : X m c = m ((c : Thread nD τ).loc main_arg0) := by
  funext i
  idx_vars i
  unfold X V
  after_reads_simp

theorem G_eq : G m c = m ((c : Thread nD τ).loc main_arg1) := by
  funext i
  idx_vars i
  unfold G V
  after_reads_simp

theorem Wg_eq : Wg m c = padT (m ((c : Thread nD τ).loc main_arg2)) := by
  funext i
  idx_vars i
  unfold Wg V
  after_reads_simp
  simp only [StableHlo.TRef.toBuf, StableHlo.TRef.ofBuf, cast_eq]
  pointwise [padT]
  simp only [zero_bf16]

theorem Wu_eq : Wu m c = padT (m ((c : Thread nD τ).loc main_arg3)) := by
  funext i
  idx_vars i
  unfold Wu V
  after_reads_simp
  simp only [StableHlo.TRef.toBuf, StableHlo.TRef.ofBuf, cast_eq]
  pointwise [padT]
  simp only [zero_bf16]

theorem Wd_eq : Wd m c = padC (m ((c : Thread nD τ).loc main_arg4)) := by
  funext i
  idx_vars i
  unfold Wd V
  after_reads_simp
  simp only [StableHlo.TRef.toBuf, StableHlo.TRef.ofBuf, cast_eq]
  pointwise [padC]
  simp only [zero_bf16]

end Cert.Ffn.Feed

end
-- ==== Proof.Ffn.FeedReference.lean ====
/- What the reference of the feed-forward block's forward launch computes. -/
module

public import proofs.«01_k».proof.Proof.Gen.FeedReferenceIdeal.Read
public import proofs.«01_k».proof.Proof.Ffn.Feed
public import proofs.«01_k».proof.Proof.Ffn.InputReference

@[expose] public section

set_option maxRecDepth 16384

noncomputable section

namespace Cert.Ffn.Feed

open Cert.FeedReferenceIdeal Cert.FeedReferenceIdeal.Read Idealize.ShloMosaic Cert.Arith

theorem ref_hid (x : Vec Ideal S8192x2048 .f32) (g : Vec Ideal S1x2048 .f32) : val_main_v11 (F := Ideal) x g = hid x g := by
  funext i
  idx_vars i
  unfold val_main_v11 val_main_v10 val_main_v9 val_main_v8 val_main_v7 val_main_v6 val_main_v5 val_main_v4 val_main_v3 val_main_v2 val_main_v1
    val_main_v0 val_main_cst val_main_cst_0 val_main_cst_1
  pointwise [hid, inv]

theorem ref_hn (x : Vec Ideal S8192x2048 .f32) (g : Vec Ideal S1x2048 .f32) : val_main_v20 (F := Ideal) x g = hid x g := by
  unfold val_main_v20
  rw [ref_hid]
  rfl

theorem ref_pre (x : Vec Ideal S8192x2048 .f32) (g : Vec Ideal S1x2048 .f32) (a : Vec Ideal S2048x5504 .f32) :
    val_main_v12 (F := Ideal) x g a = pre x g a := by
  funext i
  idx_vars i
  unfold val_main_v12
  rw [ref_hid]
  pointwise [pre]

theorem ref_gate (x : Vec Ideal S8192x2048 .f32) (g : Vec Ideal S1x2048 .f32) (a : Vec Ideal S2048x5504 .f32) :
    val_main_v23 (F := Ideal) x g a = proj (hid x g) (padT a) := by
  funext i
  idx_vars i
  have e : val_main_v21 (F := Ideal) x g a = pre x g a := ref_pre x g a
  rw [proj_padT]
  unfold val_main_v23 val_main_v22 val_main_call1_v0 val_main_c
  pointwise
  split
  · rw [e]; rfl
  · simp [FloatOps.sitofp]

theorem ref_up (x : Vec Ideal S8192x2048 .f32) (g : Vec Ideal S1x2048 .f32) (a : Vec Ideal S2048x5504 .f32) :
    val_main_v26 (F := Ideal) x g a = proj (hid x g) (padT a) := ref_gate x g a

theorem ref_act (x : Vec Ideal S8192x2048 .f32) (g : Vec Ideal S1x2048 .f32) (a b : Vec Ideal S2048x5504 .f32) (i) :
    val_main_v15 (F := Ideal) x g a b i = act (pre x g a i) (pre x g b i) := by
  have e : val_main_v14 (F := Ideal) x g b = pre x g b := ref_pre x g b
  idx_vars i
  unfold val_main_v15 val_main_v13 val_main_call0_v5 val_main_call0_v4 val_main_call0_v3 val_main_call0_v2 val_main_call0_v1 val_main_call0_v0
    val_main_call0_cst val_main_call0_cst_0
  rw [ref_pre, e]
  pointwise [act]
  rfl

/-- The padding's hidden columns add nothing. -/
theorem sum_part (h : SX.Idx → EReal) (a b : SA.Idx → EReal) (w : SC.Idx → EReal) (n : Fin 8192) (k : Fin 2048) :
    ∑ f : Fin 5632, part h (padT a) (padT b) (padC w) n k f
      = ∑ f : Fin 5504, act (∑ j : Fin 2048, h (ix2 n j) * a (ix2 j f)) (∑ j : Fin 2048, h (ix2 n j) * b (ix2 j f)) * w (ix2 f k) := by
  refine (sum_pad _ fun f hf => ?_).trans (Finset.sum_congr rfl fun f _ => ?_)
  · exact (congrArg (act _ _ * ·) (dif_neg hf)).trans (mul_zero _)
  · unfold part
    rw [proj_padT, proj_padT, dif_pos f.isLt, dif_pos f.isLt]
    exact congrArg (act _ _ * ·) (dif_pos f.isLt)

theorem ref_out (x : Vec Ideal S8192x2048 .f32) (g : Vec Ideal S1x2048 .f32) (a b : Vec Ideal S2048x5504 .f32) (w : Vec Ideal S5504x2048 .f32) :
    val_main_v19 (F := Ideal) x g a b w = out x g (padT a) (padT b) (padC w) := by
  funext i
  idx_vars i
  refine Eq.trans ?_ (congrArg (fun s => x (ix2 i0 i1) + Ideal.ofBits .f32 0x3F000000#32 * s) (sum_part (hid x g) a b w i0 i1)).symm
  unfold val_main_v19 val_main_v18 val_main_v17 val_main_cst_2 val_main_v16
  pointwise
  simp only [ref_act]
  rfl

end Cert.Ffn.Feed

end
-- ==== Proof.Ffn.FeedClaim.lean ====
/- The value claim of the feed-forward block's forward launch, at all arguments. -/
module

public import proofs.«01_k».proof.Defs
public import proofs.«01_k».proof.Proof.Gen.FeedKernelIdeal.Value
public import proofs.«01_k».proof.Proof.Gen.FeedReferenceIdeal.Run
public import proofs.«01_k».proof.Proof.Ffn.FeedPrefix
public import proofs.«01_k».proof.Proof.Ffn.FeedReference

@[expose] public section

set_option maxRecDepth 16384

noncomputable section

namespace Cert.Ffn.Feed

open Idealize.ShloMosaic Idealize.ShloMosaic.TcCoe Idealize.SL.Sem

/-- The reference ends with its arguments as they were; it declares no semaphore. -/
theorem frame_reference : Cert.quiescent_FeedReferenceIdeal := fun m ρ _ =>
  (θ_run Cert.FeedReferenceIdeal.defs _ _).mono
    (fun r h => ⟨fun c => (h c).2.2.2.2, sem_eq_zero_of_no_sems (by decide) r.2⟩)
    (Cert.FeedReferenceIdeal.Value.run m ρ)

/-- The kernel's output, normalised input and two projections are the reference's. -/
theorem algebraic : Cert.algebraic_FeedKernelIdeal_FeedReferenceIdeal := by
  intro m g m' g' hpre hargs
  refine ⟨_, _, _, _, Cert.FeedKernelIdeal.Value.run_blocks m g, ?_⟩
  refine (θ_run Cert.FeedReferenceIdeal.defs _ _).mono (fun _ h c => ?_) (Cert.FeedReferenceIdeal.Value.run m' g')
  obtain ⟨h0, h1, h2, h3, h4⟩ := h c
  obtain ⟨a0, a1, a2, a3, a4⟩ := hargs c
  refine ⟨h0.trans ?_, h1.trans ?_, h2.trans ?_, h3.trans ?_, h4⟩
  · rw [Cert.FeedReferenceIdeal.Read.val_main_v19_eq, a0, a1, a2, a3, a4, ref_out, xo_array m c, X_eq, G_eq, Wg_eq, Wu_eq, Wd_eq]
  · rw [Cert.FeedReferenceIdeal.Read.val_main_v20_eq, a0, a1, ref_hn, hn_array m c, H, X_eq, G_eq]
  · rw [Cert.FeedReferenceIdeal.Read.val_main_v23_eq, a0, a1, a2, ref_gate, gate_array m c, H, X_eq, G_eq, Wg_eq]
  · rw [Cert.FeedReferenceIdeal.Read.val_main_v26_eq, a0, a1, a3, ref_up, up_array m c, H, X_eq, G_eq, Wu_eq]

end Cert.Ffn.Feed

end
-- ==== Proof.Norm.Kernel.lean ====
/- The value claim of the norm's forward launch, at all arguments. -/
module

public import proofs.«01_k».proof.Defs
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Ffn.Data
public import Idealize.ShloMosaic.Lib.Pipeline.ValueKit

@[expose] public section

set_option maxRecDepth 16384

noncomputable section

namespace Cert.Norm

open Idealize.ShloMosaic Idealize.ShloMosaic.TcCoe Idealize.SL.Sem Cert.Ffn
open Idealize.ShloMosaic.Pipeline (Dat)

section
open Cert.NormKernelIdeal Cert.NormKernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A block's payload is the normalised input at the array's row. -/
theorem pay (c : Dev nD) (t : Fin cfg0.N) (y : S512x2048.Idx) :
    k0_pay1 (F := Ideal) (iblk m c 0 t) (iblk m c 1 t) y = hid (m ((c : Thread nD τ).loc main_arg0))
      (m ((c : Thread nD τ).loc main_arg1)) (((View.whole main_v0).slice (win0_2.rect t)).emb y) := by
  unfold_payloads
  pointwise [hid, Ffn.inv]
  blk_point [iblk, V, idx t]

theorem array (c : Dev nD) : (dats m 0 c).arrAt 2 cfg0.N = (hid (m ((c : Thread nD τ).loc main_arg0))
    (m ((c : Thread nD τ).loc main_arg1)) : Vec Ideal S8192x2048 .bf16) := by
  refine (dats m 0 c).arrAt_eq_of_covers 2 _ (by decide +kernel) fun t hf y => ?_
  blk_simp
  rw [after0_2]
  frame_out
  exact pay m c t y

end

section
open Cert.NormReferenceIdeal Cert.NormReferenceIdeal.Read

theorem ref (x : Vec Ideal S8192x2048 .f32) (g : Vec Ideal S1x2048 .f32) : val_main_v12 (F := Ideal) x g = hid x g := by
  funext i
  idx_vars i
  unfold val_main_v12 val_main_v11 val_main_v10 val_main_v9 val_main_v8 val_main_v7 val_main_v6 val_main_v5 val_main_v4 val_main_v3 val_main_v2
    val_main_v1 val_main_v0 val_main_cst val_main_cst_0 val_main_cst_1
  pointwise [hid, Ffn.inv]

/-- The reference ends with its arguments as they were; it declares no semaphore. -/
theorem frame_reference : Cert.quiescent_NormReferenceIdeal := fun m ρ _ =>
  (θ_run Cert.NormReferenceIdeal.defs _ _).mono
    (fun r h => ⟨fun c => (h c).2, sem_eq_zero_of_no_sems (by decide) r.2⟩)
    (Cert.NormReferenceIdeal.Value.run m ρ)

end

/-- The kernel's normalised input is the reference's. -/
theorem algebraic : Cert.algebraic_NormKernelIdeal_NormReferenceIdeal := by
  intro m g m' g' hpre hargs
  refine ⟨_, Cert.NormKernelIdeal.Value.run_blocks m g, ?_⟩
  refine (θ_run Cert.NormReferenceIdeal.defs _ _).mono (fun _ h c => ?_) (Cert.NormReferenceIdeal.Value.run m' g')
  obtain ⟨h0, h1⟩ := h c
  obtain ⟨a0, a1⟩ := hargs c
  refine ⟨h0.trans ?_, h1⟩
  rw [Cert.NormReferenceIdeal.Read.val_main_v12_eq, a0, a1, ref, array m c]

end Cert.Norm

end
-- ==== Proof.Head.Kernel.lean ====
/- What the two arrays of the heads' norm's backward launch hold after its run. -/
module

public import proofs.«01_k».proof.Proof.Gen.HeadKernelIdeal.Value
public import proofs.«01_k».proof.Proof.Arith
public import Idealize.ShloMosaic.Lib.Pipeline.ValueKit

@[expose] public section

set_option maxRecDepth 16384

noncomputable section

namespace Cert.Head

open Cert.HeadKernelIdeal Cert.HeadKernelIdeal.Gen Idealize.ShloMosaic Idealize.ShloMosaic.TcCoe Idealize.SL.Sem
open Idealize.ShloMosaic.Pipeline (Dat)

variable (m : (ℓ : Loc nD τ sig) → Buf (Elt Ideal) ℓ)

/-- Column `k` of the head that column `j` belongs to. -/
def col (j : Fin 2048) (k : Fin 128) : Fin 2048 := ⟨j.val / 128 * 128 + k.val, by omega⟩

/-- Column `j` within its head. -/
def lane (j : Fin 2048) : Fin 128 := ⟨j.val % 128, by omega⟩

/-- The reciprocal root mean square of one head of one row. -/
def inv (x : Fin 128 → EReal) : EReal :=
  Ideal.rsqrt (Ideal.div (∑ k, x k * x k) (Ideal.ofBits .f32 0x43000000#32) + Ideal.ofBits .f32 0x358637BD#32)

/-- The gradient in one head of one row: `d` the cotangent, `x` the head, `g` the gain. -/
def grad (d x g : Fin 128 → EReal) (l : Fin 128) : EReal :=
  inv x * (d l * g l - x l * inv x * Ideal.div (∑ k, d k * g k * (x k * inv x)) (Ideal.ofBits .f32 0x43000000#32))

/-- The head of row `r` that column `j` belongs to. -/
def row {R : ℕ} (x : (⟨2, ![R, 2048]⟩ : Shape).Idx → EReal) (r : Fin R) (j : Fin 2048) : Fin 128 → EReal :=
  fun k => x (ix2 r (col j k))

/-- The gradient in the projection. -/
def dx {R : ℕ} (d x : (⟨2, ![R, 2048]⟩ : Shape).Idx → EReal) (g : Vec Ideal S1x128 .f32) (r : Fin R) (j : Fin 2048) : EReal :=
  grad (row d r j) (row x r j) (fun k => g (ix2 0 k)) (lane j)

/-- What one head's row contributes to the gain's gradient. -/
def share {R : ℕ} (d x : (⟨2, ![R, 2048]⟩ : Shape).Idx → EReal) (l : Fin 128) (h : Fin 16) (r : Fin R) : EReal :=
  d (ix2 r ⟨h.val * 128 + l.val, by omega⟩) *
    (x (ix2 r ⟨h.val * 128 + l.val, by omega⟩) * inv fun k => x (ix2 r ⟨h.val * 128 + k.val, by omega⟩))

theorem chain_dx (P : Vec Ideal S512x128 .f32) (G : Vec Ideal S1x128 .f32) (D : Vec Ideal S512x128 .f32) (x : S512x128.Idx) :
    k0_pay7 (F := Ideal) P G D x = grad (fun k => D (ix2 (x 0) k)) (fun k => P (ix2 (x 0) k)) (fun k => G (ix2 0 k)) (x 1) := by
  idx_vars x
  unfold_payloads
  pointwise [grad, inv]

theorem chain_dg (P D : Vec Ideal S512x128 .f32) (x : S1x128.Idx) :
    k0_pay45 (F := Ideal) P D x = ∑ r : Fin 512, D (ix2 r (x 1)) * (P (ix2 r (x 1)) * inv fun k => P (ix2 r k)) := by
  idx_vars x
  unfold_payloads
  pointwise [inv]

theorem ld_row (b : Vec Ideal S512x2048 .f32) (n : ℕ) (inb) (r : Fin 512) (k : Fin 128) (hn : n + 128 ≤ 2048) :
    View.ld b (Rect.unit (s := S512x2048) ![0, n] ![512, 128] inb) (ix2 r k) = b (ix2 r ⟨n + k.val, by omega⟩) := by
  refine congrArg b (funext fun a => Fin.ext ?_)
  rw [Rect.idx_unit_val]
  fin_cases a
  · exact Nat.zero_add _
  · rfl

/-- One of the sixteen stores of a block. -/
theorem piece (x0 x1 : Vec Ideal S512x2048 .f32) (x2 : Vec Ideal S1x128 .f32) (y : S512x2048.Idx) (x : S512x128.Idx) (n : ℕ) (inb)
    (hn : n + 128 ≤ 2048) (hd : n % 128 = 0) (h0 : (y 0).val = (x 0).val) (h1 : (y 1).val = n + (x 1).val) :
    k0_pay7 (F := Ideal) (View.ld x1 (Rect.unit (s := S512x2048) ![0, n] ![512, 128] inb)) x2
      (View.ld x0 (Rect.unit (s := S512x2048) ![0, n] ![512, 128] inb)) x = dx x0 x1 x2 (y 0) (y 1) := by
  have hx : (x 1).val < 128 := (x 1).isLt
  have e (b : Vec Ideal S512x2048 .f32) : (fun k => View.ld b (Rect.unit (s := S512x2048) ![0, n] ![512, 128] inb) (ix2 (x 0) k))
      = row b (y 0) (y 1) := funext fun k => by
    refine (ld_row b n inb _ k hn).trans ?_
    refine congrArg b (congrArg₂ ix2 (Fin.ext h0.symm) (Fin.ext ?_))
    show n + k.val = (y 1).val / 128 * 128 + k.val
    omega
  rw [chain_dx, e, e]
  refine congrArg _ (Fin.ext ?_)
  show (x 1).val = (y 1).val % 128
  omega

theorem tile_A (x0 x1 : Vec Ideal S512x2048 .f32) (x2 : Vec Ideal S1x128 .f32) (y : S512x2048.Idx) (c : Dev nD) (t : Fin cfg0.N)
    (h : t.val % 16 = 0) :
    out0_A_3 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h) x0 x1 x2 y = dx x0 x1 x2 (y 0) (y 1) := by
  frame_out
  canon_tiles x hh
  all_goals open_payloads
  all_goals exact piece x0 x1 x2 y x _ _ (by norm_num) (by norm_num) hh0 (by omega)

theorem tile_B (x0 x1 : Vec Ideal S512x2048 .f32) (x2 v : Vec Ideal S1x128 .f32) (y : S512x2048.Idx) (c : Dev nD) (t : Fin cfg0.N)
    (h : ¬t.val % 16 = 0) :
    out0_B_3 (F := Ideal) c (grid0.coords t) (ms0_0 t) (hs0_0 t) (ms0_1 t) (hs0_1 t) (ms0_2 t) (hs0_2 t) (ms0_3 t) (hs0_3 t)
      (ms0_4 t) (hs0_4 t) (fun h' => h ((hcond0_0 t).mp h')) x0 x1 x2 v y = dx x0 x1 x2 (y 0) (y 1) := by
  frame_out
  canon_tiles x hh
  all_goals open_payloads
  all_goals exact piece x0 x1 x2 y x _ _ (by norm_num) (by norm_num) hh0 (by omega)

theorem sum16 (f : Fin 16 → EReal) : ∑ h, f h = f ⟨0, by norm_num⟩ + f ⟨1, by norm_num⟩ + f ⟨2, by norm_num⟩ + f ⟨3, by norm_num⟩ + f ⟨4, by norm_num⟩ + f ⟨5, by norm_num⟩ + f ⟨6, by norm_num⟩ + f ⟨7, by norm_num⟩
    + f ⟨8, by norm_num⟩ + f ⟨9, by norm_num⟩ + f ⟨10, by norm_num⟩ + f ⟨11, by norm_num⟩ + f ⟨12, by norm_num⟩ + f ⟨13, by norm_num⟩ + f ⟨14, by norm_num⟩ + f ⟨15, by norm_num⟩ := by
  rw [Fin.sum_univ_castSucc (n := 15), Fin.sum_univ_castSucc (n := 14), Fin.sum_univ_castSucc (n := 13),
    Fin.sum_univ_castSucc (n := 12), Fin.sum_univ_castSucc (n := 11), Fin.sum_univ_castSucc (n := 10), Fin.sum_univ_castSucc (n := 9),
    Fin.sum_univ_castSucc (n := 8), Fin.sum_univ_eight]
  rfl

/-- What a block adds to the gain's gradient: its heads' shares, row by row. -/
theorem gain_A (x0 x1 : Vec Ideal S512x2048 .f32) (x2 : Vec Ideal S1x128 .f32) (j : S1x128.Idx) (c : Dev nD) (t : Fin cfg0.N)
    (h : t.val % 16 = 0) :
    out0_A_4 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h) x0 x1 x2 j = 0 + ∑ h : Fin 16, ∑ r : Fin 512, share x0 x1 (j 1) h r := by
  idx_vars j
  frame_out
  unfold_payloads
  pointwise
  simp only [sum16, share, inv, Nat.reduceMul, zero_add]

theorem gain_B (x0 x1 : Vec Ideal S512x2048 .f32) (x2 v : Vec Ideal S1x128 .f32) (j : S1x128.Idx) (c : Dev nD) (t : Fin cfg0.N)
    (h : ¬t.val % 16 = 0) :
    out0_B_4 (F := Ideal) c (grid0.coords t) (ms0_0 t) (hs0_0 t) (ms0_1 t) (hs0_1 t) (ms0_2 t) (hs0_2 t) (ms0_3 t) (hs0_3 t)
      (ms0_4 t) (hs0_4 t) (fun h' => h ((hcond0_0 t).mp h')) x0 x1 x2 v j
      = v j + ∑ h : Fin 16, ∑ r : Fin 512, share x0 x1 (j 1) h r := by
  idx_vars j
  frame_out
  unfold_payloads
  pointwise
  simp only [sum16, share, inv, Nat.reduceMul, zero_add]

/-! ## The two arrays -/

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of a block of rows is row `512 t + r` of the array. -/
def blockRow (t : Fin cfg0.N) (r : Fin 512) : Fin 8192 := ⟨t.val * 512 + r.val, by have : t.val < 16 := t.isLt; omega⟩

theorem blk0 (c : Dev nD) (t : Fin cfg0.N) (r : Fin 512) (j : Fin 2048) :
    iblk m c 0 t (ix2 r j) = m ((c : Thread nD τ).loc main_arg0) (ix2 (blockRow t r) j) := by
  blk_point [iblk, V, idx t, blockRow]

theorem blk1 (c : Dev nD) (t : Fin cfg0.N) (r : Fin 512) (j : Fin 2048) :
    iblk m c 1 t (ix2 r j) = m ((c : Thread nD τ).loc main_arg1) (ix2 (blockRow t r) j) := by
  blk_point [iblk, V, idx t, blockRow]

theorem blk2 (c : Dev nD) (t : Fin cfg0.N) (j : Fin 128) :
    iblk m c 2 t (ix2 (0 : Fin 1) j) = m ((c : Thread nD τ).loc main_arg2) (ix2 (0 : Fin 1) j) := by
  blk_point [iblk, V, idx t]

/-- The gradient in the projection, as an array. -/
def dpre (d x : Vec Ideal S8192x2048 .f32) (g : Vec Ideal S1x128 .f32) : S8192x2048.Idx → EReal := fun i => dx d x g (i 0) (i 1)

theorem block_dx (c : Dev nD) (t : Fin cfg0.N) (y : S512x2048.Idx) :
    dx (iblk m c 0 t : Vec Ideal S512x2048 .f32) (iblk m c 1 t) (iblk m c 2 t) (y 0) (y 1)
      = dpre (m ((c : Thread nD τ).loc main_arg0)) (m ((c : Thread nD τ).loc main_arg1)) (m ((c : Thread nD τ).loc main_arg2))
        (((View.whole main_v0_0).slice (win0_3.rect t)).emb y) := by
  idx_vars y
  have e : ((View.whole main_v0_0).slice (win0_3.rect t)).emb (ix2 y0 y1) = ix2 (blockRow t y0) y1 := by
    blk_point [idx t, blockRow]
  rw [e]
  have a : row (iblk m c 0 t : Vec Ideal S512x2048 .f32) y0 y1 = row (m ((c : Thread nD τ).loc main_arg0)) (blockRow t y0) y1 :=
    funext fun k => blk0 m c t _ _
  have b : row (iblk m c 1 t : Vec Ideal S512x2048 .f32) y0 y1 = row (m ((c : Thread nD τ).loc main_arg1)) (blockRow t y0) y1 :=
    funext fun k => blk1 m c t _ _
  have g : (fun k => (iblk m c 2 t : Vec Ideal S1x128 .f32) (ix2 0 k)) = fun k => m ((c : Thread nD τ).loc main_arg2) (ix2 (0 : Fin 1) k) :=
    funext fun k => blk2 m c t _
  exact congrFun (congr (congr (congrArg grad a) b) g) (lane y1)

/-- What a grid point leaves of the gradient's block. -/
theorem left_A (c : Dev nD) (t : Fin cfg0.N) (y : S512x2048.Idx) (h : t.val % 16 = 0) :
    (outsAt0 m c t.val t.isLt).1 y = dx (iblk m c 0 t : Vec Ideal S512x2048 .f32) (iblk m c 1 t) (iblk m c 2 t) (y 0) (y 1) :=
  (congrFun (congrArg Prod.fst (outsAt0_A m c t h)) y).trans (tile_A (iblk m c 0 t) (iblk m c 1 t) (iblk m c 2 t) y c t h)

theorem left_B (c : Dev nD) (t : Fin cfg0.N) (y : S512x2048.Idx) (h : ¬t.val % 16 = 0) :
    (outsAt0 m c t.val t.isLt).1 y = dx (iblk m c 0 t : Vec Ideal S512x2048 .f32) (iblk m c 1 t) (iblk m c 2 t) (y 0) (y 1) :=
  (congrFun (congrArg Prod.fst (outsAt0_B m c t h)) y).trans (tile_B (iblk m c 0 t) (iblk m c 1 t) (iblk m c 2 t)
      (outsAt0 m c (t.val - 1) (Nat.lt_of_le_of_lt (Nat.sub_le _ _) t.isLt)).2 y c t h)

theorem dpre_eq (c : Dev nD) : (dats m 0 c).arrAt 3 cfg0.N = dpre (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  by_cases h : t.val % 16 = 0
  · exact (left_A m c t y h).trans (block_dx m c t y)
  · exact (left_B m c t y h).trans (block_dx m c t y)

/-- A row's sixteen shares of the gain's gradient. -/
def shares (d x : Vec Ideal S8192x2048 .f32) (j : S1x128.Idx) (r : Fin 8192) : EReal := ∑ h, share d x (j 1) h r

theorem block_dg (c : Dev nD) (t : Fin cfg0.N) (j : S1x128.Idx) :
    ∑ h : Fin 16, ∑ r : Fin 512, share (iblk m c 0 t : Vec Ideal S512x2048 .f32) (iblk m c 1 t) (j 1) h r
      = ∑ r : Fin 512, shares (m ((c : Thread nD τ).loc main_arg0)) (m ((c : Thread nD τ).loc main_arg1)) j (blockRow t r) := by
  rw [Finset.sum_comm]
  refine Finset.sum_congr rfl fun r _ => ?_
  unfold shares
  refine Finset.sum_congr rfl fun h _ => ?_
  unfold share
  refine congrArg₂ _ (blk0 m c t _ _) (congrArg₂ _ (blk1 m c t _ _) (congrArg inv (funext fun k => blk1 m c t _ _)))

theorem dg_eq (c : Dev nD) : (dats m 0 c).arrAt 4 cfg0.N = fun j : S1x128.Idx => ∑ r : Fin 8192,
    shares (m ((c : Thread nD τ).loc main_arg0)) (m ((c : Thread nD τ).loc main_arg1)) j r := by
  refine (dats m 0 c).arrAt_eq_of_after_last 4 t0_15 (by decide +kernel) _ fun j => ?_
  blk_simp
  rw [after0_4]
  rw [Pipeline.eq_sum_fin_of_reset_step_apply_last (fun n h => (outsAt0 m c n h).2) 16 (fun _ => (0 : EReal)) _
     (fun t h j => by rw [outsAt0_A m c t h]; exact (gain_A (iblk m c 0 t) (iblk m c 1 t) (iblk m c 2 t) j c t h).trans (congrArg _ (block_dg m c t j)))
     (fun t h j => by rw [outsAt0_B m c t h]; exact (gain_B (iblk m c 0 t) (iblk m c 1 t) (iblk m c 2 t) _ j c t h).trans (congrArg _ (block_dg m c t j)))
     (by decide) t0_15 rfl j, zero_add]
  exact Fin.sum_mul_add_fin 16 512 (shares (m ((c : Thread nD τ).loc main_arg0)) (m ((c : Thread nD τ).loc main_arg1)) j)

end Cert.Head

end
-- ==== Proof.Proj.Kernel.lean ====
/- What the two arrays of the query's projection hold after its run: the projection, and its heads normalised. -/
module

public import proofs.«01_k».proof.Proof.Gen.ProjKernelIdeal.Value
public import proofs.«01_k».proof.Proof.Head.Kernel
public import Idealize.ShloMosaic.Lib.Pipeline.ValueKit
public import Idealize.ShloMosaic.Lib.StableHlo.RunRead

@[expose] public section

set_option maxRecDepth 16384

noncomputable section

namespace Cert.Proj

open Cert.ProjKernelIdeal Cert.ProjKernelIdeal.Gen Idealize.ShloMosaic Idealize.ShloMosaic.TcCoe Idealize.SL.Sem
open Idealize.ShloMosaic.Pipeline (Dat)
open Cert.Head (inv col lane row)

variable (m : (ℓ : Loc nD τ sig) → Buf (Elt Ideal) ℓ)

/-- Rows times a weight. -/
def pre {R : ℕ} (h : (⟨2, ![R, 2048]⟩ : Shape).Idx → EReal) (w : S2048x2048.Idx → EReal) : (⟨2, ![R, 2048]⟩ : Shape).Idx → EReal := fun i =>
  ∑ k : Fin 2048, h (ix2 (i 0) k) * w (ix2 k (i 1))

/-- Each head of a row over its root mean square, times the gain. -/
def nrm {R : ℕ} (p : (⟨2, ![R, 2048]⟩ : Shape).Idx → EReal) (g : S1x128.Idx → EReal) : (⟨2, ![R, 2048]⟩ : Shape).Idx → EReal := fun i =>
  p i * inv (row p (i 0) (i 1)) * g (ix2 0 (lane (i 1)))

/-! ## One point -/

/-- One head of a chunk of columns, normalised: the head that starts at column `o` of the chunk. -/
def headAt (P : S512x512.Idx → EReal) (g : S1x128.Idx → EReal) (o : ℕ) (ho : o + 128 ≤ 512) (x : S512x128.Idx) : EReal :=
  P (ix2 (x 0) ⟨o + (x 1).val, by have : (x 1).val < 128 := (x 1).isLt; omega⟩) * inv (fun k => P (ix2 (x 0) ⟨o + k.val, by omega⟩)) * g (ix2 0 (x 1))

theorem head_0 (P : Vec Ideal S512x512 .f32) (g : Vec Ideal S1x128 .f32) (x : S512x128.Idx) :
    k0_pay8 (F := Ideal) P g x = headAt P g 0 (by norm_num) x := by
  idx_vars x
  unfold_payloads
  pointwise [headAt, Head.inv]

theorem head_1 (P : Vec Ideal S512x512 .f32) (g : Vec Ideal S1x128 .f32) (x : S512x128.Idx) :
    k0_pay9 (F := Ideal) P g x = headAt P g 128 (by norm_num) x := by
  idx_vars x
  unfold_payloads
  pointwise [headAt, Head.inv]

theorem head_2 (P : Vec Ideal S512x512 .f32) (g : Vec Ideal S1x128 .f32) (x : S512x128.Idx) :
    k0_pay5 (F := Ideal) P g x = headAt P g 256 (by norm_num) x := by
  idx_vars x
  unfold_payloads
  pointwise [headAt, Head.inv]

theorem head_3 (P : Vec Ideal S512x512 .f32) (g : Vec Ideal S1x128 .f32) (x : S512x128.Idx) :
    k0_pay6 (F := Ideal) P g x = headAt P g 384 (by norm_num) x := by
  idx_vars x
  unfold_payloads
  pointwise [headAt, Head.inv]

theorem pay_pre (h : Vec Ideal S512x2048 .bf16) (w : Vec Ideal S2048x512 .bf16) (x : S512x512.Idx) :
    k0_pay2 (F := Ideal) h w x = ∑ k : Fin 2048, h (ix2 (x 0) k) * w (ix2 k (x 1)) := by
  idx_vars x
  unfold_payloads
  pointwise

/-- Columns `n` to `n + 511` of the weight. -/
theorem ld_col (w : Vec Ideal S2048x2048 .bf16) (n : ℕ) (inb) (k : Fin 2048) (j : Fin 512) (hn : n + 512 ≤ 2048) :
    View.ld w (Rect.unit (s := S2048x2048) ![0, n] ![2048, 512] inb) (ix2 k j) = w (ix2 k ⟨n + j.val, by omega⟩) := by
  refine congrArg w (funext fun a => Fin.ext ?_)
  rw [Rect.idx_unit_val]
  fin_cases a
  · exact Nat.zero_add _
  · rfl

/-- One of the four stores of a block of the projection. -/
theorem piece_pre (h : Vec Ideal S512x2048 .bf16) (w : Vec Ideal S2048x2048 .bf16) (n : ℕ) (inb) (hn : n + 512 ≤ 2048) (y : S512x2048.Idx)
    (x : S512x512.Idx) (h0 : (y 0).val = (x 0).val) (h1 : (y 1).val = n + (x 1).val) :
    k0_pay2 (F := Ideal) h (View.ld w (Rect.unit (s := S2048x2048) ![0, n] ![2048, 512] inb)) x = pre h w y := by
  refine (pay_pre _ _ x).trans (Finset.sum_congr rfl fun k _ => congrArg₂ (· * ·) (congrArg h (congrArg₂ ix2 (Fin.ext h0.symm) rfl)) ?_)
  exact (ld_col w n inb k (x 1) hn).trans (congrArg w (congrArg₂ ix2 rfl (Fin.ext h1.symm)))

/-- One of the sixteen heads of a block. -/
theorem piece_head (h : Vec Ideal S512x2048 .bf16) (w : Vec Ideal S2048x2048 .bf16) (g : Vec Ideal S1x128 .f32) (n : ℕ) (inb) (hn : n + 512 ≤ 2048)
    (hd : n % 128 = 0) (o : ℕ) (ho : o + 128 ≤ 512) (hm : o % 128 = 0) (y : S512x2048.Idx) (x : S512x128.Idx)
    (h0 : (y 0).val = (x 0).val) (h1 : (y 1).val = n + o + (x 1).val) :
    headAt (k0_pay2 (F := Ideal) h (View.ld w (Rect.unit (s := S2048x2048) ![0, n] ![2048, 512] inb))) g o ho x = nrm (pre h w) g y := by
  have hx : (x 1).val < 128 := (x 1).isLt
  have e (k : Fin 128) : k0_pay2 (F := Ideal) h (View.ld w (Rect.unit (s := S2048x2048) ![0, n] ![2048, 512] inb)) (ix2 (x 0) ⟨o + k.val, by omega⟩)
      = row (pre h w) (y 0) (y 1) k :=
    piece_pre h w n inb hn (ix2 (y 0) (col (y 1) k)) (ix2 (x 0) ⟨o + k.val, by omega⟩) h0
      (by show (y 1).val / 128 * 128 + k.val = n + (o + k.val); omega)
  unfold headAt nrm
  rw [piece_pre h w n inb hn y (ix2 (x 0) ⟨o + (x 1).val, by omega⟩) h0 (by show (y 1).val = n + (o + (x 1).val); omega), funext e]
  refine congrArg (fun l => _ * g (ix2 0 l)) (Fin.ext ?_)
  show (x 1).val = (y 1).val % 128
  omega

section

variable (x0 : Vec Ideal S512x2048 .bf16) (x1 : Vec Ideal S2048x2048 .bf16) (x2 : Vec Ideal S1x128 .f32)

/-- The block of rows, loaded whole. -/
theorem ld_whole : View.ld x0 (Rect.unit (s := S512x2048) ![0, 0] S512x2048.size inb_S512x2048_S512x2048_0_0) = x0 := by
  refine funext fun y => congrArg x0 (funext fun a => Fin.ext ((Rect.idx_unit_val ..).trans ?_))
  fin_cases a <;> exact Nat.zero_add _

theorem chunk_0 : k0_pay28 (F := Ideal) x0 x1 x2
    = k0_pay2 x0 (View.ld x1 (Rect.unit (s := S2048x2048) ![0, 0] ![2048, 512] inb_S2048x2048_S2048x512_0_0)) :=
  congrArg (fun v => k0_pay2 (F := Ideal) v _) (ld_whole x0)

theorem chunk_1 : k0_pay29 (F := Ideal) x0 x1 x2
    = k0_pay2 x0 (View.ld x1 (Rect.unit (s := S2048x2048) ![0, 512] ![2048, 512] inb_S2048x2048_S2048x512_0_512)) :=
  congrArg (fun v => k0_pay2 (F := Ideal) v _) (ld_whole x0)

theorem chunk_2 : k0_pay30 (F := Ideal) x0 x1 x2
    = k0_pay2 x0 (View.ld x1 (Rect.unit (s := S2048x2048) ![0, 1024] ![2048, 512] inb_S2048x2048_S2048x512_0_1024)) :=
  congrArg (fun v => k0_pay2 (F := Ideal) v _) (ld_whole x0)

theorem chunk_3 : k0_pay31 (F := Ideal) x0 x1 x2
    = k0_pay2 x0 (View.ld x1 (Rect.unit (s := S2048x2048) ![0, 1536] ![2048, 512] inb_S2048x2048_S2048x512_0_1536)) :=
  congrArg (fun v => k0_pay2 (F := Ideal) v _) (ld_whole x0)

theorem tile_pre (y : S512x2048.Idx) : out0_3 (F := Ideal) x0 x1 x2 y = pre x0 x1 y := by
  frame_out
  canon_tiles x hh
  · exact piece_pre x0 x1 1536 _ (by norm_num) y x hh0 (by omega)
  · exact piece_pre x0 x1 1024 _ (by norm_num) y x hh0 (by omega)
  · rw [chunk_1]; exact piece_pre x0 x1 512 _ (by norm_num) y x hh0 (by omega)
  · exact piece_pre x0 x1 0 _ (by norm_num) y x hh0 (by omega)

theorem tile_nrm (y : S512x2048.Idx) : out0_4 (F := Ideal) x0 x1 x2 y = nrm (pre x0 x1) x2 y := by
  frame_out
  canon_tiles x hh
  · rw [chunk_3]; exact (head_3 _ x2 x).trans (piece_head x0 x1 x2 1536 _ (by norm_num) (by norm_num) 384 (by norm_num) (by norm_num) y x hh0 (by omega))
  · rw [chunk_3]; exact (head_2 _ x2 x).trans (piece_head x0 x1 x2 1536 _ (by norm_num) (by norm_num) 256 (by norm_num) (by norm_num) y x hh0 (by omega))
  · rw [chunk_3]; exact (head_1 _ x2 x).trans (piece_head x0 x1 x2 1536 _ (by norm_num) (by norm_num) 128 (by norm_num) (by norm_num) y x hh0 (by omega))
  · exact (head_0 _ x2 x).trans (piece_head x0 x1 x2 1536 _ (by norm_num) (by norm_num) 0 (by norm_num) (by norm_num) y x hh0 (by omega))
  · rw [chunk_2]; exact (head_3 _ x2 x).trans (piece_head x0 x1 x2 1024 _ (by norm_num) (by norm_num) 384 (by norm_num) (by norm_num) y x hh0 (by omega))
  · rw [chunk_2]; exact (head_2 _ x2 x).trans (piece_head x0 x1 x2 1024 _ (by norm_num) (by norm_num) 256 (by norm_num) (by norm_num) y x hh0 (by omega))
  · rw [chunk_2]; exact (head_1 _ x2 x).trans (piece_head x0 x1 x2 1024 _ (by norm_num) (by norm_num) 128 (by norm_num) (by norm_num) y x hh0 (by omega))
  · exact (head_0 _ x2 x).trans (piece_head x0 x1 x2 1024 _ (by norm_num) (by norm_num) 0 (by norm_num) (by norm_num) y x hh0 (by omega))
  · rw [chunk_1]; exact (head_3 _ x2 x).trans (piece_head x0 x1 x2 512 _ (by norm_num) (by norm_num) 384 (by norm_num) (by norm_num) y x hh0 (by omega))
  · rw [chunk_1]; exact (head_2 _ x2 x).trans (piece_head x0 x1 x2 512 _ (by norm_num) (by norm_num) 256 (by norm_num) (by norm_num) y x hh0 (by omega))
  · rw [chunk_1]; exact (head_1 _ x2 x).trans (piece_head x0 x1 x2 512 _ (by norm_num) (by norm_num) 128 (by norm_num) (by norm_num) y x hh0 (by omega))
  · rw [chunk_1]; exact (head_0 _ x2 x).trans (piece_head x0 x1 x2 512 _ (by norm_num) (by norm_num) 0 (by norm_num) (by norm_num) y x hh0 (by omega))
  · rw [chunk_0]; exact (head_3 _ x2 x).trans (piece_head x0 x1 x2 0 _ (by norm_num) (by norm_num) 384 (by norm_num) (by norm_num) y x hh0 (by omega))
  · rw [chunk_0]; exact (head_2 _ x2 x).trans (piece_head x0 x1 x2 0 _ (by norm_num) (by norm_num) 256 (by norm_num) (by norm_num) y x hh0 (by omega))
  · exact (head_1 _ x2 x).trans (piece_head x0 x1 x2 0 _ (by norm_num) (by norm_num) 128 (by norm_num) (by norm_num) y x hh0 (by omega))
  · exact (head_0 _ x2 x).trans (piece_head x0 x1 x2 0 _ (by norm_num) (by norm_num) 0 (by norm_num) (by norm_num) y x hh0 (by omega))

end

/-! ## The two arrays -/

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `r` of a block of rows is row `512 t + r` of the array. -/
def blockRow (t : Fin cfg0.N) (r : Fin 512) : Fin 8192 := ⟨t.val * 512 + r.val, by have : t.val < 16 := t.isLt; omega⟩

/-- The weight as the launch finds it. -/
def W (c : Dev nD) : S2048x2048.Idx → EReal := (V m c main_v0 : Vec Ideal S2048x2048 .bf16)

theorem blk0 (c : Dev nD) (t : Fin cfg0.N) (r : Fin 512) (j : Fin 2048) :
    iblk m c 0 t (ix2 r j) = m ((c : Thread nD τ).loc main_arg0) (ix2 (blockRow t r) j) := by
  refine Eq.trans (b := (V m c main_arg0 : Vec Ideal S8192x2048 .bf16) (ix2 (blockRow t r) j)) ?_ (congrFun (V_main_arg0 m c) _)
  blk_point [iblk, idx t, blockRow]

theorem blk1 (c : Dev nD) (t : Fin cfg0.N) (r j : Fin 2048) : iblk m c 1 t (ix2 r j) = W m c (ix2 r j) := by
  blk_point [iblk, W, idx t]

theorem blk2 (c : Dev nD) (t : Fin cfg0.N) (j : Fin 128) :
    iblk m c 2 t (ix2 (0 : Fin 1) j) = m ((c : Thread nD τ).loc main_arg2) (ix2 (0 : Fin 1) j) := by
  refine Eq.trans (b := (V m c main_arg2 : Vec Ideal S1x128 .f32) (ix2 0 j)) ?_ (congrFun (V_main_arg2 m c) _)
  blk_point [iblk, idx t]

theorem W_eq (c : Dev nD) : W m c = m ((c : Thread nD τ).loc main_arg1) := by
  funext i
  idx_vars i
  unfold W V
  after_reads_simp
  pointwise

/-- The projection as an array. -/
def Pre (c : Dev nD) : S8192x2048.Idx → EReal := pre (m ((c : Thread nD τ).loc main_arg0)) (W m c)

theorem block_pre (c : Dev nD) (t : Fin cfg0.N) (r : Fin 512) (j : Fin 2048) :
    pre (iblk m c 0 t : Vec Ideal S512x2048 .bf16) (iblk m c 1 t) (ix2 r j) = Pre m c (ix2 (blockRow t r) j) :=
  Finset.sum_congr rfl fun k _ => congrArg₂ (fun u v : EReal => u * v) (blk0 m c t r k) (blk1 m c t k j)

theorem place (t : Fin cfg0.N) (y : S512x2048.Idx) (z : S8192x2048.Idx) (n : Fin 2 → ℕ) (hn : n = ![t.val, 0])
    (h0 : (z 0).val = n 0 * 512 + 1 * (y 0).val) (h1 : (z 1).val = n 1 * 2048 + 1 * (y 1).val) : z = ix2 (blockRow t (y 0)) (y 1) := by
  subst hn
  refine funext fun a => Fin.ext ?_
  fin_cases a
  · exact h0.trans (congrArg _ (Nat.one_mul _))
  · refine h1.trans ?_
    show 0 * 2048 + 1 * (y 1).val = (y 1).val
    omega

theorem pre_array (c : Dev nD) : (dats m 0 c).arrAt 3 cfg0.N = (Pre m c : Vec Ideal S8192x2048 .f32) := by
  refine (dats m 0 c).arrAt_eq_of_covers 3 _ (by decide +kernel) fun t hf y => ?_
  blk_simp
  rw [after0_3]
  refine (tile_pre _ _ _ y).trans ((congrArg _ (ix2_eta y)).symm.trans ((block_pre m c t (y 0) (y 1)).trans ?_))
  exact congrArg (Pre m c) (place t y _ (win0_3.index t) (idx t).2.2.2.1 rfl rfl).symm

theorem nrm_array (c : Dev nD) : (dats m 0 c).arrAt 4 cfg0.N = (nrm (Pre m c) (m ((c : Thread nD τ).loc main_arg2)) : Vec Ideal S8192x2048 .bf16) := by
  refine (dats m 0 c).arrAt_eq_of_covers 4 _ (by decide +kernel) fun t hf y => ?_
  blk_simp
  rw [after0_4]
  refine (tile_nrm _ _ _ y).trans (Eq.trans ?_ (congrArg (nrm (Pre m c) _) (place t y _ (win0_4.index t) (idx t).2.2.2.2 rfl rfl).symm))
  have e (j : Fin 2048) := block_pre m c t (y 0) j
  have er : row (pre (iblk m c 0 t : Vec Ideal S512x2048 .bf16) (iblk m c 1 t)) (y 0) (y 1) = row (Pre m c) (blockRow t (y 0)) (y 1) :=
    funext fun k => e (col (y 1) k)
  have ey := (congrArg (pre (iblk m c 0 t : Vec Ideal S512x2048 .bf16) (iblk m c 1 t)) (ix2_eta y)).symm.trans (e (y 1))
  unfold nrm
  rw [er, ey, blk2]
  rfl

end Cert.Proj

end
-- ==== Proof.Proj.Claim.lean ====
/- The value claim of the query's projection with its heads normalised, at all arguments. -/
module

public import proofs.«01_k».proof.Defs
public import proofs.«01_k».proof.Proof.Gen.ProjReferenceIdeal.Run
public import proofs.«01_k».proof.Proof.Gen.ProjReferenceIdeal.Read
public import proofs.«01_k».proof.Proof.Proj.Kernel

@[expose] public section

set_option maxRecDepth 16384

noncomputable section

namespace Cert.Proj

open Idealize.ShloMosaic Idealize.ShloMosaic.TcCoe Idealize.SL.Sem
open Cert.Head (inv col lane row)

section
open Cert.ProjReferenceIdeal Cert.ProjReferenceIdeal.Read

theorem ref_pre (h : Vec Ideal S8192x2048 .bf16) (w : Vec Ideal S2048x2048 .f32) : val_main_v1 (F := Ideal) h w = pre h w := by
  funext i
  idx_vars i
  unfold val_main_v1 val_main_v0
  pointwise [pre]

theorem ref_nrm (h : Vec Ideal S8192x2048 .bf16) (w : Vec Ideal S2048x2048 .f32) (g : Vec Ideal S1x128 .f32) :
    val_main_v17 (F := Ideal) h w g = nrm (pre h w) g := by
  funext i
  idx_vars i
  unfold val_main_v17 val_main_v16 val_main_v15 val_main_v14 val_main_v13 val_main_v12 val_main_v11 val_main_v10 val_main_v9 val_main_v8
    val_main_v7 val_main_v6 val_main_v5 val_main_v4 val_main_v3 val_main_v2 val_main_cst val_main_cst_0 val_main_cst_1
  rw [ref_pre]
  generalize pre h w = p
  pointwise [nrm, row, Head.inv]
  rfl

end

/-- The reference ends with its arguments as they were; it declares no semaphore. -/
theorem frame_reference : Cert.quiescent_ProjReferenceIdeal := fun m ρ _ =>
  (θ_run Cert.ProjReferenceIdeal.defs _ _).mono
    (fun r h => ⟨fun c => (h c).2.2, sem_eq_zero_of_no_sems (by decide) r.2⟩)
    (Cert.ProjReferenceIdeal.Value.run m ρ)

/-- The kernel's projection and normalised heads are the reference's. -/
theorem algebraic : Cert.algebraic_ProjKernelIdeal_ProjReferenceIdeal := by
  intro m g m' g' hpre hargs
  refine ⟨_, _, Cert.ProjKernelIdeal.Value.run_blocks m g, ?_⟩
  refine (θ_run Cert.ProjReferenceIdeal.defs _ _).mono (fun _ h c => ?_) (Cert.ProjReferenceIdeal.Value.run m' g')
  obtain ⟨h0, h1, h2⟩ := h c
  obtain ⟨a0, a1, a2⟩ := hargs c
  refine ⟨h0.trans ?_, h1.trans ?_, h2⟩
  · rw [Cert.ProjReferenceIdeal.Read.val_main_v1_eq, a0, a1, ref_pre, pre_array m c, Pre, W_eq]
  · rw [Cert.ProjReferenceIdeal.Read.val_main_v17_eq, a0, a1, a2, ref_nrm, nrm_array m c, Pre, W_eq]

end Cert.Proj

end
-- ==== Proof.Mix.Data.lean ====
/- The mathematics of the pooling block's forward pass over extended reals: a trailing sum of a sequence's entries, and the same sum as a
   difference of two prefix sums where the entries are finite. -/
module

public import proofs.«01_k».proof.Proof.Ffn.Data

@[expose] public section

noncomputable section

namespace Cert.Mix

open Idealize.ShloMosaic Cert.Arith Cert.Ffn

/-- Entries `n`, `n - 1`, … `n - j` of a sequence, added in this order. -/
def win (p : ℕ → EReal) (n : ℕ) : ℕ → EReal
  | 0 => p n
  | j + 1 => win p n j + p (n - (j + 1))

/-- Column `k` of the rows `h`, behind sixteen zeros. -/
def past (h : SX.Idx → EReal) (k : Fin 2048) (n : ℕ) : EReal :=
  if q : 16 ≤ n ∧ n < 8208 then h (ix2 ⟨n - 16, by omega⟩ k) else 0

/-- The sum of rows `0` to `s` of column `k`. -/
def pre (h : SX.Idx → EReal) (k : Fin 2048) (s : ℕ) : EReal := ∑ i ∈ Finset.range (s + 1), past h k (i + 16)

/-- That sum at row `s - w`; zero where there is no such row. -/
def before (h : SX.Idx → EReal) (k : Fin 2048) (s w : ℕ) : EReal := if s < w then 0 else pre h k (s - w)

/-- `win` over the reals. -/
def winR (q : ℕ → ℝ) (n : ℕ) : ℕ → ℝ
  | 0 => q n
  | j + 1 => winR q n j + q (n - (j + 1))

theorem win_coe (q : ℕ → ℝ) (n j : ℕ) : win (fun i => ((q i : ℝ) : EReal)) n j = ((winR q n j : ℝ) : EReal) := by
  induction j with
  | zero => rfl
  | succ j ih => rw [win, ih, winR, EReal.coe_add]

/-- A trailing sum is a difference of two prefix sums. -/
theorem winR_eq (q : ℕ → ℝ) (hq : ∀ n, n < 16 → q n = 0) (s w : ℕ) (hw : w ≤ 16) :
    (∑ i ∈ Finset.range (s + 1), q (i + 16)) - (if s < w + 1 then 0 else ∑ i ∈ Finset.range (s - (w + 1) + 1), q (i + 16)) = winR q (s + 16) w := by
  induction w with
  | zero =>
    rcases s with _ | s
    · simp [winR]
    · rw [if_neg (by omega), Finset.sum_range_succ, show s + 1 - (0 + 1) + 1 = s + 1 by omega]
      simp [winR]
  | succ w ih =>
    have e := ih (by omega)
    rw [winR, ← e]
    rcases lt_trichotomy s (w + 1) with h | h | h
    · rw [if_pos h, if_pos (by omega), hq _ (by omega)]
      ring
    · rw [if_pos (by omega), if_neg (by omega), show s - (w + 1) + 1 = 1 by omega, show s + 16 - (w + 1) = 16 by omega]
      simp
    · obtain ⟨d, rfl⟩ : ∃ d, s = w + 2 + d := ⟨s - (w + 2), by omega⟩
      rw [if_neg (by omega), if_neg (by omega), show w + 2 + d - (w + 1) + 1 = (d + 1) + 1 by omega,
        show w + 2 + d - (w + 1 + 1) + 1 = d + 1 by omega, show w + 2 + d + 16 - (w + 1) = d + 1 + 16 by omega, Finset.sum_range_succ _ (d + 1)]
      ring

/-- A trailing sum of finite rows is a difference of two prefix sums. -/
theorem win_eq (h : SX.Idx → EReal) (hh : Fin' h) (k : Fin 2048) (s w : ℕ) (hw : w ≤ 16) :
    pre h k s - before h k s (w + 1) = win (past h k) (s + 16) w := by
  obtain ⟨H, rfl⟩ := hh.exists
  set q : ℕ → ℝ := fun n => if q : 16 ≤ n ∧ n < 8208 then H (ix2 ⟨n - 16, by omega⟩ k) else 0 with hq
  have e : past (fun i => ((H i : ℝ) : EReal)) k = fun n => ((q n : ℝ) : EReal) := by
    funext n
    simp only [past, hq]
    split <;> rfl
  rw [e, win_coe, ← winR_eq q (fun n hn => by simp only [hq]; rw [dif_neg (by omega)]) s w hw]
  unfold before pre
  rw [e]
  split
  · rw [coe_sum, EReal.coe_sub]; rfl
  · rw [coe_sum, coe_sum, EReal.coe_sub]

/-- How many rows the trailing window of group `g` takes besides the row itself. -/
def dep (g : ℕ) : ℕ := 2 ^ (g + 1) - 1

/-- The pooling groups' weights. -/
abbrev ST : Shape := ⟨3, ![4, 512, 512]⟩

/-- Channel `k` of group `g`. -/
def col (g : Fin 4) (k : Fin 512) : Fin 2048 := ⟨512 * g.val + k.val, by omega⟩

/-- How many rows there are in the window of `w` rows that ends at row `s`, as a number. -/
def cnt (s w : ℕ) : EReal :=
  FloatOps.sitofp (F := Ideal) .f32 (IntOp.minsi (IntOp.addi (BitVec.ofNat 32 s) 1#32) (BitVec.ofNat 32 w))

/-- The trailing mean of the rows `h` less the row itself. -/
def diff (h : SX.Idx → EReal) (s : Fin 8192) (g : Fin 4) (k : Fin 512) : EReal :=
  Ideal.div (win (past h (col g k)) (s.val + 16) (dep g.val)) (cnt s.val (dep g.val + 1)) - h (ix2 s (col g k))

/-- The block's output at row `s` and channel `d` of group `g`. -/
def mixAt (h x : SX.Idx → EReal) (w : ST.Idx → EReal) (a : SG.Idx → EReal) (s : Fin 8192) (g : Fin 4) (d : Fin 512) : EReal :=
  x (ix2 s (col g d)) + (∑ k : Fin 512, diff h s g k * w (ix3 g k d)) * a (ix2 0 (col g d))

/-- The group of a channel. -/
def grp (k : Fin 2048) : Fin 4 := ⟨k.val / 512, by omega⟩

/-- A channel's place in its group. -/
def lane (k : Fin 2048) : Fin 512 := ⟨k.val % 512, by omega⟩

/-- The block's output. -/
def mix (x : SX.Idx → EReal) (g : SG.Idx → EReal) (w : ST.Idx → EReal) (a : SG.Idx → EReal) : SX.Idx → EReal := fun i =>
  mixAt (hid x g) x w a (i 0) (grp (i 1)) (lane (i 1))

/-- The normalised input of finite arguments is finite. -/
theorem hid_fin (x : SX.Idx → EReal) (g : SG.Idx → EReal) (hx : Fin' x) (hg : Fin' g) : Fin' (hid x g) := by
  obtain ⟨X, rfl⟩ := hx.exists
  obtain ⟨G, rfl⟩ := hg.exists
  intro i
  refine ⟨X i * rinv 2048 (fun k : Fin 2048 => X (ix2 (i 0) k)) * G (ix2 0 (i 1)), ?_⟩
  unfold hid Ffn.inv
  rw [bits_2048, bits_eps, rsqrt_row (by norm_num), EReal.coe_mul, EReal.coe_mul]

end Cert.Mix

end
-- ==== Proof.Mix.Point.lean ====
/- What one point of the pooling block's forward launch leaves in its block of the output and in the rows it carries. -/
module

public import proofs.«01_k».proof.Proof.Gen.MixKernelIdeal.Value
public import proofs.«01_k».proof.Proof.Mix.Data
public import proofs.«01_k».proof.Proof.Ffn.Back
public import Idealize.ShloMosaic.Lib.Pipeline.ReadBack

@[expose] public section

set_option maxRecDepth 16384

noncomputable section

namespace Cert.Mix

open Cert.MixKernelIdeal Cert.MixKernelIdeal.Gen Idealize.ShloMosaic Idealize.ShloMosaic.TcCoe Idealize.SL.Sem Cert.Ffn
open Idealize.ShloMosaic.Pipeline (Dat)

/-! ## The four groups' stores -/

/-- A row's number as the kernel computes it. -/
theorem word (n r : ℕ) : IntOp.addi (Scalar.muli (BitVec.ofNat 32 n) 512#32) (BitVec.ofNat 32 r) = BitVec.ofNat 32 (512 * n + r) := by
  show BitVec.ofNat 32 n * BitVec.ofNat 32 512 + BitVec.ofNat 32 r = _
  rw [← BitVec.ofNat_mul, ← BitVec.ofNat_add, Nat.mul_comm]

theorem row_lt (n : ℕ) (hn : n < 16) (r : Fin 512) : 512 * n + r.val < 8192 := by omega

/-- Row `r` of block `n` of rows. -/
def rowOf (n : ℕ) (hn : n < 16) (r : Fin 512) : Fin 8192 := ⟨512 * n + r.val, row_lt n hn r⟩

/-- A block of the carried buffer. -/
abbrev slab (E : Vec Ideal S528x2048 .f32) (a b : ℕ) (inb : ∀ d : Fin S528x2048.rank, (![a, b] : Fin 2 → ℕ) d + (![512, 512] : Fin 2 → ℕ) d ≤ S528x2048.size d) :
    Vec Ideal S512x512 .f32 := View.ld E (Rect.unit (s := S528x2048) ![a, b] ![512, 512] inb)

/-- A channel of the first group. -/
theorem col_zero (k : Fin 512) : col 0 k = ⟨k.val, by omega⟩ := Fin.ext (Nat.zero_add _)

section

variable (h X : SX.Idx → EReal) (n : ℕ) (hn : n < 16) (E : Vec Ideal S528x2048 .f32) (v x0 : Vec Ideal S512x2048 .f32)
  (x2 : Vec Ideal S4x512x512 .bf16) (x3 : Vec Ideal S1x2048 .f32)
  (hE : ∀ (r : Fin 528) (k : Fin 2048), E (ix2 r k) = past h k (512 * n + r.val))
  (hv : ∀ (r : Fin 512) (k : Fin 2048), v (ix2 r k) = h (ix2 (rowOf n hn r) k))
  (hx : ∀ (r : Fin 512) (k : Fin 2048), x0 (ix2 r k) = X (ix2 (rowOf n hn r) k))

/-- A row of the carried buffer as an entry of a window. -/
theorem shift (k : Fin 2048) (a r : ℕ) (ha : a ≤ 16) : past h k (512 * n + (a + r)) = past h k (512 * n + r + 16 - (16 - a)) :=
  congrArg (past h k) (by omega)

include hE hv hx in
theorem piece0 (i : grid0.Coords) (hi : (i 0).val = n) (i16 i15 ix iw ia) (r k : Fin 512) :
    k0_pay7 (F := Ideal) v (k0_pay5 (F := Ideal) (slab E 16 0 i16) (slab E 15 0 i15)) (k0_pay6 (F := Ideal) i)
      (View.ld x0 (Rect.unit (s := S512x2048) ![0, 0] ![512, 512] ix))
      (View.ld x2 (Rect.unit (s := S4x512x512) ![0, 0, 0] ![1, 512, 512] iw)) (View.ld x3 (Rect.unit (s := S1x2048) ![0, 0] ![1, 512] ia)) (ix2 r k)
      = mixAt h X x2 x3 (rowOf n hn r) 0 k := by
  subst hi
  unfold_payloads
  unfold slab
  pointwise [word, hE, hv, hx]
  unfold mixAt
  rw [col_zero]
  refine congrArg₂ (fun u v : EReal => _ + u * v) (Finset.sum_congr rfl fun d _ => ?_) rfl
  simp (disch := decide) only [shift]
  unfold diff
  rw [col_zero]
  rfl

include hE hv hx in
theorem piece1 (i16 i15 i14 i13 ix iw ia) (r k : Fin 512) :
    k0_pay9 (F := Ideal) (k0_pay8 (F := Ideal) (BitVec.ofNat 32 n) v (slab E 16 512 i16) (slab E 15 512 i15) (slab E 14 512 i14) (slab E 13 512 i13))
      (View.ld x0 (Rect.unit (s := S512x2048) ![0, 512] ![512, 512] ix))
      (View.ld x2 (Rect.unit (s := S4x512x512) ![1, 0, 0] ![1, 512, 512] iw)) (View.ld x3 (Rect.unit (s := S1x2048) ![0, 512] ![1, 512] ia)) (ix2 r k)
      = mixAt h X x2 x3 (rowOf n hn r) 1 k := by
  unfold_payloads
  unfold slab
  pointwise [word, hE, hv, hx]
  refine congrArg₂ (fun u v : EReal => _ + u * v) (Finset.sum_congr rfl fun d _ => ?_) rfl
  simp (disch := decide) only [shift]
  rfl

include hE hv hx in
theorem piece2 (i16 i15 i14 i13 i12 i11 i10 i9 ix iw ia) (r k : Fin 512) :
    k0_pay12 (F := Ideal) v (k0_pay10 (F := Ideal) (slab E 16 1024 i16) (slab E 15 1024 i15) (slab E 14 1024 i14) (slab E 13 1024 i13)
      (slab E 12 1024 i12) (slab E 11 1024 i11) (slab E 10 1024 i10) (slab E 9 1024 i9)) (k0_pay11 (F := Ideal) (BitVec.ofNat 32 n))
      (View.ld x0 (Rect.unit (s := S512x2048) ![0, 1024] ![512, 512] ix))
      (View.ld x2 (Rect.unit (s := S4x512x512) ![2, 0, 0] ![1, 512, 512] iw)) (View.ld x3 (Rect.unit (s := S1x2048) ![0, 1024] ![1, 512] ia)) (ix2 r k)
      = mixAt h X x2 x3 (rowOf n hn r) 2 k := by
  unfold_payloads
  unfold slab
  pointwise [word, hE, hv, hx]
  refine congrArg₂ (fun u v : EReal => _ + u * v) (Finset.sum_congr rfl fun d _ => ?_) rfl
  simp (disch := decide) only [shift]
  rfl

include hE hv hx in
theorem piece3 (i16 i15 i14 i13 i12 i11 i10 i9 i8 i7 i6 i5 i4 i3 i2 i1 ix iw ia) (r k : Fin 512) :
    k0_pay14 (F := Ideal) v (Scalar.muli (BitVec.ofNat 32 n) 512#32) (k0_pay13 (F := Ideal) (slab E 16 1536 i16) (slab E 15 1536 i15) (slab E 14 1536 i14) (slab E 13 1536 i13)
      (slab E 12 1536 i12) (slab E 11 1536 i11) (slab E 10 1536 i10) (slab E 9 1536 i9))
      (slab E 8 1536 i8) (slab E 7 1536 i7) (slab E 6 1536 i6) (slab E 5 1536 i5)
      (slab E 4 1536 i4) (slab E 3 1536 i3) (slab E 2 1536 i2) (slab E 1 1536 i1)
      (View.ld x0 (Rect.unit (s := S512x2048) ![0, 1536] ![512, 512] ix))
      (View.ld x2 (Rect.unit (s := S4x512x512) ![3, 0, 0] ![1, 512, 512] iw)) (View.ld x3 (Rect.unit (s := S1x2048) ![0, 1536] ![1, 512] ia)) (ix2 r k)
      = mixAt h X x2 x3 (rowOf n hn r) 3 k := by
  unfold_payloads
  unfold slab
  pointwise [word, hE, hv, hx]
  refine congrArg₂ (fun u v : EReal => _ + u * v) (Finset.sum_congr rfl fun d _ => ?_) rfl
  simp (disch := decide) only [shift]
  rfl

end

/-! ## The carried rows -/

theorem low_lt (a : Fin 528) : a.val - 16 < 512 := by omega

/-- Sixteen rows `u` with 512 rows `v` after them. -/
def ext (u : S16x2048.Idx → EReal) (v : S512x2048.Idx → EReal) (y : S528x2048.Idx) : EReal :=
  if q : (y 0).val < 16 then u (ix2 ⟨(y 0).val, q⟩ (y 1)) else v (ix2 ⟨(y 0).val - 16, low_lt (y 0)⟩ (y 1))

theorem ext_canon (u : Vec Ideal S16x2048 .f32) (v : Vec Ideal S512x2048 .f32) (y : S528x2048.Idx) : View.canon (Val := Elt Ideal) (e := .f32)
      [⟨Rect.unit (s := S528x2048) ![16, 0] ![512, 2048] inb_S528x2048_S512x2048_16_0, v⟩,
        ⟨Rect.unit (s := S528x2048) ![0, 0] ![16, 2048] inb_S528x2048_S16x2048_0_0, u⟩] y = ext u v y := by
  refine View.canon_append_of_piecesOf (Val := Elt Ideal) (e := .f32) (ext u v) [] [_, _] ⟨?_, ?_, trivial⟩ y ?_
  · intro x
    have e0 : (((Rect.unit (s := S528x2048) ![16, 0] ![512, 2048] inb_S528x2048_S512x2048_16_0).emb x) 0).val = 16 + (x 0).val := Rect.idx_unit_val ..
    have e1 : (((Rect.unit (s := S528x2048) ![16, 0] ![512, 2048] inb_S528x2048_S512x2048_16_0).emb x) 1).val = (x 1).val :=
      (Rect.idx_unit_val ..).trans (Nat.zero_add _)
    unfold ext
    rw [dif_neg (by rw [e0]; omega)]
    refine congrArg v (funext fun a => Fin.ext ?_)
    fin_cases a
    · show (x 0).val = _ - 16
      rw [e0]
      omega
    · exact e1.symm
  · intro x
    have e0 : (((Rect.unit (s := S528x2048) ![0, 0] ![16, 2048] inb_S528x2048_S16x2048_0_0).emb x) 0).val = (x 0).val :=
      (Rect.idx_unit_val ..).trans (Nat.zero_add _)
    have e1 : (((Rect.unit (s := S528x2048) ![0, 0] ![16, 2048] inb_S528x2048_S16x2048_0_0).emb x) 1).val = (x 1).val :=
      (Rect.idx_unit_val ..).trans (Nat.zero_add _)
    have lt : (x 0).val < 16 := (x 0).isLt
    unfold ext
    rw [dif_pos (by rw [e0]; exact lt)]
    refine congrArg u (funext fun a => Fin.ext ?_)
    fin_cases a
    · exact e0.symm
    · exact e1.symm
  · exact View.cover_of_tiledBy _ ![16, 2048] (by sl_kernel_rfl) y

theorem ext_read (u : Vec Ideal S16x2048 .f32) (v : Vec Ideal S512x2048 .f32) (a b : ℕ) (inb) :
    View.readCov (sig := sig) (κ := .tc) (sp := .vmem) (s := S528x2048) (e := .f32) (Val := Elt Ideal) (View.whole cc0_scratch0)
      [⟨Rect.unit (s := S528x2048) ![16, 0] ![512, 2048] inb_S528x2048_S512x2048_16_0, v⟩,
        ⟨Rect.unit (s := S528x2048) ![0, 0] ![16, 2048] inb_S528x2048_S16x2048_0_0, u⟩]
      (Rect.unit (s := S528x2048) ![a, b] ![512, 512] inb).toLoadRect = slab (ext u v) a b inb := by
  rw [View.readCov_eq_canon']
  funext j
  exact ext_canon u v _

end Cert.Mix

end
-- ==== Proof.Mix.Kernel.lean ====
/- What the output of the pooling block's forward launch holds after its run: the pooling block. -/
module

public import proofs.«01_k».proof.Proof.Mix.Point
public import Idealize.ShloMosaic.Lib.Pipeline.ValueKit
public import Idealize.ShloMosaic.Lib.StableHlo.RunRead

@[expose] public section

set_option maxRecDepth 16384

noncomputable section

namespace Cert.Mix

open Cert.MixKernelIdeal Cert.MixKernelIdeal.Gen Cert.MixKernelIdeal.Value Idealize.ShloMosaic Idealize.ShloMosaic.TcCoe Idealize.SL.Sem Cert.Ffn
open Idealize.ShloMosaic.Pipeline (Dat)

variable (m : (ℓ : Loc nD τ sig) → Buf (Elt Ideal) ℓ)

/-! ## The blocks the points read -/

theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

/-- Row `r` of a block of rows is row `512 t + r` of the array. -/
def blockRow (t : Fin cfg0.N) (r : Fin 512) : Fin 8192 := rowOf t.val t.isLt r

/-- The weights as the launch finds them. -/
def W (c : Dev nD) : ST.Idx → EReal := (V m c main_v0 : Vec Ideal S4x512x512 .bf16)

theorem blk0 (c : Dev nD) (t : Fin cfg0.N) (r : Fin 512) (j : Fin 2048) :
    iblk m c 0 t (ix2 r j) = m ((c : Thread nD τ).loc main_arg0) (ix2 (blockRow t r) j) := by
  refine Eq.trans (b := (V m c main_arg0 : Vec Ideal S8192x2048 .f32) (ix2 (blockRow t r) j)) ?_ (congrFun (V_main_arg0 m c) _)
  blk_point [iblk, idx t, blockRow, rowOf]

theorem blk1 (c : Dev nD) (t : Fin cfg0.N) (j : Fin 2048) :
    iblk m c 1 t (ix2 (0 : Fin 1) j) = m ((c : Thread nD τ).loc main_arg1) (ix2 (0 : Fin 1) j) := by
  refine Eq.trans (b := (V m c main_arg1 : Vec Ideal S1x2048 .f32) (ix2 0 j)) ?_ (congrFun (V_main_arg1 m c) _)
  blk_point [iblk, idx t]

theorem blk2 (c : Dev nD) (t : Fin cfg0.N) (g : Fin 4) (k j : Fin 512) : iblk m c 2 t (ix3 g k j) = W m c (ix3 g k j) := by
  blk_point [iblk, W, idx t]

theorem blk3 (c : Dev nD) (t : Fin cfg0.N) (j : Fin 2048) :
    iblk m c 3 t (ix2 (0 : Fin 1) j) = m ((c : Thread nD τ).loc main_arg3) (ix2 (0 : Fin 1) j) := by
  refine Eq.trans (b := (V m c main_arg3 : Vec Ideal S1x2048 .f32) (ix2 0 j)) ?_ (congrFun (V_main_arg3 m c) _)
  blk_point [iblk, idx t]

theorem W_eq (c : Dev nD) : W m c = m ((c : Thread nD τ).loc main_arg2) := by
  funext i
  idx_vars i
  unfold W V
  after_reads_simp
  pointwise

/-- The normalised input. -/
def H (c : Dev nD) : SX.Idx → EReal := hid (m ((c : Thread nD τ).loc main_arg0)) (m ((c : Thread nD τ).loc main_arg1))

/-- A block of the input, normalised. -/
theorem pay_hid (c : Dev nD) (t : Fin cfg0.N) (r : Fin 512) (k : Fin 2048) :
    k0_pay1 (F := Ideal) (iblk m c 0 t) (iblk m c 1 t) (ix2 r k) = H m c (ix2 (blockRow t r) k) := by
  unfold_payloads
  pointwise [blk0 m c t, blk1 m c t]
  rfl

theorem pay_hid' (c : Dev nD) (t : Fin cfg0.N) (r : Fin 512) (k : Fin 2048) :
    k0_pay4 (F := Ideal) (iblk m c 0 t) (iblk m c 1 t) (ix2 r k) = H m c (ix2 (blockRow t r) k) := by
  unfold_payloads
  pointwise [blk0 m c t, blk1 m c t]
  rfl

/-! ## The carried rows -/

/-- Sixteen rows before a block and the block's own rows are 528 rows of one array. -/
theorem ext_past (c : Dev nD) (t : Fin cfg0.N) (u : S16x2048.Idx → EReal)
    (hu : ∀ (r : Fin 16) (k : Fin 2048), u (ix2 r k) = past (H m c) k (512 * t.val + r.val)) (r : Fin 528) (k : Fin 2048) :
    ext u (k0_pay4 (F := Ideal) (iblk m c 0 t) (iblk m c 1 t)) (ix2 r k) = past (H m c) k (512 * t.val + r.val) := by
  have ht : t.val < 16 := t.isLt
  unfold ext
  split
  · exact hu _ _
  · rename_i q
    have q : ¬ r.val < 16 := q
    refine (pay_hid' m c t _ k).trans ?_
    unfold past
    rw [dif_pos ⟨by omega, by omega⟩]
    refine congrArg (H m c) (congrArg₂ ix2 (Fin.ext ?_) rfl)
    show 512 * t.val + (r.val - 16) = 512 * t.val + r.val - 16
    omega

theorem coord (t : Fin cfg0.N) : (grid0.coords t 0).val = t.val := by
  have ht : t.val < 16 := t.isLt
  have e : (grid0.coords t 0).val = t.val / 1 % 16 := Pipeline.Grid.coords_val t 0 (by decide) rfl
  omega

/-- Before the first block there is nothing. -/
theorem first (c : Dev nD) (t : Fin cfg0.N) (h0 : t.val % 16 = 0) (h1 : ¬1 ≤ t.val) (r : Fin 16) (k : Fin 2048) :
    k0_pay2 (F := Ideal) (ix2 r k) = past (H m c) k (512 * t.val + r.val) := by
  unfold past
  rw [dif_neg (by omega)]
  unfold_payloads
  pointwise

theorem carry_A (c : Dev nD) (t : Fin cfg0.N) (h0 : t.val % 16 = 0) (h1 : ¬1 ≤ t.val) (r : Fin 528) (k : Fin 2048) :
    (outsAt0 m c t.val t.isLt).2 (ix2 r k) = past (H m c) k (512 * t.val + r.val) := by
  rw [outsAt0_A m c t h0 h1]
  frame_out
  exact (ext_canon _ _ _).trans (ext_past m c t _ (first m c t h0 h1) r k)

/-- The last sixteen rows of the block before. -/
def tail (xs : Vec Ideal S528x2048 .f32) (hw : (Memref.whole cc0_scratch0).IsWhole) : Vec Ideal S16x2048 .f32 :=
  k0_pay3 (View.ld (View.read (Elt Ideal) (View.whole cc0_scratch0) (hw.unread xs)) (Rect.unit (s := S528x2048) ![512, 0] ![16, 2048] inb_S528x2048_S16x2048_512_0))

/-- Before every other block come the last rows of the block before. -/
theorem next (c : Dev nD) (t : Fin cfg0.N) (h1 : 1 ≤ t.val) (xs : Vec Ideal S528x2048 .f32) (hw)
    (ih : ∀ (r : Fin 528) (k : Fin 2048), xs (ix2 r k) = past (H m c) k (512 * (t.val - 1) + r.val)) (r : Fin 16) (k : Fin 2048) :
    tail xs hw (ix2 r k) = past (H m c) k (512 * t.val + r.val) := by
  unfold tail
  unfold_payloads
  rw [read_unread_whole]
  pointwise
  refine (ih _ k).trans (congrArg (past (H m c) k) ?_)
  show 512 * (t.val - 1) + (512 + r.val) = 512 * t.val + r.val
  omega

theorem carry_B (c : Dev nD) (t : Fin cfg0.N) (h0 : ¬t.val % 16 = 0) (h1 : 1 ≤ t.val)
    (ih : ∀ (r : Fin 528) (k : Fin 2048), (outsAt0 m c (t.val - 1) (by have := t.isLt; omega)).2 (ix2 r k) = past (H m c) k (512 * (t.val - 1) + r.val))
    (r : Fin 528) (k : Fin 2048) :
    (outsAt0 m c t.val t.isLt).2 (ix2 r k) = past (H m c) k (512 * t.val + r.val) := by
  rw [outsAt0_B m c t h0 h1]
  frame_out
  exact (ext_canon _ _ _).trans (ext_past m c t _ (next m c t h1 _ (Memref.isWhole_whole _) ih) r k)

/-- What the carried buffer holds after a point: the sixteen rows before the point's block, and the block. -/
theorem carry (c : Dev nD) : ∀ (n : ℕ) (hn : n < cfg0.N) (r : Fin 528) (k : Fin 2048),
    (outsAt0 m c n hn).2 (ix2 r k) = past (H m c) k (512 * n + r.val)
  | 0, hn => carry_A m c ⟨0, hn⟩ rfl (by show ¬ 1 ≤ 0; omega)
  | n + 1, hn => carry_B m c ⟨n + 1, hn⟩ (by have : n + 1 < 16 := hn; show ¬ (n + 1) % 16 = 0; omega) (by show 1 ≤ n + 1; omega)
      (carry c n (Nat.lt_of_succ_lt hn))

/-! ## The output -/

/-- The block's output as an array. -/
def Out (c : Dev nD) : SX.Idx → EReal :=
  mix (m ((c : Thread nD τ).loc main_arg0)) (m ((c : Thread nD τ).loc main_arg1)) (W m c) (m ((c : Thread nD τ).loc main_arg3))

/-- Its block at a point. -/
def outTile (c : Dev nD) (t : Fin cfg0.N) (y : S512x2048.Idx) : EReal := Out m c (ix2 (blockRow t (y 0)) (y 1))

/-- An entry of a group's store, in the output's block. -/
theorem place (c : Dev nD) (t : Fin cfg0.N) (g : Fin 4) (r k : Fin 512) (y : S512x2048.Idx) (h0 : (y 0).val = r.val) (h1 : (y 1).val = 512 * g.val + k.val) :
    mixAt (H m c) (m ((c : Thread nD τ).loc main_arg0)) (iblk m c 2 t : Vec Ideal S4x512x512 .bf16) (iblk m c 3 t : Vec Ideal S1x2048 .f32)
      (rowOf t.val t.isLt r) g k = outTile m c t y := by
  have e0 : blockRow t (y 0) = (rowOf t.val t.isLt r) := Fin.ext (congrArg (512 * t.val + ·) h0)
  have e1 : grp (y 1) = g := Fin.ext (by show (y 1).val / 512 = g.val; omega)
  have e2 : lane (y 1) = k := Fin.ext (by show (y 1).val % 512 = k.val; omega)
  refine Eq.trans ?_ (congrArg₂ (fun a (b : Fin 4 × Fin 512) => mixAt (H m c) (m ((c : Thread nD τ).loc main_arg0)) (W m c)
    (m ((c : Thread nD τ).loc main_arg3)) a b.1 b.2) e0 (congrArg₂ Prod.mk e1 e2)).symm
  unfold mixAt
  rw [blk3]
  exact congrArg (fun u : EReal => _ + u * _) (Finset.sum_congr rfl fun j _ => congrArg (_ * ·) (blk2 m c t g j k))

theorem tile_A (c : Dev nD) (t : Fin cfg0.N) (h0 : t.val % 16 = 0) (h1 : ¬1 ≤ t.val) (y : S512x2048.Idx) :
    (outsAt0 m c t.val t.isLt).1 y = outTile m c t y := by
  have hE := ext_past m c t (k0_pay2 (F := Ideal)) (first m c t h0 h1)
  rw [outsAt0_A m c t h0 h1]
  frame_out
  simp only [ext_read]
  canon_tiles x hh
  all_goals idx_vars x
  · rw [coord t]; exact (piece3 (H m c) (m ((c : Thread nD τ).loc main_arg0)) t.val t.isLt _ _ _ _ _ hE (pay_hid m c t) (blk0 m c t) _ _ _ _ _ _ _ _ _ _ _ _ _ _ _ _ _ _ _ _ _).trans (place m c t 3 _ _ y hh0 (by omega))
  · rw [coord t]; exact (piece2 (H m c) (m ((c : Thread nD τ).loc main_arg0)) t.val t.isLt _ _ _ _ _ hE (pay_hid m c t) (blk0 m c t) _ _ _ _ _ _ _ _ _ _ _ _ _).trans (place m c t 2 _ _ y hh0 (by omega))
  · rw [coord t]; exact (piece1 (H m c) (m ((c : Thread nD τ).loc main_arg0)) t.val t.isLt _ _ _ _ _ hE (pay_hid m c t) (blk0 m c t) _ _ _ _ _ _ _ _ _).trans (place m c t 1 _ _ y hh0 (by omega))
  · exact (piece0 (H m c) (m ((c : Thread nD τ).loc main_arg0)) t.val t.isLt _ _ _ _ _ hE (pay_hid m c t) (blk0 m c t) _ (coord t) _ _ _ _ _ _ _).trans (place m c t 0 _ _ y hh0 (by omega))

theorem tile_B (c : Dev nD) (t : Fin cfg0.N) (h0 : ¬t.val % 16 = 0) (h1 : 1 ≤ t.val) (y : S512x2048.Idx) :
    (outsAt0 m c t.val t.isLt).1 y = outTile m c t y := by
  have hE := ext_past m c t _ (next m c t h1 _ (Memref.isWhole_whole _) (carry m c (t.val - 1) (by have := t.isLt; omega)))
  rw [outsAt0_B m c t h0 h1]
  frame_out
  simp only [ext_read]
  canon_tiles x hh
  all_goals idx_vars x
  · rw [coord t]; exact (piece3 (H m c) (m ((c : Thread nD τ).loc main_arg0)) t.val t.isLt _ _ _ _ _ hE (pay_hid m c t) (blk0 m c t) _ _ _ _ _ _ _ _ _ _ _ _ _ _ _ _ _ _ _ _ _).trans (place m c t 3 _ _ y hh0 (by omega))
  · rw [coord t]; exact (piece2 (H m c) (m ((c : Thread nD τ).loc main_arg0)) t.val t.isLt _ _ _ _ _ hE (pay_hid m c t) (blk0 m c t) _ _ _ _ _ _ _ _ _ _ _ _ _).trans (place m c t 2 _ _ y hh0 (by omega))
  · rw [coord t]; exact (piece1 (H m c) (m ((c : Thread nD τ).loc main_arg0)) t.val t.isLt _ _ _ _ _ hE (pay_hid m c t) (blk0 m c t) _ _ _ _ _ _ _ _ _).trans (place m c t 1 _ _ y hh0 (by omega))
  · exact (piece0 (H m c) (m ((c : Thread nD τ).loc main_arg0)) t.val t.isLt _ _ _ _ _ hE (pay_hid m c t) (blk0 m c t) _ (coord t) _ _ _ _ _ _ _).trans (place m c t 0 _ _ y hh0 (by omega))

theorem land (t : Fin cfg0.N) (y : S512x2048.Idx) (z : S8192x2048.Idx) (n : Fin 2 → ℕ) (hn : n = ![t.val, 0])
    (h0 : (z 0).val = n 0 * 512 + 1 * (y 0).val) (h1 : (z 1).val = n 1 * 2048 + 1 * (y 1).val) : z = ix2 (blockRow t (y 0)) (y 1) := by
  subst hn
  refine funext fun a => Fin.ext ?_
  fin_cases a
  · refine h0.trans ?_
    show t.val * 512 + 1 * (y 0).val = 512 * t.val + (y 0).val
    omega
  · refine h1.trans ?_
    show 0 * 2048 + 1 * (y 1).val = (y 1).val
    omega

theorem out_array (c : Dev nD) : (dats m 0 c).arrAt 4 cfg0.N = (Out m c : Vec Ideal S8192x2048 .f32) := by
  refine (dats m 0 c).arrAt_eq_of_covers 4 _ (by decide +kernel) fun t hf y => ?_
  blk_simp
  rw [after0_4]
  have ht : t.val < 16 := t.isLt
  have e : (outsAt0 m c t.val t.isLt).1 y = outTile m c t y := by
    by_cases h0 : t.val % 16 = 0
    · exact tile_A m c t h0 (by omega) y
    · exact tile_B m c t h0 (by omega) y
  exact e.trans (congrArg (Out m c) (land t y _ (win0_4.index t) (idx t).2.2.2.2 rfl rfl).symm)

end Cert.Mix

end
-- ==== Proof.Mix.Reference.lean ====
/- The plain form of the pooling block, read entry by entry: prefix sums over the rows, their differences, the means. -/
module

public import proofs.«01_k».proof.Proof.Gen.MixReferenceIdeal.Read
public import proofs.«01_k».proof.Proof.Mix.Data
public import Idealize.ShloMosaic.Lib.Pipeline.ValueKit

@[expose] public section

set_option maxRecDepth 16384

noncomputable section

namespace Cert.Mix

open Cert.MixReferenceIdeal Cert.MixReferenceIdeal.Gen Cert.MixReferenceIdeal.Read Idealize.ShloMosaic Idealize.ShloMosaic.TcCoe Cert.Ffn Cert.Arith

/-! ## A running sum over the first axis -/

theorem foldl_add {ι : Type} (G : ι → EReal) (l : List ι) (z : EReal) : l.foldl (fun r n => r + G n) z = z + (l.map G).sum := by
  induction l generalizing z with
  | nil => exact (add_zero z).symm
  | cons a l ih => rw [List.foldl_cons, ih, List.map_cons, List.sum_cons, add_assoc]

/-- Position `n` of a column of a three-axis array. -/
theorem column (R : ℕ) (hn : (⟨3, ![R, 1, 1]⟩ : Shape).numel = R) (n : Fin (⟨3, ![R, 1, 1]⟩ : Shape).numel) :
    (⟨3, ![R, 1, 1]⟩ : Shape).rowMajor.symm n = ix3 (n.cast hn) (0 : Fin 1) (0 : Fin 1) :=
  ((⟨3, ![R, 1, 1]⟩ : Shape).rowMajor.symm_apply_eq).2 (Fin.ext (by
    rw [Shape.rowMajor_val_three]
    show n.val = (n.val * 1 + 0) * 1 + 0
    omega))

/-- A window that ends at `j` and reaches over the array's whole height takes the entries up to `j`. -/
theorem window (q : ℕ → EReal) (R j : ℕ) (hj : j ≤ R) :
    ∑ n ∈ Finset.range (R + 1), (if R ≤ j + n then q (j + n - R) else 0) = ∑ i ∈ Finset.range (j + 1), q i := by
  obtain ⟨d, rfl⟩ : ∃ d, R = d + j := ⟨R - j, by omega⟩
  rw [add_assoc, Finset.sum_range_add, Finset.sum_eq_zero fun n hn => if_neg (by have := Finset.mem_range.1 hn; omega), zero_add]
  exact Finset.sum_congr rfl fun n _ => (if_pos (by omega)).trans (congrArg q (by omega))

theorem running (R A B : ℕ) (x : Vec Ideal ⟨3, ![R + 1, A, B]⟩ .f32) (z : Vec Ideal S_ .f32) (h hu) (hz : z (Shape.Idx.first hu) = 0)
    (j : Fin (R + 1)) (a : Fin A) (b : Fin B) :
    Host.reduceWindowAdd (F := Ideal) (φ := .f32) (t := ⟨3, ![R + 1, A, B]⟩) ![R + 1, 1, 1] ![1, 1, 1] ![R, 0, 0] ![0, 0, 0] x z h hu (ix3 j a b)
      = ∑ i ∈ Finset.range (j.val + 1), if q : i < R + 1 then x (ix3 ⟨i, q⟩ a b) else 0 := by
  have hN : (⟨3, ![R + 1, 1, 1]⟩ : Shape).numel = R + 1 := (Fin.prod_univ_three _).trans (by show (R + 1) * 1 * 1 = _; omega)
  have hj : j.val < R + 1 := j.isLt
  unfold Host.reduceWindowAdd
  rw [Ideal.hostReduceWindowAdd_def, hz]
  unfold Ideal.hostReduceWindowAdd Host.reduceWindow
  dsimp only
  rw [foldl_add, zero_add, ← Fin.sum_univ_def]
  set q : ℕ → EReal := fun i => if q : i < R + 1 then x (ix3 ⟨i, q⟩ a b) else 0 with hq
  refine Eq.trans (Eq.trans (Finset.sum_congr rfl fun n _ => ?_) (Finset.sum_range fun n => if R ≤ j.val + n then q (j.val + n - R) else 0).symm)
    ((congrArg (fun M => ∑ n ∈ Finset.range M, if R ≤ j.val + n then q (j.val + n - R) else 0) hN).trans (window q R j.val (by omega)))
  have c0 : ((⟨3, ![R + 1, 1, 1]⟩ : Shape).rowMajor.symm n 0).val = n.val := by rw [column _ hN]; rfl
  have c1 : ((⟨3, ![R + 1, 1, 1]⟩ : Shape).rowMajor.symm n 1).val = 0 := by rw [column _ hN]; rfl
  have c2 : ((⟨3, ![R + 1, 1, 1]⟩ : Shape).rowMajor.symm n 2).val = 0 := by rw [column _ hN]; rfl
  have hn : n.val < R + 1 := lt_of_lt_of_eq n.isLt hN
  have ha : a.val < A := a.isLt
  have hb : b.val < B := b.isLt
  split
  · next hin =>
    have h0 := (hin 0).1
    change R ≤ j.val * 1 + ((⟨3, ![R + 1, 1, 1]⟩ : Shape).rowMajor.symm n 0).val at h0
    rw [c0] at h0
    rw [if_pos (by omega), hq]
    dsimp only
    rw [dif_pos (by omega)]
    refine congrArg x (funext fun d => Fin.ext ?_)
    fin_cases d
    · show j.val * 1 + ((⟨3, ![R + 1, 1, 1]⟩ : Shape).rowMajor.symm n 0).val - R = j.val + n.val - R
      rw [c0]
      omega
    · show a.val * 1 + ((⟨3, ![R + 1, 1, 1]⟩ : Shape).rowMajor.symm n 1).val - 0 = a.val
      rw [c1]
      omega
    · show b.val * 1 + ((⟨3, ![R + 1, 1, 1]⟩ : Shape).rowMajor.symm n 2).val - 0 = b.val
      rw [c2]
      omega
  · next hin =>
    refine (if_neg fun hle => hin fun d => ?_).symm
    fin_cases d
    · show R ≤ j.val * 1 + ((⟨3, ![R + 1, 1, 1]⟩ : Shape).rowMajor.symm n 0).val
        ∧ j.val * 1 + ((⟨3, ![R + 1, 1, 1]⟩ : Shape).rowMajor.symm n 0).val - R < R + 1
      rw [c0]
      omega
    · show 0 ≤ a.val * 1 + ((⟨3, ![R + 1, 1, 1]⟩ : Shape).rowMajor.symm n 1).val
        ∧ a.val * 1 + ((⟨3, ![R + 1, 1, 1]⟩ : Shape).rowMajor.symm n 1).val - 0 < A
      rw [c1]
      omega
    · show 0 ≤ b.val * 1 + ((⟨3, ![R + 1, 1, 1]⟩ : Shape).rowMajor.symm n 2).val
        ∧ b.val * 1 + ((⟨3, ![R + 1, 1, 1]⟩ : Shape).rowMajor.symm n 2).val - 0 < B
      rw [c2]
      omega

/-! ## The prefix sums -/

section

variable (x : Vec Ideal S8192x2048 .f32) (g : Vec Ideal S1x2048 .f32)

theorem ref_hid : val_main_v11 (F := Ideal) x g = hid x g := by
  funext i
  idx_vars i
  unfold val_main_v11 val_main_v10 val_main_v9 val_main_v8 val_main_v7 val_main_v6 val_main_v5 val_main_v4 val_main_v3 val_main_v2
    val_main_v1 val_main_v0 val_main_cst val_main_cst_0 val_main_cst_1
  pointwise [hid, Ffn.inv]

theorem ref_row (s : Fin 8192) (a : Fin 4) (k : Fin 512) : val_main_v12 (F := Ideal) x g (ix3 s a k) = hid x g (ix2 s (col a k)) := by
  rw [val_main_v12_apply, ref_hid]
  refine congrArg (hid x g) (funext fun d => Fin.ext ?_)
  fin_cases d
  · show ((s.val * 4 + a.val) * 512 + k.val) / 2048 = s.val
    omega
  · show ((s.val * 4 + a.val) * 512 + k.val) % 2048 = 512 * a.val + k.val
    omega

theorem ref_sum (s : Fin 8192) (a : Fin 4) (k : Fin 512) : val_main_v13 (F := Ideal) x g (ix3 s a k) = pre (hid x g) (col a k) s.val := by
  unfold val_main_v13
  refine (running 8191 4 512 _ _ _ _ ?_ s a k).trans ?_
  · unfold val_main_call0_call0_v0 val_main_call0_call0_cst
    pointwise
  · unfold pre past
    refine Finset.sum_congr rfl fun i hi => ?_
    have := Finset.mem_range.1 hi
    have := s.isLt
    rw [dif_pos (by omega), dif_pos (by omega), ref_row]
    rfl

theorem mean0 (hh : Fin' (hid x g)) (s : Fin 8192) (k : Fin 512) : val_main_v28 (F := Ideal) x g (ix2 s k)
    = Ideal.div (win (past (hid x g) (col 0 k)) (s.val + 16) (dep 0)) (cnt s.val (dep 0 + 1)) := by
  rw [← win_eq (hid x g) hh (col 0 k) s.val (dep 0) (by decide)]
  have hP := ref_sum x g
  unfold val_main_v28 val_main_v27 val_main_v26 val_main_v25 val_main_v24 val_main_v23 val_main_v22 val_main_v21 val_main_v20
    val_main_v19 val_main_v18 val_main_v17 val_main_v16 val_main_v15 val_main_v14 val_main_c val_main_c_3 val_main_cst_2
  generalize val_main_v13 (F := Ideal) x g = P at hP ⊢
  pointwise [hP]
  simp only [dite_eq_ite]
  rfl

theorem mean1 (hh : Fin' (hid x g)) (s : Fin 8192) (k : Fin 512) : val_main_v42 (F := Ideal) x g (ix2 s k)
    = Ideal.div (win (past (hid x g) (col 1 k)) (s.val + 16) (dep 1)) (cnt s.val (dep 1 + 1)) := by
  rw [← win_eq (hid x g) hh (col 1 k) s.val (dep 1) (by decide)]
  have hP := ref_sum x g
  unfold val_main_v42 val_main_v41 val_main_v40 val_main_v39 val_main_v38 val_main_v37 val_main_v36 val_main_v35 val_main_v34
    val_main_v33 val_main_v32 val_main_v31 val_main_v30 val_main_v29 val_main_v14 val_main_c_5 val_main_c_6 val_main_cst_4
  generalize val_main_v13 (F := Ideal) x g = P at hP ⊢
  pointwise [hP]
  simp only [dite_eq_ite]
  rfl

theorem mean2 (hh : Fin' (hid x g)) (s : Fin 8192) (k : Fin 512) : val_main_v56 (F := Ideal) x g (ix2 s k)
    = Ideal.div (win (past (hid x g) (col 2 k)) (s.val + 16) (dep 2)) (cnt s.val (dep 2 + 1)) := by
  rw [← win_eq (hid x g) hh (col 2 k) s.val (dep 2) (by decide)]
  have hP := ref_sum x g
  unfold val_main_v56 val_main_v55 val_main_v54 val_main_v53 val_main_v52 val_main_v51 val_main_v50 val_main_v49 val_main_v48
    val_main_v47 val_main_v46 val_main_v45 val_main_v44 val_main_v43 val_main_v14 val_main_c_8 val_main_c_9 val_main_cst_7
  generalize val_main_v13 (F := Ideal) x g = P at hP ⊢
  pointwise [hP]
  simp only [dite_eq_ite]
  rfl

theorem mean3 (hh : Fin' (hid x g)) (s : Fin 8192) (k : Fin 512) : val_main_v70 (F := Ideal) x g (ix2 s k)
    = Ideal.div (win (past (hid x g) (col 3 k)) (s.val + 16) (dep 3)) (cnt s.val (dep 3 + 1)) := by
  rw [← win_eq (hid x g) hh (col 3 k) s.val (dep 3) (by decide)]
  have hP := ref_sum x g
  unfold val_main_v70 val_main_v69 val_main_v68 val_main_v67 val_main_v66 val_main_v65 val_main_v64 val_main_v63 val_main_v62
    val_main_v61 val_main_v60 val_main_v59 val_main_v58 val_main_v57 val_main_v14 val_main_c_11 val_main_c_12 val_main_cst_10
  generalize val_main_v13 (F := Ideal) x g = P at hP ⊢
  pointwise [hP]
  simp only [dite_eq_ite]
  rfl

/-- The means less the rows, over the four groups. -/
theorem ref_diff (hh : Fin' (hid x g)) (s : Fin 8192) (a : Fin 4) (k : Fin 512) : val_main_v76 (F := Ideal) x g (ix3 s a k) = diff (hid x g) s a k := by
  have e0 := mean0 x g hh
  have e1 := mean1 x g hh
  have e2 := mean2 x g hh
  have e3 := mean3 x g hh
  have er := ref_row x g
  unfold val_main_v76 val_main_v75 val_main_v74 val_main_v73 val_main_v72 val_main_v71
  generalize val_main_v28 (F := Ideal) x g = m0 at e0 ⊢
  generalize val_main_v42 (F := Ideal) x g = m1 at e1 ⊢
  generalize val_main_v56 (F := Ideal) x g = m2 at e2 ⊢
  generalize val_main_v70 (F := Ideal) x g = m3 at e3 ⊢
  generalize val_main_v12 (F := Ideal) x g = h at er ⊢
  fin_cases a
  all_goals pointwise [e0, e1, e2, e3, er]
  all_goals rfl

/-- The plain form is the pooling block. -/
theorem val (w : Vec Ideal S4x512x512 .f32) (v : Vec Ideal S1x2048 .f32) (hx : Fin' x) (hg : Fin' g) :
    val_main_v82 (F := Ideal) x g w v = mix x g w v := by
  funext i
  have ed := ref_diff x g (hid_fin x g hx hg)
  idx_vars i
  unfold val_main_v82 val_main_v81 val_main_v80 val_main_v79 val_main_v78 val_main_v77
  generalize val_main_v76 (F := Ideal) x g = D at ed ⊢
  pointwise [ed]
  have ec : col (grp i1) (lane i1) = i1 := Fin.ext (by show 512 * (i1.val / 512) + i1.val % 512 = i1.val; omega)
  have em : mix x g w v (ix2 i0 i1) = mixAt (hid x g) x w v i0 (grp i1) (lane i1) := rfl
  rw [em]
  unfold mixAt
  rw [ec]
  exact congrArg (fun u : EReal => _ + u * _) (Finset.sum_congr rfl fun k _ => mul_comm _ _)

end

end Cert.Mix

end
-- ==== Proof.Mix.Claim.lean ====
/- The value claim of the pooling block's forward launch: the precondition read as finiteness, and the two runs set side by side. -/
module

public import proofs.«01_k».proof.Defs
public import proofs.«01_k».proof.Proof.Gen.MixReferenceIdeal.Run
public import proofs.«01_k».proof.Proof.Gen.Pre_mix_finite
public import proofs.«01_k».proof.Proof.Mix.Kernel
public import proofs.«01_k».proof.Proof.Mix.Reference

@[expose] public section

noncomputable section

namespace Cert.Mix

open Idealize.ShloMosaic Idealize.SL.Sem Cert.Arith

/-- The precondition says that the input and the norm's gain are finite. -/
theorem finite_of_pre (m) (h : Cert.Pre_MixKernelIdeal_mix_finite m) (c : Dev Cert.MixKernelIdeal.nD) :
    Fin' (m ((c.tc : Thread _ Cert.MixKernelIdeal.τ).loc Cert.MixKernelIdeal.main_arg0))
    ∧ Fin' (m ((c.tc : Thread _ Cert.MixKernelIdeal.τ).loc Cert.MixKernelIdeal.main_arg1)) :=
  ⟨fun i => real_of_test (congrFun (h c).1 i), fun i => real_of_test (congrFun (h c).2 i)⟩

/-- The reference ends with its arguments as they were; it declares no semaphore. -/
theorem frame_reference : Cert.quiescent_MixReferenceIdeal := fun m ρ _ =>
  (θ_run Cert.MixReferenceIdeal.defs _ _).mono
    (fun r h => ⟨fun c => (h c).2, sem_eq_zero_of_no_sems (by decide) r.2⟩)
    (Cert.MixReferenceIdeal.Value.run m ρ)

/-- The kernel's output is the reference's, where the input and the gain are finite. -/
theorem algebraic : Cert.algebraic_MixKernelIdeal_MixReferenceIdeal_pre_mix_finite := by
  intro m g m' g' hpre hargs
  refine ⟨_, Cert.MixKernelIdeal.Value.run_blocks m g, ?_⟩
  refine (θ_run Cert.MixReferenceIdeal.defs _ _).mono (fun _ h c => ?_) (Cert.MixReferenceIdeal.Value.run m' g')
  obtain ⟨h0, h1⟩ := h c
  obtain ⟨a0, a1, a2, a3⟩ := hargs c
  obtain ⟨f0, f1⟩ := finite_of_pre m hpre c
  refine ⟨h0.trans ?_, h1⟩
  rw [Cert.MixReferenceIdeal.Read.val_main_v82_eq, a0, a1, a2, a3, val _ _ _ _ f0 f1, out_array m c]
  unfold Out
  rw [W_eq m c]

end Cert.Mix

end
-- ==== Proof.Pool.Data.lean ====
/- The mathematics of the pooling block's gradient over extended reals: a sum of the entries that follow in a sequence, and the same sum as a
   difference of two suffix sums where the entries are finite. -/
module

public import proofs.«01_k».proof.Proof.Mix.Data

@[expose] public section

noncomputable section

namespace Cert.Pool

open Idealize.ShloMosaic Cert.Arith Cert.Ffn Cert.Mix

/-- `z` with entries `n`, `n + 1`, … `n + j` of a sequence added to it in this order. -/
def lead (p : ℕ → EReal) (z : EReal) (n : ℕ) : ℕ → EReal
  | 0 => z + p n
  | j + 1 => lead p z n j + p (n + (j + 1))

theorem lead_eq (p : ℕ → EReal) (z : EReal) (n j : ℕ) : lead p z n j = z + ∑ i ∈ Finset.range (j + 1), p (n + i) := by
  induction j with
  | zero => simp [lead]
  | succ j ih => rw [lead, ih, Finset.sum_range_succ _ (j + 1), add_assoc]

/-- The first entries of a sequence that ends are its sum less the sum of the entries `w` further on. -/
theorem suffix (f : ℕ → ℝ) (N w : ℕ) (hf : ∀ n, N ≤ n → f n = 0) :
    ∑ i ∈ Finset.range N, (f i - f (i + w)) = ∑ i ∈ Finset.range w, f i := by
  induction w with
  | zero => simp
  | succ w ih =>
    have e := Finset.sum_range_succ' (fun i => f (i + w)) N
    rw [Finset.sum_range_succ, hf _ (Nat.le_add_right N w), add_zero, Nat.zero_add] at e
    have e' : ∑ i ∈ Finset.range N, f (i + (w + 1)) = ∑ i ∈ Finset.range N, f (i + 1 + w) :=
      Finset.sum_congr rfl fun i _ => congrArg f (by omega)
    rw [Finset.sum_range_succ, ← ih, Finset.sum_sub_distrib, Finset.sum_sub_distrib, e', e]
    ring

/-- The gradient of the differences, in channel `k` of group `g` at row `s`. -/
def dd (u : SX.Idx → EReal) (w : ST.Idx → EReal) (a : SG.Idx → EReal) (s : Fin 8192) (g : Fin 4) (k : Fin 512) : EReal :=
  ∑ d : Fin 512, u (ix2 s (col g d)) * a (ix2 0 (col g d)) * w (ix3 g k d)

/-- What a row's mean hands to each row of its window; zero past the last row. -/
def qu (u : SX.Idx → EReal) (w : ST.Idx → EReal) (a : SG.Idx → EReal) (g : Fin 4) (k : Fin 512) (n : ℕ) : EReal :=
  if q : n < 8192 then Ideal.div (dd u w a ⟨n, q⟩ g k) (cnt n (dep g.val + 1)) else 0

/-- The gradient of the normalised input. -/
def dhAt (u : SX.Idx → EReal) (w : ST.Idx → EReal) (a : SG.Idx → EReal) (s : Fin 8192) (g : Fin 4) (k : Fin 512) : EReal :=
  lead (qu u w a g k) (-(dd u w a s g k)) s.val (dep g.val)

/-- That gradient as an array. -/
def dh (u : SX.Idx → EReal) (w : ST.Idx → EReal) (a : SG.Idx → EReal) : SX.Idx → EReal := fun i =>
  dhAt u w a (i 0) (grp (i 1)) (lane (i 1))

/-- The mixed rows before the scale. -/
def yAt (h : SX.Idx → EReal) (w : ST.Idx → EReal) (s : Fin 8192) (g : Fin 4) (d : Fin 512) : EReal :=
  ∑ k : Fin 512, diff h s g k * w (ix3 g k d)

/-- A row's share of the weights' gradient. -/
def wShare (h u : SX.Idx → EReal) (a : SG.Idx → EReal) (g : Fin 4) (k d : Fin 512) (s : Fin 8192) : EReal :=
  diff h s g k * (u (ix2 s (col g d)) * a (ix2 0 (col g d)))

/-- The weights' gradient. -/
def dw (h u : SX.Idx → EReal) (a : SG.Idx → EReal) : ST.Idx → EReal := fun i => ∑ s : Fin 8192, wShare h u a (i 0) (i 1) (i 2) s

/-- A row's share of the scale's gradient. -/
def sShare (h u : SX.Idx → EReal) (w : ST.Idx → EReal) (g : Fin 4) (d : Fin 512) (s : Fin 8192) : EReal :=
  u (ix2 s (col g d)) * yAt h w s g d

/-- The scale's gradient. -/
def ds (h u : SX.Idx → EReal) (w : ST.Idx → EReal) : SG.Idx → EReal := fun i => ∑ s : Fin 8192, sShare h u w (grp (i 1)) (lane (i 1)) s

/-- A window's length is a number other than zero. -/
theorem cnt_real (s : ℕ) (hs : s < 8192) (g : Fin 4) : ∃ r : ℝ, r ≠ 0 ∧ cnt s (dep g.val + 1) = (r : EReal) := by
  have e : ∀ x : BitVec 32, (FloatOps.sitofp (F := Ideal) .f32 x : EReal) = ((x.toInt : ℝ) : EReal) := fun _ => rfl
  refine ⟨_, ?_, e _⟩
  rw [Int.cast_ne_zero]
  have h1 : IntOp.addi (BitVec.ofNat 32 s) 1#32 = BitVec.ofNat 32 (s + 1) := by
    show BitVec.ofNat 32 s + BitVec.ofNat 32 1 = _
    rw [← BitVec.ofNat_add]
  rw [h1]
  unfold IntOp.minsi
  have hd : dep g.val + 1 = 2 ^ (g.val + 1) := by fin_cases g <;> rfl
  have hg : dep g.val + 1 ≤ 16 ∧ 0 < dep g.val + 1 := by fin_cases g <;> decide
  have t : ∀ n : ℕ, 0 < n → n ≤ 8192 → (BitVec.ofNat 32 n).toInt ≠ 0 := fun n h h' => by
    have e : (BitVec.ofNat 32 n).toNat = n := by rw [BitVec.toNat_ofNat]; omega
    rw [BitVec.toInt_eq_toNat_of_lt (by omega), e]
    omega
  split
  · exact t _ (by omega) (by omega)
  · exact t _ (by omega) (by omega)

/-- Over finite arguments the gradient's terms are reals. -/
theorem dd_fin (u : SX.Idx → EReal) (w : ST.Idx → EReal) (a : SG.Idx → EReal) (hu : Fin' u) (hw : Fin' w) (ha : Fin' a)
    (s : Fin 8192) (g : Fin 4) (k : Fin 512) : ∃ r : ℝ, dd u w a s g k = (r : EReal) := by
  obtain ⟨U, rfl⟩ := hu.exists
  obtain ⟨W, rfl⟩ := hw.exists
  obtain ⟨A, rfl⟩ := ha.exists
  refine ⟨∑ d : Fin 512, U (ix2 s (col g d)) * A (ix2 0 (col g d)) * W (ix3 g k d), ?_⟩
  unfold dd
  rw [← coe_sum]
  simp only [EReal.coe_mul]

theorem qu_fin (u : SX.Idx → EReal) (w : ST.Idx → EReal) (a : SG.Idx → EReal) (hu : Fin' u) (hw : Fin' w) (ha : Fin' a)
    (g : Fin 4) (k : Fin 512) : ∃ q : ℕ → ℝ, (∀ n, 8192 ≤ n → q n = 0) ∧ qu u w a g k = fun n => ((q n : ℝ) : EReal) := by
  have h : ∀ n, ∃ r : ℝ, (8192 ≤ n → r = 0) ∧ qu u w a g k n = (r : EReal) := fun n => by
    unfold qu
    split
    · next q =>
      obtain ⟨r, hr⟩ := dd_fin u w a hu hw ha ⟨n, q⟩ g k
      obtain ⟨b, hb, e⟩ := cnt_real n q g
      exact ⟨r / b, fun h => by omega, by rw [hr, e, div_coe _ hb]⟩
    · exact ⟨0, fun _ => rfl, rfl⟩
  choose q hq hq' using h
  exact ⟨q, hq, funext hq'⟩

theorem lead_fin (q : ℕ → ℝ) (z : ℝ) (n j : ℕ) : ∃ r : ℝ, lead (fun i => ((q i : ℝ) : EReal)) (z : EReal) n j = (r : EReal) := by
  induction j with
  | zero => exact ⟨z + q n, (EReal.coe_add ..).symm⟩
  | succ j ih =>
    obtain ⟨r, hr⟩ := ih
    exact ⟨r + q (n + (j + 1)), by rw [lead, hr, EReal.coe_add]⟩

theorem dh_fin (u : SX.Idx → EReal) (w : ST.Idx → EReal) (a : SG.Idx → EReal) (hu : Fin' u) (hw : Fin' w) (ha : Fin' a) : Fin' (dh u w a) := fun i => by
  obtain ⟨q, -, e⟩ := qu_fin u w a hu hw ha (grp (i 1)) (lane (i 1))
  obtain ⟨r, hr⟩ := dd_fin u w a hu hw ha (i 0) (grp (i 1)) (lane (i 1))
  unfold dh dhAt
  rw [e, hr, ← EReal.coe_neg]
  exact lead_fin q (-r) _ _

/-- The sum of the rows that follow is a difference of two suffix sums. -/
theorem dhAt_eq (u : SX.Idx → EReal) (w : ST.Idx → EReal) (a : SG.Idx → EReal) (hu : Fin' u) (hw : Fin' w) (ha : Fin' a)
    (s : Fin 8192) (g : Fin 4) (k : Fin 512) :
    -(dd u w a s g k) + ∑ n ∈ Finset.range 8192, (if s.val + n < 8192 then qu u w a g k (s.val + n) + -(qu u w a g k (s.val + n + (dep g.val + 1))) else 0)
      = dhAt u w a s g k := by
  obtain ⟨q, hq, e⟩ := qu_fin u w a hu hw ha g k
  unfold dhAt
  rw [lead_eq, e]
  refine congrArg (-(dd u w a s g k) + ·) ?_
  have := suffix (fun i => q (s.val + i)) 8192 (dep g.val + 1) (fun n hn => hq _ (by omega))
  refine Eq.trans ?_ ((congrArg (fun r : ℝ => (r : EReal)) this).trans (coe_sum ..).symm)
  rw [← coe_sum]
  refine Finset.sum_congr rfl fun n _ => ?_
  split
  · rw [sub_eq_add_neg, EReal.coe_add, EReal.coe_neg, Nat.add_assoc]
  · rw [hq _ (by omega), hq _ (by omega), sub_zero]
    rfl

end Cert.Pool

end
-- ==== Proof.Pool.Point.lean ====
/- What one point of the pooling block's backward launch computes for each of the four groups. -/
module

public import proofs.«01_k».proof.Proof.Gen.PoolKernelIdeal.Value
public import proofs.«01_k».proof.Proof.Mix.Point
public import proofs.«01_k».proof.Proof.Pool.Data
public import Idealize.ShloMosaic.Lib.Pipeline.ReadBack

@[expose] public section

set_option maxRecDepth 16384

noncomputable section

namespace Cert.Pool

open Cert.PoolKernelIdeal Cert.PoolKernelIdeal.Gen Idealize.ShloMosaic Idealize.ShloMosaic.TcCoe Idealize.SL.Sem Cert.Ffn Cert.Mix

/-! ## The differences -/

section

variable (h : SX.Idx → EReal) (n : ℕ) (hn : n < 16) (E : Vec Ideal S528x2048 .f32) (v : Vec Ideal S512x2048 .f32)
  (hE : ∀ (r : Fin 528) (k : Fin 2048), E (ix2 r k) = past h k (512 * n + r.val))
  (hv : ∀ (r : Fin 512) (k : Fin 2048), v (ix2 r k) = h (ix2 (rowOf n hn r) k))

include hE hv

theorem diff0 (i16 i15) (r k : Fin 512) :
    k0_pay15 (F := Ideal) (BitVec.ofNat 32 n) v (slab E 16 0 i16) (slab E 15 0 i15) (ix2 r k) = diff h (rowOf n hn r) 0 k := by
  unfold_payloads
  unfold slab
  pointwise [word, hE, hv]
  simp (disch := decide) only [shift]
  unfold diff
  rw [col_zero]
  rfl

theorem diff1 (i16 i15 i14 i13) (r k : Fin 512) :
    k0_pay23 (F := Ideal) v (Scalar.muli (BitVec.ofNat 32 n) 512#32) (slab E 16 512 i16) (slab E 15 512 i15) (slab E 14 512 i14) (slab E 13 512 i13)
      (ix2 r k) = diff h (rowOf n hn r) 1 k := by
  unfold_payloads
  unfold slab
  pointwise [word, hE, hv]
  simp (disch := decide) only [shift]
  rfl

theorem diff2 (i16 i15 i14 i13 i12 i11 i10 i9) (r k : Fin 512) :
    k0_pay33 (F := Ideal) v (Scalar.muli (BitVec.ofNat 32 n) 512#32) (k0_pay31 (F := Ideal) (slab E 16 1024 i16) (slab E 15 1024 i15))
      (slab E 14 1024 i14) (slab E 13 1024 i13) (slab E 12 1024 i12) (slab E 11 1024 i11) (slab E 10 1024 i10) (slab E 9 1024 i9)
      (ix2 r k) = diff h (rowOf n hn r) 2 k := by
  unfold_payloads
  unfold slab
  pointwise [word, hE, hv]
  simp (disch := decide) only [shift]
  rfl

theorem diff3 (i16 i15 i14 i13 i12 i11 i10 i9 i8 i7 i6 i5 i4 i3 i2 i1) (r k : Fin 512) :
    k0_pay43 (F := Ideal) v (Scalar.muli (BitVec.ofNat 32 n) 512#32) (k0_pay41 (F := Ideal) (slab E 16 1536 i16) (slab E 15 1536 i15)
      (slab E 14 1536 i14) (slab E 13 1536 i13) (slab E 12 1536 i12) (slab E 11 1536 i11) (slab E 10 1536 i10) (slab E 9 1536 i9)
      (slab E 8 1536 i8) (slab E 7 1536 i7)) (slab E 6 1536 i6) (slab E 5 1536 i5) (slab E 4 1536 i4) (slab E 3 1536 i3) (slab E 2 1536 i2)
      (slab E 1 1536 i1) (ix2 r k) = diff h (rowOf n hn r) 3 k := by
  unfold_payloads
  unfold slab
  pointwise [word, hE, hv]
  simp (disch := decide) only [shift]
  rfl

end

/-! ## A block's share of the scale's gradient -/

section

variable (h u : SX.Idx → EReal) (w : ST.Idx → EReal) (n : ℕ) (hn : n < 16) (E : Vec Ideal S528x2048 .f32) (v : Vec Ideal S512x2048 .f32)
  (hE : ∀ (r : Fin 528) (k : Fin 2048), E (ix2 r k) = past h k (512 * n + r.val))
  (hv : ∀ (r : Fin 512) (k : Fin 2048), v (ix2 r k) = h (ix2 (rowOf n hn r) k))
  (g : Fin 4) (xg : Vec Ideal S512x512 .f32) (p : Vec Ideal S1x512 .f32) (wg : Vec Ideal S1x512x512 .bf16)
  (hx : ∀ r k : Fin 512, xg (ix2 r k) = u (ix2 (rowOf n hn r) (col g k)))
  (hw : ∀ k d : Fin 512, wg (ix3 (0 : Fin 1) k d) = w (ix3 g k d))

include hE hv hx hw

theorem ds0 (hg : g = 0) (i16 i15) (d : Fin 512) :
    k0_pay16 (F := Ideal) (BitVec.ofNat 32 n) v (slab E 16 0 i16) (slab E 15 0 i15) xg p wg (ix2 (0 : Fin 1) d)
      = p (ix2 (0 : Fin 1) d) + ∑ r : Fin 512, sShare h u w g d (rowOf n hn r) := by
  have hD := fun r k => diff0 h n hn E v hE hv i16 i15 r k
  subst hg
  unfold k0_pay16
  generalize k0_pay15 (F := Ideal) (BitVec.ofNat 32 n) v (slab E 16 0 i16) (slab E 15 0 i15) = D at hD ⊢
  unfold_payloads
  pointwise [hx, hw, hD]
  rfl

theorem ds1 (hg : g = 1) (i16 i15 i14 i13) (d : Fin 512) :
    k0_pay24 (F := Ideal) v (Scalar.muli (BitVec.ofNat 32 n) 512#32) (slab E 16 512 i16) (slab E 15 512 i15) (slab E 14 512 i14) (slab E 13 512 i13)
      xg p wg (ix2 (0 : Fin 1) d) = p (ix2 (0 : Fin 1) d) + ∑ r : Fin 512, sShare h u w g d (rowOf n hn r) := by
  have hD := fun r k => diff1 h n hn E v hE hv i16 i15 i14 i13 r k
  subst hg
  unfold k0_pay24
  generalize k0_pay23 (F := Ideal) v _ _ _ _ _ = D at hD ⊢
  unfold_payloads
  pointwise [hx, hw, hD]
  rfl

theorem ds2 (hg : g = 2) (i16 i15 i14 i13 i12 i11 i10 i9) (d : Fin 512) :
    k0_pay34 (F := Ideal) v (Scalar.muli (BitVec.ofNat 32 n) 512#32) (k0_pay31 (F := Ideal) (slab E 16 1024 i16) (slab E 15 1024 i15))
      (slab E 14 1024 i14) (slab E 13 1024 i13) (slab E 12 1024 i12) (slab E 11 1024 i11) (slab E 10 1024 i10) (slab E 9 1024 i9)
      xg p wg (ix2 (0 : Fin 1) d) = p (ix2 (0 : Fin 1) d) + ∑ r : Fin 512, sShare h u w g d (rowOf n hn r) := by
  have hD := fun r k => diff2 h n hn E v hE hv i16 i15 i14 i13 i12 i11 i10 i9 r k
  subst hg
  unfold k0_pay34
  generalize k0_pay33 (F := Ideal) v _ _ _ _ _ _ _ _ = D at hD ⊢
  unfold_payloads
  pointwise [hx, hw, hD]
  rfl

theorem ds3 (hg : g = 3) (i16 i15 i14 i13 i12 i11 i10 i9 i8 i7 i6 i5 i4 i3 i2 i1) (d : Fin 512) :
    k0_pay44 (F := Ideal) v (Scalar.muli (BitVec.ofNat 32 n) 512#32) (k0_pay41 (F := Ideal) (slab E 16 1536 i16) (slab E 15 1536 i15)
      (slab E 14 1536 i14) (slab E 13 1536 i13) (slab E 12 1536 i12) (slab E 11 1536 i11) (slab E 10 1536 i10) (slab E 9 1536 i9)
      (slab E 8 1536 i8) (slab E 7 1536 i7)) (slab E 6 1536 i6) (slab E 5 1536 i5) (slab E 4 1536 i4) (slab E 3 1536 i3) (slab E 2 1536 i2)
      (slab E 1 1536 i1) xg p wg (ix2 (0 : Fin 1) d) = p (ix2 (0 : Fin 1) d) + ∑ r : Fin 512, sShare h u w g d (rowOf n hn r) := by
  have hD := fun r k => diff3 h n hn E v hE hv i16 i15 i14 i13 i12 i11 i10 i9 i8 i7 i6 i5 i4 i3 i2 i1 r k
  subst hg
  unfold k0_pay44
  generalize k0_pay43 (F := Ideal) v _ _ _ _ _ _ _ _ = D at hD ⊢
  unfold_payloads
  pointwise [hx, hw, hD]
  rfl

end

/-! ## Products with the differences -/

section

variable (h u : SX.Idx → EReal) (w : ST.Idx → EReal) (a : SG.Idx → EReal) (n : ℕ) (hn : n < 16) (g : Fin 4)
  (xg : Vec Ideal S512x512 .f32) (ag : Vec Ideal S1x512 .f32) (wg : Vec Ideal S1x512x512 .bf16)
  (hx : ∀ r k : Fin 512, xg (ix2 r k) = u (ix2 (rowOf n hn r) (col g k)))
  (ha : ∀ k : Fin 512, ag (ix2 (0 : Fin 1) k) = a (ix2 0 (col g k)))
  (hw : ∀ k d : Fin 512, wg (ix3 (0 : Fin 1) k d) = w (ix3 g k d))

include hx ha in
/-- A block's share of the weights' gradient. -/
theorem dw_even (D : Vec Ideal S512x512 .bf16) (hD : ∀ r k : Fin 512, D (ix2 r k) = diff h (rowOf n hn r) g k) (p : Vec Ideal S1x512x512 .f32)
    (k d : Fin 512) : k0_pay18 (F := Ideal) D xg ag p (ix3 (0 : Fin 1) k d)
      = p (ix3 (0 : Fin 1) k d) + ∑ r : Fin 512, wShare h u a g k d (rowOf n hn r) := by
  unfold_payloads
  pointwise [hx, ha, hD]
  rfl

include hx ha in
theorem dw1 (D : Vec Ideal S512x512 .bf16) (hD : ∀ r k : Fin 512, D (ix2 r k) = diff h (rowOf n hn r) g k) (p : Vec Ideal S1x512x512 .f32)
    (k d : Fin 512) : k0_pay27 (F := Ideal) D (k0_pay25 (F := Ideal) xg ag) (k0_pay26 (F := Ideal) p) (ix3 (0 : Fin 1) k d)
      = p (ix3 (0 : Fin 1) k d) + ∑ r : Fin 512, wShare h u a g k d (rowOf n hn r) := by
  unfold_payloads
  pointwise [hx, ha, hD]
  rfl

/-! ## The gradient of the differences -/

include hx ha hw in
theorem q0 (hg : g = 0) (r k : Fin 512) : k0_pay20 (F := Ideal) (k0_pay14 (F := Ideal) (BitVec.ofNat 32 n)) xg ag wg (ix2 r k)
    = qu u w a g k (512 * n + r.val) := by
  subst hg
  unfold_payloads
  pointwise [hx, ha, hw, word]
  unfold qu
  rw [dif_pos (row_lt n hn r)]
  rfl

include hx ha hw in
theorem q1 (hg : g = 1) (r k : Fin 512) : k0_pay29 (F := Ideal) (k0_pay22 (F := Ideal) (Scalar.muli (BitVec.ofNat 32 n) 512#32))
    (k0_pay25 (F := Ideal) xg ag) wg (ix2 r k) = qu u w a g k (512 * n + r.val) := by
  subst hg
  unfold_payloads
  pointwise [hx, ha, hw, word]
  unfold qu
  rw [dif_pos (row_lt n hn r)]
  rfl

include hx ha hw in
theorem q2 (hg : g = 2) (r k : Fin 512) : k0_pay38 (F := Ideal) (k0_pay32 (F := Ideal) (Scalar.muli (BitVec.ofNat 32 n) 512#32)) xg ag wg (ix2 r k)
    = qu u w a g k (512 * n + r.val) := by
  subst hg
  unfold_payloads
  pointwise [hx, ha, hw, word]
  unfold qu
  rw [dif_pos (row_lt n hn r)]
  rfl

include hx ha hw in
theorem q3 (hg : g = 3) (r k : Fin 512) : k0_pay48 (F := Ideal) (k0_pay42 (F := Ideal) (Scalar.muli (BitVec.ofNat 32 n) 512#32)) xg ag wg (ix2 r k)
    = qu u w a g k (512 * n + r.val) := by
  subst hg
  unfold_payloads
  pointwise [hx, ha, hw, word]
  unfold qu
  rw [dif_pos (row_lt n hn r)]
  rfl

/-! ## The gradient of the normalised input -/

variable (J : ℕ → Vec Ideal S512x512 .f32) (hJ : ∀ (j : ℕ) (r k : Fin 512), j ≤ 16 → J j (ix2 r k) = qu u w a g k (512 * n + r.val + j))

include hx ha hw hJ

theorem dh0 (hg : g = 0) (r k : Fin 512) : k0_pay21 (F := Ideal) xg ag wg (J 0) (J 1) (ix2 r k) = dhAt u w a (rowOf n hn r) g k := by
  subst hg
  unfold_payloads
  pointwise [hx, ha, hw]
  simp (disch := decide) only [hJ, zero_sub]
  rfl

theorem dh1 (hg : g = 1) (r k : Fin 512) :
    k0_pay30 (F := Ideal) (k0_pay25 (F := Ideal) xg ag) wg (J 0) (J 1) (J 2) (J 3) (ix2 r k) = dhAt u w a (rowOf n hn r) g k := by
  subst hg
  unfold_payloads
  pointwise [hx, ha, hw]
  simp (disch := decide) only [hJ, zero_sub]
  rfl

theorem dh2 (hg : g = 2) (r k : Fin 512) : k0_pay40 (F := Ideal) (k0_pay39 (F := Ideal) xg ag wg (J 0) (J 1) (J 2) (J 3) (J 4)) (J 5) (J 6) (J 7) (ix2 r k)
    = dhAt u w a (rowOf n hn r) g k := by
  subst hg
  unfold_payloads
  pointwise [hx, ha, hw]
  simp (disch := decide) only [hJ, zero_sub]
  rfl

theorem dh3 (hg : g = 3) (r k : Fin 512) : k0_pay50 (F := Ideal) (k0_pay49 (F := Ideal) xg ag wg (J 0) (J 1) (J 2) (J 3) (J 4)) (J 5) (J 6) (J 7) (J 8) (J 9)
    (J 10) (J 11) (J 12) (J 13) (J 14) (J 15) (ix2 r k) = dhAt u w a (rowOf n hn r) g k := by
  subst hg
  unfold_payloads
  pointwise [hx, ha, hw]
  simp (disch := decide) only [hJ, zero_sub]
  rfl

end

end Cert.Pool

end
-- ==== Proof.Pool.Tiles.lean ====
/- Buffers written group by group, read back: a buffer of four column blocks with a halo below them, and arrays made of four blocks. -/
module

public import proofs.«01_k».proof.Proof.Pool.Point
public import Idealize.ShloMosaic.Lib.Pipeline.ValueKit

@[expose] public section

set_option maxRecDepth 16384

noncomputable section

namespace Cert.Pool

open Cert.PoolKernelIdeal Cert.PoolKernelIdeal.Gen Idealize.ShloMosaic Idealize.ShloMosaic.TcCoe Idealize.SL.Sem Cert.Ffn Cert.Mix
open Idealize.ShloMosaic.Pipeline (Dat)

/-! ## The buffer of 528 rows -/

abbrev Pc := View.Piece (Elt Ideal) S528x2048 .f32

/-- The halo's rows, below the block's. -/
abbrev halo (q : Vec Ideal S16x2048 .f32)
    (inb : ∀ d : Fin S528x2048.rank, (![512, 0] : Fin 2 → ℕ) d + (![16, 2048] : Fin 2 → ℕ) d ≤ S528x2048.size d) : Pc := ⟨Rect.unit (s := S528x2048) ![512, 0] ![16, 2048] inb, q⟩

/-- A group's block of columns, at column `b`. -/
abbrev cols (b : ℕ) (p : Vec Ideal S512x512 .f32) (inb : ∀ d : Fin S528x2048.rank, (![0, b] : Fin 2 → ℕ) d + (![512, 512] : Fin 2 → ℕ) d ≤ S528x2048.size d) : Pc :=
  ⟨Rect.unit (s := S528x2048) ![0, b] ![512, 512] inb, p⟩

/-- A buffer whose rows from 512 on are the halo's. -/
def Below (L : List Pc) (q : Vec Ideal S16x2048 .f32) : Prop :=
  ∀ (r : Fin 16) (k : Fin 2048), View.canon L (ix2 ⟨512 + r.val, by omega⟩ k : S528x2048.Idx) = q (ix2 r k)

theorem below_halo (q inb) : Below [halo q inb] q := fun r k => by
  refine Eq.trans (congrArg (View.canon [halo q inb]) ?_)
    (View.canon_cons_emb (Val := Elt Ideal) (s := S528x2048) (e := .f32) (Rect.unit (s := S528x2048) ![512, 0] ![16, 2048] inb) q [] (ix2 r k : S16x2048.Idx))
  refine funext fun d => Fin.ext ?_
  fin_cases d
  · show 512 + r.val = 512 + 1 * r.val; omega
  · show k.val = 0 + 1 * k.val; omega

theorem below_cons (L : List Pc) (q b p inb) (h : Below L q) : Below (cols b p inb :: L) q := fun r k =>
  (View.canon_cons_of_not_mem (cols b p inb) L (fun hm => by
    obtain ⟨j, hj, e⟩ := (LoadRect.mem_set _).mp hm 0
    have hj : j < 512 := hj
    have e : 512 + r.val = 0 + 1 * j := e
    omega)).trans (h r k)

/-- A group's block that starts `j` rows down: the block's rows, then the halo's. -/
def join (p : Vec Ideal S512x512 .f32) (q : Vec Ideal S16x2048 .f32) (g : Fin 4) (j : ℕ) : Vec Ideal S512x512 .f32 := fun y =>
  if h : (y 0).val + j < 512 then p (ix2 ⟨(y 0).val + j, h⟩ (y 1))
  else if h : (y 0).val + j < 528 then q (ix2 ⟨(y 0).val + j - 512, by omega⟩ (col g (y 1))) else 0

/-- Under a group's block lie its own rows. -/
theorem canon_cols (L : List Pc) (b : ℕ) (p inb) (r k : Fin 512) (y : S528x2048.Idx) (h0 : (y 0).val = r.val) (h1 : (y 1).val = b + k.val) :
    View.canon (cols b p inb :: L) y = p (ix2 r k) := by
  refine Eq.trans (congrArg (View.canon (cols b p inb :: L)) ?_)
    (View.canon_cons_emb (Val := Elt Ideal) (s := S528x2048) (e := .f32) (Rect.unit (s := S528x2048) ![0, b] ![512, 512] inb) p L (ix2 r k : S512x512.Idx))
  refine funext fun d => Fin.ext ?_
  fin_cases d
  · show (y 0).val = 0 + 1 * r.val; omega
  · show (y 1).val = b + 1 * k.val; omega

theorem lead_read (L : List Pc) (q b j p inb inb') (g : Fin 4) (hb : b = 512 * g.val) (h : Below L q) :
    View.readCov (sig := sig) (κ := .tc) (sp := .vmem) (s := S528x2048) (e := .f32) (Val := Elt Ideal) (View.whole cc0_scratch1)
      (cols b p inb :: L) (Rect.unit (s := S528x2048) ![j, b] ![512, 512] inb').toLoadRect = join p q g j := by
  rw [View.readCov_eq_canon']
  have hj : j + 512 ≤ 528 := inb' 0
  funext y
  have y0 : (y 0).val < 512 := (y 0).isLt
  have y1 : (y 1).val < 512 := (y 1).isLt
  unfold join
  split
  · next q' =>
    refine canon_cols L b p inb ⟨(y 0).val + j, q'⟩ (y 1) _ ?_ ?_
    · show j + 1 * (y 0).val = (y 0).val + j; omega
    · show b + 1 * (y 1).val = b + (y 1).val; omega
  · next q' =>
    rw [dif_pos (by omega)]
    refine Eq.trans (congrArg (View.canon (cols b p inb :: L)) ?_)
      (below_cons L q b p inb h ⟨(y 0).val + j - 512, by omega⟩ (col g (y 1)))
    refine funext fun d => Fin.ext ?_
    fin_cases d
    · show j + 1 * (y 0).val = 512 + ((y 0).val + j - 512); omega
    · show b + 1 * (y 1).val = 512 * g.val + (y 1).val; omega

theorem lead_read0 (q p0 j i0 ih inb) :
    View.readCov (sig := sig) (κ := .tc) (sp := .vmem) (s := S528x2048) (e := .f32) (Val := Elt Ideal) (View.whole cc0_scratch1)
      [cols 0 p0 i0, halo q ih] (Rect.unit (s := S528x2048) ![j, 0] ![512, 512] inb).toLoadRect = join p0 q 0 j :=
  lead_read _ q 0 j p0 i0 inb 0 rfl (below_halo q ih)

theorem lead_read1 (q p0 p1 j i0 i1 ih inb) :
    View.readCov (sig := sig) (κ := .tc) (sp := .vmem) (s := S528x2048) (e := .f32) (Val := Elt Ideal) (View.whole cc0_scratch1)
      [cols 512 p1 i1, cols 0 p0 i0, halo q ih] (Rect.unit (s := S528x2048) ![j, 512] ![512, 512] inb).toLoadRect = join p1 q 1 j :=
  lead_read _ q 512 j p1 i1 inb 1 rfl (below_cons _ q 0 p0 i0 (below_halo q ih))

theorem lead_read2 (q p0 p1 p2 j i0 i1 i2 ih inb) :
    View.readCov (sig := sig) (κ := .tc) (sp := .vmem) (s := S528x2048) (e := .f32) (Val := Elt Ideal) (View.whole cc0_scratch1)
      [cols 1024 p2 i2, cols 512 p1 i1, cols 0 p0 i0, halo q ih] (Rect.unit (s := S528x2048) ![j, 1024] ![512, 512] inb).toLoadRect = join p2 q 2 j :=
  lead_read _ q 1024 j p2 i2 inb 2 rfl (below_cons _ q 512 p1 i1 (below_cons _ q 0 p0 i0 (below_halo q ih)))

theorem lead_read3 (q p0 p1 p2 p3 j i0 i1 i2 i3 ih inb) :
    View.readCov (sig := sig) (κ := .tc) (sp := .vmem) (s := S528x2048) (e := .f32) (Val := Elt Ideal) (View.whole cc0_scratch1)
      [cols 1536 p3 i3, cols 1024 p2 i2, cols 512 p1 i1, cols 0 p0 i0, halo q ih] (Rect.unit (s := S528x2048) ![j, 1536] ![512, 512] inb).toLoadRect
      = join p3 q 3 j :=
  lead_read _ q 1536 j p3 i3 inb 3 rfl (below_cons _ q 1024 p2 i2 (below_cons _ q 512 p1 i1 (below_cons _ q 0 p0 i0 (below_halo q ih))))

/-- Another group's block is passed over. -/
theorem canon_skip (L : List Pc) (b : ℕ) (p inb) (y : S528x2048.Idx) (h : (y 1).val < b ∨ b + 512 ≤ (y 1).val) :
    View.canon (cols b p inb :: L) y = View.canon L y :=
  View.canon_cons_of_not_mem (cols b p inb) L fun hm => by
    obtain ⟨j, hj, e⟩ := (LoadRect.mem_set _).mp hm 1
    have hj : j < 512 := hj
    have e : (y 1).val = b + 1 * j := e
    omega

/-- The rows of the four blocks. -/
theorem canon_top (L : List Pc) (p0 p1 p2 p3 i0 i1 i2 i3) (r : Fin 512) (y : S528x2048.Idx) (h0 : (y 0).val = r.val) :
    View.canon (cols 1536 p3 i3 :: cols 1024 p2 i2 :: cols 512 p1 i1 :: cols 0 p0 i0 :: L) y
      = (![p0, p1, p2, p3] : Fin 4 → Vec Ideal S512x512 .f32) (grp (y 1)) (ix2 r (lane (y 1))) := by
  have y1 : (y 1).val < 2048 := (y 1).isLt
  have hl : (lane (y 1)).val = (y 1).val % 512 := rfl
  have hg : (grp (y 1)).val = (y 1).val / 512 := rfl
  by_cases c3 : 1536 ≤ (y 1).val
  · rw [show grp (y 1) = 3 from Fin.ext (by rw [hg]; show _ = 3; omega)]
    exact canon_cols _ _ _ _ _ _ _ h0 (by omega)
  rw [canon_skip _ _ _ _ _ (by omega)]
  by_cases c2 : 1024 ≤ (y 1).val
  · rw [show grp (y 1) = 2 from Fin.ext (by rw [hg]; show _ = 2; omega)]
    exact canon_cols _ _ _ _ _ _ _ h0 (by omega)
  rw [canon_skip _ _ _ _ _ (by omega)]
  by_cases c1 : 512 ≤ (y 1).val
  · rw [show grp (y 1) = 1 from Fin.ext (by rw [hg]; show _ = 1; omega)]
    exact canon_cols _ _ _ _ _ _ _ h0 (by omega)
  rw [canon_skip _ _ _ _ _ (by omega)]
  rw [show grp (y 1) = 0 from Fin.ext (by rw [hg]; show _ = 0; omega)]
  exact canon_cols _ _ _ _ _ _ _ h0 (by omega)

/-! ## Arrays of four blocks -/

/-- Four blocks of columns. -/
def four (p : Fin 4 → Vec Ideal S512x512 .f32) : Vec Ideal S512x2048 .f32 := fun y => p (grp (y 1)) (ix2 (y 0) (lane (y 1)))

/-- Four blocks of a row. -/
def fourRow (p : Fin 4 → Vec Ideal S1x512 .f32) : Vec Ideal S1x2048 .f32 := fun y => p (grp (y 1)) (ix2 (0 : Fin 1) (lane (y 1)))

/-- Four matrices. -/
def fourMat (p : Fin 4 → Vec Ideal S1x512x512 .f32) : Vec Ideal S4x512x512 .f32 := fun y => p (y 0) (ix3 (0 : Fin 1) (y 1) (y 2))

theorem part (g : Fin 4) (k : Fin 512) (j : Fin 2048) (h : j.val = 512 * g.val + k.val) : grp j = g ∧ lane j = k :=
  ⟨Fin.ext (by show j.val / 512 = g.val; omega), Fin.ext (by show j.val % 512 = k.val; omega)⟩

theorem four_at (p : Fin 4 → Vec Ideal S512x512 .f32) (g : Fin 4) (x : S512x512.Idx) (y : S512x2048.Idx) (h0 : (y 0).val = (x 0).val)
    (h1 : (y 1).val = 512 * g.val + (x 1).val) : p g x = four p y := by
  obtain ⟨e, e'⟩ := part g (x 1) (y 1) h1
  unfold four
  rw [e, e']
  refine congrArg (p g) (funext fun d => ?_)
  fin_cases d
  · exact (Fin.ext h0).symm
  · rfl

theorem fourRow_at (p : Fin 4 → Vec Ideal S1x512 .f32) (g : Fin 4) (x : S1x512.Idx) (y : S1x2048.Idx)
    (h1 : (y 1).val = 512 * g.val + (x 1).val) : p g x = fourRow p y := by
  obtain ⟨e, e'⟩ := part g (x 1) (y 1) h1
  unfold fourRow
  rw [e, e']
  refine congrArg (p g) (funext fun d => ?_)
  fin_cases d
  · exact Subsingleton.elim (α := Fin 1) _ _
  · rfl

theorem fourMat_at (p : Fin 4 → Vec Ideal S1x512x512 .f32) (g : Fin 4) (x : S1x512x512.Idx) (y : S4x512x512.Idx) (h0 : (y 0).val = g.val)
    (h1 : (y 1).val = (x 1).val) (h2 : (y 2).val = (x 2).val) : p g x = fourMat p y := by
  unfold fourMat
  rw [show y 0 = g from Fin.ext h0]
  refine congrArg (p g) (funext fun d => ?_)
  fin_cases d
  · exact Subsingleton.elim (α := Fin 1) _ _
  · exact (Fin.ext h1).symm
  · exact (Fin.ext h2).symm

abbrev colPc (b : ℕ) (p : Vec Ideal S512x512 .f32) (inb : ∀ d : Fin S512x2048.rank, (![0, b] : Fin 2 → ℕ) d + (![512, 512] : Fin 2 → ℕ) d ≤ S512x2048.size d) :
    View.Piece (Elt Ideal) S512x2048 .f32 := ⟨Rect.unit (s := S512x2048) ![0, b] ![512, 512] inb, p⟩

abbrev rowPc (b : ℕ) (p : Vec Ideal S1x512 .f32) (inb : ∀ d : Fin S1x2048.rank, (![0, b] : Fin 2 → ℕ) d + (![1, 512] : Fin 2 → ℕ) d ≤ S1x2048.size d) :
    View.Piece (Elt Ideal) S1x2048 .f32 := ⟨Rect.unit (s := S1x2048) ![0, b] ![1, 512] inb, p⟩

abbrev matPc (b : ℕ) (p : Vec Ideal S1x512x512 .f32)
    (inb : ∀ d : Fin S4x512x512.rank, (![b, 0, 0] : Fin 3 → ℕ) d + (![1, 512, 512] : Fin 3 → ℕ) d ≤ S4x512x512.size d) :
    View.Piece (Elt Ideal) S4x512x512 .f32 := ⟨Rect.unit (s := S4x512x512) ![b, 0, 0] ![1, 512, 512] inb, p⟩

theorem canon_four (p0 p1 p2 p3 i0 i1 i2 i3) (L : List (View.Piece (Elt Ideal) S512x2048 .f32)) (y : S512x2048.Idx) :
    View.canon (colPc 1536 p3 i3 :: colPc 1024 p2 i2 :: colPc 512 p1 i1 :: colPc 0 p0 i0 :: L) y = four ![p0, p1, p2, p3] y := by
  refine View.canon_append_of_piecesOf (Val := Elt Ideal) (e := .f32) (four ![p0, p1, p2, p3]) L [colPc 1536 p3 i3, colPc 1024 p2 i2, colPc 512 p1 i1, colPc 0 p0 i0]
    ⟨fun x => four_at ![p0, p1, p2, p3] 3 x _ ?_ ?_, fun x => four_at ![p0, p1, p2, p3] 2 x _ ?_ ?_,
      fun x => four_at ![p0, p1, p2, p3] 1 x _ ?_ ?_, fun x => four_at ![p0, p1, p2, p3] 0 x _ ?_ ?_, trivial⟩ y
    (View.cover_of_tiledBy _ ![512, 512] (by sl_kernel_rfl) y)
  · show 0 + 1 * (x 0).val = (x 0).val; omega
  · show 1536 + 1 * (x 1).val = 512 * 3 + (x 1).val; omega
  · show 0 + 1 * (x 0).val = (x 0).val; omega
  · show 1024 + 1 * (x 1).val = 512 * 2 + (x 1).val; omega
  · show 0 + 1 * (x 0).val = (x 0).val; omega
  · show 512 + 1 * (x 1).val = 512 * 1 + (x 1).val; omega
  · show 0 + 1 * (x 0).val = (x 0).val; omega
  · show 0 + 1 * (x 1).val = 512 * 0 + (x 1).val; omega

theorem canon_fourRow (p0 p1 p2 p3 i0 i1 i2 i3) (L : List (View.Piece (Elt Ideal) S1x2048 .f32)) (y : S1x2048.Idx) :
    View.canon (rowPc 1536 p3 i3 :: rowPc 1024 p2 i2 :: rowPc 512 p1 i1 :: rowPc 0 p0 i0 :: L) y = fourRow ![p0, p1, p2, p3] y := by
  refine View.canon_append_of_piecesOf (Val := Elt Ideal) (e := .f32) (fourRow ![p0, p1, p2, p3]) L [rowPc 1536 p3 i3, rowPc 1024 p2 i2, rowPc 512 p1 i1, rowPc 0 p0 i0]
    ⟨fun x => fourRow_at ![p0, p1, p2, p3] 3 x _ ?_, fun x => fourRow_at ![p0, p1, p2, p3] 2 x _ ?_,
      fun x => fourRow_at ![p0, p1, p2, p3] 1 x _ ?_, fun x => fourRow_at ![p0, p1, p2, p3] 0 x _ ?_, trivial⟩ y
    (View.cover_of_tiledBy _ ![1, 512] (by sl_kernel_rfl) y)
  · show 1536 + 1 * (x 1).val = 512 * 3 + (x 1).val; omega
  · show 1024 + 1 * (x 1).val = 512 * 2 + (x 1).val; omega
  · show 512 + 1 * (x 1).val = 512 * 1 + (x 1).val; omega
  · show 0 + 1 * (x 1).val = 512 * 0 + (x 1).val; omega

theorem canon_fourMat (p0 p1 p2 p3 i0 i1 i2 i3) (L : List (View.Piece (Elt Ideal) S4x512x512 .f32)) (y : S4x512x512.Idx) :
    View.canon (matPc 3 p3 i3 :: matPc 2 p2 i2 :: matPc 1 p1 i1 :: matPc 0 p0 i0 :: L) y = fourMat ![p0, p1, p2, p3] y := by
  have one : ∀ x : S1x512x512.Idx, (x 0).val = 0 := fun x => by have : (x 0).val < 1 := (x 0).isLt; omega
  have e : ∀ n : ℕ, 0 + 1 * n = n := fun n => by omega
  refine View.canon_append_of_piecesOf (Val := Elt Ideal) (e := .f32) (fourMat ![p0, p1, p2, p3]) L [matPc 3 p3 i3, matPc 2 p2 i2, matPc 1 p1 i1, matPc 0 p0 i0]
    ⟨fun x => fourMat_at ![p0, p1, p2, p3] 3 x _ ?_ (e _) (e _), fun x => fourMat_at ![p0, p1, p2, p3] 2 x _ ?_ (e _) (e _),
      fun x => fourMat_at ![p0, p1, p2, p3] 1 x _ ?_ (e _) (e _), fun x => fourMat_at ![p0, p1, p2, p3] 0 x _ ?_ (e _) (e _), trivial⟩ y
    (View.cover_of_tiledBy _ ![1, 512, 512] (by sl_kernel_rfl) y)
  · show 3 + 1 * (x 0).val = 3; have := one x; omega
  · show 2 + 1 * (x 0).val = 2; have := one x; omega
  · show 1 + 1 * (x 0).val = 1; have := one x; omega
  · show 0 + 1 * (x 0).val = 0; have := one x; omega

/-- What was written group by group, read back whole. -/
theorem read_four (p0 p1 p2 p3 i0 i1 i2 i3 inb) :
    View.readCov (sig := sig) (κ := .tc) (sp := .vmem) (s := S512x2048) (e := .f32) (Val := Elt Ideal) (View.whole cc0_scratch2)
      [colPc 1536 p3 i3, colPc 1024 p2 i2, colPc 512 p1 i1, colPc 0 p0 i0] (Rect.unit (s := S512x2048) ![0, 0] ![512, 2048] inb).toLoadRect
      = four ![p0, p1, p2, p3] := by
  rw [View.readCov_eq_canon']
  funext y
  refine (canon_four p0 p1 p2 p3 i0 i1 i2 i3 [] _).trans (congrArg _ (funext fun d => Fin.ext ?_))
  fin_cases d
  · show 0 + 1 * (y 0).val = (y 0).val; omega
  · show 0 + 1 * (y 1).val = (y 1).val; omega

/-! ## Accumulators that start from zero -/

/-- A row of accumulators that is zero from column `b` on. -/
def FreshRow (L : List (View.Piece (Elt Ideal) S1x2048 .f32)) (b : ℕ) : Prop := ∀ y : S1x2048.Idx, b ≤ (y 1).val → View.canon L y = (0 : EReal)

/-- Matrices of accumulators that are zero from matrix `b` on. -/
def FreshMat (L : List (View.Piece (Elt Ideal) S4x512x512 .f32)) (b : ℕ) : Prop := ∀ y : S4x512x512.Idx, b ≤ (y 0).val → View.canon L y = (0 : EReal)

theorem freshRow_whole (inb b) : FreshRow [⟨Rect.unit (s := S1x2048) ![0, 0] ![1, 2048] inb, k0_pay6 (F := Ideal)⟩] b := fun y _ => by
  refine (View.canon_append_of_piecesOf (Val := Elt Ideal) (e := .f32) (fun _ => (0 : EReal)) [] [⟨Rect.unit (s := S1x2048) ![0, 0] ![1, 2048] inb, k0_pay6 (F := Ideal)⟩]
    ⟨fun x => ?_, trivial⟩ y (View.cover_of_tiledBy _ ![1, 2048] (by sl_kernel_rfl) y))
  show k0_pay6 (F := Ideal) x = 0
  unfold_payloads
  pointwise

theorem freshMat_whole (inb b) : FreshMat [⟨Rect.unit (s := S4x512x512) ![0, 0, 0] ![4, 512, 512] inb, k0_pay5 (F := Ideal)⟩] b := fun y _ => by
  refine (View.canon_append_of_piecesOf (Val := Elt Ideal) (e := .f32) (fun _ => (0 : EReal)) [] [⟨Rect.unit (s := S4x512x512) ![0, 0, 0] ![4, 512, 512] inb, k0_pay5 (F := Ideal)⟩]
    ⟨fun x => ?_, trivial⟩ y (View.cover_of_tiledBy _ ![4, 512, 512] (by sl_kernel_rfl) y))
  show k0_pay5 (F := Ideal) x = 0
  unfold_payloads
  pointwise

theorem freshRow_cons (L) (b b' : ℕ) (p inb) (hb : b + 512 ≤ b') (h : FreshRow L b') : FreshRow (rowPc b p inb :: L) b' := fun y hy =>
  (View.canon_cons_of_not_mem (rowPc b p inb) L fun hm => by
    obtain ⟨j, hj, e⟩ := (LoadRect.mem_set _).mp hm 1
    have hj : j < 512 := hj
    have e : (y 1).val = b + 1 * j := e
    omega).trans (h y hy)

theorem freshMat_cons (L) (b b' : ℕ) (p inb) (hb : b + 1 ≤ b') (h : FreshMat L b') : FreshMat (matPc b p inb :: L) b' := fun y hy =>
  (View.canon_cons_of_not_mem (matPc b p inb) L fun hm => by
    obtain ⟨j, hj, e⟩ := (LoadRect.mem_set _).mp hm 0
    have hj : j < 1 := hj
    have e : (y 0).val = b + 1 * j := e
    omega).trans (h y hy)

theorem fresh_row {κ : Kind} {sp : Space} (v : View sig κ sp S1x2048 .f32) (L : List (View.Piece (Elt Ideal) S1x2048 .f32)) (b inb) (h : FreshRow L b) :
    View.readCov (Val := Elt Ideal) v L (Rect.unit (s := S1x2048) ![0, b] ![1, 512] inb).toLoadRect = fun _ => (0 : EReal) := by
  rw [View.readCov_eq_canon']
  exact funext fun j => h _ (show b ≤ b + 1 * (j 1).val by omega)

theorem fresh_mat {κ : Kind} {sp : Space} (v : View sig κ sp S4x512x512 .f32) (L : List (View.Piece (Elt Ideal) S4x512x512 .f32)) (b inb) (h : FreshMat L b) :
    View.readCov (Val := Elt Ideal) v L (Rect.unit (s := S4x512x512) ![b, 0, 0] ![1, 512, 512] inb).toLoadRect = fun _ => (0 : EReal) := by
  rw [View.readCov_eq_canon']
  exact funext fun j => h _ (show b ≤ b + 1 * (j 0).val by omega)

end Cert.Pool

end
-- ==== Proof.Pool.Blocks.lean ====
/- The blocks the points of the pooling block's backward launch read, and the normalised rows they make of them. -/
module

public import proofs.«01_k».proof.Proof.Pool.Tiles
public import Idealize.ShloMosaic.Lib.StableHlo.RunRead

@[expose] public section

set_option maxRecDepth 16384

noncomputable section

namespace Cert.Pool

open Cert.PoolKernelIdeal Cert.PoolKernelIdeal.Gen Cert.PoolKernelIdeal.Value Idealize.ShloMosaic Idealize.ShloMosaic.TcCoe Idealize.SL.Sem Cert.Ffn Cert.Mix
open Idealize.ShloMosaic.Pipeline (Dat)

variable (m : (ℓ : Loc nD τ sig) → Buf (Elt Ideal) ℓ)

theorem idx : ∀ t : Fin cfg0.N, win0_0.index t = ![15 - t.val, 0] ∧ win0_1.index t = ![32 * (15 - t.val) - 1, 0] ∧ win0_2.index t = ![15 - t.val, 0]
    ∧ win0_3.index t = ![0, 0] ∧ win0_4.index t = ![0, 0, 0] ∧ win0_5.index t = ![0, 0] ∧ win0_6.index t = ![15 - t.val, 0] :=
  (by decide +kernel : ∀ t : Fin grid0.N, _)

/-- The block of rows a point handles: the last block comes first. -/
def blk (t : Fin cfg0.N) : ℕ := 15 - t.val

theorem blk_lt (t : Fin cfg0.N) : blk t < 16 := Nat.lt_of_le_of_lt (Nat.sub_le 15 t.val) (by decide)

/-- Row `r` of a point's block of rows. -/
def blockRow (t : Fin cfg0.N) (r : Fin 512) : Fin 8192 := rowOf (blk t) (blk_lt t) r

/-- The arguments: the input, the gradient that arrived, the norm's gain, the weights, the scale. -/
abbrev X (c : Dev nD) : SX.Idx → EReal := (m ((c : Thread nD τ).loc main_arg0) : Vec Ideal S8192x2048 .f32)
abbrev U (c : Dev nD) : SX.Idx → EReal := (m ((c : Thread nD τ).loc main_arg1) : Vec Ideal S8192x2048 .f32)
abbrev G (c : Dev nD) : SG.Idx → EReal := (m ((c : Thread nD τ).loc main_arg2) : Vec Ideal S1x2048 .f32)
abbrev A (c : Dev nD) : SG.Idx → EReal := (m ((c : Thread nD τ).loc main_arg4) : Vec Ideal S1x2048 .f32)

/-- The weights as the launch finds them. -/
def W (c : Dev nD) : ST.Idx → EReal := (V m c main_v0 : Vec Ideal S4x512x512 .bf16)

theorem W_eq (c : Dev nD) : W m c = m ((c : Thread nD τ).loc main_arg3) := by
  funext i
  idx_vars i
  unfold W V
  after_reads_simp
  pointwise

theorem blk0 (c : Dev nD) (t : Fin cfg0.N) (r : Fin 512) (j : Fin 2048) : iblk m c 0 t (ix2 r j) = X m c (ix2 (blockRow t r) j) := by
  refine Eq.trans (b := (V m c main_arg0 : Vec Ideal S8192x2048 .f32) (ix2 (blockRow t r) j)) ?_ (congrFun (V_main_arg0 m c) _)
  blk_point [iblk, idx t, blockRow, rowOf, blk]

/-- Sixteen rows before a block that is not the first. -/
def before (t : Fin cfg0.N) (ht : 0 < blk t) (r : Fin 16) : Fin 8192 := ⟨512 * blk t + r.val - 16, by have := blk_lt t; omega⟩

theorem blk1 (c : Dev nD) (t : Fin cfg0.N) (ht : 0 < blk t) (r : Fin 16) (j : Fin 2048) :
    iblk m c 1 t (ix2 r j) = X m c (ix2 (before t ht r) j) := by
  refine Eq.trans (b := (V m c main_arg0 : Vec Ideal S8192x2048 .f32) (ix2 (before t ht r) j)) ?_ (congrFun (V_main_arg0 m c) _)
  have ht' : 0 < 15 - t.val := ht
  blk_point [iblk, idx t, before, blk]

theorem blk2 (c : Dev nD) (t : Fin cfg0.N) (r : Fin 512) (j : Fin 2048) : iblk m c 2 t (ix2 r j) = U m c (ix2 (blockRow t r) j) := by
  refine Eq.trans (b := (V m c main_arg1 : Vec Ideal S8192x2048 .f32) (ix2 (blockRow t r) j)) ?_ (congrFun (V_main_arg1 m c) _)
  blk_point [iblk, idx t, blockRow, rowOf, blk]

theorem blk3 (c : Dev nD) (t : Fin cfg0.N) (j : Fin 2048) : iblk m c 3 t (ix2 (0 : Fin 1) j) = G m c (ix2 (0 : Fin 1) j) := by
  refine Eq.trans (b := (V m c main_arg2 : Vec Ideal S1x2048 .f32) (ix2 0 j)) ?_ (congrFun (V_main_arg2 m c) _)
  blk_point [iblk, idx t]

theorem blk4 (c : Dev nD) (t : Fin cfg0.N) (g : Fin 4) (k j : Fin 512) : iblk m c 4 t (ix3 g k j) = W m c (ix3 g k j) := by
  blk_point [iblk, W, idx t]

theorem blk5 (c : Dev nD) (t : Fin cfg0.N) (j : Fin 2048) : iblk m c 5 t (ix2 (0 : Fin 1) j) = A m c (ix2 (0 : Fin 1) j) := by
  refine Eq.trans (b := (V m c main_arg4 : Vec Ideal S1x2048 .f32) (ix2 0 j)) ?_ (congrFun (V_main_arg4 m c) _)
  blk_point [iblk, idx t]

/-! ## Parts of the blocks -/

section

variable (c : Dev nD) (t : Fin cfg0.N) (g : Fin 4) (b : ℕ) (hb : b = 512 * g.val)

include hb

/-- A group's columns of the gradient that arrived. -/
theorem part2 (inb : ∀ d : Fin S512x2048.rank, (![0, b] : Fin 2 → ℕ) d + (![512, 512] : Fin 2 → ℕ) d ≤ S512x2048.size d) (r k : Fin 512) :
    View.ld (iblk m c 2 t : Vec Ideal S512x2048 .f32) (Rect.unit (s := S512x2048) ![0, b] ![512, 512] inb) (ix2 r k)
      = U m c (ix2 (blockRow t r) (col g k)) := by
  refine Eq.trans (congrArg (iblk m c 2 t : Vec Ideal S512x2048 .f32) ?_) (blk2 m c t r (col g k))
  refine funext fun d => Fin.ext ?_
  fin_cases d
  · show 0 + 1 * r.val = r.val; omega
  · show b + 1 * k.val = 512 * g.val + k.val; omega

/-- A group's part of the scale. -/
theorem part5 (inb : ∀ d : Fin S1x2048.rank, (![0, b] : Fin 2 → ℕ) d + (![1, 512] : Fin 2 → ℕ) d ≤ S1x2048.size d) (k : Fin 512) :
    View.ld (iblk m c 5 t : Vec Ideal S1x2048 .f32) (Rect.unit (s := S1x2048) ![0, b] ![1, 512] inb) (ix2 (0 : Fin 1) k)
      = A m c (ix2 (0 : Fin 1) (col g k)) := by
  refine Eq.trans (congrArg (iblk m c 5 t : Vec Ideal S1x2048 .f32) ?_) (blk5 m c t (col g k))
  refine funext fun d => Fin.ext ?_
  fin_cases d
  · rfl
  · show b + 1 * k.val = 512 * g.val + k.val; omega

end

/-- A group's weights. -/
theorem part4 (c : Dev nD) (t : Fin cfg0.N) (g : Fin 4) (b : ℕ) (hb : b = g.val)
    (inb : ∀ d : Fin S4x512x512.rank, (![b, 0, 0] : Fin 3 → ℕ) d + (![1, 512, 512] : Fin 3 → ℕ) d ≤ S4x512x512.size d) (k d : Fin 512) :
    View.ld (iblk m c 4 t : Vec Ideal S4x512x512 .bf16) (Rect.unit (s := S4x512x512) ![b, 0, 0] ![1, 512, 512] inb) (ix3 (0 : Fin 1) k d)
      = W m c (ix3 g k d) := by
  refine Eq.trans (congrArg (iblk m c 4 t : Vec Ideal S4x512x512 .bf16) ?_) (blk4 m c t g k d)
  refine funext fun e => Fin.ext ?_
  fin_cases e
  · show b + 1 * 0 = g.val; omega
  · show 0 + 1 * k.val = k.val; omega
  · show 0 + 1 * d.val = d.val; omega

/-! ## The normalised rows -/

/-- The normalised input. -/
def H (c : Dev nD) : SX.Idx → EReal := hid (X m c) (G m c)

/-- A point's block of the input, normalised. -/
def hidden (c : Dev nD) (t : Fin cfg0.N) : Vec Ideal S512x2048 .f32 := k0_pay10 (F := Ideal) (iblk m c 0 t) (iblk m c 3 t)

theorem pay_hid (c : Dev nD) (t : Fin cfg0.N) (r : Fin 512) (k : Fin 2048) :
    hidden m c t (ix2 r k) = H m c (ix2 (blockRow t r) k) := by
  unfold hidden
  unfold_payloads
  pointwise [blk0 m c t, blk3 m c t]
  rfl

/-- The sixteen rows before it, normalised; zeros before the first block. -/
def halt (c : Dev nD) (t : Fin cfg0.N) : Vec Ideal S16x2048 .f32 :=
  k0_pay12 (F := Ideal) (Scalar.cmpi .sgt (BitVec.ofNat 32 (blk t)) 0#32) (k0_pay11 (F := Ideal) (iblk m c 1 t) (iblk m c 3 t)) (FloatOps.ofBits .f32 0x00000000#32)

theorem first_word : ∀ t : Fin cfg0.N, Scalar.cmpi .sgt (BitVec.ofNat 32 (blk t)) 0#32 = if 0 < blk t then 1#1 else 0#1 :=
  (by decide +kernel : ∀ t : Fin 16, Scalar.cmpi .sgt (BitVec.ofNat 32 (15 - t.val)) 0#32 = if 0 < 15 - t.val then 1#1 else 0#1)

theorem pay_halt (c : Dev nD) (t : Fin cfg0.N) (r : Fin 16) (k : Fin 2048) : halt m c t (ix2 r k) = past (H m c) k (512 * blk t + r.val) := by
  have hb := blk_lt t
  unfold halt
  rw [first_word]
  unfold past
  by_cases ht : 0 < blk t
  · rw [if_pos ht, dif_pos ⟨by omega, by omega⟩]
    unfold_payloads
    pointwise [blk1 m c t ht, blk3 m c t]
    rfl
  · rw [if_neg ht, dif_neg (by omega)]
    unfold_payloads
    pointwise

/-- Sixteen rows and the block: the buffer the differences are taken from. -/
def rows (c : Dev nD) (t : Fin cfg0.N) : Vec Ideal S528x2048 .f32 := ext (halt m c t) (k0_pay13 (F := Ideal) (hidden m c t))

theorem rows_past (c : Dev nD) (t : Fin cfg0.N) (r : Fin 528) (k : Fin 2048) : rows m c t (ix2 r k) = past (H m c) k (512 * blk t + r.val) := by
  have hb := blk_lt t
  unfold rows ext
  split
  · exact pay_halt m c t _ _
  · rename_i q
    have q : ¬ r.val < 16 := q
    have e : ∀ (v : Vec Ideal S512x2048 .f32) (r : Fin 512) (k : Fin 2048), k0_pay13 (F := Ideal) v (ix2 r k) = v (ix2 r k) := fun v r k => by
      unfold_payloads
      pointwise
    refine (e _ _ _).trans ((pay_hid m c t _ k).trans ?_)
    unfold past
    rw [dif_pos ⟨by omega, by omega⟩]
    refine congrArg (H m c) (congrArg₂ ix2 (Fin.ext ?_) rfl)
    show 512 * blk t + (r.val - 16) = 512 * blk t + r.val - 16
    omega

theorem coord (t : Fin cfg0.N) : (grid0.coords t 0).val = t.val := by
  have ht : t.val < 16 := t.isLt
  have e : (grid0.coords t 0).val = t.val / 1 % 16 := Pipeline.Grid.coords_val t 0 (by decide) rfl
  omega

/-- The block's number as the kernel computes it. -/
theorem number (t : Fin cfg0.N) : Scalar.subi 15#32 (BitVec.ofNat 32 (grid0.coords t 0).val) = BitVec.ofNat 32 (blk t) := by
  rw [coord t]
  exact (by decide +kernel : ∀ t : Fin 16, Scalar.subi 15#32 (BitVec.ofNat 32 t.val) = BitVec.ofNat 32 (15 - t.val)) t

theorem ext_read (u : Vec Ideal S16x2048 .f32) (v : Vec Ideal S512x2048 .f32) (a b : ℕ) (inb) :
    View.readCov (sig := sig) (κ := .tc) (sp := .vmem) (s := S528x2048) (e := .f32) (Val := Elt Ideal) (View.whole cc0_scratch0)
      [⟨Rect.unit (s := S528x2048) ![16, 0] ![512, 2048] inb_S528x2048_S512x2048_16_0, v⟩,
        ⟨Rect.unit (s := S528x2048) ![0, 0] ![16, 2048] inb_S528x2048_S16x2048_0_0, u⟩]
      (Rect.unit (s := S528x2048) ![a, b] ![512, 512] inb).toLoadRect = slab (ext u v) a b inb := by
  rw [View.readCov_eq_canon']
  funext j
  exact ext_canon u v _

end Cert.Pool

end
-- ==== Proof.Pool.Kernel.lean ====
/- What the four outputs of the pooling block's backward launch hold after its run. -/
module

public import proofs.«01_k».proof.Proof.Pool.Blocks
public import proofs.«01_k».proof.Proof.Rms.Kernel

@[expose] public section

set_option maxRecDepth 16384

noncomputable section

namespace Cert.Pool

open Cert.PoolKernelIdeal Cert.PoolKernelIdeal.Gen Cert.PoolKernelIdeal.Value Idealize.ShloMosaic Idealize.ShloMosaic.TcCoe Idealize.SL.Sem Cert.Ffn Cert.Mix
open Idealize.ShloMosaic.Pipeline (Dat)

variable (m : (ℓ : Loc nD τ sig) → Buf (Elt Ideal) ℓ)

/-! ## The buffer of the differences' gradient -/

/-- A group's columns of the gradient that arrived, its part of the scale, its weights. -/
abbrev dy (c : Dev nD) (t : Fin cfg0.N) (b : ℕ) (inb : ∀ d : Fin S512x2048.rank, (![0, b] : Fin 2 → ℕ) d + (![512, 512] : Fin 2 → ℕ) d ≤ S512x2048.size d) :
    Vec Ideal S512x512 .f32 := View.ld (iblk m c 2 t : Vec Ideal S512x2048 .f32) (Rect.unit (s := S512x2048) ![0, b] ![512, 512] inb)
abbrev sc (c : Dev nD) (t : Fin cfg0.N) (b : ℕ) (inb : ∀ d : Fin S1x2048.rank, (![0, b] : Fin 2 → ℕ) d + (![1, 512] : Fin 2 → ℕ) d ≤ S1x2048.size d) :
    Vec Ideal S1x512 .f32 := View.ld (iblk m c 5 t : Vec Ideal S1x2048 .f32) (Rect.unit (s := S1x2048) ![0, b] ![1, 512] inb)
abbrev wt (c : Dev nD) (t : Fin cfg0.N) (b : ℕ)
    (inb : ∀ d : Fin S4x512x512.rank, (![b, 0, 0] : Fin 3 → ℕ) d + (![1, 512, 512] : Fin 3 → ℕ) d ≤ S4x512x512.size d) :
    Vec Ideal S1x512x512 .bf16 := View.ld (iblk m c 4 t : Vec Ideal S4x512x512 .bf16) (Rect.unit (s := S4x512x512) ![b, 0, 0] ![1, 512, 512] inb)

/-- What a point stores of each group in the buffer's first 512 rows. -/
def own (c : Dev nD) (t : Fin cfg0.N) : Fin 4 → Vec Ideal S512x512 .f32 :=
  ![k0_pay20 (F := Ideal) (k0_pay14 (F := Ideal) (BitVec.ofNat 32 (blk t))) (dy m c t 0 inb_S512x2048_S512x512_0_0) (sc m c t 0 inb_S1x2048_S1x512_0_0) (wt m c t 0 inb_S4x512x512_S1x512x512_0_0_0),
    k0_pay29 (F := Ideal) (k0_pay22 (F := Ideal) (Scalar.muli (BitVec.ofNat 32 (blk t)) 512#32))
      (k0_pay25 (F := Ideal) (dy m c t 512 inb_S512x2048_S512x512_0_512) (sc m c t 512 inb_S1x2048_S1x512_0_512)) (wt m c t 1 inb_S4x512x512_S1x512x512_1_0_0),
    k0_pay38 (F := Ideal) (k0_pay32 (F := Ideal) (Scalar.muli (BitVec.ofNat 32 (blk t)) 512#32)) (dy m c t 1024 inb_S512x2048_S512x512_0_1024)
      (sc m c t 1024 inb_S1x2048_S1x512_0_1024) (wt m c t 2 inb_S4x512x512_S1x512x512_2_0_0),
    k0_pay48 (F := Ideal) (k0_pay42 (F := Ideal) (Scalar.muli (BitVec.ofNat 32 (blk t)) 512#32)) (dy m c t 1536 inb_S512x2048_S512x512_0_1536)
      (sc m c t 1536 inb_S1x2048_S1x512_0_1536) (wt m c t 3 inb_S4x512x512_S1x512x512_3_0_0)]

theorem own_eq (c : Dev nD) (t : Fin cfg0.N) (g : Fin 4) (r k : Fin 512) : own m c t g (ix2 r k) = qu (U m c) (W m c) (A m c) g k (512 * blk t + r.val) := by
  fin_cases g
  · exact q0 (U m c) (W m c) (A m c) (blk t) (blk_lt t) 0 _ _ _ (part2 m c t 0 0 rfl _) (part5 m c t 0 0 rfl _) (part4 m c t 0 0 rfl _) rfl r k
  · exact q1 (U m c) (W m c) (A m c) (blk t) (blk_lt t) 1 _ _ _ (part2 m c t 1 512 rfl _) (part5 m c t 1 512 rfl _) (part4 m c t 1 1 rfl _) rfl r k
  · exact q2 (U m c) (W m c) (A m c) (blk t) (blk_lt t) 2 _ _ _ (part2 m c t 2 1024 rfl _) (part5 m c t 2 1024 rfl _) (part4 m c t 2 2 rfl _) rfl r k
  · exact q3 (U m c) (W m c) (A m c) (blk t) (blk_lt t) 3 _ _ _ (part2 m c t 3 1536 rfl _) (part5 m c t 3 1536 rfl _) (part4 m c t 3 3 rfl _) rfl r k

/-- The halo below a point's rows: the first rows of the block after. -/
def After (c : Dev nD) (t : Fin cfg0.N) (q : Vec Ideal S16x2048 .f32) : Prop := ∀ (r : Fin 16) (k : Fin 2048),
  q (ix2 r k) = qu (U m c) (W m c) (A m c) (grp k) (lane k) (512 * blk t + 512 + r.val)

/-- After the last block there is nothing. -/
theorem after_A (c : Dev nD) (t : Fin cfg0.N) (h0 : t.val % 16 = 0) : After m c t (k0_pay8 (F := Ideal)) := fun r k => by
  have ht : t.val < 16 := t.isLt
  have hb : blk t = 15 := by unfold blk; omega
  unfold qu
  rw [dif_neg (by omega)]
  unfold_payloads
  pointwise

/-- The first sixteen rows of the block after. -/
def head (xs : Vec Ideal S528x2048 .f32) (hw : (Memref.whole cc0_scratch1).IsWhole) : Vec Ideal S16x2048 .f32 :=
  k0_pay9 (View.ld (View.read (Elt Ideal) (View.whole cc0_scratch1) (hw.unread xs)) (Rect.unit (s := S528x2048) ![0, 0] ![16, 2048] inb_S528x2048_S16x2048_0_0))

theorem after_B (c : Dev nD) (t : Fin cfg0.N) (h1 : 1 ≤ t.val) (xs : Vec Ideal S528x2048 .f32) (hw)
    (ih : ∀ (r : Fin 512) (k : Fin 2048), xs (ix2 ⟨r.val, by omega⟩ k) = qu (U m c) (W m c) (A m c) (grp k) (lane k) (512 * (15 - (t.val - 1)) + r.val)) :
    After m c t (head xs hw) := fun r k => by
  have ht : t.val < 16 := t.isLt
  unfold head
  unfold_payloads
  rw [read_unread_whole]
  pointwise
  refine Eq.trans (congrArg xs (?_ : _ = ix2 ⟨r.val, by omega⟩ k)) ((ih ⟨r.val, by omega⟩ k).trans (congrArg (qu (U m c) (W m c) (A m c) (grp k) (lane k)) ?_))
  · refine funext fun d => Fin.ext ?_
    fin_cases d
    · first | rfl | (show 0 + 1 * r.val = r.val; omega) | (show 0 + r.val = r.val; omega)
    · first | rfl | (show 0 + 1 * k.val = k.val; omega) | (show 0 + k.val = k.val; omega)
  · unfold blk
    show 512 * (15 - (t.val - 1)) + r.val = 512 * (15 - t.val) + 512 + r.val
    omega

theorem own_top (c : Dev nD) (t : Fin cfg0.N) (r : Fin 512) (k : Fin 2048) (L : List Pc) (p0 p1 p2 p3 i0 i1 i2 i3) (hp : ![p0, p1, p2, p3] = own m c t) :
    View.canon (cols 1536 p3 i3 :: cols 1024 p2 i2 :: cols 512 p1 i1 :: cols 0 p0 i0 :: L) (ix2 ⟨r.val, by omega⟩ k : S528x2048.Idx)
      = qu (U m c) (W m c) (A m c) (grp k) (lane k) (512 * (15 - t.val) + r.val) := by
  refine (canon_top L p0 p1 p2 p3 i0 i1 i2 i3 r _ rfl).trans ?_
  rw [hp]
  exact own_eq m c t (grp k) r (lane k)

/-- What the carried buffer holds after a point, above its halo. -/
theorem carry (c : Dev nD) (n : ℕ) (hn : n < cfg0.N) (r : Fin 512) (k : Fin 2048) :
    (outsAt0 m c n hn).2.2.2.2 (ix2 ⟨r.val, by omega⟩ k) = qu (U m c) (W m c) (A m c) (grp k) (lane k) (512 * (15 - n) + r.val) := by
  have h : n < 16 := hn
  by_cases h0 : n % 16 = 0
  · rw [outsAt0_A m c ⟨n, hn⟩ h0 (by show ¬ 1 ≤ n; omega)]
    frame_out
    rw [number]
    exact own_top m c ⟨n, hn⟩ r k _ _ _ _ _ _ _ _ _ rfl
  · rw [outsAt0_B m c ⟨n, hn⟩ h0 (by show 1 ≤ n; omega)]
    frame_out
    rw [number]
    exact own_top m c ⟨n, hn⟩ r k _ _ _ _ _ _ _ _ _ rfl

/-! ## The gradient of the normalised input -/

theorem join_own (c : Dev nD) (t : Fin cfg0.N) (q : Vec Ideal S16x2048 .f32) (hq : After m c t q) (g : Fin 4) (j : ℕ) (r k : Fin 512) (hj : j ≤ 16) :
    join (own m c t g) q g j (ix2 r k) = qu (U m c) (W m c) (A m c) g k (512 * blk t + r.val + j) := by
  unfold join
  split
  · next h => exact (own_eq m c t g ⟨r.val + j, h⟩ k).trans (congrArg (qu (U m c) (W m c) (A m c) g k) (Nat.add_assoc _ _ _).symm)
  · next h =>
    have h : ¬ r.val + j < 512 := h
    refine (dif_pos (show r.val + j < 528 by omega)).trans ((hq _ _).trans ?_)
    obtain ⟨e, e'⟩ := part g k (col g k) rfl
    refine Eq.trans (congrArg₂ (fun a b => qu (U m c) (W m c) (A m c) a b _) e e') (congrArg (qu (U m c) (W m c) (A m c) g k) ?_)
    show 512 * blk t + 512 + (r.val + j - 512) = 512 * blk t + r.val + j
    omega

/-- What a point computes of each group of that gradient. -/
def grad (c : Dev nD) (t : Fin cfg0.N) (q : Vec Ideal S16x2048 .f32) : Fin 4 → Vec Ideal S512x512 .f32 :=
  ![k0_pay21 (F := Ideal) (dy m c t 0 inb_S512x2048_S512x512_0_0) (sc m c t 0 inb_S1x2048_S1x512_0_0) (wt m c t 0 inb_S4x512x512_S1x512x512_0_0_0)
      (join (own m c t 0) q 0 0) (join (own m c t 0) q 0 1),
    k0_pay30 (F := Ideal) (k0_pay25 (F := Ideal) (dy m c t 512 inb_S512x2048_S512x512_0_512) (sc m c t 512 inb_S1x2048_S1x512_0_512)) (wt m c t 1 inb_S4x512x512_S1x512x512_1_0_0)
      (join (own m c t 1) q 1 0) (join (own m c t 1) q 1 1) (join (own m c t 1) q 1 2) (join (own m c t 1) q 1 3),
    k0_pay40 (F := Ideal) (k0_pay39 (F := Ideal) (dy m c t 1024 inb_S512x2048_S512x512_0_1024) (sc m c t 1024 inb_S1x2048_S1x512_0_1024) (wt m c t 2 inb_S4x512x512_S1x512x512_2_0_0)
      (join (own m c t 2) q 2 0) (join (own m c t 2) q 2 1) (join (own m c t 2) q 2 2) (join (own m c t 2) q 2 3) (join (own m c t 2) q 2 4))
      (join (own m c t 2) q 2 5) (join (own m c t 2) q 2 6) (join (own m c t 2) q 2 7),
    k0_pay50 (F := Ideal) (k0_pay49 (F := Ideal) (dy m c t 1536 inb_S512x2048_S512x512_0_1536) (sc m c t 1536 inb_S1x2048_S1x512_0_1536) (wt m c t 3 inb_S4x512x512_S1x512x512_3_0_0)
      (join (own m c t 3) q 3 0) (join (own m c t 3) q 3 1) (join (own m c t 3) q 3 2) (join (own m c t 3) q 3 3) (join (own m c t 3) q 3 4))
      (join (own m c t 3) q 3 5) (join (own m c t 3) q 3 6) (join (own m c t 3) q 3 7) (join (own m c t 3) q 3 8) (join (own m c t 3) q 3 9)
      (join (own m c t 3) q 3 10) (join (own m c t 3) q 3 11) (join (own m c t 3) q 3 12) (join (own m c t 3) q 3 13) (join (own m c t 3) q 3 14) (join (own m c t 3) q 3 15)]

theorem grad_eq (c : Dev nD) (t : Fin cfg0.N) (q : Vec Ideal S16x2048 .f32) (hq : After m c t q) (g : Fin 4) (r k : Fin 512) :
    grad m c t q g (ix2 r k) = dhAt (U m c) (W m c) (A m c) (blockRow t r) g k := by
  have hJ := join_own m c t q hq
  fin_cases g
  · exact dh0 (U m c) (W m c) (A m c) (blk t) (blk_lt t) 0 _ _ _ (part2 m c t 0 0 rfl _) (part5 m c t 0 0 rfl _) (part4 m c t 0 0 rfl _) (join (own m c t 0) q 0) (hJ 0) rfl r k
  · exact dh1 (U m c) (W m c) (A m c) (blk t) (blk_lt t) 1 _ _ _ (part2 m c t 1 512 rfl _) (part5 m c t 1 512 rfl _) (part4 m c t 1 1 rfl _) (join (own m c t 1) q 1) (hJ 1) rfl r k
  · exact dh2 (U m c) (W m c) (A m c) (blk t) (blk_lt t) 2 _ _ _ (part2 m c t 2 1024 rfl _) (part5 m c t 2 1024 rfl _) (part4 m c t 2 2 rfl _) (join (own m c t 2) q 2) (hJ 2) rfl r k
  · exact dh3 (U m c) (W m c) (A m c) (blk t) (blk_lt t) 3 _ _ _ (part2 m c t 3 1536 rfl _) (part5 m c t 3 1536 rfl _) (part4 m c t 3 3 rfl _) (join (own m c t 3) q 3) (hJ 3) rfl r k

/-- The gradient of the normalised input as an array. -/
abbrev DH (c : Dev nD) : SX.Idx → EReal := dh (U m c) (W m c) (A m c)

theorem four_grad (c : Dev nD) (t : Fin cfg0.N) (q : Vec Ideal S16x2048 .f32) (hq : After m c t q) (r : Fin 512) (k : Fin 2048) :
    four (grad m c t q) (ix2 r k) = DH m c (ix2 (blockRow t r) k) := grad_eq m c t q hq (grp k) r (lane k)

/-! ## The gradient in the input and in the gain -/

theorem pay_dx (c : Dev nD) (t : Fin cfg0.N) (D : Vec Ideal S512x2048 .f32) (hD : ∀ (r : Fin 512) (k : Fin 2048), D (ix2 r k) = DH m c (ix2 (blockRow t r) k)) (y : S512x2048.Idx) :
    k0_pay3 (F := Ideal) (iblk m c 0 t) (iblk m c 3 t) D (k0_pay51 (F := Ideal) (iblk m c 0 t)) (iblk m c 2 t) y
      = Rms.dx (X m c) (G m c) (DH m c) (U m c) (ix2 (blockRow t (y 0)) (y 1)) := by
  idx_vars y
  unfold_payloads
  pointwise [Rms.dx, Rms.inv, hD, blk0 m c t, blk2 m c t, blk3 m c t]

/-- A row's share of the gain's gradient. -/
def gShare (c : Dev nD) (j : S1x2048.Idx) (r : Fin 8192) : EReal := DH m c (ix2 r (j 1)) * (X m c (ix2 r (j 1)) * Rms.inv (X m c) r)

theorem pay_dg (c : Dev nD) (t : Fin cfg0.N) (D : Vec Ideal S512x2048 .f32) (hD : ∀ (r : Fin 512) (k : Fin 2048), D (ix2 r k) = DH m c (ix2 (blockRow t r) k))
    (v : Vec Ideal S1x2048 .f32) (j : S1x2048.Idx) :
    k0_pay4 (F := Ideal) (iblk m c 0 t) D (k0_pay51 (F := Ideal) (iblk m c 0 t)) v j = v j + ∑ r : Fin 512, gShare m c j (blockRow t r) := by
  idx_vars j
  unfold_payloads
  pointwise [Rms.inv, gShare, hD, blk0 m c t]

theorem tile_dx (c : Dev nD) (t : Fin cfg0.N) (y : S512x2048.Idx) :
    (outsAt0 m c t.val t.isLt).1 y = Rms.dx (X m c) (G m c) (DH m c) (U m c) (ix2 (blockRow t (y 0)) (y 1)) := by
  have ht : t.val < 16 := t.isLt
  by_cases h0 : t.val % 16 = 0
  · have h := four_grad m c t _ (after_A m c t h0)
    rw [outsAt0_A m c t h0 (by omega)]
    frame_out
    simp only [lead_read0, lead_read1, lead_read2, lead_read3, read_four, number]
    exact pay_dx m c t _ h y
  · have h := four_grad m c t _ (after_B m c t (by omega) _ (Memref.isWhole_whole _) (carry m c (t.val - 1) (by have := t.isLt; omega)))
    rw [outsAt0_B m c t h0 (by omega)]
    frame_out
    simp only [lead_read0, lead_read1, lead_read2, lead_read3, read_four, number]
    exact pay_dx m c t _ h y

theorem land (t : Fin cfg0.N) (y : S512x2048.Idx) (z : S8192x2048.Idx) (n : Fin 2 → ℕ) (hn : n = ![15 - t.val, 0])
    (h0 : (z 0).val = n 0 * 512 + 1 * (y 0).val) (h1 : (z 1).val = n 1 * 2048 + 1 * (y 1).val) : z = ix2 (blockRow t (y 0)) (y 1) := by
  subst hn
  refine funext fun a => Fin.ext ?_
  fin_cases a
  · refine h0.trans ?_
    show (15 - t.val) * 512 + 1 * (y 0).val = 512 * (15 - t.val) + (y 0).val
    omega
  · refine h1.trans ?_
    show 0 * 2048 + 1 * (y 1).val = (y 1).val
    omega

theorem dx_array (c : Dev nD) : (dats m 0 c).arrAt 6 cfg0.N = Rms.dx (X m c) (G m c) (DH m c) (U m c) := by
  refine (dats m 0 c).arrAt_eq_of_covers 6 _ (by decide +kernel) fun t hf y => ?_
  blk_simp
  rw [after0_6]
  exact (tile_dx m c t y).trans (congrArg (Rms.dx (X m c) (G m c) (DH m c) (U m c)) (land t y _ (win0_6.index t) (idx t).2.2.2.2.2.2 rfl rfl).symm)

/-- The points' blocks of rows, last block first, are all the rows. -/
theorem all_rows (f : Fin 8192 → EReal) : ∑ t : Fin cfg0.N, ∑ r : Fin 512, f (blockRow t r) = ∑ s : Fin 8192, f s := by
  refine Eq.trans (b := ∑ t : Fin 16, ∑ r : Fin 512, f ⟨t.val * 512 + r.val, by omega⟩) ?_ (Fin.sum_mul_add_fin 16 512 f)
  refine Eq.trans ?_ (Equiv.sum_comp (Fin.revPerm (n := 16)) fun t : Fin 16 => ∑ r : Fin 512, f ⟨t.val * 512 + r.val, by omega⟩)
  refine Finset.sum_congr rfl fun t _ => Finset.sum_congr rfl fun r _ => congrArg f (Fin.ext ?_)
  have ht : t.val < 16 := t.isLt
  have e : (Fin.revPerm (n := 16) t).val = 16 - (t.val + 1) := rfl
  show 512 * (15 - t.val) + r.val = (Fin.revPerm (n := 16) t).val * 512 + r.val
  rw [e]
  omega

theorem step_dg (c : Dev nD) (t : Fin cfg0.N) (h0 : ¬t.val % 16 = 0) (j : S1x2048.Idx) : (outsAt0 m c t.val t.isLt).2.2.2.1 j
    = (outsAt0 m c (t.val - 1) (Nat.lt_of_le_of_lt (Nat.sub_le _ _) t.isLt)).2.2.2.1 j + ∑ r : Fin 512, gShare m c j (blockRow t r) := by
  have ht : t.val < 16 := t.isLt
  have h := four_grad m c t _ (after_B m c t (by omega) _ (Memref.isWhole_whole _) (carry m c (t.val - 1) (by have := t.isLt; omega)))
  rw [outsAt0_B m c t h0 (by omega)]
  frame_out
  simp only [lead_read0, lead_read1, lead_read2, lead_read3, read_four, number]
  exact pay_dg m c t _ h _ j

theorem first_dg (c : Dev nD) (t : Fin cfg0.N) (h0 : t.val % 16 = 0) (j : S1x2048.Idx) : (outsAt0 m c t.val t.isLt).2.2.2.1 j
    = 0 + ∑ r : Fin 512, gShare m c j (blockRow t r) := by
  have ht : t.val < 16 := t.isLt
  have h := four_grad m c t _ (after_A m c t h0)
  have z : k0_pay7 (F := Ideal) j = 0 := by
    idx_vars j
    unfold_payloads
    pointwise
  rw [outsAt0_A m c t h0 (by omega)]
  frame_out
  simp only [lead_read0, lead_read1, lead_read2, lead_read3, read_four, number]
  refine (pay_dg m c t _ h _ j).trans ?_
  rw [z]

theorem dg_array (c : Dev nD) : (dats m 0 c).arrAt 9 cfg0.N = Rms.dg (X m c) (DH m c) := by
  refine (dats m 0 c).arrAt_eq_of_after_last 9 t0_15 (by decide +kernel) _ fun j => ?_
  blk_simp
  rw [after0_9]
  rw [Pipeline.eq_sum_fin_of_reset_step_apply_last (fun n h => (outsAt0 m c n h).2.2.2.1) 16 (fun _ => (0 : EReal)) _
    (first_dg m c) (step_dg m c) (by decide) t0_15 rfl j, zero_add]
  exact all_rows (gShare m c j)

/-! ## The gradient in the scale -/

/-- Four cells of a row, each its old content and a sum of its own. -/
theorem row_parts (p0 p1 p2 p3 : Vec Ideal S1x512 .f32) (P : S1x2048.Idx → EReal) (f : Fin 4 → Fin 512 → EReal)
    (h0 : ∀ k : Fin 512, p0 (ix2 (0 : Fin 1) k) = P (ix2 (0 : Fin 1) (col 0 k)) + f 0 k) (h1 : ∀ k : Fin 512, p1 (ix2 (0 : Fin 1) k) = P (ix2 (0 : Fin 1) (col 1 k)) + f 1 k)
    (h2 : ∀ k : Fin 512, p2 (ix2 (0 : Fin 1) k) = P (ix2 (0 : Fin 1) (col 2 k)) + f 2 k) (h3 : ∀ k : Fin 512, p3 (ix2 (0 : Fin 1) k) = P (ix2 (0 : Fin 1) (col 3 k)) + f 3 k)
    (y : S1x2048.Idx) : fourRow ![p0, p1, p2, p3] y = P y + f (grp (y 1)) (lane (y 1)) := by
  have h : ∀ g k, (![p0, p1, p2, p3] : Fin 4 → Vec Ideal S1x512 .f32) g (ix2 (0 : Fin 1) k) = P (ix2 (0 : Fin 1) (col g k)) + f g k := fun g k => by
    fin_cases g
    · exact h0 k
    · exact h1 k
    · exact h2 k
    · exact h3 k
  refine (h _ _).trans (congrArg (fun z => P z + _) (funext fun d => Fin.ext ?_))
  fin_cases d
  · show 0 = (y 0).val
    have : (y 0).val < 1 := (y 0).isLt
    omega
  · show 512 * ((y 1).val / 512) + (y 1).val % 512 = (y 1).val
    omega

/-- A cell of the row before. -/
theorem old_row (P : Vec Ideal S1x2048 .f32) (g : Fin 4) (b : ℕ) (hb : b = 512 * g.val)
    (inb : ∀ d : Fin S1x2048.rank, (![0, b] : Fin 2 → ℕ) d + (![1, 512] : Fin 2 → ℕ) d ≤ S1x2048.size d) (k : Fin 512) :
    View.ld P (Rect.unit (s := S1x2048) ![0, b] ![1, 512] inb) (ix2 (0 : Fin 1) k) = P (ix2 (0 : Fin 1) (col g k)) := by
  refine congrArg P (funext fun d => Fin.ext ?_)
  fin_cases d
  · rfl
  · show b + 1 * k.val = 512 * g.val + k.val; omega

theorem step_ds (c : Dev nD) (t : Fin cfg0.N) (h0 : ¬t.val % 16 = 0) (j : S1x2048.Idx) : (outsAt0 m c t.val t.isLt).2.2.1 j
    = (outsAt0 m c (t.val - 1) (Nat.lt_of_le_of_lt (Nat.sub_le _ _) t.isLt)).2.2.1 j
      + ∑ r : Fin 512, sShare (H m c) (U m c) (W m c) (grp (j 1)) (lane (j 1)) (blockRow t r) := by
  have ht : t.val < 16 := t.isLt
  have hE := rows_past m c t
  have hv := pay_hid m c t
  rw [outsAt0_B m c t h0 (by omega)]
  frame_out
  simp only [ext_read, number]
  rw [canon_fourRow]
  refine row_parts _ _ _ _ _ (fun g k => ∑ r : Fin 512, sShare (H m c) (U m c) (W m c) g k (blockRow t r)) (fun k => ?_) (fun k => ?_) (fun k => ?_) (fun k => ?_) j
  · exact (ds0 (H m c) (U m c) (W m c) (blk t) (blk_lt t) (rows m c t) (hidden m c t) hE hv 0 _ _ _ (part2 m c t 0 0 rfl _) (part4 m c t 0 0 rfl _) rfl _ _ k).trans (congrArg (· + _) (old_row _ 0 0 rfl _ k))
  · exact (ds1 (H m c) (U m c) (W m c) (blk t) (blk_lt t) (rows m c t) (hidden m c t) hE hv 1 _ _ _ (part2 m c t 1 512 rfl _) (part4 m c t 1 1 rfl _) rfl _ _ _ _ k).trans (congrArg (· + _) (old_row _ 1 512 rfl _ k))
  · exact (ds2 (H m c) (U m c) (W m c) (blk t) (blk_lt t) (rows m c t) (hidden m c t) hE hv 2 _ _ _ (part2 m c t 2 1024 rfl _) (part4 m c t 2 2 rfl _) rfl _ _ _ _ _ _ _ _ k).trans (congrArg (· + _) (old_row _ 2 1024 rfl _ k))
  · exact (ds3 (H m c) (U m c) (W m c) (blk t) (blk_lt t) (rows m c t) (hidden m c t) hE hv 3 _ _ _ (part2 m c t 3 1536 rfl _) (part4 m c t 3 3 rfl _) rfl _ _ _ _ _ _ _ _ _ _ _ _ _ _ _ _ k).trans (congrArg (· + _) (old_row _ 3 1536 rfl _ k))

/-- The cells of the row at the first point: zeros. -/
theorem new_row {κ : Kind} {sp : Space} (v : View sig κ sp S1x2048 .f32) (L b inb) (h : FreshRow L b) (k : Fin 512) (z : EReal) :
    View.readCov (Val := Elt Ideal) v L (Rect.unit (s := S1x2048) ![0, b] ![1, 512] inb).toLoadRect (ix2 (0 : Fin 1) k) + z = 0 + z :=
  congrArg (· + z) (congrFun (fresh_row v L b inb h) _)

theorem first_ds (c : Dev nD) (t : Fin cfg0.N) (h0 : t.val % 16 = 0) (j : S1x2048.Idx) : (outsAt0 m c t.val t.isLt).2.2.1 j
    = 0 + ∑ r : Fin 512, sShare (H m c) (U m c) (W m c) (grp (j 1)) (lane (j 1)) (blockRow t r) := by
  have ht : t.val < 16 := t.isLt
  have hE := rows_past m c t
  have hv := pay_hid m c t
  rw [outsAt0_A m c t h0 (by omega)]
  frame_out
  simp only [ext_read, number]
  rw [canon_fourRow]
  refine row_parts _ _ _ _ (fun _ => 0) (fun g k => ∑ r : Fin 512, sShare (H m c) (U m c) (W m c) g k (blockRow t r)) (fun k => ?_) (fun k => ?_) (fun k => ?_) (fun k => ?_) j
  · exact (ds0 (H m c) (U m c) (W m c) (blk t) (blk_lt t) (rows m c t) (hidden m c t) hE hv 0 _ _ _ (part2 m c t 0 0 rfl _) (part4 m c t 0 0 rfl _) rfl _ _ k).trans (new_row _ _ _ _ (freshRow_whole _ _) k _)
  · exact (ds1 (H m c) (U m c) (W m c) (blk t) (blk_lt t) (rows m c t) (hidden m c t) hE hv 1 _ _ _ (part2 m c t 1 512 rfl _) (part4 m c t 1 1 rfl _) rfl _ _ _ _ k).trans
      (new_row _ _ _ _ (freshRow_cons _ 0 512 _ _ (by decide) (freshRow_whole _ _)) k _)
  · exact (ds2 (H m c) (U m c) (W m c) (blk t) (blk_lt t) (rows m c t) (hidden m c t) hE hv 2 _ _ _ (part2 m c t 2 1024 rfl _) (part4 m c t 2 2 rfl _) rfl _ _ _ _ _ _ _ _ k).trans
      (new_row _ _ _ _ (freshRow_cons _ 512 1024 _ _ (by decide) (freshRow_cons _ 0 1024 _ _ (by decide) (freshRow_whole _ _))) k _)
  · exact (ds3 (H m c) (U m c) (W m c) (blk t) (blk_lt t) (rows m c t) (hidden m c t) hE hv 3 _ _ _ (part2 m c t 3 1536 rfl _) (part4 m c t 3 3 rfl _) rfl _ _ _ _ _ _ _ _ _ _ _ _ _ _ _ _ k).trans
      (new_row _ _ _ _ (freshRow_cons _ 1024 1536 _ _ (by decide) (freshRow_cons _ 512 1536 _ _ (by decide) (freshRow_cons _ 0 1536 _ _ (by decide) (freshRow_whole _ _)))) k _)

theorem ds_array (c : Dev nD) : (dats m 0 c).arrAt 8 cfg0.N = (ds (H m c) (U m c) (W m c) : Vec Ideal S1x2048 .f32) := by
  refine (dats m 0 c).arrAt_eq_of_after_last 8 t0_15 (by decide +kernel) _ fun j => ?_
  blk_simp
  rw [after0_8]
  rw [Pipeline.eq_sum_fin_of_reset_step_apply_last (fun n h => (outsAt0 m c n h).2.2.1) 16 (fun _ => (0 : EReal)) _
    (first_ds m c) (step_ds m c) (by decide) t0_15 rfl j, zero_add]
  exact all_rows (sShare (H m c) (U m c) (W m c) (grp (j 1)) (lane (j 1)))

/-! ## The gradient in the weights -/

/-- Four matrices, each its old content and a sum of its own. -/
theorem mat_parts (p0 p1 p2 p3 : Vec Ideal S1x512x512 .f32) (P : S4x512x512.Idx → EReal) (f : Fin 4 → Fin 512 → Fin 512 → EReal)
    (h0 : ∀ k d : Fin 512, p0 (ix3 (0 : Fin 1) k d) = P (ix3 (0 : Fin 4) k d) + f 0 k d) (h1 : ∀ k d : Fin 512, p1 (ix3 (0 : Fin 1) k d) = P (ix3 (1 : Fin 4) k d) + f 1 k d)
    (h2 : ∀ k d : Fin 512, p2 (ix3 (0 : Fin 1) k d) = P (ix3 (2 : Fin 4) k d) + f 2 k d) (h3 : ∀ k d : Fin 512, p3 (ix3 (0 : Fin 1) k d) = P (ix3 (3 : Fin 4) k d) + f 3 k d)
    (y : S4x512x512.Idx) : fourMat ![p0, p1, p2, p3] y = P y + f (y 0) (y 1) (y 2) := by
  idx_vars y
  show (![p0, p1, p2, p3] : Fin 4 → Vec Ideal S1x512x512 .f32) _ (ix3 (0 : Fin 1) _ _) = P (ix3 _ _ _) + f _ _ _
  fin_cases y0
  · exact h0 y1 y2
  · exact h1 y1 y2
  · exact h2 y1 y2
  · exact h3 y1 y2

/-- A matrix of the four before. -/
theorem old_mat (P : Vec Ideal S4x512x512 .f32) (g : Fin 4) (b : ℕ) (hb : b = g.val)
    (inb : ∀ d : Fin S4x512x512.rank, (![b, 0, 0] : Fin 3 → ℕ) d + (![1, 512, 512] : Fin 3 → ℕ) d ≤ S4x512x512.size d) (k d : Fin 512) :
    View.ld P (Rect.unit (s := S4x512x512) ![b, 0, 0] ![1, 512, 512] inb) (ix3 (0 : Fin 1) k d) = P (ix3 g k d) := by
  refine congrArg P (funext fun e => Fin.ext ?_)
  fin_cases e
  · show b + 1 * 0 = g.val; omega
  · show 0 + 1 * k.val = k.val; omega
  · show 0 + 1 * d.val = d.val; omega

theorem new_mat {κ : Kind} {sp : Space} (v : View sig κ sp S4x512x512 .f32) (L b inb) (h : FreshMat L b) (k d : Fin 512) (z : EReal) :
    View.readCov (Val := Elt Ideal) v L (Rect.unit (s := S4x512x512) ![b, 0, 0] ![1, 512, 512] inb).toLoadRect (ix3 (0 : Fin 1) k d) + z = 0 + z :=
  congrArg (· + z) (congrFun (fresh_mat v L b inb h) _)

theorem step_dw (c : Dev nD) (t : Fin cfg0.N) (h0 : ¬t.val % 16 = 0) (j : S4x512x512.Idx) : (outsAt0 m c t.val t.isLt).2.1 j
    = (outsAt0 m c (t.val - 1) (Nat.lt_of_le_of_lt (Nat.sub_le _ _) t.isLt)).2.1 j
      + ∑ r : Fin 512, wShare (H m c) (U m c) (A m c) (j 0) (j 1) (j 2) (blockRow t r) := by
  have ht : t.val < 16 := t.isLt
  have hE := rows_past m c t
  have hv := pay_hid m c t
  rw [outsAt0_B m c t h0 (by omega)]
  frame_out
  simp only [ext_read, number]
  rw [canon_fourMat]
  refine mat_parts _ _ _ _ _ (fun g k d => ∑ r : Fin 512, wShare (H m c) (U m c) (A m c) g k d (blockRow t r)) (fun k d => ?_) (fun k d => ?_) (fun k d => ?_) (fun k d => ?_) j
  · exact (dw_even (H m c) (U m c) (A m c) (blk t) (blk_lt t) 0 _ _ (part2 m c t 0 0 rfl _) (part5 m c t 0 0 rfl _) _
      (diff0 (H m c) (blk t) (blk_lt t) (rows m c t) (hidden m c t) hE hv _ _) _ k d).trans (congrArg (· + _) (old_mat _ 0 0 rfl _ k d))
  · exact (dw1 (H m c) (U m c) (A m c) (blk t) (blk_lt t) 1 _ _ (part2 m c t 1 512 rfl _) (part5 m c t 1 512 rfl _) _
      (diff1 (H m c) (blk t) (blk_lt t) (rows m c t) (hidden m c t) hE hv _ _ _ _) _ k d).trans (congrArg (· + _) (old_mat _ 1 1 rfl _ k d))
  · exact (dw_even (H m c) (U m c) (A m c) (blk t) (blk_lt t) 2 _ _ (part2 m c t 2 1024 rfl _) (part5 m c t 2 1024 rfl _) _
      (diff2 (H m c) (blk t) (blk_lt t) (rows m c t) (hidden m c t) hE hv _ _ _ _ _ _ _ _) _ k d).trans (congrArg (· + _) (old_mat _ 2 2 rfl _ k d))
  · exact (dw_even (H m c) (U m c) (A m c) (blk t) (blk_lt t) 3 _ _ (part2 m c t 3 1536 rfl _) (part5 m c t 3 1536 rfl _) _
      (diff3 (H m c) (blk t) (blk_lt t) (rows m c t) (hidden m c t) hE hv _ _ _ _ _ _ _ _ _ _ _ _ _ _ _ _) _ k d).trans (congrArg (· + _) (old_mat _ 3 3 rfl _ k d))

theorem first_dw (c : Dev nD) (t : Fin cfg0.N) (h0 : t.val % 16 = 0) (j : S4x512x512.Idx) : (outsAt0 m c t.val t.isLt).2.1 j
    = 0 + ∑ r : Fin 512, wShare (H m c) (U m c) (A m c) (j 0) (j 1) (j 2) (blockRow t r) := by
  have ht : t.val < 16 := t.isLt
  have hE := rows_past m c t
  have hv := pay_hid m c t
  rw [outsAt0_A m c t h0 (by omega)]
  frame_out
  simp only [ext_read, number]
  rw [canon_fourMat]
  refine mat_parts _ _ _ _ (fun _ => 0) (fun g k d => ∑ r : Fin 512, wShare (H m c) (U m c) (A m c) g k d (blockRow t r)) (fun k d => ?_) (fun k d => ?_) (fun k d => ?_) (fun k d => ?_) j
  · exact (dw_even (H m c) (U m c) (A m c) (blk t) (blk_lt t) 0 _ _ (part2 m c t 0 0 rfl _) (part5 m c t 0 0 rfl _) _
      (diff0 (H m c) (blk t) (blk_lt t) (rows m c t) (hidden m c t) hE hv _ _) _ k d).trans (new_mat _ _ _ _ (freshMat_whole _ _) k d _)
  · exact (dw1 (H m c) (U m c) (A m c) (blk t) (blk_lt t) 1 _ _ (part2 m c t 1 512 rfl _) (part5 m c t 1 512 rfl _) _
      (diff1 (H m c) (blk t) (blk_lt t) (rows m c t) (hidden m c t) hE hv _ _ _ _) _ k d).trans
      (new_mat _ _ _ _ (freshMat_cons _ 0 1 _ _ (by decide) (freshMat_whole _ _)) k d _)
  · exact (dw_even (H m c) (U m c) (A m c) (blk t) (blk_lt t) 2 _ _ (part2 m c t 2 1024 rfl _) (part5 m c t 2 1024 rfl _) _
      (diff2 (H m c) (blk t) (blk_lt t) (rows m c t) (hidden m c t) hE hv _ _ _ _ _ _ _ _) _ k d).trans
      (new_mat _ _ _ _ (freshMat_cons _ 1 2 _ _ (by decide) (freshMat_cons _ 0 2 _ _ (by decide) (freshMat_whole _ _))) k d _)
  · exact (dw_even (H m c) (U m c) (A m c) (blk t) (blk_lt t) 3 _ _ (part2 m c t 3 1536 rfl _) (part5 m c t 3 1536 rfl _) _
      (diff3 (H m c) (blk t) (blk_lt t) (rows m c t) (hidden m c t) hE hv _ _ _ _ _ _ _ _ _ _ _ _ _ _ _ _) _ k d).trans
      (new_mat _ _ _ _ (freshMat_cons _ 2 3 _ _ (by decide) (freshMat_cons _ 1 3 _ _ (by decide) (freshMat_cons _ 0 3 _ _ (by decide) (freshMat_whole _ _)))) k d _)

theorem dw_array (c : Dev nD) : (dats m 0 c).arrAt 7 cfg0.N = (dw (H m c) (U m c) (A m c) : Vec Ideal S4x512x512 .f32) := by
  refine (dats m 0 c).arrAt_eq_of_after_last 7 t0_15 (by decide +kernel) _ fun j => ?_
  blk_simp
  rw [after0_7]
  rw [Pipeline.eq_sum_fin_of_reset_step_apply_last (fun n h => (outsAt0 m c n h).2.1) 16 (fun _ => (0 : EReal)) _
    (first_dw m c) (step_dw m c) (by decide) t0_15 rfl j, zero_add]
  exact all_rows (wShare (H m c) (U m c) (A m c) (j 0) (j 1) (j 2))

end Cert.Pool

end
-- ==== Proof.Pool.Reference.lean ====
/- The plain form of the pooling block's gradient, read entry by entry. -/
module

public import proofs.«01_k».proof.Proof.Gen.PoolReferenceIdeal.Read
public import proofs.«01_k».proof.Proof.Mix.Reference
public import proofs.«01_k».proof.Proof.Rms.Reference
public import proofs.«01_k».proof.Proof.Pool.Data

@[expose] public section

set_option maxRecDepth 16384

noncomputable section

namespace Cert.Pool

open Cert.PoolReferenceIdeal Cert.PoolReferenceIdeal.Gen Cert.PoolReferenceIdeal.Read Idealize.ShloMosaic Idealize.ShloMosaic.TcCoe Cert.Ffn Cert.Arith Cert.Mix

/-- A running sum from the last row down. -/
theorem falling (R A B : ℕ) (x : Vec Ideal ⟨3, ![R + 1, A, B]⟩ .f32) (z : Vec Ideal S_ .f32) (h hu) (hz : z (Shape.Idx.first hu) = 0)
    (j : Fin (R + 1)) (a : Fin A) (b : Fin B) :
    Host.reduceWindowAdd (F := Ideal) (φ := .f32) (t := ⟨3, ![R + 1, A, B]⟩) ![R + 1, 1, 1] ![1, 1, 1] ![0, 0, 0] ![R, 0, 0] x z h hu (ix3 j a b)
      = ∑ n ∈ Finset.range (R + 1), if q : j.val + n < R + 1 then x (ix3 ⟨j.val + n, q⟩ a b) else 0 := by
  have hN : (⟨3, ![R + 1, 1, 1]⟩ : Shape).numel = R + 1 := (Fin.prod_univ_three _).trans (by show (R + 1) * 1 * 1 = _; omega)
  unfold Host.reduceWindowAdd
  rw [Ideal.hostReduceWindowAdd_def, hz]
  unfold Ideal.hostReduceWindowAdd Host.reduceWindow
  dsimp only
  rw [foldl_add, zero_add, ← Fin.sum_univ_def]
  set f : ℕ → EReal := fun n => if q : j.val + n < R + 1 then x (ix3 ⟨j.val + n, q⟩ a b) else 0 with hf
  refine Eq.trans (Eq.trans (Finset.sum_congr rfl fun n _ => ?_) (Finset.sum_range f).symm) (congrArg (fun M => ∑ n ∈ Finset.range M, f n) hN)
  have c0 : ((⟨3, ![R + 1, 1, 1]⟩ : Shape).rowMajor.symm n 0).val = n.val := by rw [column _ hN]; rfl
  have c1 : ((⟨3, ![R + 1, 1, 1]⟩ : Shape).rowMajor.symm n 1).val = 0 := by rw [column _ hN]; rfl
  have c2 : ((⟨3, ![R + 1, 1, 1]⟩ : Shape).rowMajor.symm n 2).val = 0 := by rw [column _ hN]; rfl
  have ha : a.val < A := a.isLt
  have hb : b.val < B := b.isLt
  rw [hf]
  dsimp only
  split
  · next hin =>
    have h0 := (hin 0).2
    change j.val * 1 + ((⟨3, ![R + 1, 1, 1]⟩ : Shape).rowMajor.symm n 0).val - 0 < R + 1 at h0
    rw [c0] at h0
    rw [dif_pos (by omega)]
    refine congrArg x (funext fun d => Fin.ext ?_)
    fin_cases d
    · show j.val * 1 + ((⟨3, ![R + 1, 1, 1]⟩ : Shape).rowMajor.symm n 0).val - 0 = j.val + n.val
      rw [c0]
      omega
    · show a.val * 1 + ((⟨3, ![R + 1, 1, 1]⟩ : Shape).rowMajor.symm n 1).val - 0 = a.val
      rw [c1]
      omega
    · show b.val * 1 + ((⟨3, ![R + 1, 1, 1]⟩ : Shape).rowMajor.symm n 2).val - 0 = b.val
      rw [c2]
      omega
  · next hin =>
    rw [dif_neg]
    refine fun hle => hin fun d => ?_
    fin_cases d
    · show 0 ≤ j.val * 1 + ((⟨3, ![R + 1, 1, 1]⟩ : Shape).rowMajor.symm n 0).val
        ∧ j.val * 1 + ((⟨3, ![R + 1, 1, 1]⟩ : Shape).rowMajor.symm n 0).val - 0 < R + 1
      rw [c0]
      omega
    · show 0 ≤ a.val * 1 + ((⟨3, ![R + 1, 1, 1]⟩ : Shape).rowMajor.symm n 1).val
        ∧ a.val * 1 + ((⟨3, ![R + 1, 1, 1]⟩ : Shape).rowMajor.symm n 1).val - 0 < A
      rw [c1]
      omega
    · show 0 ≤ b.val * 1 + ((⟨3, ![R + 1, 1, 1]⟩ : Shape).rowMajor.symm n 2).val
        ∧ b.val * 1 + ((⟨3, ![R + 1, 1, 1]⟩ : Shape).rowMajor.symm n 2).val - 0 < B
      rw [c2]
      omega

section

variable (x u : Vec Ideal S8192x2048 .f32) (g : Vec Ideal S1x2048 .f32) (w : Vec Ideal S4x512x512 .f32) (a : Vec Ideal S1x2048 .f32)

/-- The differences are the forward pass's. -/
theorem diff_same : val_main_v83 (F := Ideal) x g = Cert.MixReferenceIdeal.Read.val_main_v76 (F := Ideal) x g := rfl

theorem flat (s : Fin 8192) (b : Fin 4) (d : Fin 512) (y : S8192x2048.Idx) (h0 : (y 0).val = ((s.val * 4 + b.val) * 512 + d.val) / 2048)
    (h1 : (y 1).val = ((s.val * 4 + b.val) * 512 + d.val) % 2048) : y = ix2 s (col b d) := by
  refine funext fun e => Fin.ext ?_
  fin_cases e
  · refine h0.trans ?_
    show ((s.val * 4 + b.val) * 512 + d.val) / 2048 = s.val
    omega
  · refine h1.trans ?_
    show ((s.val * 4 + b.val) * 512 + d.val) % 2048 = 512 * b.val + d.val
    omega

/-- The scaled gradient that arrives. -/
theorem ref_dy (b : Fin 4) (d : Fin 512) (s : Fin 8192) :
    val_main_v97 (F := Ideal) u a (ix3 b d s) = u (ix2 s (col b d)) * a (ix2 0 (col b d)) := by
  have e : val_main_v96 (F := Ideal) u a (ix3 s b d) = u (ix2 s (col b d)) * a (ix2 0 (col b d)) := by
    rw [val_main_v96_apply, flat s b d (idx_main_v96 (ix3 s b d)) rfl rfl]
    unfold val_main_v95 val_main_v94 val_main_v90
    pointwise
  unfold val_main_v97
  generalize val_main_v96 (F := Ideal) u a = Y at e ⊢
  pointwise [e]

theorem ref_dd (s : Fin 8192) (b : Fin 4) (k : Fin 512) : val_main_v99 (F := Ideal) u w a (ix3 s b k) = dd u w a s b k := by
  have e := ref_dy u a
  unfold val_main_v99 val_main_v98
  generalize val_main_v97 (F := Ideal) u a = Y at e ⊢
  pointwise [e]
  rfl

/-- What a row hands to the rows of its window and takes from the prefix before it. -/
def step (b : Fin 4) (k : Fin 512) (n : ℕ) : EReal := qu u w a b k n + -(qu u w a b k (n + (dep b.val + 1)))

theorem step_of (b : Fin 4) (k : Fin 512) (s : Fin 8192) (W V : ℕ) (hW : W = dep b.val + 1) (hV : V + W = 8192) (hb : s.val < V → W + s.val < 8192) :
    (Ideal.div (dd u w a s b k) (cnt s.val W) + if h : s.val < V then -Ideal.div (dd u w a ⟨W + s.val, hb h⟩ b k) (cnt (W + s.val) W) else 0)
      = step u w a b k s.val := by
  subst hW
  unfold step qu
  rw [dif_pos s.isLt]
  refine congrArg (Ideal.div (dd u w a s b k) (cnt s.val (dep b.val + 1)) + ·) ?_
  have hc : s.val + (dep b.val + 1) = dep b.val + 1 + s.val := Nat.add_comm _ _
  split
  · next h => rw [dif_pos (by omega)]; simp only [hc]
  · next h => rw [dif_neg (by omega), neg_zero]

theorem step0 (s : Fin 8192) (k : Fin 512) : val_main_v146 (F := Ideal) u w a (ix2 s k) = step u w a 0 k s.val := by
  have e := ref_dd u w a
  unfold val_main_v146 val_main_v145 val_main_v144 val_main_v142 val_main_v141 val_main_v140 val_main_v104 val_main_v103 val_main_cst_25
    val_main_v29 val_main_v28 val_main_v27 val_main_v26 val_main_v25 val_main_v24 val_main_v17 val_main_c val_main_c_5
  generalize val_main_v99 (F := Ideal) u w a = D at e ⊢
  pointwise [e]
  exact step_of u w a 0 k s 2 8190 rfl rfl (fun h => by omega)

theorem step1 (s : Fin 8192) (k : Fin 512) : val_main_v136 (F := Ideal) u w a (ix2 s k) = step u w a 1 k s.val := by
  have e := ref_dd u w a
  unfold val_main_v136 val_main_v135 val_main_v134 val_main_v132 val_main_v131 val_main_v130 val_main_v106 val_main_v105 val_main_cst_23
    val_main_v44 val_main_v43 val_main_v42 val_main_v41 val_main_v40 val_main_v39 val_main_v17 val_main_c_8 val_main_c_9
  generalize val_main_v99 (F := Ideal) u w a = D at e ⊢
  pointwise [e]
  exact step_of u w a 1 k s 4 8188 rfl rfl (fun h => by omega)

theorem step2 (s : Fin 8192) (k : Fin 512) : val_main_v126 (F := Ideal) u w a (ix2 s k) = step u w a 2 k s.val := by
  have e := ref_dd u w a
  unfold val_main_v126 val_main_v125 val_main_v124 val_main_v122 val_main_v121 val_main_v120 val_main_v108 val_main_v107 val_main_cst_21
    val_main_v59 val_main_v58 val_main_v57 val_main_v56 val_main_v55 val_main_v54 val_main_v17 val_main_c_12 val_main_c_13
  generalize val_main_v99 (F := Ideal) u w a = D at e ⊢
  pointwise [e]
  exact step_of u w a 2 k s 8 8184 rfl rfl (fun h => by omega)

theorem step3 (s : Fin 8192) (k : Fin 512) : val_main_v117 (F := Ideal) u w a (ix2 s k) = step u w a 3 k s.val := by
  have e := ref_dd u w a
  unfold val_main_v117 val_main_v116 val_main_v115 val_main_v113 val_main_v112 val_main_v111 val_main_v110 val_main_v109 val_main_cst_19
    val_main_v74 val_main_v73 val_main_v72 val_main_v71 val_main_v70 val_main_v69 val_main_v17 val_main_c_16 val_main_c_17
  generalize val_main_v99 (F := Ideal) u w a = D at e ⊢
  pointwise [e]
  exact step_of u w a 3 k s 16 8176 rfl rfl (fun h => by omega)

/-- The four groups' steps, side by side. -/
theorem ref_step (s : Fin 8192) (b : Fin 4) (k : Fin 512) : val_main_v149 (F := Ideal) u w a (ix3 s b k) = step u w a b k s.val := by
  have e0 := step0 u w a
  have e1 := step1 u w a
  have e2 := step2 u w a
  have e3 := step3 u w a
  unfold val_main_v149 val_main_v148 val_main_v147 val_main_v139 val_main_v138 val_main_v137 val_main_v129 val_main_v128 val_main_v127
    val_main_v119 val_main_v118 val_main_cst_20 val_main_cst_22 val_main_cst_24 val_main_cst_26
  generalize val_main_v146 (F := Ideal) u w a = m0 at e0 ⊢
  generalize val_main_v136 (F := Ideal) u w a = m1 at e1 ⊢
  generalize val_main_v126 (F := Ideal) u w a = m2 at e2 ⊢
  generalize val_main_v117 (F := Ideal) u w a = m3 at e3 ⊢
  fin_cases b
  all_goals pointwise [e0, e1, e2, e3]
  all_goals simp

theorem ref_dh (hu : Fin' u) (hw : Fin' w) (ha : Fin' a) : val_main_v152 (F := Ideal) u w a = dh u w a := by
  have e (s : Fin 8192) (b : Fin 4) (k : Fin 512) : val_main_v151 (F := Ideal) u w a (ix3 s b k) = dhAt u w a s b k := by
    rw [← dhAt_eq u w a hu hw ha, val_main_v151_apply, val_main_v102_apply, ref_dd]
    refine congrArg (-(dd u w a s b k) + ·) ?_
    unfold val_main_v150
    refine (falling 8191 4 512 _ _ _ _ ?_ s b k).trans ?_
    · unfold val_main_call1_call0_v0 val_main_call1_call0_cst
      pointwise
    · refine Finset.sum_congr rfl fun n _ => ?_
      split
      · exact ref_step u w a _ b k
      · rfl
  funext i
  idx_vars i
  unfold val_main_v152
  generalize val_main_v151 (F := Ideal) u w a = D at e ⊢
  pointwise [e]
  rfl

/-- The weights' gradient. -/
theorem ref_dw (hx : Fin' x) (hg : Fin' g) : val_main_v101 (F := Ideal) x u g a = dw (hid x g) u a := by
  have e := ref_dy u a
  have ed := ref_diff x g (hid_fin x g hx hg)
  rw [← diff_same] at ed
  funext i
  idx_vars i
  unfold val_main_v101 val_main_v100
  generalize val_main_v97 (F := Ideal) u a = Y at e ⊢
  generalize val_main_v83 (F := Ideal) x g = D at ed ⊢
  pointwise [e, ed]
  exact Finset.sum_congr rfl fun s _ => mul_comm _ _

/-- The scale's gradient. -/
theorem ref_ds (hx : Fin' x) (hg : Fin' g) : val_main_v93 (F := Ideal) x u g w = ds (hid x g) u w := by
  have ed := ref_diff x g (hid_fin x g hx hg)
  rw [← diff_same] at ed
  funext i
  idx_vars i
  unfold val_main_v93 val_main_v92 val_main_v91 val_main_v90 val_main_v86 val_main_v85 val_main_v84 val_main_cst_18
  generalize val_main_v83 (F := Ideal) x g = D at ed ⊢
  pointwise [ed]
  have ec : col (grp i1) (lane i1) = i1 := Fin.ext (by show 512 * (i1.val / 512) + i1.val % 512 = i1.val; omega)
  refine Finset.sum_congr rfl fun s _ => ?_
  show _ = u (ix2 s (col (grp i1) (lane i1))) * yAt (hid x g) w s (grp i1) (lane i1)
  rw [ec, mul_comm]
  exact congrArg (u (ix2 s i1) * ·) (Finset.sum_congr rfl fun k _ => mul_comm _ _)

/-- The input's gradient. -/
theorem ref_dx (hx : Fin' x) (hg : Fin' g) (hu : Fin' u) (hw : Fin' w) (ha : Fin' a) :
    val_main_v172 (F := Ideal) x u g w a = Rms.dx x g (dh u w a) u := by
  have e : val_main_v172 (F := Ideal) x u g w a
    = Cert.RmsReferenceIdeal.Read.val_main_v34 (F := Ideal) x g (val_main_v152 (F := Ideal) u w a) u := rfl
  rw [e, ref_dh u w a hu hw ha]
  exact Rms.val_dx x g _ u hx hg (dh_fin u w a hu hw ha)

/-- The gain's gradient. -/
theorem ref_dg (hu : Fin' u) (hw : Fin' w) (ha : Fin' a) : val_main_v155 (F := Ideal) x u w a = Rms.dg x (dh u w a) := by
  have e : val_main_v155 (F := Ideal) x u w a
    = Cert.RmsReferenceIdeal.Read.val_main_v17 (F := Ideal) x (val_main_v152 (F := Ideal) u w a) := rfl
  rw [e, ref_dh u w a hu hw ha]
  exact Rms.val_dg x _

end

end Cert.Pool

end
-- ==== Proof.Pool.Claim.lean ====
/- The value claim of the pooling block's backward launch: the precondition read as finiteness, and the two runs set side by side. -/
module

public import proofs.«01_k».proof.Defs
public import proofs.«01_k».proof.Proof.Gen.PoolReferenceIdeal.Run
public import proofs.«01_k».proof.Proof.Gen.PoolReferenceIdeal.Read
public import proofs.«01_k».proof.Proof.Gen.Pre_pool_finite
public import proofs.«01_k».proof.Proof.Pool.Kernel
public import proofs.«01_k».proof.Proof.Pool.Reference

@[expose] public section

noncomputable section

namespace Cert.Pool

open Idealize.ShloMosaic Idealize.SL.Sem Cert.Arith

/-- The precondition says that the arguments are finite. -/
theorem finite_of_pre (m) (h : Cert.Pre_PoolKernelIdeal_pool_finite m) (c : Dev Cert.PoolKernelIdeal.nD) :
    Fin' (m ((c.tc : Thread _ Cert.PoolKernelIdeal.τ).loc Cert.PoolKernelIdeal.main_arg0))
    ∧ Fin' (m ((c.tc : Thread _ Cert.PoolKernelIdeal.τ).loc Cert.PoolKernelIdeal.main_arg1))
    ∧ Fin' (m ((c.tc : Thread _ Cert.PoolKernelIdeal.τ).loc Cert.PoolKernelIdeal.main_arg2))
    ∧ Fin' (m ((c.tc : Thread _ Cert.PoolKernelIdeal.τ).loc Cert.PoolKernelIdeal.main_arg3))
    ∧ Fin' (m ((c.tc : Thread _ Cert.PoolKernelIdeal.τ).loc Cert.PoolKernelIdeal.main_arg4)) :=
  ⟨fun i => real_of_test (congrFun (h c).1 i), fun i => real_of_test (congrFun (h c).2.1 i), fun i => real_of_test (congrFun (h c).2.2.1 i),
    fun i => real_of_test (congrFun (h c).2.2.2.1 i), fun i => real_of_test (congrFun (h c).2.2.2.2 i)⟩

/-- The kernel's four outputs are the reference's, where the arguments are finite. -/
theorem algebraic : Cert.algebraic_PoolKernelIdeal_PoolReferenceIdeal_pre_pool_finite := by
  intro m g m' g' hpre hargs
  refine ⟨_, _, _, _, Cert.PoolKernelIdeal.Value.run_blocks m g, ?_⟩
  refine (θ_run Cert.PoolReferenceIdeal.defs _ _).mono (fun _ h c => ?_) (Cert.PoolReferenceIdeal.Value.run m' g')
  obtain ⟨h0, h1, h2, h3, h4⟩ := h c
  obtain ⟨a0, a1, a2, a3, a4⟩ := hargs c
  obtain ⟨f0, f1, f2, f3, f4⟩ := finite_of_pre m hpre c
  replace a0 : StableHlo.launchContents m' c (Proc.devRef .tc Cert.PoolReferenceIdeal.main_arg0) = m ((c.tc : Thread _ Cert.PoolKernelIdeal.τ).loc Cert.PoolKernelIdeal.main_arg0) := a0
  replace a1 : StableHlo.launchContents m' c (Proc.devRef .tc Cert.PoolReferenceIdeal.main_arg1) = m ((c.tc : Thread _ Cert.PoolKernelIdeal.τ).loc Cert.PoolKernelIdeal.main_arg1) := a1
  replace a2 : StableHlo.launchContents m' c (Proc.devRef .tc Cert.PoolReferenceIdeal.main_arg2) = m ((c.tc : Thread _ Cert.PoolKernelIdeal.τ).loc Cert.PoolKernelIdeal.main_arg2) := a2
  replace a3 : StableHlo.launchContents m' c (Proc.devRef .tc Cert.PoolReferenceIdeal.main_arg3) = m ((c.tc : Thread _ Cert.PoolKernelIdeal.τ).loc Cert.PoolKernelIdeal.main_arg3) := a3
  replace a4 : StableHlo.launchContents m' c (Proc.devRef .tc Cert.PoolReferenceIdeal.main_arg4) = m ((c.tc : Thread _ Cert.PoolKernelIdeal.τ).loc Cert.PoolKernelIdeal.main_arg4) := a4
  refine ⟨h0.trans ?_, h1.trans ?_, h2.trans ?_, h3.trans ?_, h4⟩
  · rw [Cert.PoolReferenceIdeal.Read.val_main_v172_eq, a0, a1, a2, a3, a4, dx_array m c, DH, W_eq m c]
    exact ref_dx _ _ _ _ _ f0 f2 f1 f3 f4
  · rw [Cert.PoolReferenceIdeal.Read.val_main_v101_eq, a0, a1, a2, a4, dw_array m c]
    exact ref_dw _ _ _ _ f0 f2
  · rw [Cert.PoolReferenceIdeal.Read.val_main_v93_eq, a0, a1, a2, a3, ds_array m c, W_eq m c]
    exact ref_ds _ _ _ _ f0 f2
  · rw [Cert.PoolReferenceIdeal.Read.val_main_v155_eq, a0, a1, a3, a4, dg_array m c, DH, W_eq m c]
    exact ref_dg _ _ _ _ f1 f3 f4

end Cert.Pool

end
-- ==== Proof.Head.Reference.lean ====
/- The reference's two results, read at an index, are the kernel's where the arguments are finite. -/
module

public import proofs.«01_k».proof.Proof.Gen.HeadReferenceIdeal.Read
public import proofs.«01_k».proof.Proof.Head.Kernel

@[expose] public section

set_option maxRecDepth 16384

noncomputable section

namespace Cert.Head

open Cert.HeadReferenceIdeal Cert.HeadReferenceIdeal.Read Idealize.ShloMosaic Cert.Arith

/-- The width of a head. -/
theorem bits_128 : Ideal.ofBits .f32 0x43000000#32 = ((128 : ℝ) : EReal) := by
  simp [Ideal.ofBits, Ideal.ieee, -EReal.coe_mul]; norm_num

theorem width : (0 : ℝ) < 128 := by norm_num

/-- A sum over the first two axes of three. -/
theorem sum_two {n0 n1 n2 : ℕ} (h : (⟨3, ![n0, n1, n2]⟩ : Shape).ReducesTo [0, 1] ⟨1, ![n2]⟩) (v : (⟨3, ![n0, n1, n2]⟩ : Shape).Idx → EReal)
    (init : EReal) (l : Fin n2) :
    Ideal.hostReduceAdd h v init (ix1 l) = init + ∑ k0 : Fin n0, ∑ k1 : Fin n1, v (ix3 k0 k1 l) := by
  have hf (i : (⟨3, ![n0, n1, n2]⟩ : Shape).Idx) : h.drop i = ix1 l ↔ ∃ k : Fin n0 × Fin n1, ix3 k.1 k.2 l = i := by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine congrArg (init + ·) ((Finset.sum_filter_eq_sum_of_fiber _ (fun k : Fin n0 × Fin n1 => ix3 k.1 k.2 l)
    (fun _ _ e => Prod.ext (congrFun e 0) (congrFun e 1)) hf v).trans ?_)
  simp only [Fintype.sum_prod_type]

theorem col_lane (j : Fin 2048) : col j (lane j) = j := Fin.ext (by show j.val / 128 * 128 + j.val % 128 = j.val; omega)

/-- The gradient in the projection by the chain rule through the reciprocal square root. -/
theorem val_dpre (d x : Vec Ideal S8192x2048 .f32) (g : Vec Ideal S1x128 .f32)
    (hd : Fin' d) (hx : Fin' x) (hg : Fin' g) : val_main_v41 (F := Ideal) d x g = dpre d x g := by
  obtain ⟨X, rfl⟩ := hx.exists
  obtain ⟨G, rfl⟩ := hg.exists
  obtain ⟨D, rfl⟩ := hd.exists
  funext i
  idx_vars i
  unfold val_main_v41 val_main_v40 val_main_v39 val_main_v38 val_main_v37 val_main_v36 val_main_v35 val_main_v34 val_main_v33 val_main_v32
    val_main_v31 val_main_v30 val_main_v29 val_main_v28 val_main_v27 val_main_v26 val_main_v23 val_main_v22 val_main_v18 val_main_v14
    val_main_v11 val_main_v10 val_main_v9 val_main_v8 val_main_v7 val_main_v6 val_main_v5 val_main_v4 val_main_v3 val_main_v2 val_main_v1
    val_main_v0 val_main_cst val_main_cst_0 val_main_cst_1 val_main_cst_2 val_main_cst_5 val_main_cst_6 val_main_cst_7
  pointwise [dpre, dx, row, grad, inv]
  simp only [col_lane]
  simp only [col, lane, bits_128, bits_eps, bits_neg_half, var_row width, rsqrt_var width]
  simp only [← EReal.coe_mul, coe_sum, div_coe _ width.ne', div_coe _ (var_pos width _).ne', ← EReal.coe_sub, ← EReal.coe_add,
    Finset.univ_unique, Finset.sum_singleton]
  refine congrArg (fun r : ℝ => (r : EReal)) ?_
  have h := norm_grad width (fun k => X (ix2 i0 (col i1 k))) (fun k => D (ix2 i0 (col i1 k)) * G (ix2 0 k)) (lane i1)
  rw [col_lane] at h
  exact h

/-- The gradient in the gain needs no finite arguments. -/
theorem val_dg (d x : Vec Ideal S8192x2048 .f32) : val_main_v25 (F := Ideal) d x = fun j => ∑ r : Fin 8192, shares d x j r := by
  funext j
  idx_vars j
  unfold val_main_v25 val_main_v24 val_main_v21 val_main_v20
  pointwise
  rw [sum_two]
  simp only [Finset.univ_unique, Finset.sum_singleton]
  pointwise
  rw [sum_two]
  unfold val_main_v19 val_main_v18 val_main_v13 val_main_v12 val_main_v8 val_main_v7 val_main_v6 val_main_v5 val_main_v4 val_main_v3
    val_main_v2 val_main_v1 val_main_v0 val_main_cst val_main_cst_0 val_main_cst_1 val_main_cst_3 val_main_cst_4
  pointwise [shares, share, inv]
  refine Finset.sum_congr rfl fun r _ => Finset.sum_congr rfl fun h _ => ?_
  exact mul_comm _ _

end Cert.Head

end
-- ==== Proof.Head.Claim.lean ====
/- The value claim of the gradient of the heads' norm: the precondition read as finiteness, and the two runs set side by side. -/
module

public import proofs.«01_k».proof.Defs
public import proofs.«01_k».proof.Proof.Gen.HeadKernelIdeal.Value
public import proofs.«01_k».proof.Proof.Gen.HeadReferenceIdeal.Run
public import proofs.«01_k».proof.Proof.Gen.Pre_head_finite
public import proofs.«01_k».proof.Proof.Head.Reference

@[expose] public section

noncomputable section

namespace Cert.Head

open Idealize.ShloMosaic Idealize.SL.Sem Cert.Arith

/-- The precondition says that the cotangent, the projection and the gain are finite. -/
theorem finite_of_pre (m) (h : Cert.Pre_HeadKernelIdeal_head_finite m) (c : Dev Cert.HeadKernelIdeal.nD) :
    Fin' (m ((c.tc : Thread _ Cert.HeadKernelIdeal.τ).loc Cert.HeadKernelIdeal.main_arg0))
    ∧ Fin' (m ((c.tc : Thread _ Cert.HeadKernelIdeal.τ).loc Cert.HeadKernelIdeal.main_arg1))
    ∧ Fin' (m ((c.tc : Thread _ Cert.HeadKernelIdeal.τ).loc Cert.HeadKernelIdeal.main_arg2)) :=
  ⟨fun i => real_of_test (congrFun (h c).1 i), fun i => real_of_test (congrFun (h c).2.1 i),
    fun i => real_of_test (congrFun (h c).2.2 i)⟩

/-- The reference ends with its arguments as they were; it declares no semaphore. -/
theorem frame_reference : Cert.quiescent_HeadReferenceIdeal := fun m ρ _ =>
  (θ_run Cert.HeadReferenceIdeal.defs _ _).mono
    (fun r h => ⟨fun c => (h c).2.2, sem_eq_zero_of_no_sems (by decide) r.2⟩)
    (Cert.HeadReferenceIdeal.Value.run m ρ)

/-- The kernel's two gradients are the reference's, where the arguments are finite. -/
theorem algebraic : Cert.algebraic_HeadKernelIdeal_HeadReferenceIdeal_pre_head_finite := by
  intro m g m' g' hpre hargs
  refine ⟨_, _, Cert.HeadKernelIdeal.Value.run_blocks m g, ?_⟩
  refine (θ_run Cert.HeadReferenceIdeal.defs _ _).mono (fun _ h c => ?_) (Cert.HeadReferenceIdeal.Value.run m' g')
  obtain ⟨h0, h1, h2⟩ := h c
  obtain ⟨a0, a1, a2⟩ := hargs c
  obtain ⟨f0, f1, f2⟩ := finite_of_pre m hpre c
  refine ⟨h0.trans ?_, h1.trans ?_, h2⟩
  · rw [Cert.HeadReferenceIdeal.Read.val_main_v41_eq, a0, a1, a2, val_dpre _ _ _ f0 f1 f2]
    exact (dpre_eq m c).symm
  · rw [Cert.HeadReferenceIdeal.Read.val_main_v25_eq, a0, a1, val_dg]
    exact (dg_eq m c).symm

end Cert.Head

end
-- ==== Proof.Loss.Kernel.lean ====
/- What the loss's launch leaves: the rows' squared errors summed by column, the gradient, and the loss the host lines after it compute. -/
module

public import proofs.«01_k».proof.Proof.Gen.LossKernelIdeal.Frame
public import proofs.«01_k».proof.Proof.Arith
public import Idealize.ShloMosaic.Lib.Pipeline.ValueKit
public import Idealize.ShloMosaic.Lib.Claim
public import Idealize.ShloMosaic.Lib.StableHlo.RunRead

@[expose] public section

set_option maxRecDepth 16384

noncomputable section

namespace Cert.Loss

open Cert.LossKernelIdeal Cert.LossKernelIdeal.Gen Idealize.ShloMosaic Idealize.ShloMosaic.TcCoe Idealize.SL.Sem
open Idealize.ShloMosaic.Pipeline (Dat)

/-- The squared error of one element. -/
def sq (y t : Vec Ideal S8192x2048 .f32) (j : Fin 2048) (r : Fin 8192) : EReal :=
  (y (ix2 r j) - t (ix2 r j)) * (y (ix2 r j) - t (ix2 r j))

/-- The gradient. -/
def dy (y t : Vec Ideal S8192x2048 .f32) : S8192x2048.Idx → EReal := fun i => (y i - t i) * Ideal.ofBits .f32 0x3A000000#32

/-- The loss. -/
def loss (y t : Vec Ideal S8192x2048 .f32) : S_.Idx → EReal := fun _ =>
  Ideal.div (Ideal.ofBits .f32 0x3F000000#32 * ∑ j : Fin 2048, ∑ r : Fin 8192, sq y t j r) (Ideal.ofBits .f32 0x45000000#32)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem V_arg0 (c : Dev nD) : V m c main_arg0 = m ((c : Thread nD τ).loc main_arg0) := rfl
theorem V_arg1 (c : Dev nD) : V m c main_arg1 = m ((c : Thread nD τ).loc main_arg1) := rfl

theorem pay_dy (c : Dev nD) (t : Fin cfg0.N) (y : S512x2048.Idx) :
    k0_pay4 (F := Ideal) (iblk m c 0 t) (iblk m c 1 t) y = dy (m ((c : Thread nD τ).loc main_arg0))
      (m ((c : Thread nD τ).loc main_arg1)) (((View.whole main_v0_1).slice (win0_3.rect t)).emb y) := by
  rw [← V_arg0 m c, ← V_arg1 m c]
  unfold_payloads
  pointwise [dy]
  blk_point [iblk, idx t]

theorem dy_eq (c : Dev nD) : (dats m 0 c).arrAt 3 cfg0.N = dy (m ((c : Thread nD τ).loc main_arg0))
    (m ((c : Thread nD τ).loc main_arg1)) := by
  refine (dats m 0 c).arrAt_eq_of_covers 3 _ (by decide +kernel) fun t hf y => ?_
  blk_simp
  rw [after0_3]
  by_cases h : t.val % 16 = 0
  · rw [outsAt0_A m c t h]; frame_out; exact pay_dy m c t y
  · rw [outsAt0_B m c t h]; frame_out; exact pay_dy m c t y

/-- A block adds its 512 rows' squared errors. -/
theorem pay_sq (c : Dev nD) (t : Fin cfg0.N) (v : Vec Ideal S1x2048 .f32) (j : S1x2048.Idx) :
    k0_pay3 (F := Ideal) (iblk m c 0 t) (iblk m c 1 t) v j = v j + ∑ k : Fin 512, sq (m ((c : Thread nD τ).loc main_arg0))
      (m ((c : Thread nD τ).loc main_arg1)) (j 1) ⟨t.val * 512 + k.val, by have : t.val < 16 := t.isLt; omega⟩ := by
  rw [← V_arg0 m c, ← V_arg1 m c]
  unfold_payloads
  pointwise [sq]
  congr 1
  refine Finset.sum_congr rfl fun k _ => ?_
  blk_point [iblk, idx t]

/-- The squared errors summed by column. -/
def sums (y t : Vec Ideal S8192x2048 .f32) : S1x2048.Idx → EReal := fun j => ∑ r : Fin 8192, sq y t (j 1) r

theorem sq_eq (c : Dev nD) : (dats m 0 c).arrAt 2 cfg0.N = sums (m ((c : Thread nD τ).loc main_arg0))
    (m ((c : Thread nD τ).loc main_arg1)) := by
  refine (dats m 0 c).arrAt_eq_of_after_last 2 t0_15 (by decide +kernel) _ fun j => ?_
  blk_simp
  rw [after0_2]
  rw [Pipeline.eq_sum_fin_of_reset_step_apply_last (fun n h => (outsAt0 m c n h).1) 16 (fun _ => (0 : EReal)) _
     (fun t h j => by rw [outsAt0_A m c t h]; frame_out; rw [pay_sq]; congr 1; unfold_payloads; pointwise)
     (fun t h j => by rw [outsAt0_B m c t h]; frame_out; rw [pay_sq]) (by decide) t0_15 rfl j, zero_add]
  exact Fin.sum_mul_add_fin 16 512 (sq (m ((c : Thread nD τ).loc main_arg0)) (m ((c : Thread nD τ).loc main_arg1)) (j 1))

/-! ## The host lines after the launch -/

theorem scalar (W : Valuation τ sig (Elt Ideal)) (y t : Vec Ideal S8192x2048 .f32)
    (hW : W (Proc.devRef .tc main_v0_0) = sums y t) (i : S_.Idx) :
    StableHlo.after (hostOps1 (F := Ideal)) W (Proc.devRef .tc main_v3) i = loss y t i := by
  unfold hostOps1
  after_results_simp
  rw [hW]
  pointwise [loss, sums]
  rw [Fin.sum_univ_one]

theorem arr_inj : Function.Injective (Pipeline.arrRef cfg0.spec) := by decide

theorem tail (c : Dev nD) : Pipeline.afterTail₀ cfgs (dats m) 0 (V0 m) [hostOps1] c main_v3
    = loss (m ((c : Thread nD τ).loc main_arg0)) (m ((c : Thread nD τ).loc main_arg1)) := by
  unfold Pipeline.afterTail₀
  rw [List.flatten_singleton]
  funext i
  exact scalar _ _ _ ((Pipeline.withArrays_arr cfg0.spec arr_inj c _ _ 2).trans (sq_eq m c)) i

/-- The run: the loss and its gradient, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = loss (m ((c : Thread nD τ).loc main_arg0)) (m ((c : Thread nD τ).loc main_arg1))
      ∧ r.2.mem ((c.tc : Thread nD τ).loc main_v0_1) = dy (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, h.2 c⟩) (θ_run_and (run_main m ρ) (unchanged m ρ))
  · exact ((h.1 c).2 main_v3 (by decide)).trans (tail m c)
  · exact ((h.1 c).1 3).trans (dy_eq m c)

end Cert.Loss

end
-- ==== Proof.Loss.Reference.lean ====
/- The reference's loss and gradient are the kernel's: a mean taken row by row is the mean of the whole sum, since a positive
   constant is multiplied into a sum of extended reals term by term. -/
module

public import proofs.«01_k».proof.Proof.Gen.LossReferenceIdeal.Read
public import proofs.«01_k».proof.Proof.Loss.Kernel

@[expose] public section

set_option maxRecDepth 16384

noncomputable section

namespace Cert.Loss

open Cert.LossReferenceIdeal Cert.LossReferenceIdeal.Read Idealize.ShloMosaic Cert.Arith

theorem bits_two : Ideal.ofBits .f32 0x40000000#32 = ((2 : ℝ) : EReal) := by
  simp [Ideal.ofBits, Ideal.ieee, -EReal.coe_mul]; norm_num

theorem bits_share : Ideal.ofBits .f32 0x3A000000#32 = ((1 / 2048 : ℝ) : EReal) := by
  simp [Ideal.ofBits, Ideal.ieee, -EReal.coe_mul]; norm_num

/-- Division by the row's width is multiplication by its reciprocal, on every extended real. -/
theorem div_width (a : EReal) : Ideal.div a ((2048 : ℝ) : EReal) = a * ((1 / 2048 : ℝ) : EReal) := by
  have h : ((2048 : ℝ) : EReal) ≠ 0 := by simp
  rw [Ideal.div, if_neg h, ← EReal.coe_inv, one_div]

/-- A positive real is multiplied into a sum term by term. -/
theorem sum_mul_pos {ι : Type} (s : Finset ι) (f : ι → EReal) {a : ℝ} (ha : 0 ≤ a) :
    ∑ i ∈ s, f i * (a : EReal) = (∑ i ∈ s, f i) * (a : EReal) := by
  classical
  induction s using Finset.induction_on with
  | empty => simp
  | insert x s hx ih =>
    rw [Finset.sum_insert hx, Finset.sum_insert hx, ih]
    exact (EReal.right_distrib_of_nonneg_of_ne_top (EReal.coe_nonneg.mpr ha) (EReal.coe_ne_top a) _ _).symm

theorem val_loss (y t : Vec Ideal S8192x2048 .f32) : val_main_v8 (F := Ideal) y t = loss y t := by
  funext i
  unfold val_main_v8 val_main_v7 val_main_v6 val_main_v5 val_main_v4 val_main_v1 val_main_v0 val_main_cst_0 val_main_cst_1 val_main_cst_2
    val_main_cst_3
  pointwise [loss, sq]
  simp only [bits_2048, div_width]
  rw [sum_mul_pos _ _ (by norm_num), mul_assoc, Finset.sum_comm]

theorem val_dy (y t : Vec Ideal S8192x2048 .f32) : val_main_v14 (F := Ideal) y t = dy y t := by
  funext i
  idx_vars i
  unfold val_main_v14 val_main_v13 val_main_v12 val_main_v11 val_main_v10 val_main_v9 val_main_v3 val_main_v2 val_main_v0 val_main_cst
    val_main_cst_4 val_main_cst_5 val_main_cst_6
  pointwise [dy]
  rw [bits_half, bits_two, bits_share, bits_2048, div_width, ← mul_assoc, ← EReal.coe_mul, ← EReal.coe_mul, mul_comm]
  norm_num

end Cert.Loss

end
-- ==== Proof.Loss.Claim.lean ====
/- The value claim of the loss and its gradient: the two runs set side by side, at all arguments. -/
module

public import proofs.«01_k».proof.Defs
public import proofs.«01_k».proof.Proof.Gen.LossReferenceIdeal.Run
public import proofs.«01_k».proof.Proof.Loss.Reference

@[expose] public section

noncomputable section

namespace Cert.Loss

open Idealize.ShloMosaic Idealize.SL.Sem Cert.Arith

/-- The reference ends with its arguments as they were; it declares no semaphore. -/
theorem frame_reference : Cert.quiescent_LossReferenceIdeal := fun m ρ _ =>
  (θ_run Cert.LossReferenceIdeal.defs _ _).mono
    (fun r h => ⟨fun c => (h c).2.2, sem_eq_zero_of_no_sems (by decide) r.2⟩)
    (Cert.LossReferenceIdeal.Value.run m ρ)

/-- The kernel's loss and gradient are the reference's. -/
theorem algebraic : Cert.algebraic_LossKernelIdeal_LossReferenceIdeal := by
  intro m g m' g' hpre hargs
  refine ⟨_, _, run m g, ?_⟩
  refine (θ_run Cert.LossReferenceIdeal.defs _ _).mono (fun _ h c => ?_) (Cert.LossReferenceIdeal.Value.run m' g')
  obtain ⟨h0, h1, h2⟩ := h c
  obtain ⟨a0, a1⟩ := hargs c
  refine ⟨h0.trans ?_, h1.trans ?_, h2⟩
  · rw [Cert.LossReferenceIdeal.Read.val_main_v8_eq, a0, a1, val_loss]
  · rw [Cert.LossReferenceIdeal.Read.val_main_v14_eq, a0, a1, val_dy]

end Cert.Loss

end
-- ==== Proof.lean ====
module

public import proofs.«01_k».proof.Defs
public import proofs.«01_k».proof.Proof.Gen.RmsKernel
public import proofs.«01_k».proof.Proof.Gen.RmsKernel.Skeleton
public import proofs.«01_k».proof.Proof.Gen.RmsKernel.Launch
public import proofs.«01_k».proof.Proof.Gen.RmsKernel.Points
public import proofs.«01_k».proof.Proof.Gen.RmsKernel.Frame
public import proofs.«01_k».proof.Proof.Gen.RmsKernelIdeal
public import proofs.«01_k».proof.Proof.Gen.RmsKernelIdeal.Skeleton
public import proofs.«01_k».proof.Proof.Gen.RmsKernelIdeal.Launch
public import proofs.«01_k».proof.Proof.Gen.RmsKernelIdeal.Points
public import proofs.«01_k».proof.Proof.Gen.RmsKernelIdeal.Frame
public import proofs.«01_k».proof.Proof.Gen.RmsReferenceIdeal
public import proofs.«01_k».proof.Proof.Gen.Pre_rms_finite
public import proofs.«01_k».proof.Proof.Gen.Pre_mix_finite
public import proofs.«01_k».proof.Proof.Gen.Pre_pool_finite
public import proofs.«01_k».proof.Proof.Gen.RmsKernelIdeal.Value
public import proofs.«01_k».proof.Proof.Gen.RmsReferenceIdeal.Run
public import proofs.«01_k».proof.Proof.Gen.RmsReferenceIdeal.Read
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnReferenceIdeal
public import proofs.«01_k».proof.Proof.Gen.AttnReferenceIdeal.Run
public import proofs.«01_k».proof.Proof.Gen.Pre_attn_finite
public import proofs.«01_k».proof.Proof.Gen.AttnReferenceIdeal.Read
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.Pre_head_finite
public import proofs.«01_k».proof.Proof.Gen.HeadReferenceIdeal
public import proofs.«01_k».proof.Proof.Gen.LossReferenceIdeal
public import proofs.«01_k».proof.Proof.Gen.HeadKernelIdeal.Value
public import proofs.«01_k».proof.Proof.Gen.HeadReferenceIdeal.Run
public import proofs.«01_k».proof.Proof.Gen.HeadReferenceIdeal.Read
public import proofs.«01_k».proof.Proof.Gen.LossReferenceIdeal.Run
public import proofs.«01_k».proof.Proof.Gen.LossReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.FwdKernelIdeal.Value
public import proofs.«01_k».proof.Proof.Gen.HiddenKernel
public import proofs.«01_k».proof.Proof.Gen.HiddenKernel.Skeleton
public import proofs.«01_k».proof.Proof.Gen.HiddenKernel.Launch
public import proofs.«01_k».proof.Proof.Gen.HiddenKernel.Points
public import proofs.«01_k».proof.Proof.Gen.HiddenKernel.Frame
public import proofs.«01_k».proof.Proof.Gen.HiddenKernelIdeal
public import proofs.«01_k».proof.Proof.Gen.HiddenKernelIdeal.Skeleton
public import proofs.«01_k».proof.Proof.Gen.HiddenKernelIdeal.Launch
public import proofs.«01_k».proof.Proof.Gen.HiddenKernelIdeal.Points
public import proofs.«01_k».proof.Proof.Gen.HiddenKernelIdeal.Frame
public import proofs.«01_k».proof.Proof.Gen.HiddenReferenceIdeal
public import proofs.«01_k».proof.Proof.Gen.HiddenReferenceIdeal.Run
public import proofs.«01_k».proof.Proof.Gen.HiddenReferenceIdeal.Read
public import proofs.«01_k».proof.Proof.Gen.HiddenKernelIdeal.Value
public import proofs.«01_k».proof.Proof.Gen.InputKernel
public import proofs.«01_k».proof.Proof.Gen.InputKernel.Skeleton
public import proofs.«01_k».proof.Proof.Gen.InputKernel.Launch
public import proofs.«01_k».proof.Proof.Gen.InputKernel.Points
public import proofs.«01_k».proof.Proof.Gen.InputKernel.Frame
public import proofs.«01_k».proof.Proof.Gen.InputKernelIdeal
public import proofs.«01_k».proof.Proof.Gen.InputKernelIdeal.Skeleton
public import proofs.«01_k».proof.Proof.Gen.InputKernelIdeal.Launch
public import proofs.«01_k».proof.Proof.Gen.InputKernelIdeal.Points
public import proofs.«01_k».proof.Proof.Gen.InputKernelIdeal.Frame
public import proofs.«01_k».proof.Proof.Gen.InputReferenceIdeal
public import proofs.«01_k».proof.Proof.Gen.InputReferenceIdeal.Run
public import proofs.«01_k».proof.Proof.Gen.InputReferenceIdeal.Read
public import proofs.«01_k».proof.Proof.Gen.InputKernelIdeal.Value
public import proofs.«01_k».proof.Proof.Gen.WeightKernel
public import proofs.«01_k».proof.Proof.Gen.WeightKernel.Skeleton
public import proofs.«01_k».proof.Proof.Gen.WeightKernel.Launch
public import proofs.«01_k».proof.Proof.Gen.WeightKernel.Points
public import proofs.«01_k».proof.Proof.Gen.WeightKernel.Frame
public import proofs.«01_k».proof.Proof.Gen.WeightKernelIdeal
public import proofs.«01_k».proof.Proof.Gen.WeightKernelIdeal.Skeleton
public import proofs.«01_k».proof.Proof.Gen.WeightKernelIdeal.Launch
public import proofs.«01_k».proof.Proof.Gen.WeightKernelIdeal.Points
public import proofs.«01_k».proof.Proof.Gen.WeightKernelIdeal.Frame
public import proofs.«01_k».proof.Proof.Gen.WeightReferenceIdeal
public import proofs.«01_k».proof.Proof.Gen.WeightReferenceIdeal.Run
public import proofs.«01_k».proof.Proof.Gen.WeightReferenceIdeal.Read
public import proofs.«01_k».proof.Proof.Gen.WeightKernelIdeal.Value
public import proofs.«01_k».proof.Proof.Gen.FfnxKernel
public import proofs.«01_k».proof.Proof.Gen.FfnxKernel.Skeleton
public import proofs.«01_k».proof.Proof.Gen.FfnxKernel.Launch
public import proofs.«01_k».proof.Proof.Gen.FfnxKernel.Points
public import proofs.«01_k».proof.Proof.Gen.FfnxKernel.Frame
public import proofs.«01_k».proof.Proof.Gen.FfnxKernelIdeal
public import proofs.«01_k».proof.Proof.Gen.FfnxKernelIdeal.Skeleton
public import proofs.«01_k».proof.Proof.Gen.FfnxKernelIdeal.Launch
public import proofs.«01_k».proof.Proof.Gen.FfnxKernelIdeal.Points
public import proofs.«01_k».proof.Proof.Gen.FfnxKernelIdeal.Frame
public import proofs.«01_k».proof.Proof.Gen.FfnxReferenceIdeal
public import proofs.«01_k».proof.Proof.Gen.FfnxReferenceIdeal.Run
public import proofs.«01_k».proof.Proof.Gen.FfnxReferenceIdeal.Read
public import proofs.«01_k».proof.Proof.Gen.FfnxKernelIdeal.Value
public import proofs.«01_k».proof.Proof.Gen.PoolKernel
public import proofs.«01_k».proof.Proof.Gen.PoolKernel.Skeleton
public import proofs.«01_k».proof.Proof.Gen.PoolKernel.Launch
public import proofs.«01_k».proof.Proof.Gen.PoolKernel.Points
public import proofs.«01_k».proof.Proof.Gen.PoolKernel.Frame
public import proofs.«01_k».proof.Proof.Gen.PoolKernelIdeal
public import proofs.«01_k».proof.Proof.Gen.PoolKernelIdeal.Skeleton
public import proofs.«01_k».proof.Proof.Gen.PoolKernelIdeal.Launch
public import proofs.«01_k».proof.Proof.Gen.PoolKernelIdeal.Points
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.FeedKernel
public import proofs.«01_k».proof.Proof.Gen.FeedKernel.Skeleton
public import proofs.«01_k».proof.Proof.Gen.FeedKernel.Launch
public import proofs.«01_k».proof.Proof.Gen.FeedKernel.Points
public import proofs.«01_k».proof.Proof.Gen.FeedKernel.Frame
public import proofs.«01_k».proof.Proof.Gen.FeedKernelIdeal
public import proofs.«01_k».proof.Proof.Gen.FeedKernelIdeal.Skeleton
public import proofs.«01_k».proof.Proof.Gen.FeedKernelIdeal.Launch
public import proofs.«01_k».proof.Proof.Gen.FeedKernelIdeal.Points
public import proofs.«01_k».proof.Proof.Gen.FeedKernelIdeal.Frame
public import proofs.«01_k».proof.Proof.Gen.FeedKernelIdeal.Value
public import proofs.«01_k».proof.Proof.Gen.FeedReferenceIdeal
public import proofs.«01_k».proof.Proof.Gen.FeedReferenceIdeal.Run
public import proofs.«01_k».proof.Proof.Gen.FeedReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_fwd_finite
public import proofs.«01_k».proof.Proof.Rms.Claim
public import proofs.«01_k».proof.Proof.Attn.Claim
public import proofs.«01_k».proof.Proof.Fwd.Claim
public import proofs.«01_k».proof.Proof.Gen.Pre_ffn_finite
public import proofs.«01_k».proof.Proof.Ffn.Frames
public import proofs.«01_k».proof.Proof.Ffn.HiddenClaim
public import proofs.«01_k».proof.Proof.Ffn.InputClaim
public import proofs.«01_k».proof.Proof.Ffn.FfnxClaim
public import proofs.«01_k».proof.Proof.Ffn.WeightClaim
public import proofs.«01_k».proof.Proof.Ffn.FeedClaim
public import proofs.«01_k».proof.Proof.Norm.Kernel
public import proofs.«01_k».proof.Proof.Proj.Claim
public import proofs.«01_k».proof.Proof.Mix.Claim
public import proofs.«01_k».proof.Proof.Pool.Claim
public import proofs.«01_k».proof.Proof.Head.Claim
public import proofs.«01_k».proof.Proof.Loss.Claim
public import Idealize.ShloMosaic.Adequacy
public import Idealize.ShloMosaic.Init

@[expose] public section

noncomputable section

namespace Cert.Proof

open Idealize.ShloMosaic Idealize.SL.Sem Cert.RmsKernel

theorem claim : Cert.Claim := ⟨Cert.RmsKernel.Gen.facts, Cert.RmsKernelIdeal.Gen.facts, Cert.RmsReferenceIdeal.Gen.facts,
  Cert.AttnKernel.Gen.facts, Cert.AttnKernelIdeal.Gen.facts, Cert.AttnReferenceIdeal.Gen.facts,
  Cert.FwdKernel.Gen.facts, Cert.FwdKernelIdeal.Gen.facts, Cert.FwdReferenceIdeal.Gen.facts,
  Cert.HeadKernel.Gen.facts, Cert.HeadKernelIdeal.Gen.facts, Cert.HeadReferenceIdeal.Gen.facts,
  Cert.LossKernel.Gen.facts, Cert.LossKernelIdeal.Gen.facts, Cert.LossReferenceIdeal.Gen.facts,
  Cert.HiddenKernel.Gen.facts, Cert.HiddenKernelIdeal.Gen.facts, Cert.HiddenReferenceIdeal.Gen.facts,
  Cert.InputKernel.Gen.facts, Cert.InputKernelIdeal.Gen.facts, Cert.InputReferenceIdeal.Gen.facts,
  Cert.WeightKernel.Gen.facts, Cert.WeightKernelIdeal.Gen.facts, Cert.WeightReferenceIdeal.Gen.facts,
  Cert.FfnxKernel.Gen.facts, Cert.FfnxKernelIdeal.Gen.facts, Cert.FfnxReferenceIdeal.Gen.facts,
  Cert.PoolKernel.Gen.facts, Cert.PoolKernelIdeal.Gen.facts, Cert.PoolReferenceIdeal.Gen.facts,
  Cert.FeedKernel.Gen.facts, Cert.FeedKernelIdeal.Gen.facts, Cert.FeedReferenceIdeal.Gen.facts,
  Cert.NormKernel.Gen.facts, Cert.NormKernelIdeal.Gen.facts, Cert.NormReferenceIdeal.Gen.facts,
  Cert.ProjKernel.Gen.facts, Cert.ProjKernelIdeal.Gen.facts, Cert.ProjReferenceIdeal.Gen.facts,
  Cert.MixKernel.Gen.facts, Cert.MixKernelIdeal.Gen.facts, Cert.MixReferenceIdeal.Gen.facts,
  Cert.Pre_rms_finite.Gen.facts, Cert.Pre_attn_finite.Gen.facts, Cert.Pre_fwd_finite.Gen.facts, Cert.Pre_head_finite.Gen.facts,
  Cert.Pre_ffn_finite.Gen.facts, Cert.Pre_pool_finite.Gen.facts, Cert.Pre_mix_finite.Gen.facts,
  fun m ρ _ => Cert.RmsKernel.Gen.frame m ρ, fun m ρ _ => Cert.RmsKernelIdeal.Gen.frame m ρ,
  fun m ρ _ => Cert.RmsKernelIdeal.Gen.frame m ρ, Cert.Rms.frame_reference, fun m ρ _ => Cert.Rms.frame_reference m ρ trivial,
  fun m ρ _ => Cert.AttnKernel.Gen.frame m ρ, fun m ρ _ => Cert.AttnKernelIdeal.Gen.frame m ρ,
  fun m ρ _ => Cert.AttnKernelIdeal.Gen.frame m ρ, Cert.Attn.frame_reference, fun m ρ _ => Cert.Attn.frame_reference m ρ trivial,
  fun m ρ _ => Cert.FwdKernel.Gen.frame m ρ, fun m ρ _ => Cert.FwdKernelIdeal.Gen.frame m ρ,
  fun m ρ _ => Cert.FwdKernelIdeal.Gen.frame m ρ, Cert.Fwd.frame_reference, fun m ρ _ => Cert.Fwd.frame_reference m ρ trivial,
  fun m ρ _ => Cert.HeadKernel.Gen.frame m ρ, fun m ρ _ => Cert.HeadKernelIdeal.Gen.frame m ρ,
  fun m ρ _ => Cert.HeadKernelIdeal.Gen.frame m ρ, Cert.Head.frame_reference, fun m ρ _ => Cert.Head.frame_reference m ρ trivial,
  fun m ρ _ => Cert.LossKernel.Gen.frame m ρ, fun m ρ _ => Cert.LossKernelIdeal.Gen.frame m ρ, Cert.Loss.frame_reference,
  fun m ρ _ => Cert.HiddenKernel.Gen.frame m ρ, fun m ρ _ => Cert.HiddenKernelIdeal.Gen.frame m ρ,
  fun m ρ _ => Cert.HiddenKernelIdeal.Gen.frame m ρ, Cert.Ffn.frame_hidden, fun m ρ _ => Cert.Ffn.frame_hidden m ρ trivial,
  fun m ρ _ => Cert.InputKernel.Gen.frame m ρ, fun m ρ _ => Cert.InputKernelIdeal.Gen.frame m ρ,
  fun m ρ _ => Cert.InputKernelIdeal.Gen.frame m ρ, Cert.Ffn.frame_input, fun m ρ _ => Cert.Ffn.frame_input m ρ trivial,
  fun m ρ _ => Cert.WeightKernel.Gen.frame m ρ, fun m ρ _ => Cert.WeightKernelIdeal.Gen.frame m ρ,
  fun m ρ _ => Cert.WeightKernelIdeal.Gen.frame m ρ, Cert.Ffn.frame_weight, fun m ρ _ => Cert.Ffn.frame_weight m ρ trivial,
  fun m ρ _ => Cert.FfnxKernel.Gen.frame m ρ, fun m ρ _ => Cert.FfnxKernelIdeal.Gen.frame m ρ,
  fun m ρ _ => Cert.FfnxKernelIdeal.Gen.frame m ρ, Cert.Ffn.frame_ffnx, fun m ρ _ => Cert.Ffn.frame_ffnx m ρ trivial,
  fun m ρ _ => Cert.PoolKernel.Gen.frame m ρ, fun m ρ _ => Cert.PoolKernelIdeal.Gen.frame m ρ, fun m ρ _ => Cert.PoolKernelIdeal.Gen.frame m ρ,
  Cert.Ffn.frame_pool, fun m ρ _ => Cert.Ffn.frame_pool m ρ trivial,
  fun m ρ _ => Cert.FeedKernel.Gen.frame m ρ, fun m ρ _ => Cert.FeedKernelIdeal.Gen.frame m ρ, Cert.Ffn.Feed.frame_reference,
  fun m ρ _ => Cert.NormKernel.Gen.frame m ρ, fun m ρ _ => Cert.NormKernelIdeal.Gen.frame m ρ, Cert.Norm.frame_reference,
  fun m ρ _ => Cert.ProjKernel.Gen.frame m ρ, fun m ρ _ => Cert.ProjKernelIdeal.Gen.frame m ρ, Cert.Proj.frame_reference,
  fun m ρ _ => Cert.MixKernel.Gen.frame m ρ, fun m ρ _ => Cert.MixKernelIdeal.Gen.frame m ρ,
  fun m ρ _ => Cert.MixKernelIdeal.Gen.frame m ρ, Cert.Mix.frame_reference, fun m ρ _ => Cert.Mix.frame_reference m ρ trivial,
  trivial, Cert.Rms.algebraic,
  IdealRules.named_const.statement Cert.AttnKernelIdeal.κ "mask" .f32 0xF149F2CA#32 ⊥ rfl, Cert.Attn.algebraic,
  IdealRules.named_const.statement Cert.FwdKernelIdeal.κ "mask" .f32 0xF149F2CA#32 ⊥ rfl, Cert.Fwd.algebraic,
  trivial, Cert.Head.algebraic, trivial, Cert.Loss.algebraic, trivial, Cert.Ffn.Hidden.algebraic,
  trivial, Cert.Ffn.Input.algebraic, trivial, Cert.Ffn.Weight.algebraic, trivial, Cert.Ffn.Ffnx.algebraic, trivial, Cert.Pool.algebraic,
  trivial, Cert.Ffn.Feed.algebraic, trivial, Cert.Norm.algebraic, trivial, Cert.Proj.algebraic, trivial, Cert.Mix.algebraic⟩

end Cert.Proof

end
